-- ==== Defs.lean ====
def Pre_Kernel [hPre_lengths_fit : Cert.Pre_lengths_fit.Facts] (m : (ℓ : Loc Cert.Kernel.nD Cert.Kernel.τ Cert.Kernel.sig) → Buf (Elt Bits) ℓ) : Prop :=
  ∀ c : Dev Cert.Kernel.nD,
    (Cert.Pre_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_fit [hPre_lengths_fit : Cert.Pre_lengths_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_lengths_fit : Cert.Pre_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_lengths_fit [hReferenceIdeal : Cert.ReferenceIdeal.Facts] [hPre_lengths_fit : Cert.Pre_lengths_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_on_compared [hKernelIdeal : Cert.KernelIdeal.Facts] [hReferenceIdeal : Cert.ReferenceIdeal.Facts] [hPre_lengths_fit : Cert.Pre_lengths_fit.Facts] [hOn_compared : Cert.On_compared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![20, 1, 32, 96]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v11) i = v0 c i)
          ∧ (∀ i : (⟨4, ![20, 1, 8, 96]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v12) i = v1 c i)
          ∧ (∀ i : (⟨4, ![20, 1, 8, 48]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v14) i = v2 c i)
          ∧ (∀ i : (⟨3, ![20, 1, 8]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 i = 1#1 → r.2.mem ((c.tc : Thread Cert.KernelIdeal.nD Cert.KernelIdeal.τ).loc Cert.KernelIdeal.main_v15) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![20, 1, 32, 96]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v110) i = v0 c i)
          ∧ (∀ i : (⟨4, ![20, 1, 8, 96]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v6) i = v1 c i)
          ∧ (∀ i : (⟨4, ![20, 1, 8, 48]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v30) i = v2 c i)
          ∧ (∀ i : (⟨3, ![20, 1, 8]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 i = 1#1 → r.2.mem ((c.tc : Thread Cert.ReferenceIdeal.nD Cert.ReferenceIdeal.τ).loc Cert.ReferenceIdeal.main_v14) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lengths_fit : Cert.Pre_lengths_fit.Facts) (hOn_compared : Cert.On_compared.Facts),
    quiescent_Kernel (hKernel := hKernel) (hPre_lengths_fit := hPre_lengths_fit)
    ∧ quiescent_KernelIdeal (hKernelIdeal := hKernelIdeal) (hPre_lengths_fit := hPre_lengths_fit)
    ∧ quiescent_ReferenceIdeal (hReferenceIdeal := hReferenceIdeal)
    ∧ quiescent_ReferenceIdeal_pre_lengths_fit (hReferenceIdeal := hReferenceIdeal) (hPre_lengths_fit := hPre_lengths_fit)
    ∧ preserves_Kernel_KernelIdeal
    ∧ algebraic_KernelIdeal_ReferenceIdeal_on_compared (hKernelIdeal := hKernelIdeal) (hReferenceIdeal := hReferenceIdeal) (hPre_lengths_fit := hPre_lengths_fit) (hOn_compared := hOn_compared)
-- ==== On_compared.lean ====
abbrev S20x1x32x96 : Shape := ⟨4, ![20, 1, 32, 96]⟩
abbrev S20x1x8x96 : Shape := ⟨4, ![20, 1, 8, 96]⟩
abbrev S20x8192x8x96 : Shape := ⟨4, ![20, 8192, 8, 96]⟩
abbrev S20x8x96 : Shape := ⟨3, ![20, 8, 96]⟩
abbrev S20x8192x8x48 : Shape := ⟨4, ![20, 8192, 8, 48]⟩
abbrev S20x8192x8 : Shape := ⟨3, ![20, 8192, 8]⟩
abbrev S20 : Shape := ⟨1, ![20]⟩
abbrev S20x8x4x96 : Shape := ⟨4, ![20, 8, 4, 96]⟩
abbrev S_ : Shape := ⟨0, ![]⟩
abbrev S20x8x1x96 : Shape := ⟨4, ![20, 8, 1, 96]⟩
abbrev S20x8x4 : Shape := ⟨3, ![20, 8, 4]⟩
abbrev S20x1x32x1 : Shape := ⟨4, ![20, 1, 32, 1]⟩
abbrev S20x1x8x48 : Shape := ⟨4, ![20, 1, 8, 48]⟩
abbrev S20x1x8 : Shape := ⟨3, ![20, 1, 8]⟩

class Facts : Prop where
  shapeCasts_S20x1x32x96_S20x8x4x96 : S20x1x32x96.ShapeCasts S20x8x4x96
  bcast_S_S20x8x4x96 : S_.BroadcastsInDim S20x8x4x96 (![] : Fin 0 → Fin S20x8x4x96.rank)
  shapeCasts_S20x1x8x96_S20x8x1x96 : S20x1x8x96.ShapeCasts S20x8x1x96
  bcast_S_S20x8x1x96 : S_.BroadcastsInDim S20x8x1x96 (![] : Fin 0 → Fin S20x8x1x96.rank)
  bcast_S20x8x1x96_S20x8x4x96_0_1_2_3 : S20x8x1x96.BroadcastsInDim S20x8x4x96 (![0, 1, 2, 3] : Fin 4 → Fin S20x8x4x96.rank)
  shapeCasts_S20x8x96_S20x8x1x96 : S20x8x96.ShapeCasts S20x8x1x96
  reducesTo_S20x8x4x96_S20x8x4_d3 : S20x8x4x96.ReducesTo [3] S20x8x4
  h_S_ : 0 < S_.numel
  shapeCasts_S20x8x4_S20x1x32x1 : S20x8x4.ShapeCasts S20x1x32x1
  bcast_S20x1x32x1_S20x1x32x96_0_1_2_3 : S20x1x32x1.BroadcastsInDim S20x1x32x96 (![0, 1, 2, 3] : Fin 4 → Fin S20x1x32x96.rank)
  bcast_S_S20x1x8x96 : S_.BroadcastsInDim S20x1x8x96 (![] : Fin 0 → Fin S20x1x8x96.rank)
  bcast_S_S20x1x8x48 : S_.BroadcastsInDim S20x1x8x48 (![] : Fin 0 → Fin S20x1x8x48.rank)
  bcast_S_S20x1x8 : S_.BroadcastsInDim S20x1x8 (![] : Fin 0 → Fin S20x1x8.rank)

variable [Facts]

def fn_part1 {F : FTy → Type} [FloatOps F] (main_v18 : IVec S20x1x32x96 1) (main_c_2 : IVec S_ 1) : IVec S20x1x32x96 1 × IVec S20x1x8x96 1 × IVec S20x1x8x48 1 × IVec S20x1x8 1 :=
  let main_v19 : IVec S20x1x8x96 1 := broadcastInDim S20x1x8x96 ![] bcast_S_S20x1x8x96 main_c_2
  let main_c_3 : IVec S_ 1 := constantI S_ 1 1#1
  let main_v20 : IVec S20x1x8x48 1 := broadcastInDim S20x1x8x48 ![] bcast_S_S20x1x8x48 main_c_3
  let main_c_4 : IVec S_ 1 := constantI S_ 1 1#1
  let main_v21 : IVec S20x1x8 1 := broadcastInDim S20x1x8 ![] bcast_S_S20x1x8 main_c_4
  (main_v18, main_v19, main_v20, main_v21)

def fn {F : FTy → Type} [FloatOps F] (main_arg0 : FVec F S20x1x32x96 .bf16) (main_arg1 : FVec F S20x1x8x96 .bf16) (main_arg2 : FVec F S20x1x8x96 .bf16) (main_arg3 : IVec S20x8192x8x96 8) (main_arg4 : FVec F S20x8x96 .f32) (main_arg5 : IVec S20x8192x8x48 8) (main_arg6 : FVec F S20x8192x8 .f32) (main_arg7 : IVec S20 32) : IVec S20x1x32x96 1 × IVec S20x1x8x96 1 × IVec S20x1x8x48 1 × IVec S20x1x8 1 :=
  let main_v0 : FVec F S20x8x4x96 .bf16 := shapeCast S20x8x4x96 main_arg0 shapeCasts_S20x1x32x96_S20x8x4x96
  let main_v1 : FVec F S20x8x4x96 .bf16 := Host.absf main_v0
  let main_cst : FVec F S_ .bf16 := constant S_ .bf16 0x7F80#16
  let main_v2 : FVec F S20x8x4x96 .bf16 := broadcastInDim S20x8x4x96 ![] bcast_S_S20x8x4x96 main_cst
  let main_v3 : IVec S20x8x4x96 1 := cmpf .olt main_v1 main_v2
  let main_v4 : FVec F S20x8x1x96 .bf16 := shapeCast S20x8x1x96 main_arg1 shapeCasts_S20x1x8x96_S20x8x1x96
  let main_v5 : FVec F S20x8x1x96 .bf16 := Host.absf main_v4
  let main_cst_0 : FVec F S_ .bf16 := constant S_ .bf16 0x7F80#16
  let main_v6 : FVec F S20x8x1x96 .bf16 := broadcastInDim S20x8x1x96 ![] bcast_S_S20x8x1x96 main_cst_0
  let main_v7 : IVec S20x8x1x96 1 := cmpf .olt main_v5 main_v6
  let main_v8 : IVec S20x8x4x96 1 := broadcastInDim S20x8x4x96 ![0, 1, 2, 3] bcast_S20x8x1x96_S20x8x4x96_0_1_2_3 main_v7
  let main_v9 : IVec S20x8x4x96 1 := andi main_v3 main_v8
  let main_v10 : FVec F S20x8x1x96 .f32 := shapeCast S20x8x1x96 main_arg4 shapeCasts_S20x8x96_S20x8x1x96
  let main_v11 : FVec F S20x8x1x96 .f32 := Host.absf main_v10
  let main_cst_1 : FVec F S_ .f32 := constant S_ .f32 0x7F800000#32
  let main_v12 : FVec F S20x8x1x96 .f32 := broadcastInDim S20x8x1x96 ![] bcast_S_S20x8x1x96 main_cst_1
  let main_v13 : IVec S20x8x1x96 1 := cmpf .olt main_v11 main_v12
  let main_v14 : IVec S20x8x4x96 1 := broadcastInDim S20x8x4x96 ![0, 1, 2, 3] bcast_S20x8x1x96_S20x8x4x96_0_1_2_3 main_v13
  let main_v15 : IVec S20x8x4x96 1 := andi main_v9 main_v14
  let main_c : IVec S_ 1 := constantI S_ 1 1#1
  let main_v16 : IVec S20x8x4 1 := (fun x v => Host.reduce IntOp.andi x v reducesTo_S20x8x4x96_S20x8x4_d3 h_S_) main_v15 main_c
  let main_v17 : IVec S20x1x32x1 1 := shapeCast S20x1x32x1 main_v16 shapeCasts_S20x8x4_S20x1x32x1
  let main_v18 : IVec S20x1x32x96 1 := broadcastInDim S20x1x32x96 ![0, 1, 2, 3] bcast_S20x1x32x1_S20x1x32x96_0_1_2_3 main_v17
  let main_c_2 : IVec S_ 1 := constantI S_ 1 1#1
  fn_part1 (F := F) main_v18 main_c_2
-- ==== Pre_lengths_fit.lean ====
abbrev S20x1x32x96 : Shape := ⟨4, ![20, 1, 32, 96]⟩
abbrev S20x1x8x96 : Shape := ⟨4, ![20, 1, 8, 96]⟩
abbrev S20x8192x8x96 : Shape := ⟨4, ![20, 8192, 8, 96]⟩
abbrev S20x8x96 : Shape := ⟨3, ![20, 8, 96]⟩
abbrev S20x8192x8x48 : Shape := ⟨4, ![20, 8192, 8, 48]⟩
abbrev S20x8192x8 : Shape := ⟨3, ![20, 8192, 8]⟩
abbrev S20 : Shape := ⟨1, ![20]⟩
abbrev S_ : Shape := ⟨0, ![]⟩

class Facts : Prop where
  bcast_S_S20 : S_.BroadcastsInDim S20 (![] : Fin 0 → Fin S20.rank)

variable [Facts]

def fn {F : FTy → Type} [FloatOps F] (main_arg0 : FVec F S20x1x32x96 .bf16) (main_arg1 : FVec F S20x1x8x96 .bf16) (main_arg2 : FVec F S20x1x8x96 .bf16) (main_arg3 : IVec S20x8192x8x96 8) (main_arg4 : FVec F S20x8x96 .f32) (main_arg5 : IVec S20x8192x8x48 8) (main_arg6 : FVec F S20x8192x8 .f32) (main_arg7 : IVec S20 32) : IVec S20 1 :=
  let main_c : IVec S_ 32 := constantI S_ 32 8192#32
  let main_v0 : IVec S20 32 := broadcastInDim S20 ![] bcast_S_S20 main_c
  let main_v1 : IVec S20 1 := cmpi .sle main_arg7 main_v0
  main_v1
-- ==== Kernel.lean ====
abbrev S20x1x32x96 : Shape := ⟨4, ![20, 1, 32, 96]⟩
abbrev S20x1x8x96 : Shape := ⟨4, ![20, 1, 8, 96]⟩
abbrev S20x8192x8x96 : Shape := ⟨4, ![20, 8192, 8, 96]⟩
abbrev S20x8x96 : Shape := ⟨3, ![20, 8, 96]⟩
abbrev S20x8192x8x48 : Shape := ⟨4, ![20, 8192, 8, 48]⟩
abbrev S20x8192x8 : Shape := ⟨3, ![20, 8192, 8]⟩
abbrev S20 : Shape := ⟨1, ![20]⟩
abbrev S20x8x96x8192 : Shape := ⟨4, ![20, 8, 96, 8192]⟩
abbrev S20x768x8192 : Shape := ⟨3, ![20, 768, 8192]⟩
abbrev S20x8x48x8192 : Shape := ⟨4, ![20, 8, 48, 8192]⟩
abbrev S20x48x8x64x128 : Shape := ⟨5, ![20, 48, 8, 64, 128]⟩
abbrev S20x48x64x8x128 : Shape := ⟨5, ![20, 48, 64, 8, 128]⟩
abbrev S20x48x512x128 : Shape := ⟨4, ![20, 48, 512, 128]⟩
abbrev S20x8x8192 : Shape := ⟨3, ![20, 8, 8192]⟩
abbrev S20x32x96 : Shape := ⟨3, ![20, 32, 96]⟩
abbrev S20x8x48 : Shape := ⟨3, ![20, 8, 48]⟩
abbrev S20x8x1 : Shape := ⟨3, ![20, 8, 1]⟩
abbrev S4x768x1024 : Shape := ⟨3, ![4, 768, 1024]⟩
abbrev S4x48x64x128 : Shape := ⟨4, ![4, 48, 64, 128]⟩
abbrev S4x8x1024 : Shape := ⟨3, ![4, 8, 1024]⟩
abbrev S4x3 : Shape := ⟨2, ![4, 3]⟩
abbrev S768x128 : Shape := ⟨2, ![768, 128]⟩
abbrev S32x768 : Shape := ⟨2, ![32, 768]⟩
abbrev S32x128 : Shape := ⟨2, ![32, 128]⟩
abbrev S768x32 : Shape := ⟨2, ![768, 32]⟩
abbrev S160 : Shape := ⟨1, ![160]⟩
abbrev S1 : Shape := ⟨1, ![1]⟩
abbrev S1x1 : Shape := ⟨2, ![1, 1]⟩
abbrev S_ : Shape := ⟨0, ![]⟩
abbrev S1x768x1024 : Shape := ⟨3, ![1, 768, 1024]⟩
abbrev S768x1024 : Shape := ⟨2, ![768, 1024]⟩
abbrev S1x48x64x128 : Shape := ⟨4, ![1, 48, 64, 128]⟩
abbrev S48x64x128 : Shape := ⟨3, ![48, 64, 128]⟩
abbrev S1x8x1024 : Shape := ⟨3, ![1, 8, 1024]⟩
abbrev S8x1024 : Shape := ⟨2, ![8, 1024]⟩
abbrev S20x8 : Shape := ⟨2, ![20, 8]⟩
abbrev S160x96 : Shape := ⟨2, ![160, 96]⟩
abbrev S96x48 : Shape := ⟨2, ![96, 48]⟩
abbrev S160x48 : Shape := ⟨2, ![160, 48]⟩
abbrev S32x1 : Shape := ⟨2, ![32, 1]⟩
abbrev S32x1024 : Shape := ⟨2, ![32, 1024]⟩
abbrev S1x32x96 : Shape := ⟨3, ![1, 32, 96]⟩
abbrev S32x96 : Shape := ⟨2, ![32, 96]⟩
abbrev S1x8x96 : Shape := ⟨3, ![1, 8, 96]⟩
abbrev S8x96 : Shape := ⟨2, ![8, 96]⟩
abbrev S8x1x96 : Shape := ⟨3, ![8, 1, 96]⟩
abbrev S8x4x96 : Shape := ⟨3, ![8, 4, 96]⟩
abbrev S32 : Shape := ⟨1, ![32]⟩
abbrev S8x96x32 : Shape := ⟨3, ![8, 96, 32]⟩
abbrev S96x32 : Shape := ⟨2, ![96, 32]⟩
abbrev S1x96x32 : Shape := ⟨3, ![1, 96, 32]⟩
abbrev S96x8 : Shape := ⟨2, ![96, 8]⟩
abbrev S96x1 : Shape := ⟨2, ![96, 1]⟩
abbrev S96x128 : Shape := ⟨2, ![96, 128]⟩
abbrev S8x1x1024 : Shape := ⟨3, ![8, 1, 1024]⟩
abbrev S8x4x1024 : Shape := ⟨3, ![8, 4, 1024]⟩
abbrev S1x48x32x128 : Shape := ⟨4, ![1, 48, 32, 128]⟩
abbrev S48x32x128 : Shape := ⟨3, ![48, 32, 128]⟩
abbrev S1536x128 : Shape := ⟨2, ![1536, 128]⟩
abbrev S1536x1x128 : Shape := ⟨3, ![1536, 1, 128]⟩
abbrev S1536x2x128 : Shape := ⟨3, ![1536, 2, 128]⟩
abbrev S3072x128 : Shape := ⟨2, ![3072, 128]⟩
abbrev S48x4x16x128 : Shape := ⟨4, ![48, 4, 16, 128]⟩
abbrev S48x1x16x128 : Shape := ⟨4, ![48, 1, 16, 128]⟩
abbrev S48x16x128 : Shape := ⟨3, ![48, 16, 128]⟩
abbrev S1x32 : Shape := ⟨2, ![1, 32]⟩
abbrev S20x1x8x48 : Shape := ⟨4, ![20, 1, 8, 48]⟩
abbrev S20x1x8 : Shape := ⟨3, ![20, 1, 8]⟩

abbrev nBuf : Space → Nat
  | .hbm => 27
  | .vmem => 16
  | .smem => 3
  | _ => 0

abbrev bufTy : (tb : Table) → Fin (tcTables nBuf tb) → BufTy
  | .hbm, ⟨0, _⟩ => ⟨S20x1x32x96, .bf16⟩
  | .hbm, ⟨1, _⟩ => ⟨S20x1x8x96, .bf16⟩
  | .hbm, ⟨2, _⟩ => ⟨S20x1x8x96, .bf16⟩
  | .hbm, ⟨3, _⟩ => ⟨S20x8192x8x96, .i8⟩
  | .hbm, ⟨4, _⟩ => ⟨S20x8x96, .f32⟩
  | .hbm, ⟨5, _⟩ => ⟨S20x8192x8x48, .i8⟩
  | .hbm, ⟨6, _⟩ => ⟨S20x8192x8, .f32⟩
  | .hbm, ⟨7, _⟩ => ⟨S20, .i32⟩
  | .hbm, ⟨8, _⟩ => ⟨S20x8x96x8192, .i8⟩
  | .hbm, ⟨9, _⟩ => ⟨S20x768x8192, .i8⟩
  | .hbm, ⟨10, _⟩ => ⟨S20x8x48x8192, .i8⟩
  | .hbm, ⟨11, _⟩ => ⟨S20x48x8x64x128, .i8⟩
  | .hbm, ⟨12, _⟩ => ⟨S20x48x64x8x128, .i8⟩
  | .hbm, ⟨13, _⟩ => ⟨S20x48x512x128, .i8⟩
  | .hbm, ⟨14, _⟩ => ⟨S20x8x8192, .f32⟩
  | .hbm, ⟨15, _⟩ => ⟨S20x32x96, .bf16⟩
  | .hbm, ⟨16, _⟩ => ⟨S20x8x96, .bf16⟩
  | .hbm, ⟨17, _⟩ => ⟨S20x8x96, .bf16⟩
  | .hbm, ⟨18, _⟩ => ⟨S20x32x96, .bf16⟩
  | .hbm, ⟨19, _⟩ => ⟨S20x8x96, .i8⟩
  | .hbm, ⟨20, _⟩ => ⟨S20x8x48, .i32⟩
  | .hbm, ⟨21, _⟩ => ⟨S20x8x1, .f32⟩
  | .hbm, ⟨22, _⟩ => ⟨S20x1x32x96, .bf16⟩
  | .hbm, ⟨23, _⟩ => ⟨S20x1x8x96, .i8⟩
  | .hbm, ⟨24, _⟩ => ⟨S20x8x48, .i8⟩
  | .hbm, ⟨25, _⟩ => ⟨S20x1x8x48, .i8⟩
  | .hbm, ⟨26, _⟩ => ⟨S20x1x8, .f32⟩
  | .local _ .vmem, ⟨0, _⟩ => ⟨S20x32x96, .bf16⟩
  | .local _ .vmem, ⟨1, _⟩ => ⟨S20x8x96, .bf16⟩
  | .local _ .vmem, ⟨2, _⟩ => ⟨S20x8x96, .bf16⟩
  | .local _ .vmem, ⟨3, _⟩ => ⟨S20x8x96, .f32⟩
  | .local _ .vmem, ⟨4, _⟩ => ⟨S20x32x96, .bf16⟩
  | .local _ .vmem, ⟨5, _⟩ => ⟨S20x8x96, .i8⟩
  | .local _ .vmem, ⟨6, _⟩ => ⟨S20x8x48, .i32⟩
  | .local _ .vmem, ⟨7, _⟩ => ⟨S20x8x1, .f32⟩
  | .local _ .vmem, ⟨8, _⟩ => ⟨S4x768x1024, .i8⟩
  | .local _ .vmem, ⟨9, _⟩ => ⟨S4x48x64x128, .i8⟩
  | .local _ .vmem, ⟨10, _⟩ => ⟨S4x8x1024, .f32⟩
  | .local _ .vmem, ⟨11, _⟩ => ⟨S768x128, .bf16⟩
  | .local _ .vmem, ⟨12, _⟩ => ⟨S32x768, .bf16⟩
  | .local _ .vmem, ⟨13, _⟩ => ⟨S32x128, .f32⟩
  | .local _ .vmem, ⟨14, _⟩ => ⟨S32x128, .f32⟩
  | .local _ .vmem, ⟨15, _⟩ => ⟨S768x32, .f32⟩
  | .local _ .smem, ⟨0, _⟩ => ⟨S20, .i32⟩
  | .local _ .smem, ⟨1, _⟩ => ⟨S160, .i32⟩
  | .local _ .smem, ⟨2, _⟩ => ⟨S160, .i32⟩
  | _, _ => ⟨S20x1x32x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_stg0_0 : Ref sig .tc := ⟨.smem, 0, rfl⟩
abbrev cc0_scratch9 : Ref sig .tc := ⟨.smem, 1, rfl⟩
abbrev cc0_scratch10 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c20_i32 : BitVec 32 := 20#32
  let v0 : BitVec 32 := Scalar.addi c0_i32_0 c20_i32
  let c1_i32 : BitVec 32 := 1#32
  ⟨c0_i32_0, v0, c1_i32⟩
def k0_off1 (k0_t1 : Fin k0_t1_loop.trips) : Fin 1 → Nat :=
  let c0_i32_0 : BitVec 32 := 0#32
  let c1_i32 : BitVec 32 := 1#32
  let arg23 : BitVec 32 := Scf.iv c0_i32_0 c1_i32 k0_t1
  let v107 : Index := Scalar.indexCast arg23
  ![v107.toNat]
@[reducible] def k0_t2_loop (v108 : BitVec 32) : Scf.Loop 32 :=
  let c0_i32_61 : BitVec 32 := 0#32
  let c1024_i32 : BitVec 32 := 1024#32
  let v109 : BitVec 32 := Scalar.addi v108 c1024_i32
  let c1_i32_52 : BitVec 32 := 1#32
  let v110 : BitVec 32 := Scalar.subi v109 c1_i32_52
  let c0_i32_54 : BitVec 32 := 0#32
  let v112 : BitVec 1 := Scalar.cmpi .sgt v110 c0_i32_54
  let v113 : BitVec 32 := Scalar.extui v112
  let c0_i32_55 : BitVec 32 := 0#32
  let v114 : BitVec 1 := Scalar.cmpi .slt v110 c0_i32_55
  let v115 : BitVec 32 := Scalar.extui v114
  let v116 : BitVec 32 := Scalar.subi v113 v115
  let c1024_i32_53 : BitVec 32 := 1024#32
  let c0_i32_56 : BitVec 32 := 0#32
  let v117 : BitVec 1 := Scalar.cmpi .sgt c1024_i32_53 c0_i32_56
  let v118 : BitVec 32 := Scalar.extui v117
  let c0_i32_57 : BitVec 32 := 0#32
  let v119 : BitVec 1 := Scalar.cmpi .slt c1024_i32_53 c0_i32_57
  let v120 : BitVec 32 := Scalar.extui v119
  let v121 : BitVec 32 := Scalar.subi v118 v120
  let v122 : BitVec 1 := Scalar.cmpi .ne v116 v121
  let v123 : BitVec 32 := Scalar.remsi v110 c1024_i32_53
  let c0_i32_58 : BitVec 32 := 0#32
  let v124 : BitVec 1 := Scalar.cmpi .ne v123 c0_i32_58
  let v125 : BitVec 1 := Scalar.andi v122 v124
  let v111 : BitVec 32 := Scalar.divsi v110 c1024_i32_53
  let c1_i32_59 : BitVec 32 := 1#32
  let v126 : BitVec 32 := Scalar.subi v111 c1_i32_59
  let v127 : BitVec 32 := Scalar.select v125 v126 v111
  let c1_i32_60 : BitVec 32 := 1#32
  let v128 : BitVec 32 := Scalar.maxsi v127 c1_i32_60
  let v129 : BitVec 32 := Scalar.subi v128 c0_i32_61
  let c1_i32_62 : BitVec 32 := 1#32
  let v131 : BitVec 32 := Scalar.divsi v129 c1_i32_62
  let v132 : BitVec 32 := Scalar.muli v131 c1_i32_62
  let v133 : BitVec 32 := Scalar.addi c0_i32_61 v132
  let c1_i32_63 : BitVec 32 := 1#32
  ⟨c0_i32_61, v133, c1_i32_63⟩

def k0_off2 (arg26 : BitVec 32) : Fin 1 → Nat :=
  let v136 : Index := Scalar.indexCast arg26
  ![v136.toNat]

def k0_chk2 (arg26 : BitVec 32) : Prop :=
  (∀ a, (k0_off2 arg26) a + S1.size a ≤ S160.size a)
theorem k0_off2_inb : ∀ (arg26 : BitVec 32) (k0_hw2 : k0_chk2 arg26), ∀ a, (k0_off2 arg26) a + S1.size a ≤ S160.size a := fun arg26 k0_hw2 => k0_hw2

@[reducible] def k0_t3_loop (v108 : BitVec 32) : Scf.Loop 32 :=
  let c0_i32_61 : BitVec 32 := 0#32
  let c1024_i32 : BitVec 32 := 1024#32
  let v109 : BitVec 32 := Scalar.addi v108 c1024_i32
  let c1_i32_52 : BitVec 32 := 1#32
  let v110 : BitVec 32 := Scalar.subi v109 c1_i32_52
  let c0_i32_54 : BitVec 32 := 0#32
  let v112 : BitVec 1 := Scalar.cmpi .sgt v110 c0_i32_54
  let v113 : BitVec 32 := Scalar.extui v112
  let c0_i32_55 : BitVec 32 := 0#32
  let v114 : BitVec 1 := Scalar.cmpi .slt v110 c0_i32_55
  let v115 : BitVec 32 := Scalar.extui v114
  let v116 : BitVec 32 := Scalar.subi v113 v115
  let c1024_i32_53 : BitVec 32 := 1024#32
  let c0_i32_56 : BitVec 32 := 0#32
  let v117 : BitVec 1 := Scalar.cmpi .sgt c1024_i32_53 c0_i32_56
  let v118 : BitVec 32 := Scalar.extui v117
  let c0_i32_57 : BitVec 32 := 0#32
  let v119 : BitVec 1 := Scalar.cmpi .slt c1024_i32_53 c0_i32_57
  let v120 : BitVec 32 := Scalar.extui v119
  let v121 : BitVec 32 := Scalar.subi v118 v120
  let v122 : BitVec 1 := Scalar.cmpi .ne v116 v121
  let v123 : BitVec 32 := Scalar.remsi v110 c1024_i32_53
  let c0_i32_58 : BitVec 32 := 0#32
  let v124 : BitVec 1 := Scalar.cmpi .ne v123 c0_i32_58
  let v125 : BitVec 1 := Scalar.andi v122 v124
  let v111 : BitVec 32 := Scalar.divsi v110 c1024_i32_53
  let c1_i32_59 : BitVec 32 := 1#32
  let v126 : BitVec 32 := Scalar.subi v111 c1_i32_59
  let v127 : BitVec 32 := Scalar.select v125 v126 v111
  let c1_i32_60 : BitVec 32 := 1#32
  let v128 : BitVec 32 := Scalar.maxsi v127 c1_i32_60
  let v129 : BitVec 32 := Scalar.subi v128 c0_i32_61
  let c1_i32_62 : BitVec 32 := 1#32
  let v131 : BitVec 32 := Scalar.divsi v129 c1_i32_62
  let v132 : BitVec 32 := Scalar.muli v131 c1_i32_62
  let v133 : BitVec 32 := Scalar.addi c0_i32_61 v132
  let v130 : BitVec 32 := Scalar.addi c0_i32_61 v129
  let c1_i32_64 : BitVec 32 := 1#32
  ⟨v133, v130, c1_i32_64⟩

def k0_chk1 (v108 : BitVec 32) : Prop :=
  ((k0_t2_loop v108).OK) ∧
  ((k0_t3_loop v108).OK)
theorem k0_t2_ok : ∀ (v108 : BitVec 32) (k0_hw1 : k0_chk1 v108), (k0_t2_loop v108).OK := fun v108 k0_hw1 => k0_hw1.1
theorem k0_t3_ok : ∀ (v108 : BitVec 32) (k0_hw1 : k0_chk1 v108), (k0_t3_loop v108).OK := fun v108 k0_hw1 => k0_hw1.2

def k0_off3 (arg26 : BitVec 32) : Fin 1 → Nat :=
  let v136 : Index := Scalar.indexCast arg26
  ![v136.toNat]

def k0_chk3 (arg26 : BitVec 32) : Prop :=
  (∀ a, (k0_off3 arg26) a + S1.size a ≤ S160.size a)
theorem k0_off3_inb : ∀ (arg26 : BitVec 32) (k0_hw3 : k0_chk3 arg26), ∀ a, (k0_off3 arg26) a + S1.size a ≤ S160.size a := fun arg26 k0_hw3 => k0_hw3

def k0_off4 : Fin 2 → Nat :=
  let c0_i32_3 : BitVec 32 := 0#32
  let c4_i32_52 : BitVec 32 := 4#32
  let v111 : BitVec 32 := Scalar.remsi c0_i32_3 c4_i32_52
  let c0_i32_54 : BitVec 32 := 0#32
  ![v111.toNat, 0]
def k0_off5 : Fin 3 → Nat :=
  let c0_i32_3 : BitVec 32 := 0#32
  let c4_i32_52 : BitVec 32 := 4#32
  let v111 : BitVec 32 := Scalar.remsi c0_i32_3 c4_i32_52
  let c0_i32_55 : BitVec 32 := 0#32
  let c0_i32_56 : BitVec 32 := 0#32
  ![v111.toNat, 0, 0]
def k0_off6 (v108 : BitVec 32) (v110 : BitVec 32) : Fin 3 → Nat :=
  let c0_i32_57 : BitVec 32 := 0#32
  let c1024_i32 : BitVec 32 := 1024#32
  let v112 : BitVec 32 := Scalar.muli v110 c1024_i32
  ![v108.toNat, 0, v112.toNat]
def k0_cond1 (v1 : BitVec 32) : BitVec 1 :=
  let c0_i32_2 : BitVec 32 := 0#32
  let v2 : BitVec 1 := Scalar.cmpi .slt c0_i32_2 v1
  let v3 : BitVec 32 := Scalar.extui v2
  let c0_i32_4 : BitVec 32 := 0#32
  let v4 : BitVec 1 := Scalar.cmpi .ne v3 c0_i32_4
  v4

def k0_off7 : Fin 2 → Nat :=
  let c0_i32_3 : BitVec 32 := 0#32
  let c4_i32_52 : BitVec 32 := 4#32
  let v111 : BitVec 32 := Scalar.remsi c0_i32_3 c4_i32_52
  let c1_i32_58 : BitVec 32 := 1#32
  ![v111.toNat, 1]
def k0_off8 : Fin 4 → Nat :=
  let c0_i32_3 : BitVec 32 := 0#32
  let c4_i32_52 : BitVec 32 := 4#32
  let v111 : BitVec 32 := Scalar.remsi c0_i32_3 c4_i32_52
  let c0_i32_59 : BitVec 32 := 0#32
  let c0_i32_60 : BitVec 32 := 0#32
  let c0_i32_61 : BitVec 32 := 0#32
  ![v111.toNat, 0, 0, 0]
def k0_off9 (v108 : BitVec 32) (v110 : BitVec 32) : Fin 4 → Nat :=
  let c0_i32_62 : BitVec 32 := 0#32
  let c64_i32 : BitVec 32 := 64#32
  let v113 : BitVec 32 := Scalar.muli v110 c64_i32
  let c0_i32_63 : BitVec 32 := 0#32
  ![v108.toNat, 0, v113.toNat, 0]
def k0_off10 : Fin 2 → Nat :=
  let c0_i32_3 : BitVec 32 := 0#32
  let c4_i32_52 : BitVec 32 := 4#32
  let v111 : BitVec 32 := Scalar.remsi c0_i32_3 c4_i32_52
  let c2_i32_64 : BitVec 32 := 2#32
  ![v111.toNat, 2]
def k0_off11 : Fin 3 → Nat :=
  let c0_i32_3 : BitVec 32 := 0#32
  let c4_i32_52 : BitVec 32 := 4#32
  let v111 : BitVec 32 := Scalar.remsi c0_i32_3 c4_i32_52
  let c0_i32_65 : BitVec 32 := 0#32
  let c0_i32_66 : BitVec 32 := 0#32
  ![v111.toNat, 0, 0]
def k0_off12 (v108 : BitVec 32) (v110 : BitVec 32) : Fin 3 → Nat :=
  let c0_i32_67 : BitVec 32 := 0#32
  let c1024_i32_53 : BitVec 32 := 1024#32
  let v114 : BitVec 32 := Scalar.muli v110 c1024_i32_53
  ![v108.toNat, 0, v114.toNat]

def k0_chk4 (v1 : BitVec 32) (v108 : BitVec 32) (v110 : BitVec 32) : Prop :=
  (∀ (k0_h1 : k0_cond1 v1 = 1#1), ∀ a, (k0_off6 v108 v110) a + S1x768x1024.size a ≤ S20x768x8192.size a) ∧
  (∀ (k0_h1 : k0_cond1 v1 = 1#1), ∀ (hinb : ∀ a, (k0_off6 v108 v110) a + S1x768x1024.size a ≤ S20x768x8192.size a), (Rect.unit (s := S20x768x8192) (k0_off6 v108 v110) S1x768x1024.size hinb).WholeWords (EltTy.packing .i8)) ∧
  (∀ (k0_h1 : k0_cond1 v1 = 1#1), ∀ a, (k0_off9 v108 v110) a + S1x48x64x128.size a ≤ S20x48x512x128.size a) ∧
  (∀ (k0_h1 : k0_cond1 v1 = 1#1), ∀ (hinb : ∀ a, (k0_off9 v108 v110) a + S1x48x64x128.size a ≤ S20x48x512x128.size a), (Rect.unit (s := S20x48x512x128) (k0_off9 v108 v110) S1x48x64x128.size hinb).WholeWords (EltTy.packing .i8)) ∧
  (∀ (k0_h1 : k0_cond1 v1 = 1#1), ∀ a, (k0_off12 v108 v110) a + S1x8x1024.size a ≤ S20x8x8192.size a)
theorem k0_off6_inb : ∀ (v1 : BitVec 32) (v108 : BitVec 32) (v110 : BitVec 32) (k0_hw4 : k0_chk4 v1 v108 v110), ∀ (k0_h1 : k0_cond1 v1 = 1#1), ∀ a, (k0_off6 v108 v110) a + S1x768x1024.size a ≤ S20x768x8192.size a := fun v1 v108 v110 k0_hw4 k0_h1 => k0_hw4.1 k0_h1
theorem k0_off6_wordsi8 : ∀ (v1 : BitVec 32) (v108 : BitVec 32) (v110 : BitVec 32) (k0_hw4 : k0_chk4 v1 v108 v110), ∀ (k0_h1 : k0_cond1 v1 = 1#1), (Rect.unit (s := S20x768x8192) (k0_off6 v108 v110) S1x768x1024.size (k0_off6_inb v1 v108 v110 k0_hw4 k0_h1)).WholeWords (EltTy.packing .i8) := fun v1 v108 v110 k0_hw4 k0_h1 => k0_hw4.2.1 k0_h1 (k0_off6_inb v1 v108 v110 k0_hw4 k0_h1)
theorem k0_off9_inb : ∀ (v1 : BitVec 32) (v108 : BitVec 32) (v110 : BitVec 32) (k0_hw4 : k0_chk4 v1 v108 v110), ∀ (k0_h1 : k0_cond1 v1 = 1#1), ∀ a, (k0_off9 v108 v110) a + S1x48x64x128.size a ≤ S20x48x512x128.size a := fun v1 v108 v110 k0_hw4 k0_h1 => k0_hw4.2.2.1 k0_h1
theorem k0_off9_wordsi8 : ∀ (v1 : BitVec 32) (v108 : BitVec 32) (v110 : BitVec 32) (k0_hw4 : k0_chk4 v1 v108 v110), ∀ (k0_h1 : k0_cond1 v1 = 1#1), (Rect.unit (s := S20x48x512x128) (k0_off9 v108 v110) S1x48x64x128.size (k0_off9_inb v1 v108 v110 k0_hw4 k0_h1)).WholeWords (EltTy.packing .i8) := fun v1 v108 v110 k0_hw4 k0_h1 => k0_hw4.2.2.2.1 k0_h1 (k0_off9_inb v1 v108 v110 k0_hw4 k0_h1)
theorem k0_off12_inb : ∀ (v1 : BitVec 32) (v108 : BitVec 32) (v110 : BitVec 32) (k0_hw4 : k0_chk4 v1 v108 v110), ∀ (k0_h1 : k0_cond1 v1 = 1#1), ∀ a, (k0_off12 v108 v110) a + S1x8x1024.size a ≤ S20x8x8192.size a := fun v1 v108 v110 k0_hw4 k0_h1 => k0_hw4.2.2.2.2 k0_h1

def k0_off13 : Fin 2 → Nat :=
  let c1_i32_6 : BitVec 32 := 1#32
  let c4_i32_52 : BitVec 32 := 4#32
  let v111 : BitVec 32 := Scalar.remsi c1_i32_6 c4_i32_52
  let c0_i32_54 : BitVec 32 := 0#32
  ![v111.toNat, 0]
def k0_off14 : Fin 3 → Nat :=
  let c1_i32_6 : BitVec 32 := 1#32
  let c4_i32_52 : BitVec 32 := 4#32
  let v111 : BitVec 32 := Scalar.remsi c1_i32_6 c4_i32_52
  let c0_i32_55 : BitVec 32 := 0#32
  let c0_i32_56 : BitVec 32 := 0#32
  ![v111.toNat, 0, 0]
def k0_off15 (v108 : BitVec 32) (v110 : BitVec 32) : Fin 3 → Nat :=
  let c0_i32_57 : BitVec 32 := 0#32
  let c1024_i32 : BitVec 32 := 1024#32
  let v112 : BitVec 32 := Scalar.muli v110 c1024_i32
  ![v108.toNat, 0, v112.toNat]
def k0_cond2 (v1 : BitVec 32) : BitVec 1 :=
  let c1_i32_5 : BitVec 32 := 1#32
  let v5 : BitVec 1 := Scalar.cmpi .slt c1_i32_5 v1
  let v6 : BitVec 32 := Scalar.extui v5
  let c0_i32_7 : BitVec 32 := 0#32
  let v7 : BitVec 1 := Scalar.cmpi .ne v6 c0_i32_7
  v7

def k0_off16 : Fin 2 → Nat :=
  let c1_i32_6 : BitVec 32 := 1#32
  let c4_i32_52 : BitVec 32 := 4#32
  let v111 : BitVec 32 := Scalar.remsi c1_i32_6 c4_i32_52
  let c1_i32_58 : BitVec 32 := 1#32
  ![v111.toNat, 1]
def k0_off17 : Fin 4 → Nat :=
  let c1_i32_6 : BitVec 32 := 1#32
  let c4_i32_52 : BitVec 32 := 4#32
  let v111 : BitVec 32 := Scalar.remsi c1_i32_6 c4_i32_52
  let c0_i32_59 : BitVec 32 := 0#32
  let c0_i32_60 : BitVec 32 := 0#32
  let c0_i32_61 : BitVec 32 := 0#32
  ![v111.toNat, 0, 0, 0]
def k0_off18 (v108 : BitVec 32) (v110 : BitVec 32) : Fin 4 → Nat :=
  let c0_i32_62 : BitVec 32 := 0#32
  let c64_i32 : BitVec 32 := 64#32
  let v113 : BitVec 32 := Scalar.muli v110 c64_i32
  let c0_i32_63 : BitVec 32 := 0#32
  ![v108.toNat, 0, v113.toNat, 0]
def k0_off19 : Fin 2 → Nat :=
  let c1_i32_6 : BitVec 32 := 1#32
  let c4_i32_52 : BitVec 32 := 4#32
  let v111 : BitVec 32 := Scalar.remsi c1_i32_6 c4_i32_52
  let c2_i32_64 : BitVec 32 := 2#32
  ![v111.toNat, 2]
def k0_off20 : Fin 3 → Nat :=
  let c1_i32_6 : BitVec 32 := 1#32
  let c4_i32_52 : BitVec 32 := 4#32
  let v111 : BitVec 32 := Scalar.remsi c1_i32_6 c4_i32_52
  let c0_i32_65 : BitVec 32 := 0#32
  let c0_i32_66 : BitVec 32 := 0#32
  ![v111.toNat, 0, 0]
def k0_off21 (v108 : BitVec 32) (v110 : BitVec 32) : Fin 3 → Nat :=
  let c0_i32_67 : BitVec 32 := 0#32
  let c1024_i32_53 : BitVec 32 := 1024#32
  let v114 : BitVec 32 := Scalar.muli v110 c1024_i32_53
  ![v108.toNat, 0, v114.toNat]

def k0_chk5 (v1 : BitVec 32) (v108 : BitVec 32) (v110 : BitVec 32) : Prop :=
  (∀ (k0_h2 : k0_cond2 v1 = 1#1), ∀ a, (k0_off15 v108 v110) a + S1x768x1024.size a ≤ S20x768x8192.size a) ∧
  (∀ (k0_h2 : k0_cond2 v1 = 1#1), ∀ (hinb : ∀ a, (k0_off15 v108 v110) a + S1x768x1024.size a ≤ S20x768x8192.size a), (Rect.unit (s := S20x768x8192) (k0_off15 v108 v110) S1x768x1024.size hinb).WholeWords (EltTy.packing .i8)) ∧
  (∀ (k0_h2 : k0_cond2 v1 = 1#1), ∀ a, (k0_off18 v108 v110) a + S1x48x64x128.size a ≤ S20x48x512x128.size a) ∧
  (∀ (k0_h2 : k0_cond2 v1 = 1#1), ∀ (hinb : ∀ a, (k0_off18 v108 v110) a + S1x48x64x128.size a ≤ S20x48x512x128.size a), (Rect.unit (s := S20x48x512x128) (k0_off18 v108 v110) S1x48x64x128.size hinb).WholeWords (EltTy.packing .i8)) ∧
  (∀ (k0_h2 : k0_cond2 v1 = 1#1), ∀ a, (k0_off21 v108 v110) a + S1x8x1024.size a ≤ S20x8x8192.size a)
theorem k0_off15_inb : ∀ (v1 : BitVec 32) (v108 : BitVec 32) (v110 : BitVec 32) (k0_hw5 : k0_chk5 v1 v108 v110), ∀ (k0_h2 : k0_cond2 v1 = 1#1), ∀ a, (k0_off15 v108 v110) a + S1x768x1024.size a ≤ S20x768x8192.size a := fun v1 v108 v110 k0_hw5 k0_h2 => k0_hw5.1 k0_h2
theorem k0_off15_wordsi8 : ∀ (v1 : BitVec 32) (v108 : BitVec 32) (v110 : BitVec 32) (k0_hw5 : k0_chk5 v1 v108 v110), ∀ (k0_h2 : k0_cond2 v1 = 1#1), (Rect.unit (s := S20x768x8192) (k0_off15 v108 v110) S1x768x1024.size (k0_off15_inb v1 v108 v110 k0_hw5 k0_h2)).WholeWords (EltTy.packing .i8) := fun v1 v108 v110 k0_hw5 k0_h2 => k0_hw5.2.1 k0_h2 (k0_off15_inb v1 v108 v110 k0_hw5 k0_h2)
theorem k0_off18_inb : ∀ (v1 : BitVec 32) (v108 : BitVec 32) (v110 : BitVec 32) (k0_hw5 : k0_chk5 v1 v108 v110), ∀ (k0_h2 : k0_cond2 v1 = 1#1), ∀ a, (k0_off18 v108 v110) a + S1x48x64x128.size a ≤ S20x48x512x128.size a := fun v1 v108 v110 k0_hw5 k0_h2 => k0_hw5.2.2.1 k0_h2
theorem k0_off18_wordsi8 : ∀ (v1 : BitVec 32) (v108 : BitVec 32) (v110 : BitVec 32) (k0_hw5 : k0_chk5 v1 v108 v110), ∀ (k0_h2 : k0_cond2 v1 = 1#1), (Rect.unit (s := S20x48x512x128) (k0_off18 v108 v110) S1x48x64x128.size (k0_off18_inb v1 v108 v110 k0_hw5 k0_h2)).WholeWords (EltTy.packing .i8) := fun v1 v108 v110 k0_hw5 k0_h2 => k0_hw5.2.2.2.1 k0_h2 (k0_off18_inb v1 v108 v110 k0_hw5 k0_h2)
theorem k0_off21_inb : ∀ (v1 : BitVec 32) (v108 : BitVec 32) (v110 : BitVec 32) (k0_hw5 : k0_chk5 v1 v108 v110), ∀ (k0_h2 : k0_cond2 v1 = 1#1), ∀ a, (k0_off21 v108 v110) a + S1x8x1024.size a ≤ S20x8x8192.size a := fun v1 v108 v110 k0_hw5 k0_h2 => k0_hw5.2.2.2.2 k0_h2

def k0_off22 : Fin 2 → Nat :=
  let c2_i32_8 : BitVec 32 := 2#32
  let c4_i32_52 : BitVec 32 := 4#32
  let v111 : BitVec 32 := Scalar.remsi c2_i32_8 c4_i32_52
  let c0_i32_54 : BitVec 32 := 0#32
  ![v111.toNat, 0]
def k0_off23 : Fin 3 → Nat :=
  let c2_i32_8 : BitVec 32 := 2#32
  let c4_i32_52 : BitVec 32 := 4#32
  let v111 : BitVec 32 := Scalar.remsi c2_i32_8 c4_i32_52
  let c0_i32_55 : BitVec 32 := 0#32
  let c0_i32_56 : BitVec 32 := 0#32
  ![v111.toNat, 0, 0]
def k0_off24 (v108 : BitVec 32) (v110 : BitVec 32) : Fin 3 → Nat :=
  let c0_i32_57 : BitVec 32 := 0#32
  let c1024_i32 : BitVec 32 := 1024#32
  let v112 : BitVec 32 := Scalar.muli v110 c1024_i32
  ![v108.toNat, 0, v112.toNat]
def k0_cond3 (v1 : BitVec 32) : BitVec 1 :=
  let c2_i32 : BitVec 32 := 2#32
  let v8 : BitVec 1 := Scalar.cmpi .slt c2_i32 v1
  let v9 : BitVec 32 := Scalar.extui v8
  let c0_i32_9 : BitVec 32 := 0#32
  let v10 : BitVec 1 := Scalar.cmpi .ne v9 c0_i32_9
  v10

def k0_off25 : Fin 2 → Nat :=
  let c2_i32_8 : BitVec 32 := 2#32
  let c4_i32_52 : BitVec 32 := 4#32
  let v111 : BitVec 32 := Scalar.remsi c2_i32_8 c4_i32_52
  let c1_i32_58 : BitVec 32 := 1#32
  ![v111.toNat, 1]
def k0_off26 : Fin 4 → Nat :=
  let c2_i32_8 : BitVec 32 := 2#32
  let c4_i32_52 : BitVec 32 := 4#32
  let v111 : BitVec 32 := Scalar.remsi c2_i32_8 c4_i32_52
  let c0_i32_59 : BitVec 32 := 0#32
  let c0_i32_60 : BitVec 32 := 0#32
  let c0_i32_61 : BitVec 32 := 0#32
  ![v111.toNat, 0, 0, 0]
def k0_off27 (v108 : BitVec 32) (v110 : BitVec 32) : Fin 4 → Nat :=
  let c0_i32_62 : BitVec 32 := 0#32
  let c64_i32 : BitVec 32 := 64#32
  let v113 : BitVec 32 := Scalar.muli v110 c64_i32
  let c0_i32_63 : BitVec 32 := 0#32
  ![v108.toNat, 0, v113.toNat, 0]
def k0_off28 : Fin 2 → Nat :=
  let c2_i32_8 : BitVec 32 := 2#32
  let c4_i32_52 : BitVec 32 := 4#32
  let v111 : BitVec 32 := Scalar.remsi c2_i32_8 c4_i32_52
  let c2_i32_64 : BitVec 32 := 2#32
  ![v111.toNat, 2]
def k0_off29 : Fin 3 → Nat :=
  let c2_i32_8 : BitVec 32 := 2#32
  let c4_i32_52 : BitVec 32 := 4#32
  let v111 : BitVec 32 := Scalar.remsi c2_i32_8 c4_i32_52
  let c0_i32_65 : BitVec 32 := 0#32
  let c0_i32_66 : BitVec 32 := 0#32
  ![v111.toNat, 0, 0]
def k0_off30 (v108 : BitVec 32) (v110 : BitVec 32) : Fin 3 → Nat :=
  let c0_i32_67 : BitVec 32 := 0#32
  let c1024_i32_53 : BitVec 32 := 1024#32
  let v114 : BitVec 32 := Scalar.muli v110 c1024_i32_53
  ![v108.toNat, 0, v114.toNat]

def k0_chk6 (v1 : BitVec 32) (v108 : BitVec 32) (v110 : BitVec 32) : Prop :=
  (∀ (k0_h3 : k0_cond3 v1 = 1#1), ∀ a, (k0_off24 v108 v110) a + S1x768x1024.size a ≤ S20x768x8192.size a) ∧
  (∀ (k0_h3 : k0_cond3 v1 = 1#1), ∀ (hinb : ∀ a, (k0_off24 v108 v110) a + S1x768x1024.size a ≤ S20x768x8192.size a), (Rect.unit (s := S20x768x8192) (k0_off24 v108 v110) S1x768x1024.size hinb).WholeWords (EltTy.packing .i8)) ∧
  (∀ (k0_h3 : k0_cond3 v1 = 1#1), ∀ a, (k0_off27 v108 v110) a + S1x48x64x128.size a ≤ S20x48x512x128.size a) ∧
  (∀ (k0_h3 : k0_cond3 v1 = 1#1), ∀ (hinb : ∀ a, (k0_off27 v108 v110) a + S1x48x64x128.size a ≤ S20x48x512x128.size a), (Rect.unit (s := S20x48x512x128) (k0_off27 v108 v110) S1x48x64x128.size hinb).WholeWords (EltTy.packing .i8)) ∧
  (∀ (k0_h3 : k0_cond3 v1 = 1#1), ∀ a, (k0_off30 v108 v110) a + S1x8x1024.size a ≤ S20x8x8192.size a)
theorem k0_off24_inb : ∀ (v1 : BitVec 32) (v108 : BitVec 32) (v110 : BitVec 32) (k0_hw6 : k0_chk6 v1 v108 v110), ∀ (k0_h3 : k0_cond3 v1 = 1#1), ∀ a, (k0_off24 v108 v110) a + S1x768x1024.size a ≤ S20x768x8192.size a := fun v1 v108 v110 k0_hw6 k0_h3 => k0_hw6.1 k0_h3
theorem k0_off24_wordsi8 : ∀ (v1 : BitVec 32) (v108 : BitVec 32) (v110 : BitVec 32) (k0_hw6 : k0_chk6 v1 v108 v110), ∀ (k0_h3 : k0_cond3 v1 = 1#1), (Rect.unit (s := S20x768x8192) (k0_off24 v108 v110) S1x768x1024.size (k0_off24_inb v1 v108 v110 k0_hw6 k0_h3)).WholeWords (EltTy.packing .i8) := fun v1 v108 v110 k0_hw6 k0_h3 => k0_hw6.2.1 k0_h3 (k0_off24_inb v1 v108 v110 k0_hw6 k0_h3)
theorem k0_off27_inb : ∀ (v1 : BitVec 32) (v108 : BitVec 32) (v110 : BitVec 32) (k0_hw6 : k0_chk6 v1 v108 v110), ∀ (k0_h3 : k0_cond3 v1 = 1#1), ∀ a, (k0_off27 v108 v110) a + S1x48x64x128.size a ≤ S20x48x512x128.size a := fun v1 v108 v110 k0_hw6 k0_h3 => k0_hw6.2.2.1 k0_h3
theorem k0_off27_wordsi8 : ∀ (v1 : BitVec 32) (v108 : BitVec 32) (v110 : BitVec 32) (k0_hw6 : k0_chk6 v1 v108 v110), ∀ (k0_h3 : k0_cond3 v1 = 1#1), (Rect.unit (s := S20x48x512x128) (k0_off27 v108 v110) S1x48x64x128.size (k0_off27_inb v1 v108 v110 k0_hw6 k0_h3)).WholeWords (EltTy.packing .i8) := fun v1 v108 v110 k0_hw6 k0_h3 => k0_hw6.2.2.2.1 k0_h3 (k0_off27_inb v1 v108 v110 k0_hw6 k0_h3)
theorem k0_off30_inb : ∀ (v1 : BitVec 32) (v108 : BitVec 32) (v110 : BitVec 32) (k0_hw6 : k0_chk6 v1 v108 v110), ∀ (k0_h3 : k0_cond3 v1 = 1#1), ∀ a, (k0_off30 v108 v110) a + S1x8x1024.size a ≤ S20x8x8192.size a := fun v1 v108 v110 k0_hw6 k0_h3 => k0_hw6.2.2.2.2 k0_h3

@[reducible] def k0_t4_loop (v1 : BitVec 32) : Scf.Loop 32 :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_50 : BitVec 32 := 1#32
  ⟨c0_i32_47, v104, c1_i32_50⟩

def k0_off31 (v1 : BitVec 32) (k0_t4 : Fin (k0_t4_loop v1).trips) : Fin 1 → Nat :=
  let c0_i32_47 : BitVec 32 := 0#32
  let c1_i32_50 : BitVec 32 := 1#32
  let arg23 : BitVec 32 := Scf.iv c0_i32_47 c1_i32_50 k0_t4
  let v107 : Index := Scalar.indexCast arg23
  ![v107.toNat]
def k0_off32 (v1 : BitVec 32) (k0_t4 : Fin (k0_t4_loop v1).trips) : Fin 1 → Nat :=
  let c0_i32_47 : BitVec 32 := 0#32
  let c1_i32_50 : BitVec 32 := 1#32
  let arg23 : BitVec 32 := Scf.iv c0_i32_47 c1_i32_50 k0_t4
  let c4_i32_53 : BitVec 32 := 4#32
  let v112 : BitVec 32 := Scalar.addi arg23 c4_i32_53
  let c1_i32_54 : BitVec 32 := 1#32
  let v113 : BitVec 32 := Scalar.subi v112 c1_i32_54
  let v287 : Index := Scalar.indexCast v113
  ![v287.toNat]
def k0_cond4 (v1 : BitVec 32) (k0_t4 : Fin (k0_t4_loop v1).trips) : BitVec 1 :=
  let c0_i32_47 : BitVec 32 := 0#32
  let c1_i32_50 : BitVec 32 := 1#32
  let arg23 : BitVec 32 := Scf.iv c0_i32_47 c1_i32_50 k0_t4
  let c4_i32_53 : BitVec 32 := 4#32
  let v112 : BitVec 32 := Scalar.addi arg23 c4_i32_53
  let c1_i32_54 : BitVec 32 := 1#32
  let v113 : BitVec 32 := Scalar.subi v112 c1_i32_54
  let v114 : BitVec 1 := Scalar.cmpi .slt v113 v1
  let v115 : BitVec 32 := Scalar.extui v114
  let c0_i32_55 : BitVec 32 := 0#32
  let v116 : BitVec 1 := Scalar.cmpi .ne v115 c0_i32_55
  v116

def k0_off33 (v1 : BitVec 32) (k0_t4 : Fin (k0_t4_loop v1).trips) : Fin 2 → Nat :=
  let c0_i32_47 : BitVec 32 := 0#32
  let c1_i32_50 : BitVec 32 := 1#32
  let arg23 : BitVec 32 := Scf.iv c0_i32_47 c1_i32_50 k0_t4
  let c4_i32_53 : BitVec 32 := 4#32
  let v112 : BitVec 32 := Scalar.addi arg23 c4_i32_53
  let c1_i32_54 : BitVec 32 := 1#32
  let v113 : BitVec 32 := Scalar.subi v112 c1_i32_54
  let c4_i32_119 : BitVec 32 := 4#32
  let v291 : BitVec 32 := Scalar.remsi v113 c4_i32_119
  let c0_i32_123 : BitVec 32 := 0#32
  ![v291.toNat, 0]
def k0_off34 (v1 : BitVec 32) (k0_t4 : Fin (k0_t4_loop v1).trips) : Fin 3 → Nat :=
  let c0_i32_47 : BitVec 32 := 0#32
  let c1_i32_50 : BitVec 32 := 1#32
  let arg23 : BitVec 32 := Scf.iv c0_i32_47 c1_i32_50 k0_t4
  let c4_i32_53 : BitVec 32 := 4#32
  let v112 : BitVec 32 := Scalar.addi arg23 c4_i32_53
  let c1_i32_54 : BitVec 32 := 1#32
  let v113 : BitVec 32 := Scalar.subi v112 c1_i32_54
  let c4_i32_119 : BitVec 32 := 4#32
  let v291 : BitVec 32 := Scalar.remsi v113 c4_i32_119
  let c0_i32_124 : BitVec 32 := 0#32
  let c0_i32_125 : BitVec 32 := 0#32
  ![v291.toNat, 0, 0]
def k0_off35 (v288 : BitVec 32) (v290 : BitVec 32) : Fin 3 → Nat :=
  let c0_i32_126 : BitVec 32 := 0#32
  let c1024_i32_120 : BitVec 32 := 1024#32
  let v292 : BitVec 32 := Scalar.muli v290 c1024_i32_120
  ![v288.toNat, 0, v292.toNat]

def k0_off36 (v1 : BitVec 32) (k0_t4 : Fin (k0_t4_loop v1).trips) : Fin 2 → Nat :=
  let c0_i32_47 : BitVec 32 := 0#32
  let c1_i32_50 : BitVec 32 := 1#32
  let arg23 : BitVec 32 := Scf.iv c0_i32_47 c1_i32_50 k0_t4
  let c4_i32_53 : BitVec 32 := 4#32
  let v112 : BitVec 32 := Scalar.addi arg23 c4_i32_53
  let c1_i32_54 : BitVec 32 := 1#32
  let v113 : BitVec 32 := Scalar.subi v112 c1_i32_54
  let c4_i32_119 : BitVec 32 := 4#32
  let v291 : BitVec 32 := Scalar.remsi v113 c4_i32_119
  let c1_i32_127 : BitVec 32 := 1#32
  ![v291.toNat, 1]
def k0_off37 (v1 : BitVec 32) (k0_t4 : Fin (k0_t4_loop v1).trips) : Fin 4 → Nat :=
  let c0_i32_47 : BitVec 32 := 0#32
  let c1_i32_50 : BitVec 32 := 1#32
  let arg23 : BitVec 32 := Scf.iv c0_i32_47 c1_i32_50 k0_t4
  let c4_i32_53 : BitVec 32 := 4#32
  let v112 : BitVec 32 := Scalar.addi arg23 c4_i32_53
  let c1_i32_54 : BitVec 32 := 1#32
  let v113 : BitVec 32 := Scalar.subi v112 c1_i32_54
  let c4_i32_119 : BitVec 32 := 4#32
  let v291 : BitVec 32 := Scalar.remsi v113 c4_i32_119
  let c0_i32_128 : BitVec 32 := 0#32
  let c0_i32_129 : BitVec 32 := 0#32
  let c0_i32_130 : BitVec 32 := 0#32
  ![v291.toNat, 0, 0, 0]
def k0_off38 (v288 : BitVec 32) (v290 : BitVec 32) : Fin 4 → Nat :=
  let c0_i32_131 : BitVec 32 := 0#32
  let c64_i32_121 : BitVec 32 := 64#32
  let v293 : BitVec 32 := Scalar.muli v290 c64_i32_121
  let c0_i32_132 : BitVec 32 := 0#32
  ![v288.toNat, 0, v293.toNat, 0]
def k0_off39 (v1 : BitVec 32) (k0_t4 : Fin (k0_t4_loop v1).trips) : Fin 2 → Nat :=
  let c0_i32_47 : BitVec 32 := 0#32
  let c1_i32_50 : BitVec 32 := 1#32
  let arg23 : BitVec 32 := Scf.iv c0_i32_47 c1_i32_50 k0_t4
  let c4_i32_53 : BitVec 32 := 4#32
  let v112 : BitVec 32 := Scalar.addi arg23 c4_i32_53
  let c1_i32_54 : BitVec 32 := 1#32
  let v113 : BitVec 32 := Scalar.subi v112 c1_i32_54
  let c4_i32_119 : BitVec 32 := 4#32
  let v291 : BitVec 32 := Scalar.remsi v113 c4_i32_119
  let c2_i32_133 : BitVec 32 := 2#32
  ![v291.toNat, 2]
def k0_off40 (v1 : BitVec 32) (k0_t4 : Fin (k0_t4_loop v1).trips) : Fin 3 → Nat :=
  let c0_i32_47 : BitVec 32 := 0#32
  let c1_i32_50 : BitVec 32 := 1#32
  let arg23 : BitVec 32 := Scf.iv c0_i32_47 c1_i32_50 k0_t4
  let c4_i32_53 : BitVec 32 := 4#32
  let v112 : BitVec 32 := Scalar.addi arg23 c4_i32_53
  let c1_i32_54 : BitVec 32 := 1#32
  let v113 : BitVec 32 := Scalar.subi v112 c1_i32_54
  let c4_i32_119 : BitVec 32 := 4#32
  let v291 : BitVec 32 := Scalar.remsi v113 c4_i32_119
  let c0_i32_134 : BitVec 32 := 0#32
  let c0_i32_135 : BitVec 32 := 0#32
  ![v291.toNat, 0, 0]
def k0_off41 (v288 : BitVec 32) (v290 : BitVec 32) : Fin 3 → Nat :=
  let c0_i32_136 : BitVec 32 := 0#32
  let c1024_i32_122 : BitVec 32 := 1024#32
  let v294 : BitVec 32 := Scalar.muli v290 c1024_i32_122
  ![v288.toNat, 0, v294.toNat]

def k0_chk8 (v1 : BitVec 32) (k0_t4 : Fin (k0_t4_loop v1).trips) (v288 : BitVec 32) (v290 : BitVec 32) : Prop :=
  (∀ (k0_h4 : k0_cond4 v1 k0_t4 = 1#1), ∀ a, (k0_off35 v288 v290) a + S1x768x1024.size a ≤ S20x768x8192.size a) ∧
  (∀ (k0_h4 : k0_cond4 v1 k0_t4 = 1#1), ∀ (hinb : ∀ a, (k0_off35 v288 v290) a + S1x768x1024.size a ≤ S20x768x8192.size a), (Rect.unit (s := S20x768x8192) (k0_off35 v288 v290) S1x768x1024.size hinb).WholeWords (EltTy.packing .i8)) ∧
  (∀ (k0_h4 : k0_cond4 v1 k0_t4 = 1#1), ∀ a, (k0_off38 v288 v290) a + S1x48x64x128.size a ≤ S20x48x512x128.size a) ∧
  (∀ (k0_h4 : k0_cond4 v1 k0_t4 = 1#1), ∀ (hinb : ∀ a, (k0_off38 v288 v290) a + S1x48x64x128.size a ≤ S20x48x512x128.size a), (Rect.unit (s := S20x48x512x128) (k0_off38 v288 v290) S1x48x64x128.size hinb).WholeWords (EltTy.packing .i8)) ∧
  (∀ (k0_h4 : k0_cond4 v1 k0_t4 = 1#1), ∀ a, (k0_off41 v288 v290) a + S1x8x1024.size a ≤ S20x8x8192.size a)
theorem k0_off35_inb : ∀ (v1 : BitVec 32) (k0_t4 : Fin (k0_t4_loop v1).trips) (v288 : BitVec 32) (v290 : BitVec 32) (k0_hw8 : k0_chk8 v1 k0_t4 v288 v290), ∀ (k0_h4 : k0_cond4 v1 k0_t4 = 1#1), ∀ a, (k0_off35 v288 v290) a + S1x768x1024.size a ≤ S20x768x8192.size a := fun v1 k0_t4 v288 v290 k0_hw8 k0_h4 => k0_hw8.1 k0_h4
theorem k0_off35_wordsi8 : ∀ (v1 : BitVec 32) (k0_t4 : Fin (k0_t4_loop v1).trips) (v288 : BitVec 32) (v290 : BitVec 32) (k0_hw8 : k0_chk8 v1 k0_t4 v288 v290), ∀ (k0_h4 : k0_cond4 v1 k0_t4 = 1#1), (Rect.unit (s := S20x768x8192) (k0_off35 v288 v290) S1x768x1024.size (k0_off35_inb v1 k0_t4 v288 v290 k0_hw8 k0_h4)).WholeWords (EltTy.packing .i8) := fun v1 k0_t4 v288 v290 k0_hw8 k0_h4 => k0_hw8.2.1 k0_h4 (k0_off35_inb v1 k0_t4 v288 v290 k0_hw8 k0_h4)
theorem k0_off38_inb : ∀ (v1 : BitVec 32) (k0_t4 : Fin (k0_t4_loop v1).trips) (v288 : BitVec 32) (v290 : BitVec 32) (k0_hw8 : k0_chk8 v1 k0_t4 v288 v290), ∀ (k0_h4 : k0_cond4 v1 k0_t4 = 1#1), ∀ a, (k0_off38 v288 v290) a + S1x48x64x128.size a ≤ S20x48x512x128.size a := fun v1 k0_t4 v288 v290 k0_hw8 k0_h4 => k0_hw8.2.2.1 k0_h4
theorem k0_off38_wordsi8 : ∀ (v1 : BitVec 32) (k0_t4 : Fin (k0_t4_loop v1).trips) (v288 : BitVec 32) (v290 : BitVec 32) (k0_hw8 : k0_chk8 v1 k0_t4 v288 v290), ∀ (k0_h4 : k0_cond4 v1 k0_t4 = 1#1), (Rect.unit (s := S20x48x512x128) (k0_off38 v288 v290) S1x48x64x128.size (k0_off38_inb v1 k0_t4 v288 v290 k0_hw8 k0_h4)).WholeWords (EltTy.packing .i8) := fun v1 k0_t4 v288 v290 k0_hw8 k0_h4 => k0_hw8.2.2.2.1 k0_h4 (k0_off38_inb v1 k0_t4 v288 v290 k0_hw8 k0_h4)
theorem k0_off41_inb : ∀ (v1 : BitVec 32) (k0_t4 : Fin (k0_t4_loop v1).trips) (v288 : BitVec 32) (v290 : BitVec 32) (k0_hw8 : k0_chk8 v1 k0_t4 v288 v290), ∀ (k0_h4 : k0_cond4 v1 k0_t4 = 1#1), ∀ a, (k0_off41 v288 v290) a + S1x8x1024.size a ≤ S20x8x8192.size a := fun v1 k0_t4 v288 v290 k0_hw8 k0_h4 => k0_hw8.2.2.2.2 k0_h4

def k0_off42 (v108 : BitVec 32) : Fin 3 → Nat :=
  let v287 : Index := Scalar.indexCast v108
  let c0_119 : Index := 0#32
  let c0_120 : Index := 0#32
  ![v287.toNat, 0, 0]
def k0_cond5 (v110 : BitVec 32) : BitVec 1 :=
  let c0_i32_56 : BitVec 32 := 0#32
  let v117 : BitVec 1 := Scalar.cmpi .eq v110 c0_i32_56
  let v118 : BitVec 32 := Scalar.extui v117
  let c0_i32_57 : BitVec 32 := 0#32
  let v119 : BitVec 1 := Scalar.cmpi .ne v118 c0_i32_57
  v119

def k0_off43 (v108 : BitVec 32) : Fin 3 → Nat :=
  let v290 : Index := Scalar.indexCast v108
  let c0_121 : Index := 0#32
  let c0_122 : Index := 0#32
  ![v290.toNat, 0, 0]

def k0_chk9 (v108 : BitVec 32) (v110 : BitVec 32) : Prop :=
  (∀ (k0_h5 : k0_cond5 v110 = 1#1), ∀ a, (k0_off42 v108) a + S1x32x96.size a ≤ S20x32x96.size a) ∧
  (∀ (k0_h5 : k0_cond5 v110 = 1#1), ∀ a, (k0_off43 v108) a + S1x8x96.size a ≤ S20x8x96.size a)
theorem k0_off42_inb : ∀ (v108 : BitVec 32) (v110 : BitVec 32) (k0_hw9 : k0_chk9 v108 v110), ∀ (k0_h5 : k0_cond5 v110 = 1#1), ∀ a, (k0_off42 v108) a + S1x32x96.size a ≤ S20x32x96.size a := fun v108 v110 k0_hw9 k0_h5 => k0_hw9.1 k0_h5
theorem k0_off43_inb : ∀ (v108 : BitVec 32) (v110 : BitVec 32) (k0_hw9 : k0_chk9 v108 v110), ∀ (k0_h5 : k0_cond5 v110 = 1#1), ∀ a, (k0_off43 v108) a + S1x8x96.size a ≤ S20x8x96.size a := fun v108 v110 k0_hw9 k0_h5 => k0_hw9.2 k0_h5

def k0_off44 (v1 : BitVec 32) (k0_t4 : Fin (k0_t4_loop v1).trips) : Fin 1 → Nat :=
  let c0_i32_47 : BitVec 32 := 0#32
  let c1_i32_50 : BitVec 32 := 1#32
  let arg23 : BitVec 32 := Scf.iv c0_i32_47 c1_i32_50 k0_t4
  let v120 : Index := Scalar.indexCast arg23
  ![v120.toNat]
def k0_off45 (v1 : BitVec 32) (k0_t4 : Fin (k0_t4_loop v1).trips) : Fin 2 → Nat :=
  let c0_i32_47 : BitVec 32 := 0#32
  let c1_i32_50 : BitVec 32 := 1#32
  let arg23 : BitVec 32 := Scf.iv c0_i32_47 c1_i32_50 k0_t4
  let c4_i32_58 : BitVec 32 := 4#32
  let v124 : BitVec 32 := Scalar.remsi arg23 c4_i32_58
  let c0_i32_60 : BitVec 32 := 0#32
  ![v124.toNat, 0]
def k0_off46 (v1 : BitVec 32) (k0_t4 : Fin (k0_t4_loop v1).trips) : Fin 3 → Nat :=
  let c0_i32_47 : BitVec 32 := 0#32
  let c1_i32_50 : BitVec 32 := 1#32
  let arg23 : BitVec 32 := Scf.iv c0_i32_47 c1_i32_50 k0_t4
  let c4_i32_58 : BitVec 32 := 4#32
  let v124 : BitVec 32 := Scalar.remsi arg23 c4_i32_58
  let c0_i32_61 : BitVec 32 := 0#32
  let c0_i32_62 : BitVec 32 := 0#32
  ![v124.toNat, 0, 0]
def k0_off47 (v121 : BitVec 32) (v123 : BitVec 32) : Fin 3 → Nat :=
  let c0_i32_63 : BitVec 32 := 0#32
  let c1024_i32 : BitVec 32 := 1024#32
  let v125 : BitVec 32 := Scalar.muli v123 c1024_i32
  ![v121.toNat, 0, v125.toNat]

def k0_off48 (v1 : BitVec 32) (k0_t4 : Fin (k0_t4_loop v1).trips) : Fin 2 → Nat :=
  let c0_i32_47 : BitVec 32 := 0#32
  let c1_i32_50 : BitVec 32 := 1#32
  let arg23 : BitVec 32 := Scf.iv c0_i32_47 c1_i32_50 k0_t4
  let c4_i32_58 : BitVec 32 := 4#32
  let v124 : BitVec 32 := Scalar.remsi arg23 c4_i32_58
  let c1_i32_64 : BitVec 32 := 1#32
  ![v124.toNat, 1]
def k0_off49 (v1 : BitVec 32) (k0_t4 : Fin (k0_t4_loop v1).trips) : Fin 4 → Nat :=
  let c0_i32_47 : BitVec 32 := 0#32
  let c1_i32_50 : BitVec 32 := 1#32
  let arg23 : BitVec 32 := Scf.iv c0_i32_47 c1_i32_50 k0_t4
  let c4_i32_58 : BitVec 32 := 4#32
  let v124 : BitVec 32 := Scalar.remsi arg23 c4_i32_58
  let c0_i32_65 : BitVec 32 := 0#32
  let c0_i32_66 : BitVec 32 := 0#32
  let c0_i32_67 : BitVec 32 := 0#32
  ![v124.toNat, 0, 0, 0]
def k0_off50 (v121 : BitVec 32) (v123 : BitVec 32) : Fin 4 → Nat :=
  let c0_i32_68 : BitVec 32 := 0#32
  let c64_i32 : BitVec 32 := 64#32
  let v126 : BitVec 32 := Scalar.muli v123 c64_i32
  let c0_i32_69 : BitVec 32 := 0#32
  ![v121.toNat, 0, v126.toNat, 0]
def k0_off51 (v1 : BitVec 32) (k0_t4 : Fin (k0_t4_loop v1).trips) : Fin 2 → Nat :=
  let c0_i32_47 : BitVec 32 := 0#32
  let c1_i32_50 : BitVec 32 := 1#32
  let arg23 : BitVec 32 := Scf.iv c0_i32_47 c1_i32_50 k0_t4
  let c4_i32_58 : BitVec 32 := 4#32
  let v124 : BitVec 32 := Scalar.remsi arg23 c4_i32_58
  let c2_i32_70 : BitVec 32 := 2#32
  ![v124.toNat, 2]
def k0_off52 (v1 : BitVec 32) (k0_t4 : Fin (k0_t4_loop v1).trips) : Fin 3 → Nat :=
  let c0_i32_47 : BitVec 32 := 0#32
  let c1_i32_50 : BitVec 32 := 1#32
  let arg23 : BitVec 32 := Scf.iv c0_i32_47 c1_i32_50 k0_t4
  let c4_i32_58 : BitVec 32 := 4#32
  let v124 : BitVec 32 := Scalar.remsi arg23 c4_i32_58
  let c0_i32_71 : BitVec 32 := 0#32
  let c0_i32_72 : BitVec 32 := 0#32
  ![v124.toNat, 0, 0]
def k0_off53 (v121 : BitVec 32) (v123 : BitVec 32) : Fin 3 → Nat :=
  let c0_i32_73 : BitVec 32 := 0#32
  let c1024_i32_59 : BitVec 32 := 1024#32
  let v127 : BitVec 32 := Scalar.muli v123 c1024_i32_59
  ![v121.toNat, 0, v127.toNat]

def k0_chk10 (v121 : BitVec 32) (v123 : BitVec 32) : Prop :=
  (∀ a, (k0_off47 v121 v123) a + S1x768x1024.size a ≤ S20x768x8192.size a) ∧
  (∀ (hinb : ∀ a, (k0_off47 v121 v123) a + S1x768x1024.size a ≤ S20x768x8192.size a), (Rect.unit (s := S20x768x8192) (k0_off47 v121 v123) S1x768x1024.size hinb).WholeWords (EltTy.packing .i8)) ∧
  (∀ a, (k0_off50 v121 v123) a + S1x48x64x128.size a ≤ S20x48x512x128.size a) ∧
  (∀ (hinb : ∀ a, (k0_off50 v121 v123) a + S1x48x64x128.size a ≤ S20x48x512x128.size a), (Rect.unit (s := S20x48x512x128) (k0_off50 v121 v123) S1x48x64x128.size hinb).WholeWords (EltTy.packing .i8)) ∧
  (∀ a, (k0_off53 v121 v123) a + S1x8x1024.size a ≤ S20x8x8192.size a)
theorem k0_off47_inb : ∀ (v121 : BitVec 32) (v123 : BitVec 32) (k0_hw10 : k0_chk10 v121 v123), ∀ a, (k0_off47 v121 v123) a + S1x768x1024.size a ≤ S20x768x8192.size a := fun v121 v123 k0_hw10 => k0_hw10.1
theorem k0_off47_wordsi8 : ∀ (v121 : BitVec 32) (v123 : BitVec 32) (k0_hw10 : k0_chk10 v121 v123), (Rect.unit (s := S20x768x8192) (k0_off47 v121 v123) S1x768x1024.size (k0_off47_inb v121 v123 k0_hw10)).WholeWords (EltTy.packing .i8) := fun v121 v123 k0_hw10 => k0_hw10.2.1 (k0_off47_inb v121 v123 k0_hw10)
theorem k0_off50_inb : ∀ (v121 : BitVec 32) (v123 : BitVec 32) (k0_hw10 : k0_chk10 v121 v123), ∀ a, (k0_off50 v121 v123) a + S1x48x64x128.size a ≤ S20x48x512x128.size a := fun v121 v123 k0_hw10 => k0_hw10.2.2.1
theorem k0_off50_wordsi8 : ∀ (v121 : BitVec 32) (v123 : BitVec 32) (k0_hw10 : k0_chk10 v121 v123), (Rect.unit (s := S20x48x512x128) (k0_off50 v121 v123) S1x48x64x128.size (k0_off50_inb v121 v123 k0_hw10)).WholeWords (EltTy.packing .i8) := fun v121 v123 k0_hw10 => k0_hw10.2.2.2.1 (k0_off50_inb v121 v123 k0_hw10)
theorem k0_off53_inb : ∀ (v121 : BitVec 32) (v123 : BitVec 32) (k0_hw10 : k0_chk10 v121 v123), ∀ a, (k0_off53 v121 v123) a + S1x8x1024.size a ≤ S20x8x8192.size a := fun v121 v123 k0_hw10 => k0_hw10.2.2.2.2

def k0_off54 (v1 : BitVec 32) (k0_t4 : Fin (k0_t4_loop v1).trips) : Fin 3 → Nat :=
  let c0_i32_47 : BitVec 32 := 0#32
  let c1_i32_50 : BitVec 32 := 1#32
  let arg23 : BitVec 32 := Scf.iv c0_i32_47 c1_i32_50 k0_t4
  let c4_i32_52 : BitVec 32 := 4#32
  let v111 : BitVec 32 := Scalar.remsi arg23 c4_i32_52
  let v148 : Index := Scalar.indexCast v111
  let c0_76 : Index := 0#32
  let c0_77 : Index := 0#32
  ![v148.toNat, 0, 0]
def k0_off55 (v108 : BitVec 32) : Fin 1 → Nat :=
  let v157 : Index := Scalar.indexCast v108
  ![v157.toNat]

def k0_chk11 (v108 : BitVec 32) : Prop :=
  (∀ a, (k0_off55 v108) a + S1.size a ≤ S20.size a)
theorem k0_off55_inb : ∀ (v108 : BitVec 32) (k0_hw11 : k0_chk11 v108), ∀ a, (k0_off55 v108) a + S1.size a ≤ S20.size a := fun v108 k0_hw11 => k0_hw11

def k0_off56 (v1 : BitVec 32) (k0_t4 : Fin (k0_t4_loop v1).trips) : Fin 3 → Nat :=
  let c0_i32_47 : BitVec 32 := 0#32
  let c1_i32_50 : BitVec 32 := 1#32
  let arg23 : BitVec 32 := Scf.iv c0_i32_47 c1_i32_50 k0_t4
  let c4_i32_52 : BitVec 32 := 4#32
  let v111 : BitVec 32 := Scalar.remsi arg23 c4_i32_52
  let v189 : Index := Scalar.indexCast v111
  let c0_94 : Index := 0#32
  let c0_95 : Index := 0#32
  ![v189.toNat, 0, 0]
def k0_off57 (v1 : BitVec 32) (k0_t4 : Fin (k0_t4_loop v1).trips) : Fin 4 → Nat :=
  let c0_i32_47 : BitVec 32 := 0#32
  let c1_i32_50 : BitVec 32 := 1#32
  let arg23 : BitVec 32 := Scf.iv c0_i32_47 c1_i32_50 k0_t4
  let c4_i32_52 : BitVec 32 := 4#32
  let v111 : BitVec 32 := Scalar.remsi arg23 c4_i32_52
  let v200 : Index := Scalar.indexCast v111
  let c0_97 : Index := 0#32
  let c0_98 : Index := 0#32
  let c0_99 : Index := 0#32
  ![v200.toNat, 0, 0, 0]
def k0_off58 (v1 : BitVec 32) (k0_t4 : Fin (k0_t4_loop v1).trips) : Fin 4 → Nat :=
  let c0_i32_47 : BitVec 32 := 0#32
  let c1_i32_50 : BitVec 32 := 1#32
  let arg23 : BitVec 32 := Scf.iv c0_i32_47 c1_i32_50 k0_t4
  let c4_i32_52 : BitVec 32 := 4#32
  let v111 : BitVec 32 := Scalar.remsi arg23 c4_i32_52
  let v203 : Index := Scalar.indexCast v111
  let c0_100 : Index := 0#32
  let c32 : Index := 32#32
  let c0_101 : Index := 0#32
  ![v203.toNat, 0, 32, 0]
def k0_off59 (v1 : BitVec 32) (k0_t4 : Fin (k0_t4_loop v1).trips) : Fin 1 → Nat :=
  let c0_i32_47 : BitVec 32 := 0#32
  let c1_i32_50 : BitVec 32 := 1#32
  let arg23 : BitVec 32 := Scf.iv c0_i32_47 c1_i32_50 k0_t4
  let c1_i32_114 : BitVec 32 := 1#32
  let v278 : BitVec 32 := Scalar.addi arg23 c1_i32_114
  let c1_i32_115 : BitVec 32 := 1#32
  let v279 : BitVec 32 := Scalar.subi v1 c1_i32_115
  let v280 : BitVec 32 := Scalar.minsi v278 v279
  let v281 : Index := Scalar.indexCast v280
  ![v281.toNat]
def k0_off60 (v108 : BitVec 32) : Fin 3 → Nat :=
  let v324 : Index := Scalar.indexCast v108
  let c0_132 : Index := 0#32
  let c0_133 : Index := 0#32
  ![v324.toNat, 0, 0]
def k0_cond6 (v1 : BitVec 32) (k0_t4 : Fin (k0_t4_loop v1).trips) (v282 : BitVec 32) : BitVec 1 :=
  let c0_i32_47 : BitVec 32 := 0#32
  let c1_i32_50 : BitVec 32 := 1#32
  let arg23 : BitVec 32 := Scf.iv c0_i32_47 c1_i32_50 k0_t4
  let c1_i32_113 : BitVec 32 := 1#32
  let v276 : BitVec 32 := Scalar.addi arg23 c1_i32_113
  let v277 : BitVec 1 := Scalar.cmpi .eq v276 v1
  let c0_i32_116 : BitVec 32 := 0#32
  let v283 : BitVec 1 := Scalar.cmpi .eq v282 c0_i32_116
  let v284 : BitVec 1 := Scalar.ori v277 v283
  let v285 : BitVec 32 := Scalar.extui v284
  let c0_i32_117 : BitVec 32 := 0#32
  let v286 : BitVec 1 := Scalar.cmpi .ne v285 c0_i32_117
  v286

def k0_chk12 (v1 : BitVec 32) (k0_t4 : Fin (k0_t4_loop v1).trips) (v108 : BitVec 32) (v282 : BitVec 32) : Prop :=
  (∀ (k0_h6 : k0_cond6 v1 k0_t4 v282 = 1#1), ∀ a, (k0_off60 v108) a + S1x32x96.size a ≤ S20x32x96.size a) ∧
  (∀ (k0_h6 : k0_cond6 v1 k0_t4 v282 = 1#1), ∀ (hinb : ∀ a, (k0_off60 v108) a + S1x32x96.size a ≤ S20x32x96.size a), (Rect.unit (s := S20x32x96) (k0_off60 v108) S1x32x96.size hinb).PackedRows (EltTy.packing .bf16))
theorem k0_off60_inb : ∀ (v1 : BitVec 32) (k0_t4 : Fin (k0_t4_loop v1).trips) (v108 : BitVec 32) (v282 : BitVec 32) (k0_hw12 : k0_chk12 v1 k0_t4 v108 v282), ∀ (k0_h6 : k0_cond6 v1 k0_t4 v282 = 1#1), ∀ a, (k0_off60 v108) a + S1x32x96.size a ≤ S20x32x96.size a := fun v1 k0_t4 v108 v282 k0_hw12 k0_h6 => k0_hw12.1 k0_h6
theorem k0_off60_packedbf16 : ∀ (v1 : BitVec 32) (k0_t4 : Fin (k0_t4_loop v1).trips) (v108 : BitVec 32) (v282 : BitVec 32) (k0_hw12 : k0_chk12 v1 k0_t4 v108 v282), ∀ (k0_h6 : k0_cond6 v1 k0_t4 v282 = 1#1), (Rect.unit (s := S20x32x96) (k0_off60 v108) S1x32x96.size (k0_off60_inb v1 k0_t4 v108 v282 k0_hw12 k0_h6)).PackedRows (EltTy.packing .bf16) := fun v1 k0_t4 v108 v282 k0_hw12 k0_h6 => k0_hw12.2 k0_h6 (k0_off60_inb v1 k0_t4 v108 v282 k0_hw12 k0_h6)

@[reducible] def k0_t5_loop (v1 : BitVec 32) : Scf.Loop 32 :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let v101 : BitVec 32 := Scalar.addi c0_i32_47 v100
  let c1_i32_51 : BitVec 32 := 1#32
  ⟨v104, v101, c1_i32_51⟩
def k0_off61 (v1 : BitVec 32) (k0_t5 : Fin (k0_t5_loop v1).trips) : Fin 1 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let v107 : Index := Scalar.indexCast arg23
  ![v107.toNat]
def k0_off62 (v1 : BitVec 32) (k0_t5 : Fin (k0_t5_loop v1).trips) : Fin 1 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_53 : BitVec 32 := 4#32
  let v112 : BitVec 32 := Scalar.addi arg23 c4_i32_53
  let c1_i32_54 : BitVec 32 := 1#32
  let v113 : BitVec 32 := Scalar.subi v112 c1_i32_54
  let v287 : Index := Scalar.indexCast v113
  ![v287.toNat]
def k0_cond7 (v1 : BitVec 32) (k0_t5 : Fin (k0_t5_loop v1).trips) : BitVec 1 :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_53 : BitVec 32 := 4#32
  let v112 : BitVec 32 := Scalar.addi arg23 c4_i32_53
  let c1_i32_54 : BitVec 32 := 1#32
  let v113 : BitVec 32 := Scalar.subi v112 c1_i32_54
  let v114 : BitVec 1 := Scalar.cmpi .slt v113 v1
  let v115 : BitVec 32 := Scalar.extui v114
  let c0_i32_55 : BitVec 32 := 0#32
  let v116 : BitVec 1 := Scalar.cmpi .ne v115 c0_i32_55
  v116

def k0_off63 (v1 : BitVec 32) (k0_t5 : Fin (k0_t5_loop v1).trips) : Fin 2 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_53 : BitVec 32 := 4#32
  let v112 : BitVec 32 := Scalar.addi arg23 c4_i32_53
  let c1_i32_54 : BitVec 32 := 1#32
  let v113 : BitVec 32 := Scalar.subi v112 c1_i32_54
  let c4_i32_119 : BitVec 32 := 4#32
  let v291 : BitVec 32 := Scalar.remsi v113 c4_i32_119
  let c0_i32_123 : BitVec 32 := 0#32
  ![v291.toNat, 0]
def k0_off64 (v1 : BitVec 32) (k0_t5 : Fin (k0_t5_loop v1).trips) : Fin 3 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_53 : BitVec 32 := 4#32
  let v112 : BitVec 32 := Scalar.addi arg23 c4_i32_53
  let c1_i32_54 : BitVec 32 := 1#32
  let v113 : BitVec 32 := Scalar.subi v112 c1_i32_54
  let c4_i32_119 : BitVec 32 := 4#32
  let v291 : BitVec 32 := Scalar.remsi v113 c4_i32_119
  let c0_i32_124 : BitVec 32 := 0#32
  let c0_i32_125 : BitVec 32 := 0#32
  ![v291.toNat, 0, 0]
def k0_off65 (v288 : BitVec 32) (v290 : BitVec 32) : Fin 3 → Nat :=
  let c0_i32_126 : BitVec 32 := 0#32
  let c1024_i32_120 : BitVec 32 := 1024#32
  let v292 : BitVec 32 := Scalar.muli v290 c1024_i32_120
  ![v288.toNat, 0, v292.toNat]

def k0_off66 (v1 : BitVec 32) (k0_t5 : Fin (k0_t5_loop v1).trips) : Fin 2 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_53 : BitVec 32 := 4#32
  let v112 : BitVec 32 := Scalar.addi arg23 c4_i32_53
  let c1_i32_54 : BitVec 32 := 1#32
  let v113 : BitVec 32 := Scalar.subi v112 c1_i32_54
  let c4_i32_119 : BitVec 32 := 4#32
  let v291 : BitVec 32 := Scalar.remsi v113 c4_i32_119
  let c1_i32_127 : BitVec 32 := 1#32
  ![v291.toNat, 1]
def k0_off67 (v1 : BitVec 32) (k0_t5 : Fin (k0_t5_loop v1).trips) : Fin 4 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_53 : BitVec 32 := 4#32
  let v112 : BitVec 32 := Scalar.addi arg23 c4_i32_53
  let c1_i32_54 : BitVec 32 := 1#32
  let v113 : BitVec 32 := Scalar.subi v112 c1_i32_54
  let c4_i32_119 : BitVec 32 := 4#32
  let v291 : BitVec 32 := Scalar.remsi v113 c4_i32_119
  let c0_i32_128 : BitVec 32 := 0#32
  let c0_i32_129 : BitVec 32 := 0#32
  let c0_i32_130 : BitVec 32 := 0#32
  ![v291.toNat, 0, 0, 0]
def k0_off68 (v288 : BitVec 32) (v290 : BitVec 32) : Fin 4 → Nat :=
  let c0_i32_131 : BitVec 32 := 0#32
  let c64_i32_121 : BitVec 32 := 64#32
  let v293 : BitVec 32 := Scalar.muli v290 c64_i32_121
  let c0_i32_132 : BitVec 32 := 0#32
  ![v288.toNat, 0, v293.toNat, 0]
def k0_off69 (v1 : BitVec 32) (k0_t5 : Fin (k0_t5_loop v1).trips) : Fin 2 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_53 : BitVec 32 := 4#32
  let v112 : BitVec 32 := Scalar.addi arg23 c4_i32_53
  let c1_i32_54 : BitVec 32 := 1#32
  let v113 : BitVec 32 := Scalar.subi v112 c1_i32_54
  let c4_i32_119 : BitVec 32 := 4#32
  let v291 : BitVec 32 := Scalar.remsi v113 c4_i32_119
  let c2_i32_133 : BitVec 32 := 2#32
  ![v291.toNat, 2]
def k0_off70 (v1 : BitVec 32) (k0_t5 : Fin (k0_t5_loop v1).trips) : Fin 3 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_53 : BitVec 32 := 4#32
  let v112 : BitVec 32 := Scalar.addi arg23 c4_i32_53
  let c1_i32_54 : BitVec 32 := 1#32
  let v113 : BitVec 32 := Scalar.subi v112 c1_i32_54
  let c4_i32_119 : BitVec 32 := 4#32
  let v291 : BitVec 32 := Scalar.remsi v113 c4_i32_119
  let c0_i32_134 : BitVec 32 := 0#32
  let c0_i32_135 : BitVec 32 := 0#32
  ![v291.toNat, 0, 0]
def k0_off71 (v288 : BitVec 32) (v290 : BitVec 32) : Fin 3 → Nat :=
  let c0_i32_136 : BitVec 32 := 0#32
  let c1024_i32_122 : BitVec 32 := 1024#32
  let v294 : BitVec 32 := Scalar.muli v290 c1024_i32_122
  ![v288.toNat, 0, v294.toNat]

def k0_chk13 (v1 : BitVec 32) (k0_t5 : Fin (k0_t5_loop v1).trips) (v288 : BitVec 32) (v290 : BitVec 32) : Prop :=
  (∀ (k0_h7 : k0_cond7 v1 k0_t5 = 1#1), ∀ a, (k0_off65 v288 v290) a + S1x768x1024.size a ≤ S20x768x8192.size a) ∧
  (∀ (k0_h7 : k0_cond7 v1 k0_t5 = 1#1), ∀ (hinb : ∀ a, (k0_off65 v288 v290) a + S1x768x1024.size a ≤ S20x768x8192.size a), (Rect.unit (s := S20x768x8192) (k0_off65 v288 v290) S1x768x1024.size hinb).WholeWords (EltTy.packing .i8)) ∧
  (∀ (k0_h7 : k0_cond7 v1 k0_t5 = 1#1), ∀ a, (k0_off68 v288 v290) a + S1x48x64x128.size a ≤ S20x48x512x128.size a) ∧
  (∀ (k0_h7 : k0_cond7 v1 k0_t5 = 1#1), ∀ (hinb : ∀ a, (k0_off68 v288 v290) a + S1x48x64x128.size a ≤ S20x48x512x128.size a), (Rect.unit (s := S20x48x512x128) (k0_off68 v288 v290) S1x48x64x128.size hinb).WholeWords (EltTy.packing .i8)) ∧
  (∀ (k0_h7 : k0_cond7 v1 k0_t5 = 1#1), ∀ a, (k0_off71 v288 v290) a + S1x8x1024.size a ≤ S20x8x8192.size a)
theorem k0_off65_inb : ∀ (v1 : BitVec 32) (k0_t5 : Fin (k0_t5_loop v1).trips) (v288 : BitVec 32) (v290 : BitVec 32) (k0_hw13 : k0_chk13 v1 k0_t5 v288 v290), ∀ (k0_h7 : k0_cond7 v1 k0_t5 = 1#1), ∀ a, (k0_off65 v288 v290) a + S1x768x1024.size a ≤ S20x768x8192.size a := fun v1 k0_t5 v288 v290 k0_hw13 k0_h7 => k0_hw13.1 k0_h7
theorem k0_off65_wordsi8 : ∀ (v1 : BitVec 32) (k0_t5 : Fin (k0_t5_loop v1).trips) (v288 : BitVec 32) (v290 : BitVec 32) (k0_hw13 : k0_chk13 v1 k0_t5 v288 v290), ∀ (k0_h7 : k0_cond7 v1 k0_t5 = 1#1), (Rect.unit (s := S20x768x8192) (k0_off65 v288 v290) S1x768x1024.size (k0_off65_inb v1 k0_t5 v288 v290 k0_hw13 k0_h7)).WholeWords (EltTy.packing .i8) := fun v1 k0_t5 v288 v290 k0_hw13 k0_h7 => k0_hw13.2.1 k0_h7 (k0_off65_inb v1 k0_t5 v288 v290 k0_hw13 k0_h7)
theorem k0_off68_inb : ∀ (v1 : BitVec 32) (k0_t5 : Fin (k0_t5_loop v1).trips) (v288 : BitVec 32) (v290 : BitVec 32) (k0_hw13 : k0_chk13 v1 k0_t5 v288 v290), ∀ (k0_h7 : k0_cond7 v1 k0_t5 = 1#1), ∀ a, (k0_off68 v288 v290) a + S1x48x64x128.size a ≤ S20x48x512x128.size a := fun v1 k0_t5 v288 v290 k0_hw13 k0_h7 => k0_hw13.2.2.1 k0_h7
theorem k0_off68_wordsi8 : ∀ (v1 : BitVec 32) (k0_t5 : Fin (k0_t5_loop v1).trips) (v288 : BitVec 32) (v290 : BitVec 32) (k0_hw13 : k0_chk13 v1 k0_t5 v288 v290), ∀ (k0_h7 : k0_cond7 v1 k0_t5 = 1#1), (Rect.unit (s := S20x48x512x128) (k0_off68 v288 v290) S1x48x64x128.size (k0_off68_inb v1 k0_t5 v288 v290 k0_hw13 k0_h7)).WholeWords (EltTy.packing .i8) := fun v1 k0_t5 v288 v290 k0_hw13 k0_h7 => k0_hw13.2.2.2.1 k0_h7 (k0_off68_inb v1 k0_t5 v288 v290 k0_hw13 k0_h7)
theorem k0_off71_inb : ∀ (v1 : BitVec 32) (k0_t5 : Fin (k0_t5_loop v1).trips) (v288 : BitVec 32) (v290 : BitVec 32) (k0_hw13 : k0_chk13 v1 k0_t5 v288 v290), ∀ (k0_h7 : k0_cond7 v1 k0_t5 = 1#1), ∀ a, (k0_off71 v288 v290) a + S1x8x1024.size a ≤ S20x8x8192.size a := fun v1 k0_t5 v288 v290 k0_hw13 k0_h7 => k0_hw13.2.2.2.2 k0_h7

def k0_off72 (v108 : BitVec 32) : Fin 3 → Nat :=
  let v287 : Index := Scalar.indexCast v108
  let c0_119 : Index := 0#32
  let c0_120 : Index := 0#32
  ![v287.toNat, 0, 0]
def k0_cond8 (v110 : BitVec 32) : BitVec 1 :=
  let c0_i32_56 : BitVec 32 := 0#32
  let v117 : BitVec 1 := Scalar.cmpi .eq v110 c0_i32_56
  let v118 : BitVec 32 := Scalar.extui v117
  let c0_i32_57 : BitVec 32 := 0#32
  let v119 : BitVec 1 := Scalar.cmpi .ne v118 c0_i32_57
  v119

def k0_off73 (v108 : BitVec 32) : Fin 3 → Nat :=
  let v290 : Index := Scalar.indexCast v108
  let c0_121 : Index := 0#32
  let c0_122 : Index := 0#32
  ![v290.toNat, 0, 0]

def k0_chk14 (v108 : BitVec 32) (v110 : BitVec 32) : Prop :=
  (∀ (k0_h8 : k0_cond8 v110 = 1#1), ∀ a, (k0_off72 v108) a + S1x32x96.size a ≤ S20x32x96.size a) ∧
  (∀ (k0_h8 : k0_cond8 v110 = 1#1), ∀ a, (k0_off73 v108) a + S1x8x96.size a ≤ S20x8x96.size a)
theorem k0_off72_inb : ∀ (v108 : BitVec 32) (v110 : BitVec 32) (k0_hw14 : k0_chk14 v108 v110), ∀ (k0_h8 : k0_cond8 v110 = 1#1), ∀ a, (k0_off72 v108) a + S1x32x96.size a ≤ S20x32x96.size a := fun v108 v110 k0_hw14 k0_h8 => k0_hw14.1 k0_h8
theorem k0_off73_inb : ∀ (v108 : BitVec 32) (v110 : BitVec 32) (k0_hw14 : k0_chk14 v108 v110), ∀ (k0_h8 : k0_cond8 v110 = 1#1), ∀ a, (k0_off73 v108) a + S1x8x96.size a ≤ S20x8x96.size a := fun v108 v110 k0_hw14 k0_h8 => k0_hw14.2 k0_h8

def k0_off74 (v1 : BitVec 32) (k0_t5 : Fin (k0_t5_loop v1).trips) : Fin 1 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let v120 : Index := Scalar.indexCast arg23
  ![v120.toNat]
def k0_off75 (v1 : BitVec 32) (k0_t5 : Fin (k0_t5_loop v1).trips) : Fin 2 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_58 : BitVec 32 := 4#32
  let v124 : BitVec 32 := Scalar.remsi arg23 c4_i32_58
  let c0_i32_60 : BitVec 32 := 0#32
  ![v124.toNat, 0]
def k0_off76 (v1 : BitVec 32) (k0_t5 : Fin (k0_t5_loop v1).trips) : Fin 3 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_58 : BitVec 32 := 4#32
  let v124 : BitVec 32 := Scalar.remsi arg23 c4_i32_58
  let c0_i32_61 : BitVec 32 := 0#32
  let c0_i32_62 : BitVec 32 := 0#32
  ![v124.toNat, 0, 0]
def k0_off77 (v121 : BitVec 32) (v123 : BitVec 32) : Fin 3 → Nat :=
  let c0_i32_63 : BitVec 32 := 0#32
  let c1024_i32 : BitVec 32 := 1024#32
  let v125 : BitVec 32 := Scalar.muli v123 c1024_i32
  ![v121.toNat, 0, v125.toNat]

def k0_off78 (v1 : BitVec 32) (k0_t5 : Fin (k0_t5_loop v1).trips) : Fin 2 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_58 : BitVec 32 := 4#32
  let v124 : BitVec 32 := Scalar.remsi arg23 c4_i32_58
  let c1_i32_64 : BitVec 32 := 1#32
  ![v124.toNat, 1]
def k0_off79 (v1 : BitVec 32) (k0_t5 : Fin (k0_t5_loop v1).trips) : Fin 4 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_58 : BitVec 32 := 4#32
  let v124 : BitVec 32 := Scalar.remsi arg23 c4_i32_58
  let c0_i32_65 : BitVec 32 := 0#32
  let c0_i32_66 : BitVec 32 := 0#32
  let c0_i32_67 : BitVec 32 := 0#32
  ![v124.toNat, 0, 0, 0]
def k0_off80 (v121 : BitVec 32) (v123 : BitVec 32) : Fin 4 → Nat :=
  let c0_i32_68 : BitVec 32 := 0#32
  let c64_i32 : BitVec 32 := 64#32
  let v126 : BitVec 32 := Scalar.muli v123 c64_i32
  let c0_i32_69 : BitVec 32 := 0#32
  ![v121.toNat, 0, v126.toNat, 0]
def k0_off81 (v1 : BitVec 32) (k0_t5 : Fin (k0_t5_loop v1).trips) : Fin 2 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_58 : BitVec 32 := 4#32
  let v124 : BitVec 32 := Scalar.remsi arg23 c4_i32_58
  let c2_i32_70 : BitVec 32 := 2#32
  ![v124.toNat, 2]
def k0_off82 (v1 : BitVec 32) (k0_t5 : Fin (k0_t5_loop v1).trips) : Fin 3 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_58 : BitVec 32 := 4#32
  let v124 : BitVec 32 := Scalar.remsi arg23 c4_i32_58
  let c0_i32_71 : BitVec 32 := 0#32
  let c0_i32_72 : BitVec 32 := 0#32
  ![v124.toNat, 0, 0]
def k0_off83 (v121 : BitVec 32) (v123 : BitVec 32) : Fin 3 → Nat :=
  let c0_i32_73 : BitVec 32 := 0#32
  let c1024_i32_59 : BitVec 32 := 1024#32
  let v127 : BitVec 32 := Scalar.muli v123 c1024_i32_59
  ![v121.toNat, 0, v127.toNat]

def k0_chk15 (v121 : BitVec 32) (v123 : BitVec 32) : Prop :=
  (∀ a, (k0_off77 v121 v123) a + S1x768x1024.size a ≤ S20x768x8192.size a) ∧
  (∀ (hinb : ∀ a, (k0_off77 v121 v123) a + S1x768x1024.size a ≤ S20x768x8192.size a), (Rect.unit (s := S20x768x8192) (k0_off77 v121 v123) S1x768x1024.size hinb).WholeWords (EltTy.packing .i8)) ∧
  (∀ a, (k0_off80 v121 v123) a + S1x48x64x128.size a ≤ S20x48x512x128.size a) ∧
  (∀ (hinb : ∀ a, (k0_off80 v121 v123) a + S1x48x64x128.size a ≤ S20x48x512x128.size a), (Rect.unit (s := S20x48x512x128) (k0_off80 v121 v123) S1x48x64x128.size hinb).WholeWords (EltTy.packing .i8)) ∧
  (∀ a, (k0_off83 v121 v123) a + S1x8x1024.size a ≤ S20x8x8192.size a)
theorem k0_off77_inb : ∀ (v121 : BitVec 32) (v123 : BitVec 32) (k0_hw15 : k0_chk15 v121 v123), ∀ a, (k0_off77 v121 v123) a + S1x768x1024.size a ≤ S20x768x8192.size a := fun v121 v123 k0_hw15 => k0_hw15.1
theorem k0_off77_wordsi8 : ∀ (v121 : BitVec 32) (v123 : BitVec 32) (k0_hw15 : k0_chk15 v121 v123), (Rect.unit (s := S20x768x8192) (k0_off77 v121 v123) S1x768x1024.size (k0_off77_inb v121 v123 k0_hw15)).WholeWords (EltTy.packing .i8) := fun v121 v123 k0_hw15 => k0_hw15.2.1 (k0_off77_inb v121 v123 k0_hw15)
theorem k0_off80_inb : ∀ (v121 : BitVec 32) (v123 : BitVec 32) (k0_hw15 : k0_chk15 v121 v123), ∀ a, (k0_off80 v121 v123) a + S1x48x64x128.size a ≤ S20x48x512x128.size a := fun v121 v123 k0_hw15 => k0_hw15.2.2.1
theorem k0_off80_wordsi8 : ∀ (v121 : BitVec 32) (v123 : BitVec 32) (k0_hw15 : k0_chk15 v121 v123), (Rect.unit (s := S20x48x512x128) (k0_off80 v121 v123) S1x48x64x128.size (k0_off80_inb v121 v123 k0_hw15)).WholeWords (EltTy.packing .i8) := fun v121 v123 k0_hw15 => k0_hw15.2.2.2.1 (k0_off80_inb v121 v123 k0_hw15)
theorem k0_off83_inb : ∀ (v121 : BitVec 32) (v123 : BitVec 32) (k0_hw15 : k0_chk15 v121 v123), ∀ a, (k0_off83 v121 v123) a + S1x8x1024.size a ≤ S20x8x8192.size a := fun v121 v123 k0_hw15 => k0_hw15.2.2.2.2

def k0_off84 (v1 : BitVec 32) (k0_t5 : Fin (k0_t5_loop v1).trips) : Fin 3 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_52 : BitVec 32 := 4#32
  let v111 : BitVec 32 := Scalar.remsi arg23 c4_i32_52
  let v148 : Index := Scalar.indexCast v111
  let c0_76 : Index := 0#32
  let c0_77 : Index := 0#32
  ![v148.toNat, 0, 0]
def k0_off85 (v108 : BitVec 32) : Fin 1 → Nat :=
  let v157 : Index := Scalar.indexCast v108
  ![v157.toNat]

def k0_chk16 (v108 : BitVec 32) : Prop :=
  (∀ a, (k0_off85 v108) a + S1.size a ≤ S20.size a)
theorem k0_off85_inb : ∀ (v108 : BitVec 32) (k0_hw16 : k0_chk16 v108), ∀ a, (k0_off85 v108) a + S1.size a ≤ S20.size a := fun v108 k0_hw16 => k0_hw16

def k0_off86 (v1 : BitVec 32) (k0_t5 : Fin (k0_t5_loop v1).trips) : Fin 3 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_52 : BitVec 32 := 4#32
  let v111 : BitVec 32 := Scalar.remsi arg23 c4_i32_52
  let v189 : Index := Scalar.indexCast v111
  let c0_94 : Index := 0#32
  let c0_95 : Index := 0#32
  ![v189.toNat, 0, 0]
def k0_off87 (v1 : BitVec 32) (k0_t5 : Fin (k0_t5_loop v1).trips) : Fin 4 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_52 : BitVec 32 := 4#32
  let v111 : BitVec 32 := Scalar.remsi arg23 c4_i32_52
  let v200 : Index := Scalar.indexCast v111
  let c0_97 : Index := 0#32
  let c0_98 : Index := 0#32
  let c0_99 : Index := 0#32
  ![v200.toNat, 0, 0, 0]
def k0_off88 (v1 : BitVec 32) (k0_t5 : Fin (k0_t5_loop v1).trips) : Fin 4 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c4_i32_52 : BitVec 32 := 4#32
  let v111 : BitVec 32 := Scalar.remsi arg23 c4_i32_52
  let v203 : Index := Scalar.indexCast v111
  let c0_100 : Index := 0#32
  let c32 : Index := 32#32
  let c0_101 : Index := 0#32
  ![v203.toNat, 0, 32, 0]
def k0_off89 (v1 : BitVec 32) (k0_t5 : Fin (k0_t5_loop v1).trips) : Fin 1 → Nat :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c1_i32_114 : BitVec 32 := 1#32
  let v278 : BitVec 32 := Scalar.addi arg23 c1_i32_114
  let c1_i32_115 : BitVec 32 := 1#32
  let v279 : BitVec 32 := Scalar.subi v1 c1_i32_115
  let v280 : BitVec 32 := Scalar.minsi v278 v279
  let v281 : Index := Scalar.indexCast v280
  ![v281.toNat]

def k0_chk7_0 (v1 : BitVec 32) : Prop :=
  ((k0_t4_loop v1).OK) ∧
  (∀ k0_t4 : Fin (k0_t4_loop v1).trips, ∀ a, (k0_off31 v1 k0_t4) a + S1.size a ≤ S160.size a) ∧
  (∀ k0_t4 : Fin (k0_t4_loop v1).trips, ∀ (k0_h4 : k0_cond4 v1 k0_t4 = 1#1), ∀ a, (k0_off32 v1 k0_t4) a + S1.size a ≤ S160.size a) ∧
  (∀ k0_t4 : Fin (k0_t4_loop v1).trips, ∀ (k0_h4 : k0_cond4 v1 k0_t4 = 1#1), ∀ a, (k0_off33 v1 k0_t4) a + S1x1.size a ≤ S4x3.size a) ∧
  (∀ k0_t4 : Fin (k0_t4_loop v1).trips, ∀ (k0_h4 : k0_cond4 v1 k0_t4 = 1#1), ∀ a, (k0_off34 v1 k0_t4) a + S1x768x1024.size a ≤ S4x768x1024.size a) ∧
  (∀ k0_t4 : Fin (k0_t4_loop v1).trips, ∀ (k0_h4 : k0_cond4 v1 k0_t4 = 1#1), ∀ (hinb : ∀ a, (k0_off34 v1 k0_t4) a + S1x768x1024.size a ≤ S4x768x1024.size a), (Rect.unit (s := S4x768x1024) (k0_off34 v1 k0_t4) S1x768x1024.size hinb).WholeWords (EltTy.packing .i8)) ∧
  (∀ k0_t4 : Fin (k0_t4_loop v1).trips, ∀ (k0_h4 : k0_cond4 v1 k0_t4 = 1#1), ∀ a, (k0_off36 v1 k0_t4) a + S1x1.size a ≤ S4x3.size a) ∧
  (∀ k0_t4 : Fin (k0_t4_loop v1).trips, ∀ (k0_h4 : k0_cond4 v1 k0_t4 = 1#1), ∀ a, (k0_off37 v1 k0_t4) a + S1x48x64x128.size a ≤ S4x48x64x128.size a) ∧
  (∀ k0_t4 : Fin (k0_t4_loop v1).trips, ∀ (k0_h4 : k0_cond4 v1 k0_t4 = 1#1), ∀ (hinb : ∀ a, (k0_off37 v1 k0_t4) a + S1x48x64x128.size a ≤ S4x48x64x128.size a), (Rect.unit (s := S4x48x64x128) (k0_off37 v1 k0_t4) S1x48x64x128.size hinb).WholeWords (EltTy.packing .i8)) ∧
  (∀ k0_t4 : Fin (k0_t4_loop v1).trips, ∀ (k0_h4 : k0_cond4 v1 k0_t4 = 1#1), ∀ a, (k0_off39 v1 k0_t4) a + S1x1.size a ≤ S4x3.size a) ∧
  (∀ k0_t4 : Fin (k0_t4_loop v1).trips, ∀ (k0_h4 : k0_cond4 v1 k0_t4 = 1#1), ∀ a, (k0_off40 v1 k0_t4) a + S1x8x1024.size a ≤ S4x8x1024.size a) ∧
  (∀ k0_t4 : Fin (k0_t4_loop v1).trips, ∀ a, (k0_off44 v1 k0_t4) a + S1.size a ≤ S160.size a) ∧
  (∀ k0_t4 : Fin (k0_t4_loop v1).trips, ∀ a, (k0_off45 v1 k0_t4) a + S1x1.size a ≤ S4x3.size a) ∧
  (∀ k0_t4 : Fin (k0_t4_loop v1).trips, ∀ a, (k0_off46 v1 k0_t4) a + S1x768x1024.size a ≤ S4x768x1024.size a) ∧
  (∀ k0_t4 : Fin (k0_t4_loop v1).trips, ∀ (hinb : ∀ a, (k0_off46 v1 k0_t4) a + S1x768x1024.size a ≤ S4x768x1024.size a), (Rect.unit (s := S4x768x1024) (k0_off46 v1 k0_t4) S1x768x1024.size hinb).WholeWords (EltTy.packing .i8)) ∧
  (∀ k0_t4 : Fin (k0_t4_loop v1).trips, ∀ a, (k0_off48 v1 k0_t4) a + S1x1.size a ≤ S4x3.size a) ∧
  (∀ k0_t4 : Fin (k0_t4_loop v1).trips, ∀ a, (k0_off49 v1 k0_t4) a + S1x48x64x128.size a ≤ S4x48x64x128.size a) ∧
  (∀ k0_t4 : Fin (k0_t4_loop v1).trips, ∀ (hinb : ∀ a, (k0_off49 v1 k0_t4) a + S1x48x64x128.size a ≤ S4x48x64x128.size a), (Rect.unit (s := S4x48x64x128) (k0_off49 v1 k0_t4) S1x48x64x128.size hinb).WholeWords (EltTy.packing .i8)) ∧
  (∀ k0_t4 : Fin (k0_t4_loop v1).trips, ∀ a, (k0_off51 v1 k0_t4) a + S1x1.size a ≤ S4x3.size a) ∧
  (∀ k0_t4 : Fin (k0_t4_loop v1).trips, ∀ a, (k0_off52 v1 k0_t4) a + S1x8x1024.size a ≤ S4x8x1024.size a) ∧
  (∀ k0_t4 : Fin (k0_t4_loop v1).trips, ∀ a, (k0_off54 v1 k0_t4) a + S1x768x1024.size a ≤ S4x768x1024.size a) ∧
  (∀ k0_t4 : Fin (k0_t4_loop v1).trips, ∀ a, (k0_off56 v1 k0_t4) a + S1x8x1024.size a ≤ S4x8x1024.size a) ∧
  (∀ k0_t4 : Fin (k0_t4_loop v1).trips, ∀ a, (k0_off57 v1 k0_t4) a + S1x48x32x128.size a ≤ S4x48x64x128.size a) ∧
  (∀ k0_t4 : Fin (k0_t4_loop v1).trips, ∀ a, (k0_off58 v1 k0_t4) a + S1x48x32x128.size a ≤ S4x48x64x128.size a) ∧
  (∀ k0_t4 : Fin (k0_t4_loop v1).trips, ∀ a, (k0_off59 v1 k0_t4) a + S1.size a ≤ S160.size a) ∧
  ((k0_t5_loop v1).OK) ∧
  (∀ k0_t5 : Fin (k0_t5_loop v1).trips, ∀ a, (k0_off61 v1 k0_t5) a + S1.size a ≤ S160.size a) ∧
  (∀ k0_t5 : Fin (k0_t5_loop v1).trips, ∀ (k0_h7 : k0_cond7 v1 k0_t5 = 1#1), ∀ a, (k0_off62 v1 k0_t5) a + S1.size a ≤ S160.size a) ∧
  (∀ k0_t5 : Fin (k0_t5_loop v1).trips, ∀ (k0_h7 : k0_cond7 v1 k0_t5 = 1#1), ∀ a, (k0_off63 v1 k0_t5) a + S1x1.size a ≤ S4x3.size a) ∧
  (∀ k0_t5 : Fin (k0_t5_loop v1).trips, ∀ (k0_h7 : k0_cond7 v1 k0_t5 = 1#1), ∀ a, (k0_off64 v1 k0_t5) a + S1x768x1024.size a ≤ S4x768x1024.size a) ∧
  (∀ k0_t5 : Fin (k0_t5_loop v1).trips, ∀ (k0_h7 : k0_cond7 v1 k0_t5 = 1#1), ∀ (hinb : ∀ a, (k0_off64 v1 k0_t5) a + S1x768x1024.size a ≤ S4x768x1024.size a), (Rect.unit (s := S4x768x1024) (k0_off64 v1 k0_t5) S1x768x1024.size hinb).WholeWords (EltTy.packing .i8)) ∧
  (∀ k0_t5 : Fin (k0_t5_loop v1).trips, ∀ (k0_h7 : k0_cond7 v1 k0_t5 = 1#1), ∀ a, (k0_off66 v1 k0_t5) a + S1x1.size a ≤ S4x3.size a)
def k0_chk7_1 (v1 : BitVec 32) : Prop :=
  (∀ k0_t5 : Fin (k0_t5_loop v1).trips, ∀ (k0_h7 : k0_cond7 v1 k0_t5 = 1#1), ∀ a, (k0_off67 v1 k0_t5) a + S1x48x64x128.size a ≤ S4x48x64x128.size a) ∧
  (∀ k0_t5 : Fin (k0_t5_loop v1).trips, ∀ (k0_h7 : k0_cond7 v1 k0_t5 = 1#1), ∀ (hinb : ∀ a, (k0_off67 v1 k0_t5) a + S1x48x64x128.size a ≤ S4x48x64x128.size a), (Rect.unit (s := S4x48x64x128) (k0_off67 v1 k0_t5) S1x48x64x128.size hinb).WholeWords (EltTy.packing .i8)) ∧
  (∀ k0_t5 : Fin (k0_t5_loop v1).trips, ∀ (k0_h7 : k0_cond7 v1 k0_t5 = 1#1), ∀ a, (k0_off69 v1 k0_t5) a + S1x1.size a ≤ S4x3.size a) ∧
  (∀ k0_t5 : Fin (k0_t5_loop v1).trips, ∀ (k0_h7 : k0_cond7 v1 k0_t5 = 1#1), ∀ a, (k0_off70 v1 k0_t5) a + S1x8x1024.size a ≤ S4x8x1024.size a) ∧
  (∀ k0_t5 : Fin (k0_t5_loop v1).trips, ∀ a, (k0_off74 v1 k0_t5) a + S1.size a ≤ S160.size a) ∧
  (∀ k0_t5 : Fin (k0_t5_loop v1).trips, ∀ a, (k0_off75 v1 k0_t5) a + S1x1.size a ≤ S4x3.size a) ∧
  (∀ k0_t5 : Fin (k0_t5_loop v1).trips, ∀ a, (k0_off76 v1 k0_t5) a + S1x768x1024.size a ≤ S4x768x1024.size a) ∧
  (∀ k0_t5 : Fin (k0_t5_loop v1).trips, ∀ (hinb : ∀ a, (k0_off76 v1 k0_t5) a + S1x768x1024.size a ≤ S4x768x1024.size a), (Rect.unit (s := S4x768x1024) (k0_off76 v1 k0_t5) S1x768x1024.size hinb).WholeWords (EltTy.packing .i8)) ∧
  (∀ k0_t5 : Fin (k0_t5_loop v1).trips, ∀ a, (k0_off78 v1 k0_t5) a + S1x1.size a ≤ S4x3.size a) ∧
  (∀ k0_t5 : Fin (k0_t5_loop v1).trips, ∀ a, (k0_off79 v1 k0_t5) a + S1x48x64x128.size a ≤ S4x48x64x128.size a) ∧
  (∀ k0_t5 : Fin (k0_t5_loop v1).trips, ∀ (hinb : ∀ a, (k0_off79 v1 k0_t5) a + S1x48x64x128.size a ≤ S4x48x64x128.size a), (Rect.unit (s := S4x48x64x128) (k0_off79 v1 k0_t5) S1x48x64x128.size hinb).WholeWords (EltTy.packing .i8)) ∧
  (∀ k0_t5 : Fin (k0_t5_loop v1).trips, ∀ a, (k0_off81 v1 k0_t5) a + S1x1.size a ≤ S4x3.size a) ∧
  (∀ k0_t5 : Fin (k0_t5_loop v1).trips, ∀ a, (k0_off82 v1 k0_t5) a + S1x8x1024.size a ≤ S4x8x1024.size a) ∧
  (∀ k0_t5 : Fin (k0_t5_loop v1).trips, ∀ a, (k0_off84 v1 k0_t5) a + S1x768x1024.size a ≤ S4x768x1024.size a) ∧
  (∀ k0_t5 : Fin (k0_t5_loop v1).trips, ∀ a, (k0_off86 v1 k0_t5) a + S1x8x1024.size a ≤ S4x8x1024.size a) ∧
  (∀ k0_t5 : Fin (k0_t5_loop v1).trips, ∀ a, (k0_off87 v1 k0_t5) a + S1x48x32x128.size a ≤ S4x48x64x128.size a) ∧
  (∀ k0_t5 : Fin (k0_t5_loop v1).trips, ∀ a, (k0_off88 v1 k0_t5) a + S1x48x32x128.size a ≤ S4x48x64x128.size a) ∧
  (∀ k0_t5 : Fin (k0_t5_loop v1).trips, ∀ a, (k0_off89 v1 k0_t5) a + S1.size a ≤ S160.size a)
def k0_chk7 (v1 : BitVec 32) : Prop :=
  k0_chk7_0 v1 ∧
  k0_chk7_1 v1
theorem k0_t4_ok : ∀ (v1 : BitVec 32) (k0_hw7 : k0_chk7 v1), (k0_t4_loop v1).OK := fun v1 k0_hw7 => k0_hw7.1.1
theorem k0_off31_inb : ∀ (v1 : BitVec 32) (k0_hw7 : k0_chk7 v1) (k0_t4 : Fin (k0_t4_loop v1).trips), ∀ a, (k0_off31 v1 k0_t4) a + S1.size a ≤ S160.size a := fun v1 k0_hw7 k0_t4 => k0_hw7.1.2.1 k0_t4
theorem k0_off32_inb : ∀ (v1 : BitVec 32) (k0_hw7 : k0_chk7 v1) (k0_t4 : Fin (k0_t4_loop v1).trips), ∀ (k0_h4 : k0_cond4 v1 k0_t4 = 1#1), ∀ a, (k0_off32 v1 k0_t4) a + S1.size a ≤ S160.size a := fun v1 k0_hw7 k0_t4 k0_h4 => k0_hw7.1.2.2.1 k0_t4 k0_h4
theorem k0_off33_inb : ∀ (v1 : BitVec 32) (k0_hw7 : k0_chk7 v1) (k0_t4 : Fin (k0_t4_loop v1).trips), ∀ (k0_h4 : k0_cond4 v1 k0_t4 = 1#1), ∀ a, (k0_off33 v1 k0_t4) a + S1x1.size a ≤ S4x3.size a := fun v1 k0_hw7 k0_t4 k0_h4 => k0_hw7.1.2.2.2.1 k0_t4 k0_h4
theorem k0_off34_inb : ∀ (v1 : BitVec 32) (k0_hw7 : k0_chk7 v1) (k0_t4 : Fin (k0_t4_loop v1).trips), ∀ (k0_h4 : k0_cond4 v1 k0_t4 = 1#1), ∀ a, (k0_off34 v1 k0_t4) a + S1x768x1024.size a ≤ S4x768x1024.size a := fun v1 k0_hw7 k0_t4 k0_h4 => k0_hw7.1.2.2.2.2.1 k0_t4 k0_h4
theorem k0_off34_wordsi8 : ∀ (v1 : BitVec 32) (k0_hw7 : k0_chk7 v1) (k0_t4 : Fin (k0_t4_loop v1).trips), ∀ (k0_h4 : k0_cond4 v1 k0_t4 = 1#1), (Rect.unit (s := S4x768x1024) (k0_off34 v1 k0_t4) S1x768x1024.size (k0_off34_inb v1 k0_hw7 k0_t4 k0_h4)).WholeWords (EltTy.packing .i8) := fun v1 k0_hw7 k0_t4 k0_h4 => k0_hw7.1.2.2.2.2.2.1 k0_t4 k0_h4 (k0_off34_inb v1 k0_hw7 k0_t4 k0_h4)
theorem k0_off36_inb : ∀ (v1 : BitVec 32) (k0_hw7 : k0_chk7 v1) (k0_t4 : Fin (k0_t4_loop v1).trips), ∀ (k0_h4 : k0_cond4 v1 k0_t4 = 1#1), ∀ a, (k0_off36 v1 k0_t4) a + S1x1.size a ≤ S4x3.size a := fun v1 k0_hw7 k0_t4 k0_h4 => k0_hw7.1.2.2.2.2.2.2.1 k0_t4 k0_h4
theorem k0_off37_inb : ∀ (v1 : BitVec 32) (k0_hw7 : k0_chk7 v1) (k0_t4 : Fin (k0_t4_loop v1).trips), ∀ (k0_h4 : k0_cond4 v1 k0_t4 = 1#1), ∀ a, (k0_off37 v1 k0_t4) a + S1x48x64x128.size a ≤ S4x48x64x128.size a := fun v1 k0_hw7 k0_t4 k0_h4 => k0_hw7.1.2.2.2.2.2.2.2.1 k0_t4 k0_h4
theorem k0_off37_wordsi8 : ∀ (v1 : BitVec 32) (k0_hw7 : k0_chk7 v1) (k0_t4 : Fin (k0_t4_loop v1).trips), ∀ (k0_h4 : k0_cond4 v1 k0_t4 = 1#1), (Rect.unit (s := S4x48x64x128) (k0_off37 v1 k0_t4) S1x48x64x128.size (k0_off37_inb v1 k0_hw7 k0_t4 k0_h4)).WholeWords (EltTy.packing .i8) := fun v1 k0_hw7 k0_t4 k0_h4 => k0_hw7.1.2.2.2.2.2.2.2.2.1 k0_t4 k0_h4 (k0_off37_inb v1 k0_hw7 k0_t4 k0_h4)
theorem k0_off39_inb : ∀ (v1 : BitVec 32) (k0_hw7 : k0_chk7 v1) (k0_t4 : Fin (k0_t4_loop v1).trips), ∀ (k0_h4 : k0_cond4 v1 k0_t4 = 1#1), ∀ a, (k0_off39 v1 k0_t4) a + S1x1.size a ≤ S4x3.size a := fun v1 k0_hw7 k0_t4 k0_h4 => k0_hw7.1.2.2.2.2.2.2.2.2.2.1 k0_t4 k0_h4
theorem k0_off40_inb : ∀ (v1 : BitVec 32) (k0_hw7 : k0_chk7 v1) (k0_t4 : Fin (k0_t4_loop v1).trips), ∀ (k0_h4 : k0_cond4 v1 k0_t4 = 1#1), ∀ a, (k0_off40 v1 k0_t4) a + S1x8x1024.size a ≤ S4x8x1024.size a := fun v1 k0_hw7 k0_t4 k0_h4 => k0_hw7.1.2.2.2.2.2.2.2.2.2.2.1 k0_t4 k0_h4
theorem k0_off44_inb : ∀ (v1 : BitVec 32) (k0_hw7 : k0_chk7 v1) (k0_t4 : Fin (k0_t4_loop v1).trips), ∀ a, (k0_off44 v1 k0_t4) a + S1.size a ≤ S160.size a := fun v1 k0_hw7 k0_t4 => k0_hw7.1.2.2.2.2.2.2.2.2.2.2.2.1 k0_t4
theorem k0_off45_inb : ∀ (v1 : BitVec 32) (k0_hw7 : k0_chk7 v1) (k0_t4 : Fin (k0_t4_loop v1).trips), ∀ a, (k0_off45 v1 k0_t4) a + S1x1.size a ≤ S4x3.size a := fun v1 k0_hw7 k0_t4 => k0_hw7.1.2.2.2.2.2.2.2.2.2.2.2.2.1 k0_t4
theorem k0_off46_inb : ∀ (v1 : BitVec 32) (k0_hw7 : k0_chk7 v1) (k0_t4 : Fin (k0_t4_loop v1).trips), ∀ a, (k0_off46 v1 k0_t4) a + S1x768x1024.size a ≤ S4x768x1024.size a := fun v1 k0_hw7 k0_t4 => k0_hw7.1.2.2.2.2.2.2.2.2.2.2.2.2.2.1 k0_t4
theorem k0_off46_wordsi8 : ∀ (v1 : BitVec 32) (k0_hw7 : k0_chk7 v1) (k0_t4 : Fin (k0_t4_loop v1).trips), (Rect.unit (s := S4x768x1024) (k0_off46 v1 k0_t4) S1x768x1024.size (k0_off46_inb v1 k0_hw7 k0_t4)).WholeWords (EltTy.packing .i8) := fun v1 k0_hw7 k0_t4 => k0_hw7.1.2.2.2.2.2.2.2.2.2.2.2.2.2.2.1 k0_t4 (k0_off46_inb v1 k0_hw7 k0_t4)
theorem k0_off48_inb : ∀ (v1 : BitVec 32) (k0_hw7 : k0_chk7 v1) (k0_t4 : Fin (k0_t4_loop v1).trips), ∀ a, (k0_off48 v1 k0_t4) a + S1x1.size a ≤ S4x3.size a := fun v1 k0_hw7 k0_t4 => k0_hw7.1.2.2.2.2.2.2.2.2.2.2.2.2.2.2.2.1 k0_t4
theorem k0_off49_inb : ∀ (v1 : BitVec 32) (k0_hw7 : k0_chk7 v1) (k0_t4 : Fin (k0_t4_loop v1).trips), ∀ a, (k0_off49 v1 k0_t4) a + S1x48x64x128.size a ≤ S4x48x64x128.size a := fun v1 k0_hw7 k0_t4 => k0_hw7.1.2.2.2.2.2.2.2.2.2.2.2.2.2.2.2.2.1 k0_t4
theorem k0_off49_wordsi8 : ∀ (v1 : BitVec 32) (k0_hw7 : k0_chk7 v1) (k0_t4 : Fin (k0_t4_loop v1).trips), (Rect.unit (s := S4x48x64x128) (k0_off49 v1 k0_t4) S1x48x64x128.size (k0_off49_inb v1 k0_hw7 k0_t4)).WholeWords (EltTy.packing .i8) := fun v1 k0_hw7 k0_t4 => k0_hw7.1.2.2.2.2.2.2.2.2.2.2.2.2.2.2.2.2.2.1 k0_t4 (k0_off49_inb v1 k0_hw7 k0_t4)
theorem k0_off51_inb : ∀ (v1 : BitVec 32) (k0_hw7 : k0_chk7 v1) (k0_t4 : Fin (k0_t4_loop v1).trips), ∀ a, (k0_off51 v1 k0_t4) a + S1x1.size a ≤ S4x3.size a := fun v1 k0_hw7 k0_t4 => k0_hw7.1.2.2.2.2.2.2.2.2.2.2.2.2.2.2.2.2.2.2.1 k0_t4
theorem k0_off52_inb : ∀ (v1 : BitVec 32) (k0_hw7 : k0_chk7 v1) (k0_t4 : Fin (k0_t4_loop v1).trips), ∀ a, (k0_off52 v1 k0_t4) a + S1x8x1024.size a ≤ S4x8x1024.size a := fun v1 k0_hw7 k0_t4 => k0_hw7.1.2.2.2.2.2.2.2.2.2.2.2.2.2.2.2.2.2.2.2.1 k0_t4
theorem k0_off54_inb : ∀ (v1 : BitVec 32) (k0_hw7 : k0_chk7 v1) (k0_t4 : Fin (k0_t4_loop v1).trips), ∀ a, (k0_off54 v1 k0_t4) a + S1x768x1024.size a ≤ S4x768x1024.size a := fun v1 k0_hw7 k0_t4 => k0_hw7.1.2.2.2.2.2.2.2.2.2.2.2.2.2.2.2.2.2.2.2.2.1 k0_t4
theorem k0_off56_inb : ∀ (v1 : BitVec 32) (k0_hw7 : k0_chk7 v1) (k0_t4 : Fin (k0_t4_loop v1).trips), ∀ a, (k0_off56 v1 k0_t4) a + S1x8x1024.size a ≤ S4x8x1024.size a := fun v1 k0_hw7 k0_t4 => k0_hw7.1.2.2.2.2.2.2.2.2.2.2.2.2.2.2.2.2.2.2.2.2.2.1 k0_t4
theorem k0_off57_inb : ∀ (v1 : BitVec 32) (k0_hw7 : k0_chk7 v1) (k0_t4 : Fin (k0_t4_loop v1).trips), ∀ a, (k0_off57 v1 k0_t4) a + S1x48x32x128.size a ≤ S4x48x64x128.size a := fun v1 k0_hw7 k0_t4 => k0_hw7.1.2.2.2.2.2.2.2.2.2.2.2.2.2.2.2.2.2.2.2.2.2.2.1 k0_t4
theorem k0_off58_inb : ∀ (v1 : BitVec 32) (k0_hw7 : k0_chk7 v1) (k0_t4 : Fin (k0_t4_loop v1).trips), ∀ a, (k0_off58 v1 k0_t4) a + S1x48x32x128.size a ≤ S4x48x64x128.size a := fun v1 k0_hw7 k0_t4 => k0_hw7.1.2.2.2.2.2.2.2.2.2.2.2.2.2.2.2.2.2.2.2.2.2.2.2.1 k0_t4
theorem k0_off59_inb : ∀ (v1 : BitVec 32) (k0_hw7 : k0_chk7 v1) (k0_t4 : Fin (k0_t4_loop v1).trips), ∀ a, (k0_off59 v1 k0_t4) a + S1.size a ≤ S160.size a := fun v1 k0_hw7 k0_t4 => k0_hw7.1.2.2.2.2.2.2.2.2.2.2.2.2.2.2.2.2.2.2.2.2.2.2.2.2.1 k0_t4
theorem k0_t5_ok : ∀ (v1 : BitVec 32) (k0_hw7 : k0_chk7 v1), (k0_t5_loop v1).OK := fun v1 k0_hw7 => k0_hw7.1.2.2.2.2.2.2.2.2.2.2.2.2.2.2.2.2.2.2.2.2.2.2.2.2.2.1
theorem k0_off61_inb : ∀ (v1 : BitVec 32) (k0_hw7 : k0_chk7 v1) (k0_t5 : Fin (k0_t5_loop v1).trips), ∀ a, (k0_off61 v1 k0_t5) a + S1.size a ≤ S160.size a := fun v1 k0_hw7 k0_t5 => k0_hw7.1.2.2.2.2.2.2.2.2.2.2.2.2.2.2.2.2.2.2.2.2.2.2.2.2.2.2.1 k0_t5
theorem k0_off62_inb : ∀ (v1 : BitVec 32) (k0_hw7 : k0_chk7 v1) (k0_t5 : Fin (k0_t5_loop v1).trips), ∀ (k0_h7 : k0_cond7 v1 k0_t5 = 1#1), ∀ a, (k0_off62 v1 k0_t5) a + S1.size a ≤ S160.size a := fun v1 k0_hw7 k0_t5 k0_h7 => k0_hw7.1.2.2.2.2.2.2.2.2.2.2.2.2.2.2.2.2.2.2.2.2.2.2.2.2.2.2.2.1 k0_t5 k0_h7
theorem k0_off63_inb : ∀ (v1 : BitVec 32) (k0_hw7 : k0_chk7 v1) (k0_t5 : Fin (k0_t5_loop v1).trips), ∀ (k0_h7 : k0_cond7 v1 k0_t5 = 1#1), ∀ a, (k0_off63 v1 k0_t5) a + S1x1.size a ≤ S4x3.size a := fun v1 k0_hw7 k0_t5 k0_h7 => k0_hw7.1.2.2.2.2.2.2.2.2.2.2.2.2.2.2.2.2.2.2.2.2.2.2.2.2.2.2.2.2.1 k0_t5 k0_h7
theorem k0_off64_inb : ∀ (v1 : BitVec 32) (k0_hw7 : k0_chk7 v1) (k0_t5 : Fin (k0_t5_loop v1).trips), ∀ (k0_h7 : k0_cond7 v1 k0_t5 = 1#1), ∀ a, (k0_off64 v1 k0_t5) a + S1x768x1024.size a ≤ S4x768x1024.size a := fun v1 k0_hw7 k0_t5 k0_h7 => k0_hw7.1.2.2.2.2.2.2.2.2.2.2.2.2.2.2.2.2.2.2.2.2.2.2.2.2.2.2.2.2.2.1 k0_t5 k0_h7
theorem k0_off64_wordsi8 : ∀ (v1 : BitVec 32) (k0_hw7 : k0_chk7 v1) (k0_t5 : Fin (k0_t5_loop v1).trips), ∀ (k0_h7 : k0_cond7 v1 k0_t5 = 1#1), (Rect.unit (s := S4x768x1024) (k0_off64 v1 k0_t5) S1x768x1024.size (k0_off64_inb v1 k0_hw7 k0_t5 k0_h7)).WholeWords (EltTy.packing .i8) := fun v1 k0_hw7 k0_t5 k0_h7 => k0_hw7.1.2.2.2.2.2.2.2.2.2.2.2.2.2.2.2.2.2.2.2.2.2.2.2.2.2.2.2.2.2.2.1 k0_t5 k0_h7 (k0_off64_inb v1 k0_hw7 k0_t5 k0_h7)
theorem k0_off66_inb : ∀ (v1 : BitVec 32) (k0_hw7 : k0_chk7 v1) (k0_t5 : Fin (k0_t5_loop v1).trips), ∀ (k0_h7 : k0_cond7 v1 k0_t5 = 1#1), ∀ a, (k0_off66 v1 k0_t5) a + S1x1.size a ≤ S4x3.size a := fun v1 k0_hw7 k0_t5 k0_h7 => k0_hw7.1.2.2.2.2.2.2.2.2.2.2.2.2.2.2.2.2.2.2.2.2.2.2.2.2.2.2.2.2.2.2.2 k0_t5 k0_h7
theorem k0_off67_inb : ∀ (v1 : BitVec 32) (k0_hw7 : k0_chk7 v1) (k0_t5 : Fin (k0_t5_loop v1).trips), ∀ (k0_h7 : k0_cond7 v1 k0_t5 = 1#1), ∀ a, (k0_off67 v1 k0_t5) a + S1x48x64x128.size a ≤ S4x48x64x128.size a := fun v1 k0_hw7 k0_t5 k0_h7 => k0_hw7.2.1 k0_t5 k0_h7
theorem k0_off67_wordsi8 : ∀ (v1 : BitVec 32) (k0_hw7 : k0_chk7 v1) (k0_t5 : Fin (k0_t5_loop v1).trips), ∀ (k0_h7 : k0_cond7 v1 k0_t5 = 1#1), (Rect.unit (s := S4x48x64x128) (k0_off67 v1 k0_t5) S1x48x64x128.size (k0_off67_inb v1 k0_hw7 k0_t5 k0_h7)).WholeWords (EltTy.packing .i8) := fun v1 k0_hw7 k0_t5 k0_h7 => k0_hw7.2.2.1 k0_t5 k0_h7 (k0_off67_inb v1 k0_hw7 k0_t5 k0_h7)
theorem k0_off69_inb : ∀ (v1 : BitVec 32) (k0_hw7 : k0_chk7 v1) (k0_t5 : Fin (k0_t5_loop v1).trips), ∀ (k0_h7 : k0_cond7 v1 k0_t5 = 1#1), ∀ a, (k0_off69 v1 k0_t5) a + S1x1.size a ≤ S4x3.size a := fun v1 k0_hw7 k0_t5 k0_h7 => k0_hw7.2.2.2.1 k0_t5 k0_h7
theorem k0_off70_inb : ∀ (v1 : BitVec 32) (k0_hw7 : k0_chk7 v1) (k0_t5 : Fin (k0_t5_loop v1).trips), ∀ (k0_h7 : k0_cond7 v1 k0_t5 = 1#1), ∀ a, (k0_off70 v1 k0_t5) a + S1x8x1024.size a ≤ S4x8x1024.size a := fun v1 k0_hw7 k0_t5 k0_h7 => k0_hw7.2.2.2.2.1 k0_t5 k0_h7
theorem k0_off74_inb : ∀ (v1 : BitVec 32) (k0_hw7 : k0_chk7 v1) (k0_t5 : Fin (k0_t5_loop v1).trips), ∀ a, (k0_off74 v1 k0_t5) a + S1.size a ≤ S160.size a := fun v1 k0_hw7 k0_t5 => k0_hw7.2.2.2.2.2.1 k0_t5
theorem k0_off75_inb : ∀ (v1 : BitVec 32) (k0_hw7 : k0_chk7 v1) (k0_t5 : Fin (k0_t5_loop v1).trips), ∀ a, (k0_off75 v1 k0_t5) a + S1x1.size a ≤ S4x3.size a := fun v1 k0_hw7 k0_t5 => k0_hw7.2.2.2.2.2.2.1 k0_t5
theorem k0_off76_inb : ∀ (v1 : BitVec 32) (k0_hw7 : k0_chk7 v1) (k0_t5 : Fin (k0_t5_loop v1).trips), ∀ a, (k0_off76 v1 k0_t5) a + S1x768x1024.size a ≤ S4x768x1024.size a := fun v1 k0_hw7 k0_t5 => k0_hw7.2.2.2.2.2.2.2.1 k0_t5
theorem k0_off76_wordsi8 : ∀ (v1 : BitVec 32) (k0_hw7 : k0_chk7 v1) (k0_t5 : Fin (k0_t5_loop v1).trips), (Rect.unit (s := S4x768x1024) (k0_off76 v1 k0_t5) S1x768x1024.size (k0_off76_inb v1 k0_hw7 k0_t5)).WholeWords (EltTy.packing .i8) := fun v1 k0_hw7 k0_t5 => k0_hw7.2.2.2.2.2.2.2.2.1 k0_t5 (k0_off76_inb v1 k0_hw7 k0_t5)
theorem k0_off78_inb : ∀ (v1 : BitVec 32) (k0_hw7 : k0_chk7 v1) (k0_t5 : Fin (k0_t5_loop v1).trips), ∀ a, (k0_off78 v1 k0_t5) a + S1x1.size a ≤ S4x3.size a := fun v1 k0_hw7 k0_t5 => k0_hw7.2.2.2.2.2.2.2.2.2.1 k0_t5
theorem k0_off79_inb : ∀ (v1 : BitVec 32) (k0_hw7 : k0_chk7 v1) (k0_t5 : Fin (k0_t5_loop v1).trips), ∀ a, (k0_off79 v1 k0_t5) a + S1x48x64x128.size a ≤ S4x48x64x128.size a := fun v1 k0_hw7 k0_t5 => k0_hw7.2.2.2.2.2.2.2.2.2.2.1 k0_t5
theorem k0_off79_wordsi8 : ∀ (v1 : BitVec 32) (k0_hw7 : k0_chk7 v1) (k0_t5 : Fin (k0_t5_loop v1).trips), (Rect.unit (s := S4x48x64x128) (k0_off79 v1 k0_t5) S1x48x64x128.size (k0_off79_inb v1 k0_hw7 k0_t5)).WholeWords (EltTy.packing .i8) := fun v1 k0_hw7 k0_t5 => k0_hw7.2.2.2.2.2.2.2.2.2.2.2.1 k0_t5 (k0_off79_inb v1 k0_hw7 k0_t5)
theorem k0_off81_inb : ∀ (v1 : BitVec 32) (k0_hw7 : k0_chk7 v1) (k0_t5 : Fin (k0_t5_loop v1).trips), ∀ a, (k0_off81 v1 k0_t5) a + S1x1.size a ≤ S4x3.size a := fun v1 k0_hw7 k0_t5 => k0_hw7.2.2.2.2.2.2.2.2.2.2.2.2.1 k0_t5
theorem k0_off82_inb : ∀ (v1 : BitVec 32) (k0_hw7 : k0_chk7 v1) (k0_t5 : Fin (k0_t5_loop v1).trips), ∀ a, (k0_off82 v1 k0_t5) a + S1x8x1024.size a ≤ S4x8x1024.size a := fun v1 k0_hw7 k0_t5 => k0_hw7.2.2.2.2.2.2.2.2.2.2.2.2.2.1 k0_t5
theorem k0_off84_inb : ∀ (v1 : BitVec 32) (k0_hw7 : k0_chk7 v1) (k0_t5 : Fin (k0_t5_loop v1).trips), ∀ a, (k0_off84 v1 k0_t5) a + S1x768x1024.size a ≤ S4x768x1024.size a := fun v1 k0_hw7 k0_t5 => k0_hw7.2.2.2.2.2.2.2.2.2.2.2.2.2.2.1 k0_t5
theorem k0_off86_inb : ∀ (v1 : BitVec 32) (k0_hw7 : k0_chk7 v1) (k0_t5 : Fin (k0_t5_loop v1).trips), ∀ a, (k0_off86 v1 k0_t5) a + S1x8x1024.size a ≤ S4x8x1024.size a := fun v1 k0_hw7 k0_t5 => k0_hw7.2.2.2.2.2.2.2.2.2.2.2.2.2.2.2.1 k0_t5
theorem k0_off87_inb : ∀ (v1 : BitVec 32) (k0_hw7 : k0_chk7 v1) (k0_t5 : Fin (k0_t5_loop v1).trips), ∀ a, (k0_off87 v1 k0_t5) a + S1x48x32x128.size a ≤ S4x48x64x128.size a := fun v1 k0_hw7 k0_t5 => k0_hw7.2.2.2.2.2.2.2.2.2.2.2.2.2.2.2.2.1 k0_t5
theorem k0_off88_inb : ∀ (v1 : BitVec 32) (k0_hw7 : k0_chk7 v1) (k0_t5 : Fin (k0_t5_loop v1).trips), ∀ a, (k0_off88 v1 k0_t5) a + S1x48x32x128.size a ≤ S4x48x64x128.size a := fun v1 k0_hw7 k0_t5 => k0_hw7.2.2.2.2.2.2.2.2.2.2.2.2.2.2.2.2.2.1 k0_t5
theorem k0_off89_inb : ∀ (v1 : BitVec 32) (k0_hw7 : k0_chk7 v1) (k0_t5 : Fin (k0_t5_loop v1).trips), ∀ a, (k0_off89 v1 k0_t5) a + S1.size a ≤ S160.size a := fun v1 k0_hw7 k0_t5 => k0_hw7.2.2.2.2.2.2.2.2.2.2.2.2.2.2.2.2.2.2 k0_t5

def k0_off90 (v108 : BitVec 32) : Fin 3 → Nat :=
  let v324 : Index := Scalar.indexCast v108
  let c0_132 : Index := 0#32
  let c0_133 : Index := 0#32
  ![v324.toNat, 0, 0]
def k0_cond9 (v1 : BitVec 32) (k0_t5 : Fin (k0_t5_loop v1).trips) (v282 : BitVec 32) : BitVec 1 :=
  let c0_i32_47 : BitVec 32 := 0#32
  let v100 : BitVec 32 := Scalar.subi v1 c0_i32_47
  let c1_i32_49 : BitVec 32 := 1#32
  let v102 : BitVec 32 := Scalar.divsi v100 c1_i32_49
  let v103 : BitVec 32 := Scalar.muli v102 c1_i32_49
  let v104 : BitVec 32 := Scalar.addi c0_i32_47 v103
  let c1_i32_51 : BitVec 32 := 1#32
  let arg23 : BitVec 32 := Scf.iv v104 c1_i32_51 k0_t5
  let c1_i32_113 : BitVec 32 := 1#32
  let v276 : BitVec 32 := Scalar.addi arg23 c1_i32_113
  let v277 : BitVec 1 := Scalar.cmpi .eq v276 v1
  let c0_i32_116 : BitVec 32 := 0#32
  let v283 : BitVec 1 := Scalar.cmpi .eq v282 c0_i32_116
  let v284 : BitVec 1 := Scalar.ori v277 v283
  let v285 : BitVec 32 := Scalar.extui v284
  let c0_i32_117 : BitVec 32 := 0#32
  let v286 : BitVec 1 := Scalar.cmpi .ne v285 c0_i32_117
  v286

def k0_chk17 (v1 : BitVec 32) (k0_t5 : Fin (k0_t5_loop v1).trips) (v108 : BitVec 32) (v282 : BitVec 32) : Prop :=
  (∀ (k0_h9 : k0_cond9 v1 k0_t5 v282 = 1#1), ∀ a, (k0_off90 v108) a + S1x32x96.size a ≤ S20x32x96.size a) ∧
  (∀ (k0_h9 : k0_cond9 v1 k0_t5 v282 = 1#1), ∀ (hinb : ∀ a, (k0_off90 v108) a + S1x32x96.size a ≤ S20x32x96.size a), (Rect.unit (s := S20x32x96) (k0_off90 v108) S1x32x96.size hinb).PackedRows (EltTy.packing .bf16))
theorem k0_off90_inb : ∀ (v1 : BitVec 32) (k0_t5 : Fin (k0_t5_loop v1).trips) (v108 : BitVec 32) (v282 : BitVec 32) (k0_hw17 : k0_chk17 v1 k0_t5 v108 v282), ∀ (k0_h9 : k0_cond9 v1 k0_t5 v282 = 1#1), ∀ a, (k0_off90 v108) a + S1x32x96.size a ≤ S20x32x96.size a := fun v1 k0_t5 v108 v282 k0_hw17 k0_h9 => k0_hw17.1 k0_h9
theorem k0_off90_packedbf16 : ∀ (v1 : BitVec 32) (k0_t5 : Fin (k0_t5_loop v1).trips) (v108 : BitVec 32) (v282 : BitVec 32) (k0_hw17 : k0_chk17 v1 k0_t5 v108 v282), ∀ (k0_h9 : k0_cond9 v1 k0_t5 v282 = 1#1), (Rect.unit (s := S20x32x96) (k0_off90 v108) S1x32x96.size (k0_off90_inb v1 k0_t5 v108 v282 k0_hw17 k0_h9)).PackedRows (EltTy.packing .bf16) := fun v1 k0_t5 v108 v282 k0_hw17 k0_h9 => k0_hw17.2 k0_h9 (k0_off90_inb v1 k0_t5 v108 v282 k0_hw17 k0_h9)

abbrev stage0_0 : Fin 1 → Memref sig .tc .smem S20 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x32x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x8x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x8x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x8x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x32x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x8x96 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x8x48 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S20x8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S20x1x32x96 : Shape := ⟨4, ![20, 1, 32, 96]⟩
abbrev S20x1x8x96 : Shape := ⟨4, ![20, 1, 8, 96]⟩
abbrev S20x8192x8x96 : Shape := ⟨4, ![20, 8192, 8, 96]⟩
abbrev S20x8x96 : Shape := ⟨3, ![20, 8, 96]⟩
abbrev S20x8192x8x48 : Shape := ⟨4, ![20, 8192, 8, 48]⟩
abbrev S20x8192x8 : Shape := ⟨3, ![20, 8192, 8]⟩
abbrev S20 : Shape := ⟨1, ![20]⟩
abbrev S_ : Shape := ⟨0, ![]⟩
abbrev S20x1x8 : Shape := ⟨3, ![20, 1, 8]⟩
abbrev S20x1x8x1 : Shape := ⟨4, ![20, 1, 8, 1]⟩
abbrev S20x1x8x48 : Shape := ⟨4, ![20, 1, 8, 48]⟩
abbrev S20x1x8x4x96 : Shape := ⟨5, ![20, 1, 8, 4, 96]⟩
abbrev S20x8x8192x1x4 : Shape := ⟨5, ![20, 8, 8192, 1, 4]⟩
abbrev S20x8x4x1x8192 : Shape := ⟨5, ![20, 8, 4, 1, 8192]⟩
abbrev S20x8x1x1x4 : Shape := ⟨5, ![20, 8, 1, 1, 4]⟩
abbrev S20x8x4x1x1 : Shape := ⟨5, ![20, 8, 4, 1, 1]⟩
abbrev S8192 : Shape := ⟨1, ![8192]⟩
abbrev S1x8192 : Shape := ⟨2, ![1, 8192]⟩
abbrev S20x1 : Shape := ⟨2, ![20, 1]⟩
abbrev S20x8192 : Shape := ⟨2, ![20, 8192]⟩
abbrev S20x1x1x1x8192 : Shape := ⟨5, ![20, 1, 1, 1, 8192]⟩
abbrev S20x8x4x1 : Shape := ⟨4, ![20, 8, 4, 1]⟩
abbrev S20x8x8192 : Shape := ⟨3, ![20, 8, 8192]⟩
abbrev S20x8x1x1x8192 : Shape := ⟨5, ![20, 8, 1, 1, 8192]⟩
abbrev S20x8x48x4x1 : Shape := ⟨5, ![20, 8, 48, 4, 1]⟩
abbrev S20x1x8x4x48 : Shape := ⟨5, ![20, 1, 8, 4, 48]⟩
abbrev S20x1x8x4x48x1 : Shape := ⟨6, ![20, 1, 8, 4, 48, 1]⟩
abbrev S20x1x8x4x48x2 : Shape := ⟨6, ![20, 1, 8, 4, 48, 2]⟩
abbrev S20x8x96x4x1 : Shape := ⟨5, ![20, 8, 96, 4, 1]⟩

abbrev nBuf : Space → Nat
  | .hbm => 158
  | .vmem => 0
  | .smem => 0
  | _ => 0

abbrev hbmTy0_0 (i : Nat) : BufTy := match i % 128 with
  | 0 => ⟨S20x1x32x96, .bf16⟩
  | 1 => ⟨S20x1x8x96, .bf16⟩
  | 2 => ⟨S20x1x8x96, .bf16⟩
  | 3 => ⟨S20x8192x8x96, .i8⟩
  | 4 => ⟨S20x8x96, .f32⟩
  | 5 => ⟨S20x8192x8x48, .i8⟩
  | 6 => ⟨S20x8192x8, .f32⟩
  | 7 => ⟨S20, .i32⟩
  | 8 => ⟨S20x1x8x96, .f32⟩
  | 9 => ⟨S20x1x8x96, .f32⟩
  | 10 => ⟨S20x1x8x96, .f32⟩
  | 11 => ⟨S20x1x8x96, .f32⟩
  | 12 => ⟨S_, .f32⟩
  | 13 => ⟨S_, .f32⟩
  | 14 => ⟨S_, .f32⟩
  | 15 => ⟨S20x1x8x96, .f32⟩
  | 16 => ⟨S20x1x8x96, .f32⟩
  | 17 => ⟨S_, .f32⟩
  | 18 => ⟨S20x1x8x96, .f32⟩
  | 19 => ⟨S20x1x8x96, .f32⟩
  | 20 => ⟨S20x1x8x96, .i32⟩
  | 21 => ⟨S20x1x8x96, .i8⟩
  | 22 => ⟨S20x1x8x96, .f32⟩
  | 23 => ⟨S20x1x8x96, .f32⟩
  | 24 => ⟨S_, .f32⟩
  | 25 => ⟨S20x1x8, .f32⟩
  | 26 => ⟨S_, .f32⟩
  | 27 => ⟨S20x1x8, .f32⟩
  | 28 => ⟨S20x1x8, .i1⟩
  | 29 => ⟨S_, .f32⟩
  | 30 => ⟨S20x1x8, .f32⟩
  | 31 => ⟨S20x1x8, .f32⟩
  | 32 => ⟨S_, .f32⟩
  | 33 => ⟨S_, .f32⟩
  | 34 => ⟨S20x1x8, .f32⟩
  | 35 => ⟨S20x1x8, .f32⟩
  | 36 => ⟨S20x1x8x1, .f32⟩
  | 37 => ⟨S20x1x8x96, .f32⟩
  | 38 => ⟨S20x1x8x96, .f32⟩
  | 39 => ⟨S20x1x8x96, .f32⟩
  | 40 => ⟨S_, .f32⟩
  | 41 => ⟨S_, .f32⟩
  | 42 => ⟨S_, .f32⟩
  | 43 => ⟨S20x1x8x96, .f32⟩
  | 44 => ⟨S20x1x8x96, .f32⟩
  | 45 => ⟨S_, .f32⟩
  | 46 => ⟨S20x1x8x96, .f32⟩
  | 47 => ⟨S20x1x8x96, .f32⟩
  | 48 => ⟨S20x1x8x96, .i32⟩
  | 49 => ⟨S20x1x8x48, .i32⟩
  | 50 => ⟨S_, .i32⟩
  | 51 => ⟨S20x1x8x48, .i32⟩
  | 52 => ⟨S20x1x8x48, .i32⟩
  | 53 => ⟨S20x1x8x48, .i32⟩
  | 54 => ⟨S_, .i32⟩
  | 55 => ⟨S20x1x8x48, .i32⟩
  | 56 => ⟨S20x1x8x48, .i32⟩
  | 57 => ⟨S_, .i32⟩
  | 58 => ⟨S20x1x8x48, .i32⟩
  | 59 => ⟨S20x1x8x48, .i32⟩
  | 60 => ⟨S20x1x8x48, .i32⟩
  | 61 => ⟨S20x1x8x48, .i8⟩
  | 62 => ⟨S20x1x8x4x96, .bf16⟩
  | 63 => ⟨S20x8192x8x96, .i32⟩
  | 64 => ⟨S20x8192x8x96, .f32⟩
  | 65 => ⟨S20x8192x8x96, .bf16⟩
  | 66 => ⟨S20x8x96, .bf16⟩
  | 67 => ⟨S20x1x8x96, .bf16⟩
  | 68 => ⟨S20x8192x8x96, .bf16⟩
  | 69 => ⟨S20x8192x8x96, .bf16⟩
  | 70 => ⟨S20x8x8192x1x4, .f32⟩
  | 71 => ⟨S20x8x4x1x8192, .f32⟩
  | 72 => ⟨S_, .f32⟩
  | 73 => ⟨S20x8x4x1x8192, .f32⟩
  | 74 => ⟨S20x8x4x1x8192, .f32⟩
  | 75 => ⟨S20x8x1x1x4, .f32⟩
  | 76 => ⟨S20x8x4x1x1, .f32⟩
  | 77 => ⟨S_, .f32⟩
  | 78 => ⟨S20x8x4x1x1, .f32⟩
  | 79 => ⟨S20x8x4x1x1, .f32⟩
  | 80 => ⟨S8192, .i32⟩
  | 81 => ⟨S1x8192, .i32⟩
  | 82 => ⟨S20x1, .i32⟩
  | 83 => ⟨S20x8192, .i32⟩
  | 84 => ⟨S20x8192, .i32⟩
  | 85 => ⟨S20x8192, .i1⟩
  | 86 => ⟨S20x1x1x1x8192, .i1⟩
  | 87 => ⟨S_, .f32⟩
  | 88 => ⟨S_, .f32⟩
  | 89 => ⟨S20x8x4x1x8192, .i1⟩
  | 90 => ⟨S20x8x4x1x8192, .f32⟩
  | 91 => ⟨S20x8x4x1x8192, .f32⟩
  | 92 => ⟨S_, .f32⟩
  | 93 => ⟨S20x8x4x1, .f32⟩
  | 94 => ⟨S_, .f32⟩
  | 95 => ⟨S20x8x4x1, .f32⟩
  | 96 => ⟨S20x8x4x1, .f32⟩
  | 97 => ⟨S20x8x4x1x1, .f32⟩
  | 98 => ⟨S20x8x4x1x8192, .f32⟩
  | 99 => ⟨S20x8x4x1x8192, .f32⟩
  | 100 => ⟨S20x8x4x1x8192, .f32⟩
  | 101 => ⟨S20x8x4x1x1, .f32⟩
  | 102 => ⟨S20x8x4x1x1, .f32⟩
  | 103 => ⟨S_, .f32⟩
  | 104 => ⟨S20x8x4x1, .f32⟩
  | 105 => ⟨S20x8x4x1x1, .f32⟩
  | 106 => ⟨S_, .f32⟩
  | 107 => ⟨S20x8x4x1, .f32⟩
  | 108 => ⟨S20x8x4x1x1, .f32⟩
  | 109 => ⟨S20x8x4x1x1, .f32⟩
  | 110 => ⟨S20x8x4x1x8192, .f32⟩
  | 111 => ⟨S20x8x4x1x8192, .f32⟩
  | 112 => ⟨S20x8x4x1x1, .f32⟩
  | 113 => ⟨S20x8x8192, .f32⟩
  | 114 => ⟨S20x8x1x1x8192, .f32⟩
  | 115 => ⟨S20x8x4x1x8192, .f32⟩
  | 116 => ⟨S20x8x4x1x8192, .f32⟩
  | 117 => ⟨S20x8x4x1x8192, .bf16⟩
  | 118 => ⟨S20x8192x8x48, .i32⟩
  | 119 => ⟨S_, .i32⟩
  | 120 => ⟨S20x8192x8x48, .i32⟩
  | 121 => ⟨S20x8192x8x48, .i32⟩
  | 122 => ⟨S20x8192x8x48, .i32⟩
  | 123 => ⟨S_, .i32⟩
  | 124 => ⟨S20x8192x8x48, .i32⟩
  | 125 => ⟨S20x8192x8x48, .i32⟩
  | 126 => ⟨S_, .i32⟩
  | 127 => ⟨S20x8192x8x48, .i32⟩
  | _ => ⟨S20x1x32x96, .bf16⟩

abbrev hbmTy0_1 (i : Nat) : BufTy := match i % 128 with
  | 0 => ⟨S20x8192x8x48, .i1⟩
  | 1 => ⟨S_, .i32⟩
  | 2 => ⟨S20x8192x8x48, .i32⟩
  | 3 => ⟨S20x8192x8x48, .i32⟩
  | 4 => ⟨S20x8192x8x48, .i32⟩
  | 5 => ⟨S20x8192x8x48, .f32⟩
  | 6 => ⟨S20x8192x8x48, .bf16⟩
  | 7 => ⟨S_, .i32⟩
  | 8 => ⟨S20x8192x8x48, .i32⟩
  | 9 => ⟨S20x8192x8x48, .i1⟩
  | 10 => ⟨S_, .i32⟩
  | 11 => ⟨S20x8192x8x48, .i32⟩
  | 12 => ⟨S20x8192x8x48, .i32⟩
  | 13 => ⟨S20x8192x8x48, .i32⟩
  | 14 => ⟨S20x8192x8x48, .f32⟩
  | 15 => ⟨S20x8192x8x48, .bf16⟩
  | 16 => ⟨S20x8x48x4x1, .f32⟩
  | 17 => ⟨S20x1x8x4x48, .f32⟩
  | 18 => ⟨S20x8x48x4x1, .f32⟩
  | 19 => ⟨S20x1x8x4x48, .f32⟩
  | 20 => ⟨S20x1x8x4x48x1, .f32⟩
  | 21 => ⟨S20x1x8x4x48x1, .f32⟩
  | 22 => ⟨S20x1x8x4x48x2, .f32⟩
  | 23 => ⟨S20x1x8x4x96, .f32⟩
  | 24 => ⟨S20x8x4x1x1, .bf16⟩
  | 25 => ⟨S20x8x96x4x1, .f32⟩
  | 26 => ⟨S20x1x8x4x96, .f32⟩
  | 27 => ⟨S20x1x8x4x96, .f32⟩
  | 28 => ⟨S20x1x8x4x96, .bf16⟩
  | 29 => ⟨S20x1x32x96, .bf16⟩
  | _ => ⟨S20x1x32x96, .bf16⟩

abbrev hbmTy (i : Nat) : BufTy := match i / 128 with
  | 0 => hbmTy0_0 i
  | 1 => hbmTy0_1 i
  | _ => ⟨S20x1x32x96, .bf16⟩

abbrev bufTy : (tb : Table) → Fin (tcTables nBuf tb) → BufTy
  | .hbm, ⟨i, _⟩ => hbmTy i
  | _, _ => ⟨S20x1x32x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_cst_0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_call2_v0 : Ref sig .tc := ⟨.hbm, 33, rfl⟩
abbrev main_call2_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_5 : Ref sig .tc := ⟨.hbm, 40, rfl⟩
abbrev main_cst_6 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_7 : Ref sig .tc := ⟨.hbm, 54, rfl⟩
abbrev main_v25 : Ref sig .tc := ⟨.hbm, 55, rfl⟩
abbrev main_v26 : Ref sig .tc := ⟨.hbm, 56, rfl⟩
abbrev main_c_8 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_10 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_v54 : Ref sig .tc := ⟨.hbm, 91, rfl⟩
abbrev main_cst_12 : Ref sig .tc := ⟨.hbm, 92, rfl⟩
abbrev main_v55 : Ref sig .tc := ⟨.hbm, 93, rfl⟩
abbrev main_cst_13 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_14 : Ref sig .tc := ⟨.hbm, 103, rfl⟩
abbrev main_v64 : Ref sig .tc := ⟨.hbm, 104, rfl⟩
abbrev main_v65 : Ref sig .tc := ⟨.hbm, 105, rfl⟩
abbrev main_cst_15 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_16 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_17 : Ref sig .tc := ⟨.hbm, 123, rfl⟩
abbrev main_v81 : Ref sig .tc := ⟨.hbm, 124, rfl⟩
abbrev main_v82 : Ref sig .tc := ⟨.hbm, 125, rfl⟩
abbrev main_c_18 : Ref sig .tc := ⟨.hbm, 126, rfl⟩
abbrev main_v83 : Ref sig .tc := ⟨.hbm, 127, rfl⟩
abbrev main_v84 : Ref sig .tc := ⟨.hbm, 128, rfl⟩
abbrev main_c_19 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_c_20 : Ref sig .tc := ⟨.hbm, 135, rfl⟩
abbrev main_v90 : Ref sig .tc := ⟨.hbm, 136, rfl⟩
abbrev main_v91 : Ref sig .tc := ⟨.hbm, 137, rfl⟩
abbrev main_c_21 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩

abbrev nD : Nat := 1
abbrev τ : Topo := Topo.v7x

variable {F : FTy → Type} [FloatOps F]
-- ==== Proof.WordsK.lean ====
/- Hand-written. The words the kernel computes: the chunk count of a sequence, the slots of the ring, the places of the
   work list, and the side conditions the body assumes of them. -/
module

public import proofs.«01_k».proof.Proof.Gen.Kernel
public import Idealize.ShloMosaic.Lib.WordCmp
public import Idealize.ShloMosaic.Lib.LoopRemainder
public import Idealize.ShloMosaic.Lib.Affine

@[expose] public section

noncomputable section

namespace Cert.Kernel.Hand

open Cert.Kernel Cert.Kernel.Gen
open Idealize.ShloMosaic

/-! ## Small words -/

theorem toInt_of_small (x : BitVec 32) (h : x.toNat < 2147483648) : x.toInt = (x.toNat : Int) := by
  rw [BitVec.toInt_eq_toNat_cond]; split <;> omega

theorem remsi4_toNat (x : BitVec 32) (h : x.toNat < 2147483648) : (Scalar.remsi x 4#32).toNat = x.toNat % 4 := by
  have hc : ¬ IntOp.SDivCorner x 4#32 := by
    unfold IntOp.SDivCorner; rintro (h | ⟨-, h⟩) <;> revert h <;> decide
  have hx : x.msb = false := by
    rw [BitVec.msb_eq_decide]; simp; omega
  unfold Scalar.remsi IntOp.remsi
  rw [if_neg hc, BitVec.srem_eq, hx, show (4#32 : BitVec 32).msb = false by decide]
  simp [BitVec.toNat_umod]

theorem iv_toNat (k : ℕ) (h : k < 2147483648) : (Scf.iv 0#32 1#32 k).toNat = k := by
  unfold Scf.iv
  simp only [BitVec.zero_add, BitVec.mul_one, BitVec.toNat_ofNat]
  exact Nat.mod_eq_of_lt (by omega)

theorem iv_eq (k : ℕ) : Scf.iv 0#32 1#32 k = BitVec.ofNat 32 k := by
  unfold Scf.iv; simp

theorem ivp3_toNat (k : ℕ) (h : k < 1000) :
    (Scalar.subi (Scalar.addi (Scf.iv 0#32 1#32 k) 4#32) 1#32).toNat = k + 3 := by
  rw [iv_eq]
  simp only [Scalar.subi, Scalar.addi, IntOp.subi, IntOp.addi, BitVec.toNat_sub, BitVec.toNat_add, BitVec.toNat_ofNat]
  omega

/-- The count of chunks the kernel gives a sequence of length `v`: its chunk loop's trips. -/
abbrev nch (v : BitVec 32) : ℕ := (k0_t2_loop v).trips

theorem t4_trips (n : ℕ) (h : n < 1000) : (k0_t4_loop (BitVec.ofNat 32 n)).trips = n := by
  show Scf.trips _ _ _ = n
  unfold Scf.trips k0_t4_loop
  simp only [Scalar.muli_divsi_one]
  simp only [Scalar.subi, Scalar.addi, IntOp.subi, IntOp.addi, BitVec.sub_zero, BitVec.zero_add]
  rw [toInt_of_small _ (by rw [BitVec.toNat_ofNat]; omega), BitVec.toNat_ofNat,
    show (0#32 : BitVec 32).toInt = 0 by decide, show (1#32 : BitVec 32).toInt = 1 by decide]
  omega

theorem divsi1024_toInt (u : BitVec 32) : (Scalar.divsi u 1024#32).toInt = u.toInt.tdiv 1024 := by
  have hc : ¬ IntOp.SDivCorner u 1024#32 := by
    unfold IntOp.SDivCorner; rintro (h | ⟨-, h⟩) <;> revert h <;> decide
  unfold Scalar.divsi IntOp.divsi
  rw [if_neg hc, BitVec.toInt_sdiv_of_ne_or_ne _ _ (by right; decide)]
  rfl

theorem remsi1024_toInt (u : BitVec 32) : (Scalar.remsi u 1024#32).toInt = u.toInt.tmod 1024 := by
  have hc : ¬ IntOp.SDivCorner u 1024#32 := by
    unfold IntOp.SDivCorner; rintro (h | ⟨-, h⟩) <;> revert h <;> decide
  unfold Scalar.remsi IntOp.remsi
  rw [if_neg hc, BitVec.toInt_srem]
  rfl

/-- The chunk count's word: the ceiling of `v / 1024`, at least one. -/
theorem nch_ub (v : BitVec 32) (h : v.toInt ≤ 8192) :
    (k0_t2_loop v).lb = 0#32 ∧ (k0_t2_loop v).st = 1#32 ∧
    ∃ r : ℕ, 1 ≤ r ∧ r ≤ 8 ∧ v.toInt ≤ 1024 * r ∧ (k0_t2_loop v).ub = BitVec.ofNat 32 r := by
  refine ⟨rfl, rfl, ?_⟩
  have hu : (Scalar.subi (Scalar.addi v 1024#32) 1#32).toInt = v.toInt + 1023 := by
    simp only [Scalar.subi, Scalar.addi, IntOp.subi, IntOp.addi, BitVec.toInt_sub, BitVec.toInt_add]
    have h1 := BitVec.le_toInt v
    rw [show (1024#32 : BitVec 32).toInt = 1024 by decide, show (1#32 : BitVec 32).toInt = 1 by decide]
    simp only [Int.bmod_def] at *
    omega
  generalize hU : Scalar.subi (Scalar.addi v 1024#32) 1#32 = u at hu
  have hd := divsi1024_toInt u
  have hm := remsi1024_toInt u
  generalize hD : Scalar.divsi u 1024#32 = d at hd
  generalize hM : Scalar.remsi u 1024#32 = m at hm
  have hub : (k0_t2_loop v).ub = Scalar.maxsi (Scalar.select (Scalar.andi (Scalar.cmpi .ne
        (Scalar.subi (Scalar.extui (Scalar.cmpi .sgt u 0#32)) (Scalar.extui (Scalar.cmpi .slt u 0#32))) 1#32)
        (Scalar.cmpi .ne m 0#32)) (Scalar.subi d 1#32) d) 1#32 := by
    unfold k0_t2_loop
    simp only [Scalar.muli_divsi_one, hU, hD, hM]
    simp only [Scalar.subi, Scalar.addi, IntOp.subi, IntOp.addi, BitVec.sub_zero, BitVec.zero_add]
    rfl
  rw [hub]
  have hle := BitVec.le_toInt v
  have hmax : ∀ x : BitVec 32, Scalar.maxsi x 1#32 = if (1 : Int) ≤ x.toInt then x else 1#32 := fun x => by
    unfold Scalar.maxsi IntOp.maxsi
    by_cases hx : (1 : Int) < x.toInt
    · rw [if_pos (by simpa [BitVec.slt] using hx), if_pos (by omega)]
    · rw [if_neg (by simpa [BitVec.slt] using hx)]
      split
      · exact BitVec.eq_of_toInt_eq (by rw [show (1#32 : BitVec 32).toInt = 1 by decide]; omega)
      · rfl
  rw [hmax]
  by_cases hpos : 0 < u.toInt
  · have e1 : Scalar.cmpi .sgt u 0#32 = 1#1 := by
      show IntOp.cmpi .sgt u 0#32 = 1#1
      rw [WordCmp.cmpi_sgt_eq, decide_eq_true (by simpa using hpos)]; rfl
    have e2 : Scalar.cmpi .slt u 0#32 = 0#1 := by
      show IntOp.cmpi .slt u 0#32 = 0#1
      rw [WordCmp.cmpi_slt_eq, decide_eq_false (by simp; omega)]; rfl
    have e3 : Scalar.select (Scalar.andi (Scalar.cmpi .ne
        (Scalar.subi (Scalar.extui (Scalar.cmpi .sgt u 0#32)) (Scalar.extui (Scalar.cmpi .slt u 0#32))) 1#32)
        (Scalar.cmpi .ne m 0#32)) (Scalar.subi d 1#32) d = d := by
      rw [e1, e2]
      have : Scalar.cmpi .ne (Scalar.subi (Scalar.extui (1#1 : BitVec 1)) (Scalar.extui (0#1 : BitVec 1))) (1#32 : BitVec 32) = 0#1 := by decide
      rw [this]
      unfold Scalar.select Scalar.andi IntOp.andi
      rw [BitVec.zero_and]; rfl
    rw [e3]
    rw [Int.tdiv_eq_ediv_of_nonneg (by omega)] at hd
    split
    · refine ⟨d.toInt.toNat, by omega, by omega, by omega, ?_⟩
      apply BitVec.eq_of_toInt_eq
      have hn : (BitVec.ofNat 32 d.toInt.toNat).toNat = d.toInt.toNat := by rw [BitVec.toNat_ofNat]; omega
      rw [toInt_of_small (BitVec.ofNat 32 d.toInt.toNat) (by rw [hn]; omega), hn]; omega
    · refine ⟨1, by omega, by omega, by omega, rfl⟩
  · have hd0 : d.toInt ≤ 0 ∧ -2147483647 < d.toInt := by
      rw [hd]
      have hh : u.toInt = -(-u.toInt) := by omega
      rw [hh, Int.neg_tdiv, Int.tdiv_eq_ediv_of_nonneg (by omega)]
      omega
    have hs : ∀ c : BitVec 1, (Scalar.select c (Scalar.subi d 1#32) d).toInt ≤ 0 := fun c => by
      unfold Scalar.select
      split
      · simp only [Scalar.subi, IntOp.subi, BitVec.toInt_sub]
        rw [show (1#32 : BitVec 32).toInt = 1 by decide]
        simp only [Int.bmod_def]; omega
      · omega
    rw [if_neg (by have := hs (Scalar.andi (Scalar.cmpi .ne
        (Scalar.subi (Scalar.extui (Scalar.cmpi .sgt u 0#32)) (Scalar.extui (Scalar.cmpi .slt u 0#32))) 1#32)
        (Scalar.cmpi .ne m 0#32)); omega)]
    exact ⟨1, by omega, by omega, by omega, rfl⟩

theorem trips_of_ub (n : ℕ) (h : n < 1000) : Scf.trips 0#32 (BitVec.ofNat 32 n) 1#32 = n := by
  unfold Scf.trips
  rw [toInt_of_small _ (by rw [BitVec.toNat_ofNat]; omega), BitVec.toNat_ofNat,
    show (0#32 : BitVec 32).toInt = 0 by decide, show (1#32 : BitVec 32).toInt = 1 by decide]
  omega

theorem ok_of_ub (n : ℕ) (h : n < 1000) : Scf.OK 0#32 (BitVec.ofNat 32 n) 1#32 := by
  refine ⟨by decide, ?_⟩
  rw [trips_of_ub n h, show (0#32 : BitVec 32).toInt = 0 by decide, show (1#32 : BitVec 32).toInt = 1 by decide]
  omega

theorem nch_facts (v : BitVec 32) (h : v.toInt ≤ 8192) : 1 ≤ nch v ∧ nch v ≤ 8 ∧ v.toInt ≤ 1024 * nch v := by
  obtain ⟨hlb, hst, r, h1, h2, h3, hub⟩ := nch_ub v h
  have : nch v = r := by
    unfold nch Scf.Loop.trips; rw [hlb, hst, hub]; exact trips_of_ub r (by omega)
  rw [this]; exact ⟨h1, h2, h3⟩

theorem chk1 (v : BitVec 32) (h : v.toInt ≤ 8192) : k0_chk1 v := by
  obtain ⟨hlb, hst, r, h1, h2, h3, hub⟩ := nch_ub v h
  refine ⟨?_, ?_⟩
  · unfold Scf.Loop.OK; rw [hlb, hst, hub]; exact ok_of_ub r (by omega)
  · exact Scf.rem_ok _ _

/-! ## Conditions -/

theorem ne_extui (b : BitVec 1) : Scalar.cmpi .ne (Scalar.extui b : BitVec 32) 0#32 = b := by
  revert b; decide

theorem k_lt {n : ℕ} (hn : n < 1000) (k : Fin (k0_t4_loop (BitVec.ofNat 32 n)).trips) : k.val < n := by
  exact lt_of_lt_of_eq k.isLt (t4_trips n hn)

theorem slt_ofNat {a b : ℕ} (ha : a < 2000) (hb : b < 2000) :
    Scalar.cmpi .slt (BitVec.ofNat 32 a) (BitVec.ofNat 32 b) = 1#1 ↔ a < b := by
  show IntOp.cmpi .slt _ _ = _ ↔ _
  rw [WordCmp.cmpi_slt_ofNat (by omega) (by omega)]
  by_cases h : a < b
  · simp [h]
  · simp [h]

theorem eq_ofNat {a b : ℕ} (ha : a < 2000) (hb : b < 2000) :
    Scalar.cmpi .eq (BitVec.ofNat 32 a) (BitVec.ofNat 32 b) = 1#1 ↔ a = b := by
  show IntOp.cmpi .eq _ _ = _ ↔ _
  rw [WordCmp.cmpi_eq_eq_toNat, BitVec.toNat_ofNat, BitVec.toNat_ofNat, Nat.mod_eq_of_lt (by omega), Nat.mod_eq_of_lt (by omega)]
  by_cases h : a = b
  · simp [h]
  · simp [h]

theorem ivp3_eq (k : ℕ) (h : k < 1000) :
    Scalar.subi (Scalar.addi (Scf.iv 0#32 1#32 k) 4#32) 1#32 = BitVec.ofNat 32 (k + 3) := by
  apply BitVec.eq_of_toNat_eq
  rw [ivp3_toNat k h, BitVec.toNat_ofNat]; omega

theorem cond4_iff {n : ℕ} (hn : n < 1000) (k : Fin (k0_t4_loop (BitVec.ofNat 32 n)).trips) :
    k0_cond4 (BitVec.ofNat 32 n) k = 1#1 ↔ k.val + 3 < n := by
  unfold k0_cond4
  simp only [ne_extui]
  rw [ivp3_eq _ (by have := k_lt hn k; omega)]
  exact slt_ofNat (by have := k_lt hn k; omega) (by omega)

theorem cond5_iff (c : ℕ) (hc : c < 1000) : k0_cond5 (BitVec.ofNat 32 c) = 1#1 ↔ c = 0 := by
  unfold k0_cond5
  simp only [ne_extui]
  exact eq_ofNat (by omega) (by omega)

theorem cond6_iff {n : ℕ} (hn : n < 1000) (k : Fin (k0_t4_loop (BitVec.ofNat 32 n)).trips) (c : ℕ) (hc : c < 1000) :
    k0_cond6 (BitVec.ofNat 32 n) k (BitVec.ofNat 32 c) = 1#1 ↔ (k.val + 1 = n ∨ c = 0) := by
  unfold k0_cond6
  simp only [ne_extui]
  have h1 : Scalar.addi (Scf.iv 0#32 1#32 k) 1#32 = BitVec.ofNat 32 (k.val + 1) := by
    rw [iv_eq]; apply BitVec.eq_of_toNat_eq
    simp only [Scalar.addi, IntOp.addi, BitVec.toNat_add, BitVec.toNat_ofNat]; omega
  rw [h1]
  have e1 := eq_ofNat (a := k.val + 1) (b := n) (by have := k_lt hn k; omega) (by omega)
  have e2 := eq_ofNat (a := c) (b := 0) (by omega) (by omega)
  have ho : ∀ a b : BitVec 1, Scalar.ori a b = 1#1 ↔ (a = 1#1 ∨ b = 1#1) := by decide
  rw [ho, e1, e2]

theorem cond1_iff {n : ℕ} (hn : n < 1000) : k0_cond1 (BitVec.ofNat 32 n) = 1#1 ↔ 0 < n := by
  unfold k0_cond1; simp only [ne_extui]; exact slt_ofNat (by omega) (by omega)
theorem cond2_iff {n : ℕ} (hn : n < 1000) : k0_cond2 (BitVec.ofNat 32 n) = 1#1 ↔ 1 < n := by
  unfold k0_cond2; simp only [ne_extui]; exact slt_ofNat (by omega) (by omega)
theorem cond3_iff {n : ℕ} (hn : n < 1000) : k0_cond3 (BitVec.ofNat 32 n) = 1#1 ↔ 2 < n := by
  unfold k0_cond3; simp only [ne_extui]; exact slt_ofNat (by omega) (by omega)

/-! ## Bounds -/

theorem inbSem (s j : ℕ) (hs : s < 4) (hj : j < 3) : ∀ a, (![s, j] : Fin 2 → ℕ) a + S1x1.size a ≤ S4x3.size a
  | ⟨0, _⟩ => by show s + 1 ≤ 4; omega
  | ⟨1, _⟩ => by show j + 1 ≤ 3; omega
theorem inbK (s : ℕ) (hs : s < 4) : ∀ a, (![s, 0, 0] : Fin 3 → ℕ) a + S1x768x1024.size a ≤ S4x768x1024.size a
  | ⟨0, _⟩ => by show s + 1 ≤ 4; omega
  | ⟨1, _⟩ => by show 0 + 768 ≤ 768; omega
  | ⟨2, _⟩ => by show 0 + 1024 ≤ 1024; omega
theorem inbVS (s : ℕ) (hs : s < 4) : ∀ a, (![s, 0, 0] : Fin 3 → ℕ) a + S1x8x1024.size a ≤ S4x8x1024.size a
  | ⟨0, _⟩ => by show s + 1 ≤ 4; omega
  | ⟨1, _⟩ => by show 0 + 8 ≤ 8; omega
  | ⟨2, _⟩ => by show 0 + 1024 ≤ 1024; omega
theorem inbV (s : ℕ) (hs : s < 4) : ∀ a, (![s, 0, 0, 0] : Fin 4 → ℕ) a + S1x48x64x128.size a ≤ S4x48x64x128.size a
  | ⟨0, _⟩ => by show s + 1 ≤ 4; omega
  | ⟨1, _⟩ => by show 0 + 48 ≤ 48; omega
  | ⟨2, _⟩ => by show 0 + 64 ≤ 64; omega
  | ⟨3, _⟩ => by show 0 + 128 ≤ 128; omega
theorem inbV32 (s o : ℕ) (hs : s < 4) (ho : o ≤ 32) : ∀ a, (![s, 0, o, 0] : Fin 4 → ℕ) a + S1x48x32x128.size a ≤ S4x48x64x128.size a
  | ⟨0, _⟩ => by show s + 1 ≤ 4; omega
  | ⟨1, _⟩ => by show 0 + 48 ≤ 48; omega
  | ⟨2, _⟩ => by show o + 32 ≤ 64; omega
  | ⟨3, _⟩ => by show 0 + 128 ≤ 128; omega
theorem inbW (s : ℕ) (hs : s < 160) : ∀ a, (![s] : Fin 1 → ℕ) a + S1.size a ≤ S160.size a
  | ⟨0, _⟩ => by show s + 1 ≤ 160; omega
theorem inbL (s : ℕ) (hs : s < 20) : ∀ a, (![s] : Fin 1 → ℕ) a + S1.size a ≤ S20.size a
  | ⟨0, _⟩ => by show s + 1 ≤ 20; omega
theorem inbX (s : ℕ) (hs : s < 20) : ∀ a, (![s, 0, 0] : Fin 3 → ℕ) a + S1x32x96.size a ≤ S20x32x96.size a
  | ⟨0, _⟩ => by show s + 1 ≤ 20; omega
  | ⟨1, _⟩ => by show 0 + 32 ≤ 32; omega
  | ⟨2, _⟩ => by show 0 + 96 ≤ 96; omega
theorem inbN (s : ℕ) (hs : s < 20) : ∀ a, (![s, 0, 0] : Fin 3 → ℕ) a + S1x8x96.size a ≤ S20x8x96.size a
  | ⟨0, _⟩ => by show s + 1 ≤ 20; omega
  | ⟨1, _⟩ => by show 0 + 8 ≤ 8; omega
  | ⟨2, _⟩ => by show 0 + 96 ≤ 96; omega
theorem inbKt (b c : ℕ) (hb : b < 20) (hc : c < 8) :
    ∀ a, (![b, 0, c * 1024] : Fin 3 → ℕ) a + S1x768x1024.size a ≤ S20x768x8192.size a
  | ⟨0, _⟩ => by show b + 1 ≤ 20; omega
  | ⟨1, _⟩ => by show 0 + 768 ≤ 768; omega
  | ⟨2, _⟩ => by show c * 1024 + 1024 ≤ 8192; omega
theorem inbVs (b c : ℕ) (hb : b < 20) (hc : c < 8) :
    ∀ a, (![b, 0, c * 1024] : Fin 3 → ℕ) a + S1x8x1024.size a ≤ S20x8x8192.size a
  | ⟨0, _⟩ => by show b + 1 ≤ 20; omega
  | ⟨1, _⟩ => by show 0 + 8 ≤ 8; omega
  | ⟨2, _⟩ => by show c * 1024 + 1024 ≤ 8192; omega
theorem inbVt (b c : ℕ) (hb : b < 20) (hc : c < 8) :
    ∀ a, (![b, 0, c * 64, 0] : Fin 4 → ℕ) a + S1x48x64x128.size a ≤ S20x48x512x128.size a
  | ⟨0, _⟩ => by show b + 1 ≤ 20; omega
  | ⟨1, _⟩ => by show 0 + 48 ≤ 48; omega
  | ⟨2, _⟩ => by show c * 64 + 64 ≤ 512; omega
  | ⟨3, _⟩ => by show 0 + 128 ≤ 128; omega

theorem muli_toNat (c : ℕ) (hc : c < 8) (m : ℕ) (hm : m ≤ 1024) :
    (Scalar.muli (BitVec.ofNat 32 c) (BitVec.ofNat 32 m)).toNat = c * m := by
  have : c * m ≤ 8 * 1024 := Nat.mul_le_mul (by omega) hm
  simp only [Scalar.muli, IntOp.muli, BitVec.toNat_mul, BitVec.toNat_ofNat]
  rw [Nat.mod_eq_of_lt (a := c) (by omega), Nat.mod_eq_of_lt (a := m) (by omega), Nat.mod_eq_of_lt (by omega)]

theorem wwV (a c : ℕ) (hinb : ∀ x, (![a, 0, c * 64, 0] : Fin 4 → ℕ) x + S1x48x64x128.size x ≤ S20x48x512x128.size x) :
    (Rect.unit (s := S20x48x512x128) ![a, 0, c * 64, 0] S1x48x64x128.size hinb).WholeWords (EltTy.packing .i8) := by
  have h1 : 4 ∣ c * 64 := ⟨c * 16, by omega⟩
  have h2 : 4 ∣ 64 := by decide
  have hp : EltTy.packing .i8 = 4 := rfl
  refine Affine.words_of_packed (Affine.packed_dvd (by decide) ?_ ?_)
  · rw [hp, show (![a, 0, c * 64, 0] : Fin 4 → ℕ) (S20x48x512x128.rowAx (by decide)) = c * 64 from rfl]; exact h1
  · rw [hp, show S1x48x64x128.size (S20x48x512x128.rowAx (by decide)) = 64 from rfl]; exact h2

theorem chk10 (b c : ℕ) (hb : b < 20) (hc : c < 8) : k0_chk10 (BitVec.ofNat 32 b) (BitVec.ofNat 32 c) := by
  have e47 : k0_off47 (BitVec.ofNat 32 b) (BitVec.ofNat 32 c) = ![b, 0, c * 1024] := by
    unfold k0_off47; simp only []; rw [muli_toNat c hc 1024 (by omega), BitVec.toNat_ofNat, Nat.mod_eq_of_lt (by omega)]
  have e50 : k0_off50 (BitVec.ofNat 32 b) (BitVec.ofNat 32 c) = ![b, 0, c * 64, 0] := by
    unfold k0_off50; simp only []; rw [muli_toNat c hc 64 (by omega), BitVec.toNat_ofNat, Nat.mod_eq_of_lt (by omega)]
  have e53 : k0_off53 (BitVec.ofNat 32 b) (BitVec.ofNat 32 c) = ![b, 0, c * 1024] := by
    unfold k0_off53; simp only []; rw [muli_toNat c hc 1024 (by omega), BitVec.toNat_ofNat, Nat.mod_eq_of_lt (by omega)]
  unfold k0_chk10
  rw [e47, e50, e53]
  refine ⟨inbKt b c hb hc, fun h => ?_, inbVt b c hb hc, fun h => wwV b c h, inbVs b c hb hc⟩
  exact Affine.words_rows (by decide) rfl rfl

theorem chk4 (v : BitVec 32) (b c : ℕ) (hb : b < 20) (hc : c < 8) : k0_chk4 v (BitVec.ofNat 32 b) (BitVec.ofNat 32 c) := by
  have h := chk10 b c hb hc
  exact ⟨fun _ => h.1, fun _ => h.2.1, fun _ => h.2.2.1, fun _ => h.2.2.2.1, fun _ => h.2.2.2.2⟩
theorem chk5 (v : BitVec 32) (b c : ℕ) (hb : b < 20) (hc : c < 8) : k0_chk5 v (BitVec.ofNat 32 b) (BitVec.ofNat 32 c) := by
  have h := chk10 b c hb hc
  exact ⟨fun _ => h.1, fun _ => h.2.1, fun _ => h.2.2.1, fun _ => h.2.2.2.1, fun _ => h.2.2.2.2⟩
theorem chk6 (v : BitVec 32) (b c : ℕ) (hb : b < 20) (hc : c < 8) : k0_chk6 v (BitVec.ofNat 32 b) (BitVec.ofNat 32 c) := by
  have h := chk10 b c hb hc
  exact ⟨fun _ => h.1, fun _ => h.2.1, fun _ => h.2.2.1, fun _ => h.2.2.2.1, fun _ => h.2.2.2.2⟩
theorem chk8 (v : BitVec 32) (k : Fin (k0_t4_loop v).trips) (b c : ℕ) (hb : b < 20) (hc : c < 8) :
    k0_chk8 v k (BitVec.ofNat 32 b) (BitVec.ofNat 32 c) := by
  have h := chk10 b c hb hc
  exact ⟨fun _ => h.1, fun _ => h.2.1, fun _ => h.2.2.1, fun _ => h.2.2.2.1, fun _ => h.2.2.2.2⟩

theorem ofNat_toNat (b : ℕ) (hb : b < 1000) : (BitVec.ofNat 32 b).toNat = b := by
  rw [BitVec.toNat_ofNat]; omega

theorem chk9 (b : ℕ) (c : BitVec 32) (hb : b < 20) : k0_chk9 (BitVec.ofNat 32 b) c := by
  refine ⟨fun _ => ?_, fun _ => ?_⟩
  · exact inbX (BitVec.ofNat 32 b).toNat (by rw [ofNat_toNat b (by omega)]; exact hb)
  · exact inbN (BitVec.ofNat 32 b).toNat (by rw [ofNat_toNat b (by omega)]; exact hb)

theorem chk11 (b : ℕ) (hb : b < 20) : k0_chk11 (BitVec.ofNat 32 b) :=
  inbL (BitVec.ofNat 32 b).toNat (by rw [ofNat_toNat b (by omega)]; exact hb)

theorem chk12 (v : BitVec 32) (k : Fin (k0_t4_loop v).trips) (b : ℕ) (hb : b < 20) (w : BitVec 32) :
    k0_chk12 v k (BitVec.ofNat 32 b) w := by
  refine ⟨fun _ => inbX (BitVec.ofNat 32 b).toNat (by rw [ofNat_toNat b (by omega)]; exact hb), fun _ h => ?_⟩
  exact Affine.packed_rows (by decide) rfl rfl rfl rfl

theorem chk2 (p : ℕ) (hp : p < 160) : k0_chk2 (BitVec.ofNat 32 p) :=
  inbW (BitVec.ofNat 32 p).toNat (by rw [ofNat_toNat p (by omega)]; exact hp)

theorem slotW_lt (k : ℕ) (h : k < 1000) : (Scalar.remsi (Scf.iv 0#32 1#32 k) 4#32).toNat < 4 := by
  rw [remsi4_toNat _ (by rw [iv_toNat k (by omega)]; omega)]; omega
theorem slotI_lt (k : ℕ) (h : k < 1000) :
    (Scalar.remsi (Scalar.subi (Scalar.addi (Scf.iv 0#32 1#32 k) 4#32) 1#32) 4#32).toNat < 4 := by
  rw [remsi4_toNat _ (by rw [ivp3_toNat k (by omega)]; omega)]; omega

theorem slotW_eq (k : ℕ) (h : k < 1000) : (Scalar.remsi (Scf.iv 0#32 1#32 k) 4#32).toNat = k % 4 := by
  rw [remsi4_toNat _ (by rw [iv_toNat k (by omega)]; omega), iv_toNat k (by omega)]
theorem slotI_eq (k : ℕ) (h : k < 1000) :
    (Scalar.remsi (Scalar.subi (Scalar.addi (Scf.iv 0#32 1#32 k) 4#32) 1#32) 4#32).toNat = (k + 3) % 4 := by
  rw [remsi4_toNat _ (by rw [ivp3_toNat k (by omega)]; omega), ivp3_toNat k (by omega)]

/-- The place of the work list read for the last chunk test. -/
theorem off59_toNat (n k : ℕ) (hn : n < 1000) (hk : k < n) :
    (Scalar.minsi (Scalar.addi (Scf.iv 0#32 1#32 k) 1#32) (Scalar.subi (BitVec.ofNat 32 n) 1#32)).toNat = min (k + 1) (n - 1) := by
  have h1 : Scalar.addi (Scf.iv 0#32 1#32 k) 1#32 = BitVec.ofNat 32 (k + 1) := by
    rw [iv_eq]; apply BitVec.eq_of_toNat_eq
    simp only [Scalar.addi, IntOp.addi, BitVec.toNat_add, BitVec.toNat_ofNat]; omega
  have h2 : Scalar.subi (BitVec.ofNat 32 n) 1#32 = BitVec.ofNat 32 (n - 1) := by
    apply BitVec.eq_of_toNat_eq
    simp only [Scalar.subi, IntOp.subi, BitVec.toNat_sub, BitVec.toNat_ofNat]; omega
  rw [h1, h2]
  unfold Scalar.minsi IntOp.minsi
  have hh : (BitVec.ofNat 32 (k + 1)).slt (BitVec.ofNat 32 (n - 1)) = decide (k + 1 < n - 1) := by
    unfold BitVec.slt
    rw [toInt_of_small _ (by rw [ofNat_toNat _ (by omega)]; omega), toInt_of_small _ (by rw [ofNat_toNat _ (by omega)]; omega),
      ofNat_toNat _ (by omega), ofNat_toNat _ (by omega)]
    exact decide_eq_decide.mpr Int.ofNat_lt
  rw [hh]
  by_cases h : k + 1 < n - 1
  · rw [decide_eq_true h, if_pos rfl, ofNat_toNat _ (by omega)]; omega
  · rw [decide_eq_false h, if_neg (by decide), ofNat_toNat _ (by omega)]; omega

theorem t4_ok (n : ℕ) (h : n < 1000) : (k0_t4_loop (BitVec.ofNat 32 n)).OK := by
  show Scf.OK _ _ _
  unfold k0_t4_loop
  simp only [Scalar.muli_divsi_one]
  simp only [Scalar.subi, Scalar.addi, IntOp.subi, IntOp.addi, BitVec.sub_zero, BitVec.zero_add]
  exact ok_of_ub n h

theorem no_t5 (v : BitVec 32) (k : Fin (k0_t5_loop v).trips) : False := Scf.rem_no_trip _ _ k

theorem chk7_0 (n : ℕ) (hn : n ≤ 160) : k0_chk7_0 (BitVec.ofNat 32 n) := by
  have kl : ∀ k : Fin (k0_t4_loop (BitVec.ofNat 32 n)).trips, k.val < n := fun k => k_lt (by omega) k
  have sw : ∀ k : Fin (k0_t4_loop (BitVec.ofNat 32 n)).trips, (Scalar.remsi (Scf.iv 0#32 1#32 k) 4#32).toNat < 4 :=
    fun k => slotW_lt k (by have := kl k; omega)
  have si : ∀ k : Fin (k0_t4_loop (BitVec.ofNat 32 n)).trips,
      (Scalar.remsi (Scalar.subi (Scalar.addi (Scf.iv 0#32 1#32 k) 4#32) 1#32) 4#32).toNat < 4 :=
    fun k => slotI_lt k (by have := kl k; omega)
  refine ⟨t4_ok n (by omega), fun k => inbW (Scf.iv 0#32 1#32 k).toNat ?_, fun k h => inbW (Scalar.subi (Scalar.addi (Scf.iv 0#32 1#32 k) 4#32) 1#32).toNat ?_,
    fun k h => inbSem _ 0 (si k) (by omega), fun k h => inbK _ (si k), fun k h hi => Affine.words_rows (by decide) rfl rfl,
    fun k h => inbSem _ 1 (si k) (by omega), fun k h => inbV _ (si k), fun k h hi => Affine.words_rows (by decide) rfl rfl,
    fun k h => inbSem _ 2 (si k) (by omega), fun k h => inbVS _ (si k), fun k => inbW (Scf.iv 0#32 1#32 k).toNat ?_,
    fun k => inbSem _ 0 (sw k) (by omega), fun k => inbK _ (sw k), fun k hi => Affine.words_rows (by decide) rfl rfl,
    fun k => inbSem _ 1 (sw k) (by omega), fun k => inbV _ (sw k), fun k hi => Affine.words_rows (by decide) rfl rfl,
    fun k => inbSem _ 2 (sw k) (by omega), fun k => inbVS _ (sw k), fun k => inbK _ (sw k), fun k => inbVS _ (sw k),
    fun k => inbV32 _ 0 (sw k) (by omega), fun k => inbV32 _ 32 (sw k) (by omega), fun k => inbW (Scalar.minsi (Scalar.addi (Scf.iv 0#32 1#32 k) 1#32) (Scalar.subi (BitVec.ofNat 32 n) 1#32)).toNat ?_,
    Scf.rem_ok _ _, ?_⟩
  · rw [iv_toNat _ (by have := kl k; omega)]; have := kl k; omega
  · have := (cond4_iff (by omega) k).1 h
    rw [ivp3_toNat _ (by omega)]; omega
  · rw [iv_toNat _ (by have := kl k; omega)]; have := kl k; omega
  · rw [off59_toNat n k (by omega) (kl k)]; have := kl k; omega
  · refine ⟨?_, ?_, ?_, ?_, ?_, ?_⟩ <;> exact fun k => (no_t5 _ k).elim

theorem chk7 (n : ℕ) (hn : n ≤ 160) : k0_chk7 (BitVec.ofNat 32 n) := by
  refine ⟨chk7_0 n hn, ?_⟩
  unfold k0_chk7_1
  refine ⟨?_, ?_, ?_, ?_, ?_, ?_, ?_, ?_, ?_, ?_, ?_, ?_, ?_, ?_, ?_, ?_, ?_, ?_⟩ <;> exact fun k => (no_t5 _ k).elim

end Cert.Kernel.Hand

end
-- ==== Proof.SegK.lean ====
/- Hand-written. The segments of the kernel's main loop body, as programs of their own. -/
module

public import proofs.«01_k».proof.Proof.WordsK
public import proofs.«01_k».proof.Proof.Gen.Kernel.Skeleton
public import proofs.«01_k».proof.Proof.Gen.Kernel.Points
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.SL.Sem

variable {F : FTy → Type} [FloatOps F]

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

/-- The start of the three transfers of the chunk three places ahead. -/
def segStart (v1 : BitVec 32) (k0_hw7 : k0_chk7 v1) (k0_t4 : Fin (k0_t4_loop v1).trips) (k0_h4 : k0_cond4 v1 k0_t4 = 1#1) :
    Prog (TpuEff nD τ sig (Elt F) Λ₀ .tc) PUnit := do

  let v288 : Elt F .i32 ← smemLoad arg21 (Rect.unit (s := S160) (k0_off32 v1 k0_t4) S1.size (k0_off32_inb v1 k0_hw7 k0_t4 k0_h4)) numel1_S1 rfl

  let v290 : Elt F .i32 ← smemLoad arg22 (Rect.unit (s := S160) (k0_off32 v1 k0_t4) S1.size (k0_off32_inb v1 k0_hw7 k0_t4 k0_h4)) numel1_S1 rfl
  have k0_hw8 : k0_chk8 v1 k0_t4 v288 v290 := (← Prog.lift (TpuEff.assume (k0_chk8 v1 k0_t4 v288 v290) (k0_chk8.dec v1 k0_t4 v288 v290))).down

  let v295 : DmaSems sig S1x1 := cc0_scratch3.slice (Rect.unit (s := S4x3) (k0_off33 v1 k0_t4) S1x1.size (k0_off33_inb v1 k0_hw7 k0_t4 k0_h4))
  let v296 : DmaSems sig S_ := v295.squeeze S_ squeezes_S1x1_S_
  let v297 : Memref sig .tc .vmem S1x768x1024 .i8 := (Memref.whole cc0_scratch0).slice (Rect.unit (s := S4x768x1024) (k0_off34 v1 k0_t4) S1x768x1024.size (k0_off34_inb v1 k0_hw7 k0_t4 k0_h4)) (fun _ => rfl)
  let v298 : Memref sig .tc .vmem S768x1024 .i8 := v297.squeeze S768x1024 squeezes_S1x768x1024_S768x1024
  let v299 : Memref sig .tc .hbm S1x768x1024 .i8 := (Memref.whole main_v1).slice (Rect.unit (s := S20x768x8192) (k0_off35 v288 v290) S1x768x1024.size (k0_off35_inb v1 k0_t4 v288 v290 k0_hw8 k0_h4)) (fun _ => rfl)
  let v300 : Memref sig .tc .hbm S768x1024 .i8 := v299.squeeze S768x1024 squeezes_S1x768x1024_S768x1024
  Prog.lift (.enqueueDma v300 (.here v298) (.dma v296.sem) (((Memref.isWhole_whole main_v1).wordExact_slice rfl _ (k0_off35_wordsi8 v1 k0_t4 v288 v290 k0_hw8 k0_h4)).reshape _ _) (((Memref.isWhole_whole cc0_scratch0).wordExact_slice rfl _ (k0_off34_wordsi8 v1 k0_hw7 k0_t4 k0_h4)).reshape _ _) ⟨Or.inl rfl, trivial⟩)
  let v301 : DmaSems sig S1x1 := cc0_scratch3.slice (Rect.unit (s := S4x3) (k0_off36 v1 k0_t4) S1x1.size (k0_off36_inb v1 k0_hw7 k0_t4 k0_h4))
  let v302 : DmaSems sig S_ := v301.squeeze S_ squeezes_S1x1_S_
  let v303 : Memref sig .tc .vmem S1x48x64x128 .i8 := (Memref.whole cc0_scratch1).slice (Rect.unit (s := S4x48x64x128) (k0_off37 v1 k0_t4) S1x48x64x128.size (k0_off37_inb v1 k0_hw7 k0_t4 k0_h4)) (fun _ => rfl)
  let v304 : Memref sig .tc .vmem S48x64x128 .i8 := v303.squeeze S48x64x128 squeezes_S1x48x64x128_S48x64x128
  let v305 : Memref sig .tc .hbm S1x48x64x128 .i8 := (Memref.whole main_v5).slice (Rect.unit (s := S20x48x512x128) (k0_off38 v288 v290) S1x48x64x128.size (k0_off38_inb v1 k0_t4 v288 v290 k0_hw8 k0_h4)) (fun _ => rfl)
  let v306 : Memref sig .tc .hbm S48x64x128 .i8 := v305.squeeze S48x64x128 squeezes_S1x48x64x128_S48x64x128
  Prog.lift (.enqueueDma v306 (.here v304) (.dma v302.sem) (((Memref.isWhole_whole main_v5).wordExact_slice rfl _ (k0_off38_wordsi8 v1 k0_t4 v288 v290 k0_hw8 k0_h4)).reshape _ _) (((Memref.isWhole_whole cc0_scratch1).wordExact_slice rfl _ (k0_off37_wordsi8 v1 k0_hw7 k0_t4 k0_h4)).reshape _ _) ⟨Or.inl rfl, trivial⟩)
  let v307 : DmaSems sig S1x1 := cc0_scratch3.slice (Rect.unit (s := S4x3) (k0_off39 v1 k0_t4) S1x1.size (k0_off39_inb v1 k0_hw7 k0_t4 k0_h4))
  let v308 : DmaSems sig S_ := v307.squeeze S_ squeezes_S1x1_S_
  let v309 : Memref sig .tc .vmem S1x8x1024 .f32 := (Memref.whole cc0_scratch2).slice (Rect.unit (s := S4x8x1024) (k0_off40 v1 k0_t4) S1x8x1024.size (k0_off40_inb v1 k0_hw7 k0_t4 k0_h4)) (fun _ => rfl)
  let v310 : Memref sig .tc .vmem S8x1024 .f32 := v309.squeeze S8x1024 squeezes_S1x8x1024_S8x1024
  let v311 : Memref sig .tc .hbm S1x8x1024 .f32 := (Memref.whole main_v6).slice (Rect.unit (s := S20x8x8192) (k0_off41 v288 v290) S1x8x1024.size (k0_off41_inb v1 k0_t4 v288 v290 k0_hw8 k0_h4)) (fun _ => rfl)
  let v312 : Memref sig .tc .hbm S8x1024 .f32 := v311.squeeze S8x1024 squeezes_S1x8x1024_S8x1024
  Prog.lift (.enqueueDma v312 (.here v310) (.dma v308.sem) ((View.wordExact_bits rfl).reshape _ _) ((View.wordExact_bits rfl).reshape _ _) ⟨Or.inl rfl, trivial⟩)
  pure ⟨⟩

/-- The first chunk of a sequence: the state the fold starts from. -/
def segInit (v98 : IVec S32x1 32) (v108 : Elt F .i32) (v110 : Elt F .i32) (k0_hw9 : k0_chk9 v108 v110) (k0_h5 : k0_cond5 v110 = 1#1) :
    Prog (TpuEff nD τ sig (Elt F) Λ₀ .tc) PUnit := do
  let ⟨v289, v320, v321, c4_i32_132, v323, v326, v328⟩ : Σ' (v289 : FVec F S32x96 .bf16) (v320 : FVec F S32x96 .f32) (v321 : IVec S8x96x32 32) (c4_i32_132 : BitVec 32) (v323 : IVec S8x96x32 32) (v326 : IVec S8x96x32 32), IVec S8x96x32 1 ← k0_part1 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v108 v110 k0_hw9 k0_h5
  let v372 : FVec F S32x96 .bf16 ← k0_part2 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v98 v289 v320 v321 c4_i32_132 v323 v326 v328
  let v411 : FVec F S32x96 .bf16 ← k0_part3 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v98 v289 v372
  let ⟨v433, v451⟩ : Σ' (v433 : FVec F S96x8 .f32), FVec F S96x128 .bf16 ← k0_part4 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v98 v108 v110 k0_hw9 k0_h5 v289 v411
  let v452 : Vec F S96x128 .bf16 ← Prog.lift (.load arg16 (Rect.unit (s := S768x128) ![192, 0] S96x128.size inb_S768x128_S96x128_192_0).toLoadRect (View.loadsAt_vmem h_S96x128))

  Prog.lift (.store arg16 (Rect.unit (s := S768x128) ![192, 0] S96x128.size inb_S768x128_S96x128_192_0) (k0_pay28 v451) Finset.univ (View.stores_vmem h_S96x128 (harg16.storeExact_slice rfl _ packedbf16_S768x128_S96x128_192_0) (fun _ => rfl)) (.inl rfl))
  let v459 : Vec F S96x128 .bf16 ← Prog.lift (.load arg16 (Rect.unit (s := S768x128) ![288, 0] S96x128.size inb_S768x128_S96x128_288_0).toLoadRect (View.loadsAt_vmem h_S96x128))

  Prog.lift (.store arg16 (Rect.unit (s := S768x128) ![288, 0] S96x128.size inb_S768x128_S96x128_288_0) (k0_pay29 v433) Finset.univ (View.stores_vmem h_S96x128 (harg16.storeExact_slice rfl _ packedbf16_S768x128_S96x128_288_0) (fun _ => rfl)) (.inl rfl))
  let v466 : Vec F S96x128 .bf16 ← Prog.lift (.load arg16 (Rect.unit (s := S768x128) ![384, 0] S96x128.size inb_S768x128_S96x128_384_0).toLoadRect (View.loadsAt_vmem h_S96x128))

  Prog.lift (.store arg16 (Rect.unit (s := S768x128) ![384, 0] S96x128.size inb_S768x128_S96x128_384_0) (k0_pay30 v433) Finset.univ (View.stores_vmem h_S96x128 (harg16.storeExact_slice rfl _ packedbf16_S768x128_S96x128_384_0) (fun _ => rfl)) (.inl rfl))
  let v473 : Vec F S96x128 .bf16 ← Prog.lift (.load arg16 (Rect.unit (s := S768x128) ![480, 0] S96x128.size inb_S768x128_S96x128_480_0).toLoadRect (View.loadsAt_vmem h_S96x128))

  Prog.lift (.store arg16 (Rect.unit (s := S768x128) ![480, 0] S96x128.size inb_S768x128_S96x128_480_0) (k0_pay31 v433) Finset.univ (View.stores_vmem h_S96x128 (harg16.storeExact_slice rfl _ packedbf16_S768x128_S96x128_480_0) (fun _ => rfl)) (.inl rfl))
  let v480 : Vec F S96x128 .bf16 ← Prog.lift (.load arg16 (Rect.unit (s := S768x128) ![576, 0] S96x128.size inb_S768x128_S96x128_576_0).toLoadRect (View.loadsAt_vmem h_S96x128))

  Prog.lift (.store arg16 (Rect.unit (s := S768x128) ![576, 0] S96x128.size inb_S768x128_S96x128_576_0) (k0_pay32 v433) Finset.univ (View.stores_vmem h_S96x128 (harg16.storeExact_slice rfl _ packedbf16_S768x128_S96x128_576_0) (fun _ => rfl)) (.inl rfl))
  let v487 : Vec F S96x128 .bf16 ← Prog.lift (.load arg16 (Rect.unit (s := S768x128) ![672, 0] S96x128.size inb_S768x128_S96x128_672_0).toLoadRect (View.loadsAt_vmem h_S96x128))

  Prog.lift (.store arg16 (Rect.unit (s := S768x128) ![672, 0] S96x128.size inb_S768x128_S96x128_672_0) (k0_pay33 v433) Finset.univ (View.stores_vmem h_S96x128 (harg16.storeExact_slice rfl _ packedbf16_S768x128_S96x128_672_0) (fun _ => rfl)) (.inl rfl))
  pure ⟨⟩

end Cert.Kernel.Hand

end
-- ==== Proof.Seg2K.lean ====
/- Hand-written. Further segments of the kernel's main loop body, as programs of their own. -/
module

public import proofs.«01_k».proof.Proof.SegK
public import proofs.«01_k».proof.Proof.Gen.Kernel.Skeleton
public import proofs.«01_k».proof.Proof.Gen.Kernel.Points
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.SL.Sem

variable {F : FTy → Type} [FloatOps F]

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

/-- The store of a finished sequence's slab. -/
def segOut (v1 : BitVec 32) (k0_t4 : Fin (k0_t4_loop v1).trips) (v108 : Elt F .i32) (v282 : Elt F .i32) (k0_hw12 : k0_chk12 v1 k0_t4 v108 v282) (k0_h6 : k0_cond6 v1 k0_t4 v282 = 1#1) :
    Prog (TpuEff nD τ sig (Elt F) Λ₀ .tc) PUnit := do
  let v287 : Vec F S768x32 .f32 ← Prog.lift (.load arg20 (Rect.unit (s := S768x32) ![0, 0] S768x32.size inb_S768x32_S768x32_0_0).toLoadRect (View.loadsAt_vmem h_S768x32))
  let v320 : Vec F S32x1 .f32 ← Prog.lift (.load arg19 (Rect.unit (s := S32x128) ![0, 0] S32x1.size inb_S32x128_S32x1_0_0).toLoadRect (View.loadsAt_vmem h_S32x1))
  let v325 : Vec F S1x32x96 .bf16 ← Prog.lift (.load arg8 (Rect.unit (s := S20x32x96) (k0_off60 v108) S1x32x96.size (k0_off60_inb v1 k0_t4 v108 v282 k0_hw12 k0_h6)).toLoadRect (View.loadsAt_vmem h_S1x32x96))
  Prog.lift (.store arg8 (Rect.unit (s := S20x32x96) (k0_off60 v108) S1x32x96.size (k0_off60_inb v1 k0_t4 v108 v282 k0_hw12 k0_h6)) (k0_pay4 v287 v320) Finset.univ (View.stores_vmem h_S1x32x96 (harg8.storeExact_slice rfl _ (k0_off60_packedbf16 v1 k0_t4 v108 v282 k0_hw12 k0_h6)) (fun _ => rfl)) (.inl rfl))
  pure ⟨⟩

/-- The waits for a chunk and its step of the fold, up to the place the last-chunk test reads. -/
def segRest (v1 : BitVec 32) (k0_hw7 : k0_chk7 v1) (v99 : IVec S32x1024 32) (k0_t4 : Fin (k0_t4_loop v1).trips) (v108 : Elt F .i32) (k0_hw11 : k0_chk11 v108) (v110 : Elt F .i32) :
    Prog (TpuEff nD τ sig (Elt F) Λ₀ .tc) PUnit := do
  let v111 : BitVec 32 := Scalar.remsi (Scf.iv 0#32 1#32 k0_t4) 4#32
  let v121 : Elt F .i32 ← smemLoad arg21 (Rect.unit (s := S160) (k0_off44 v1 k0_t4) S1.size (k0_off44_inb v1 k0_hw7 k0_t4)) numel1_S1 rfl
  let v123 : Elt F .i32 ← smemLoad arg22 (Rect.unit (s := S160) (k0_off44 v1 k0_t4) S1.size (k0_off44_inb v1 k0_hw7 k0_t4)) numel1_S1 rfl
  have k0_hw10 : k0_chk10 v121 v123 := (← Prog.lift (TpuEff.assume (k0_chk10 v121 v123) (k0_chk10.dec v121 v123))).down
  let v128 : DmaSems sig S1x1 := cc0_scratch3.slice (Rect.unit (s := S4x3) (k0_off45 v1 k0_t4) S1x1.size (k0_off45_inb v1 k0_hw7 k0_t4))
  let v129 : DmaSems sig S_ := v128.squeeze S_ squeezes_S1x1_S_
  let v130 : Memref sig .tc .vmem S1x768x1024 .i8 := (Memref.whole cc0_scratch0).slice (Rect.unit (s := S4x768x1024) (k0_off46 v1 k0_t4) S1x768x1024.size (k0_off46_inb v1 k0_hw7 k0_t4)) (fun _ => rfl)
  let v131 : Memref sig .tc .vmem S768x1024 .i8 := v130.squeeze S768x1024 squeezes_S1x768x1024_S768x1024
  let v132 : Memref sig .tc .hbm S1x768x1024 .i8 := (Memref.whole main_v1).slice (Rect.unit (s := S20x768x8192) (k0_off47 v121 v123) S1x768x1024.size (k0_off47_inb v121 v123 k0_hw10)) (fun _ => rfl)
  let v133 : Memref sig .tc .hbm S768x1024 .i8 := v132.squeeze S768x1024 squeezes_S1x768x1024_S768x1024
  Prog.lift (.waitDma2 v129.sem v133 v131 (((Memref.isWhole_whole main_v1).wordExact_slice rfl _ (k0_off47_wordsi8 v121 v123 k0_hw10)).reshape _ _) (((Memref.isWhole_whole cc0_scratch0).wordExact_slice rfl _ (k0_off46_wordsi8 v1 k0_hw7 k0_t4)).reshape _ _))
  let ⟨v162, v168, v170, v173, v175, v177⟩ : Σ' (v162 : IVec S32x1024 1) (v168 : FVec F S32x1 .f32) (v170 : FVec F S32x1 .f32) (v173 : FVec F S32x1024 .f32) (v175 : FVec F S32x1 .f32), FVec F S32x1 .f32 ← k0_part6 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v1 k0_hw7 v99 k0_t4 v108 k0_hw11 v110 v111 v121 v123 k0_hw10
  let ⟨v199, v205, v217, v218⟩ : Σ' (v199 : FVec F S32x1024 .bf16) (v205 : IVec S48x32x128 8) (v217 : IVec S1536x1x128 32), IVec S1536x1x128 32 ← k0_part7 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v1 k0_hw7 k0_t4 v111 v162 v168 v173 v175 v177
  let ⟨v267, v271⟩ : Σ' (v267 : FVec F S768x32 .f32), FVec F S768x32 .f32 ← k0_part8 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v170 v199 v205 v217 v218
  let v273 : Vec F S768x32 .f32 ← Prog.lift (.load arg20 (Rect.unit (s := S768x32) ![0, 0] S768x32.size inb_S768x32_S768x32_0_0).toLoadRect (View.loadsAt_vmem h_S768x32))
  Prog.lift (.store arg20 (Rect.unit (s := S768x32) ![0, 0] S768x32.size inb_S768x32_S768x32_0_0) (k0_pay3 v267 v271) Finset.univ (View.stores_vmem_bits_univ h_S768x32 rfl) (.inl rfl))
  pure ⟨⟩

/-- One trip of the main loop, in its segments. -/
def tripB (v1 : BitVec 32) (k0_hw7 : k0_chk7 v1) (v99 : IVec S32x1024 32) (k0_t4 : Fin (k0_t4_loop v1).trips) :
    Prog (TpuEff nD τ sig (Elt F) Λ₀ .tc) (BitVec 32) := do
  let v108 : Elt F .i32 ← smemLoad arg21 (Rect.unit (s := S160) (k0_off31 v1 k0_t4) S1.size (k0_off31_inb v1 k0_hw7 k0_t4)) numel1_S1 rfl
  have k0_hw11 : k0_chk11 v108 := (← Prog.lift (TpuEff.assume (k0_chk11 v108) (k0_chk11.dec v108))).down
  let v110 : Elt F .i32 ← smemLoad arg22 (Rect.unit (s := S160) (k0_off31 v1 k0_t4) S1.size (k0_off31_inb v1 k0_hw7 k0_t4)) numel1_S1 rfl
  have k0_hw9 : k0_chk9 v108 v110 := (← Prog.lift (TpuEff.assume (k0_chk9 v108 v110) (k0_chk9.dec v108 v110))).down
  (if k0_h4 : k0_cond4 v1 k0_t4 = 1#1 then segStart arg21 arg22 v1 k0_hw7 k0_t4 k0_h4 else pure ⟨⟩)
  (if k0_h5 : k0_cond5 v110 = 1#1 then segInit arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 k0_pay2 v108 v110 k0_hw9 k0_h5 else pure ⟨⟩)
  segRest arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 v1 k0_hw7 v99 k0_t4 v108 k0_hw11 v110
  let v282 : Elt F .i32 ← smemLoad arg22 (Rect.unit (s := S160) (k0_off59 v1 k0_t4) S1.size (k0_off59_inb v1 k0_hw7 k0_t4)) numel1_S1 rfl
  have k0_hw12 : k0_chk12 v1 k0_t4 v108 v282 := (← Prog.lift (TpuEff.assume (k0_chk12 v1 k0_t4 v108 v282) (k0_chk12.dec v1 k0_t4 v108 v282))).down
  (if k0_h6 : k0_cond6 v1 k0_t4 v282 = 1#1 then segOut arg8 harg8 arg19 arg20 v1 k0_t4 v108 v282 k0_hw12 k0_h6 else pure ⟨⟩)
  pure 0#32

end Cert.Kernel.Hand

end
-- ==== Proof.ModelK.lean ====
/- Hand-written. The kernel's online-softmax fold as functions of the values it reads: the state at a sequence's first chunk, the
   step one chunk makes, and the slab of the result the state after the last chunk leaves. -/
module

public import proofs.«01_k».proof.Proof.WordsK
public import proofs.«01_k».proof.Proof.Gen.Kernel.Skeleton
public import proofs.«01_k».proof.Proof.Gen.Kernel.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable [∀ e, Nonempty (Elt F e)]

/-! ## The kernel's fold, as functions of the values it reads -/

/-- The values the kernel call reads: the queries, the new keys and values, the key scales, the lengths, the keys, the packed
    values and the value scales, each as the call holds it. -/
structure In (F : FTy → Type) where
  len : Vec F S20 .i32
  x : Vec F S20x32x96 .bf16
  kn : Vec F S20x8x96 .bf16
  vn : Vec F S20x8x96 .bf16
  ks : Vec F S20x8x96 .f32
  kt : Vec F S20x768x8192 .i8
  vt : Vec F S20x48x512x128 .i8
  vs : Vec F S20x8x8192 .f32

/-- The state of the fold over a sequence's chunks: running maximum, running sum, accumulator, and the two operands set at its
    first chunk. -/
structure St (F : FTy → Type) where
  m : Vec F S32x128 .f32
  l : Vec F S32x128 .f32
  acc : Vec F S768x32 .f32
  qbd : Vec F S32x768 .bf16
  ksb : Vec F S768x128 .bf16

variable (I : In F) (b : Fin 20) (c : Fin 8)

def In.xw : Vec F S1x32x96 .bf16 := VecWindow.window I.x ![b.val, 0, 0] S1x32x96.size (inbX b b.isLt)
def In.knw : Vec F S1x8x96 .bf16 := VecWindow.window I.kn ![b.val, 0, 0] S1x8x96.size (inbN b b.isLt)
def In.vnw : Vec F S1x8x96 .bf16 := VecWindow.window I.vn ![b.val, 0, 0] S1x8x96.size (inbN b b.isLt)
def In.ksw : Vec F S1x8x96 .f32 := VecWindow.window I.ks ![b.val, 0, 0] S1x8x96.size (inbN b b.isLt)
def In.ktw : Vec F S1x768x1024 .i8 := VecWindow.window I.kt ![b.val, 0, c.val * 1024] S1x768x1024.size (inbKt b c b.isLt c.isLt)
def In.vtw : Vec F S1x48x64x128 .i8 := VecWindow.window I.vt ![b.val, 0, c.val * 64, 0] S1x48x64x128.size (inbVt b c b.isLt c.isLt)
def In.vsw : Vec F S1x8x1024 .f32 := VecWindow.window I.vs ![b.val, 0, c.val * 1024] S1x8x1024.size (inbVs b c b.isLt c.isLt)
/-- The length of sequence `b`, a word. -/
def In.lenw : BitVec 32 := I.len fun a => match a with | ⟨0, _⟩ => b

/-- The eight column blocks of the block-diagonal query operand. -/
def qbdPieces (xw : Vec F S1x32x96 .bf16) : List (View.Piece (Elt F) S32x768 .bf16) :=
  [⟨Rect.unit ![0, 672] S32x96.size inb_S32x768_S32x96_0_672, k0_pay23 k0_pay2 (k0_pay7 xw)⟩,
   ⟨Rect.unit ![0, 576] S32x96.size inb_S32x768_S32x96_0_576, k0_pay22 k0_pay2 (k0_pay7 xw)⟩,
   ⟨Rect.unit ![0, 480] S32x96.size inb_S32x768_S32x96_0_480, k0_pay21 k0_pay2 (k0_pay7 xw)⟩,
   ⟨Rect.unit ![0, 384] S32x96.size inb_S32x768_S32x96_0_384, k0_pay20 k0_pay2 (k0_pay7 xw)⟩,
   ⟨Rect.unit ![0, 288] S32x96.size inb_S32x768_S32x96_0_288, k0_pay19 k0_pay2 (k0_pay7 xw)⟩,
   ⟨Rect.unit ![0, 192] S32x96.size inb_S32x768_S32x96_0_192, k0_pay18 k0_pay2 (k0_pay7 xw)⟩,
   ⟨Rect.unit ![0, 96] S32x96.size inb_S32x768_S32x96_0_96, k0_pay17 (k0_pay16 k0_pay2 (k0_pay7 xw))⟩,
   ⟨Rect.unit ![0, 0] S32x96.size inb_S32x768_S32x96_0_0, k0_pay15 k0_pay2 (k0_pay7 xw)⟩]

/-- The eight row blocks of the key-scale operand. -/
def ksbPieces (ksw : Vec F S1x8x96 .f32) : List (View.Piece (Elt F) S768x128 .bf16) :=
  [⟨Rect.unit ![672, 0] S96x128.size inb_S768x128_S96x128_672_0, k0_pay33 (k0_pay24 ksw)⟩,
   ⟨Rect.unit ![576, 0] S96x128.size inb_S768x128_S96x128_576_0, k0_pay32 (k0_pay24 ksw)⟩,
   ⟨Rect.unit ![480, 0] S96x128.size inb_S768x128_S96x128_480_0, k0_pay31 (k0_pay24 ksw)⟩,
   ⟨Rect.unit ![384, 0] S96x128.size inb_S768x128_S96x128_384_0, k0_pay30 (k0_pay24 ksw)⟩,
   ⟨Rect.unit ![288, 0] S96x128.size inb_S768x128_S96x128_288_0, k0_pay29 (k0_pay24 ksw)⟩,
   ⟨Rect.unit ![192, 0] S96x128.size inb_S768x128_S96x128_192_0, k0_pay28 (k0_pay27 ksw)⟩,
   ⟨Rect.unit ![96, 0] S96x128.size inb_S768x128_S96x128_96_0, k0_pay26 ksw⟩,
   ⟨Rect.unit ![0, 0] S96x128.size inb_S768x128_S96x128_0_0, k0_pay25 ksw⟩]

/-- The state at a sequence's first chunk, before it. -/
def initSt : St F where
  m := k0_pay8 (I.xw b) (I.knw b)
  l := k0_pay9
  acc := k0_pay14 (k0_pay10 (I.vnw b)) (iota .tc S8x96x32 32 [2] iota_S8x96x32_d2_w32) 4#32 k0_pay11 k0_pay12 k0_pay13
  qbd := View.canon (qbdPieces (I.xw b))
  ksb := View.canon (ksbPieces (I.ksw b))

/-- The lanes' positions in a chunk. -/
def lanes : IVec S32x1024 32 := iota .tc S32x1024 32 [1] iota_S32x1024_d1_w32

/-- One chunk's step of the state. -/
def stepSt (s : St F) : St F :=
  have mcol : Vec F S32x1 .f32 := VecWindow.window s.m ![0, 0] S32x1.size inb_S32x128_S32x1_0_0
  have lcol : Vec F S32x1 .f32 := VecWindow.window s.l ![0, 0] S32x1.size inb_S32x128_S32x1_0_0
  have cw : BitVec 32 := BitVec.ofNat 32 c.val
  have v162 := k0_pay34 (F := F) lanes cw (I.lenw b)
  have v168 := k0_pay36 lanes cw s.ksb (I.ktw b c) s.qbd (I.lenw b) mcol
  have v170 := k0_pay37 lanes cw s.ksb (I.ktw b c) s.qbd (I.lenw b) mcol
  have v173 := k0_pay38 lanes cw s.ksb (I.ktw b c) s.qbd (I.lenw b) mcol
  have v175 := k0_pay39 lanes cw s.ksb (I.ktw b c) s.qbd (I.lenw b) mcol lcol
  have v177 := k0_pay40 lanes cw s.ksb (I.ktw b c) s.qbd (I.lenw b) mcol
  have v201 : Vec F S1x48x32x128 .i8 := VecWindow.window (I.vtw b c) ![0, 0, 0, 0] S1x48x32x128.size (by decide)
  have v204 : Vec F S1x48x32x128 .i8 := VecWindow.window (I.vtw b c) ![0, 0, 32, 0] S1x48x32x128.size (by decide)
  have v199 := k0_pay43 v162 v173 (I.vsw b c)
  { s with
    l := k0_pay41 v175 v177
    m := k0_pay42 v168
    acc := k0_pay3 (k0_pay48 v199 (k0_pay44 v204) (k0_pay46 v201) (k0_pay47 v201)) (k0_pay49 v170 s.acc) }

/-- The state after the first `n` chunks of sequence `b`. -/
def stAt : ℕ → St F
  | 0 => initSt I b
  | n + 1 => stepSt I b ⟨n % 8, Nat.mod_lt _ (by decide)⟩ (stAt n)

/-- The slab of the result a state leaves. -/
def outSlab (s : St F) : Vec F S1x32x96 .bf16 :=
  k0_pay4 s.acc (VecWindow.window s.l ![0, 0] S32x1.size inb_S32x128_S32x1_0_0)

/-- The first result of the call: every sequence's slab, after its last chunk. -/
def outAll : Vec F S20x32x96 .bf16 := fun i => outSlab (stAt I (i 0) (nch (I.lenw (i 0)))) fun a => match a with
  | ⟨0, _⟩ => (0 : Fin 1)
  | ⟨1, _⟩ => i 1
  | ⟨2, _⟩ => i 2

end Cert.Kernel.Hand

end
-- ==== Proof.RingK.lean ====
/- Hand-written. -/
module

public import proofs.«01_k».proof.Proof.SegK
public import proofs.«01_k».proof.Proof.ModelK
public import proofs.«01_k».proof.Proof.Gen.Kernel.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-! ## The ring of slots: four slots of three buffers, filled by three transfers each -/

/-- The semaphore cell of slot `k`'s transfer `j`. -/
abbrev semK (k : Fin 4) (j : Fin 3) : SemLoc sig :=
  .dma ((cc0_scratch3.slice (Rect.unit (s := S4x3) ![k.val, j.val] S1x1.size (inbSem k j k.isLt j.isLt))).squeeze S_ squeezes_S1x1_S_).sem
/-- Slot `k` of the keys' buffer. -/
abbrev ktSlot (k : Fin 4) : Memref sig .tc .vmem S768x1024 .i8 :=
  ((Memref.whole cc0_scratch0).slice (Rect.unit (s := S4x768x1024) ![k.val, 0, 0] S1x768x1024.size (inbK k k.isLt)) (fun _ => rfl)).squeeze S768x1024 squeezes_S1x768x1024_S768x1024
/-- Slot `k` of the packed values' buffer. -/
abbrev vtSlot (k : Fin 4) : Memref sig .tc .vmem S48x64x128 .i8 :=
  ((Memref.whole cc0_scratch1).slice (Rect.unit (s := S4x48x64x128) ![k.val, 0, 0, 0] S1x48x64x128.size (inbV k k.isLt)) (fun _ => rfl)).squeeze S48x64x128 squeezes_S1x48x64x128_S48x64x128
/-- Slot `k` of the value scales' buffer. -/
abbrev vsSlot (k : Fin 4) : Memref sig .tc .vmem S8x1024 .f32 :=
  ((Memref.whole cc0_scratch2).slice (Rect.unit (s := S4x8x1024) ![k.val, 0, 0] S1x8x1024.size (inbVS k k.isLt)) (fun _ => rfl)).squeeze S8x1024 squeezes_S1x8x1024_S8x1024

/-- The chunk of the keys the words name. -/
def ktSrc (b : Fin 20) (c : Fin 8) : Memref sig .tc .hbm S768x1024 .i8 :=
  ((Memref.whole main_v1).slice (Rect.unit (s := S20x768x8192) (k0_off47 (BitVec.ofNat 32 b.val) (BitVec.ofNat 32 c.val)) S1x768x1024.size
    (k0_off47_inb _ _ (chk10 b c b.isLt c.isLt))) (fun _ => rfl)).squeeze S768x1024 squeezes_S1x768x1024_S768x1024
/-- The chunk of the packed values the words name. -/
def vtSrc (b : Fin 20) (c : Fin 8) : Memref sig .tc .hbm S48x64x128 .i8 :=
  ((Memref.whole main_v5).slice (Rect.unit (s := S20x48x512x128) (k0_off50 (BitVec.ofNat 32 b.val) (BitVec.ofNat 32 c.val)) S1x48x64x128.size
    (k0_off50_inb _ _ (chk10 b c b.isLt c.isLt))) (fun _ => rfl)).squeeze S48x64x128 squeezes_S1x48x64x128_S48x64x128
/-- The chunk of the value scales the words name. -/
def vsSrc (b : Fin 20) (c : Fin 8) : Memref sig .tc .hbm S8x1024 .f32 :=
  ((Memref.whole main_v6).slice (Rect.unit (s := S20x8x8192) (k0_off53 (BitVec.ofNat 32 b.val) (BitVec.ofNat 32 c.val)) S1x8x1024.size
    (k0_off53_inb _ _ (chk10 b c b.isLt c.isLt))) (fun _ => rfl)).squeeze S8x1024 squeezes_S1x8x1024_S8x1024

/-- A slot's part of buffer `m`'s ring, free: its cell at zero, the slot at anything, the read token whole. -/
abbrev freeP {s s' : Shape} {e : EltTy} (c : Dev nD) (cell : SemLoc sig) (slot : Memref sig .tc .vmem s e) (A : Memref sig .tc .hbm s' e)
    (fa : Buf (Elt F) (A.view.loc (c : Thread nD τ))) (k : Fin 4) : sProp 𝕄 :=
  iprop(semVal ((c : Thread nD τ), cell) 0 ∗ (∃ f, slot.view.loc (c : Thread nD τ) ↦[slot.view.set]{fullShare} f)
    ∗ A.view.loc (c : Thread nD τ) ↦[Finset.univ]{Transfers.shareTok fullShare 4 k} fa)

/-- The same, filled by a transfer in flight from `src`. -/
abbrev flightP {s s' : Shape} {e : EltTy} (c : Dev nD) (cell : SemLoc sig) (slot : Memref sig .tc .vmem s e) (A : Memref sig .tc .hbm s' e)
    (src : Memref sig .tc .hbm s e) (hl : src.view.loc (c : Thread nD τ) = A.view.loc (c : Thread nD τ))
    (amt : ℕ) (fa : Buf (Elt F) (src.view.loc (c : Thread nD τ))) (k : Fin 4) : sProp 𝕄 :=
  iprop((∃ f, Transfers.Flight (countersEmb (U := Pipeline.UD sig nD τ)) (c : Thread nD τ) cell () amt
            iprop((slot.view.loc (c : Thread nD τ) ↦[slot.view.set]{fullShare}
                    slot.view.writes (Elt F) f [⟨Rect.whole s, ReadAs.same.apply (src.view.read (Elt F) fa)⟩])
              ∗ src.view.loc (c : Thread nD τ) ↦[src.view.set]{Transfers.shareTok fullShare 4 k} fa))
    ∗ src.view.loc (c : Thread nD τ) ↦[Finset.univ \ src.view.set]{Transfers.shareTok fullShare 4 k} fa)

/-- Place `p` of a list of words. -/
def ix1 {n : ℕ} (p : Fin n) : (⟨1, ![n]⟩ : Shape).Idx := fun a => match a with | ⟨0, _⟩ => p

theorem ldword {n : ℕ} (a : Memref sig .tc .smem ⟨1, ![n]⟩ .i32) (w : Vec F ⟨1, ![n]⟩ .i32) (off : Fin 1 → ℕ) (h) (hn) (p : Fin n) (hp : off 0 = p.val) :
    a.view.readAt (Elt F) (Rect.unit (s := ⟨1, ![n]⟩) off S1.size h).toLoadRect (a.view.rep w) (Shape.Idx.first hn) = w (ix1 p) := by
  rw [View.readAt_rep_unit _ _ _ rfl h]
  unfold VecWindow.window
  congr 1
  funext a
  match a with
  | ⟨0, _⟩ => exact Fin.ext (by show off 0 + _ = p.val; rw [hp]; rfl)

/-- What slot `k` holds: nothing under way (`none`), or the three transfers of the chunk named. -/
def slotSt (c : Dev nD) (I : In F) (k : Fin 4) : Option (Fin 20 × Fin 8) → sProp 𝕄
  | none => iprop(freeP c (semK k 0) (ktSlot k) (Memref.whole main_v1) ((Memref.whole main_v1).view.rep I.kt) k
      ∗ freeP c (semK k 1) (vtSlot k) (Memref.whole main_v5) ((Memref.whole main_v5).view.rep I.vt) k
      ∗ freeP c (semK k 2) (vsSlot k) (Memref.whole main_v6) ((Memref.whole main_v6).view.rep I.vs) k)
  | some (b, j) => iprop(flightP c (semK k 0) (ktSlot k) (Memref.whole main_v1) (ktSrc b j) rfl 24576 ((Memref.whole main_v1).view.rep I.kt) k
      ∗ flightP c (semK k 1) (vtSlot k) (Memref.whole main_v5) (vtSrc b j) rfl 12288 ((Memref.whole main_v5).view.rep I.vt) k
      ∗ flightP c (semK k 2) (vsSlot k) (Memref.whole main_v6) (vsSrc b j) rfl 1024 ((Memref.whole main_v6).view.rep I.vs) k)

/-- The two work lists. -/
def wOwn (c : Dev nD) (a21 a22 : Memref sig .tc .smem S160 .i32) (wb wc : Vec F S160 .i32) : sProp 𝕄 :=
  iprop((a21.view.loc (c : Thread nD τ) ↦[a21.view.set]{fullShare} a21.view.rep wb)
    ∗ (a22.view.loc (c : Thread nD τ) ↦[a22.view.set]{fullShare} a22.view.rep wc))

/-- The start of a chunk's transfers into the free slot the trip's counter names. -/
theorem start_run (c : Dev nD) (I : In F) (n : ℕ) (hn : n ≤ 160) (k : Fin (k0_t4_loop (BitVec.ofNat 32 n)).trips) (h7) (h4)
    (b : Fin 20) (j : Fin 8) (p : Fin 160) (hp : (k0_off32 (BitVec.ofNat 32 n) k) 0 = p.val) (wb wc : Vec F S160 .i32)
    (hwb : wb (ix1 p) = BitVec.ofNat 32 b.val) (hwc : wc (ix1 p) = BitVec.ofNat 32 j.val)
    (s : Fin 4) (hs : s = ⟨(Scalar.remsi (Scalar.subi (Scalar.addi (Scf.iv 0#32 1#32 k) 4#32) 1#32) 4#32).toNat, slotI_lt k (by have := k_lt (by omega) k; omega)⟩)
    (Q : PUnit → sProp 𝕄) :
    iprop(wOwn c arg21 arg22 wb wc ∗ slotSt c I s none ∗ (wOwn c arg21 arg22 wb wc ∗ slotSt c I s (some (b, j)) -∗ Q ⟨⟩))
      ⊢ wp frame (wpE (defs₀ (F := F)) Variants.none (c : Thread nD τ) none) Set.univ (segStart arg21 arg22 (BitVec.ofNat 32 n) h7 k h4) Q := by
  subst hs
  unfold wOwn slotSt freeP
  iintro ⟨⟨H21, H22⟩, ⟨⟨Ha, ⟨%fa, Sa⟩, Ta⟩, ⟨Hb, ⟨%fb, Sb⟩, Tb⟩, ⟨Hc, ⟨%fc, Sc⟩, Tc⟩⟩, HQ⟩
  unfold segStart
  sl_exec
  have e1 : start_run.sl.r arg21 n k h7 h4 wb = BitVec.ofNat 32 b.val := by
    unfold start_run.sl.r
    exact (ldword arg21 wb _ _ _ p hp).trans hwb
  have e2 : start_run.sl.r_1 arg22 n k h7 h4 wc = BitVec.ofNat 32 j.val := by
    unfold start_run.sl.r_1
    exact (ldword arg22 wc _ _ _ p hp).trans hwc
  generalize start_run.sl.r arg21 n k h7 h4 wb = w1 at e1 ⊢
  generalize start_run.sl.r_1 arg22 n k h7 h4 wc = w2 at e2 ⊢
  subst e1 e2
  have h8 := chk8 (BitVec.ofNat 32 n) k b j b.isLt j.isLt
  sl_exec (disch := exact h8)
  sl_step
  iapply HQ
  isplitl [H21 H22]
  · isplitl [H21]
    · iexact H21
    · iexact H22
  unfold flightP
  isplitl [Ha Ta]
  · isplitl [Ha]
    · iexists fa; iexact Ha
    · iexact Ta
  isplitl [Hb Tb]
  · isplitl [Hb]
    · iexists fb; iexact Hb
    · iexact Tb
  · isplitl [Hc]
    · iexists fc; iexact Hc
    · iexact Tc

end Cert.Kernel.Hand

end
-- ==== Proof.SlotK.lean ====
/- Hand-written. -/
module

public import proofs.«01_k».proof.Proof.ModelK
public import proofs.«01_k».proof.Proof.Gen.Kernel.Launch
public import Idealize.ShloMosaic.Lib.Pipeline.FrameBody
public import Idealize.ShloMosaic.Lib.VecWindow
public import Idealize.ShloMosaic.Lib.Ring
public import Idealize.ShloMosaic.Lib.ViewIndex
public import Idealize.ShloMosaic.Lib.LoopRemainder
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable [∀ e, Nonempty (Elt F e)]

section Slot

variable {κ κ' : Kind} {sp sp' : Space} {e : EltTy} {nn : ℕ} {d D sz sz2 : Fin nn → ℕ}

omit [FloatOps F] [∀ e, Nonempty (Elt F e)] in
/-- A box inside a slot's box has its elements among the slot's. -/
theorem slot_incl (m : Memref sig κ sp ⟨nn, d⟩ e) {off off2 : Fin nn → ℕ} (inb : ∀ a, off a + sz a ≤ d a)
    {s' : Shape} (hq : (⟨nn, sz⟩ : Shape).Squeezes s') (inb2 : ∀ a, off2 a + sz2 a ≤ d a) (o : Fin nn → ℕ) (ho : ∀ a, off2 a = off a + o a)
    (inbo : ∀ a, o a + sz2 a ≤ sz a) :
    (m.access (Rect.unit (s := ⟨nn, d⟩) off2 sz2 inb2)).set
      ⊆ ((m.slice (Rect.unit (s := ⟨nn, d⟩) off sz inb) (fun _ => rfl)).squeeze s' hq).view.set := by
  intro i hi
  obtain ⟨x, rfl⟩ := View.exists_of_mem_set_slice hi
  have h1 : ((m.slice (Rect.unit (s := ⟨nn, d⟩) off sz inb) (fun _ => rfl)).squeeze s' hq).view.set
      = (m.view.slice (Rect.unit (s := ⟨nn, d⟩) off sz inb)).set := View.set_reshape _ _
  rw [h1]
  have h2 : m.view.emb ((Rect.unit (s := ⟨nn, d⟩) off2 sz2 inb2).emb x)
      = (m.view.slice (Rect.unit (s := ⟨nn, d⟩) off sz inb)).emb (fun a => ⟨o a + (x a).val, lt_of_lt_of_le (Nat.add_lt_add_left (x a).isLt _) (inbo a)⟩) := by
    show _ = m.view.emb ((Rect.unit (s := ⟨nn, d⟩) off sz inb).emb _)
    congr 1
    funext a
    refine Fin.ext ?_
    show off2 a + 1 * (x a).val = off a + 1 * (o a + (x a).val)
    rw [ho]; omega
  rw [h2]
  exact View.emb_mem_set _ _

omit [FloatOps F] in
/-- What a load inside a slot reads, after a transfer of a box of `A` filled the slot: a window of the box's window. -/
theorem slot_load (m : Memref sig κ sp ⟨nn, d⟩ e) (A : Memref sig κ' sp' ⟨nn, D⟩ e) {off off' off2 : Fin nn → ℕ} (inb : ∀ a, off a + sz a ≤ d a)
    (inb' : ∀ a, off' a + sz a ≤ D a) {s' : Shape} (hq hq' : (⟨nn, sz⟩ : Shape).Squeezes s') (f) (X : Vec F ⟨nn, D⟩ e)
    (inb2 : ∀ a, off2 a + sz2 a ≤ d a) (o : Fin nn → ℕ) (ho : ∀ a, off2 a = off a + o a) (inbo : ∀ a, o a + sz2 a ≤ sz a) :
    m.view.readAt (Elt F) (Rect.unit (s := ⟨nn, d⟩) off2 sz2 inb2).toLoadRect
        (((m.slice (Rect.unit (s := ⟨nn, d⟩) off sz inb) (fun _ => rfl)).squeeze s' hq).view.writes (Elt F) f
          [⟨Rect.whole s', ReadAs.same.apply (((A.slice (Rect.unit (s := ⟨nn, D⟩) off' sz inb') (fun _ => rfl)).squeeze s' hq').view.read (Elt F) (A.view.rep X))⟩])
      = VecWindow.window (s := ⟨nn, sz⟩) (VecWindow.window X off' sz inb') o sz2 inbo := by
  funext y
  rw [View.readAt_apply]
  have hy : (Rect.unit (s := ⟨nn, d⟩) off2 sz2 inb2).toLoadRect.idx y
      = (Rect.unit (s := ⟨nn, d⟩) off sz inb).emb (fun a => ⟨o a + (y a).val, lt_of_lt_of_le (Nat.add_lt_add_left (y a).isLt _) (inbo a)⟩) := by
    funext a
    refine Fin.ext ?_
    show off2 a + 1 * (y a).val = off a + 1 * (o a + (y a).val)
    rw [ho]; omega
  rw [hy]
  generalize hz : (fun a => (⟨o a + (y a).val, lt_of_lt_of_le (Nat.add_lt_add_left (y a).isLt _) (inbo a)⟩ : Fin (sz a))) = z
  have hr := View.read_writes_whole (Val := Elt F) ((m.slice (Rect.unit (s := ⟨nn, d⟩) off sz inb) (fun _ => rfl)).squeeze s' hq).view f
    (ReadAs.same.apply (((A.slice (Rect.unit (s := ⟨nn, D⟩) off' sz inb') (fun _ => rfl)).squeeze s' hq').view.read (Elt F) (A.view.rep X)))
  have hr' := congrFun hr ((Shape.reshapeEquiv hq.numel_eq).symm z)
  have hl : ∀ G, ((m.slice (Rect.unit (s := ⟨nn, d⟩) off sz inb) (fun _ => rfl)).squeeze s' hq).view.read (Elt F) G ((Shape.reshapeEquiv hq.numel_eq).symm z)
      = m.view.read (Elt F) G ((Rect.unit (s := ⟨nn, d⟩) off sz inb).emb z) := fun G => by
    show m.view.read (Elt F) G ((Rect.unit (s := ⟨nn, d⟩) off sz inb).emb (Shape.reshapeEquiv hq.numel_eq ((Shape.reshapeEquiv hq.numel_eq).symm z))) = _
    rw [Equiv.apply_symm_apply]
  rw [hl] at hr'
  refine hr'.trans ?_
  show A.view.read (Elt F) (A.view.rep X) ((Rect.unit (s := ⟨nn, D⟩) off' sz inb').emb (Shape.reshapeEquiv hq.numel_eq ((Shape.reshapeEquiv hq.numel_eq).symm z))) = _
  rw [Equiv.apply_symm_apply, View.read_rep, ← hz]
  unfold VecWindow.window
  congr 1
  funext a
  refine Fin.ext ?_
  show off' a + 1 * (o a + (y a).val) = off' a + 1 * (o a + 1 * (y a).val)
  omega

end Slot

section SlotLoad

variable {e : EltTy} {nn : ℕ} {d D sz sz2 : Fin nn → ℕ}

/-- A load inside a slot that a transfer has filled: the program continues at the window of the source. -/
theorem slot_load_run (c : Dev nD) (m : Memref sig .tc .vmem ⟨nn, d⟩ e) (A : Memref sig .tc .hbm ⟨nn, D⟩ e) {off off' off2 : Fin nn → ℕ} (inb : ∀ a, off a + sz a ≤ d a)
    (inb' : ∀ a, off' a + sz a ≤ D a) {s' : Shape} (hq hq' : (⟨nn, sz⟩ : Shape).Squeezes s') (f) (X : Vec F ⟨nn, D⟩ e)
    (inb2 : ∀ a, off2 a + sz2 a ≤ d a) (o : Fin nn → ℕ) (ho : ∀ a, off2 a = off a + o a) (inbo : ∀ a, o a + sz2 a ≤ sz a)
    (w : (⟨nn, sz2⟩ : Shape).Idx → Elt F e) (hw : VecWindow.window (s := ⟨nn, sz⟩) (VecWindow.window X off' sz inb') o sz2 inbo = w)
    (hl : m.view.LoadsAt (Rect.unit (s := ⟨nn, d⟩) off2 sz2 inb2).toLoadRect) {α : Type}
    (k : ((⟨nn, sz2⟩ : Shape).Idx → Elt F e) → Prog (TpuEff nD τ sig (Elt F) Λ₀ .tc) α) (Q : α → sProp 𝕄) :
    iprop((m.view.loc (c : Thread nD τ) ↦[((m.slice (Rect.unit (s := ⟨nn, d⟩) off sz inb) (fun _ => rfl)).squeeze s' hq).view.set]{fullShare}
          (((m.slice (Rect.unit (s := ⟨nn, d⟩) off sz inb) (fun _ => rfl)).squeeze s' hq).view.writes (Elt F) f
          [⟨Rect.whole s', ReadAs.same.apply (((A.slice (Rect.unit (s := ⟨nn, D⟩) off' sz inb') (fun _ => rfl)).squeeze s' hq').view.read (Elt F) (A.view.rep X))⟩]))
      ∗ ((m.view.loc (c : Thread nD τ) ↦[((m.slice (Rect.unit (s := ⟨nn, d⟩) off sz inb) (fun _ => rfl)).squeeze s' hq).view.set]{fullShare}
          (((m.slice (Rect.unit (s := ⟨nn, d⟩) off sz inb) (fun _ => rfl)).squeeze s' hq).view.writes (Elt F) f
          [⟨Rect.whole s', ReadAs.same.apply (((A.slice (Rect.unit (s := ⟨nn, D⟩) off' sz inb') (fun _ => rfl)).squeeze s' hq').view.read (Elt F) (A.view.rep X))⟩]))
        -∗ wp frame (wpE (defs₀ (F := F)) Variants.none (c : Thread nD τ) none) Set.univ
          (k w) Q))
      ⊢ wp frame (wpE (defs₀ (F := F)) Variants.none (c : Thread nD τ) none) Set.univ
          (Prog.op (.load m (Rect.unit (s := ⟨nn, d⟩) off2 sz2 inb2).toLoadRect hl) k) Q := by
  rw [← hw, ← slot_load m A inb inb' hq hq' f X inb2 o ho inbo]
  have hS : m.view.setOn (Rect.unit (s := ⟨nn, d⟩) off2 sz2 inb2).toLoadRect.set ⊆ ((m.slice (Rect.unit (s := ⟨nn, d⟩) off sz inb) (fun _ => rfl)).squeeze s' hq).view.set :=
    Memref.setOn_subset_of_access_subset (c : Thread nD τ) (slot_incl m inb hq inb2 o ho inbo)
  iintro ⟨H, HQ⟩
  iapply (wp_load (Q := Q) Variants.none (c : Thread nD τ) none Set.univ (hl := hl) (k := k) hS) $$ [H]
  · iexact H
  · iexact HQ

end SlotLoad

end Cert.Kernel.Hand

end
-- ==== Proof.InitK.lean ====
/- Hand-written. -/
module

public import proofs.«01_k».proof.Proof.SegK
public import proofs.«01_k».proof.Proof.ModelK
public import proofs.«01_k».proof.Proof.Gen.Kernel.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-- The five state buffers at a state. -/
def stOwn (arg16 : Memref sig .tc .vmem S768x128 .bf16) (arg17 : Memref sig .tc .vmem S32x768 .bf16) (arg18 arg19 : Memref sig .tc .vmem S32x128 .f32)
    (arg20 : Memref sig .tc .vmem S768x32 .f32) (c : Dev nD) (s : St F) : sProp 𝕄 :=
  iprop((arg16.view.loc (c : Thread nD τ) ↦[arg16.view.set]{fullShare} arg16.view.rep s.ksb)
      ∗ (arg17.view.loc (c : Thread nD τ) ↦[arg17.view.set]{fullShare} arg17.view.rep s.qbd)
      ∗ (arg18.view.loc (c : Thread nD τ) ↦[arg18.view.set]{fullShare} arg18.view.rep s.m)
      ∗ (arg19.view.loc (c : Thread nD τ) ↦[arg19.view.set]{fullShare} arg19.view.rep s.l)
      ∗ (arg20.view.loc (c : Thread nD τ) ↦[arg20.view.set]{fullShare} arg20.view.rep s.acc))

/-- The four inputs the first chunk reads. -/
def inOwn (arg1 : Memref sig .tc .vmem S20x32x96 .bf16) (arg2 arg3 : Memref sig .tc .vmem S20x8x96 .bf16) (arg4 : Memref sig .tc .vmem S20x8x96 .f32)
    (c : Dev nD) (I : In F) : sProp 𝕄 :=
  iprop((arg1.view.loc (c : Thread nD τ) ↦[arg1.view.set]{fullShare} arg1.view.rep I.x)
      ∗ (arg2.view.loc (c : Thread nD τ) ↦[arg2.view.set]{fullShare} arg2.view.rep I.kn)
      ∗ (arg3.view.loc (c : Thread nD τ) ↦[arg3.view.set]{fullShare} arg3.view.rep I.vn)
      ∗ (arg4.view.loc (c : Thread nD τ) ↦[arg4.view.set]{fullShare} arg4.view.rep I.ks))

theorem off42_eq (b : Fin 20) : k0_off42 (BitVec.ofNat 32 b.val) = ![b.val, 0, 0] := by
  show ![(BitVec.ofNat 32 b.val).toNat, 0, 0] = _
  rw [ofNat_toNat _ (by omega)]
theorem off43_eq (b : Fin 20) : k0_off43 (BitVec.ofNat 32 b.val) = ![b.val, 0, 0] := off42_eq b

omit [FloatOps F] in
theorem ld42 {e : EltTy} {sp : Space} (a : Memref sig .tc sp S20x32x96 e) (x : Vec F S20x32x96 e) (b : Fin 20) (h) :
    a.view.readAt (Elt F) (Rect.unit (s := S20x32x96) (k0_off42 (BitVec.ofNat 32 b.val)) ![1, 32, 96] h).toLoadRect (a.view.rep x)
      = VecWindow.window x ![b.val, 0, 0] S1x32x96.size (inbX b b.isLt) :=
  View.readAt_rep_unit _ _ _ (off42_eq b) _
omit [FloatOps F] in
theorem ld43 {e : EltTy} {sp : Space} (a : Memref sig .tc sp S20x8x96 e) (x : Vec F S20x8x96 e) (b : Fin 20) (h) :
    a.view.readAt (Elt F) (Rect.unit (s := S20x8x96) (k0_off43 (BitVec.ofNat 32 b.val)) ![1, 8, 96] h).toLoadRect (a.view.rep x)
      = VecWindow.window x ![b.val, 0, 0] S1x8x96.size (inbN b b.isLt) :=
  View.readAt_rep_unit _ _ _ (off43_eq b) _

theorem ksb_cover (w : Vec F S1x8x96 .f32) : ∀ y, ∃ p ∈ ksbPieces w, y ∈ p.1.set := View.cover_of_tiledL _ S96x128.size (by sl_kernel_rfl)
theorem qbd_cover (w : Vec F S1x32x96 .bf16) : ∀ y, ∃ p ∈ qbdPieces w, y ∈ p.1.set := View.cover_of_tiledL _ S32x96.size (by sl_kernel_rfl)

theorem ksb_own (c : Dev nD) (a : Memref sig .tc .vmem S768x128 .bf16) (f) (I : In F) (b : Fin 20) :
    (a.view.loc (c : Thread nD τ) ↦[a.view.set]{fullShare} a.view.writes (Elt F) f (ksbPieces (I.ksw b)) : sProp 𝕄)
      ⊢ a.view.loc (c : Thread nD τ) ↦[a.view.set]{fullShare} a.view.rep (initSt I b).ksb :=
  pointsTo_rep_of_read (c : Thread nD τ) a _ fullShare _ (View.read_writes_eq_canon _ _ _ (ksb_cover _))
theorem qbd_own (c : Dev nD) (a : Memref sig .tc .vmem S32x768 .bf16) (f) (I : In F) (b : Fin 20) :
    (a.view.loc (c : Thread nD τ) ↦[a.view.set]{fullShare} a.view.writes (Elt F) f (qbdPieces (I.xw b)) : sProp 𝕄)
      ⊢ a.view.loc (c : Thread nD τ) ↦[a.view.set]{fullShare} a.view.rep (initSt I b).qbd :=
  pointsTo_rep_of_read (c : Thread nD τ) a _ fullShare _ (View.read_writes_eq_canon _ _ _ (qbd_cover _))

set_option maxHeartbeats 400000 in
/-- The first chunk's branch leaves the state at `initSt`, whatever the state buffers held. -/
theorem init_run (c : Dev nD) (I : In F) (b : Fin 20) (s : St F) (v110 : Elt F .i32) (h9 : k0_chk9 (BitVec.ofNat 32 b.val) v110)
    (h5 : k0_cond5 v110 = 1#1) (Q : PUnit → sProp 𝕄) :
    iprop(inOwn arg1 arg2 arg3 arg4 c I ∗ stOwn arg16 arg17 arg18 arg19 arg20 c s
      ∗ (inOwn arg1 arg2 arg3 arg4 c I ∗ stOwn arg16 arg17 arg18 arg19 arg20 c (initSt I b) -∗ Q ⟨⟩))
      ⊢ wp frame (wpE (defs₀ (F := F)) Variants.none (c : Thread nD τ) none) Set.univ (segInit arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 k0_pay2 (BitVec.ofNat 32 b.val) v110 h9 h5) Q := by
  unfold inOwn stOwn
  iintro ⟨⟨H1, H2, H3, H4⟩, ⟨H16, H17, H18, H19, H20⟩, HQ⟩
  unfold segInit
  simp only [k0_part1_eq_skeleton, k0_part2_eq_skeleton, k0_part3_eq_skeleton, k0_part4_eq_skeleton]
  unfold k0_part1_skel k0_part2_skel k0_part3_skel k0_part4_skel
  sl_exec
  sl_step
  simp only [ld42, ld43]
  iapply HQ
  isplitl [H1 H2 H3 H4]
  · isplitl [H1]; · iexact H1
    isplitl [H2]; · iexact H2
    isplitl [H3]; · iexact H3
    iexact H4
  isplitl [H16]
  · iapply (ksb_own c arg16 _ I b); iexact H16
  isplitl [H17]
  · iapply (qbd_own c arg17 _ I b); iexact H17
  isplitl [H18]
  · iapply (pointsTo_rep_of_read (c : Thread nD τ) arg18 _ fullShare (initSt I b).m (View.read_writes_full _ _ _ _ _))
    iexact H18
  isplitl [H19]
  · iapply (pointsTo_rep_of_read (c : Thread nD τ) arg19 _ fullShare (initSt I b).l (View.read_writes_full _ _ _ _ _))
    iexact H19
  · iapply (pointsTo_rep_of_read (c : Thread nD τ) arg20 _ fullShare (initSt I b).acc (View.read_writes_full _ _ _ _ _))
    iexact H20

end Cert.Kernel.Hand

end
-- ==== Proof.RestK.lean ====
/- Hand-written. -/
module

public import proofs.«01_k».proof.Proof.Seg2K
public import proofs.«01_k».proof.Proof.RingK
public import proofs.«01_k».proof.Proof.SlotK
public import proofs.«01_k».proof.Proof.InitK
public import proofs.«01_k».proof.Proof.ModelK
public import proofs.«01_k».proof.Proof.Gen.Kernel.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

omit [FloatOps F] [∀ e, Nonempty (Elt F e)] in
theorem win_zero {e : EltTy} {nn : ℕ} {D sz off off' : Fin nn → ℕ} (X : Vec F ⟨nn, D⟩ e) (h : off = off') (h1 h2 h3) :
    VecWindow.window (s := ⟨nn, sz⟩) (VecWindow.window (s := ⟨nn, D⟩) X off sz h1) (fun _ => 0) sz h2 = VecWindow.window (s := ⟨nn, D⟩) X off' sz h3 := by
  subst h
  funext y
  unfold VecWindow.window
  congr 1
  funext a
  refine Fin.ext ?_
  show off a + 1 * (0 + 1 * (y a).val) = off a + 1 * (y a).val
  omega

omit [FloatOps F] [∀ e, Nonempty (Elt F e)] in
theorem win_sub {e : EltTy} {nn : ℕ} {D sz sz2 off off' o o' : Fin nn → ℕ} (X : Vec F ⟨nn, D⟩ e) (h : off = off') (ho : o = o') (h1 h2 h3 h4) :
    VecWindow.window (s := ⟨nn, sz⟩) (VecWindow.window (s := ⟨nn, D⟩) X off sz h1) o sz2 h2 = VecWindow.window (s := ⟨nn, sz⟩) (VecWindow.window (s := ⟨nn, D⟩) X off' sz h3) o' sz2 h4 := by
  subst h ho; rfl

theorem off47_eq (b : Fin 20) (c : Fin 8) : k0_off47 (BitVec.ofNat 32 b.val) (BitVec.ofNat 32 c.val) = ![b.val, 0, c.val * 1024] := by
  have := c.isLt
  unfold k0_off47; simp only []; rw [muli_toNat c.val c.isLt 1024 (by omega), BitVec.toNat_ofNat, Nat.mod_eq_of_lt (by omega)]
theorem off50_eq (b : Fin 20) (c : Fin 8) : k0_off50 (BitVec.ofNat 32 b.val) (BitVec.ofNat 32 c.val) = ![b.val, 0, c.val * 64, 0] := by
  unfold k0_off50; simp only []; rw [muli_toNat c.val c.isLt 64 (by omega), BitVec.toNat_ofNat, Nat.mod_eq_of_lt (by omega)]
theorem off53_eq (b : Fin 20) (c : Fin 8) : k0_off53 (BitVec.ofNat 32 b.val) (BitVec.ofNat 32 c.val) = ![b.val, 0, c.val * 1024] := by
  unfold k0_off53; simp only []; rw [muli_toNat c.val c.isLt 1024 (by omega), BitVec.toNat_ofNat, Nat.mod_eq_of_lt (by omega)]
theorem off55_eq (b : Fin 20) : (k0_off55 (BitVec.ofNat 32 b.val)) 0 = b.val := by
  show (BitVec.ofNat 32 b.val).toNat = _
  rw [ofNat_toNat _ (by omega)]

section Loads
variable (a16 : Memref sig .tc .vmem S768x128 .bf16) (a17 : Memref sig .tc .vmem S32x768 .bf16) (a18 : Memref sig .tc .vmem S32x128 .f32) (a20 : Memref sig .tc .vmem S768x32 .f32)
omit [FloatOps F] in
theorem ld16 (x : Vec F S768x128 .bf16) (h) : a16.view.readAt (Elt F) (Rect.unit (s := S768x128) ![0, 0] ![768, 128] h).toLoadRect (a16.view.rep x) = x :=
  View.readAt_rep_full a16.view x h
omit [FloatOps F] in
theorem ld17 (x : Vec F S32x768 .bf16) (h) : a17.view.readAt (Elt F) (Rect.unit (s := S32x768) ![0, 0] ![32, 768] h).toLoadRect (a17.view.rep x) = x :=
  View.readAt_rep_full a17.view x h
omit [FloatOps F] in
theorem ld18 (x : Vec F S32x128 .f32) (h) : a18.view.readAt (Elt F) (Rect.unit (s := S32x128) ![0, 0] ![32, 1] h).toLoadRect (a18.view.rep x)
    = VecWindow.window x ![0, 0] S32x1.size inb_S32x128_S32x1_0_0 :=
  View.readAt_rep_unit _ _ _ rfl _
omit [FloatOps F] in
theorem ld20 (x : Vec F S768x32 .f32) (h) : a20.view.readAt (Elt F) (Rect.unit (s := S768x32) ![0, 0] ![768, 32] h).toLoadRect (a20.view.rep x) = x :=
  View.readAt_rep_full a20.view x h
end Loads

theorem kt_win (I : In F) (b : Fin 20) (j : Fin 8) (h1 h2) : VecWindow.window (s := S1x768x1024) (VecWindow.window (s := S20x768x8192) I.kt (k0_off47 (BitVec.ofNat 32 b.val) (BitVec.ofNat 32 j.val)) ![1, 768, 1024] h1) (fun _ => 0) ![1, 768, 1024] h2 = I.ktw b j :=
  win_zero I.kt (off47_eq b j) _ _ _
theorem vs_win (I : In F) (b : Fin 20) (j : Fin 8) (h1 h2) : VecWindow.window (s := S1x8x1024) (VecWindow.window (s := S20x8x8192) I.vs (k0_off53 (BitVec.ofNat 32 b.val) (BitVec.ofNat 32 j.val)) ![1, 8, 1024] h1) (fun _ => 0) ![1, 8, 1024] h2 = I.vsw b j :=
  win_zero I.vs (off53_eq b j) _ _ _
theorem vt_win1 (I : In F) (b : Fin 20) (j : Fin 8) (h1 h2) : VecWindow.window (s := S1x48x64x128) (VecWindow.window (s := S20x48x512x128) I.vt (k0_off50 (BitVec.ofNat 32 b.val) (BitVec.ofNat 32 j.val)) ![1, 48, 64, 128] h1) (fun _ => 0) ![1, 48, 32, 128] h2
    = VecWindow.window (I.vtw b j) ![0, 0, 0, 0] S1x48x32x128.size (by decide) :=
  win_sub I.vt (off50_eq b j) (by funext a; match a with | ⟨0, _⟩ => rfl | ⟨1, _⟩ => rfl | ⟨2, _⟩ => rfl | ⟨3, _⟩ => rfl) _ _ _ _
theorem vt_win2 (I : In F) (b : Fin 20) (j : Fin 8) (h1 h2) : VecWindow.window (s := S1x48x64x128) (VecWindow.window (s := S20x48x512x128) I.vt (k0_off50 (BitVec.ofNat 32 b.val) (BitVec.ofNat 32 j.val)) ![1, 48, 64, 128] h1) ![0, 0, 32, 0] ![1, 48, 32, 128] h2
    = VecWindow.window (I.vtw b j) ![0, 0, 32, 0] S1x48x32x128.size (by decide) :=
  win_sub I.vt (off50_eq b j) rfl _ _ _ _

set_option maxHeartbeats 400000 in
/-- The waits for chunk `j` of sequence `b` in the slot the trip's counter names, and its step of the fold. -/
theorem rest_run (c : Dev nD) (I : In F) (n : ℕ) (hn : n ≤ 160) (k : Fin (k0_t4_loop (BitVec.ofNat 32 n)).trips) (h7)
    (b : Fin 20) (j : Fin 8) (h11) (p : Fin 160) (hp : (k0_off44 (BitVec.ofNat 32 n) k) 0 = p.val) (wb wc : Vec F S160 .i32)
    (hwb : wb (ix1 p) = BitVec.ofNat 32 b.val) (hwc : wc (ix1 p) = BitVec.ofNat 32 j.val)
    (s : Fin 4) (hs : s = ⟨(Scalar.remsi (Scf.iv 0#32 1#32 k) 4#32).toNat, slotW_lt k (by have := k_lt (by omega) k; omega)⟩)
    (st : St F) (W : Waits sig Unit) (Q : PUnit → sProp 𝕄) :
    iprop(wOwn c arg21 arg22 wb wc ∗ slotSt c I s (some (b, j)) ∗ (arg0.view.loc (c : Thread nD τ) ↦[arg0.view.set]{fullShare} arg0.view.rep I.len)
      ∗ stOwn arg16 arg17 arg18 arg19 arg20 c st ∗ owes (c : Thread nD τ) 0 W
      ∗ (wOwn c arg21 arg22 wb wc ∗ slotSt c I s none ∗ (arg0.view.loc (c : Thread nD τ) ↦[arg0.view.set]{fullShare} arg0.view.rep I.len)
        ∗ stOwn arg16 arg17 arg18 arg19 arg20 c (stepSt I b j st) ∗ (∃ W, owes (c : Thread nD τ) 0 W) -∗ Q ⟨⟩))
      ⊢ wp frame (wpE (defs₀ (F := F)) Variants.none (c : Thread nD τ) none) Set.univ
          (segRest arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 (BitVec.ofNat 32 n) h7 lanes k (BitVec.ofNat 32 b.val) h11 (BitVec.ofNat 32 j.val)) Q := by
  subst hs
  unfold wOwn slotSt flightP stOwn
  iintro ⟨⟨H21, H22⟩, ⟨⟨⟨%fa, Ha⟩, Ta⟩, ⟨⟨%fb, Hb⟩, Tb⟩, ⟨⟨%fc, Hc⟩, Tc⟩⟩, H0, ⟨H16, H17, H18, H19, H20⟩, HO, HQ⟩
  unfold segRest
  simp only [k0_part6_eq_skeleton, k0_part7_eq_skeleton, k0_part8_eq_skeleton]
  unfold k0_part6_skel k0_part7_skel k0_part8_skel
  sl_exec
  have e1 : rest_run.sl.r arg21 n k h7 wb = BitVec.ofNat 32 b.val := by
    unfold rest_run.sl.r
    exact (ldword arg21 wb _ _ _ p hp).trans hwb
  have e2 : rest_run.sl.r_1 arg22 n k h7 wc = BitVec.ofNat 32 j.val := by
    unfold rest_run.sl.r_1
    exact (ldword arg22 wc _ _ _ p hp).trans hwc
  generalize rest_run.sl.r arg21 n k h7 wb = w1 at e1 ⊢
  generalize rest_run.sl.r_1 arg22 n k h7 wc = w2 at e2 ⊢
  subst e1 e2
  have h10 := chk10 b j b.isLt j.isLt
  sl_exec (disch := exact h10)
  iapply (slot_load_run c (Memref.whole cc0_scratch0) (Memref.whole main_v1) (inbK _ (slotW_lt k (by have := k_lt (by omega) k; omega))) (k0_off47_inb _ _ h10)
    squeezes_S1x768x1024_S768x1024 squeezes_S1x768x1024_S768x1024 fa I.kt (k0_off54_inb (BitVec.ofNat 32 n) h7 k) (fun _ => 0) (fun a => rfl) (fun a => by simp) (I.ktw b j) (kt_win I b j _ _) _ _ Q)
  isplitl [Ha_dst]
  · iexact Ha_dst
  iintro Ka
  sl_exec
  iapply (slot_load_run c (Memref.whole cc0_scratch2) (Memref.whole main_v6) (inbVS _ (slotW_lt k (by have := k_lt (by omega) k; omega))) (k0_off53_inb _ _ h10)
    squeezes_S1x8x1024_S8x1024 squeezes_S1x8x1024_S8x1024 fc I.vs (k0_off56_inb (BitVec.ofNat 32 n) h7 k) (fun _ => 0) (fun a => rfl) (fun a => by simp) (I.vsw b j) (vs_win I b j _ _) _ _ Q)
  isplitl [Hc_dst]
  · iexact Hc_dst
  iintro Kc
  iapply (slot_load_run c (Memref.whole cc0_scratch1) (Memref.whole main_v5) (inbV _ (slotW_lt k (by have := k_lt (by omega) k; omega))) (k0_off50_inb _ _ h10)
    squeezes_S1x48x64x128_S48x64x128 squeezes_S1x48x64x128_S48x64x128 fb I.vt (k0_off57_inb (BitVec.ofNat 32 n) h7 k) (fun _ => 0) (fun a => rfl) (by decide) (VecWindow.window (I.vtw b j) ![0, 0, 0, 0] S1x48x32x128.size (by decide)) (vt_win1 I b j _ _) _ _ Q)
  isplitl [Hb_dst]
  · iexact Hb_dst
  iintro Kb
  iapply (slot_load_run c (Memref.whole cc0_scratch1) (Memref.whole main_v5) (inbV _ (slotW_lt k (by have := k_lt (by omega) k; omega))) (k0_off50_inb _ _ h10)
    squeezes_S1x48x64x128_S48x64x128 squeezes_S1x48x64x128_S48x64x128 fb I.vt (k0_off58_inb (BitVec.ofNat 32 n) h7 k) ![0, 0, 32, 0] (fun a => by match a with | ⟨0, _⟩ => rfl | ⟨1, _⟩ => rfl | ⟨2, _⟩ => rfl | ⟨3, _⟩ => rfl) (by decide) (VecWindow.window (I.vtw b j) ![0, 0, 32, 0] S1x48x32x128.size (by decide)) (vt_win2 I b j _ _) _ _ Q)
  isplitl [Kb]
  · iexact Kb
  iintro Kb
  dsimp only [Prog.bind, Pure.pure]
  sl_exec
  sl_step
  have e3 : rest_run.sl.r_2 arg0 I b h11 = I.lenw b := by
    unfold rest_run.sl.r_2
    exact (ldword arg0 I.len _ _ _ b (off55_eq b)).trans (congrArg I.len (funext fun a => by match a with | ⟨0, _⟩ => rfl))
  simp only [e3, ld16, ld17, ld18, ld20]
  iapply HQ
  isplitl [H21 H22]
  · isplitl [H21]; · iexact H21
    iexact H22
  isplitl [Ha Hb Hc Ka Kb Kc Ta Tb Tc]
  · isplitl [Ha Ka Ta]
    · isplitl [Ha]; · iexact Ha
      isplitl [Ka]
      · iexists _; iexact Ka
      iexact Ta
    isplitl [Hb Kb Tb]
    · isplitl [Hb]; · iexact Hb
      isplitl [Kb]
      · iexists _; iexact Kb
      iexact Tb
    isplitl [Hc]; · iexact Hc
    isplitl [Kc]
    · iexists _; iexact Kc
    iexact Tc
  isplitl [H0]; · iexact H0
  isplitr [HO]
  · isplitl [H16]; · iexact H16
    isplitl [H17]; · iexact H17
    isplitl [H18]
    · iapply (pointsTo_rep_of_read (c : Thread nD τ) arg18 _ fullShare (stepSt I b j st).m (View.read_writes_full _ _ _ _ _))
      iexact H18
    isplitl [H19]
    · iapply (pointsTo_rep_of_read (c : Thread nD τ) arg19 _ fullShare (stepSt I b j st).l (View.read_writes_full _ _ _ _ _))
      iexact H19
    · iapply (pointsTo_rep_of_read (c : Thread nD τ) arg20 _ fullShare (stepSt I b j st).acc (View.read_writes_full _ _ _ _ _))
      iexact H20
  iexists _
  iexact HO

end Cert.Kernel.Hand

end
-- ==== Proof.BodyEqK.lean ====
/- Hand-written. Further segments of the kernel's main loop body, as programs of their own. -/
module

public import proofs.«01_k».proof.Proof.Seg2K
public import proofs.«01_k».proof.Proof.Gen.Kernel.Skeleton
public import proofs.«01_k».proof.Proof.Gen.Kernel.Points
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.SL.Sem

variable {F : FTy → Type} [FloatOps F]

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

set_option maxHeartbeats 2000000 in
theorem t4_body_eq (v1 : BitVec 32) (k0_hw7 : k0_chk7 v1) (v99 : IVec S32x1024 32) (k0_t4 : Fin (k0_t4_loop v1).trips) (a : BitVec 32) :
    k0_t4_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v1 k0_hw7 v99 k0_t4 a = tripB arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 v1 k0_hw7 v99 k0_t4 := by
  unfold k0_t4_body tripB
  simp only [k0_part5_eq_skeleton]
  unfold k0_part5_skel segRest segStart segInit segOut
  simp only [bind_assoc]
  congr 1; funext v108
  congr 1; funext h11
  congr 1; funext v110
  congr 1; funext h9
  by_cases h4 : k0_cond4 v1 k0_t4 = 1#1 <;> by_cases h5 : k0_cond5 v110 = 1#1 <;>
    simp only [dif_pos, dif_neg, h4, h5, not_false_eq_true, bind_assoc, pure_bind]
  all_goals repeat' (refine congr (congrArg bind (by with_reducible rfl)) (funext fun _ => ?_))
  all_goals split <;> rfl

end Cert.Kernel.Hand

end
-- ==== Proof.TripK.lean ====
/- Hand-written. -/
module

public import proofs.«01_k».proof.Proof.Seg2K
public import proofs.«01_k».proof.Proof.RestK
public import proofs.«01_k».proof.Proof.BodyEqK
public import proofs.«01_k».proof.Proof.RingK
public import proofs.«01_k».proof.Proof.SlotK
public import proofs.«01_k».proof.Proof.InitK
public import proofs.«01_k».proof.Proof.ModelK
public import proofs.«01_k».proof.Proof.Gen.Kernel.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-! ## One trip of the main loop -/

/-- A word load of a work list at a place known. -/
theorem smem_run (c : Dev nD) {n : ℕ} (a : Memref sig .tc .smem ⟨1, ![n]⟩ .i32) (w : Vec F ⟨1, ![n]⟩ .i32) (off : Fin 1 → ℕ) (h) (hw) (p : Fin n) (hp : off 0 = p.val)
    (v : Elt F .i32) (hv : w (ix1 p) = v) (Q : Elt F .i32 → sProp 𝕄) :
    iprop((a.view.loc (c : Thread nD τ) ↦[a.view.set]{fullShare} a.view.rep w)
      ∗ ((a.view.loc (c : Thread nD τ) ↦[a.view.set]{fullShare} a.view.rep w) -∗ Q v))
      ⊢ wp frame (wpE (defs₀ (F := F)) Variants.none (c : Thread nD τ) none) Set.univ
          (smemLoad a (Rect.unit (s := ⟨1, ![n]⟩) off S1.size h) numel1_S1 hw : Prog (TpuEff nD τ sig (Elt F) Λ₀ .tc) (Elt F .i32)) Q := by
  subst hv
  iintro ⟨H, HQ⟩
  sl_exec
  sl_step
  unfold smem_run.sl.f
  rw [ldword a w off h _ p hp]
  iapply HQ
  iexact H

/-- A check that holds. -/
theorem assume_run (c : Dev nD) (P : Prop) (dec : Decidable P) (hP : P) (Q : PLift P → sProp 𝕄) :
    Q ⟨hP⟩ ⊢ wp frame (wpE (defs₀ (F := F)) Variants.none (c : Thread nD τ) none) Set.univ
      (Prog.lift (TpuEff.assume P dec) : Prog (TpuEff nD τ sig (Elt F) Λ₀ .tc) (PLift P)) Q := by
  iintro H
  sl_exec (disch := exact hP)
  sl_step
  iexact H

/-- The result block, at `O`. -/
def outOwn (arg8 : Memref sig .tc .vmem S20x32x96 .bf16) (c : Dev nD) (O : Vec F S20x32x96 .bf16) : sProp 𝕄 :=
  (arg8.view.loc (c : Thread nD τ) ↦[arg8.view.set]{fullShare} arg8.view.rep O)

/-- `O` with slab `b` replaced. -/
def putSlab (O : Vec F S20x32x96 .bf16) (b : Fin 20) (w : Vec F S1x32x96 .bf16) : Vec F S20x32x96 .bf16 := VecWindow.put O ![b.val, 0, 0] S1x32x96.size w

theorem off60_eq (b : Fin 20) : k0_off60 (BitVec.ofNat 32 b.val) = ![b.val, 0, 0] := by
  show ![(BitVec.ofNat 32 b.val).toNat, 0, 0] = _
  rw [ofNat_toNat _ (by omega)]

set_option maxHeartbeats 400000 in
/-- The store of a finished sequence's slab. -/
theorem out_run (c : Dev nD) (b : Fin 20) (s : St F) (O : Vec F S20x32x96 .bf16) (v1 : BitVec 32) (k : Fin (k0_t4_loop v1).trips) (w : BitVec 32)
    (h12) (h6) (Q : PUnit → sProp 𝕄) :
    iprop(stOwn arg16 arg17 arg18 arg19 arg20 c s ∗ outOwn arg8 c O
      ∗ (stOwn arg16 arg17 arg18 arg19 arg20 c s ∗ outOwn arg8 c (putSlab O b (outSlab s)) -∗ Q ⟨⟩))
      ⊢ wp frame (wpE (defs₀ (F := F)) Variants.none (c : Thread nD τ) none) Set.univ (segOut (F := F) arg8 harg8 arg19 arg20 v1 k (BitVec.ofNat 32 b.val) w h12 h6) Q := by
  unfold stOwn outOwn
  iintro ⟨⟨H16, H17, H18, H19, H20⟩, H8, HQ⟩
  unfold segOut
  sl_exec
  sl_step
  simp only [ld18, ld20]
  iapply HQ
  isplitr [H8]
  · isplitl [H16]; · iexact H16
    isplitl [H17]; · iexact H17
    isplitl [H18]; · iexact H18
    isplitl [H19]; · iexact H19
    iexact H20
  · iapply (pointsTo_rep_of_read (c : Thread nD τ) arg8 _ fullShare (putSlab O b (outSlab s)) (View.read_writes_rep_unit _ _ _ _ (off60_eq b)))
    iexact H8

/-! ### The ring's state before each trip -/

/-- How many places after `i` slot `k` is next used. -/
def dist (i : ℕ) (k : Fin 4) : ℕ := (k.val + 4 - i % 4) % 4

/-- The ring before trip `i`: the chunks at the places `i`, `i+1`, `i+2` of the list are under way. -/
def ringAt (B : ℕ → Fin 20) (C : ℕ → Fin 8) (n i : ℕ) (k : Fin 4) : Option (Fin 20 × Fin 8) :=
  if dist i k < 3 ∧ i + dist i k < n then some (B (i + dist i k), C (i + dist i k)) else none

/-- The ring within trip `i`, after its start. -/
def ringMid (B : ℕ → Fin 20) (C : ℕ → Fin 8) (n i : ℕ) : Fin 4 → Option (Fin 20 × Fin 8) :=
  if i + 3 < n then Function.update (ringAt B C n i) ⟨(i + 3) % 4, Nat.mod_lt _ (by decide)⟩ (some (B (i + 3), C (i + 3))) else ringAt B C n i

theorem ringAt_free (B C) (n i : ℕ) : ringAt B C n i ⟨(i + 3) % 4, Nat.mod_lt _ (by decide)⟩ = none := by
  unfold ringAt
  rw [if_neg]
  unfold dist
  simp only []
  omega

theorem ringMid_cur (B C) (n i : ℕ) (h : i < n) : ringMid B C n i ⟨i % 4, Nat.mod_lt _ (by decide)⟩ = some (B i, C i) := by
  have e : dist i ⟨i % 4, Nat.mod_lt _ (by decide)⟩ = 0 := by unfold dist; simp only []; omega
  have h2 : ringAt B C n i ⟨i % 4, Nat.mod_lt _ (by decide)⟩ = some (B i, C i) := by
    unfold ringAt
    rw [e, if_pos ⟨by omega, by omega⟩]; rfl
  unfold ringMid
  split
  · rw [Function.update_of_ne (fun h => by have := congrArg Fin.val h; simp only [] at this; omega)]
    exact h2
  · exact h2

theorem ring_next (B C) (n i : ℕ) (h : i < n) :
    Function.update (ringMid B C n i) ⟨i % 4, Nat.mod_lt _ (by decide)⟩ none = ringAt B C n (i + 1) := by
  funext k
  by_cases hk : k = ⟨i % 4, Nat.mod_lt _ (by decide)⟩
  · subst hk
    rw [Function.update_self]
    unfold ringAt
    rw [if_neg]
    unfold dist
    simp only []
    omega
  rw [Function.update_of_ne hk]
  have hk' : k.val ≠ i % 4 := fun h => hk (Fin.ext h)
  have hd : dist i k = dist (i + 1) k + 1 := by unfold dist; omega
  have hl : dist (i + 1) k < 3 := by unfold dist; omega
  by_cases h3 : k = ⟨(i + 3) % 4, Nat.mod_lt _ (by decide)⟩
  · subst h3
    have e2 : dist (i + 1) ⟨(i + 3) % 4, Nat.mod_lt _ (by decide)⟩ = 2 := by unfold dist; simp only []; omega
    unfold ringMid
    by_cases hn : i + 3 < n
    · rw [if_pos hn, Function.update_self]
      unfold ringAt
      rw [e2, if_pos ⟨by omega, by omega⟩]
    · rw [if_neg hn, ringAt_free]
      unfold ringAt
      rw [if_neg (by omega)]
  · have hv : k.val ≠ (i + 3) % 4 := fun h => h3 (Fin.ext h)
    have h2 : dist i k < 3 := by unfold dist; omega
    have e : ringMid B C n i k = ringAt B C n i k := by
      unfold ringMid
      split
      · rw [Function.update_of_ne h3]
      · rfl
    rw [e]
    unfold ringAt
    have ep : i + dist i k = i + 1 + dist (i + 1) k := by omega
    rw [ep]
    by_cases hn : i + 1 + dist (i + 1) k < n
    · rw [if_pos ⟨h2, hn⟩, if_pos ⟨hl, hn⟩]
    · rw [if_neg (fun h => hn h.2), if_neg (fun h => hn h.2)]

/-- The ring of slots in the states `st`. -/
def ringOwn (c : Dev nD) (I : In F) (st : Fin 4 → Option (Fin 20 × Fin 8)) : sProp 𝕄 :=
  Ring.AtW (σ := fun _ : Fin 4 => Option (Fin 20 × Fin 8)) (slotSt c I) st

/-! ### The three guarded parts -/

theorem startIf_run (c : Dev nD) (I : In F) (B : ℕ → Fin 20) (C : ℕ → Fin 8) (n : ℕ) (hn : n ≤ 160) (k : Fin (k0_t4_loop (BitVec.ofNat 32 n)).trips) (h7)
    (wb wc : Vec F S160 .i32)
    (hw : ∀ p : Fin 160, p.val < n → wb (ix1 p) = BitVec.ofNat 32 (B p.val).val ∧ wc (ix1 p) = BitVec.ofNat 32 (C p.val).val) (Q : PUnit → sProp 𝕄) :
    iprop(wOwn c arg21 arg22 wb wc ∗ ringOwn c I (ringAt B C n k.val) ∗ (wOwn c arg21 arg22 wb wc ∗ ringOwn c I (ringMid B C n k.val) -∗ Q ⟨⟩))
      ⊢ wp frame (wpE (defs₀ (F := F)) Variants.none (c : Thread nD τ) none) Set.univ
        (if h4 : k0_cond4 (BitVec.ofNat 32 n) k = 1#1 then segStart (F := F) arg21 arg22 (BitVec.ofNat 32 n) h7 k h4 else pure ⟨⟩) Q := by
  by_cases h : k.val + 3 < n
  · rw [dif_pos ((cond4_iff (by omega) k).2 h)]
    have hm : ringMid B C n k.val = Function.update (ringAt B C n k.val) ⟨(k.val + 3) % 4, Nat.mod_lt _ (by decide)⟩ (some (B (k.val + 3), C (k.val + 3))) := if_pos h
    rw [hm]
    unfold ringOwn
    rw [Ring.AtW_focus (σ := fun _ : Fin 4 => Option (Fin 20 × Fin 8)) (slotSt c I) (ringAt B C n k.val) ⟨(k.val + 3) % 4, Nat.mod_lt _ (by decide)⟩, ringAt_free]
    iintro ⟨Hw, ⟨Hs, Hr⟩, HQ⟩
    iapply (start_run arg21 arg22 c I n hn k h7 _ (B (k.val + 3)) (C (k.val + 3)) ⟨k.val + 3, by omega⟩ (ivp3_toNat k.val (by omega)) wb wc
      (hw ⟨k.val + 3, by omega⟩ h).1 (hw ⟨k.val + 3, by omega⟩ h).2 ⟨(k.val + 3) % 4, Nat.mod_lt _ (by decide)⟩ (Fin.ext (slotI_eq k.val (by omega)).symm) Q)
    isplitl [Hw]; · iexact Hw
    isplitl [Hs]; · iexact Hs
    iintro ⟨Hw, Hs⟩
    iapply HQ
    isplitl [Hw]; · iexact Hw
    iapply (Ring.AtW_update (σ := fun _ : Fin 4 => Option (Fin 20 × Fin 8)) (slotSt c I))
    isplitl [Hs]; · iexact Hs
    iexact Hr
  · rw [dif_neg (fun h' => h ((cond4_iff (by omega) k).1 h'))]
    have hm : ringMid B C n k.val = ringAt B C n k.val := if_neg h
    rw [hm]
    iintro ⟨Hw, Hs, HQ⟩
    sl_step
    iapply HQ
    isplitl [Hw]; · iexact Hw
    iexact Hs

theorem initIf_run (c : Dev nD) (I : In F) (b : Fin 20) (j : Fin 8) (s : St F) (h9) (Q : PUnit → sProp 𝕄) :
    iprop(inOwn arg1 arg2 arg3 arg4 c I ∗ stOwn arg16 arg17 arg18 arg19 arg20 c s
      ∗ (inOwn arg1 arg2 arg3 arg4 c I ∗ stOwn arg16 arg17 arg18 arg19 arg20 c (if j.val = 0 then initSt I b else s) -∗ Q ⟨⟩))
      ⊢ wp frame (wpE (defs₀ (F := F)) Variants.none (c : Thread nD τ) none) Set.univ
        (if h5 : k0_cond5 (BitVec.ofNat 32 j.val) = 1#1 then segInit arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 k0_pay2 (BitVec.ofNat 32 b.val) (BitVec.ofNat 32 j.val) h9 h5 else pure ⟨⟩) Q := by
  by_cases h : j.val = 0
  · rw [dif_pos ((cond5_iff j.val (by omega)).2 h), if_pos h]
    exact init_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I b s _ h9 _ Q
  · rw [dif_neg (fun h' => h ((cond5_iff j.val (by omega)).1 h')), if_neg h]
    iintro ⟨Hi, Hs, HQ⟩
    sl_step
    iapply HQ
    isplitl [Hi]; · iexact Hi
    iexact Hs

theorem outIf_run (c : Dev nD) (b : Fin 20) (j : Fin 8) (s : St F) (O : Vec F S20x32x96 .bf16) (n : ℕ) (hn : n ≤ 160) (k : Fin (k0_t4_loop (BitVec.ofNat 32 n)).trips)
    (h12) (Q : PUnit → sProp 𝕄) :
    iprop(stOwn arg16 arg17 arg18 arg19 arg20 c s ∗ outOwn arg8 c O
      ∗ (stOwn arg16 arg17 arg18 arg19 arg20 c s ∗ outOwn arg8 c (if k.val + 1 = n ∨ j.val = 0 then putSlab O b (outSlab s) else O) -∗ Q ⟨⟩))
      ⊢ wp frame (wpE (defs₀ (F := F)) Variants.none (c : Thread nD τ) none) Set.univ
        (if h6 : k0_cond6 (BitVec.ofNat 32 n) k (BitVec.ofNat 32 j.val) = 1#1 then segOut (F := F) arg8 harg8 arg19 arg20 (BitVec.ofNat 32 n) k (BitVec.ofNat 32 b.val) (BitVec.ofNat 32 j.val) h12 h6 else pure ⟨⟩) Q := by
  by_cases h : k.val + 1 = n ∨ j.val = 0
  · rw [dif_pos ((cond6_iff (by omega) k j.val (by omega)).2 h), if_pos h]
    exact out_run arg8 harg8 arg16 arg17 arg18 arg19 arg20 c b s O _ k _ h12 _ Q
  · rw [dif_neg (fun h' => h ((cond6_iff (by omega) k j.val (by omega)).1 h')), if_neg h]
    iintro ⟨Hi, Hs, HQ⟩
    sl_step
    iapply HQ
    isplitl [Hi]; · iexact Hi
    iexact Hs

/-- The ring within trip `k`, with the slot the trip reads set apart. -/
theorem ringMid_focus (c : Dev nD) (I : In F) (B : ℕ → Fin 20) (C : ℕ → Fin 8) (n i : ℕ) (h : i < n) :
    ringOwn c I (ringMid B C n i) = iprop(slotSt c I ⟨i % 4, Nat.mod_lt _ (by decide)⟩ (some (B i, C i))
      ∗ Ring.restW (σ := fun _ : Fin 4 => Option (Fin 20 × Fin 8)) (slotSt c I) (ringMid B C n i) ⟨i % 4, Nat.mod_lt _ (by decide)⟩) := by
  unfold ringOwn
  rw [Ring.AtW_focus (σ := fun _ : Fin 4 => Option (Fin 20 × Fin 8)) (slotSt c I) (ringMid B C n i) ⟨i % 4, Nat.mod_lt _ (by decide)⟩, ringMid_cur B C n i h]

/-- … and put back, empty. -/
theorem ringMid_close (c : Dev nD) (I : In F) (B : ℕ → Fin 20) (C : ℕ → Fin 8) (n i : ℕ) (h : i < n) :
    iprop(slotSt c I ⟨i % 4, Nat.mod_lt _ (by decide)⟩ none
      ∗ Ring.restW (σ := fun _ : Fin 4 => Option (Fin 20 × Fin 8)) (slotSt c I) (ringMid B C n i) ⟨i % 4, Nat.mod_lt _ (by decide)⟩)
      ⊢ ringOwn c I (ringAt B C n (i + 1)) := by
  rw [← ring_next B C n i h]
  exact Ring.AtW_update (σ := fun _ : Fin 4 => Option (Fin 20 × Fin 8)) (slotSt c I) _ _ _

/-! ### The trip -/

/-- The state after the chunk at place `i` of the list. -/
def stNext (I : In F) (B : ℕ → Fin 20) (C : ℕ → Fin 8) (i : ℕ) (s : St F) : St F :=
  stepSt I (B i) (C i) (if (C i).val = 0 then initSt I (B i) else s)
/-- The result block after it. -/
def outNext (B : ℕ → Fin 20) (C : ℕ → Fin 8) (n i : ℕ) (s : St F) (O : Vec F S20x32x96 .bf16) : Vec F S20x32x96 .bf16 :=
  if i + 1 = n ∨ (C (min (i + 1) (n - 1))).val = 0 then putSlab O (B i) (outSlab s) else O

set_option maxHeartbeats 400000 in
theorem trip_run (c : Dev nD) (I : In F) (B : ℕ → Fin 20) (C : ℕ → Fin 8) (n : ℕ) (hn : n ≤ 160) (k : Fin (k0_t4_loop (BitVec.ofNat 32 n)).trips) (h7)
    (wb wc : Vec F S160 .i32)
    (hw : ∀ p : Fin 160, p.val < n → wb (ix1 p) = BitVec.ofNat 32 (B p.val).val ∧ wc (ix1 p) = BitVec.ofNat 32 (C p.val).val)
    (s : St F) (O : Vec F S20x32x96 .bf16) (W : Waits sig Unit) (Q : BitVec 32 → sProp 𝕄) :
    iprop(wOwn c arg21 arg22 wb wc ∗ inOwn arg1 arg2 arg3 arg4 c I ∗ (arg0.view.loc (c : Thread nD τ) ↦[arg0.view.set]{fullShare} arg0.view.rep I.len)
      ∗ stOwn arg16 arg17 arg18 arg19 arg20 c s ∗ outOwn arg8 c O ∗ ringOwn c I (ringAt B C n k.val) ∗ owes (c : Thread nD τ) 0 W
      ∗ (wOwn c arg21 arg22 wb wc ∗ inOwn arg1 arg2 arg3 arg4 c I ∗ (arg0.view.loc (c : Thread nD τ) ↦[arg0.view.set]{fullShare} arg0.view.rep I.len)
        ∗ stOwn arg16 arg17 arg18 arg19 arg20 c (stNext I B C k.val s) ∗ outOwn arg8 c (outNext B C n k.val (stNext I B C k.val s) O)
        ∗ ringOwn c I (ringAt B C n (k.val + 1)) ∗ (∃ W, owes (c : Thread nD τ) 0 W) -∗ Q 0#32))
      ⊢ wp frame (wpE (defs₀ (F := F)) Variants.none (c : Thread nD τ) none) Set.univ
        (tripB (F := F) arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 (BitVec.ofNat 32 n) h7 lanes k) Q := by
  have hk := k_lt (show n < 1000 by omega) k
  have hwk := hw ⟨k.val, by omega⟩ hk
  have hwl := hw ⟨min (k.val + 1) (n - 1), by omega⟩ (by simp only []; omega)
  unfold tripB
  rw [wp_bind]
  have hst := fun Q' => startIf_run arg21 arg22 c I B C n hn k h7 wb wc hw Q'
  rw [ringMid_focus c I B C n k.val hk] at hst
  unfold wOwn
  iintro ⟨⟨Hb, Hc⟩, Hi, H0, Hs, Ho, Hr, HO, HQ⟩
  iapply (smem_run c arg21 wb (k0_off31 (BitVec.ofNat 32 n) k) _ _ ⟨k.val, by omega⟩ (iv_toNat k.val (by omega)) _ hwk.1)
  isplitl [Hb]; · iexact Hb
  iintro Hb
  rw [wp_bind]
  iapply (assume_run c _ _ (chk11 (B k.val) (B k.val).isLt))
  rw [wp_bind]
  iapply (smem_run c arg22 wc (k0_off31 (BitVec.ofNat 32 n) k) _ _ ⟨k.val, by omega⟩ (iv_toNat k.val (by omega)) _ hwk.2)
  isplitl [Hc]; · iexact Hc
  iintro Hc
  rw [wp_bind]
  iapply (assume_run c _ _ (chk9 (B k.val) (BitVec.ofNat 32 (C k.val).val) (B k.val).isLt))
  rw [wp_bind]
  iapply (hst _)
  isplitl [Hb Hc]
  · unfold wOwn
    isplitl [Hb]; · iexact Hb
    iexact Hc
  isplitl [Hr]; · iexact Hr
  iintro ⟨Hw, Hr1, Hr2⟩
  rw [wp_bind]
  iapply (initIf_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I (B k.val) (C k.val) s)
  isplitl [Hi]; · iexact Hi
  isplitl [Hs]; · iexact Hs
  iintro ⟨Hi, Hs⟩
  rw [wp_bind]
  iapply (rest_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I n hn k h7 (B k.val) (C k.val) _ ⟨k.val, by omega⟩ (iv_toNat k.val (by omega)) wb wc hwk.1 hwk.2
    ⟨k.val % 4, Nat.mod_lt _ (by decide)⟩ (Fin.ext (slotW_eq k.val (by omega)).symm) _ W)
  isplitl [Hw]; · iexact Hw
  isplitl [Hr1]; · iexact Hr1
  isplitl [H0]; · iexact H0
  isplitl [Hs]; · iexact Hs
  isplitl [HO]; · iexact HO
  unfold wOwn
  iintro ⟨⟨Hb, Hc⟩, Hr1, H0, Hs, HO⟩
  rw [wp_bind]
  iapply (smem_run c arg22 wc (k0_off59 (BitVec.ofNat 32 n) k) _ _ ⟨min (k.val + 1) (n - 1), by omega⟩ (off59_toNat n k.val (by omega) hk) _ hwl.2)
  isplitl [Hc]; · iexact Hc
  iintro Hc
  rw [wp_bind]
  iapply (assume_run c _ _ (chk12 (BitVec.ofNat 32 n) k (B k.val) (B k.val).isLt _))
  rw [wp_bind]
  iapply (outIf_run arg8 harg8 arg16 arg17 arg18 arg19 arg20 c (B k.val) (C (min (k.val + 1) (n - 1))) _ O n hn k)
  isplitl [Hs]; · iexact Hs
  isplitl [Ho]; · iexact Ho
  iintro ⟨Hs, Ho⟩
  sl_step
  iapply HQ
  isplitl [Hb Hc]
  · isplitl [Hb]; · iexact Hb
    iexact Hc
  isplitl [Hi]; · iexact Hi
  isplitl [H0]; · iexact H0
  isplitl [Hs]; · iexact Hs
  isplitl [Ho]; · iexact Ho
  isplitl [Hr1 Hr2]
  · iapply (ringMid_close c I B C n k.val hk)
    isplitl [Hr1]; · iexact Hr1
    iexact Hr2
  iexact HO

end Cert.Kernel.Hand

end
-- ==== Proof.PreK.lean ====
/- Hand-written. -/
module

public import proofs.«01_k».proof.Proof.TripK
public import proofs.«01_k».proof.Proof.Seg2K
public import proofs.«01_k».proof.Proof.RestK
public import proofs.«01_k».proof.Proof.BodyEqK
public import proofs.«01_k».proof.Proof.RingK
public import proofs.«01_k».proof.Proof.SlotK
public import proofs.«01_k».proof.Proof.InitK
public import proofs.«01_k».proof.Proof.ModelK
public import proofs.«01_k».proof.Proof.Gen.Kernel.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

/-- The start of the transfers of place 0 of the work list, into slot 0. -/
def segPre1 (v1 : BitVec 32) (k0_h1 : k0_cond1 v1 = 1#1) :
    Prog (TpuEff nD τ sig (Elt F) Λ₀ .tc) PUnit := do
  let v108 : Elt F .i32 ← smemLoad arg21 (Rect.unit (s := S160) ![0] S1.size inb_S160_S1_0) numel1_S1 rfl
  let v110 : Elt F .i32 ← smemLoad arg22 (Rect.unit (s := S160) ![0] S1.size inb_S160_S1_0) numel1_S1 rfl
  have k0_hw4 : k0_chk4 v1 v108 v110 := (← Prog.lift (TpuEff.assume (k0_chk4 v1 v108 v110) (k0_chk4.dec v1 v108 v110))).down
  let v115 : DmaSems sig S1x1 := cc0_scratch3.slice (Rect.unit (s := S4x3) k0_off4 S1x1.size k0_off4_inb)
  let v116 : DmaSems sig S_ := v115.squeeze S_ squeezes_S1x1_S_
  let v117 : Memref sig .tc .vmem S1x768x1024 .i8 := (Memref.whole cc0_scratch0).slice (Rect.unit (s := S4x768x1024) k0_off5 S1x768x1024.size k0_off5_inb) (fun _ => rfl)
  let v118 : Memref sig .tc .vmem S768x1024 .i8 := v117.squeeze S768x1024 squeezes_S1x768x1024_S768x1024
  let v119 : Memref sig .tc .hbm S1x768x1024 .i8 := (Memref.whole main_v1).slice (Rect.unit (s := S20x768x8192) (k0_off6 v108 v110) S1x768x1024.size (k0_off6_inb v1 v108 v110 k0_hw4 k0_h1)) (fun _ => rfl)
  let v120 : Memref sig .tc .hbm S768x1024 .i8 := v119.squeeze S768x1024 squeezes_S1x768x1024_S768x1024
  Prog.lift (.enqueueDma v120 (.here v118) (.dma v116.sem) (((Memref.isWhole_whole main_v1).wordExact_slice rfl _ (k0_off6_wordsi8 v1 v108 v110 k0_hw4 k0_h1)).reshape _ _) (((Memref.isWhole_whole cc0_scratch0).wordExact_slice rfl _ k0_off5_wordsi8).reshape _ _) ⟨Or.inl rfl, trivial⟩)
  let v121 : DmaSems sig S1x1 := cc0_scratch3.slice (Rect.unit (s := S4x3) k0_off7 S1x1.size k0_off7_inb)
  let v122 : DmaSems sig S_ := v121.squeeze S_ squeezes_S1x1_S_
  let v123 : Memref sig .tc .vmem S1x48x64x128 .i8 := (Memref.whole cc0_scratch1).slice (Rect.unit (s := S4x48x64x128) k0_off8 S1x48x64x128.size k0_off8_inb) (fun _ => rfl)
  let v124 : Memref sig .tc .vmem S48x64x128 .i8 := v123.squeeze S48x64x128 squeezes_S1x48x64x128_S48x64x128
  let v125 : Memref sig .tc .hbm S1x48x64x128 .i8 := (Memref.whole main_v5).slice (Rect.unit (s := S20x48x512x128) (k0_off9 v108 v110) S1x48x64x128.size (k0_off9_inb v1 v108 v110 k0_hw4 k0_h1)) (fun _ => rfl)
  let v126 : Memref sig .tc .hbm S48x64x128 .i8 := v125.squeeze S48x64x128 squeezes_S1x48x64x128_S48x64x128
  Prog.lift (.enqueueDma v126 (.here v124) (.dma v122.sem) (((Memref.isWhole_whole main_v5).wordExact_slice rfl _ (k0_off9_wordsi8 v1 v108 v110 k0_hw4 k0_h1)).reshape _ _) (((Memref.isWhole_whole cc0_scratch1).wordExact_slice rfl _ k0_off8_wordsi8).reshape _ _) ⟨Or.inl rfl, trivial⟩)
  let v127 : DmaSems sig S1x1 := cc0_scratch3.slice (Rect.unit (s := S4x3) k0_off10 S1x1.size k0_off10_inb)
  let v128 : DmaSems sig S_ := v127.squeeze S_ squeezes_S1x1_S_
  let v129 : Memref sig .tc .vmem S1x8x1024 .f32 := (Memref.whole cc0_scratch2).slice (Rect.unit (s := S4x8x1024) k0_off11 S1x8x1024.size k0_off11_inb) (fun _ => rfl)
  let v130 : Memref sig .tc .vmem S8x1024 .f32 := v129.squeeze S8x1024 squeezes_S1x8x1024_S8x1024
  let v131 : Memref sig .tc .hbm S1x8x1024 .f32 := (Memref.whole main_v6).slice (Rect.unit (s := S20x8x8192) (k0_off12 v108 v110) S1x8x1024.size (k0_off12_inb v1 v108 v110 k0_hw4 k0_h1)) (fun _ => rfl)
  let v132 : Memref sig .tc .hbm S8x1024 .f32 := v131.squeeze S8x1024 squeezes_S1x8x1024_S8x1024
  Prog.lift (.enqueueDma v132 (.here v130) (.dma v128.sem) ((View.wordExact_bits rfl).reshape _ _) ((View.wordExact_bits rfl).reshape _ _) ⟨Or.inl rfl, trivial⟩)
  pure ⟨⟩

/-- The start of the transfers of place 1 of the work list, into slot 1. -/
def segPre2 (v1 : BitVec 32) (k0_h2 : k0_cond2 v1 = 1#1) :
    Prog (TpuEff nD τ sig (Elt F) Λ₀ .tc) PUnit := do
  let v108 : Elt F .i32 ← smemLoad arg21 (Rect.unit (s := S160) ![1] S1.size inb_S160_S1_1) numel1_S1 rfl
  let v110 : Elt F .i32 ← smemLoad arg22 (Rect.unit (s := S160) ![1] S1.size inb_S160_S1_1) numel1_S1 rfl
  have k0_hw5 : k0_chk5 v1 v108 v110 := (← Prog.lift (TpuEff.assume (k0_chk5 v1 v108 v110) (k0_chk5.dec v1 v108 v110))).down
  let v115 : DmaSems sig S1x1 := cc0_scratch3.slice (Rect.unit (s := S4x3) k0_off13 S1x1.size k0_off13_inb)
  let v116 : DmaSems sig S_ := v115.squeeze S_ squeezes_S1x1_S_
  let v117 : Memref sig .tc .vmem S1x768x1024 .i8 := (Memref.whole cc0_scratch0).slice (Rect.unit (s := S4x768x1024) k0_off14 S1x768x1024.size k0_off14_inb) (fun _ => rfl)
  let v118 : Memref sig .tc .vmem S768x1024 .i8 := v117.squeeze S768x1024 squeezes_S1x768x1024_S768x1024
  let v119 : Memref sig .tc .hbm S1x768x1024 .i8 := (Memref.whole main_v1).slice (Rect.unit (s := S20x768x8192) (k0_off15 v108 v110) S1x768x1024.size (k0_off15_inb v1 v108 v110 k0_hw5 k0_h2)) (fun _ => rfl)
  let v120 : Memref sig .tc .hbm S768x1024 .i8 := v119.squeeze S768x1024 squeezes_S1x768x1024_S768x1024
  Prog.lift (.enqueueDma v120 (.here v118) (.dma v116.sem) (((Memref.isWhole_whole main_v1).wordExact_slice rfl _ (k0_off15_wordsi8 v1 v108 v110 k0_hw5 k0_h2)).reshape _ _) (((Memref.isWhole_whole cc0_scratch0).wordExact_slice rfl _ k0_off14_wordsi8).reshape _ _) ⟨Or.inl rfl, trivial⟩)
  let v121 : DmaSems sig S1x1 := cc0_scratch3.slice (Rect.unit (s := S4x3) k0_off16 S1x1.size k0_off16_inb)
  let v122 : DmaSems sig S_ := v121.squeeze S_ squeezes_S1x1_S_
  let v123 : Memref sig .tc .vmem S1x48x64x128 .i8 := (Memref.whole cc0_scratch1).slice (Rect.unit (s := S4x48x64x128) k0_off17 S1x48x64x128.size k0_off17_inb) (fun _ => rfl)
  let v124 : Memref sig .tc .vmem S48x64x128 .i8 := v123.squeeze S48x64x128 squeezes_S1x48x64x128_S48x64x128
  let v125 : Memref sig .tc .hbm S1x48x64x128 .i8 := (Memref.whole main_v5).slice (Rect.unit (s := S20x48x512x128) (k0_off18 v108 v110) S1x48x64x128.size (k0_off18_inb v1 v108 v110 k0_hw5 k0_h2)) (fun _ => rfl)
  let v126 : Memref sig .tc .hbm S48x64x128 .i8 := v125.squeeze S48x64x128 squeezes_S1x48x64x128_S48x64x128
  Prog.lift (.enqueueDma v126 (.here v124) (.dma v122.sem) (((Memref.isWhole_whole main_v5).wordExact_slice rfl _ (k0_off18_wordsi8 v1 v108 v110 k0_hw5 k0_h2)).reshape _ _) (((Memref.isWhole_whole cc0_scratch1).wordExact_slice rfl _ k0_off17_wordsi8).reshape _ _) ⟨Or.inl rfl, trivial⟩)
  let v127 : DmaSems sig S1x1 := cc0_scratch3.slice (Rect.unit (s := S4x3) k0_off19 S1x1.size k0_off19_inb)
  let v128 : DmaSems sig S_ := v127.squeeze S_ squeezes_S1x1_S_
  let v129 : Memref sig .tc .vmem S1x8x1024 .f32 := (Memref.whole cc0_scratch2).slice (Rect.unit (s := S4x8x1024) k0_off20 S1x8x1024.size k0_off20_inb) (fun _ => rfl)
  let v130 : Memref sig .tc .vmem S8x1024 .f32 := v129.squeeze S8x1024 squeezes_S1x8x1024_S8x1024
  let v131 : Memref sig .tc .hbm S1x8x1024 .f32 := (Memref.whole main_v6).slice (Rect.unit (s := S20x8x8192) (k0_off21 v108 v110) S1x8x1024.size (k0_off21_inb v1 v108 v110 k0_hw5 k0_h2)) (fun _ => rfl)
  let v132 : Memref sig .tc .hbm S8x1024 .f32 := v131.squeeze S8x1024 squeezes_S1x8x1024_S8x1024
  Prog.lift (.enqueueDma v132 (.here v130) (.dma v128.sem) ((View.wordExact_bits rfl).reshape _ _) ((View.wordExact_bits rfl).reshape _ _) ⟨Or.inl rfl, trivial⟩)
  pure ⟨⟩

/-- The start of the transfers of place 2 of the work list, into slot 2. -/
def segPre3 (v1 : BitVec 32) (k0_h3 : k0_cond3 v1 = 1#1) :
    Prog (TpuEff nD τ sig (Elt F) Λ₀ .tc) PUnit := do
  let v108 : Elt F .i32 ← smemLoad arg21 (Rect.unit (s := S160) ![2] S1.size inb_S160_S1_2) numel1_S1 rfl
  let v110 : Elt F .i32 ← smemLoad arg22 (Rect.unit (s := S160) ![2] S1.size inb_S160_S1_2) numel1_S1 rfl
  have k0_hw6 : k0_chk6 v1 v108 v110 := (← Prog.lift (TpuEff.assume (k0_chk6 v1 v108 v110) (k0_chk6.dec v1 v108 v110))).down
  let v115 : DmaSems sig S1x1 := cc0_scratch3.slice (Rect.unit (s := S4x3) k0_off22 S1x1.size k0_off22_inb)
  let v116 : DmaSems sig S_ := v115.squeeze S_ squeezes_S1x1_S_
  let v117 : Memref sig .tc .vmem S1x768x1024 .i8 := (Memref.whole cc0_scratch0).slice (Rect.unit (s := S4x768x1024) k0_off23 S1x768x1024.size k0_off23_inb) (fun _ => rfl)
  let v118 : Memref sig .tc .vmem S768x1024 .i8 := v117.squeeze S768x1024 squeezes_S1x768x1024_S768x1024
  let v119 : Memref sig .tc .hbm S1x768x1024 .i8 := (Memref.whole main_v1).slice (Rect.unit (s := S20x768x8192) (k0_off24 v108 v110) S1x768x1024.size (k0_off24_inb v1 v108 v110 k0_hw6 k0_h3)) (fun _ => rfl)
  let v120 : Memref sig .tc .hbm S768x1024 .i8 := v119.squeeze S768x1024 squeezes_S1x768x1024_S768x1024
  Prog.lift (.enqueueDma v120 (.here v118) (.dma v116.sem) (((Memref.isWhole_whole main_v1).wordExact_slice rfl _ (k0_off24_wordsi8 v1 v108 v110 k0_hw6 k0_h3)).reshape _ _) (((Memref.isWhole_whole cc0_scratch0).wordExact_slice rfl _ k0_off23_wordsi8).reshape _ _) ⟨Or.inl rfl, trivial⟩)
  let v121 : DmaSems sig S1x1 := cc0_scratch3.slice (Rect.unit (s := S4x3) k0_off25 S1x1.size k0_off25_inb)
  let v122 : DmaSems sig S_ := v121.squeeze S_ squeezes_S1x1_S_
  let v123 : Memref sig .tc .vmem S1x48x64x128 .i8 := (Memref.whole cc0_scratch1).slice (Rect.unit (s := S4x48x64x128) k0_off26 S1x48x64x128.size k0_off26_inb) (fun _ => rfl)
  let v124 : Memref sig .tc .vmem S48x64x128 .i8 := v123.squeeze S48x64x128 squeezes_S1x48x64x128_S48x64x128
  let v125 : Memref sig .tc .hbm S1x48x64x128 .i8 := (Memref.whole main_v5).slice (Rect.unit (s := S20x48x512x128) (k0_off27 v108 v110) S1x48x64x128.size (k0_off27_inb v1 v108 v110 k0_hw6 k0_h3)) (fun _ => rfl)
  let v126 : Memref sig .tc .hbm S48x64x128 .i8 := v125.squeeze S48x64x128 squeezes_S1x48x64x128_S48x64x128
  Prog.lift (.enqueueDma v126 (.here v124) (.dma v122.sem) (((Memref.isWhole_whole main_v5).wordExact_slice rfl _ (k0_off27_wordsi8 v1 v108 v110 k0_hw6 k0_h3)).reshape _ _) (((Memref.isWhole_whole cc0_scratch1).wordExact_slice rfl _ k0_off26_wordsi8).reshape _ _) ⟨Or.inl rfl, trivial⟩)
  let v127 : DmaSems sig S1x1 := cc0_scratch3.slice (Rect.unit (s := S4x3) k0_off28 S1x1.size k0_off28_inb)
  let v128 : DmaSems sig S_ := v127.squeeze S_ squeezes_S1x1_S_
  let v129 : Memref sig .tc .vmem S1x8x1024 .f32 := (Memref.whole cc0_scratch2).slice (Rect.unit (s := S4x8x1024) k0_off29 S1x8x1024.size k0_off29_inb) (fun _ => rfl)
  let v130 : Memref sig .tc .vmem S8x1024 .f32 := v129.squeeze S8x1024 squeezes_S1x8x1024_S8x1024
  let v131 : Memref sig .tc .hbm S1x8x1024 .f32 := (Memref.whole main_v6).slice (Rect.unit (s := S20x8x8192) (k0_off30 v108 v110) S1x8x1024.size (k0_off30_inb v1 v108 v110 k0_hw6 k0_h3)) (fun _ => rfl)
  let v132 : Memref sig .tc .hbm S8x1024 .f32 := v131.squeeze S8x1024 squeezes_S1x8x1024_S8x1024
  Prog.lift (.enqueueDma v132 (.here v130) (.dma v128.sem) ((View.wordExact_bits rfl).reshape _ _) ((View.wordExact_bits rfl).reshape _ _) ⟨Or.inl rfl, trivial⟩)
  pure ⟨⟩
/-- The loads of the new keys and values, and the codes of the new keys stored. -/
def segQuant (v1 : BitVec 32) (k0_hw7 : k0_chk7 v1) :
    Prog (TpuEff nD τ sig (Elt F) Λ₀ .tc) (Σ' (v1 : BitVec 32) (k0_hw7 : k0_chk7 v1) (v16 : FVec F S20x8x96 .f32), FVec F S20x8x96 .f32) := do
  let v11 : Vec F S20x8x96 .bf16 ← Prog.lift (.load arg2 (Rect.unit (s := S20x8x96) ![0, 0, 0] S20x8x96.size inb_S20x8x96_S20x8x96_0_0_0).toLoadRect (View.loadsAt_vmem h_S20x8x96))
  let v14 : Vec F S20x8x96 .bf16 ← Prog.lift (.load arg3 (Rect.unit (s := S20x8x96) ![0, 0, 0] S20x8x96.size inb_S20x8x96_S20x8x96_0_0_0).toLoadRect (View.loadsAt_vmem h_S20x8x96))
  let v17 : Vec F S20x8x96 .f32 ← Prog.lift (.load arg4 (Rect.unit (s := S20x8x96) ![0, 0, 0] S20x8x96.size inb_S20x8x96_S20x8x96_0_0_0).toLoadRect (View.loadsAt_vmem h_S20x8x96))
  let v25 : Vec F S20x8x96 .i8 ← Prog.lift (.load arg9 (Rect.unit (s := S20x8x96) ![0, 0, 0] S20x8x96.size inb_S20x8x96_S20x8x96_0_0_0).toLoadRect (View.loadsAt_vmem h_S20x8x96))
  Prog.lift (.store arg9 (Rect.unit (s := S20x8x96) ![0, 0, 0] S20x8x96.size inb_S20x8x96_S20x8x96_0_0_0) (k0_pay94 v11 v17) Finset.univ (View.stores_vmem h_S20x8x96 (harg9.storeExact_slice rfl _ packedi8_S20x8x96_S20x8x96_0_0_0) (fun _ => rfl)) (.inl rfl))
  pure ⟨v1, k0_hw7, k0_pay93 v14, k0_pay95 v14⟩

/-- What comes before the main loop, by its segments. -/
def preB :
    Prog (TpuEff nD τ sig (Elt F) Λ₀ .tc) (Σ' (v1 : BitVec 32) (k0_hw7 : k0_chk7 v1) (v16 : FVec F S20x8x96 .f32), FVec F S20x8x96 .f32) := do
  let v1 : BitVec 32 ← Scf.Loop.for k0_t1_loop k0_t1_ok 0#32 (k0_t1_body arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22)
  have k0_hw7 : k0_chk7 v1 := (← Prog.lift (TpuEff.assume (k0_chk7 v1) (k0_chk7.dec v1))).down
  (if k0_h1 : k0_cond1 v1 = 1#1 then segPre1 arg21 arg22 v1 k0_h1 else pure ⟨⟩)
  (if k0_h2 : k0_cond2 v1 = 1#1 then segPre2 arg21 arg22 v1 k0_h2 else pure ⟨⟩)
  (if k0_h3 : k0_cond3 v1 = 1#1 then segPre3 arg21 arg22 v1 k0_h3 else pure ⟨⟩)
  segQuant arg2 arg3 arg4 arg9 harg9 v1 k0_hw7
variable [∀ e, Nonempty (Elt F e)]

theorem pre1_run (c : Dev nD) (I : In F) (n : ℕ) (hn : n ≤ 160) (hlt : 0 < n)
    (b : Fin 20) (j : Fin 8) (wb wc : Vec F S160 .i32)
    (hwb : wb (ix1 ⟨0, by omega⟩) = BitVec.ofNat 32 b.val) (hwc : wc (ix1 ⟨0, by omega⟩) = BitVec.ofNat 32 j.val)
    (Q : PUnit → sProp 𝕄) :
    iprop(wOwn c arg21 arg22 wb wc ∗ slotSt c I 0 none ∗ (wOwn c arg21 arg22 wb wc ∗ slotSt c I 0 (some (b, j)) -∗ Q ⟨⟩))
      ⊢ wp frame (wpE (defs₀ (F := F)) Variants.none (c : Thread nD τ) none) Set.univ
        (if k0_h1 : k0_cond1 (BitVec.ofNat 32 n) = 1#1 then segPre1 (F := F) arg21 arg22 (BitVec.ofNat 32 n) k0_h1 else pure ⟨⟩) Q := by
  have hc : k0_cond1 (BitVec.ofNat 32 n) = 1#1 := (cond1_iff (n := n) (by omega)).2 hlt
  rw [dif_pos hc]
  unfold wOwn slotSt freeP
  iintro ⟨⟨H21, H22⟩, ⟨⟨Ha, ⟨%fa, Sa⟩, Ta⟩, ⟨Hb, ⟨%fb, Sb⟩, Tb⟩, ⟨Hc, ⟨%fc, Sc⟩, Tc⟩⟩, HQ⟩
  unfold segPre1
  rw [wp_bind]
  iapply (smem_run c arg21 wb ![0] _ _ ⟨0, by omega⟩ rfl _ hwb)
  isplitl [H21]; · iexact H21
  iintro H21
  rw [wp_bind]
  iapply (smem_run c arg22 wc ![0] _ _ ⟨0, by omega⟩ rfl _ hwc)
  isplitl [H22]; · iexact H22
  iintro H22
  have h8 := chk4 (BitVec.ofNat 32 n) b j b.isLt j.isLt
  sl_exec (disch := exact h8)
  sl_step
  iapply HQ
  isplitl [H21 H22]
  · isplitl [H21]
    · iexact H21
    · iexact H22
  unfold flightP
  isplitl [Ha Ta]
  · isplitl [Ha]
    · iexists fa; iexact Ha
    · iexact Ta
  isplitl [Hb Tb]
  · isplitl [Hb]
    · iexists fb; iexact Hb
    · iexact Tb
  · isplitl [Hc]
    · iexists fc; iexact Hc
    · iexact Tc

theorem pre2_run (c : Dev nD) (I : In F) (n : ℕ) (hn : n ≤ 160) (hlt : 1 < n)
    (b : Fin 20) (j : Fin 8) (wb wc : Vec F S160 .i32)
    (hwb : wb (ix1 ⟨1, by omega⟩) = BitVec.ofNat 32 b.val) (hwc : wc (ix1 ⟨1, by omega⟩) = BitVec.ofNat 32 j.val)
    (Q : PUnit → sProp 𝕄) :
    iprop(wOwn c arg21 arg22 wb wc ∗ slotSt c I 1 none ∗ (wOwn c arg21 arg22 wb wc ∗ slotSt c I 1 (some (b, j)) -∗ Q ⟨⟩))
      ⊢ wp frame (wpE (defs₀ (F := F)) Variants.none (c : Thread nD τ) none) Set.univ
        (if k0_h2 : k0_cond2 (BitVec.ofNat 32 n) = 1#1 then segPre2 (F := F) arg21 arg22 (BitVec.ofNat 32 n) k0_h2 else pure ⟨⟩) Q := by
  have hc : k0_cond2 (BitVec.ofNat 32 n) = 1#1 := (cond2_iff (n := n) (by omega)).2 hlt
  rw [dif_pos hc]
  unfold wOwn slotSt freeP
  iintro ⟨⟨H21, H22⟩, ⟨⟨Ha, ⟨%fa, Sa⟩, Ta⟩, ⟨Hb, ⟨%fb, Sb⟩, Tb⟩, ⟨Hc, ⟨%fc, Sc⟩, Tc⟩⟩, HQ⟩
  unfold segPre2
  rw [wp_bind]
  iapply (smem_run c arg21 wb ![1] _ _ ⟨1, by omega⟩ rfl _ hwb)
  isplitl [H21]; · iexact H21
  iintro H21
  rw [wp_bind]
  iapply (smem_run c arg22 wc ![1] _ _ ⟨1, by omega⟩ rfl _ hwc)
  isplitl [H22]; · iexact H22
  iintro H22
  have h8 := chk5 (BitVec.ofNat 32 n) b j b.isLt j.isLt
  sl_exec (disch := exact h8)
  sl_step
  iapply HQ
  isplitl [H21 H22]
  · isplitl [H21]
    · iexact H21
    · iexact H22
  unfold flightP
  isplitl [Ha Ta]
  · isplitl [Ha]
    · iexists fa; iexact Ha
    · iexact Ta
  isplitl [Hb Tb]
  · isplitl [Hb]
    · iexists fb; iexact Hb
    · iexact Tb
  · isplitl [Hc]
    · iexists fc; iexact Hc
    · iexact Tc

theorem pre3_run (c : Dev nD) (I : In F) (n : ℕ) (hn : n ≤ 160) (hlt : 2 < n)
    (b : Fin 20) (j : Fin 8) (wb wc : Vec F S160 .i32)
    (hwb : wb (ix1 ⟨2, by omega⟩) = BitVec.ofNat 32 b.val) (hwc : wc (ix1 ⟨2, by omega⟩) = BitVec.ofNat 32 j.val)
    (Q : PUnit → sProp 𝕄) :
    iprop(wOwn c arg21 arg22 wb wc ∗ slotSt c I 2 none ∗ (wOwn c arg21 arg22 wb wc ∗ slotSt c I 2 (some (b, j)) -∗ Q ⟨⟩))
      ⊢ wp frame (wpE (defs₀ (F := F)) Variants.none (c : Thread nD τ) none) Set.univ
        (if k0_h3 : k0_cond3 (BitVec.ofNat 32 n) = 1#1 then segPre3 (F := F) arg21 arg22 (BitVec.ofNat 32 n) k0_h3 else pure ⟨⟩) Q := by
  have hc : k0_cond3 (BitVec.ofNat 32 n) = 1#1 := (cond3_iff (n := n) (by omega)).2 hlt
  rw [dif_pos hc]
  unfold wOwn slotSt freeP
  iintro ⟨⟨H21, H22⟩, ⟨⟨Ha, ⟨%fa, Sa⟩, Ta⟩, ⟨Hb, ⟨%fb, Sb⟩, Tb⟩, ⟨Hc, ⟨%fc, Sc⟩, Tc⟩⟩, HQ⟩
  unfold segPre3
  rw [wp_bind]
  iapply (smem_run c arg21 wb ![2] _ _ ⟨2, by omega⟩ rfl _ hwb)
  isplitl [H21]; · iexact H21
  iintro H21
  rw [wp_bind]
  iapply (smem_run c arg22 wc ![2] _ _ ⟨2, by omega⟩ rfl _ hwc)
  isplitl [H22]; · iexact H22
  iintro H22
  have h8 := chk6 (BitVec.ofNat 32 n) b j b.isLt j.isLt
  sl_exec (disch := exact h8)
  sl_step
  iapply HQ
  isplitl [H21 H22]
  · isplitl [H21]
    · iexact H21
    · iexact H22
  unfold flightP
  isplitl [Ha Ta]
  · isplitl [Ha]
    · iexists fa; iexact Ha
    · iexact Ta
  isplitl [Hb Tb]
  · isplitl [Hb]
    · iexists fb; iexact Hb
    · iexact Tb
  · isplitl [Hc]
    · iexists fc; iexact Hc
    · iexact Tc

end Cert.Kernel.Hand

end
-- ==== Proof.PreEqK.lean ====
/- Hand-written. -/
module

public import proofs.«01_k».proof.Proof.PreK
public import proofs.«01_k».proof.Proof.Seg2K
public import proofs.«01_k».proof.Proof.RestK
public import proofs.«01_k».proof.Proof.BodyEqK
public import proofs.«01_k».proof.Proof.RingK
public import proofs.«01_k».proof.Proof.SlotK
public import proofs.«01_k».proof.Proof.InitK
public import proofs.«01_k».proof.Proof.ModelK
public import proofs.«01_k».proof.Proof.Gen.Kernel.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

set_option maxHeartbeats 2000000 in
theorem part17_eq :
    k0_part17 (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 = preB arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 := by
  rw [k0_part17_eq_skeleton]
  unfold k0_part17_skel preB
  congr 1; funext v1
  congr 1; funext h7
  by_cases h1 : k0_cond1 v1 = 1#1 <;> by_cases h2 : k0_cond2 v1 = 1#1 <;> by_cases h3 : k0_cond3 v1 = 1#1 <;>
    simp only [dif_pos, dif_neg, h1, h2, h3, not_false_eq_true, bind_assoc, pure_bind, segPre1, segPre2, segPre3, segQuant]
  all_goals repeat' (refine congr (congrArg bind (by with_reducible rfl)) (funext fun _ => ?_))
  all_goals rfl

end Cert.Kernel.Hand

end
-- ==== Proof.WorkK.lean ====
/- Hand-written. -/
module

public import proofs.«01_k».proof.Proof.TripK
public import proofs.«01_k».proof.Proof.Seg2K
public import proofs.«01_k».proof.Proof.RestK
public import proofs.«01_k».proof.Proof.BodyEqK
public import proofs.«01_k».proof.Proof.RingK
public import proofs.«01_k».proof.Proof.SlotK
public import proofs.«01_k».proof.Proof.InitK
public import proofs.«01_k».proof.Proof.ModelK
public import proofs.«01_k».proof.Proof.Gen.Kernel.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-! ## The work list: each sequence's chunks, one after the other -/

/-- The place at which sequence `b`'s chunks start, for chunk counts `L`. -/
def startAt (L : ℕ → ℕ) : ℕ → ℕ
  | 0 => 0
  | b + 1 => startAt L b + L b

/-- The last sequence up to `m` starting at or before place `p`. -/
def seqUpto (L : ℕ → ℕ) (p : ℕ) : ℕ → ℕ
  | 0 => 0
  | b + 1 => if startAt L (b + 1) ≤ p then b + 1 else seqUpto L p b

theorem seqUpto_le (L : ℕ → ℕ) (p m : ℕ) : seqUpto L p m ≤ m := by
  induction m with
  | zero => exact Nat.le_refl _
  | succ m ih => unfold seqUpto; split <;> omega

/-- The sequence of place `p`. -/
def placeB (L : ℕ → ℕ) (p : ℕ) : Fin 20 := ⟨seqUpto L p 19, by have := seqUpto_le L p 19; omega⟩
/-- Its chunk. -/
def placeC (L : ℕ → ℕ) (p : ℕ) : Fin 8 := ⟨(p - startAt L (placeB L p)) % 8, Nat.mod_lt _ (by decide)⟩

theorem startAt_mono (L : ℕ → ℕ) (a d : ℕ) : startAt L a ≤ startAt L (a + d) := by
  induction d with
  | zero => exact Nat.le_refl _
  | succ d ih => exact Nat.le_trans ih (Nat.le_add_right _ _)

theorem seqUpto_at (L : ℕ → ℕ) (b c m : ℕ) (hc : c < L b) (hb : b ≤ m) : seqUpto L (startAt L b + c) m = b := by
  induction m with
  | zero => unfold seqUpto; omega
  | succ m ih =>
    unfold seqUpto
    by_cases e : b = m + 1
    · subst e; rw [if_pos (Nat.le_add_right _ _)]
    · have h := startAt_mono L (b + 1) (m - b)
      rw [show b + 1 + (m - b) = m + 1 by omega, show startAt L (b + 1) = startAt L b + L b from rfl] at h
      rw [if_neg (by omega)]
      exact ih (by omega)

theorem placeB_at (L : ℕ → ℕ) (b c : ℕ) (hb : b < 20) (hc : c < L b) : (placeB L (startAt L b + c)).val = b := seqUpto_at L b c 19 hc (by omega)
theorem placeC_at (L : ℕ → ℕ) (b c : ℕ) (hb : b < 20) (hc : c < L b) (h8 : L b ≤ 8) : (placeC L (startAt L b + c)).val = c := by
  show (startAt L b + c - startAt L (placeB L (startAt L b + c)).val) % 8 = c
  rw [placeB_at L b c hb hc]; omega

theorem startAt_le (L : ℕ → ℕ) (hL : ∀ b, L b ≤ 8) (b : ℕ) : startAt L b ≤ 8 * b := by
  induction b with
  | zero => exact Nat.le_refl _
  | succ b ih => have := hL b; show startAt L b + L b ≤ _; omega
theorem le_startAt (L : ℕ → ℕ) (hL : ∀ b, 1 ≤ L b) (b : ℕ) : b ≤ startAt L b := by
  induction b with
  | zero => exact Nat.le_refl _
  | succ b ih => have := hL b; show _ ≤ startAt L b + L b; omega

/-- The chunk counts of the sequences. -/
def counts (I : In F) (b : ℕ) : ℕ := if h : b < 20 then nch (I.lenw ⟨b, h⟩) else 1

/-- Every sequence's length is at most the cache's. -/
def LenOk (I : In F) : Prop := ∀ b, (I.lenw b).toInt ≤ 8192

theorem counts_pos (I : In F) (h : LenOk I) (b : ℕ) : 1 ≤ counts I b := by
  unfold counts; split
  · exact (nch_facts _ (h _)).1
  · exact Nat.le_refl _
theorem counts_le (I : In F) (h : LenOk I) (b : ℕ) : counts I b ≤ 8 := by
  unfold counts; split
  · exact (nch_facts _ (h _)).2.1
  · decide

/-- The first `m` places of the two lists are written. -/
def Listed (L : ℕ → ℕ) (wb wc : Vec F S160 .i32) (m : ℕ) : Prop :=
  ∀ p : Fin 160, p.val < m → wb (ix1 p) = BitVec.ofNat 32 (placeB L p.val).val ∧ wc (ix1 p) = BitVec.ofNat 32 (placeC L p.val).val

/-- A list with one word set. -/
def setw (w : Vec F S160 .i32) (p : ℕ) (v : Elt F .i32) : Vec F S160 .i32 := VecWindow.put w ![p] S1.size (fun _ => v)

theorem setw_at (w : Vec F S160 .i32) (p : ℕ) (v : Elt F .i32) (q : Fin 160) : setw w p v (ix1 q) = if q.val = p then v else w (ix1 q) := by
  unfold setw VecWindow.put
  by_cases h : q.val = p
  · rw [if_pos h, dif_pos]
    intro a
    match a with
    | ⟨0, _⟩ => show p ≤ q.val ∧ q.val < p + 1; omega
  · rw [if_neg h, dif_neg]
    intro hh
    have := hh 0
    change p ≤ q.val ∧ q.val < p + 1 at this
    omega

theorem listed_step (L : ℕ → ℕ) (wb wc : Vec F S160 .i32) (b c : ℕ) (hb : b < 20) (hc : c < L b) (h8 : L b ≤ 8) (h : Listed L wb wc (startAt L b + c)) :
    Listed L (setw wb (startAt L b + c) (BitVec.ofNat 32 b)) (setw wc (startAt L b + c) (BitVec.ofNat 32 c)) (startAt L b + c + 1) := by
  intro p hp
  rw [setw_at, setw_at]
  by_cases e : p.val = startAt L b + c
  · rw [if_pos e, if_pos e, e, placeB_at L b c hb hc, placeC_at L b c hb hc h8]; exact ⟨rfl, rfl⟩
  · rw [if_neg e, if_neg e]; exact h p (by omega)

/-- One chunk of a sequence written to the lists. -/
theorem list_step_run (c : Dev nD) (wb wc : Vec F S160 .i32) (p : ℕ) (hp : p < 160) (x : BitVec 32) (v : Elt F .i32) (h1) (k : Fin (k0_t2_loop v).trips) (Q : BitVec 32 → sProp 𝕄) :
    iprop(wOwn c arg21 arg22 wb wc ∗ (wOwn c arg21 arg22 (setw wb p x) (setw wc p (Scf.iv 0#32 1#32 k)) -∗ Q (Scalar.addi (BitVec.ofNat 32 p) 1#32)))
      ⊢ wp frame (wpE (defs₀ (F := F)) Variants.none (c : Thread nD τ) none) Set.univ
        (k0_t2_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 x v h1 k (BitVec.ofNat 32 p)) Q := by
  have ho : k0_off2 (BitVec.ofNat 32 p) = ![p] := by
    funext a
    match a with
    | ⟨0, _⟩ => exact ofNat_toNat p (by omega)
  have hch := chk2 p hp
  unfold wOwn k0_t2_body
  iintro ⟨⟨Hb, Hc⟩, HQ⟩
  sl_exec (disch := exact hch)
  sl_step
  unfold list_step_run.sl.v140
  iapply HQ
  isplitl [Hb]
  · iapply (pointsTo_rep_of_read (c : Thread nD τ) arg21 _ fullShare (setw wb p x) (View.read_writes_rep_unit _ _ _ _ ho)); iexact Hb
  · iapply (pointsTo_rep_of_read (c : Thread nD τ) arg22 _ fullShare (setw wc p (Scf.iv 0#32 1#32 k)) (View.read_writes_rep_unit _ _ _ _ ho)); iexact Hc

/-- What holds before chunk `i` of sequence `b`. -/
def chunkInv (c : Dev nD) (L : ℕ → ℕ) (b : ℕ) (i : ℕ) (a : BitVec 32) : sProp 𝕄 :=
  iprop(⌜a = BitVec.ofNat 32 (startAt L b + i)⌝ ∗ ∃ wb wc, ⌜Listed (F := F) L wb wc (startAt L b + i)⌝ ∗ wOwn c arg21 arg22 wb wc)

theorem addi_one (p : ℕ) : Scalar.addi (BitVec.ofNat 32 p) 1#32 = BitVec.ofNat 32 (p + 1) := by
  show BitVec.ofNat 32 p + 1#32 = _
  rw [← BitVec.ofNat_add]

theorem chunks_run (c : Dev nD) (L : ℕ → ℕ) (hL : ∀ b, L b ≤ 8) (b : ℕ) (hb : b < 20) (v : Elt F .i32) (hv : nch v = L b) (h1) (a : BitVec 32) (Q : BitVec 32 → sProp 𝕄) :
    iprop(chunkInv (F := F) arg21 arg22 c L b 0 a ∗ (∀ a, chunkInv (F := F) arg21 arg22 c L b (L b) a -∗ Q a))
      ⊢ wp frame (wpE (defs₀ (F := F)) Variants.none (c : Thread nD τ) none) Set.univ
        (Scf.Loop.for (k0_t2_loop v) (k0_t2_ok v h1) a (k0_t2_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 (Scf.iv 0#32 1#32 b) v h1)) Q := by
  have key := Scf.wp_for frame (wpE (defs₀ (F := F)) Variants.none (c : Thread nD τ) none) Set.univ (k0_t2_loop v).lb (k0_t2_loop v).ub (k0_t2_loop v).st
    (k0_t2_ok v h1) a
    (k0_t2_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 (Scf.iv 0#32 1#32 b) v h1)
    (chunkInv (F := F) arg21 arg22 c L b) ?_ (Q := Q)
  · have ht' : Scf.trips (k0_t2_loop v).lb (k0_t2_loop v).ub (k0_t2_loop v).st = L b := hv
    rw [ht'] at key
    exact key
  · intro k a
    have hk : k.val < L b := Nat.lt_of_lt_of_eq k.isLt hv
    have hp : startAt L b + k.val < 160 := by have := startAt_le L hL b; have := hL b; omega
    unfold chunkInv
    iintro ⟨%ha, %wb, %wc, %hw, Hw⟩
    subst ha
    iapply (list_step_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c wb wc (startAt L b + k.val) hp (Scf.iv 0#32 1#32 b) v h1 k)
    isplitl [Hw]; · iexact Hw
    iintro Hw
    isplitr
    · ipureintro; exact addi_one _
    iexists _; iexists _
    isplitr; swap; · iexact Hw
    ipureintro
    have := listed_step L wb wc b k.val hb hk (hL b) hw
    rw [iv_eq, iv_eq]
    exact this

/-- What holds before sequence `b`. -/
def seqInv (c : Dev nD) (I : In F) (b : ℕ) (a : BitVec 32) : sProp 𝕄 :=
  iprop((arg0.view.loc (c : Thread nD τ) ↦[arg0.view.set]{fullShare} arg0.view.rep I.len) ∗ chunkInv (F := F) arg21 arg22 c (counts I) b 0 a)

theorem len_at (I : In F) (b : Fin 20) : I.len (ix1 b) = I.lenw b := by
  unfold In.lenw
  congr 1
  funext a
  match a with
  | ⟨0, _⟩ => rfl

theorem seq_step_run (c : Dev nD) (I : In F) (hI : LenOk I) (k : Fin k0_t1_loop.trips) (a : BitVec 32) (Q : BitVec 32 → sProp 𝕄) :
    iprop(seqInv arg0 arg21 arg22 c I k.val a ∗ (∀ a, seqInv arg0 arg21 arg22 c I (k.val + 1) a -∗ Q a))
      ⊢ wp frame (wpE (defs₀ (F := F)) Variants.none (c : Thread nD τ) none) Set.univ
        (k0_t1_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 k a) Q := by
  have hk : k.val < 20 := Nat.lt_of_lt_of_eq k.isLt (by decide)
  have ho : k0_off1 k 0 = (⟨k.val, hk⟩ : Fin 20).val := iv_toNat k.val (by omega)
  have hch := chk1 (I.lenw ⟨k.val, hk⟩) (hI _)
  have hcnt : nch (I.lenw ⟨k.val, hk⟩) = counts I k.val := by unfold counts; rw [dif_pos hk]
  unfold seqInv k0_t1_body
  iintro ⟨⟨H0, Hw⟩, HQ⟩
  rw [wp_bind]
  iapply (smem_run c arg0 I.len (k0_off1 k) _ _ ⟨k.val, hk⟩ ho _ (len_at I ⟨k.val, hk⟩))
  isplitl [H0]; · iexact H0
  iintro H0
  rw [wp_bind]
  iapply (assume_run c _ _ hch)
  rw [wp_bind]
  iapply (chunks_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c (counts I) (counts_le I hI) k.val hk (I.lenw ⟨k.val, hk⟩) hcnt _ a)
  isplitl [Hw]; · iexact Hw
  iintro %a2 Hw
  sl_exec
  iapply HQ
  isplitl [H0]; · iexact H0
  iexact Hw

/-- The lists written. -/
theorem list_run (c : Dev nD) (I : In F) (hI : LenOk I) (Q : BitVec 32 → sProp 𝕄) :
    iprop(seqInv arg0 arg21 arg22 c I 0 0#32 ∗ (∀ a, seqInv arg0 arg21 arg22 c I 20 a -∗ Q a))
      ⊢ wp frame (wpE (defs₀ (F := F)) Variants.none (c : Thread nD τ) none) Set.univ
        (Scf.Loop.for k0_t1_loop k0_t1_ok 0#32 (k0_t1_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22)) Q := by
  have key := Scf.wp_for frame (wpE (defs₀ (F := F)) Variants.none (c : Thread nD τ) none) Set.univ k0_t1_loop.lb k0_t1_loop.ub k0_t1_loop.st
    k0_t1_ok 0#32
    (k0_t1_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22)
    (seqInv arg0 arg21 arg22 c I) ?_ (Q := Q)
  · have ht' : Scf.trips k0_t1_loop.lb k0_t1_loop.ub k0_t1_loop.st = 20 := by decide
    rw [ht'] at key
    exact key
  · intro k a
    iintro H
    iapply (seq_step_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I hI k a)
    isplitl [H]; · iexact H
    iintro %a2 H
    iexact H

end Cert.Kernel.Hand

end
-- ==== Proof.LoopK.lean ====
/- Hand-written. -/
module

public import proofs.«01_k».proof.Proof.TripK
public import proofs.«01_k».proof.Proof.Seg2K
public import proofs.«01_k».proof.Proof.RestK
public import proofs.«01_k».proof.Proof.BodyEqK
public import proofs.«01_k».proof.Proof.RingK
public import proofs.«01_k».proof.Proof.SlotK
public import proofs.«01_k».proof.Proof.InitK
public import proofs.«01_k».proof.Proof.ModelK
public import proofs.«01_k».proof.Proof.Gen.Kernel.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-! ## The main loop -/

/-- The state before trip `i`. -/
def sSeq (I : In F) (B : ℕ → Fin 20) (C : ℕ → Fin 8) (s0 : St F) : ℕ → St F
  | 0 => s0
  | i + 1 => stNext I B C i (sSeq I B C s0 i)

/-- The first result before trip `i`. -/
def oSeq (I : In F) (B : ℕ → Fin 20) (C : ℕ → Fin 8) (n : ℕ) (s0 : St F) (O0 : Vec F S20x32x96 .bf16) : ℕ → Vec F S20x32x96 .bf16
  | 0 => O0
  | i + 1 => outNext B C n i (sSeq I B C s0 (i + 1)) (oSeq I B C n s0 O0 i)

/-- What holds before trip `i`. -/
def loopInv (c : Dev nD) (I : In F) (B : ℕ → Fin 20) (C : ℕ → Fin 8) (n : ℕ) (wb wc : Vec F S160 .i32) (s0 : St F) (O0 : Vec F S20x32x96 .bf16)
    (i : ℕ) (_ : BitVec 32) : sProp 𝕄 :=
  iprop(wOwn c arg21 arg22 wb wc ∗ inOwn arg1 arg2 arg3 arg4 c I ∗ (arg0.view.loc (c : Thread nD τ) ↦[arg0.view.set]{fullShare} arg0.view.rep I.len)
        ∗ stOwn arg16 arg17 arg18 arg19 arg20 c (sSeq I B C s0 i) ∗ outOwn arg8 c (oSeq I B C n s0 O0 i)
        ∗ ringOwn c I (ringAt B C n i) ∗ (∃ W, owes (c : Thread nD τ) 0 W))

theorem loop_run (c : Dev nD) (I : In F) (B : ℕ → Fin 20) (C : ℕ → Fin 8) (n : ℕ) (hn : n ≤ 160) (h7)
    (wb wc : Vec F S160 .i32)
    (hw : ∀ p : Fin 160, p.val < n → wb (ix1 p) = BitVec.ofNat 32 (B p.val).val ∧ wc (ix1 p) = BitVec.ofNat 32 (C p.val).val)
    (s : St F) (O : Vec F S20x32x96 .bf16) (Q : BitVec 32 → sProp 𝕄) :
    iprop(loopInv arg0 arg1 arg2 arg3 arg4 arg8 arg16 arg17 arg18 arg19 arg20 arg21 arg22 c I B C n wb wc s O 0 0#32
      ∗ (∀ a, loopInv arg0 arg1 arg2 arg3 arg4 arg8 arg16 arg17 arg18 arg19 arg20 arg21 arg22 c I B C n wb wc s O n a -∗ Q a))
      ⊢ wp frame (wpE (defs₀ (F := F)) Variants.none (c : Thread nD τ) none) Set.univ
        (Scf.Loop.for (k0_t4_loop (BitVec.ofNat 32 n)) (k0_t4_ok (BitVec.ofNat 32 n) h7) 0#32
          (k0_t4_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 (BitVec.ofNat 32 n) h7 lanes)) Q := by
  have ht : (k0_t4_loop (BitVec.ofNat 32 n)).trips = n := t4_trips n (by omega)
  have key := Scf.wp_for frame (wpE (defs₀ (F := F)) Variants.none (c : Thread nD τ) none) Set.univ (k0_t4_loop (BitVec.ofNat 32 n)).lb (k0_t4_loop (BitVec.ofNat 32 n)).ub (k0_t4_loop (BitVec.ofNat 32 n)).st
    (k0_t4_ok (BitVec.ofNat 32 n) h7) 0#32
    (k0_t4_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 (BitVec.ofNat 32 n) h7 lanes)
    (loopInv arg0 arg1 arg2 arg3 arg4 arg8 arg16 arg17 arg18 arg19 arg20 arg21 arg22 c I B C n wb wc s O) ?_ (Q := Q)
  · have ht' : Scf.trips (k0_t4_loop (BitVec.ofNat 32 n)).lb (k0_t4_loop (BitVec.ofNat 32 n)).ub (k0_t4_loop (BitVec.ofNat 32 n)).st = n := ht
    rw [ht'] at key
    exact key
  · intro k a
    rw [t4_body_eq]
    unfold loopInv
    iintro ⟨Hw, Hi, H0, Hs, Ho, Hr, ⟨%W, HO⟩⟩
    iapply (trip_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I B C n hn k h7 wb wc hw (sSeq I B C s k.val) (oSeq I B C n s O k.val) W)
    isplitl [Hw]; · iexact Hw
    isplitl [Hi]; · iexact Hi
    isplitl [H0]; · iexact H0
    isplitl [Hs]; · iexact Hs
    isplitl [Ho]; · iexact Ho
    isplitl [Hr]; · iexact Hr
    isplitl [HO]; · iexact HO
    iintro H
    iexact H

end Cert.Kernel.Hand

end
-- ==== Proof.OutK.lean ====
/- Hand-written. -/
module

public import proofs.«01_k».proof.Proof.TripK
public import proofs.«01_k».proof.Proof.PreK
public import proofs.«01_k».proof.Proof.WorkK
public import proofs.«01_k».proof.Proof.LoopK
public import proofs.«01_k».proof.Proof.Seg2K
public import proofs.«01_k».proof.Proof.RestK
public import proofs.«01_k».proof.Proof.BodyEqK
public import proofs.«01_k».proof.Proof.RingK
public import proofs.«01_k».proof.Proof.SlotK
public import proofs.«01_k».proof.Proof.InitK
public import proofs.«01_k».proof.Proof.ModelK
public import proofs.«01_k».proof.Proof.Gen.Kernel.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-! ## The first result after the loop: every sequence's slab -/

section
variable (I : In F) (hI : LenOk I) (s0 : St F) (O0 : Vec F S20x32x96 .bf16)

/-- The state and result sequences over the written list. -/
abbrev sAt (i : ℕ) : St F := sSeq I (placeB (counts I)) (placeC (counts I)) s0 i
abbrev oAt (i : ℕ) : Vec F S20x32x96 .bf16 := oSeq I (placeB (counts I)) (placeC (counts I)) (startAt (counts I) 20) s0 O0 i

include hI in
theorem place_at (b c : ℕ) (hb : b < 20) (hc : c < counts I b) :
    placeB (counts I) (startAt (counts I) b + c) = ⟨b, hb⟩ ∧ placeC (counts I) (startAt (counts I) b + c) = ⟨c, Nat.lt_of_lt_of_le hc (counts_le I hI b)⟩ :=
  ⟨Fin.ext (placeB_at _ b c hb hc), Fin.ext (placeC_at _ b c hb hc (counts_le I hI b))⟩

include hI in
theorem sAt_in (b c : ℕ) (hb : b < 20) (hc : c < counts I b) : sAt I s0 (startAt (counts I) b + c + 1) = stAt I ⟨b, hb⟩ (c + 1) := by
  obtain ⟨e1, e2⟩ := place_at I hI b c hb hc
  have h8 := counts_le I hI b
  induction c with
  | zero =>
    show stNext I _ _ _ _ = _
    unfold stNext
    rw [Nat.add_zero] at e1 e2
    rw [Nat.add_zero, e1, e2, if_pos rfl]
    rfl
  | succ c ih =>
    obtain ⟨f1, f2⟩ := place_at I hI b c hb (by omega)
    have := ih (by omega) f1 f2
    have hm : (⟨(c + 1) % 8, Nat.mod_lt _ (by decide)⟩ : Fin 8) = ⟨c + 1, by omega⟩ := Fin.ext (Nat.mod_eq_of_lt (by omega))
    have h2 : stAt I ⟨b, hb⟩ (c + 1 + 1) = stepSt I ⟨b, hb⟩ ⟨(c + 1) % 8, Nat.mod_lt _ (by decide)⟩ (stAt I ⟨b, hb⟩ (c + 1)) := rfl
    have h3 : sAt I s0 (startAt (counts I) b + (c + 1) + 1) = stNext I (placeB (counts I)) (placeC (counts I)) (startAt (counts I) b + (c + 1)) (sAt I s0 (startAt (counts I) b + c + 1)) := rfl
    rw [h3, h2, hm, this]
    unfold stNext
    rw [e1, e2, if_neg (Nat.succ_ne_zero c)]

include hI in
theorem oAt_in (b c : ℕ) (hb : b < 20) (hc : c < counts I b) : oAt I s0 O0 (startAt (counts I) b + c) = oAt I s0 O0 (startAt (counts I) b) := by
  induction c with
  | zero => rfl
  | succ c ih =>
    rw [← ih (by omega)]
    have hlt : startAt (counts I) b + (c + 1) < startAt (counts I) 20 := by
      have h := startAt_mono (counts I) (b + 1) (19 - b)
      rw [show b + 1 + (19 - b) = 20 by omega, show startAt (counts I) (b + 1) = startAt (counts I) b + counts I b from rfl] at h
      omega
    obtain ⟨e1, e2⟩ := place_at I hI b (c + 1) hb hc
    have h3 : oAt I s0 O0 (startAt (counts I) b + (c + 1)) = outNext (placeB (counts I)) (placeC (counts I)) (startAt (counts I) 20) (startAt (counts I) b + c)
      (sAt I s0 (startAt (counts I) b + c + 1)) (oAt I s0 O0 (startAt (counts I) b + c)) := rfl
    rw [h3]
    unfold outNext
    rw [if_neg]
    rintro (h | h)
    · omega
    · rw [show min (startAt (counts I) b + c + 1) (startAt (counts I) 20 - 1) = startAt (counts I) b + (c + 1) by omega, e2] at h
      exact Nat.succ_ne_zero c h

include hI in
theorem oAt_next (b : ℕ) (hb : b < 20) :
    oAt I s0 O0 (startAt (counts I) (b + 1)) = putSlab (oAt I s0 O0 (startAt (counts I) b)) ⟨b, hb⟩ (outSlab (stAt I ⟨b, hb⟩ (counts I b))) := by
  have hp := counts_pos I hI b
  have hc : counts I b - 1 < counts I b := by omega
  obtain ⟨e1, e2⟩ := place_at I hI b (counts I b - 1) hb hc
  have hs := sAt_in I hI s0 b (counts I b - 1) hb hc
  have ho := oAt_in I hI s0 O0 b (counts I b - 1) hb hc
  rw [show startAt (counts I) (b + 1) = startAt (counts I) b + (counts I b - 1) + 1 by show startAt (counts I) b + counts I b = _; omega]
  show outNext _ _ _ (startAt (counts I) b + (counts I b - 1)) (sAt I s0 (startAt (counts I) b + (counts I b - 1) + 1)) (oAt I s0 O0 (startAt (counts I) b + (counts I b - 1))) = _
  rw [hs, ho]
  unfold outNext
  rw [if_pos, e1, show counts I b - 1 + 1 = counts I b by omega]
  have hs1 : startAt (counts I) b + (counts I b - 1) + 1 = startAt (counts I) (b + 1) := by show _ = startAt (counts I) b + counts I b; omega
  rw [hs1]
  by_cases h19 : b = 19
  · subst h19; exact Or.inl rfl
  · right
    have hp' := counts_pos I hI (b + 1)
    obtain ⟨f1, f2⟩ := place_at I hI (b + 1) 0 (by omega) (by omega)
    have h := startAt_mono (counts I) (b + 2) (18 - b)
    rw [show b + 2 + (18 - b) = 20 by omega, show startAt (counts I) (b + 2) = startAt (counts I) (b + 1) + counts I (b + 1) from rfl] at h
    rw [show min (startAt (counts I) (b + 1)) (startAt (counts I) 20 - 1) = startAt (counts I) (b + 1) + 0 by omega, f2]

theorem putSlab_at (O : Vec F S20x32x96 .bf16) (b : Fin 20) (w : Vec F S1x32x96 .bf16) (i : S20x32x96.Idx) :
    putSlab O b w i = if (i 0).val = b.val then w (fun a => match a with
      | ⟨0, _⟩ => (0 : Fin 1)
      | ⟨1, _⟩ => i 1
      | ⟨2, _⟩ => i 2) else O i := by
  unfold putSlab VecWindow.put
  have h1 : (i 1).val < 32 := (i 1).isLt
  have h2 : (i 2).val < 96 := (i 2).isLt
  by_cases h : (i 0).val = b.val
  · rw [if_pos h, dif_pos]
    · congr 1
      funext a
      match a with
      | ⟨0, _⟩ => exact Fin.ext (by show (i 0).val - b.val = 0; omega)
      | ⟨1, _⟩ => exact Fin.ext (by show (i 1).val - 0 = (i 1).val; omega)
      | ⟨2, _⟩ => exact Fin.ext (by show (i 2).val - 0 = (i 2).val; omega)
    · intro a
      match a with
      | ⟨0, _⟩ => show b.val ≤ (i 0).val ∧ (i 0).val < b.val + 1; omega
      | ⟨1, _⟩ => show 0 ≤ (i 1).val ∧ (i 1).val < 0 + 32; omega
      | ⟨2, _⟩ => show 0 ≤ (i 2).val ∧ (i 2).val < 0 + 96; omega
  · rw [if_neg h, dif_neg]
    intro hh
    have := hh 0
    change b.val ≤ (i 0).val ∧ (i 0).val < b.val + 1 at this
    omega

include hI in
theorem oAt_slabs (b : ℕ) (hb : b ≤ 20) (i : S20x32x96.Idx) (hi : (i 0).val < b) : oAt I s0 O0 (startAt (counts I) b) i = outAll I i := by
  induction b with
  | zero => omega
  | succ b ih =>
    rw [oAt_next I hI s0 O0 b (by omega), putSlab_at]
    by_cases h : (i 0).val = b
    · rw [if_pos h]
      subst h
      unfold outAll
      have : counts I (i 0).val = nch (I.lenw (i 0)) := by exact dif_pos (show (i 0).val < 20 from (i 0).isLt)
      rw [this]
      refine congrArg (outSlab (stAt I (i 0) (nch (I.lenw (i 0))))) (funext fun a => ?_)
      match a with
      | ⟨0, _⟩ => rfl
      | ⟨1, _⟩ => rfl
      | ⟨2, _⟩ => rfl
    · rw [if_neg h]
      exact ih (by omega) (by omega)

include hI in
theorem oAt_end : oAt I s0 O0 (startAt (counts I) 20) = outAll I :=
  funext fun i => oAt_slabs I hI s0 O0 20 (Nat.le_refl _) i (i 0).isLt
end

end Cert.Kernel.Hand

end
-- ==== Proof.BodyK.lean ====
/- Hand-written. -/
module

public import proofs.«01_k».proof.Proof.TripK
public import proofs.«01_k».proof.Proof.PreK
public import proofs.«01_k».proof.Proof.PreEqK
public import proofs.«01_k».proof.Proof.OutK
public import proofs.«01_k».proof.Proof.WorkK
public import proofs.«01_k».proof.Proof.LoopK
public import proofs.«01_k».proof.Proof.Seg2K
public import proofs.«01_k».proof.Proof.RestK
public import proofs.«01_k».proof.Proof.BodyEqK
public import proofs.«01_k».proof.Proof.RingK
public import proofs.«01_k».proof.Proof.SlotK
public import proofs.«01_k».proof.Proof.InitK
public import proofs.«01_k».proof.Proof.ModelK
public import proofs.«01_k».proof.Proof.Gen.Kernel.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-! ## The whole body -/

/-- The new keys' codes. -/
def kCodes (I : In F) : Vec F S20x8x96 .i8 := k0_pay94 I.kn I.ks
/-- The new values' scales. -/
def vScale (I : In F) : Vec F S20x8x1 .f32 := k0_pay96 (k0_pay95 I.vn)
/-- The new values' codes, packed. -/
def vCodes (I : In F) : Vec F S20x8x48 .i32 := k0_pay1 (k0_pay98 (k0_pay93 I.vn) (k0_pay95 I.vn)) (k0_pay99 (k0_pay93 I.vn) (k0_pay95 I.vn)) 4#32

theorem ringAt_zero (B : ℕ → Fin 20) (C : ℕ → Fin 8) (n : ℕ) (hn : 20 ≤ n) :
    ringAt B C n 0 = Function.update (Function.update (Function.update (fun _ => none : Fin 4 → Option (Fin 20 × Fin 8)) 0 (some (B 0, C 0))) 1 (some (B 1, C 1))) 2 (some (B 2, C 2)) := by
  funext k
  unfold ringAt dist
  match k with
  | ⟨0, _⟩ => rw [if_pos (by simp only []; omega)]; simp [Function.update]
  | ⟨1, _⟩ => rw [if_pos (by simp only []; omega)]; simp [Function.update]
  | ⟨2, _⟩ => rw [if_pos (by simp only []; omega)]; simp [Function.update]
  | ⟨3, _⟩ => rw [if_neg (by simp only []; omega)]; simp [Function.update]

theorem ringAt_end (B : ℕ → Fin 20) (C : ℕ → Fin 8) (n : ℕ) : ringAt B C n n = fun _ => none := by
  funext k
  unfold ringAt
  rw [if_neg (by omega)]

/-- A free ring's slot taken out and, filled, put back. -/
theorem ring_take (c : Dev nD) (I : In F) (st : Fin 4 → Option (Fin 20 × Fin 8)) (k : Fin 4) (h : st k = none) (v : Option (Fin 20 × Fin 8)) :
    ringOwn c I st ⊢ iprop(slotSt c I k none ∗ (slotSt c I k v -∗ ringOwn c I (Function.update st k v))) := by
  unfold ringOwn
  rw [Ring.AtW_focus (σ := fun _ : Fin 4 => Option (Fin 20 × Fin 8)) (slotSt c I) st k, h]
  iintro ⟨Hs, Hr⟩
  isplitl [Hs]; · iexact Hs
  iintro Hs
  iapply (Ring.AtW_update (σ := fun _ : Fin 4 => Option (Fin 20 × Fin 8)) (slotSt c I))
  isplitl [Hs]; · iexact Hs
  iexact Hr

theorem part17_run (c : Dev nD) (I : In F) (hI : LenOk I) (wb wc : Vec F S160 .i32) (v9 : Vec F S20x8x96 .i8)
    (Q : (Σ' (v1 : BitVec 32) (k0_hw7 : k0_chk7 v1) (v16 : FVec F S20x8x96 .f32), FVec F S20x8x96 .f32) → sProp 𝕄) :
    iprop((arg0.view.loc (c : Thread nD τ) ↦[arg0.view.set]{fullShare} arg0.view.rep I.len) ∗ inOwn arg1 arg2 arg3 arg4 c I
      ∗ wOwn c arg21 arg22 wb wc ∗ (arg9.view.loc (c : Thread nD τ) ↦[arg9.view.set]{fullShare} arg9.view.rep v9) ∗ ringOwn c I (fun _ => none)
      ∗ (∀ h7, (∃ wb wc, ⌜Listed (F := F) (counts I) wb wc (startAt (counts I) 20)⌝ ∗ wOwn c arg21 arg22 wb wc)
          ∗ (arg0.view.loc (c : Thread nD τ) ↦[arg0.view.set]{fullShare} arg0.view.rep I.len) ∗ inOwn arg1 arg2 arg3 arg4 c I
          ∗ (arg9.view.loc (c : Thread nD τ) ↦[arg9.view.set]{fullShare} arg9.view.rep (kCodes I))
          ∗ ringOwn c I (ringAt (placeB (counts I)) (placeC (counts I)) (startAt (counts I) 20) 0)
          -∗ Q ⟨BitVec.ofNat 32 (startAt (counts I) 20), h7, k0_pay93 I.vn, k0_pay95 I.vn⟩))
      ⊢ wp frame (wpE (defs₀ (F := F)) Variants.none (c : Thread nD τ) none) Set.univ
        (k0_part17 (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22) Q := by
  have h20 : 20 ≤ startAt (counts I) 20 := le_startAt _ (counts_pos I hI) 20
  have h160 : startAt (counts I) 20 ≤ 160 := startAt_le _ (counts_le I hI) 20
  rw [part17_eq]
  unfold preB inOwn
  iintro ⟨H0, ⟨H1, H2, H3, H4⟩, Hw, H9, Hr, HQ⟩
  rw [wp_bind]
  iapply (list_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I hI)
  isplitl [H0 Hw]
  · unfold seqInv chunkInv
    isplitl [H0]; · iexact H0
    isplitr
    · ipureintro; rfl
    iexists wb; iexists wc
    isplitr; swap; · iexact Hw
    ipureintro
    exact fun p hp => absurd hp (Nat.not_lt_zero _)
  iintro %a Ha
  unfold seqInv chunkInv
  icases Ha with ⟨H0, ⟨%ha, %wb1, %wc1, %hw, Hw⟩⟩
  subst ha
  rw [Nat.add_zero] at hw ⊢
  generalize hn : startAt (counts I) 20 = n at h20 h160 hw ⊢
  rw [ringAt_zero _ _ n h20]
  rw [wp_bind]
  iapply (assume_run c _ _ (chk7 n h160))
  rw [wp_bind]
  ihave Hr := (ring_take c I (fun _ => none) 0 rfl (some (placeB (counts I) 0, placeC (counts I) 0))) $$ Hr
  icases Hr with ⟨Hs, Hr⟩
  iapply (pre1_run arg21 arg22 c I n h160 (by omega) (placeB (counts I) 0) (placeC (counts I) 0) wb1 wc1 (hw ⟨0, by decide⟩ (by simp only []; omega)).1 (hw ⟨0, by decide⟩ (by simp only []; omega)).2)
  isplitl [Hw]; · iexact Hw
  isplitl [Hs]; · iexact Hs
  iintro ⟨Hw, Hs⟩
  ihave Hr := Hr $$ Hs
  rw [wp_bind]
  ihave Hr := (ring_take c I _ 1 rfl (some (placeB (counts I) 1, placeC (counts I) 1))) $$ Hr
  icases Hr with ⟨Hs, Hr⟩
  iapply (pre2_run arg21 arg22 c I n h160 (by omega) (placeB (counts I) 1) (placeC (counts I) 1) wb1 wc1 (hw ⟨1, by decide⟩ (by simp only []; omega)).1 (hw ⟨1, by decide⟩ (by simp only []; omega)).2)
  isplitl [Hw]; · iexact Hw
  isplitl [Hs]; · iexact Hs
  iintro ⟨Hw, Hs⟩
  ihave Hr := Hr $$ Hs
  rw [wp_bind]
  ihave Hr := (ring_take c I _ 2 rfl (some (placeB (counts I) 2, placeC (counts I) 2))) $$ Hr
  icases Hr with ⟨Hs, Hr⟩
  iapply (pre3_run arg21 arg22 c I n h160 (by omega) (placeB (counts I) 2) (placeC (counts I) 2) wb1 wc1 (hw ⟨2, by decide⟩ (by simp only []; omega)).1 (hw ⟨2, by decide⟩ (by simp only []; omega)).2)
  isplitl [Hw]; · iexact Hw
  isplitl [Hs]; · iexact Hs
  iintro ⟨Hw, Hs⟩
  ihave Hr := Hr $$ Hs
  unfold segQuant
  sl_exec
  sl_step
  rw [View.readAt_rep_full arg3.view I.vn inb_S20x8x96_S20x8x96_0_0_0, View.readAt_rep_full arg2.view I.kn inb_S20x8x96_S20x8x96_0_0_0,
    View.readAt_rep_full arg4.view I.ks inb_S20x8x96_S20x8x96_0_0_0]
  iapply HQ
  isplitl [Hw]
  · iexists wb1; iexists wc1
    isplitr; swap; · iexact Hw
    ipureintro; exact hw
  isplitl [H0]; · iexact H0
  isplitl [H1 H2 H3 H4]
  · isplitl [H1]; · iexact H1
    isplitl [H2]; · iexact H2
    isplitl [H3]; · iexact H3
    iexact H4
  isplitl [H9]
  · iapply (pointsTo_rep_of_read (c : Thread nD τ) arg9 _ fullShare (kCodes I) (View.read_writes_full _ _ _ _ _)); iexact H9
  iexact Hr

theorem part18_run (c : Dev nD) (v11 : Vec F S20x8x1 .f32) (v16 v26 : FVec F S20x8x96 .f32)
    (Q : (Σ' (v66 : IVec S160x48 32) (v68 : IVec S160x48 32), BitVec 32) → sProp 𝕄) :
    iprop((arg11.view.loc (c : Thread nD τ) ↦[arg11.view.set]{fullShare} arg11.view.rep v11)
      ∗ ((arg11.view.loc (c : Thread nD τ) ↦[arg11.view.set]{fullShare} arg11.view.rep (k0_pay96 v26)) -∗ Q ⟨k0_pay98 v16 v26, k0_pay99 v16 v26, 4#32⟩))
      ⊢ wp frame (wpE (defs₀ (F := F)) Variants.none (c : Thread nD τ) none) Set.univ
        (k0_part18 (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v16 v26) Q := by
  rw [k0_part18_eq_skeleton]
  unfold k0_part18_skel
  iintro ⟨H11, HQ⟩
  sl_exec
  sl_step
  iapply HQ
  iapply (pointsTo_rep_of_read (c : Thread nD τ) arg11 _ fullShare (k0_pay96 v26) (View.read_writes_full _ _ _ _ _)); iexact H11

theorem body_run (c : Dev nD) (I : In F) (hI : LenOk I) (wb wc : Vec F S160 .i32) (s : St F) (O : Vec F S20x32x96 .bf16) (v9 : Vec F S20x8x96 .i8)
    (v10 : Vec F S20x8x48 .i32) (v11 : Vec F S20x8x1 .f32) (W : Waits sig Unit) (Q : PUnit → sProp 𝕄) :
    iprop((arg0.view.loc (c : Thread nD τ) ↦[arg0.view.set]{fullShare} arg0.view.rep I.len) ∗ inOwn arg1 arg2 arg3 arg4 c I
      ∗ outOwn arg8 c O
      ∗ (arg9.view.loc (c : Thread nD τ) ↦[arg9.view.set]{fullShare} arg9.view.rep v9)
      ∗ (arg10.view.loc (c : Thread nD τ) ↦[arg10.view.set]{fullShare} arg10.view.rep v10)
      ∗ (arg11.view.loc (c : Thread nD τ) ↦[arg11.view.set]{fullShare} arg11.view.rep v11)
      ∗ stOwn arg16 arg17 arg18 arg19 arg20 c s ∗ wOwn c arg21 arg22 wb wc ∗ ringOwn c I (fun _ => none) ∗ owes (c : Thread nD τ) 0 W
      ∗ ((arg0.view.loc (c : Thread nD τ) ↦[arg0.view.set]{fullShare} arg0.view.rep I.len) ∗ inOwn arg1 arg2 arg3 arg4 c I
          ∗ outOwn arg8 c (outAll I)
          ∗ (arg9.view.loc (c : Thread nD τ) ↦[arg9.view.set]{fullShare} arg9.view.rep (kCodes I))
          ∗ (arg10.view.loc (c : Thread nD τ) ↦[arg10.view.set]{fullShare} arg10.view.rep (vCodes I))
          ∗ (arg11.view.loc (c : Thread nD τ) ↦[arg11.view.set]{fullShare} arg11.view.rep (vScale I))
          ∗ (∃ s, stOwn arg16 arg17 arg18 arg19 arg20 c s) ∗ (∃ wb wc, wOwn c arg21 arg22 wb wc) ∗ ringOwn c I (fun _ => none)
          ∗ (∃ W, owes (c : Thread nD τ) 0 W) -∗ Q ⟨⟩))
      ⊢ wp frame (wpE (defs₀ (F := F)) Variants.none (c : Thread nD τ) none) Set.univ
        (cc0_int8k_int4v_decode (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22) Q := by
  have h160 : startAt (counts I) 20 ≤ 160 := startAt_le _ (counts_le I hI) 20
  have hend := oAt_end I hI s O
  unfold oAt at hend
  rw [cc0_int8k_int4v_decode_eq_skeleton]
  unfold cc0_int8k_int4v_decode_skel
  iintro ⟨H0, Hi, H8, H9, H10, H11, Hs, Hw, Hr, HO, HQ⟩
  rw [wp_bind]
  iapply (part17_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I hI wb wc v9)
  isplitl [H0]; · iexact H0
  isplitl [Hi]; · iexact Hi
  isplitl [Hw]; · iexact Hw
  isplitl [H9]; · iexact H9
  isplitl [Hr]; · iexact Hr
  iintro %h7 ⟨⟨%wb1, %wc1, %hw, Hw⟩, H0, Hi, H9, Hr⟩
  dsimp only []
  rw [wp_bind]
  iapply (part18_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c v11)
  isplitl [H11]; · iexact H11
  iintro H11
  dsimp only []
  sl_exec
  rw [wp_bind]
  iapply (loop_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I (placeB (counts I)) (placeC (counts I)) (startAt (counts I) 20) h160 h7 wb1 wc1 hw s O)
  isplitl [Hw H0 Hi Hs H8 Hr HO]
  · unfold loopInv
    isplitl [Hw]; · iexact Hw
    isplitl [Hi]; · iexact Hi
    isplitl [H0]; · iexact H0
    isplitl [Hs]; · iexact Hs
    isplitl [H8]; · iexact H8
    isplitl [Hr]; · iexact Hr
    iexists W; iexact HO
  iintro %a HI
  unfold loopInv
  rw [hend, ringAt_end]
  icases HI with ⟨Hw, Hi, H0, Hs, H8, Hr, HO⟩
  sl_exec
  sl_step
  iapply HQ
  isplitl [H0]; · iexact H0
  isplitl [Hi]; · iexact Hi
  isplitl [H8]; · iexact H8
  isplitl [H9]; · iexact H9
  isplitl [H10]
  · iapply (pointsTo_rep_of_read (c : Thread nD τ) arg10 _ fullShare (vCodes I) (View.read_writes_full _ _ _ _ _)); iexact H10
  isplitl [H11]; · iexact H11
  isplitl [Hs]; · iexists _; iexact Hs
  isplitl [Hw]; · iexists wb1; iexists wc1; iexact Hw
  isplitl [Hr]; · iexact Hr
  iexact HO

end Cert.Kernel.Hand

end
-- ==== Proof.EntryK.lean ====
/- Hand-written. -/
module

public import proofs.«01_k».proof.Proof.BodyK
public import Idealize.ShloMosaic.Lib.Ring.AtN

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable [∀ e, Nonempty (Elt F e)]

/-! ## The ring at entry and at exit: the three buffers by their slots, the three arrays by a read share per slot -/

abbrev ktSet (k : Fin 4) : Finset S4x768x1024.Idx := (Rect.unit (s := S4x768x1024) ![k.val, 0, 0] S1x768x1024.size (inbK k k.isLt)).set
abbrev vtSet (k : Fin 4) : Finset S4x48x64x128.Idx := (Rect.unit (s := S4x48x64x128) ![k.val, 0, 0, 0] S1x48x64x128.size (inbV k k.isLt)).set
abbrev vsSet (k : Fin 4) : Finset S4x8x1024.Idx := (Rect.unit (s := S4x8x1024) ![k.val, 0, 0] S1x8x1024.size (inbVS k k.isLt)).set

theorem kt_set (k : Fin 4) : (ktSlot k).view.set = ktSet k := (View.set_reshape _ _).trans (View.set_slice_whole _ _)
theorem vt_set (k : Fin 4) : (vtSlot k).view.set = vtSet k := (View.set_reshape _ _).trans (View.set_slice_whole _ _)
theorem vs_set (k : Fin 4) : (vsSlot k).view.set = vsSet k := (View.set_reshape _ _).trans (View.set_slice_whole _ _)

theorem kt_disjoint (j j' : Fin 4) (hj : j ≠ j') : Disjoint (ktSet j) (ktSet j') :=
  Ring.lead_disjoint (s := S4x768x1024) (0 : Fin 3) 1 (fun j : Fin 4 => (![j.val, 0, 0] : Fin 3 → Nat)) S1x768x1024.size (fun k => inbK k k.isLt) (fun j => by simp) rfl j j' hj
theorem kt_cover : Finset.univ.biUnion ktSet = Finset.univ :=
  Ring.lead_cover (s := S4x768x1024) (0 : Fin 3) 1 (fun j : Fin 4 => (![j.val, 0, 0] : Fin 3 → Nat)) S1x768x1024.size (fun k => inbK k k.isLt) (fun j => by simp)
    (fun j a ha => by fin_cases a <;> first | exact absurd rfl ha | rfl) rfl (fun a ha => by fin_cases a <;> first | exact absurd rfl ha | rfl) rfl
theorem vt_disjoint (j j' : Fin 4) (hj : j ≠ j') : Disjoint (vtSet j) (vtSet j') :=
  Ring.lead_disjoint (s := S4x48x64x128) (0 : Fin 4) 1 (fun j : Fin 4 => (![j.val, 0, 0, 0] : Fin 4 → Nat)) S1x48x64x128.size (fun k => inbV k k.isLt) (fun j => by simp) rfl j j' hj
theorem vt_cover : Finset.univ.biUnion vtSet = Finset.univ :=
  Ring.lead_cover (s := S4x48x64x128) (0 : Fin 4) 1 (fun j : Fin 4 => (![j.val, 0, 0, 0] : Fin 4 → Nat)) S1x48x64x128.size (fun k => inbV k k.isLt) (fun j => by simp)
    (fun j a ha => by fin_cases a <;> first | exact absurd rfl ha | rfl) rfl (fun a ha => by fin_cases a <;> first | exact absurd rfl ha | rfl) rfl
theorem vs_disjoint (j j' : Fin 4) (hj : j ≠ j') : Disjoint (vsSet j) (vsSet j') :=
  Ring.lead_disjoint (s := S4x8x1024) (0 : Fin 3) 1 (fun j : Fin 4 => (![j.val, 0, 0] : Fin 3 → Nat)) S1x8x1024.size (fun k => inbVS k k.isLt) (fun j => by simp) rfl j j' hj
theorem vs_cover : Finset.univ.biUnion vsSet = Finset.univ :=
  Ring.lead_cover (s := S4x8x1024) (0 : Fin 3) 1 (fun j : Fin 4 => (![j.val, 0, 0] : Fin 3 → Nat)) S1x8x1024.size (fun k => inbVS k k.isLt) (fun j => by simp)
    (fun j a ha => by fin_cases a <;> first | exact absurd rfl ha | rfl) rfl (fun a ha => by fin_cases a <;> first | exact absurd rfl ha | rfl) rfl

/-- A slot at contents `f`. -/
abbrev slotP {s : Shape} {e : EltTy} (c : Dev nD) (M : Memref sig .tc .vmem s e) (f : Buf (Elt F) (M.view.loc (c : Thread nD τ))) : sProp 𝕄 :=
  M.view.loc (c : Thread nD τ) ↦[M.view.set]{fullShare} f

theorem ktP_eq (c : Dev nD) (k : Fin 4) (f) : slotP (F := F) c (ktSlot k) f = (((c : Thread nD τ).loc cc0_scratch0) ↦[ktSet k]{fullShare} f : sProp 𝕄) :=
  congrArg (fun S => (_ ↦[S]{fullShare} f : sProp 𝕄)) (kt_set k)
theorem vtP_eq (c : Dev nD) (k : Fin 4) (f) : slotP (F := F) c (vtSlot k) f = (((c : Thread nD τ).loc cc0_scratch1) ↦[vtSet k]{fullShare} f : sProp 𝕄) :=
  congrArg (fun S => (_ ↦[S]{fullShare} f : sProp 𝕄)) (vt_set k)
theorem vsP_eq (c : Dev nD) (k : Fin 4) (f) : slotP (F := F) c (vsSlot k) f = (((c : Thread nD τ).loc cc0_scratch2) ↦[vsSet k]{fullShare} f : sProp 𝕄) :=
  congrArg (fun S => (_ ↦[S]{fullShare} f : sProp 𝕄)) (vs_set k)

theorem kt_split (c : Dev nD) : iprop(∃ f : Buf (Elt F) ((c : Thread nD τ).loc cc0_scratch0), ((c : Thread nD τ).loc cc0_scratch0) ↦{fullShare} f)
    ⊢ (iprop((∃ f, slotP c (ktSlot 0) f) ∗ (∃ f, slotP c (ktSlot 1) f) ∗ (∃ f, slotP c (ktSlot 2) f) ∗ ∃ f, slotP c (ktSlot 3) f) : sProp 𝕄) :=
  Ring.slots4_split (ℓ := (c : Thread nD τ).loc cc0_scratch0) ktSet kt_disjoint kt_cover _ _ _ _ (ktP_eq c 0) (ktP_eq c 1) (ktP_eq c 2) (ktP_eq c 3)
theorem kt_join (c : Dev nD) : (iprop((∃ f, slotP c (ktSlot 0) f) ∗ (∃ f, slotP c (ktSlot 1) f) ∗ (∃ f, slotP c (ktSlot 2) f) ∗ ∃ f, slotP c (ktSlot 3) f) : sProp 𝕄)
    ⊢ iprop(∃ f : Buf (Elt F) ((c : Thread nD τ).loc cc0_scratch0), ((c : Thread nD τ).loc cc0_scratch0) ↦{fullShare} f) :=
  Ring.slots4_join (ℓ := (c : Thread nD τ).loc cc0_scratch0) ktSet kt_disjoint kt_cover _ _ _ _ (ktP_eq c 0) (ktP_eq c 1) (ktP_eq c 2) (ktP_eq c 3)
theorem vt_split (c : Dev nD) : iprop(∃ f : Buf (Elt F) ((c : Thread nD τ).loc cc0_scratch1), ((c : Thread nD τ).loc cc0_scratch1) ↦{fullShare} f)
    ⊢ (iprop((∃ f, slotP c (vtSlot 0) f) ∗ (∃ f, slotP c (vtSlot 1) f) ∗ (∃ f, slotP c (vtSlot 2) f) ∗ ∃ f, slotP c (vtSlot 3) f) : sProp 𝕄) :=
  Ring.slots4_split (ℓ := (c : Thread nD τ).loc cc0_scratch1) vtSet vt_disjoint vt_cover _ _ _ _ (vtP_eq c 0) (vtP_eq c 1) (vtP_eq c 2) (vtP_eq c 3)
theorem vt_join (c : Dev nD) : (iprop((∃ f, slotP c (vtSlot 0) f) ∗ (∃ f, slotP c (vtSlot 1) f) ∗ (∃ f, slotP c (vtSlot 2) f) ∗ ∃ f, slotP c (vtSlot 3) f) : sProp 𝕄)
    ⊢ iprop(∃ f : Buf (Elt F) ((c : Thread nD τ).loc cc0_scratch1), ((c : Thread nD τ).loc cc0_scratch1) ↦{fullShare} f) :=
  Ring.slots4_join (ℓ := (c : Thread nD τ).loc cc0_scratch1) vtSet vt_disjoint vt_cover _ _ _ _ (vtP_eq c 0) (vtP_eq c 1) (vtP_eq c 2) (vtP_eq c 3)
theorem vs_split (c : Dev nD) : iprop(∃ f : Buf (Elt F) ((c : Thread nD τ).loc cc0_scratch2), ((c : Thread nD τ).loc cc0_scratch2) ↦{fullShare} f)
    ⊢ (iprop((∃ f, slotP c (vsSlot 0) f) ∗ (∃ f, slotP c (vsSlot 1) f) ∗ (∃ f, slotP c (vsSlot 2) f) ∗ ∃ f, slotP c (vsSlot 3) f) : sProp 𝕄) :=
  Ring.slots4_split (ℓ := (c : Thread nD τ).loc cc0_scratch2) vsSet vs_disjoint vs_cover _ _ _ _ (vsP_eq c 0) (vsP_eq c 1) (vsP_eq c 2) (vsP_eq c 3)
theorem vs_join (c : Dev nD) : (iprop((∃ f, slotP c (vsSlot 0) f) ∗ (∃ f, slotP c (vsSlot 1) f) ∗ (∃ f, slotP c (vsSlot 2) f) ∗ ∃ f, slotP c (vsSlot 3) f) : sProp 𝕄)
    ⊢ iprop(∃ f : Buf (Elt F) ((c : Thread nD τ).loc cc0_scratch2), ((c : Thread nD τ).loc cc0_scratch2) ↦{fullShare} f) :=
  Ring.slots4_join (ℓ := (c : Thread nD τ).loc cc0_scratch2) vsSet vs_disjoint vs_cover _ _ _ _ (vsP_eq c 0) (vsP_eq c 1) (vsP_eq c 2) (vsP_eq c 3)

/-- An array whole is a read share per slot and what remains. -/
abbrev tokP {s : Shape} {e : EltTy} (c : Dev nD) (A : Memref sig .tc .hbm s e) (k : Fin 4) (f : Buf (Elt F) (A.view.loc (c : Thread nD τ))) : sProp 𝕄 :=
  A.view.loc (c : Thread nD τ) ↦[Finset.univ]{Transfers.shareTok fullShare 4 k} f
abbrev dropP {s : Shape} {e : EltTy} (c : Dev nD) (A : Memref sig .tc .hbm s e) (f : Buf (Elt F) (A.view.loc (c : Thread nD τ))) : sProp 𝕄 :=
  A.view.loc (c : Thread nD τ) ↦[Finset.univ]{Transfers.shareDrop fullShare 4} f
theorem toks4 {s : Shape} {e : EltTy} (c : Dev nD) (A : Memref sig .tc .hbm s e) (f : Buf (Elt F) (A.view.loc (c : Thread nD τ))) :
    (A.view.loc (c : Thread nD τ) ↦[Finset.univ]{fullShare} f : sProp 𝕄)
      ⊣⊢ iprop(dropP c A f ∗ tokP c A 0 f ∗ tokP c A 1 f ∗ tokP c A 2 f ∗ tokP c A 3 f) := by
  have h := Transfers.pointsTo_toks (nD := nD) (τ := τ) (sig := sig) (Ix := Unit) (Val := Elt F) (Name := ℕ) (U := Pipeline.UD sig nD τ) (Lvl := ℕ)
    (ℓ := A.view.loc (c : Thread nD τ)) (S := Finset.univ) (f := f) fullShare 4
  rw [Ring.bigSep_fin4] at h
  exact h

abbrev cellP (c : Dev nD) (cell : SemLoc sig) : sProp 𝕄 := semVal ((c : Thread nD τ), cell) 0

/-- What is kept of the three arrays outside the slots. -/
def dropOwn (c : Dev nD) (I : In F) : sProp 𝕄 :=
  iprop(dropP c (Memref.whole main_v1) ((Memref.whole main_v1).view.rep I.kt) ∗ dropP c (Memref.whole main_v5) ((Memref.whole main_v5).view.rep I.vt)
    ∗ dropP c (Memref.whole main_v6) ((Memref.whole main_v6).view.rep I.vs))

/-- The pieces of the ring as the launch holds them. -/
def wholeOwn (c : Dev nD) (I : In F) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ ((Memref.whole main_v1).view.loc (c : Thread nD τ) ↦[Finset.univ]{fullShare} (Memref.whole main_v1).view.rep I.kt)
    ∗ ((Memref.whole main_v5).view.loc (c : Thread nD τ) ↦[Finset.univ]{fullShare} (Memref.whole main_v5).view.rep I.vt)
    ∗ ((Memref.whole main_v6).view.loc (c : Thread nD τ) ↦[Finset.univ]{fullShare} (Memref.whole main_v6).view.rep I.vs)
    ∗ (cellP (F := F) c (semK 0 0) ∗ cellP (F := F) c (semK 0 1) ∗ cellP (F := F) c (semK 0 2)
      ∗ cellP (F := F) c (semK 1 0) ∗ cellP (F := F) c (semK 1 1) ∗ cellP (F := F) c (semK 1 2)
      ∗ cellP (F := F) c (semK 2 0) ∗ cellP (F := F) c (semK 2 1) ∗ cellP (F := F) c (semK 2 2)
      ∗ cellP (F := F) c (semK 3 0) ∗ cellP (F := F) c (semK 3 1) ∗ cellP (F := F) c (semK 3 2)))

theorem ring_none (c : Dev nD) (I : In F) : ringOwn c I (fun _ => none) = iprop(slotSt c I 0 none ∗ slotSt c I 1 none ∗ slotSt c I 2 none ∗ slotSt c I 3 none) := by
  unfold ringOwn Ring.AtW
  exact Ring.bigSep_fin4 _

theorem ring_in (c : Dev nD) (I : In F) : wholeOwn c I ⊢ iprop(ringOwn c I (fun _ => none) ∗ dropOwn c I) := by
  rw [ring_none]
  unfold wholeOwn slotSt dropOwn
  iintro ⟨S0, S1, S2, A0, A1, A2, c00, c01, c02, c10, c11, c12, c20, c21, c22, c30, c31, c32⟩
  ihave S0' := (kt_split (F := F) c) $$ S0
  ihave S1' := (vt_split (F := F) c) $$ S1
  ihave S2' := (vs_split (F := F) c) $$ S2
  ihave A0' := (toks4 (F := F) c (Memref.whole main_v1) _).1 $$ A0
  ihave A1' := (toks4 (F := F) c (Memref.whole main_v5) _).1 $$ A1
  ihave A2' := (toks4 (F := F) c (Memref.whole main_v6) _).1 $$ A2
  icases S0' with ⟨k0, k1, k2, k3⟩
  icases S1' with ⟨v0, v1, v2, v3⟩
  icases S2' with ⟨w0, w1, w2, w3⟩
  icases A0' with ⟨D0, a0, a1, a2, a3⟩
  icases A1' with ⟨D1, b0, b1, b2, b3⟩
  icases A2' with ⟨D2, d0, d1, d2, d3⟩
  isplitl [c00 c01 c02 c10 c11 c12 c20 c21 c22 c30 c31 c32 k0 k1 k2 k3 v0 v1 v2 v3 w0 w1 w2 w3 a0 a1 a2 a3 b0 b1 b2 b3 d0 d1 d2 d3]
  · isplitl [c00 c01 c02 k0 v0 w0 a0 b0 d0]
    · isplitl [c00 k0 a0]; · (isplitl [c00]; · iexact c00); isplitl [k0]; · iexact k0
                             iexact a0
      isplitl [c01 v0 b0]; · (isplitl [c01]; · iexact c01); isplitl [v0]; · iexact v0
                             iexact b0
      isplitl [c02]; · iexact c02
      isplitl [w0]; · iexact w0
      iexact d0
    isplitl [c10 c11 c12 k1 v1 w1 a1 b1 d1]
    · isplitl [c10 k1 a1]; · (isplitl [c10]; · iexact c10); isplitl [k1]; · iexact k1
                             iexact a1
      isplitl [c11 v1 b1]; · (isplitl [c11]; · iexact c11); isplitl [v1]; · iexact v1
                             iexact b1
      isplitl [c12]; · iexact c12
      isplitl [w1]; · iexact w1
      iexact d1
    isplitl [c20 c21 c22 k2 v2 w2 a2 b2 d2]
    · isplitl [c20 k2 a2]; · (isplitl [c20]; · iexact c20); isplitl [k2]; · iexact k2
                             iexact a2
      isplitl [c21 v2 b2]; · (isplitl [c21]; · iexact c21); isplitl [v2]; · iexact v2
                             iexact b2
      isplitl [c22]; · iexact c22
      isplitl [w2]; · iexact w2
      iexact d2
    isplitl [c30 k3 a3]; · (isplitl [c30]; · iexact c30); isplitl [k3]; · iexact k3
                           iexact a3
    isplitl [c31 v3 b3]; · (isplitl [c31]; · iexact c31); isplitl [v3]; · iexact v3
                           iexact b3
    isplitl [c32]; · iexact c32
    isplitl [w3]; · iexact w3
    iexact d3
  isplitl [D0]; · iexact D0
  isplitl [D1]; · iexact D1
  iexact D2

theorem ring_out (c : Dev nD) (I : In F) : iprop(ringOwn c I (fun _ => none) ∗ dropOwn c I) ⊢ wholeOwn c I := by
  rw [ring_none]
  unfold wholeOwn slotSt dropOwn
  iintro ⟨⟨⟨⟨c00, k0, a0⟩, ⟨c01, v0, b0⟩, ⟨c02, w0, d0⟩⟩, ⟨⟨c10, k1, a1⟩, ⟨c11, v1, b1⟩, ⟨c12, w1, d1⟩⟩, ⟨⟨c20, k2, a2⟩, ⟨c21, v2, b2⟩, ⟨c22, w2, d2⟩⟩,
    ⟨⟨c30, k3, a3⟩, ⟨c31, v3, b3⟩, ⟨c32, w3, d3⟩⟩⟩, D0, D1, D2⟩
  isplitl [k0 k1 k2 k3]
  · iapply (kt_join (F := F) c)
    isplitl [k0]; · iexact k0
    isplitl [k1]; · iexact k1
    isplitl [k2]; · iexact k2
    iexact k3
  isplitl [v0 v1 v2 v3]
  · iapply (vt_join (F := F) c)
    isplitl [v0]; · iexact v0
    isplitl [v1]; · iexact v1
    isplitl [v2]; · iexact v2
    iexact v3
  isplitl [w0 w1 w2 w3]
  · iapply (vs_join (F := F) c)
    isplitl [w0]; · iexact w0
    isplitl [w1]; · iexact w1
    isplitl [w2]; · iexact w2
    iexact w3
  isplitl [D0 a0 a1 a2 a3]
  · iapply (toks4 (F := F) c (Memref.whole main_v1) _).2
    isplitl [D0]; · iexact D0
    isplitl [a0]; · iexact a0
    isplitl [a1]; · iexact a1
    isplitl [a2]; · iexact a2
    iexact a3
  isplitl [D1 b0 b1 b2 b3]
  · iapply (toks4 (F := F) c (Memref.whole main_v5) _).2
    isplitl [D1]; · iexact D1
    isplitl [b0]; · iexact b0
    isplitl [b1]; · iexact b1
    isplitl [b2]; · iexact b2
    iexact b3
  isplitl [D2 d0 d1 d2 d3]
  · iapply (toks4 (F := F) c (Memref.whole main_v6) _).2
    isplitl [D2]; · iexact D2
    isplitl [d0]; · iexact d0
    isplitl [d1]; · iexact d1
    isplitl [d2]; · iexact d2
    iexact d3
  isplitl [c00]; · iexact c00
  isplitl [c01]; · iexact c01
  isplitl [c02]; · iexact c02
  isplitl [c10]; · iexact c10
  isplitl [c11]; · iexact c11
  isplitl [c12]; · iexact c12
  isplitl [c20]; · iexact c20
  isplitl [c21]; · iexact c21
  isplitl [c22]; · iexact c22
  isplitl [c30]; · iexact c30
  isplitl [c31]; · iexact c31
  iexact c32

end Cert.Kernel.Hand

end
-- ==== Proof.FrameK.lean ====
/- Hand-written. -/
module

public import proofs.«01_k».proof.Proof.EntryK
public import proofs.«01_k».proof.Proof.Gen.Kernel.Frame

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable [∀ e, Nonempty (Elt F e)]

variable (m : (ℓ : Loc nD τ sig) → Buf (Elt F) ℓ) (ρ : Dev nD → PrngReg)

open Idealize.ShloMosaic.Rounds
open Idealize.ShloMosaic.Pipeline (Dat Cfg Window BodyObligation cellOf)

/-! ## @main around the region, at this algebra -/

set_option maxHeartbeats 800000 in
/-- @main around the region: the host lines before it, the region, the host lines after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes `main_arg0`: it ends as launched. -/
theorem W_main_arg0_D (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1_D (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2_D (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3_D (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5_D (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6_D (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_ofD {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_ofD {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_ofD {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_ofD {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_ofD {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The semaphores, the arrays left in HBM, the body's values -/

abbrev osem0 : Fin 12 → SemLoc sig := fun j => (![semK 0 0, semK 0 1, semK 0 2, semK 1 0, semK 1 1, semK 1 2, semK 2 0, semK 2 1, semK 2 2,
  semK 3 0, semK 3 1, semK 3 2] : Fin 12 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP (F := F) c (semK 0 0) ∗ cellP (F := F) c (semK 0 1) ∗ cellP (F := F) c (semK 0 2)
          ∗ cellP (F := F) c (semK 1 0) ∗ cellP (F := F) c (semK 1 1) ∗ cellP (F := F) c (semK 1 2)
          ∗ cellP (F := F) c (semK 2 0) ∗ cellP (F := F) c (semK 2 1) ∗ cellP (F := F) c (semK 2 2)
          ∗ cellP (F := F) c (semK 3 0) ∗ cellP (F := F) c (semK 3 1) ∗ cellP (F := F) c (semK 3 2)) := by
  rw [Pipeline.ownSems0_eq_of_list c osem0 [0, 1, 2, 3, 4, 5, 6, 7, 8, 9, 10, 11] (by decide) (by decide)]; rfl

/-- The arrays the body's transfers read. -/
def H0 : Finset (Ref sig .tc) := {main_v1, main_v5, main_v6}
theorem H0_sub : H0 ⊆ Pipeline.restRefs sig spec0 := by decide

/-- What the body computes from, on core `c`. -/
def inAt (c : Dev nD) : In F where
  len := iblk m c 0 t0_0
  x := iblk m c 1 t0_0
  kn := iblk m c 2 t0_0
  vn := iblk m c 3 t0_0
  ks := iblk m c 4 t0_0
  kt := V m c main_v1
  vt := V m c main_v5
  vs := V m c main_v6

theorem rep_whole_eq (b : Ref sig .tc) (X : b.ty.Contents (Elt F)) : (Memref.whole b).view.rep X = X := by
  have h := View.read_rep (Memref.whole b).view X
  rwa [Memref.view_whole, View.read_whole] at h

theorem hbmPts0_eq (c : Dev nD) :
    (bigSep H0 (fun b => ((c : Thread nD τ).loc b) ↦{fullShare} V m c b) : sProp 𝕄)
      = iprop(((Memref.whole main_v1).view.loc (c : Thread nD τ) ↦[Finset.univ]{fullShare} (Memref.whole main_v1).view.rep (inAt m c).kt)
        ∗ ((Memref.whole main_v5).view.loc (c : Thread nD τ) ↦[Finset.univ]{fullShare} (Memref.whole main_v5).view.rep (inAt m c).vt)
        ∗ ((Memref.whole main_v6).view.loc (c : Thread nD τ) ↦[Finset.univ]{fullShare} (Memref.whole main_v6).view.rep (inAt m c).vs)) := by
  rw [BI.bigSep_eq_bigSepL_of_eq [main_v1, main_v5, main_v6] (by decide) (by decide), rep_whole_eq main_v1, rep_whole_eq main_v5, rep_whole_eq main_v6]; rfl

/-- A memref held at values is held at their representative, and back. -/
theorem owns_rep (c : Dev nD) {sp : Space} {s : Shape} {e : EltTy} (M : Memref sig .tc sp s e) (X : s.Idx → Elt F e) :
    (owns (c : Thread nD τ) M fullShare X : sProp 𝕄) ⊢ (M.view.loc (c : Thread nD τ) ↦[M.view.set]{fullShare} M.view.rep X) := by
  unfold owns
  iintro ⟨%f, %hf, H⟩
  iapply (pointsTo_rep_of_read (c : Thread nD τ) M f fullShare X hf)
  iexact H
theorem rep_owns (c : Dev nD) {sp : Space} {s : Shape} {e : EltTy} (M : Memref sig .tc sp s e) (X : s.Idx → Elt F e) :
    (M.view.loc (c : Thread nD τ) ↦[M.view.set]{fullShare} M.view.rep X : sProp 𝕄) ⊢ owns (c : Thread nD τ) M fullShare X := by
  unfold owns
  iintro H
  iexists _
  isplitr
  swap; · iexact H
  ipureintro; exact View.read_rep _ X
/-- A buffer whole, as a memref's. -/
theorem whole_rep (c : Dev nD) (b : Ref sig .tc) (f : b.ty.Contents (Elt F)) :
    (((c : Thread nD τ).loc b) ↦{fullShare} f : sProp 𝕄)
      ⊢ ((Memref.whole b).view.loc (c : Thread nD τ) ↦[(Memref.whole b).view.set]{fullShare} (Memref.whole b).view.rep f) :=
  (Entails.of_eq (owns_whole (c : Thread nD τ) b fullShare f).symm).trans (owns_rep c (Memref.whole b) f)
theorem rep_whole (c : Dev nD) (b : Ref sig .tc) (f : b.ty.Contents (Elt F)) :
    ((Memref.whole b).view.loc (c : Thread nD τ) ↦[(Memref.whole b).view.set]{fullShare} (Memref.whole b).view.rep f : sProp 𝕄)
      ⊢ (((c : Thread nD τ).loc b) ↦{fullShare} f) :=
  (rep_owns c (Memref.whole b) f).trans (Entails.of_eq (owns_whole (c : Thread nD τ) b fullShare f))

theorem PhiD0_eq (c : Dev nD) :
    (Pipeline.ΦD osem0 spec0 H0 (V m) c : sProp 𝕄)
      = iprop(Pipeline.scopedRest (Ix := Unit) (Name := ℕ) (U := Pipeline.UD sig nD τ) (Lvl := ℕ) (Val := Elt F) spec0 c
          ∗ (∃ r, prngReg c r)
          ∗ iprop(cellP (F := F) c (semK 0 0) ∗ cellP (F := F) c (semK 0 1) ∗ cellP (F := F) c (semK 0 2)
          ∗ cellP (F := F) c (semK 1 0) ∗ cellP (F := F) c (semK 1 1) ∗ cellP (F := F) c (semK 1 2)
          ∗ cellP (F := F) c (semK 2 0) ∗ cellP (F := F) c (semK 2 1) ∗ cellP (F := F) c (semK 2 2)
          ∗ cellP (F := F) c (semK 3 0) ∗ cellP (F := F) c (semK 3 1) ∗ cellP (F := F) c (semK 3 2))
          ∗ iprop(((Memref.whole main_v1).view.loc (c : Thread nD τ) ↦[Finset.univ]{fullShare} (Memref.whole main_v1).view.rep (inAt m c).kt)
        ∗ ((Memref.whole main_v5).view.loc (c : Thread nD τ) ↦[Finset.univ]{fullShare} (Memref.whole main_v5).view.rep (inAt m c).vt)
        ∗ ((Memref.whole main_v6).view.loc (c : Thread nD τ) ↦[Finset.univ]{fullShare} (Memref.whole main_v6).view.rep (inAt m c).vs))) := by
  rw [Pipeline.ΦD_eq, ownSems00_eq, hbmPts0_eq]

/-- The proof data of the one pipeline on core `c`: the arrays as the region finds them, each input's buffer left as it was, each
    result's buffer at what the body computes, the own-transfer invariant, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAll (inAt m c)
    | ⟨6, _⟩ => kCodes (inAt m c)
    | ⟨7, _⟩ => vCodes (inAt m c)
    | ⟨8, _⟩ => vScale (inAt m c)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAll (inAt m c) := by dsimp only [dats]
theorem after0_6 (c : Dev nD) (t : Fin cfg0.N) : (dats m 0 c).after 6 t = kCodes (inAt m c) := by dsimp only [dats]
theorem after0_7 (c : Dev nD) (t : Fin cfg0.N) : (dats m 0 c).after 7 t = vCodes (inAt m c) := by dsimp only [dats]
theorem after0_8 (c : Dev nD) (t : Fin cfg0.N) : (dats m 0 c).after 8 t = vScale (inAt m c) := by dsimp only [dats]
theorem before0_0 (c : Dev nD) (t : Fin cfg0.N) (d) : (dats m 0 c).before 0 t d = iblk m c 0 t := before0_0_ofD m (dats m 0 c) (A_eq m c 0) (after0_0 m c) t d
theorem before0_1 (c : Dev nD) (t : Fin cfg0.N) (d) : (dats m 0 c).before 1 t d = iblk m c 1 t := before0_1_ofD m (dats m 0 c) (A_eq m c 1) (after0_1 m c) t d
theorem before0_2 (c : Dev nD) (t : Fin cfg0.N) (d) : (dats m 0 c).before 2 t d = iblk m c 2 t := before0_2_ofD m (dats m 0 c) (A_eq m c 2) (after0_2 m c) t d
theorem before0_3 (c : Dev nD) (t : Fin cfg0.N) (d) : (dats m 0 c).before 3 t d = iblk m c 3 t := before0_3_ofD m (dats m 0 c) (A_eq m c 3) (after0_3 m c) t d
theorem before0_4 (c : Dev nD) (t : Fin cfg0.N) (d) : (dats m 0 c).before 4 t d = iblk m c 4 t := before0_4_ofD m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

theorem sound_body (hL : ∀ c, LenOk (inAt m c)) (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  rw [show (dats m 0 c).Φ t0_0.succ = (dats m 0 c).Φ t0_0.castSucc from rfl]
  rw [after0_0, after0_1, after0_2, after0_3, after0_4, after0_5, after0_6, after0_7, after0_8]
  simp only [before0_0, before0_1, before0_2, before0_3, before0_4]
  rw [show (dats m 0 c).Φ t0_0.castSucc = Pipeline.ΦD osem0 spec0 H0 (V m) c from rfl, PhiD0_eq, scopedRest0_eq]
  unfold Dat.owesAt Pipeline.owesWithin
  rw [show (dats m 0 c).owed t0_0.castSucc = 0 from rfl, show (dats m 0 c).owed t0_0.succ = 0 from rfl]
  iintro ⟨⟨⟨S0, S1, S2, ⟨%f4, S4⟩, ⟨%f5, S5⟩, ⟨%f6, S6⟩, ⟨%f7, S7⟩, ⟨%f8, S8⟩, ⟨%f9, S9⟩, ⟨%f10, S10⟩⟩, Hg, Hq, ⟨A1, A5, A6⟩⟩, ⟨%W, -, HW⟩,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HR := (ring_in (F := F) c (inAt m c)) $$ [S0 S1 S2 A1 A5 A6 Hq]
  · unfold wholeOwn
    isplitl [S0]; · iexact S0
    isplitl [S1]; · iexact S1
    isplitl [S2]; · iexact S2
    isplitl [A1]; · iexact A1
    isplitl [A5]; · iexact A5
    isplitl [A6]; · iexact A6
    iexact Hq
  icases HR with ⟨HR, HD⟩
  iapply (body_run _ _ _ _ _ _ _ _ _ _ _ _ _ _ _ _ _ _ _ _ _ _ _ _ _ _ _ _ _ _ _ _ c (inAt m c) (hL c) f9 f10 ⟨f6, f7, f8, f5, f4⟩ _ _ _ _ W)
  isplitl [H0]; · iapply (owns_rep (F := F) c _ _); iexact H0
  isplitl [H1 H2 H3 H4]
  · unfold inOwn
    isplitl [H1]; · iapply (owns_rep (F := F) c _ _); iexact H1
    isplitl [H2]; · iapply (owns_rep (F := F) c _ _); iexact H2
    isplitl [H3]; · iapply (owns_rep (F := F) c _ _); iexact H3
    iapply (owns_rep (F := F) c _ _); iexact H4
  isplitl [H5]; · unfold outOwn; iapply (owns_rep (F := F) c _ _); iexact H5
  isplitl [H6]; · iapply (owns_rep (F := F) c _ _); iexact H6
  isplitl [H7]; · iapply (owns_rep (F := F) c _ _); iexact H7
  isplitl [H8]; · iapply (owns_rep (F := F) c _ _); iexact H8
  isplitl [S4 S5 S6 S7 S8]
  · unfold stOwn
    isplitl [S4]; · iapply (whole_rep (F := F) c cc0_scratch4 f4); iexact S4
    isplitl [S5]; · iapply (whole_rep (F := F) c cc0_scratch5 f5); iexact S5
    isplitl [S6]; · iapply (whole_rep (F := F) c cc0_scratch6 f6); iexact S6
    isplitl [S7]; · iapply (whole_rep (F := F) c cc0_scratch7 f7); iexact S7
    iapply (whole_rep (F := F) c cc0_scratch8 f8); iexact S8
  isplitl [S9 S10]
  · unfold wOwn
    isplitl [S9]; · iapply (whole_rep (F := F) c cc0_scratch9 f9); iexact S9
    iapply (whole_rep (F := F) c cc0_scratch10 f10); iexact S10
  isplitl [HR]; · iexact HR
  isplitl [HW]; · iexact HW
  unfold inOwn outOwn stOwn wOwn
  iintro ⟨H0, ⟨H1, H2, H3, H4⟩, H5, H6, H7, H8, ⟨%s, S4, S5, S6, S7, S8⟩, ⟨%wb, %wc, S9, S10⟩, HR, ⟨%W', HW⟩⟩
  ihave HH := (ring_out (F := F) c (inAt m c)) $$ [HR HD]
  · isplitl [HR]; · iexact HR
    iexact HD
  unfold wholeOwn
  icases HH with ⟨S0, S1, S2, A1, A5, A6, Hq⟩
  isplitl [S0 S1 S2 S4 S5 S6 S7 S8 S9 S10 Hg Hq A1 A5 A6]
  · isplitl [S0 S1 S2 S4 S5 S6 S7 S8 S9 S10]
    · isplitl [S0]; · iexact S0
      isplitl [S1]; · iexact S1
      isplitl [S2]; · iexact S2
      isplitl [S4]; · iexists _; iapply (rep_whole (F := F) c cc0_scratch4 _); iexact S4
      isplitl [S5]; · iexists _; iapply (rep_whole (F := F) c cc0_scratch5 _); iexact S5
      isplitl [S6]; · iexists _; iapply (rep_whole (F := F) c cc0_scratch6 _); iexact S6
      isplitl [S7]; · iexists _; iapply (rep_whole (F := F) c cc0_scratch7 _); iexact S7
      isplitl [S8]; · iexists _; iapply (rep_whole (F := F) c cc0_scratch8 _); iexact S8
      isplitl [S9]; · iexists _; iapply (rep_whole (F := F) c cc0_scratch9 _); iexact S9
      iexists _; iapply (rep_whole (F := F) c cc0_scratch10 _); iexact S10
    isplitl [Hg]; · iexact Hg
    isplitl [Hq]; · iexact Hq
    isplitl [A1]; · iexact A1
    isplitl [A5]; · iexact A5
    iexact A6
  isplitl [HW]
  · iexists W'; isplitr; · ipureintro; exact fun _ _ => Or.inl trivial
    iexact HW
  isplitl [H0]; · iapply (rep_owns (F := F) c _ _); iexact H0
  isplitl [H1]; · iapply (rep_owns (F := F) c _ _); iexact H1
  isplitl [H2]; · iapply (rep_owns (F := F) c _ _); iexact H2
  isplitl [H3]; · iapply (rep_owns (F := F) c _ _); iexact H3
  isplitl [H4]; · iapply (rep_owns (F := F) c _ _); iexact H4
  isplitl [H5]; · iapply (rep_owns (F := F) c _ _); iexact H5
  isplitl [H6]; · iapply (rep_owns (F := F) c _ _); iexact H6
  isplitl [H7]; · iapply (rep_owns (F := F) c _ _); iexact H7
  iapply (rep_owns (F := F) c _ _); iexact H8

theorem defs₀_row (t : Fin cfg0.N) :
    defs₀ (F := F) .tc cfg0.body (cfg0.bodyArgs t (cfg0.slots t)) = bodyAt0 t := by
  unfold defs₀; rw [Defs.onTc_tc]

theorem body_obligation (hL : ∀ c, LenOk (inAt m c)) (c : Dev nD) : BodyObligation (dats (F := F) m 0 c) (defs₀ (F := F)) Variants.none () Set.univ := fun t => by
  rw [bigSep_W0, bigSep_W0, defs₀_row]
  exact triple_restated (sound_body m hL c t) rfl .rfl fun _ => .rfl

/-! ## The run and the frame -/

theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl | rfl | rfl | rfl | rfl
  all_goals
    simp only [StableHlo.reshape_bufs, StableHlo.unary_bufs, H0, Finset.mem_insert, Finset.mem_singleton, forall_eq_or_imp, forall_eq, not_or]
    refine ⟨⟨?_, ?_⟩, ⟨?_, ?_⟩, ?_, ?_⟩ <;> exact StableHlo.devRef_ne_of_ne (by decide)

set_option backward.isDefEq.respectTransparency.types false in
theorem run_main (hL : ∀ c, LenOk (inAt m c)) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m hL c).loose) (hshare := fun c => (dats m 0 c).share_full fun _ => rfl)
    (howed := fun _ _ => rfl) (V0 m) [hostOps1] sfx_subD sfx_fresh sfx_keeps (hmain := hmainD m Variants.none) (hA := A_eq m)
    (hin := fun _ => .rfl) (hout := fun _ => .rfl)

/-- THE FRAME: the kernel ends with its arguments as they were and every semaphore at zero. -/
theorem frame_all (hL : ∀ c, LenOk (inAt m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (W_main_arg0_D m (dats m) c),
      ((h.1 c).2 main_arg1 (Pipeline.mem_restRefs_of main_arg1 (by decide) (by decide))).trans (W_main_arg1_D m (dats m) c),
      ((h.1 c).2 main_arg2 (Pipeline.mem_restRefs_of main_arg2 (by decide) (by decide))).trans (W_main_arg2_D m (dats m) c),
      ((h.1 c).2 main_arg3 (Pipeline.mem_restRefs_of main_arg3 (by decide) (by decide))).trans (W_main_arg3_D m (dats m) c),
      ((h.1 c).1 4).trans (((dats m 0 c).arrAt_in 4 rfl _).trans ((A_eq m c 4).trans (V_main_arg4 m c))),
      ((h.1 c).2 main_arg5 (Pipeline.mem_restRefs_of main_arg5 (by decide) (by decide))).trans (W_main_arg5_D m (dats m) c),
      ((h.1 c).2 main_arg6 (Pipeline.mem_restRefs_of main_arg6 (by decide) (by decide))).trans (W_main_arg6_D m (dats m) c),
      ((h.1 c).1 0).trans (((dats m 0 c).arrAt_in 0 rfl _).trans ((A_eq m c 0).trans (V_main_arg7 m c)))⟩, h.2⟩) (run_main m ρ hL)

end Cert.Kernel.Hand

end
-- ==== Proof.HoldK.lean ====
/- Hand-written. -/
module

public import proofs.«01_k».proof.Proof.FrameK
public import proofs.«01_k».proof.Pre_lengths_fit

@[expose] public section

set_option synthInstance.maxSize 4096
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable [∀ e, Nonempty (Elt F e)]

variable (m : (ℓ : Loc nD τ sig) → Buf (Elt F) ℓ) (ρ : Dev nD → PrngReg)

/-! ## The precondition, read at the lengths the body loads -/

theorem lenOk_of_pre [Cert.Pre_lengths_fit.Facts] (c : Dev nD)
    (h : Cert.Pre_lengths_fit.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) : LenOk (inAt m c) := by
  have ofBool_eq_one (p : Bool) : (BitVec.ofBool p = 1#1) ↔ p = true := by cases p <;> decide
  have bound : ∀ y : S20.Idx, (m ((c : Thread nD τ).loc main_arg7) y : BitVec 32).toInt ≤ 8192 := by
    intro y
    have e := congrFun h y
    simp only [Cert.Pre_lengths_fit.fn, cmpi, broadcastInDim, constantI, IntOp.cmpi, ofBool_eq_one] at e
    simp only [BitVec.sle, decide_eq_true_eq] at e
    exact e
  have rd : ∀ i, (iblk m c 0 t0_0 i : BitVec 32).toInt ≤ 8192 := fun i => by
    unfold iblk; rw [View.read_apply, cast_eq, show V m c (Pipeline.arrRef spec0 0) = _ from V_main_arg7 m c]; exact bound _
  intro b
  exact rd _

/-- The frame from the precondition. -/
theorem frame_pre [Cert.Pre_lengths_fit.Facts] (h : ∀ c : Dev nD, Cert.Pre_lengths_fit.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  frame_all m ρ fun c => lenOk_of_pre m c (h c)

end Cert.Kernel.Hand

end
-- ==== Proof.WordsI.lean ====
/- Hand-written. The words the kernel computes: the chunk count of a sequence, the slots of the ring, the places of the
   work list, and the side conditions the body assumes of them. -/
module

public import proofs.«01_k».proof.Proof.Gen.KernelIdeal
public import Idealize.ShloMosaic.Lib.WordCmp
public import Idealize.ShloMosaic.Lib.LoopRemainder
public import Idealize.ShloMosaic.Lib.Affine

@[expose] public section

noncomputable section

namespace Cert.KernelIdeal.Hand

open Cert.KernelIdeal Cert.KernelIdeal.Gen
open Idealize.ShloMosaic

/-! ## Small words -/

theorem toInt_of_small (x : BitVec 32) (h : x.toNat < 2147483648) : x.toInt = (x.toNat : Int) := by
  rw [BitVec.toInt_eq_toNat_cond]; split <;> omega

theorem remsi4_toNat (x : BitVec 32) (h : x.toNat < 2147483648) : (Scalar.remsi x 4#32).toNat = x.toNat % 4 := by
  have hc : ¬ IntOp.SDivCorner x 4#32 := by
    unfold IntOp.SDivCorner; rintro (h | ⟨-, h⟩) <;> revert h <;> decide
  have hx : x.msb = false := by
    rw [BitVec.msb_eq_decide]; simp; omega
  unfold Scalar.remsi IntOp.remsi
  rw [if_neg hc, BitVec.srem_eq, hx, show (4#32 : BitVec 32).msb = false by decide]
  simp [BitVec.toNat_umod]

theorem iv_toNat (k : ℕ) (h : k < 2147483648) : (Scf.iv 0#32 1#32 k).toNat = k := by
  unfold Scf.iv
  simp only [BitVec.zero_add, BitVec.mul_one, BitVec.toNat_ofNat]
  exact Nat.mod_eq_of_lt (by omega)

theorem iv_eq (k : ℕ) : Scf.iv 0#32 1#32 k = BitVec.ofNat 32 k := by
  unfold Scf.iv; simp

theorem ivp3_toNat (k : ℕ) (h : k < 1000) :
    (Scalar.subi (Scalar.addi (Scf.iv 0#32 1#32 k) 4#32) 1#32).toNat = k + 3 := by
  rw [iv_eq]
  simp only [Scalar.subi, Scalar.addi, IntOp.subi, IntOp.addi, BitVec.toNat_sub, BitVec.toNat_add, BitVec.toNat_ofNat]
  omega

/-- The count of chunks the kernel gives a sequence of length `v`: its chunk loop's trips. -/
abbrev nch (v : BitVec 32) : ℕ := (k0_t2_loop v).trips

theorem t4_trips (n : ℕ) (h : n < 1000) : (k0_t4_loop (BitVec.ofNat 32 n)).trips = n := by
  show Scf.trips _ _ _ = n
  unfold Scf.trips k0_t4_loop
  simp only [Scalar.muli_divsi_one]
  simp only [Scalar.subi, Scalar.addi, IntOp.subi, IntOp.addi, BitVec.sub_zero, BitVec.zero_add]
  rw [toInt_of_small _ (by rw [BitVec.toNat_ofNat]; omega), BitVec.toNat_ofNat,
    show (0#32 : BitVec 32).toInt = 0 by decide, show (1#32 : BitVec 32).toInt = 1 by decide]
  omega

theorem divsi1024_toInt (u : BitVec 32) : (Scalar.divsi u 1024#32).toInt = u.toInt.tdiv 1024 := by
  have hc : ¬ IntOp.SDivCorner u 1024#32 := by
    unfold IntOp.SDivCorner; rintro (h | ⟨-, h⟩) <;> revert h <;> decide
  unfold Scalar.divsi IntOp.divsi
  rw [if_neg hc, BitVec.toInt_sdiv_of_ne_or_ne _ _ (by right; decide)]
  rfl

theorem remsi1024_toInt (u : BitVec 32) : (Scalar.remsi u 1024#32).toInt = u.toInt.tmod 1024 := by
  have hc : ¬ IntOp.SDivCorner u 1024#32 := by
    unfold IntOp.SDivCorner; rintro (h | ⟨-, h⟩) <;> revert h <;> decide
  unfold Scalar.remsi IntOp.remsi
  rw [if_neg hc, BitVec.toInt_srem]
  rfl

/-- The chunk count's word: the ceiling of `v / 1024`, at least one. -/
theorem nch_ub (v : BitVec 32) (h : v.toInt ≤ 8192) :
    (k0_t2_loop v).lb = 0#32 ∧ (k0_t2_loop v).st = 1#32 ∧
    ∃ r : ℕ, 1 ≤ r ∧ r ≤ 8 ∧ v.toInt ≤ 1024 * r ∧ (k0_t2_loop v).ub = BitVec.ofNat 32 r := by
  refine ⟨rfl, rfl, ?_⟩
  have hu : (Scalar.subi (Scalar.addi v 1024#32) 1#32).toInt = v.toInt + 1023 := by
    simp only [Scalar.subi, Scalar.addi, IntOp.subi, IntOp.addi, BitVec.toInt_sub, BitVec.toInt_add]
    have h1 := BitVec.le_toInt v
    rw [show (1024#32 : BitVec 32).toInt = 1024 by decide, show (1#32 : BitVec 32).toInt = 1 by decide]
    simp only [Int.bmod_def] at *
    omega
  generalize hU : Scalar.subi (Scalar.addi v 1024#32) 1#32 = u at hu
  have hd := divsi1024_toInt u
  have hm := remsi1024_toInt u
  generalize hD : Scalar.divsi u 1024#32 = d at hd
  generalize hM : Scalar.remsi u 1024#32 = m at hm
  have hub : (k0_t2_loop v).ub = Scalar.maxsi (Scalar.select (Scalar.andi (Scalar.cmpi .ne
        (Scalar.subi (Scalar.extui (Scalar.cmpi .sgt u 0#32)) (Scalar.extui (Scalar.cmpi .slt u 0#32))) 1#32)
        (Scalar.cmpi .ne m 0#32)) (Scalar.subi d 1#32) d) 1#32 := by
    unfold k0_t2_loop
    simp only [Scalar.muli_divsi_one, hU, hD, hM]
    simp only [Scalar.subi, Scalar.addi, IntOp.subi, IntOp.addi, BitVec.sub_zero, BitVec.zero_add]
    rfl
  rw [hub]
  have hle := BitVec.le_toInt v
  have hmax : ∀ x : BitVec 32, Scalar.maxsi x 1#32 = if (1 : Int) ≤ x.toInt then x else 1#32 := fun x => by
    unfold Scalar.maxsi IntOp.maxsi
    by_cases hx : (1 : Int) < x.toInt
    · rw [if_pos (by simpa [BitVec.slt] using hx), if_pos (by omega)]
    · rw [if_neg (by simpa [BitVec.slt] using hx)]
      split
      · exact BitVec.eq_of_toInt_eq (by rw [show (1#32 : BitVec 32).toInt = 1 by decide]; omega)
      · rfl
  rw [hmax]
  by_cases hpos : 0 < u.toInt
  · have e1 : Scalar.cmpi .sgt u 0#32 = 1#1 := by
      show IntOp.cmpi .sgt u 0#32 = 1#1
      rw [WordCmp.cmpi_sgt_eq, decide_eq_true (by simpa using hpos)]; rfl
    have e2 : Scalar.cmpi .slt u 0#32 = 0#1 := by
      show IntOp.cmpi .slt u 0#32 = 0#1
      rw [WordCmp.cmpi_slt_eq, decide_eq_false (by simp; omega)]; rfl
    have e3 : Scalar.select (Scalar.andi (Scalar.cmpi .ne
        (Scalar.subi (Scalar.extui (Scalar.cmpi .sgt u 0#32)) (Scalar.extui (Scalar.cmpi .slt u 0#32))) 1#32)
        (Scalar.cmpi .ne m 0#32)) (Scalar.subi d 1#32) d = d := by
      rw [e1, e2]
      have : Scalar.cmpi .ne (Scalar.subi (Scalar.extui (1#1 : BitVec 1)) (Scalar.extui (0#1 : BitVec 1))) (1#32 : BitVec 32) = 0#1 := by decide
      rw [this]
      unfold Scalar.select Scalar.andi IntOp.andi
      rw [BitVec.zero_and]; rfl
    rw [e3]
    rw [Int.tdiv_eq_ediv_of_nonneg (by omega)] at hd
    split
    · refine ⟨d.toInt.toNat, by omega, by omega, by omega, ?_⟩
      apply BitVec.eq_of_toInt_eq
      have hn : (BitVec.ofNat 32 d.toInt.toNat).toNat = d.toInt.toNat := by rw [BitVec.toNat_ofNat]; omega
      rw [toInt_of_small (BitVec.ofNat 32 d.toInt.toNat) (by rw [hn]; omega), hn]; omega
    · refine ⟨1, by omega, by omega, by omega, rfl⟩
  · have hd0 : d.toInt ≤ 0 ∧ -2147483647 < d.toInt := by
      rw [hd]
      have hh : u.toInt = -(-u.toInt) := by omega
      rw [hh, Int.neg_tdiv, Int.tdiv_eq_ediv_of_nonneg (by omega)]
      omega
    have hs : ∀ c : BitVec 1, (Scalar.select c (Scalar.subi d 1#32) d).toInt ≤ 0 := fun c => by
      unfold Scalar.select
      split
      · simp only [Scalar.subi, IntOp.subi, BitVec.toInt_sub]
        rw [show (1#32 : BitVec 32).toInt = 1 by decide]
        simp only [Int.bmod_def]; omega
      · omega
    rw [if_neg (by have := hs (Scalar.andi (Scalar.cmpi .ne
        (Scalar.subi (Scalar.extui (Scalar.cmpi .sgt u 0#32)) (Scalar.extui (Scalar.cmpi .slt u 0#32))) 1#32)
        (Scalar.cmpi .ne m 0#32)); omega)]
    exact ⟨1, by omega, by omega, by omega, rfl⟩

theorem trips_of_ub (n : ℕ) (h : n < 1000) : Scf.trips 0#32 (BitVec.ofNat 32 n) 1#32 = n := by
  unfold Scf.trips
  rw [toInt_of_small _ (by rw [BitVec.toNat_ofNat]; omega), BitVec.toNat_ofNat,
    show (0#32 : BitVec 32).toInt = 0 by decide, show (1#32 : BitVec 32).toInt = 1 by decide]
  omega

theorem ok_of_ub (n : ℕ) (h : n < 1000) : Scf.OK 0#32 (BitVec.ofNat 32 n) 1#32 := by
  refine ⟨by decide, ?_⟩
  rw [trips_of_ub n h, show (0#32 : BitVec 32).toInt = 0 by decide, show (1#32 : BitVec 32).toInt = 1 by decide]
  omega

theorem nch_facts (v : BitVec 32) (h : v.toInt ≤ 8192) : 1 ≤ nch v ∧ nch v ≤ 8 ∧ v.toInt ≤ 1024 * nch v := by
  obtain ⟨hlb, hst, r, h1, h2, h3, hub⟩ := nch_ub v h
  have : nch v = r := by
    unfold nch Scf.Loop.trips; rw [hlb, hst, hub]; exact trips_of_ub r (by omega)
  rw [this]; exact ⟨h1, h2, h3⟩

theorem chk1 (v : BitVec 32) (h : v.toInt ≤ 8192) : k0_chk1 v := by
  obtain ⟨hlb, hst, r, h1, h2, h3, hub⟩ := nch_ub v h
  refine ⟨?_, ?_⟩
  · unfold Scf.Loop.OK; rw [hlb, hst, hub]; exact ok_of_ub r (by omega)
  · exact Scf.rem_ok _ _

/-! ## Conditions -/

theorem ne_extui (b : BitVec 1) : Scalar.cmpi .ne (Scalar.extui b : BitVec 32) 0#32 = b := by
  revert b; decide

theorem k_lt {n : ℕ} (hn : n < 1000) (k : Fin (k0_t4_loop (BitVec.ofNat 32 n)).trips) : k.val < n := by
  exact lt_of_lt_of_eq k.isLt (t4_trips n hn)

theorem slt_ofNat {a b : ℕ} (ha : a < 2000) (hb : b < 2000) :
    Scalar.cmpi .slt (BitVec.ofNat 32 a) (BitVec.ofNat 32 b) = 1#1 ↔ a < b := by
  show IntOp.cmpi .slt _ _ = _ ↔ _
  rw [WordCmp.cmpi_slt_ofNat (by omega) (by omega)]
  by_cases h : a < b
  · simp [h]
  · simp [h]

theorem eq_ofNat {a b : ℕ} (ha : a < 2000) (hb : b < 2000) :
    Scalar.cmpi .eq (BitVec.ofNat 32 a) (BitVec.ofNat 32 b) = 1#1 ↔ a = b := by
  show IntOp.cmpi .eq _ _ = _ ↔ _
  rw [WordCmp.cmpi_eq_eq_toNat, BitVec.toNat_ofNat, BitVec.toNat_ofNat, Nat.mod_eq_of_lt (by omega), Nat.mod_eq_of_lt (by omega)]
  by_cases h : a = b
  · simp [h]
  · simp [h]

theorem ivp3_eq (k : ℕ) (h : k < 1000) :
    Scalar.subi (Scalar.addi (Scf.iv 0#32 1#32 k) 4#32) 1#32 = BitVec.ofNat 32 (k + 3) := by
  apply BitVec.eq_of_toNat_eq
  rw [ivp3_toNat k h, BitVec.toNat_ofNat]; omega

theorem cond4_iff {n : ℕ} (hn : n < 1000) (k : Fin (k0_t4_loop (BitVec.ofNat 32 n)).trips) :
    k0_cond4 (BitVec.ofNat 32 n) k = 1#1 ↔ k.val + 3 < n := by
  unfold k0_cond4
  simp only [ne_extui]
  rw [ivp3_eq _ (by have := k_lt hn k; omega)]
  exact slt_ofNat (by have := k_lt hn k; omega) (by omega)

theorem cond5_iff (c : ℕ) (hc : c < 1000) : k0_cond5 (BitVec.ofNat 32 c) = 1#1 ↔ c = 0 := by
  unfold k0_cond5
  simp only [ne_extui]
  exact eq_ofNat (by omega) (by omega)

theorem cond6_iff {n : ℕ} (hn : n < 1000) (k : Fin (k0_t4_loop (BitVec.ofNat 32 n)).trips) (c : ℕ) (hc : c < 1000) :
    k0_cond6 (BitVec.ofNat 32 n) k (BitVec.ofNat 32 c) = 1#1 ↔ (k.val + 1 = n ∨ c = 0) := by
  unfold k0_cond6
  simp only [ne_extui]
  have h1 : Scalar.addi (Scf.iv 0#32 1#32 k) 1#32 = BitVec.ofNat 32 (k.val + 1) := by
    rw [iv_eq]; apply BitVec.eq_of_toNat_eq
    simp only [Scalar.addi, IntOp.addi, BitVec.toNat_add, BitVec.toNat_ofNat]; omega
  rw [h1]
  have e1 := eq_ofNat (a := k.val + 1) (b := n) (by have := k_lt hn k; omega) (by omega)
  have e2 := eq_ofNat (a := c) (b := 0) (by omega) (by omega)
  have ho : ∀ a b : BitVec 1, Scalar.ori a b = 1#1 ↔ (a = 1#1 ∨ b = 1#1) := by decide
  rw [ho, e1, e2]

theorem cond1_iff {n : ℕ} (hn : n < 1000) : k0_cond1 (BitVec.ofNat 32 n) = 1#1 ↔ 0 < n := by
  unfold k0_cond1; simp only [ne_extui]; exact slt_ofNat (by omega) (by omega)
theorem cond2_iff {n : ℕ} (hn : n < 1000) : k0_cond2 (BitVec.ofNat 32 n) = 1#1 ↔ 1 < n := by
  unfold k0_cond2; simp only [ne_extui]; exact slt_ofNat (by omega) (by omega)
theorem cond3_iff {n : ℕ} (hn : n < 1000) : k0_cond3 (BitVec.ofNat 32 n) = 1#1 ↔ 2 < n := by
  unfold k0_cond3; simp only [ne_extui]; exact slt_ofNat (by omega) (by omega)

/-! ## Bounds -/

theorem inbSem (s j : ℕ) (hs : s < 4) (hj : j < 3) : ∀ a, (![s, j] : Fin 2 → ℕ) a + S1x1.size a ≤ S4x3.size a
  | ⟨0, _⟩ => by show s + 1 ≤ 4; omega
  | ⟨1, _⟩ => by show j + 1 ≤ 3; omega
theorem inbK (s : ℕ) (hs : s < 4) : ∀ a, (![s, 0, 0] : Fin 3 → ℕ) a + S1x768x1024.size a ≤ S4x768x1024.size a
  | ⟨0, _⟩ => by show s + 1 ≤ 4; omega
  | ⟨1, _⟩ => by show 0 + 768 ≤ 768; omega
  | ⟨2, _⟩ => by show 0 + 1024 ≤ 1024; omega
theorem inbVS (s : ℕ) (hs : s < 4) : ∀ a, (![s, 0, 0] : Fin 3 → ℕ) a + S1x8x1024.size a ≤ S4x8x1024.size a
  | ⟨0, _⟩ => by show s + 1 ≤ 4; omega
  | ⟨1, _⟩ => by show 0 + 8 ≤ 8; omega
  | ⟨2, _⟩ => by show 0 + 1024 ≤ 1024; omega
theorem inbV (s : ℕ) (hs : s < 4) : ∀ a, (![s, 0, 0, 0] : Fin 4 → ℕ) a + S1x48x64x128.size a ≤ S4x48x64x128.size a
  | ⟨0, _⟩ => by show s + 1 ≤ 4; omega
  | ⟨1, _⟩ => by show 0 + 48 ≤ 48; omega
  | ⟨2, _⟩ => by show 0 + 64 ≤ 64; omega
  | ⟨3, _⟩ => by show 0 + 128 ≤ 128; omega
theorem inbV32 (s o : ℕ) (hs : s < 4) (ho : o ≤ 32) : ∀ a, (![s, 0, o, 0] : Fin 4 → ℕ) a + S1x48x32x128.size a ≤ S4x48x64x128.size a
  | ⟨0, _⟩ => by show s + 1 ≤ 4; omega
  | ⟨1, _⟩ => by show 0 + 48 ≤ 48; omega
  | ⟨2, _⟩ => by show o + 32 ≤ 64; omega
  | ⟨3, _⟩ => by show 0 + 128 ≤ 128; omega
theorem inbW (s : ℕ) (hs : s < 160) : ∀ a, (![s] : Fin 1 → ℕ) a + S1.size a ≤ S160.size a
  | ⟨0, _⟩ => by show s + 1 ≤ 160; omega
theorem inbL (s : ℕ) (hs : s < 20) : ∀ a, (![s] : Fin 1 → ℕ) a + S1.size a ≤ S20.size a
  | ⟨0, _⟩ => by show s + 1 ≤ 20; omega
theorem inbX (s : ℕ) (hs : s < 20) : ∀ a, (![s, 0, 0] : Fin 3 → ℕ) a + S1x32x96.size a ≤ S20x32x96.size a
  | ⟨0, _⟩ => by show s + 1 ≤ 20; omega
  | ⟨1, _⟩ => by show 0 + 32 ≤ 32; omega
  | ⟨2, _⟩ => by show 0 + 96 ≤ 96; omega
theorem inbN (s : ℕ) (hs : s < 20) : ∀ a, (![s, 0, 0] : Fin 3 → ℕ) a + S1x8x96.size a ≤ S20x8x96.size a
  | ⟨0, _⟩ => by show s + 1 ≤ 20; omega
  | ⟨1, _⟩ => by show 0 + 8 ≤ 8; omega
  | ⟨2, _⟩ => by show 0 + 96 ≤ 96; omega
theorem inbKt (b c : ℕ) (hb : b < 20) (hc : c < 8) :
    ∀ a, (![b, 0, c * 1024] : Fin 3 → ℕ) a + S1x768x1024.size a ≤ S20x768x8192.size a
  | ⟨0, _⟩ => by show b + 1 ≤ 20; omega
  | ⟨1, _⟩ => by show 0 + 768 ≤ 768; omega
  | ⟨2, _⟩ => by show c * 1024 + 1024 ≤ 8192; omega
theorem inbVs (b c : ℕ) (hb : b < 20) (hc : c < 8) :
    ∀ a, (![b, 0, c * 1024] : Fin 3 → ℕ) a + S1x8x1024.size a ≤ S20x8x8192.size a
  | ⟨0, _⟩ => by show b + 1 ≤ 20; omega
  | ⟨1, _⟩ => by show 0 + 8 ≤ 8; omega
  | ⟨2, _⟩ => by show c * 1024 + 1024 ≤ 8192; omega
theorem inbVt (b c : ℕ) (hb : b < 20) (hc : c < 8) :
    ∀ a, (![b, 0, c * 64, 0] : Fin 4 → ℕ) a + S1x48x64x128.size a ≤ S20x48x512x128.size a
  | ⟨0, _⟩ => by show b + 1 ≤ 20; omega
  | ⟨1, _⟩ => by show 0 + 48 ≤ 48; omega
  | ⟨2, _⟩ => by show c * 64 + 64 ≤ 512; omega
  | ⟨3, _⟩ => by show 0 + 128 ≤ 128; omega

theorem muli_toNat (c : ℕ) (hc : c < 8) (m : ℕ) (hm : m ≤ 1024) :
    (Scalar.muli (BitVec.ofNat 32 c) (BitVec.ofNat 32 m)).toNat = c * m := by
  have : c * m ≤ 8 * 1024 := Nat.mul_le_mul (by omega) hm
  simp only [Scalar.muli, IntOp.muli, BitVec.toNat_mul, BitVec.toNat_ofNat]
  rw [Nat.mod_eq_of_lt (a := c) (by omega), Nat.mod_eq_of_lt (a := m) (by omega), Nat.mod_eq_of_lt (by omega)]

theorem wwV (a c : ℕ) (hinb : ∀ x, (![a, 0, c * 64, 0] : Fin 4 → ℕ) x + S1x48x64x128.size x ≤ S20x48x512x128.size x) :
    (Rect.unit (s := S20x48x512x128) ![a, 0, c * 64, 0] S1x48x64x128.size hinb).WholeWords (EltTy.packing .i8) := by
  have h1 : 4 ∣ c * 64 := ⟨c * 16, by omega⟩
  have h2 : 4 ∣ 64 := by decide
  have hp : EltTy.packing .i8 = 4 := rfl
  refine Affine.words_of_packed (Affine.packed_dvd (by decide) ?_ ?_)
  · rw [hp, show (![a, 0, c * 64, 0] : Fin 4 → ℕ) (S20x48x512x128.rowAx (by decide)) = c * 64 from rfl]; exact h1
  · rw [hp, show S1x48x64x128.size (S20x48x512x128.rowAx (by decide)) = 64 from rfl]; exact h2

theorem chk10 (b c : ℕ) (hb : b < 20) (hc : c < 8) : k0_chk10 (BitVec.ofNat 32 b) (BitVec.ofNat 32 c) := by
  have e47 : k0_off47 (BitVec.ofNat 32 b) (BitVec.ofNat 32 c) = ![b, 0, c * 1024] := by
    unfold k0_off47; simp only []; rw [muli_toNat c hc 1024 (by omega), BitVec.toNat_ofNat, Nat.mod_eq_of_lt (by omega)]
  have e50 : k0_off50 (BitVec.ofNat 32 b) (BitVec.ofNat 32 c) = ![b, 0, c * 64, 0] := by
    unfold k0_off50; simp only []; rw [muli_toNat c hc 64 (by omega), BitVec.toNat_ofNat, Nat.mod_eq_of_lt (by omega)]
  have e53 : k0_off53 (BitVec.ofNat 32 b) (BitVec.ofNat 32 c) = ![b, 0, c * 1024] := by
    unfold k0_off53; simp only []; rw [muli_toNat c hc 1024 (by omega), BitVec.toNat_ofNat, Nat.mod_eq_of_lt (by omega)]
  unfold k0_chk10
  rw [e47, e50, e53]
  refine ⟨inbKt b c hb hc, fun h => ?_, inbVt b c hb hc, fun h => wwV b c h, inbVs b c hb hc⟩
  exact Affine.words_rows (by decide) rfl rfl

theorem chk4 (v : BitVec 32) (b c : ℕ) (hb : b < 20) (hc : c < 8) : k0_chk4 v (BitVec.ofNat 32 b) (BitVec.ofNat 32 c) := by
  have h := chk10 b c hb hc
  exact ⟨fun _ => h.1, fun _ => h.2.1, fun _ => h.2.2.1, fun _ => h.2.2.2.1, fun _ => h.2.2.2.2⟩
theorem chk5 (v : BitVec 32) (b c : ℕ) (hb : b < 20) (hc : c < 8) : k0_chk5 v (BitVec.ofNat 32 b) (BitVec.ofNat 32 c) := by
  have h := chk10 b c hb hc
  exact ⟨fun _ => h.1, fun _ => h.2.1, fun _ => h.2.2.1, fun _ => h.2.2.2.1, fun _ => h.2.2.2.2⟩
theorem chk6 (v : BitVec 32) (b c : ℕ) (hb : b < 20) (hc : c < 8) : k0_chk6 v (BitVec.ofNat 32 b) (BitVec.ofNat 32 c) := by
  have h := chk10 b c hb hc
  exact ⟨fun _ => h.1, fun _ => h.2.1, fun _ => h.2.2.1, fun _ => h.2.2.2.1, fun _ => h.2.2.2.2⟩
theorem chk8 (v : BitVec 32) (k : Fin (k0_t4_loop v).trips) (b c : ℕ) (hb : b < 20) (hc : c < 8) :
    k0_chk8 v k (BitVec.ofNat 32 b) (BitVec.ofNat 32 c) := by
  have h := chk10 b c hb hc
  exact ⟨fun _ => h.1, fun _ => h.2.1, fun _ => h.2.2.1, fun _ => h.2.2.2.1, fun _ => h.2.2.2.2⟩

theorem ofNat_toNat (b : ℕ) (hb : b < 1000) : (BitVec.ofNat 32 b).toNat = b := by
  rw [BitVec.toNat_ofNat]; omega

theorem chk9 (b : ℕ) (c : BitVec 32) (hb : b < 20) : k0_chk9 (BitVec.ofNat 32 b) c := by
  refine ⟨fun _ => ?_, fun _ => ?_⟩
  · exact inbX (BitVec.ofNat 32 b).toNat (by rw [ofNat_toNat b (by omega)]; exact hb)
  · exact inbN (BitVec.ofNat 32 b).toNat (by rw [ofNat_toNat b (by omega)]; exact hb)

theorem chk11 (b : ℕ) (hb : b < 20) : k0_chk11 (BitVec.ofNat 32 b) :=
  inbL (BitVec.ofNat 32 b).toNat (by rw [ofNat_toNat b (by omega)]; exact hb)

theorem chk12 (v : BitVec 32) (k : Fin (k0_t4_loop v).trips) (b : ℕ) (hb : b < 20) (w : BitVec 32) :
    k0_chk12 v k (BitVec.ofNat 32 b) w := by
  refine ⟨fun _ => inbX (BitVec.ofNat 32 b).toNat (by rw [ofNat_toNat b (by omega)]; exact hb), fun _ h => ?_⟩
  exact Affine.packed_rows (by decide) rfl rfl rfl rfl

theorem chk2 (p : ℕ) (hp : p < 160) : k0_chk2 (BitVec.ofNat 32 p) :=
  inbW (BitVec.ofNat 32 p).toNat (by rw [ofNat_toNat p (by omega)]; exact hp)

theorem slotW_lt (k : ℕ) (h : k < 1000) : (Scalar.remsi (Scf.iv 0#32 1#32 k) 4#32).toNat < 4 := by
  rw [remsi4_toNat _ (by rw [iv_toNat k (by omega)]; omega)]; omega
theorem slotI_lt (k : ℕ) (h : k < 1000) :
    (Scalar.remsi (Scalar.subi (Scalar.addi (Scf.iv 0#32 1#32 k) 4#32) 1#32) 4#32).toNat < 4 := by
  rw [remsi4_toNat _ (by rw [ivp3_toNat k (by omega)]; omega)]; omega

theorem slotW_eq (k : ℕ) (h : k < 1000) : (Scalar.remsi (Scf.iv 0#32 1#32 k) 4#32).toNat = k % 4 := by
  rw [remsi4_toNat _ (by rw [iv_toNat k (by omega)]; omega), iv_toNat k (by omega)]
theorem slotI_eq (k : ℕ) (h : k < 1000) :
    (Scalar.remsi (Scalar.subi (Scalar.addi (Scf.iv 0#32 1#32 k) 4#32) 1#32) 4#32).toNat = (k + 3) % 4 := by
  rw [remsi4_toNat _ (by rw [ivp3_toNat k (by omega)]; omega), ivp3_toNat k (by omega)]

/-- The place of the work list read for the last chunk test. -/
theorem off59_toNat (n k : ℕ) (hn : n < 1000) (hk : k < n) :
    (Scalar.minsi (Scalar.addi (Scf.iv 0#32 1#32 k) 1#32) (Scalar.subi (BitVec.ofNat 32 n) 1#32)).toNat = min (k + 1) (n - 1) := by
  have h1 : Scalar.addi (Scf.iv 0#32 1#32 k) 1#32 = BitVec.ofNat 32 (k + 1) := by
    rw [iv_eq]; apply BitVec.eq_of_toNat_eq
    simp only [Scalar.addi, IntOp.addi, BitVec.toNat_add, BitVec.toNat_ofNat]; omega
  have h2 : Scalar.subi (BitVec.ofNat 32 n) 1#32 = BitVec.ofNat 32 (n - 1) := by
    apply BitVec.eq_of_toNat_eq
    simp only [Scalar.subi, IntOp.subi, BitVec.toNat_sub, BitVec.toNat_ofNat]; omega
  rw [h1, h2]
  unfold Scalar.minsi IntOp.minsi
  have hh : (BitVec.ofNat 32 (k + 1)).slt (BitVec.ofNat 32 (n - 1)) = decide (k + 1 < n - 1) := by
    unfold BitVec.slt
    rw [toInt_of_small _ (by rw [ofNat_toNat _ (by omega)]; omega), toInt_of_small _ (by rw [ofNat_toNat _ (by omega)]; omega),
      ofNat_toNat _ (by omega), ofNat_toNat _ (by omega)]
    exact decide_eq_decide.mpr Int.ofNat_lt
  rw [hh]
  by_cases h : k + 1 < n - 1
  · rw [decide_eq_true h, if_pos rfl, ofNat_toNat _ (by omega)]; omega
  · rw [decide_eq_false h, if_neg (by decide), ofNat_toNat _ (by omega)]; omega

theorem t4_ok (n : ℕ) (h : n < 1000) : (k0_t4_loop (BitVec.ofNat 32 n)).OK := by
  show Scf.OK _ _ _
  unfold k0_t4_loop
  simp only [Scalar.muli_divsi_one]
  simp only [Scalar.subi, Scalar.addi, IntOp.subi, IntOp.addi, BitVec.sub_zero, BitVec.zero_add]
  exact ok_of_ub n h

theorem no_t5 (v : BitVec 32) (k : Fin (k0_t5_loop v).trips) : False := Scf.rem_no_trip _ _ k

theorem chk7_0 (n : ℕ) (hn : n ≤ 160) : k0_chk7_0 (BitVec.ofNat 32 n) := by
  have kl : ∀ k : Fin (k0_t4_loop (BitVec.ofNat 32 n)).trips, k.val < n := fun k => k_lt (by omega) k
  have sw : ∀ k : Fin (k0_t4_loop (BitVec.ofNat 32 n)).trips, (Scalar.remsi (Scf.iv 0#32 1#32 k) 4#32).toNat < 4 :=
    fun k => slotW_lt k (by have := kl k; omega)
  have si : ∀ k : Fin (k0_t4_loop (BitVec.ofNat 32 n)).trips,
      (Scalar.remsi (Scalar.subi (Scalar.addi (Scf.iv 0#32 1#32 k) 4#32) 1#32) 4#32).toNat < 4 :=
    fun k => slotI_lt k (by have := kl k; omega)
  refine ⟨t4_ok n (by omega), fun k => inbW (Scf.iv 0#32 1#32 k).toNat ?_, fun k h => inbW (Scalar.subi (Scalar.addi (Scf.iv 0#32 1#32 k) 4#32) 1#32).toNat ?_,
    fun k h => inbSem _ 0 (si k) (by omega), fun k h => inbK _ (si k), fun k h hi => Affine.words_rows (by decide) rfl rfl,
    fun k h => inbSem _ 1 (si k) (by omega), fun k h => inbV _ (si k), fun k h hi => Affine.words_rows (by decide) rfl rfl,
    fun k h => inbSem _ 2 (si k) (by omega), fun k h => inbVS _ (si k), fun k => inbW (Scf.iv 0#32 1#32 k).toNat ?_,
    fun k => inbSem _ 0 (sw k) (by omega), fun k => inbK _ (sw k), fun k hi => Affine.words_rows (by decide) rfl rfl,
    fun k => inbSem _ 1 (sw k) (by omega), fun k => inbV _ (sw k), fun k hi => Affine.words_rows (by decide) rfl rfl,
    fun k => inbSem _ 2 (sw k) (by omega), fun k => inbVS _ (sw k), fun k => inbK _ (sw k), fun k => inbVS _ (sw k),
    fun k => inbV32 _ 0 (sw k) (by omega), fun k => inbV32 _ 32 (sw k) (by omega), fun k => inbW (Scalar.minsi (Scalar.addi (Scf.iv 0#32 1#32 k) 1#32) (Scalar.subi (BitVec.ofNat 32 n) 1#32)).toNat ?_,
    Scf.rem_ok _ _, ?_⟩
  · rw [iv_toNat _ (by have := kl k; omega)]; have := kl k; omega
  · have := (cond4_iff (by omega) k).1 h
    rw [ivp3_toNat _ (by omega)]; omega
  · rw [iv_toNat _ (by have := kl k; omega)]; have := kl k; omega
  · rw [off59_toNat n k (by omega) (kl k)]; have := kl k; omega
  · refine ⟨?_, ?_, ?_, ?_, ?_, ?_⟩ <;> exact fun k => (no_t5 _ k).elim

theorem chk7 (n : ℕ) (hn : n ≤ 160) : k0_chk7 (BitVec.ofNat 32 n) := by
  refine ⟨chk7_0 n hn, ?_⟩
  unfold k0_chk7_1
  refine ⟨?_, ?_, ?_, ?_, ?_, ?_, ?_, ?_, ?_, ?_, ?_, ?_, ?_, ?_, ?_, ?_, ?_, ?_⟩ <;> exact fun k => (no_t5 _ k).elim

end Cert.KernelIdeal.Hand

end
-- ==== Proof.SegI.lean ====
/- Hand-written. The segments of the kernel's main loop body, as programs of their own. -/
module

public import proofs.«01_k».proof.Proof.WordsI
public import proofs.«01_k».proof.Proof.Gen.KernelIdeal.Skeleton
public import proofs.«01_k».proof.Proof.Gen.KernelIdeal.Points
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.SL.Sem

variable {F : FTy → Type} [FloatOps F]

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

/-- The start of the three transfers of the chunk three places ahead. -/
def segStart (v1 : BitVec 32) (k0_hw7 : k0_chk7 v1) (k0_t4 : Fin (k0_t4_loop v1).trips) (k0_h4 : k0_cond4 v1 k0_t4 = 1#1) :
    Prog (TpuEff nD τ sig (Elt F) Λ₀ .tc) PUnit := do

  let v288 : Elt F .i32 ← smemLoad arg21 (Rect.unit (s := S160) (k0_off32 v1 k0_t4) S1.size (k0_off32_inb v1 k0_hw7 k0_t4 k0_h4)) numel1_S1 rfl

  let v290 : Elt F .i32 ← smemLoad arg22 (Rect.unit (s := S160) (k0_off32 v1 k0_t4) S1.size (k0_off32_inb v1 k0_hw7 k0_t4 k0_h4)) numel1_S1 rfl
  have k0_hw8 : k0_chk8 v1 k0_t4 v288 v290 := (← Prog.lift (TpuEff.assume (k0_chk8 v1 k0_t4 v288 v290) (k0_chk8.dec v1 k0_t4 v288 v290))).down

  let v295 : DmaSems sig S1x1 := cc0_scratch3.slice (Rect.unit (s := S4x3) (k0_off33 v1 k0_t4) S1x1.size (k0_off33_inb v1 k0_hw7 k0_t4 k0_h4))
  let v296 : DmaSems sig S_ := v295.squeeze S_ squeezes_S1x1_S_
  let v297 : Memref sig .tc .vmem S1x768x1024 .i8 := (Memref.whole cc0_scratch0).slice (Rect.unit (s := S4x768x1024) (k0_off34 v1 k0_t4) S1x768x1024.size (k0_off34_inb v1 k0_hw7 k0_t4 k0_h4)) (fun _ => rfl)
  let v298 : Memref sig .tc .vmem S768x1024 .i8 := v297.squeeze S768x1024 squeezes_S1x768x1024_S768x1024
  let v299 : Memref sig .tc .hbm S1x768x1024 .i8 := (Memref.whole main_v1).slice (Rect.unit (s := S20x768x8192) (k0_off35 v288 v290) S1x768x1024.size (k0_off35_inb v1 k0_t4 v288 v290 k0_hw8 k0_h4)) (fun _ => rfl)
  let v300 : Memref sig .tc .hbm S768x1024 .i8 := v299.squeeze S768x1024 squeezes_S1x768x1024_S768x1024
  Prog.lift (.enqueueDma v300 (.here v298) (.dma v296.sem) (((Memref.isWhole_whole main_v1).wordExact_slice rfl _ (k0_off35_wordsi8 v1 k0_t4 v288 v290 k0_hw8 k0_h4)).reshape _ _) (((Memref.isWhole_whole cc0_scratch0).wordExact_slice rfl _ (k0_off34_wordsi8 v1 k0_hw7 k0_t4 k0_h4)).reshape _ _) ⟨Or.inl rfl, trivial⟩)
  let v301 : DmaSems sig S1x1 := cc0_scratch3.slice (Rect.unit (s := S4x3) (k0_off36 v1 k0_t4) S1x1.size (k0_off36_inb v1 k0_hw7 k0_t4 k0_h4))
  let v302 : DmaSems sig S_ := v301.squeeze S_ squeezes_S1x1_S_
  let v303 : Memref sig .tc .vmem S1x48x64x128 .i8 := (Memref.whole cc0_scratch1).slice (Rect.unit (s := S4x48x64x128) (k0_off37 v1 k0_t4) S1x48x64x128.size (k0_off37_inb v1 k0_hw7 k0_t4 k0_h4)) (fun _ => rfl)
  let v304 : Memref sig .tc .vmem S48x64x128 .i8 := v303.squeeze S48x64x128 squeezes_S1x48x64x128_S48x64x128
  let v305 : Memref sig .tc .hbm S1x48x64x128 .i8 := (Memref.whole main_v5).slice (Rect.unit (s := S20x48x512x128) (k0_off38 v288 v290) S1x48x64x128.size (k0_off38_inb v1 k0_t4 v288 v290 k0_hw8 k0_h4)) (fun _ => rfl)
  let v306 : Memref sig .tc .hbm S48x64x128 .i8 := v305.squeeze S48x64x128 squeezes_S1x48x64x128_S48x64x128
  Prog.lift (.enqueueDma v306 (.here v304) (.dma v302.sem) (((Memref.isWhole_whole main_v5).wordExact_slice rfl _ (k0_off38_wordsi8 v1 k0_t4 v288 v290 k0_hw8 k0_h4)).reshape _ _) (((Memref.isWhole_whole cc0_scratch1).wordExact_slice rfl _ (k0_off37_wordsi8 v1 k0_hw7 k0_t4 k0_h4)).reshape _ _) ⟨Or.inl rfl, trivial⟩)
  let v307 : DmaSems sig S1x1 := cc0_scratch3.slice (Rect.unit (s := S4x3) (k0_off39 v1 k0_t4) S1x1.size (k0_off39_inb v1 k0_hw7 k0_t4 k0_h4))
  let v308 : DmaSems sig S_ := v307.squeeze S_ squeezes_S1x1_S_
  let v309 : Memref sig .tc .vmem S1x8x1024 .f32 := (Memref.whole cc0_scratch2).slice (Rect.unit (s := S4x8x1024) (k0_off40 v1 k0_t4) S1x8x1024.size (k0_off40_inb v1 k0_hw7 k0_t4 k0_h4)) (fun _ => rfl)
  let v310 : Memref sig .tc .vmem S8x1024 .f32 := v309.squeeze S8x1024 squeezes_S1x8x1024_S8x1024
  let v311 : Memref sig .tc .hbm S1x8x1024 .f32 := (Memref.whole main_v6).slice (Rect.unit (s := S20x8x8192) (k0_off41 v288 v290) S1x8x1024.size (k0_off41_inb v1 k0_t4 v288 v290 k0_hw8 k0_h4)) (fun _ => rfl)
  let v312 : Memref sig .tc .hbm S8x1024 .f32 := v311.squeeze S8x1024 squeezes_S1x8x1024_S8x1024
  Prog.lift (.enqueueDma v312 (.here v310) (.dma v308.sem) ((View.wordExact_bits rfl).reshape _ _) ((View.wordExact_bits rfl).reshape _ _) ⟨Or.inl rfl, trivial⟩)
  pure ⟨⟩

/-- The first chunk of a sequence: the state the fold starts from. -/
def segInit (v98 : IVec S32x1 32) (v108 : Elt F .i32) (v110 : Elt F .i32) (k0_hw9 : k0_chk9 v108 v110) (k0_h5 : k0_cond5 v110 = 1#1) :
    Prog (TpuEff nD τ sig (Elt F) Λ₀ .tc) PUnit := do
  let ⟨v289, v320, v321, c4_i32_132, v323, v326, v328⟩ : Σ' (v289 : FVec F S32x96 .bf16) (v320 : FVec F S32x96 .f32) (v321 : IVec S8x96x32 32) (c4_i32_132 : BitVec 32) (v323 : IVec S8x96x32 32) (v326 : IVec S8x96x32 32), IVec S8x96x32 1 ← k0_part1 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v108 v110 k0_hw9 k0_h5
  let v372 : FVec F S32x96 .bf16 ← k0_part2 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v98 v289 v320 v321 c4_i32_132 v323 v326 v328
  let v411 : FVec F S32x96 .bf16 ← k0_part3 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v98 v289 v372
  let ⟨v433, v451⟩ : Σ' (v433 : FVec F S96x8 .f32), FVec F S96x128 .bf16 ← k0_part4 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v98 v108 v110 k0_hw9 k0_h5 v289 v411
  let v452 : Vec F S96x128 .bf16 ← Prog.lift (.load arg16 (Rect.unit (s := S768x128) ![192, 0] S96x128.size inb_S768x128_S96x128_192_0).toLoadRect (View.loadsAt_vmem h_S96x128))

  Prog.lift (.store arg16 (Rect.unit (s := S768x128) ![192, 0] S96x128.size inb_S768x128_S96x128_192_0) (k0_pay28 v451) Finset.univ (View.stores_vmem h_S96x128 (harg16.storeExact_slice rfl _ packedbf16_S768x128_S96x128_192_0) (fun _ => rfl)) (.inl rfl))
  let v459 : Vec F S96x128 .bf16 ← Prog.lift (.load arg16 (Rect.unit (s := S768x128) ![288, 0] S96x128.size inb_S768x128_S96x128_288_0).toLoadRect (View.loadsAt_vmem h_S96x128))

  Prog.lift (.store arg16 (Rect.unit (s := S768x128) ![288, 0] S96x128.size inb_S768x128_S96x128_288_0) (k0_pay29 v433) Finset.univ (View.stores_vmem h_S96x128 (harg16.storeExact_slice rfl _ packedbf16_S768x128_S96x128_288_0) (fun _ => rfl)) (.inl rfl))
  let v466 : Vec F S96x128 .bf16 ← Prog.lift (.load arg16 (Rect.unit (s := S768x128) ![384, 0] S96x128.size inb_S768x128_S96x128_384_0).toLoadRect (View.loadsAt_vmem h_S96x128))

  Prog.lift (.store arg16 (Rect.unit (s := S768x128) ![384, 0] S96x128.size inb_S768x128_S96x128_384_0) (k0_pay30 v433) Finset.univ (View.stores_vmem h_S96x128 (harg16.storeExact_slice rfl _ packedbf16_S768x128_S96x128_384_0) (fun _ => rfl)) (.inl rfl))
  let v473 : Vec F S96x128 .bf16 ← Prog.lift (.load arg16 (Rect.unit (s := S768x128) ![480, 0] S96x128.size inb_S768x128_S96x128_480_0).toLoadRect (View.loadsAt_vmem h_S96x128))

  Prog.lift (.store arg16 (Rect.unit (s := S768x128) ![480, 0] S96x128.size inb_S768x128_S96x128_480_0) (k0_pay31 v433) Finset.univ (View.stores_vmem h_S96x128 (harg16.storeExact_slice rfl _ packedbf16_S768x128_S96x128_480_0) (fun _ => rfl)) (.inl rfl))
  let v480 : Vec F S96x128 .bf16 ← Prog.lift (.load arg16 (Rect.unit (s := S768x128) ![576, 0] S96x128.size inb_S768x128_S96x128_576_0).toLoadRect (View.loadsAt_vmem h_S96x128))

  Prog.lift (.store arg16 (Rect.unit (s := S768x128) ![576, 0] S96x128.size inb_S768x128_S96x128_576_0) (k0_pay32 v433) Finset.univ (View.stores_vmem h_S96x128 (harg16.storeExact_slice rfl _ packedbf16_S768x128_S96x128_576_0) (fun _ => rfl)) (.inl rfl))
  let v487 : Vec F S96x128 .bf16 ← Prog.lift (.load arg16 (Rect.unit (s := S768x128) ![672, 0] S96x128.size inb_S768x128_S96x128_672_0).toLoadRect (View.loadsAt_vmem h_S96x128))

  Prog.lift (.store arg16 (Rect.unit (s := S768x128) ![672, 0] S96x128.size inb_S768x128_S96x128_672_0) (k0_pay33 v433) Finset.univ (View.stores_vmem h_S96x128 (harg16.storeExact_slice rfl _ packedbf16_S768x128_S96x128_672_0) (fun _ => rfl)) (.inl rfl))
  pure ⟨⟩

end Cert.KernelIdeal.Hand

end
-- ==== Proof.Seg2I.lean ====
/- Hand-written. Further segments of the kernel's main loop body, as programs of their own. -/
module

public import proofs.«01_k».proof.Proof.SegI
public import proofs.«01_k».proof.Proof.Gen.KernelIdeal.Skeleton
public import proofs.«01_k».proof.Proof.Gen.KernelIdeal.Points
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.SL.Sem

variable {F : FTy → Type} [FloatOps F]

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

/-- The store of a finished sequence's slab. -/
def segOut (v1 : BitVec 32) (k0_t4 : Fin (k0_t4_loop v1).trips) (v108 : Elt F .i32) (v282 : Elt F .i32) (k0_hw12 : k0_chk12 v1 k0_t4 v108 v282) (k0_h6 : k0_cond6 v1 k0_t4 v282 = 1#1) :
    Prog (TpuEff nD τ sig (Elt F) Λ₀ .tc) PUnit := do
  let v287 : Vec F S768x32 .f32 ← Prog.lift (.load arg20 (Rect.unit (s := S768x32) ![0, 0] S768x32.size inb_S768x32_S768x32_0_0).toLoadRect (View.loadsAt_vmem h_S768x32))
  let v320 : Vec F S32x1 .f32 ← Prog.lift (.load arg19 (Rect.unit (s := S32x128) ![0, 0] S32x1.size inb_S32x128_S32x1_0_0).toLoadRect (View.loadsAt_vmem h_S32x1))
  let v325 : Vec F S1x32x96 .bf16 ← Prog.lift (.load arg8 (Rect.unit (s := S20x32x96) (k0_off60 v108) S1x32x96.size (k0_off60_inb v1 k0_t4 v108 v282 k0_hw12 k0_h6)).toLoadRect (View.loadsAt_vmem h_S1x32x96))
  Prog.lift (.store arg8 (Rect.unit (s := S20x32x96) (k0_off60 v108) S1x32x96.size (k0_off60_inb v1 k0_t4 v108 v282 k0_hw12 k0_h6)) (k0_pay4 v287 v320) Finset.univ (View.stores_vmem h_S1x32x96 (harg8.storeExact_slice rfl _ (k0_off60_packedbf16 v1 k0_t4 v108 v282 k0_hw12 k0_h6)) (fun _ => rfl)) (.inl rfl))
  pure ⟨⟩

/-- The waits for a chunk and its step of the fold, up to the place the last-chunk test reads. -/
def segRest (v1 : BitVec 32) (k0_hw7 : k0_chk7 v1) (v99 : IVec S32x1024 32) (k0_t4 : Fin (k0_t4_loop v1).trips) (v108 : Elt F .i32) (k0_hw11 : k0_chk11 v108) (v110 : Elt F .i32) :
    Prog (TpuEff nD τ sig (Elt F) Λ₀ .tc) PUnit := do
  let v111 : BitVec 32 := Scalar.remsi (Scf.iv 0#32 1#32 k0_t4) 4#32
  let v121 : Elt F .i32 ← smemLoad arg21 (Rect.unit (s := S160) (k0_off44 v1 k0_t4) S1.size (k0_off44_inb v1 k0_hw7 k0_t4)) numel1_S1 rfl
  let v123 : Elt F .i32 ← smemLoad arg22 (Rect.unit (s := S160) (k0_off44 v1 k0_t4) S1.size (k0_off44_inb v1 k0_hw7 k0_t4)) numel1_S1 rfl
  have k0_hw10 : k0_chk10 v121 v123 := (← Prog.lift (TpuEff.assume (k0_chk10 v121 v123) (k0_chk10.dec v121 v123))).down
  let v128 : DmaSems sig S1x1 := cc0_scratch3.slice (Rect.unit (s := S4x3) (k0_off45 v1 k0_t4) S1x1.size (k0_off45_inb v1 k0_hw7 k0_t4))
  let v129 : DmaSems sig S_ := v128.squeeze S_ squeezes_S1x1_S_
  let v130 : Memref sig .tc .vmem S1x768x1024 .i8 := (Memref.whole cc0_scratch0).slice (Rect.unit (s := S4x768x1024) (k0_off46 v1 k0_t4) S1x768x1024.size (k0_off46_inb v1 k0_hw7 k0_t4)) (fun _ => rfl)
  let v131 : Memref sig .tc .vmem S768x1024 .i8 := v130.squeeze S768x1024 squeezes_S1x768x1024_S768x1024
  let v132 : Memref sig .tc .hbm S1x768x1024 .i8 := (Memref.whole main_v1).slice (Rect.unit (s := S20x768x8192) (k0_off47 v121 v123) S1x768x1024.size (k0_off47_inb v121 v123 k0_hw10)) (fun _ => rfl)
  let v133 : Memref sig .tc .hbm S768x1024 .i8 := v132.squeeze S768x1024 squeezes_S1x768x1024_S768x1024
  Prog.lift (.waitDma2 v129.sem v133 v131 (((Memref.isWhole_whole main_v1).wordExact_slice rfl _ (k0_off47_wordsi8 v121 v123 k0_hw10)).reshape _ _) (((Memref.isWhole_whole cc0_scratch0).wordExact_slice rfl _ (k0_off46_wordsi8 v1 k0_hw7 k0_t4)).reshape _ _))
  let ⟨v162, v168, v170, v173, v175, v177⟩ : Σ' (v162 : IVec S32x1024 1) (v168 : FVec F S32x1 .f32) (v170 : FVec F S32x1 .f32) (v173 : FVec F S32x1024 .f32) (v175 : FVec F S32x1 .f32), FVec F S32x1 .f32 ← k0_part6 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v1 k0_hw7 v99 k0_t4 v108 k0_hw11 v110 v111 v121 v123 k0_hw10
  let ⟨v199, v205, v217, v218⟩ : Σ' (v199 : FVec F S32x1024 .bf16) (v205 : IVec S48x32x128 8) (v217 : IVec S1536x1x128 32), IVec S1536x1x128 32 ← k0_part7 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v1 k0_hw7 k0_t4 v111 v162 v168 v173 v175 v177
  let ⟨v267, v271⟩ : Σ' (v267 : FVec F S768x32 .f32), FVec F S768x32 .f32 ← k0_part8 arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v170 v199 v205 v217 v218
  let v273 : Vec F S768x32 .f32 ← Prog.lift (.load arg20 (Rect.unit (s := S768x32) ![0, 0] S768x32.size inb_S768x32_S768x32_0_0).toLoadRect (View.loadsAt_vmem h_S768x32))
  Prog.lift (.store arg20 (Rect.unit (s := S768x32) ![0, 0] S768x32.size inb_S768x32_S768x32_0_0) (k0_pay3 v267 v271) Finset.univ (View.stores_vmem_bits_univ h_S768x32 rfl) (.inl rfl))
  pure ⟨⟩

/-- One trip of the main loop, in its segments. -/
def tripB (v1 : BitVec 32) (k0_hw7 : k0_chk7 v1) (v99 : IVec S32x1024 32) (k0_t4 : Fin (k0_t4_loop v1).trips) :
    Prog (TpuEff nD τ sig (Elt F) Λ₀ .tc) (BitVec 32) := do
  let v108 : Elt F .i32 ← smemLoad arg21 (Rect.unit (s := S160) (k0_off31 v1 k0_t4) S1.size (k0_off31_inb v1 k0_hw7 k0_t4)) numel1_S1 rfl
  have k0_hw11 : k0_chk11 v108 := (← Prog.lift (TpuEff.assume (k0_chk11 v108) (k0_chk11.dec v108))).down
  let v110 : Elt F .i32 ← smemLoad arg22 (Rect.unit (s := S160) (k0_off31 v1 k0_t4) S1.size (k0_off31_inb v1 k0_hw7 k0_t4)) numel1_S1 rfl
  have k0_hw9 : k0_chk9 v108 v110 := (← Prog.lift (TpuEff.assume (k0_chk9 v108 v110) (k0_chk9.dec v108 v110))).down
  (if k0_h4 : k0_cond4 v1 k0_t4 = 1#1 then segStart arg21 arg22 v1 k0_hw7 k0_t4 k0_h4 else pure ⟨⟩)
  (if k0_h5 : k0_cond5 v110 = 1#1 then segInit arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 k0_pay2 v108 v110 k0_hw9 k0_h5 else pure ⟨⟩)
  segRest arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 v1 k0_hw7 v99 k0_t4 v108 k0_hw11 v110
  let v282 : Elt F .i32 ← smemLoad arg22 (Rect.unit (s := S160) (k0_off59 v1 k0_t4) S1.size (k0_off59_inb v1 k0_hw7 k0_t4)) numel1_S1 rfl
  have k0_hw12 : k0_chk12 v1 k0_t4 v108 v282 := (← Prog.lift (TpuEff.assume (k0_chk12 v1 k0_t4 v108 v282) (k0_chk12.dec v1 k0_t4 v108 v282))).down
  (if k0_h6 : k0_cond6 v1 k0_t4 v282 = 1#1 then segOut arg8 harg8 arg19 arg20 v1 k0_t4 v108 v282 k0_hw12 k0_h6 else pure ⟨⟩)
  pure 0#32

end Cert.KernelIdeal.Hand

end
-- ==== Proof.ModelI.lean ====
/- Hand-written. The kernel's online-softmax fold as functions of the values it reads: the state at a sequence's first chunk, the
   step one chunk makes, and the slab of the result the state after the last chunk leaves. -/
module

public import proofs.«01_k».proof.Proof.WordsI
public import proofs.«01_k».proof.Proof.Gen.KernelIdeal.Skeleton
public import proofs.«01_k».proof.Proof.Gen.KernelIdeal.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable [∀ e, Nonempty (Elt F e)]

/-! ## The kernel's fold, as functions of the values it reads -/

/-- The values the kernel call reads: the queries, the new keys and values, the key scales, the lengths, the keys, the packed
    values and the value scales, each as the call holds it. -/
structure In (F : FTy → Type) where
  len : Vec F S20 .i32
  x : Vec F S20x32x96 .bf16
  kn : Vec F S20x8x96 .bf16
  vn : Vec F S20x8x96 .bf16
  ks : Vec F S20x8x96 .f32
  kt : Vec F S20x768x8192 .i8
  vt : Vec F S20x48x512x128 .i8
  vs : Vec F S20x8x8192 .f32

/-- The state of the fold over a sequence's chunks: running maximum, running sum, accumulator, and the two operands set at its
    first chunk. -/
structure St (F : FTy → Type) where
  m : Vec F S32x128 .f32
  l : Vec F S32x128 .f32
  acc : Vec F S768x32 .f32
  qbd : Vec F S32x768 .bf16
  ksb : Vec F S768x128 .bf16

variable (I : In F) (b : Fin 20) (c : Fin 8)

def In.xw : Vec F S1x32x96 .bf16 := VecWindow.window I.x ![b.val, 0, 0] S1x32x96.size (inbX b b.isLt)
def In.knw : Vec F S1x8x96 .bf16 := VecWindow.window I.kn ![b.val, 0, 0] S1x8x96.size (inbN b b.isLt)
def In.vnw : Vec F S1x8x96 .bf16 := VecWindow.window I.vn ![b.val, 0, 0] S1x8x96.size (inbN b b.isLt)
def In.ksw : Vec F S1x8x96 .f32 := VecWindow.window I.ks ![b.val, 0, 0] S1x8x96.size (inbN b b.isLt)
def In.ktw : Vec F S1x768x1024 .i8 := VecWindow.window I.kt ![b.val, 0, c.val * 1024] S1x768x1024.size (inbKt b c b.isLt c.isLt)
def In.vtw : Vec F S1x48x64x128 .i8 := VecWindow.window I.vt ![b.val, 0, c.val * 64, 0] S1x48x64x128.size (inbVt b c b.isLt c.isLt)
def In.vsw : Vec F S1x8x1024 .f32 := VecWindow.window I.vs ![b.val, 0, c.val * 1024] S1x8x1024.size (inbVs b c b.isLt c.isLt)
/-- The length of sequence `b`, a word. -/
def In.lenw : BitVec 32 := I.len fun a => match a with | ⟨0, _⟩ => b

/-- The eight column blocks of the block-diagonal query operand. -/
def qbdPieces (xw : Vec F S1x32x96 .bf16) : List (View.Piece (Elt F) S32x768 .bf16) :=
  [⟨Rect.unit ![0, 672] S32x96.size inb_S32x768_S32x96_0_672, k0_pay23 k0_pay2 (k0_pay7 xw)⟩,
   ⟨Rect.unit ![0, 576] S32x96.size inb_S32x768_S32x96_0_576, k0_pay22 k0_pay2 (k0_pay7 xw)⟩,
   ⟨Rect.unit ![0, 480] S32x96.size inb_S32x768_S32x96_0_480, k0_pay21 k0_pay2 (k0_pay7 xw)⟩,
   ⟨Rect.unit ![0, 384] S32x96.size inb_S32x768_S32x96_0_384, k0_pay20 k0_pay2 (k0_pay7 xw)⟩,
   ⟨Rect.unit ![0, 288] S32x96.size inb_S32x768_S32x96_0_288, k0_pay19 k0_pay2 (k0_pay7 xw)⟩,
   ⟨Rect.unit ![0, 192] S32x96.size inb_S32x768_S32x96_0_192, k0_pay18 k0_pay2 (k0_pay7 xw)⟩,
   ⟨Rect.unit ![0, 96] S32x96.size inb_S32x768_S32x96_0_96, k0_pay17 (k0_pay16 k0_pay2 (k0_pay7 xw))⟩,
   ⟨Rect.unit ![0, 0] S32x96.size inb_S32x768_S32x96_0_0, k0_pay15 k0_pay2 (k0_pay7 xw)⟩]

/-- The eight row blocks of the key-scale operand. -/
def ksbPieces (ksw : Vec F S1x8x96 .f32) : List (View.Piece (Elt F) S768x128 .bf16) :=
  [⟨Rect.unit ![672, 0] S96x128.size inb_S768x128_S96x128_672_0, k0_pay33 (k0_pay24 ksw)⟩,
   ⟨Rect.unit ![576, 0] S96x128.size inb_S768x128_S96x128_576_0, k0_pay32 (k0_pay24 ksw)⟩,
   ⟨Rect.unit ![480, 0] S96x128.size inb_S768x128_S96x128_480_0, k0_pay31 (k0_pay24 ksw)⟩,
   ⟨Rect.unit ![384, 0] S96x128.size inb_S768x128_S96x128_384_0, k0_pay30 (k0_pay24 ksw)⟩,
   ⟨Rect.unit ![288, 0] S96x128.size inb_S768x128_S96x128_288_0, k0_pay29 (k0_pay24 ksw)⟩,
   ⟨Rect.unit ![192, 0] S96x128.size inb_S768x128_S96x128_192_0, k0_pay28 (k0_pay27 ksw)⟩,
   ⟨Rect.unit ![96, 0] S96x128.size inb_S768x128_S96x128_96_0, k0_pay26 ksw⟩,
   ⟨Rect.unit ![0, 0] S96x128.size inb_S768x128_S96x128_0_0, k0_pay25 ksw⟩]

/-- The state at a sequence's first chunk, before it. -/
def initSt : St F where
  m := k0_pay8 (I.xw b) (I.knw b)
  l := k0_pay9
  acc := k0_pay14 (k0_pay10 (I.vnw b)) (iota .tc S8x96x32 32 [2] iota_S8x96x32_d2_w32) 4#32 k0_pay11 k0_pay12 k0_pay13
  qbd := View.canon (qbdPieces (I.xw b))
  ksb := View.canon (ksbPieces (I.ksw b))

/-- The lanes' positions in a chunk. -/
def lanes : IVec S32x1024 32 := iota .tc S32x1024 32 [1] iota_S32x1024_d1_w32

/-- One chunk's step of the state. -/
def stepSt (s : St F) : St F :=
  have mcol : Vec F S32x1 .f32 := VecWindow.window s.m ![0, 0] S32x1.size inb_S32x128_S32x1_0_0
  have lcol : Vec F S32x1 .f32 := VecWindow.window s.l ![0, 0] S32x1.size inb_S32x128_S32x1_0_0
  have cw : BitVec 32 := BitVec.ofNat 32 c.val
  have v162 := k0_pay34 (F := F) lanes cw (I.lenw b)
  have v168 := k0_pay36 lanes cw s.ksb (I.ktw b c) s.qbd (I.lenw b) mcol
  have v170 := k0_pay37 lanes cw s.ksb (I.ktw b c) s.qbd (I.lenw b) mcol
  have v173 := k0_pay38 lanes cw s.ksb (I.ktw b c) s.qbd (I.lenw b) mcol
  have v175 := k0_pay39 lanes cw s.ksb (I.ktw b c) s.qbd (I.lenw b) mcol lcol
  have v177 := k0_pay40 lanes cw s.ksb (I.ktw b c) s.qbd (I.lenw b) mcol
  have v201 : Vec F S1x48x32x128 .i8 := VecWindow.window (I.vtw b c) ![0, 0, 0, 0] S1x48x32x128.size (by decide)
  have v204 : Vec F S1x48x32x128 .i8 := VecWindow.window (I.vtw b c) ![0, 0, 32, 0] S1x48x32x128.size (by decide)
  have v199 := k0_pay43 v162 v173 (I.vsw b c)
  { s with
    l := k0_pay41 v175 v177
    m := k0_pay42 v168
    acc := k0_pay3 (k0_pay48 v199 (k0_pay44 v204) (k0_pay46 v201) (k0_pay47 v201)) (k0_pay49 v170 s.acc) }

/-- The state after the first `n` chunks of sequence `b`. -/
def stAt : ℕ → St F
  | 0 => initSt I b
  | n + 1 => stepSt I b ⟨n % 8, Nat.mod_lt _ (by decide)⟩ (stAt n)

/-- The slab of the result a state leaves. -/
def outSlab (s : St F) : Vec F S1x32x96 .bf16 :=
  k0_pay4 s.acc (VecWindow.window s.l ![0, 0] S32x1.size inb_S32x128_S32x1_0_0)

/-- The first result of the call: every sequence's slab, after its last chunk. -/
def outAll : Vec F S20x32x96 .bf16 := fun i => outSlab (stAt I (i 0) (nch (I.lenw (i 0)))) fun a => match a with
  | ⟨0, _⟩ => (0 : Fin 1)
  | ⟨1, _⟩ => i 1
  | ⟨2, _⟩ => i 2

end Cert.KernelIdeal.Hand

end
-- ==== Proof.RingI.lean ====
/- Hand-written. -/
module

public import proofs.«01_k».proof.Proof.SegI
public import proofs.«01_k».proof.Proof.ModelI
public import proofs.«01_k».proof.Proof.Gen.KernelIdeal.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-! ## The ring of slots: four slots of three buffers, filled by three transfers each -/

/-- The semaphore cell of slot `k`'s transfer `j`. -/
abbrev semK (k : Fin 4) (j : Fin 3) : SemLoc sig :=
  .dma ((cc0_scratch3.slice (Rect.unit (s := S4x3) ![k.val, j.val] S1x1.size (inbSem k j k.isLt j.isLt))).squeeze S_ squeezes_S1x1_S_).sem
/-- Slot `k` of the keys' buffer. -/
abbrev ktSlot (k : Fin 4) : Memref sig .tc .vmem S768x1024 .i8 :=
  ((Memref.whole cc0_scratch0).slice (Rect.unit (s := S4x768x1024) ![k.val, 0, 0] S1x768x1024.size (inbK k k.isLt)) (fun _ => rfl)).squeeze S768x1024 squeezes_S1x768x1024_S768x1024
/-- Slot `k` of the packed values' buffer. -/
abbrev vtSlot (k : Fin 4) : Memref sig .tc .vmem S48x64x128 .i8 :=
  ((Memref.whole cc0_scratch1).slice (Rect.unit (s := S4x48x64x128) ![k.val, 0, 0, 0] S1x48x64x128.size (inbV k k.isLt)) (fun _ => rfl)).squeeze S48x64x128 squeezes_S1x48x64x128_S48x64x128
/-- Slot `k` of the value scales' buffer. -/
abbrev vsSlot (k : Fin 4) : Memref sig .tc .vmem S8x1024 .f32 :=
  ((Memref.whole cc0_scratch2).slice (Rect.unit (s := S4x8x1024) ![k.val, 0, 0] S1x8x1024.size (inbVS k k.isLt)) (fun _ => rfl)).squeeze S8x1024 squeezes_S1x8x1024_S8x1024

/-- The chunk of the keys the words name. -/
def ktSrc (b : Fin 20) (c : Fin 8) : Memref sig .tc .hbm S768x1024 .i8 :=
  ((Memref.whole main_v1).slice (Rect.unit (s := S20x768x8192) (k0_off47 (BitVec.ofNat 32 b.val) (BitVec.ofNat 32 c.val)) S1x768x1024.size
    (k0_off47_inb _ _ (chk10 b c b.isLt c.isLt))) (fun _ => rfl)).squeeze S768x1024 squeezes_S1x768x1024_S768x1024
/-- The chunk of the packed values the words name. -/
def vtSrc (b : Fin 20) (c : Fin 8) : Memref sig .tc .hbm S48x64x128 .i8 :=
  ((Memref.whole main_v5).slice (Rect.unit (s := S20x48x512x128) (k0_off50 (BitVec.ofNat 32 b.val) (BitVec.ofNat 32 c.val)) S1x48x64x128.size
    (k0_off50_inb _ _ (chk10 b c b.isLt c.isLt))) (fun _ => rfl)).squeeze S48x64x128 squeezes_S1x48x64x128_S48x64x128
/-- The chunk of the value scales the words name. -/
def vsSrc (b : Fin 20) (c : Fin 8) : Memref sig .tc .hbm S8x1024 .f32 :=
  ((Memref.whole main_v6).slice (Rect.unit (s := S20x8x8192) (k0_off53 (BitVec.ofNat 32 b.val) (BitVec.ofNat 32 c.val)) S1x8x1024.size
    (k0_off53_inb _ _ (chk10 b c b.isLt c.isLt))) (fun _ => rfl)).squeeze S8x1024 squeezes_S1x8x1024_S8x1024

/-- A slot's part of buffer `m`'s ring, free: its cell at zero, the slot at anything, the read token whole. -/
abbrev freeP {s s' : Shape} {e : EltTy} (c : Dev nD) (cell : SemLoc sig) (slot : Memref sig .tc .vmem s e) (A : Memref sig .tc .hbm s' e)
    (fa : Buf (Elt F) (A.view.loc (c : Thread nD τ))) (k : Fin 4) : sProp 𝕄 :=
  iprop(semVal ((c : Thread nD τ), cell) 0 ∗ (∃ f, slot.view.loc (c : Thread nD τ) ↦[slot.view.set]{fullShare} f)
    ∗ A.view.loc (c : Thread nD τ) ↦[Finset.univ]{Transfers.shareTok fullShare 4 k} fa)

/-- The same, filled by a transfer in flight from `src`. -/
abbrev flightP {s s' : Shape} {e : EltTy} (c : Dev nD) (cell : SemLoc sig) (slot : Memref sig .tc .vmem s e) (A : Memref sig .tc .hbm s' e)
    (src : Memref sig .tc .hbm s e) (hl : src.view.loc (c : Thread nD τ) = A.view.loc (c : Thread nD τ))
    (amt : ℕ) (fa : Buf (Elt F) (src.view.loc (c : Thread nD τ))) (k : Fin 4) : sProp 𝕄 :=
  iprop((∃ f, Transfers.Flight (countersEmb (U := Pipeline.UD sig nD τ)) (c : Thread nD τ) cell () amt
            iprop((slot.view.loc (c : Thread nD τ) ↦[slot.view.set]{fullShare}
                    slot.view.writes (Elt F) f [⟨Rect.whole s, ReadAs.same.apply (src.view.read (Elt F) fa)⟩])
              ∗ src.view.loc (c : Thread nD τ) ↦[src.view.set]{Transfers.shareTok fullShare 4 k} fa))
    ∗ src.view.loc (c : Thread nD τ) ↦[Finset.univ \ src.view.set]{Transfers.shareTok fullShare 4 k} fa)

/-- Place `p` of a list of words. -/
def ix1 {n : ℕ} (p : Fin n) : (⟨1, ![n]⟩ : Shape).Idx := fun a => match a with | ⟨0, _⟩ => p

theorem ldword {n : ℕ} (a : Memref sig .tc .smem ⟨1, ![n]⟩ .i32) (w : Vec F ⟨1, ![n]⟩ .i32) (off : Fin 1 → ℕ) (h) (hn) (p : Fin n) (hp : off 0 = p.val) :
    a.view.readAt (Elt F) (Rect.unit (s := ⟨1, ![n]⟩) off S1.size h).toLoadRect (a.view.rep w) (Shape.Idx.first hn) = w (ix1 p) := by
  rw [View.readAt_rep_unit _ _ _ rfl h]
  unfold VecWindow.window
  congr 1
  funext a
  match a with
  | ⟨0, _⟩ => exact Fin.ext (by show off 0 + _ = p.val; rw [hp]; rfl)

/-- What slot `k` holds: nothing under way (`none`), or the three transfers of the chunk named. -/
def slotSt (c : Dev nD) (I : In F) (k : Fin 4) : Option (Fin 20 × Fin 8) → sProp 𝕄
  | none => iprop(freeP c (semK k 0) (ktSlot k) (Memref.whole main_v1) ((Memref.whole main_v1).view.rep I.kt) k
      ∗ freeP c (semK k 1) (vtSlot k) (Memref.whole main_v5) ((Memref.whole main_v5).view.rep I.vt) k
      ∗ freeP c (semK k 2) (vsSlot k) (Memref.whole main_v6) ((Memref.whole main_v6).view.rep I.vs) k)
  | some (b, j) => iprop(flightP c (semK k 0) (ktSlot k) (Memref.whole main_v1) (ktSrc b j) rfl 24576 ((Memref.whole main_v1).view.rep I.kt) k
      ∗ flightP c (semK k 1) (vtSlot k) (Memref.whole main_v5) (vtSrc b j) rfl 12288 ((Memref.whole main_v5).view.rep I.vt) k
      ∗ flightP c (semK k 2) (vsSlot k) (Memref.whole main_v6) (vsSrc b j) rfl 1024 ((Memref.whole main_v6).view.rep I.vs) k)

/-- The two work lists. -/
def wOwn (c : Dev nD) (a21 a22 : Memref sig .tc .smem S160 .i32) (wb wc : Vec F S160 .i32) : sProp 𝕄 :=
  iprop((a21.view.loc (c : Thread nD τ) ↦[a21.view.set]{fullShare} a21.view.rep wb)
    ∗ (a22.view.loc (c : Thread nD τ) ↦[a22.view.set]{fullShare} a22.view.rep wc))

/-- The start of a chunk's transfers into the free slot the trip's counter names. -/
theorem start_run (c : Dev nD) (I : In F) (n : ℕ) (hn : n ≤ 160) (k : Fin (k0_t4_loop (BitVec.ofNat 32 n)).trips) (h7) (h4)
    (b : Fin 20) (j : Fin 8) (p : Fin 160) (hp : (k0_off32 (BitVec.ofNat 32 n) k) 0 = p.val) (wb wc : Vec F S160 .i32)
    (hwb : wb (ix1 p) = BitVec.ofNat 32 b.val) (hwc : wc (ix1 p) = BitVec.ofNat 32 j.val)
    (s : Fin 4) (hs : s = ⟨(Scalar.remsi (Scalar.subi (Scalar.addi (Scf.iv 0#32 1#32 k) 4#32) 1#32) 4#32).toNat, slotI_lt k (by have := k_lt (by omega) k; omega)⟩)
    (Q : PUnit → sProp 𝕄) :
    iprop(wOwn c arg21 arg22 wb wc ∗ slotSt c I s none ∗ (wOwn c arg21 arg22 wb wc ∗ slotSt c I s (some (b, j)) -∗ Q ⟨⟩))
      ⊢ wp frame (wpE (defs₀ (F := F)) Variants.none (c : Thread nD τ) none) Set.univ (segStart arg21 arg22 (BitVec.ofNat 32 n) h7 k h4) Q := by
  subst hs
  unfold wOwn slotSt freeP
  iintro ⟨⟨H21, H22⟩, ⟨⟨Ha, ⟨%fa, Sa⟩, Ta⟩, ⟨Hb, ⟨%fb, Sb⟩, Tb⟩, ⟨Hc, ⟨%fc, Sc⟩, Tc⟩⟩, HQ⟩
  unfold segStart
  sl_exec
  have e1 : start_run.sl.r arg21 n k h7 h4 wb = BitVec.ofNat 32 b.val := by
    unfold start_run.sl.r
    exact (ldword arg21 wb _ _ _ p hp).trans hwb
  have e2 : start_run.sl.r_1 arg22 n k h7 h4 wc = BitVec.ofNat 32 j.val := by
    unfold start_run.sl.r_1
    exact (ldword arg22 wc _ _ _ p hp).trans hwc
  generalize start_run.sl.r arg21 n k h7 h4 wb = w1 at e1 ⊢
  generalize start_run.sl.r_1 arg22 n k h7 h4 wc = w2 at e2 ⊢
  subst e1 e2
  have h8 := chk8 (BitVec.ofNat 32 n) k b j b.isLt j.isLt
  sl_exec (disch := exact h8)
  sl_step
  iapply HQ
  isplitl [H21 H22]
  · isplitl [H21]
    · iexact H21
    · iexact H22
  unfold flightP
  isplitl [Ha Ta]
  · isplitl [Ha]
    · iexists fa; iexact Ha
    · iexact Ta
  isplitl [Hb Tb]
  · isplitl [Hb]
    · iexists fb; iexact Hb
    · iexact Tb
  · isplitl [Hc]
    · iexists fc; iexact Hc
    · iexact Tc

end Cert.KernelIdeal.Hand

end
-- ==== Proof.SlotI.lean ====
/- Hand-written. -/
module

public import proofs.«01_k».proof.Proof.ModelI
public import proofs.«01_k».proof.Proof.Gen.KernelIdeal.Launch
public import Idealize.ShloMosaic.Lib.Pipeline.FrameBody
public import Idealize.ShloMosaic.Lib.VecWindow
public import Idealize.ShloMosaic.Lib.Ring
public import Idealize.ShloMosaic.Lib.ViewIndex
public import Idealize.ShloMosaic.Lib.LoopRemainder
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable [∀ e, Nonempty (Elt F e)]

section Slot

variable {κ κ' : Kind} {sp sp' : Space} {e : EltTy} {nn : ℕ} {d D sz sz2 : Fin nn → ℕ}

omit [FloatOps F] [∀ e, Nonempty (Elt F e)] in
/-- A box inside a slot's box has its elements among the slot's. -/
theorem slot_incl (m : Memref sig κ sp ⟨nn, d⟩ e) {off off2 : Fin nn → ℕ} (inb : ∀ a, off a + sz a ≤ d a)
    {s' : Shape} (hq : (⟨nn, sz⟩ : Shape).Squeezes s') (inb2 : ∀ a, off2 a + sz2 a ≤ d a) (o : Fin nn → ℕ) (ho : ∀ a, off2 a = off a + o a)
    (inbo : ∀ a, o a + sz2 a ≤ sz a) :
    (m.access (Rect.unit (s := ⟨nn, d⟩) off2 sz2 inb2)).set
      ⊆ ((m.slice (Rect.unit (s := ⟨nn, d⟩) off sz inb) (fun _ => rfl)).squeeze s' hq).view.set := by
  intro i hi
  obtain ⟨x, rfl⟩ := View.exists_of_mem_set_slice hi
  have h1 : ((m.slice (Rect.unit (s := ⟨nn, d⟩) off sz inb) (fun _ => rfl)).squeeze s' hq).view.set
      = (m.view.slice (Rect.unit (s := ⟨nn, d⟩) off sz inb)).set := View.set_reshape _ _
  rw [h1]
  have h2 : m.view.emb ((Rect.unit (s := ⟨nn, d⟩) off2 sz2 inb2).emb x)
      = (m.view.slice (Rect.unit (s := ⟨nn, d⟩) off sz inb)).emb (fun a => ⟨o a + (x a).val, lt_of_lt_of_le (Nat.add_lt_add_left (x a).isLt _) (inbo a)⟩) := by
    show _ = m.view.emb ((Rect.unit (s := ⟨nn, d⟩) off sz inb).emb _)
    congr 1
    funext a
    refine Fin.ext ?_
    show off2 a + 1 * (x a).val = off a + 1 * (o a + (x a).val)
    rw [ho]; omega
  rw [h2]
  exact View.emb_mem_set _ _

omit [FloatOps F] in
/-- What a load inside a slot reads, after a transfer of a box of `A` filled the slot: a window of the box's window. -/
theorem slot_load (m : Memref sig κ sp ⟨nn, d⟩ e) (A : Memref sig κ' sp' ⟨nn, D⟩ e) {off off' off2 : Fin nn → ℕ} (inb : ∀ a, off a + sz a ≤ d a)
    (inb' : ∀ a, off' a + sz a ≤ D a) {s' : Shape} (hq hq' : (⟨nn, sz⟩ : Shape).Squeezes s') (f) (X : Vec F ⟨nn, D⟩ e)
    (inb2 : ∀ a, off2 a + sz2 a ≤ d a) (o : Fin nn → ℕ) (ho : ∀ a, off2 a = off a + o a) (inbo : ∀ a, o a + sz2 a ≤ sz a) :
    m.view.readAt (Elt F) (Rect.unit (s := ⟨nn, d⟩) off2 sz2 inb2).toLoadRect
        (((m.slice (Rect.unit (s := ⟨nn, d⟩) off sz inb) (fun _ => rfl)).squeeze s' hq).view.writes (Elt F) f
          [⟨Rect.whole s', ReadAs.same.apply (((A.slice (Rect.unit (s := ⟨nn, D⟩) off' sz inb') (fun _ => rfl)).squeeze s' hq').view.read (Elt F) (A.view.rep X))⟩])
      = VecWindow.window (s := ⟨nn, sz⟩) (VecWindow.window X off' sz inb') o sz2 inbo := by
  funext y
  rw [View.readAt_apply]
  have hy : (Rect.unit (s := ⟨nn, d⟩) off2 sz2 inb2).toLoadRect.idx y
      = (Rect.unit (s := ⟨nn, d⟩) off sz inb).emb (fun a => ⟨o a + (y a).val, lt_of_lt_of_le (Nat.add_lt_add_left (y a).isLt _) (inbo a)⟩) := by
    funext a
    refine Fin.ext ?_
    show off2 a + 1 * (y a).val = off a + 1 * (o a + (y a).val)
    rw [ho]; omega
  rw [hy]
  generalize hz : (fun a => (⟨o a + (y a).val, lt_of_lt_of_le (Nat.add_lt_add_left (y a).isLt _) (inbo a)⟩ : Fin (sz a))) = z
  have hr := View.read_writes_whole (Val := Elt F) ((m.slice (Rect.unit (s := ⟨nn, d⟩) off sz inb) (fun _ => rfl)).squeeze s' hq).view f
    (ReadAs.same.apply (((A.slice (Rect.unit (s := ⟨nn, D⟩) off' sz inb') (fun _ => rfl)).squeeze s' hq').view.read (Elt F) (A.view.rep X)))
  have hr' := congrFun hr ((Shape.reshapeEquiv hq.numel_eq).symm z)
  have hl : ∀ G, ((m.slice (Rect.unit (s := ⟨nn, d⟩) off sz inb) (fun _ => rfl)).squeeze s' hq).view.read (Elt F) G ((Shape.reshapeEquiv hq.numel_eq).symm z)
      = m.view.read (Elt F) G ((Rect.unit (s := ⟨nn, d⟩) off sz inb).emb z) := fun G => by
    show m.view.read (Elt F) G ((Rect.unit (s := ⟨nn, d⟩) off sz inb).emb (Shape.reshapeEquiv hq.numel_eq ((Shape.reshapeEquiv hq.numel_eq).symm z))) = _
    rw [Equiv.apply_symm_apply]
  rw [hl] at hr'
  refine hr'.trans ?_
  show A.view.read (Elt F) (A.view.rep X) ((Rect.unit (s := ⟨nn, D⟩) off' sz inb').emb (Shape.reshapeEquiv hq.numel_eq ((Shape.reshapeEquiv hq.numel_eq).symm z))) = _
  rw [Equiv.apply_symm_apply, View.read_rep, ← hz]
  unfold VecWindow.window
  congr 1
  funext a
  refine Fin.ext ?_
  show off' a + 1 * (o a + (y a).val) = off' a + 1 * (o a + 1 * (y a).val)
  omega

end Slot

section SlotLoad

variable {e : EltTy} {nn : ℕ} {d D sz sz2 : Fin nn → ℕ}

/-- A load inside a slot that a transfer has filled: the program continues at the window of the source. -/
theorem slot_load_run (c : Dev nD) (m : Memref sig .tc .vmem ⟨nn, d⟩ e) (A : Memref sig .tc .hbm ⟨nn, D⟩ e) {off off' off2 : Fin nn → ℕ} (inb : ∀ a, off a + sz a ≤ d a)
    (inb' : ∀ a, off' a + sz a ≤ D a) {s' : Shape} (hq hq' : (⟨nn, sz⟩ : Shape).Squeezes s') (f) (X : Vec F ⟨nn, D⟩ e)
    (inb2 : ∀ a, off2 a + sz2 a ≤ d a) (o : Fin nn → ℕ) (ho : ∀ a, off2 a = off a + o a) (inbo : ∀ a, o a + sz2 a ≤ sz a)
    (w : (⟨nn, sz2⟩ : Shape).Idx → Elt F e) (hw : VecWindow.window (s := ⟨nn, sz⟩) (VecWindow.window X off' sz inb') o sz2 inbo = w)
    (hl : m.view.LoadsAt (Rect.unit (s := ⟨nn, d⟩) off2 sz2 inb2).toLoadRect) {α : Type}
    (k : ((⟨nn, sz2⟩ : Shape).Idx → Elt F e) → Prog (TpuEff nD τ sig (Elt F) Λ₀ .tc) α) (Q : α → sProp 𝕄) :
    iprop((m.view.loc (c : Thread nD τ) ↦[((m.slice (Rect.unit (s := ⟨nn, d⟩) off sz inb) (fun _ => rfl)).squeeze s' hq).view.set]{fullShare}
          (((m.slice (Rect.unit (s := ⟨nn, d⟩) off sz inb) (fun _ => rfl)).squeeze s' hq).view.writes (Elt F) f
          [⟨Rect.whole s', ReadAs.same.apply (((A.slice (Rect.unit (s := ⟨nn, D⟩) off' sz inb') (fun _ => rfl)).squeeze s' hq').view.read (Elt F) (A.view.rep X))⟩]))
      ∗ ((m.view.loc (c : Thread nD τ) ↦[((m.slice (Rect.unit (s := ⟨nn, d⟩) off sz inb) (fun _ => rfl)).squeeze s' hq).view.set]{fullShare}
          (((m.slice (Rect.unit (s := ⟨nn, d⟩) off sz inb) (fun _ => rfl)).squeeze s' hq).view.writes (Elt F) f
          [⟨Rect.whole s', ReadAs.same.apply (((A.slice (Rect.unit (s := ⟨nn, D⟩) off' sz inb') (fun _ => rfl)).squeeze s' hq').view.read (Elt F) (A.view.rep X))⟩]))
        -∗ wp frame (wpE (defs₀ (F := F)) Variants.none (c : Thread nD τ) none) Set.univ
          (k w) Q))
      ⊢ wp frame (wpE (defs₀ (F := F)) Variants.none (c : Thread nD τ) none) Set.univ
          (Prog.op (.load m (Rect.unit (s := ⟨nn, d⟩) off2 sz2 inb2).toLoadRect hl) k) Q := by
  rw [← hw, ← slot_load m A inb inb' hq hq' f X inb2 o ho inbo]
  have hS : m.view.setOn (Rect.unit (s := ⟨nn, d⟩) off2 sz2 inb2).toLoadRect.set ⊆ ((m.slice (Rect.unit (s := ⟨nn, d⟩) off sz inb) (fun _ => rfl)).squeeze s' hq).view.set :=
    Memref.setOn_subset_of_access_subset (c : Thread nD τ) (slot_incl m inb hq inb2 o ho inbo)
  iintro ⟨H, HQ⟩
  iapply (wp_load (Q := Q) Variants.none (c : Thread nD τ) none Set.univ (hl := hl) (k := k) hS) $$ [H]
  · iexact H
  · iexact HQ

end SlotLoad

end Cert.KernelIdeal.Hand

end
-- ==== Proof.InitI.lean ====
/- Hand-written. -/
module

public import proofs.«01_k».proof.Proof.SegI
public import proofs.«01_k».proof.Proof.ModelI
public import proofs.«01_k».proof.Proof.Gen.KernelIdeal.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-- The five state buffers at a state. -/
def stOwn (arg16 : Memref sig .tc .vmem S768x128 .bf16) (arg17 : Memref sig .tc .vmem S32x768 .bf16) (arg18 arg19 : Memref sig .tc .vmem S32x128 .f32)
    (arg20 : Memref sig .tc .vmem S768x32 .f32) (c : Dev nD) (s : St F) : sProp 𝕄 :=
  iprop((arg16.view.loc (c : Thread nD τ) ↦[arg16.view.set]{fullShare} arg16.view.rep s.ksb)
      ∗ (arg17.view.loc (c : Thread nD τ) ↦[arg17.view.set]{fullShare} arg17.view.rep s.qbd)
      ∗ (arg18.view.loc (c : Thread nD τ) ↦[arg18.view.set]{fullShare} arg18.view.rep s.m)
      ∗ (arg19.view.loc (c : Thread nD τ) ↦[arg19.view.set]{fullShare} arg19.view.rep s.l)
      ∗ (arg20.view.loc (c : Thread nD τ) ↦[arg20.view.set]{fullShare} arg20.view.rep s.acc))

/-- The four inputs the first chunk reads. -/
def inOwn (arg1 : Memref sig .tc .vmem S20x32x96 .bf16) (arg2 arg3 : Memref sig .tc .vmem S20x8x96 .bf16) (arg4 : Memref sig .tc .vmem S20x8x96 .f32)
    (c : Dev nD) (I : In F) : sProp 𝕄 :=
  iprop((arg1.view.loc (c : Thread nD τ) ↦[arg1.view.set]{fullShare} arg1.view.rep I.x)
      ∗ (arg2.view.loc (c : Thread nD τ) ↦[arg2.view.set]{fullShare} arg2.view.rep I.kn)
      ∗ (arg3.view.loc (c : Thread nD τ) ↦[arg3.view.set]{fullShare} arg3.view.rep I.vn)
      ∗ (arg4.view.loc (c : Thread nD τ) ↦[arg4.view.set]{fullShare} arg4.view.rep I.ks))

theorem off42_eq (b : Fin 20) : k0_off42 (BitVec.ofNat 32 b.val) = ![b.val, 0, 0] := by
  show ![(BitVec.ofNat 32 b.val).toNat, 0, 0] = _
  rw [ofNat_toNat _ (by omega)]
theorem off43_eq (b : Fin 20) : k0_off43 (BitVec.ofNat 32 b.val) = ![b.val, 0, 0] := off42_eq b

omit [FloatOps F] in
theorem ld42 {e : EltTy} {sp : Space} (a : Memref sig .tc sp S20x32x96 e) (x : Vec F S20x32x96 e) (b : Fin 20) (h) :
    a.view.readAt (Elt F) (Rect.unit (s := S20x32x96) (k0_off42 (BitVec.ofNat 32 b.val)) ![1, 32, 96] h).toLoadRect (a.view.rep x)
      = VecWindow.window x ![b.val, 0, 0] S1x32x96.size (inbX b b.isLt) :=
  View.readAt_rep_unit _ _ _ (off42_eq b) _
omit [FloatOps F] in
theorem ld43 {e : EltTy} {sp : Space} (a : Memref sig .tc sp S20x8x96 e) (x : Vec F S20x8x96 e) (b : Fin 20) (h) :
    a.view.readAt (Elt F) (Rect.unit (s := S20x8x96) (k0_off43 (BitVec.ofNat 32 b.val)) ![1, 8, 96] h).toLoadRect (a.view.rep x)
      = VecWindow.window x ![b.val, 0, 0] S1x8x96.size (inbN b b.isLt) :=
  View.readAt_rep_unit _ _ _ (off43_eq b) _

theorem ksb_cover (w : Vec F S1x8x96 .f32) : ∀ y, ∃ p ∈ ksbPieces w, y ∈ p.1.set := View.cover_of_tiledL _ S96x128.size (by sl_kernel_rfl)
theorem qbd_cover (w : Vec F S1x32x96 .bf16) : ∀ y, ∃ p ∈ qbdPieces w, y ∈ p.1.set := View.cover_of_tiledL _ S32x96.size (by sl_kernel_rfl)

theorem ksb_own (c : Dev nD) (a : Memref sig .tc .vmem S768x128 .bf16) (f) (I : In F) (b : Fin 20) :
    (a.view.loc (c : Thread nD τ) ↦[a.view.set]{fullShare} a.view.writes (Elt F) f (ksbPieces (I.ksw b)) : sProp 𝕄)
      ⊢ a.view.loc (c : Thread nD τ) ↦[a.view.set]{fullShare} a.view.rep (initSt I b).ksb :=
  pointsTo_rep_of_read (c : Thread nD τ) a _ fullShare _ (View.read_writes_eq_canon _ _ _ (ksb_cover _))
theorem qbd_own (c : Dev nD) (a : Memref sig .tc .vmem S32x768 .bf16) (f) (I : In F) (b : Fin 20) :
    (a.view.loc (c : Thread nD τ) ↦[a.view.set]{fullShare} a.view.writes (Elt F) f (qbdPieces (I.xw b)) : sProp 𝕄)
      ⊢ a.view.loc (c : Thread nD τ) ↦[a.view.set]{fullShare} a.view.rep (initSt I b).qbd :=
  pointsTo_rep_of_read (c : Thread nD τ) a _ fullShare _ (View.read_writes_eq_canon _ _ _ (qbd_cover _))

set_option maxHeartbeats 400000 in
/-- The first chunk's branch leaves the state at `initSt`, whatever the state buffers held. -/
theorem init_run (c : Dev nD) (I : In F) (b : Fin 20) (s : St F) (v110 : Elt F .i32) (h9 : k0_chk9 (BitVec.ofNat 32 b.val) v110)
    (h5 : k0_cond5 v110 = 1#1) (Q : PUnit → sProp 𝕄) :
    iprop(inOwn arg1 arg2 arg3 arg4 c I ∗ stOwn arg16 arg17 arg18 arg19 arg20 c s
      ∗ (inOwn arg1 arg2 arg3 arg4 c I ∗ stOwn arg16 arg17 arg18 arg19 arg20 c (initSt I b) -∗ Q ⟨⟩))
      ⊢ wp frame (wpE (defs₀ (F := F)) Variants.none (c : Thread nD τ) none) Set.univ (segInit arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 k0_pay2 (BitVec.ofNat 32 b.val) v110 h9 h5) Q := by
  unfold inOwn stOwn
  iintro ⟨⟨H1, H2, H3, H4⟩, ⟨H16, H17, H18, H19, H20⟩, HQ⟩
  unfold segInit
  simp only [k0_part1_eq_skeleton, k0_part2_eq_skeleton, k0_part3_eq_skeleton, k0_part4_eq_skeleton]
  unfold k0_part1_skel k0_part2_skel k0_part3_skel k0_part4_skel
  sl_exec
  sl_step
  simp only [ld42, ld43]
  iapply HQ
  isplitl [H1 H2 H3 H4]
  · isplitl [H1]; · iexact H1
    isplitl [H2]; · iexact H2
    isplitl [H3]; · iexact H3
    iexact H4
  isplitl [H16]
  · iapply (ksb_own c arg16 _ I b); iexact H16
  isplitl [H17]
  · iapply (qbd_own c arg17 _ I b); iexact H17
  isplitl [H18]
  · iapply (pointsTo_rep_of_read (c : Thread nD τ) arg18 _ fullShare (initSt I b).m (View.read_writes_full _ _ _ _ _))
    iexact H18
  isplitl [H19]
  · iapply (pointsTo_rep_of_read (c : Thread nD τ) arg19 _ fullShare (initSt I b).l (View.read_writes_full _ _ _ _ _))
    iexact H19
  · iapply (pointsTo_rep_of_read (c : Thread nD τ) arg20 _ fullShare (initSt I b).acc (View.read_writes_full _ _ _ _ _))
    iexact H20

end Cert.KernelIdeal.Hand

end
-- ==== Proof.RestI.lean ====
/- Hand-written. -/
module

public import proofs.«01_k».proof.Proof.Seg2I
public import proofs.«01_k».proof.Proof.RingI
public import proofs.«01_k».proof.Proof.SlotI
public import proofs.«01_k».proof.Proof.InitI
public import proofs.«01_k».proof.Proof.ModelI
public import proofs.«01_k».proof.Proof.Gen.KernelIdeal.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

omit [FloatOps F] [∀ e, Nonempty (Elt F e)] in
theorem win_zero {e : EltTy} {nn : ℕ} {D sz off off' : Fin nn → ℕ} (X : Vec F ⟨nn, D⟩ e) (h : off = off') (h1 h2 h3) :
    VecWindow.window (s := ⟨nn, sz⟩) (VecWindow.window (s := ⟨nn, D⟩) X off sz h1) (fun _ => 0) sz h2 = VecWindow.window (s := ⟨nn, D⟩) X off' sz h3 := by
  subst h
  funext y
  unfold VecWindow.window
  congr 1
  funext a
  refine Fin.ext ?_
  show off a + 1 * (0 + 1 * (y a).val) = off a + 1 * (y a).val
  omega

omit [FloatOps F] [∀ e, Nonempty (Elt F e)] in
theorem win_sub {e : EltTy} {nn : ℕ} {D sz sz2 off off' o o' : Fin nn → ℕ} (X : Vec F ⟨nn, D⟩ e) (h : off = off') (ho : o = o') (h1 h2 h3 h4) :
    VecWindow.window (s := ⟨nn, sz⟩) (VecWindow.window (s := ⟨nn, D⟩) X off sz h1) o sz2 h2 = VecWindow.window (s := ⟨nn, sz⟩) (VecWindow.window (s := ⟨nn, D⟩) X off' sz h3) o' sz2 h4 := by
  subst h ho; rfl

theorem off47_eq (b : Fin 20) (c : Fin 8) : k0_off47 (BitVec.ofNat 32 b.val) (BitVec.ofNat 32 c.val) = ![b.val, 0, c.val * 1024] := by
  have := c.isLt
  unfold k0_off47; simp only []; rw [muli_toNat c.val c.isLt 1024 (by omega), BitVec.toNat_ofNat, Nat.mod_eq_of_lt (by omega)]
theorem off50_eq (b : Fin 20) (c : Fin 8) : k0_off50 (BitVec.ofNat 32 b.val) (BitVec.ofNat 32 c.val) = ![b.val, 0, c.val * 64, 0] := by
  unfold k0_off50; simp only []; rw [muli_toNat c.val c.isLt 64 (by omega), BitVec.toNat_ofNat, Nat.mod_eq_of_lt (by omega)]
theorem off53_eq (b : Fin 20) (c : Fin 8) : k0_off53 (BitVec.ofNat 32 b.val) (BitVec.ofNat 32 c.val) = ![b.val, 0, c.val * 1024] := by
  unfold k0_off53; simp only []; rw [muli_toNat c.val c.isLt 1024 (by omega), BitVec.toNat_ofNat, Nat.mod_eq_of_lt (by omega)]
theorem off55_eq (b : Fin 20) : (k0_off55 (BitVec.ofNat 32 b.val)) 0 = b.val := by
  show (BitVec.ofNat 32 b.val).toNat = _
  rw [ofNat_toNat _ (by omega)]

section Loads
variable (a16 : Memref sig .tc .vmem S768x128 .bf16) (a17 : Memref sig .tc .vmem S32x768 .bf16) (a18 : Memref sig .tc .vmem S32x128 .f32) (a20 : Memref sig .tc .vmem S768x32 .f32)
omit [FloatOps F] in
theorem ld16 (x : Vec F S768x128 .bf16) (h) : a16.view.readAt (Elt F) (Rect.unit (s := S768x128) ![0, 0] ![768, 128] h).toLoadRect (a16.view.rep x) = x :=
  View.readAt_rep_full a16.view x h
omit [FloatOps F] in
theorem ld17 (x : Vec F S32x768 .bf16) (h) : a17.view.readAt (Elt F) (Rect.unit (s := S32x768) ![0, 0] ![32, 768] h).toLoadRect (a17.view.rep x) = x :=
  View.readAt_rep_full a17.view x h
omit [FloatOps F] in
theorem ld18 (x : Vec F S32x128 .f32) (h) : a18.view.readAt (Elt F) (Rect.unit (s := S32x128) ![0, 0] ![32, 1] h).toLoadRect (a18.view.rep x)
    = VecWindow.window x ![0, 0] S32x1.size inb_S32x128_S32x1_0_0 :=
  View.readAt_rep_unit _ _ _ rfl _
omit [FloatOps F] in
theorem ld20 (x : Vec F S768x32 .f32) (h) : a20.view.readAt (Elt F) (Rect.unit (s := S768x32) ![0, 0] ![768, 32] h).toLoadRect (a20.view.rep x) = x :=
  View.readAt_rep_full a20.view x h
end Loads

theorem kt_win (I : In F) (b : Fin 20) (j : Fin 8) (h1 h2) : VecWindow.window (s := S1x768x1024) (VecWindow.window (s := S20x768x8192) I.kt (k0_off47 (BitVec.ofNat 32 b.val) (BitVec.ofNat 32 j.val)) ![1, 768, 1024] h1) (fun _ => 0) ![1, 768, 1024] h2 = I.ktw b j :=
  win_zero I.kt (off47_eq b j) _ _ _
theorem vs_win (I : In F) (b : Fin 20) (j : Fin 8) (h1 h2) : VecWindow.window (s := S1x8x1024) (VecWindow.window (s := S20x8x8192) I.vs (k0_off53 (BitVec.ofNat 32 b.val) (BitVec.ofNat 32 j.val)) ![1, 8, 1024] h1) (fun _ => 0) ![1, 8, 1024] h2 = I.vsw b j :=
  win_zero I.vs (off53_eq b j) _ _ _
theorem vt_win1 (I : In F) (b : Fin 20) (j : Fin 8) (h1 h2) : VecWindow.window (s := S1x48x64x128) (VecWindow.window (s := S20x48x512x128) I.vt (k0_off50 (BitVec.ofNat 32 b.val) (BitVec.ofNat 32 j.val)) ![1, 48, 64, 128] h1) (fun _ => 0) ![1, 48, 32, 128] h2
    = VecWindow.window (I.vtw b j) ![0, 0, 0, 0] S1x48x32x128.size (by decide) :=
  win_sub I.vt (off50_eq b j) (by funext a; match a with | ⟨0, _⟩ => rfl | ⟨1, _⟩ => rfl | ⟨2, _⟩ => rfl | ⟨3, _⟩ => rfl) _ _ _ _
theorem vt_win2 (I : In F) (b : Fin 20) (j : Fin 8) (h1 h2) : VecWindow.window (s := S1x48x64x128) (VecWindow.window (s := S20x48x512x128) I.vt (k0_off50 (BitVec.ofNat 32 b.val) (BitVec.ofNat 32 j.val)) ![1, 48, 64, 128] h1) ![0, 0, 32, 0] ![1, 48, 32, 128] h2
    = VecWindow.window (I.vtw b j) ![0, 0, 32, 0] S1x48x32x128.size (by decide) :=
  win_sub I.vt (off50_eq b j) rfl _ _ _ _

set_option maxHeartbeats 400000 in
/-- The waits for chunk `j` of sequence `b` in the slot the trip's counter names, and its step of the fold. -/
theorem rest_run (c : Dev nD) (I : In F) (n : ℕ) (hn : n ≤ 160) (k : Fin (k0_t4_loop (BitVec.ofNat 32 n)).trips) (h7)
    (b : Fin 20) (j : Fin 8) (h11) (p : Fin 160) (hp : (k0_off44 (BitVec.ofNat 32 n) k) 0 = p.val) (wb wc : Vec F S160 .i32)
    (hwb : wb (ix1 p) = BitVec.ofNat 32 b.val) (hwc : wc (ix1 p) = BitVec.ofNat 32 j.val)
    (s : Fin 4) (hs : s = ⟨(Scalar.remsi (Scf.iv 0#32 1#32 k) 4#32).toNat, slotW_lt k (by have := k_lt (by omega) k; omega)⟩)
    (st : St F) (W : Waits sig Unit) (Q : PUnit → sProp 𝕄) :
    iprop(wOwn c arg21 arg22 wb wc ∗ slotSt c I s (some (b, j)) ∗ (arg0.view.loc (c : Thread nD τ) ↦[arg0.view.set]{fullShare} arg0.view.rep I.len)
      ∗ stOwn arg16 arg17 arg18 arg19 arg20 c st ∗ owes (c : Thread nD τ) 0 W
      ∗ (wOwn c arg21 arg22 wb wc ∗ slotSt c I s none ∗ (arg0.view.loc (c : Thread nD τ) ↦[arg0.view.set]{fullShare} arg0.view.rep I.len)
        ∗ stOwn arg16 arg17 arg18 arg19 arg20 c (stepSt I b j st) ∗ (∃ W, owes (c : Thread nD τ) 0 W) -∗ Q ⟨⟩))
      ⊢ wp frame (wpE (defs₀ (F := F)) Variants.none (c : Thread nD τ) none) Set.univ
          (segRest arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 (BitVec.ofNat 32 n) h7 lanes k (BitVec.ofNat 32 b.val) h11 (BitVec.ofNat 32 j.val)) Q := by
  subst hs
  unfold wOwn slotSt flightP stOwn
  iintro ⟨⟨H21, H22⟩, ⟨⟨⟨%fa, Ha⟩, Ta⟩, ⟨⟨%fb, Hb⟩, Tb⟩, ⟨⟨%fc, Hc⟩, Tc⟩⟩, H0, ⟨H16, H17, H18, H19, H20⟩, HO, HQ⟩
  unfold segRest
  simp only [k0_part6_eq_skeleton, k0_part7_eq_skeleton, k0_part8_eq_skeleton]
  unfold k0_part6_skel k0_part7_skel k0_part8_skel
  sl_exec
  have e1 : rest_run.sl.r arg21 n k h7 wb = BitVec.ofNat 32 b.val := by
    unfold rest_run.sl.r
    exact (ldword arg21 wb _ _ _ p hp).trans hwb
  have e2 : rest_run.sl.r_1 arg22 n k h7 wc = BitVec.ofNat 32 j.val := by
    unfold rest_run.sl.r_1
    exact (ldword arg22 wc _ _ _ p hp).trans hwc
  generalize rest_run.sl.r arg21 n k h7 wb = w1 at e1 ⊢
  generalize rest_run.sl.r_1 arg22 n k h7 wc = w2 at e2 ⊢
  subst e1 e2
  have h10 := chk10 b j b.isLt j.isLt
  sl_exec (disch := exact h10)
  iapply (slot_load_run c (Memref.whole cc0_scratch0) (Memref.whole main_v1) (inbK _ (slotW_lt k (by have := k_lt (by omega) k; omega))) (k0_off47_inb _ _ h10)
    squeezes_S1x768x1024_S768x1024 squeezes_S1x768x1024_S768x1024 fa I.kt (k0_off54_inb (BitVec.ofNat 32 n) h7 k) (fun _ => 0) (fun a => rfl) (fun a => by simp) (I.ktw b j) (kt_win I b j _ _) _ _ Q)
  isplitl [Ha_dst]
  · iexact Ha_dst
  iintro Ka
  sl_exec
  iapply (slot_load_run c (Memref.whole cc0_scratch2) (Memref.whole main_v6) (inbVS _ (slotW_lt k (by have := k_lt (by omega) k; omega))) (k0_off53_inb _ _ h10)
    squeezes_S1x8x1024_S8x1024 squeezes_S1x8x1024_S8x1024 fc I.vs (k0_off56_inb (BitVec.ofNat 32 n) h7 k) (fun _ => 0) (fun a => rfl) (fun a => by simp) (I.vsw b j) (vs_win I b j _ _) _ _ Q)
  isplitl [Hc_dst]
  · iexact Hc_dst
  iintro Kc
  iapply (slot_load_run c (Memref.whole cc0_scratch1) (Memref.whole main_v5) (inbV _ (slotW_lt k (by have := k_lt (by omega) k; omega))) (k0_off50_inb _ _ h10)
    squeezes_S1x48x64x128_S48x64x128 squeezes_S1x48x64x128_S48x64x128 fb I.vt (k0_off57_inb (BitVec.ofNat 32 n) h7 k) (fun _ => 0) (fun a => rfl) (by decide) (VecWindow.window (I.vtw b j) ![0, 0, 0, 0] S1x48x32x128.size (by decide)) (vt_win1 I b j _ _) _ _ Q)
  isplitl [Hb_dst]
  · iexact Hb_dst
  iintro Kb
  iapply (slot_load_run c (Memref.whole cc0_scratch1) (Memref.whole main_v5) (inbV _ (slotW_lt k (by have := k_lt (by omega) k; omega))) (k0_off50_inb _ _ h10)
    squeezes_S1x48x64x128_S48x64x128 squeezes_S1x48x64x128_S48x64x128 fb I.vt (k0_off58_inb (BitVec.ofNat 32 n) h7 k) ![0, 0, 32, 0] (fun a => by match a with | ⟨0, _⟩ => rfl | ⟨1, _⟩ => rfl | ⟨2, _⟩ => rfl | ⟨3, _⟩ => rfl) (by decide) (VecWindow.window (I.vtw b j) ![0, 0, 32, 0] S1x48x32x128.size (by decide)) (vt_win2 I b j _ _) _ _ Q)
  isplitl [Kb]
  · iexact Kb
  iintro Kb
  dsimp only [Prog.bind, Pure.pure]
  sl_exec
  sl_step
  have e3 : rest_run.sl.r_2 arg0 I b h11 = I.lenw b := by
    unfold rest_run.sl.r_2
    exact (ldword arg0 I.len _ _ _ b (off55_eq b)).trans (congrArg I.len (funext fun a => by match a with | ⟨0, _⟩ => rfl))
  simp only [e3, ld16, ld17, ld18, ld20]
  iapply HQ
  isplitl [H21 H22]
  · isplitl [H21]; · iexact H21
    iexact H22
  isplitl [Ha Hb Hc Ka Kb Kc Ta Tb Tc]
  · isplitl [Ha Ka Ta]
    · isplitl [Ha]; · iexact Ha
      isplitl [Ka]
      · iexists _; iexact Ka
      iexact Ta
    isplitl [Hb Kb Tb]
    · isplitl [Hb]; · iexact Hb
      isplitl [Kb]
      · iexists _; iexact Kb
      iexact Tb
    isplitl [Hc]; · iexact Hc
    isplitl [Kc]
    · iexists _; iexact Kc
    iexact Tc
  isplitl [H0]; · iexact H0
  isplitr [HO]
  · isplitl [H16]; · iexact H16
    isplitl [H17]; · iexact H17
    isplitl [H18]
    · iapply (pointsTo_rep_of_read (c : Thread nD τ) arg18 _ fullShare (stepSt I b j st).m (View.read_writes_full _ _ _ _ _))
      iexact H18
    isplitl [H19]
    · iapply (pointsTo_rep_of_read (c : Thread nD τ) arg19 _ fullShare (stepSt I b j st).l (View.read_writes_full _ _ _ _ _))
      iexact H19
    · iapply (pointsTo_rep_of_read (c : Thread nD τ) arg20 _ fullShare (stepSt I b j st).acc (View.read_writes_full _ _ _ _ _))
      iexact H20
  iexists _
  iexact HO

end Cert.KernelIdeal.Hand

end
-- ==== Proof.BodyEqI.lean ====
/- Hand-written. Further segments of the kernel's main loop body, as programs of their own. -/
module

public import proofs.«01_k».proof.Proof.Seg2I
public import proofs.«01_k».proof.Proof.Gen.KernelIdeal.Skeleton
public import proofs.«01_k».proof.Proof.Gen.KernelIdeal.Points
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.SL.Sem

variable {F : FTy → Type} [FloatOps F]

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

set_option maxHeartbeats 2000000 in
theorem t4_body_eq (v1 : BitVec 32) (k0_hw7 : k0_chk7 v1) (v99 : IVec S32x1024 32) (k0_t4 : Fin (k0_t4_loop v1).trips) (a : BitVec 32) :
    k0_t4_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v1 k0_hw7 v99 k0_t4 a = tripB arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 v1 k0_hw7 v99 k0_t4 := by
  unfold k0_t4_body tripB
  simp only [k0_part5_eq_skeleton]
  unfold k0_part5_skel segRest segStart segInit segOut
  simp only [bind_assoc]
  congr 1; funext v108
  congr 1; funext h11
  congr 1; funext v110
  congr 1; funext h9
  by_cases h4 : k0_cond4 v1 k0_t4 = 1#1 <;> by_cases h5 : k0_cond5 v110 = 1#1 <;>
    simp only [dif_pos, dif_neg, h4, h5, not_false_eq_true, bind_assoc, pure_bind]
  all_goals repeat' (refine congr (congrArg bind (by with_reducible rfl)) (funext fun _ => ?_))
  all_goals split <;> rfl

end Cert.KernelIdeal.Hand

end
-- ==== Proof.TripI.lean ====
/- Hand-written. -/
module

public import proofs.«01_k».proof.Proof.Seg2I
public import proofs.«01_k».proof.Proof.RestI
public import proofs.«01_k».proof.Proof.BodyEqI
public import proofs.«01_k».proof.Proof.RingI
public import proofs.«01_k».proof.Proof.SlotI
public import proofs.«01_k».proof.Proof.InitI
public import proofs.«01_k».proof.Proof.ModelI
public import proofs.«01_k».proof.Proof.Gen.KernelIdeal.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-! ## One trip of the main loop -/

/-- A word load of a work list at a place known. -/
theorem smem_run (c : Dev nD) {n : ℕ} (a : Memref sig .tc .smem ⟨1, ![n]⟩ .i32) (w : Vec F ⟨1, ![n]⟩ .i32) (off : Fin 1 → ℕ) (h) (hw) (p : Fin n) (hp : off 0 = p.val)
    (v : Elt F .i32) (hv : w (ix1 p) = v) (Q : Elt F .i32 → sProp 𝕄) :
    iprop((a.view.loc (c : Thread nD τ) ↦[a.view.set]{fullShare} a.view.rep w)
      ∗ ((a.view.loc (c : Thread nD τ) ↦[a.view.set]{fullShare} a.view.rep w) -∗ Q v))
      ⊢ wp frame (wpE (defs₀ (F := F)) Variants.none (c : Thread nD τ) none) Set.univ
          (smemLoad a (Rect.unit (s := ⟨1, ![n]⟩) off S1.size h) numel1_S1 hw : Prog (TpuEff nD τ sig (Elt F) Λ₀ .tc) (Elt F .i32)) Q := by
  subst hv
  iintro ⟨H, HQ⟩
  sl_exec
  sl_step
  unfold smem_run.sl.f
  rw [ldword a w off h _ p hp]
  iapply HQ
  iexact H

/-- A check that holds. -/
theorem assume_run (c : Dev nD) (P : Prop) (dec : Decidable P) (hP : P) (Q : PLift P → sProp 𝕄) :
    Q ⟨hP⟩ ⊢ wp frame (wpE (defs₀ (F := F)) Variants.none (c : Thread nD τ) none) Set.univ
      (Prog.lift (TpuEff.assume P dec) : Prog (TpuEff nD τ sig (Elt F) Λ₀ .tc) (PLift P)) Q := by
  iintro H
  sl_exec (disch := exact hP)
  sl_step
  iexact H

/-- The result block, at `O`. -/
def outOwn (arg8 : Memref sig .tc .vmem S20x32x96 .bf16) (c : Dev nD) (O : Vec F S20x32x96 .bf16) : sProp 𝕄 :=
  (arg8.view.loc (c : Thread nD τ) ↦[arg8.view.set]{fullShare} arg8.view.rep O)

/-- `O` with slab `b` replaced. -/
def putSlab (O : Vec F S20x32x96 .bf16) (b : Fin 20) (w : Vec F S1x32x96 .bf16) : Vec F S20x32x96 .bf16 := VecWindow.put O ![b.val, 0, 0] S1x32x96.size w

theorem off60_eq (b : Fin 20) : k0_off60 (BitVec.ofNat 32 b.val) = ![b.val, 0, 0] := by
  show ![(BitVec.ofNat 32 b.val).toNat, 0, 0] = _
  rw [ofNat_toNat _ (by omega)]

set_option maxHeartbeats 400000 in
/-- The store of a finished sequence's slab. -/
theorem out_run (c : Dev nD) (b : Fin 20) (s : St F) (O : Vec F S20x32x96 .bf16) (v1 : BitVec 32) (k : Fin (k0_t4_loop v1).trips) (w : BitVec 32)
    (h12) (h6) (Q : PUnit → sProp 𝕄) :
    iprop(stOwn arg16 arg17 arg18 arg19 arg20 c s ∗ outOwn arg8 c O
      ∗ (stOwn arg16 arg17 arg18 arg19 arg20 c s ∗ outOwn arg8 c (putSlab O b (outSlab s)) -∗ Q ⟨⟩))
      ⊢ wp frame (wpE (defs₀ (F := F)) Variants.none (c : Thread nD τ) none) Set.univ (segOut (F := F) arg8 harg8 arg19 arg20 v1 k (BitVec.ofNat 32 b.val) w h12 h6) Q := by
  unfold stOwn outOwn
  iintro ⟨⟨H16, H17, H18, H19, H20⟩, H8, HQ⟩
  unfold segOut
  sl_exec
  sl_step
  simp only [ld18, ld20]
  iapply HQ
  isplitr [H8]
  · isplitl [H16]; · iexact H16
    isplitl [H17]; · iexact H17
    isplitl [H18]; · iexact H18
    isplitl [H19]; · iexact H19
    iexact H20
  · iapply (pointsTo_rep_of_read (c : Thread nD τ) arg8 _ fullShare (putSlab O b (outSlab s)) (View.read_writes_rep_unit _ _ _ _ (off60_eq b)))
    iexact H8

/-! ### The ring's state before each trip -/

/-- How many places after `i` slot `k` is next used. -/
def dist (i : ℕ) (k : Fin 4) : ℕ := (k.val + 4 - i % 4) % 4

/-- The ring before trip `i`: the chunks at the places `i`, `i+1`, `i+2` of the list are under way. -/
def ringAt (B : ℕ → Fin 20) (C : ℕ → Fin 8) (n i : ℕ) (k : Fin 4) : Option (Fin 20 × Fin 8) :=
  if dist i k < 3 ∧ i + dist i k < n then some (B (i + dist i k), C (i + dist i k)) else none

/-- The ring within trip `i`, after its start. -/
def ringMid (B : ℕ → Fin 20) (C : ℕ → Fin 8) (n i : ℕ) : Fin 4 → Option (Fin 20 × Fin 8) :=
  if i + 3 < n then Function.update (ringAt B C n i) ⟨(i + 3) % 4, Nat.mod_lt _ (by decide)⟩ (some (B (i + 3), C (i + 3))) else ringAt B C n i

theorem ringAt_free (B C) (n i : ℕ) : ringAt B C n i ⟨(i + 3) % 4, Nat.mod_lt _ (by decide)⟩ = none := by
  unfold ringAt
  rw [if_neg]
  unfold dist
  simp only []
  omega

theorem ringMid_cur (B C) (n i : ℕ) (h : i < n) : ringMid B C n i ⟨i % 4, Nat.mod_lt _ (by decide)⟩ = some (B i, C i) := by
  have e : dist i ⟨i % 4, Nat.mod_lt _ (by decide)⟩ = 0 := by unfold dist; simp only []; omega
  have h2 : ringAt B C n i ⟨i % 4, Nat.mod_lt _ (by decide)⟩ = some (B i, C i) := by
    unfold ringAt
    rw [e, if_pos ⟨by omega, by omega⟩]; rfl
  unfold ringMid
  split
  · rw [Function.update_of_ne (fun h => by have := congrArg Fin.val h; simp only [] at this; omega)]
    exact h2
  · exact h2

theorem ring_next (B C) (n i : ℕ) (h : i < n) :
    Function.update (ringMid B C n i) ⟨i % 4, Nat.mod_lt _ (by decide)⟩ none = ringAt B C n (i + 1) := by
  funext k
  by_cases hk : k = ⟨i % 4, Nat.mod_lt _ (by decide)⟩
  · subst hk
    rw [Function.update_self]
    unfold ringAt
    rw [if_neg]
    unfold dist
    simp only []
    omega
  rw [Function.update_of_ne hk]
  have hk' : k.val ≠ i % 4 := fun h => hk (Fin.ext h)
  have hd : dist i k = dist (i + 1) k + 1 := by unfold dist; omega
  have hl : dist (i + 1) k < 3 := by unfold dist; omega
  by_cases h3 : k = ⟨(i + 3) % 4, Nat.mod_lt _ (by decide)⟩
  · subst h3
    have e2 : dist (i + 1) ⟨(i + 3) % 4, Nat.mod_lt _ (by decide)⟩ = 2 := by unfold dist; simp only []; omega
    unfold ringMid
    by_cases hn : i + 3 < n
    · rw [if_pos hn, Function.update_self]
      unfold ringAt
      rw [e2, if_pos ⟨by omega, by omega⟩]
    · rw [if_neg hn, ringAt_free]
      unfold ringAt
      rw [if_neg (by omega)]
  · have hv : k.val ≠ (i + 3) % 4 := fun h => h3 (Fin.ext h)
    have h2 : dist i k < 3 := by unfold dist; omega
    have e : ringMid B C n i k = ringAt B C n i k := by
      unfold ringMid
      split
      · rw [Function.update_of_ne h3]
      · rfl
    rw [e]
    unfold ringAt
    have ep : i + dist i k = i + 1 + dist (i + 1) k := by omega
    rw [ep]
    by_cases hn : i + 1 + dist (i + 1) k < n
    · rw [if_pos ⟨h2, hn⟩, if_pos ⟨hl, hn⟩]
    · rw [if_neg (fun h => hn h.2), if_neg (fun h => hn h.2)]

/-- The ring of slots in the states `st`. -/
def ringOwn (c : Dev nD) (I : In F) (st : Fin 4 → Option (Fin 20 × Fin 8)) : sProp 𝕄 :=
  Ring.AtW (σ := fun _ : Fin 4 => Option (Fin 20 × Fin 8)) (slotSt c I) st

/-! ### The three guarded parts -/

theorem startIf_run (c : Dev nD) (I : In F) (B : ℕ → Fin 20) (C : ℕ → Fin 8) (n : ℕ) (hn : n ≤ 160) (k : Fin (k0_t4_loop (BitVec.ofNat 32 n)).trips) (h7)
    (wb wc : Vec F S160 .i32)
    (hw : ∀ p : Fin 160, p.val < n → wb (ix1 p) = BitVec.ofNat 32 (B p.val).val ∧ wc (ix1 p) = BitVec.ofNat 32 (C p.val).val) (Q : PUnit → sProp 𝕄) :
    iprop(wOwn c arg21 arg22 wb wc ∗ ringOwn c I (ringAt B C n k.val) ∗ (wOwn c arg21 arg22 wb wc ∗ ringOwn c I (ringMid B C n k.val) -∗ Q ⟨⟩))
      ⊢ wp frame (wpE (defs₀ (F := F)) Variants.none (c : Thread nD τ) none) Set.univ
        (if h4 : k0_cond4 (BitVec.ofNat 32 n) k = 1#1 then segStart (F := F) arg21 arg22 (BitVec.ofNat 32 n) h7 k h4 else pure ⟨⟩) Q := by
  by_cases h : k.val + 3 < n
  · rw [dif_pos ((cond4_iff (by omega) k).2 h)]
    have hm : ringMid B C n k.val = Function.update (ringAt B C n k.val) ⟨(k.val + 3) % 4, Nat.mod_lt _ (by decide)⟩ (some (B (k.val + 3), C (k.val + 3))) := if_pos h
    rw [hm]
    unfold ringOwn
    rw [Ring.AtW_focus (σ := fun _ : Fin 4 => Option (Fin 20 × Fin 8)) (slotSt c I) (ringAt B C n k.val) ⟨(k.val + 3) % 4, Nat.mod_lt _ (by decide)⟩, ringAt_free]
    iintro ⟨Hw, ⟨Hs, Hr⟩, HQ⟩
    iapply (start_run arg21 arg22 c I n hn k h7 _ (B (k.val + 3)) (C (k.val + 3)) ⟨k.val + 3, by omega⟩ (ivp3_toNat k.val (by omega)) wb wc
      (hw ⟨k.val + 3, by omega⟩ h).1 (hw ⟨k.val + 3, by omega⟩ h).2 ⟨(k.val + 3) % 4, Nat.mod_lt _ (by decide)⟩ (Fin.ext (slotI_eq k.val (by omega)).symm) Q)
    isplitl [Hw]; · iexact Hw
    isplitl [Hs]; · iexact Hs
    iintro ⟨Hw, Hs⟩
    iapply HQ
    isplitl [Hw]; · iexact Hw
    iapply (Ring.AtW_update (σ := fun _ : Fin 4 => Option (Fin 20 × Fin 8)) (slotSt c I))
    isplitl [Hs]; · iexact Hs
    iexact Hr
  · rw [dif_neg (fun h' => h ((cond4_iff (by omega) k).1 h'))]
    have hm : ringMid B C n k.val = ringAt B C n k.val := if_neg h
    rw [hm]
    iintro ⟨Hw, Hs, HQ⟩
    sl_step
    iapply HQ
    isplitl [Hw]; · iexact Hw
    iexact Hs

theorem initIf_run (c : Dev nD) (I : In F) (b : Fin 20) (j : Fin 8) (s : St F) (h9) (Q : PUnit → sProp 𝕄) :
    iprop(inOwn arg1 arg2 arg3 arg4 c I ∗ stOwn arg16 arg17 arg18 arg19 arg20 c s
      ∗ (inOwn arg1 arg2 arg3 arg4 c I ∗ stOwn arg16 arg17 arg18 arg19 arg20 c (if j.val = 0 then initSt I b else s) -∗ Q ⟨⟩))
      ⊢ wp frame (wpE (defs₀ (F := F)) Variants.none (c : Thread nD τ) none) Set.univ
        (if h5 : k0_cond5 (BitVec.ofNat 32 j.val) = 1#1 then segInit arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 k0_pay2 (BitVec.ofNat 32 b.val) (BitVec.ofNat 32 j.val) h9 h5 else pure ⟨⟩) Q := by
  by_cases h : j.val = 0
  · rw [dif_pos ((cond5_iff j.val (by omega)).2 h), if_pos h]
    exact init_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I b s _ h9 _ Q
  · rw [dif_neg (fun h' => h ((cond5_iff j.val (by omega)).1 h')), if_neg h]
    iintro ⟨Hi, Hs, HQ⟩
    sl_step
    iapply HQ
    isplitl [Hi]; · iexact Hi
    iexact Hs

theorem outIf_run (c : Dev nD) (b : Fin 20) (j : Fin 8) (s : St F) (O : Vec F S20x32x96 .bf16) (n : ℕ) (hn : n ≤ 160) (k : Fin (k0_t4_loop (BitVec.ofNat 32 n)).trips)
    (h12) (Q : PUnit → sProp 𝕄) :
    iprop(stOwn arg16 arg17 arg18 arg19 arg20 c s ∗ outOwn arg8 c O
      ∗ (stOwn arg16 arg17 arg18 arg19 arg20 c s ∗ outOwn arg8 c (if k.val + 1 = n ∨ j.val = 0 then putSlab O b (outSlab s) else O) -∗ Q ⟨⟩))
      ⊢ wp frame (wpE (defs₀ (F := F)) Variants.none (c : Thread nD τ) none) Set.univ
        (if h6 : k0_cond6 (BitVec.ofNat 32 n) k (BitVec.ofNat 32 j.val) = 1#1 then segOut (F := F) arg8 harg8 arg19 arg20 (BitVec.ofNat 32 n) k (BitVec.ofNat 32 b.val) (BitVec.ofNat 32 j.val) h12 h6 else pure ⟨⟩) Q := by
  by_cases h : k.val + 1 = n ∨ j.val = 0
  · rw [dif_pos ((cond6_iff (by omega) k j.val (by omega)).2 h), if_pos h]
    exact out_run arg8 harg8 arg16 arg17 arg18 arg19 arg20 c b s O _ k _ h12 _ Q
  · rw [dif_neg (fun h' => h ((cond6_iff (by omega) k j.val (by omega)).1 h')), if_neg h]
    iintro ⟨Hi, Hs, HQ⟩
    sl_step
    iapply HQ
    isplitl [Hi]; · iexact Hi
    iexact Hs

/-- The ring within trip `k`, with the slot the trip reads set apart. -/
theorem ringMid_focus (c : Dev nD) (I : In F) (B : ℕ → Fin 20) (C : ℕ → Fin 8) (n i : ℕ) (h : i < n) :
    ringOwn c I (ringMid B C n i) = iprop(slotSt c I ⟨i % 4, Nat.mod_lt _ (by decide)⟩ (some (B i, C i))
      ∗ Ring.restW (σ := fun _ : Fin 4 => Option (Fin 20 × Fin 8)) (slotSt c I) (ringMid B C n i) ⟨i % 4, Nat.mod_lt _ (by decide)⟩) := by
  unfold ringOwn
  rw [Ring.AtW_focus (σ := fun _ : Fin 4 => Option (Fin 20 × Fin 8)) (slotSt c I) (ringMid B C n i) ⟨i % 4, Nat.mod_lt _ (by decide)⟩, ringMid_cur B C n i h]

/-- … and put back, empty. -/
theorem ringMid_close (c : Dev nD) (I : In F) (B : ℕ → Fin 20) (C : ℕ → Fin 8) (n i : ℕ) (h : i < n) :
    iprop(slotSt c I ⟨i % 4, Nat.mod_lt _ (by decide)⟩ none
      ∗ Ring.restW (σ := fun _ : Fin 4 => Option (Fin 20 × Fin 8)) (slotSt c I) (ringMid B C n i) ⟨i % 4, Nat.mod_lt _ (by decide)⟩)
      ⊢ ringOwn c I (ringAt B C n (i + 1)) := by
  rw [← ring_next B C n i h]
  exact Ring.AtW_update (σ := fun _ : Fin 4 => Option (Fin 20 × Fin 8)) (slotSt c I) _ _ _

/-! ### The trip -/

/-- The state after the chunk at place `i` of the list. -/
def stNext (I : In F) (B : ℕ → Fin 20) (C : ℕ → Fin 8) (i : ℕ) (s : St F) : St F :=
  stepSt I (B i) (C i) (if (C i).val = 0 then initSt I (B i) else s)
/-- The result block after it. -/
def outNext (B : ℕ → Fin 20) (C : ℕ → Fin 8) (n i : ℕ) (s : St F) (O : Vec F S20x32x96 .bf16) : Vec F S20x32x96 .bf16 :=
  if i + 1 = n ∨ (C (min (i + 1) (n - 1))).val = 0 then putSlab O (B i) (outSlab s) else O

set_option maxHeartbeats 400000 in
theorem trip_run (c : Dev nD) (I : In F) (B : ℕ → Fin 20) (C : ℕ → Fin 8) (n : ℕ) (hn : n ≤ 160) (k : Fin (k0_t4_loop (BitVec.ofNat 32 n)).trips) (h7)
    (wb wc : Vec F S160 .i32)
    (hw : ∀ p : Fin 160, p.val < n → wb (ix1 p) = BitVec.ofNat 32 (B p.val).val ∧ wc (ix1 p) = BitVec.ofNat 32 (C p.val).val)
    (s : St F) (O : Vec F S20x32x96 .bf16) (W : Waits sig Unit) (Q : BitVec 32 → sProp 𝕄) :
    iprop(wOwn c arg21 arg22 wb wc ∗ inOwn arg1 arg2 arg3 arg4 c I ∗ (arg0.view.loc (c : Thread nD τ) ↦[arg0.view.set]{fullShare} arg0.view.rep I.len)
      ∗ stOwn arg16 arg17 arg18 arg19 arg20 c s ∗ outOwn arg8 c O ∗ ringOwn c I (ringAt B C n k.val) ∗ owes (c : Thread nD τ) 0 W
      ∗ (wOwn c arg21 arg22 wb wc ∗ inOwn arg1 arg2 arg3 arg4 c I ∗ (arg0.view.loc (c : Thread nD τ) ↦[arg0.view.set]{fullShare} arg0.view.rep I.len)
        ∗ stOwn arg16 arg17 arg18 arg19 arg20 c (stNext I B C k.val s) ∗ outOwn arg8 c (outNext B C n k.val (stNext I B C k.val s) O)
        ∗ ringOwn c I (ringAt B C n (k.val + 1)) ∗ (∃ W, owes (c : Thread nD τ) 0 W) -∗ Q 0#32))
      ⊢ wp frame (wpE (defs₀ (F := F)) Variants.none (c : Thread nD τ) none) Set.univ
        (tripB (F := F) arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 (BitVec.ofNat 32 n) h7 lanes k) Q := by
  have hk := k_lt (show n < 1000 by omega) k
  have hwk := hw ⟨k.val, by omega⟩ hk
  have hwl := hw ⟨min (k.val + 1) (n - 1), by omega⟩ (by simp only []; omega)
  unfold tripB
  rw [wp_bind]
  have hst := fun Q' => startIf_run arg21 arg22 c I B C n hn k h7 wb wc hw Q'
  rw [ringMid_focus c I B C n k.val hk] at hst
  unfold wOwn
  iintro ⟨⟨Hb, Hc⟩, Hi, H0, Hs, Ho, Hr, HO, HQ⟩
  iapply (smem_run c arg21 wb (k0_off31 (BitVec.ofNat 32 n) k) _ _ ⟨k.val, by omega⟩ (iv_toNat k.val (by omega)) _ hwk.1)
  isplitl [Hb]; · iexact Hb
  iintro Hb
  rw [wp_bind]
  iapply (assume_run c _ _ (chk11 (B k.val) (B k.val).isLt))
  rw [wp_bind]
  iapply (smem_run c arg22 wc (k0_off31 (BitVec.ofNat 32 n) k) _ _ ⟨k.val, by omega⟩ (iv_toNat k.val (by omega)) _ hwk.2)
  isplitl [Hc]; · iexact Hc
  iintro Hc
  rw [wp_bind]
  iapply (assume_run c _ _ (chk9 (B k.val) (BitVec.ofNat 32 (C k.val).val) (B k.val).isLt))
  rw [wp_bind]
  iapply (hst _)
  isplitl [Hb Hc]
  · unfold wOwn
    isplitl [Hb]; · iexact Hb
    iexact Hc
  isplitl [Hr]; · iexact Hr
  iintro ⟨Hw, Hr1, Hr2⟩
  rw [wp_bind]
  iapply (initIf_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I (B k.val) (C k.val) s)
  isplitl [Hi]; · iexact Hi
  isplitl [Hs]; · iexact Hs
  iintro ⟨Hi, Hs⟩
  rw [wp_bind]
  iapply (rest_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I n hn k h7 (B k.val) (C k.val) _ ⟨k.val, by omega⟩ (iv_toNat k.val (by omega)) wb wc hwk.1 hwk.2
    ⟨k.val % 4, Nat.mod_lt _ (by decide)⟩ (Fin.ext (slotW_eq k.val (by omega)).symm) _ W)
  isplitl [Hw]; · iexact Hw
  isplitl [Hr1]; · iexact Hr1
  isplitl [H0]; · iexact H0
  isplitl [Hs]; · iexact Hs
  isplitl [HO]; · iexact HO
  unfold wOwn
  iintro ⟨⟨Hb, Hc⟩, Hr1, H0, Hs, HO⟩
  rw [wp_bind]
  iapply (smem_run c arg22 wc (k0_off59 (BitVec.ofNat 32 n) k) _ _ ⟨min (k.val + 1) (n - 1), by omega⟩ (off59_toNat n k.val (by omega) hk) _ hwl.2)
  isplitl [Hc]; · iexact Hc
  iintro Hc
  rw [wp_bind]
  iapply (assume_run c _ _ (chk12 (BitVec.ofNat 32 n) k (B k.val) (B k.val).isLt _))
  rw [wp_bind]
  iapply (outIf_run arg8 harg8 arg16 arg17 arg18 arg19 arg20 c (B k.val) (C (min (k.val + 1) (n - 1))) _ O n hn k)
  isplitl [Hs]; · iexact Hs
  isplitl [Ho]; · iexact Ho
  iintro ⟨Hs, Ho⟩
  sl_step
  iapply HQ
  isplitl [Hb Hc]
  · isplitl [Hb]; · iexact Hb
    iexact Hc
  isplitl [Hi]; · iexact Hi
  isplitl [H0]; · iexact H0
  isplitl [Hs]; · iexact Hs
  isplitl [Ho]; · iexact Ho
  isplitl [Hr1 Hr2]
  · iapply (ringMid_close c I B C n k.val hk)
    isplitl [Hr1]; · iexact Hr1
    iexact Hr2
  iexact HO

end Cert.KernelIdeal.Hand

end
-- ==== Proof.PreI.lean ====
/- Hand-written. -/
module

public import proofs.«01_k».proof.Proof.TripI
public import proofs.«01_k».proof.Proof.Seg2I
public import proofs.«01_k».proof.Proof.RestI
public import proofs.«01_k».proof.Proof.BodyEqI
public import proofs.«01_k».proof.Proof.RingI
public import proofs.«01_k».proof.Proof.SlotI
public import proofs.«01_k».proof.Proof.InitI
public import proofs.«01_k».proof.Proof.ModelI
public import proofs.«01_k».proof.Proof.Gen.KernelIdeal.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

/-- The start of the transfers of place 0 of the work list, into slot 0. -/
def segPre1 (v1 : BitVec 32) (k0_h1 : k0_cond1 v1 = 1#1) :
    Prog (TpuEff nD τ sig (Elt F) Λ₀ .tc) PUnit := do
  let v108 : Elt F .i32 ← smemLoad arg21 (Rect.unit (s := S160) ![0] S1.size inb_S160_S1_0) numel1_S1 rfl
  let v110 : Elt F .i32 ← smemLoad arg22 (Rect.unit (s := S160) ![0] S1.size inb_S160_S1_0) numel1_S1 rfl
  have k0_hw4 : k0_chk4 v1 v108 v110 := (← Prog.lift (TpuEff.assume (k0_chk4 v1 v108 v110) (k0_chk4.dec v1 v108 v110))).down
  let v115 : DmaSems sig S1x1 := cc0_scratch3.slice (Rect.unit (s := S4x3) k0_off4 S1x1.size k0_off4_inb)
  let v116 : DmaSems sig S_ := v115.squeeze S_ squeezes_S1x1_S_
  let v117 : Memref sig .tc .vmem S1x768x1024 .i8 := (Memref.whole cc0_scratch0).slice (Rect.unit (s := S4x768x1024) k0_off5 S1x768x1024.size k0_off5_inb) (fun _ => rfl)
  let v118 : Memref sig .tc .vmem S768x1024 .i8 := v117.squeeze S768x1024 squeezes_S1x768x1024_S768x1024
  let v119 : Memref sig .tc .hbm S1x768x1024 .i8 := (Memref.whole main_v1).slice (Rect.unit (s := S20x768x8192) (k0_off6 v108 v110) S1x768x1024.size (k0_off6_inb v1 v108 v110 k0_hw4 k0_h1)) (fun _ => rfl)
  let v120 : Memref sig .tc .hbm S768x1024 .i8 := v119.squeeze S768x1024 squeezes_S1x768x1024_S768x1024
  Prog.lift (.enqueueDma v120 (.here v118) (.dma v116.sem) (((Memref.isWhole_whole main_v1).wordExact_slice rfl _ (k0_off6_wordsi8 v1 v108 v110 k0_hw4 k0_h1)).reshape _ _) (((Memref.isWhole_whole cc0_scratch0).wordExact_slice rfl _ k0_off5_wordsi8).reshape _ _) ⟨Or.inl rfl, trivial⟩)
  let v121 : DmaSems sig S1x1 := cc0_scratch3.slice (Rect.unit (s := S4x3) k0_off7 S1x1.size k0_off7_inb)
  let v122 : DmaSems sig S_ := v121.squeeze S_ squeezes_S1x1_S_
  let v123 : Memref sig .tc .vmem S1x48x64x128 .i8 := (Memref.whole cc0_scratch1).slice (Rect.unit (s := S4x48x64x128) k0_off8 S1x48x64x128.size k0_off8_inb) (fun _ => rfl)
  let v124 : Memref sig .tc .vmem S48x64x128 .i8 := v123.squeeze S48x64x128 squeezes_S1x48x64x128_S48x64x128
  let v125 : Memref sig .tc .hbm S1x48x64x128 .i8 := (Memref.whole main_v5).slice (Rect.unit (s := S20x48x512x128) (k0_off9 v108 v110) S1x48x64x128.size (k0_off9_inb v1 v108 v110 k0_hw4 k0_h1)) (fun _ => rfl)
  let v126 : Memref sig .tc .hbm S48x64x128 .i8 := v125.squeeze S48x64x128 squeezes_S1x48x64x128_S48x64x128
  Prog.lift (.enqueueDma v126 (.here v124) (.dma v122.sem) (((Memref.isWhole_whole main_v5).wordExact_slice rfl _ (k0_off9_wordsi8 v1 v108 v110 k0_hw4 k0_h1)).reshape _ _) (((Memref.isWhole_whole cc0_scratch1).wordExact_slice rfl _ k0_off8_wordsi8).reshape _ _) ⟨Or.inl rfl, trivial⟩)
  let v127 : DmaSems sig S1x1 := cc0_scratch3.slice (Rect.unit (s := S4x3) k0_off10 S1x1.size k0_off10_inb)
  let v128 : DmaSems sig S_ := v127.squeeze S_ squeezes_S1x1_S_
  let v129 : Memref sig .tc .vmem S1x8x1024 .f32 := (Memref.whole cc0_scratch2).slice (Rect.unit (s := S4x8x1024) k0_off11 S1x8x1024.size k0_off11_inb) (fun _ => rfl)
  let v130 : Memref sig .tc .vmem S8x1024 .f32 := v129.squeeze S8x1024 squeezes_S1x8x1024_S8x1024
  let v131 : Memref sig .tc .hbm S1x8x1024 .f32 := (Memref.whole main_v6).slice (Rect.unit (s := S20x8x8192) (k0_off12 v108 v110) S1x8x1024.size (k0_off12_inb v1 v108 v110 k0_hw4 k0_h1)) (fun _ => rfl)
  let v132 : Memref sig .tc .hbm S8x1024 .f32 := v131.squeeze S8x1024 squeezes_S1x8x1024_S8x1024
  Prog.lift (.enqueueDma v132 (.here v130) (.dma v128.sem) ((View.wordExact_bits rfl).reshape _ _) ((View.wordExact_bits rfl).reshape _ _) ⟨Or.inl rfl, trivial⟩)
  pure ⟨⟩

/-- The start of the transfers of place 1 of the work list, into slot 1. -/
def segPre2 (v1 : BitVec 32) (k0_h2 : k0_cond2 v1 = 1#1) :
    Prog (TpuEff nD τ sig (Elt F) Λ₀ .tc) PUnit := do
  let v108 : Elt F .i32 ← smemLoad arg21 (Rect.unit (s := S160) ![1] S1.size inb_S160_S1_1) numel1_S1 rfl
  let v110 : Elt F .i32 ← smemLoad arg22 (Rect.unit (s := S160) ![1] S1.size inb_S160_S1_1) numel1_S1 rfl
  have k0_hw5 : k0_chk5 v1 v108 v110 := (← Prog.lift (TpuEff.assume (k0_chk5 v1 v108 v110) (k0_chk5.dec v1 v108 v110))).down
  let v115 : DmaSems sig S1x1 := cc0_scratch3.slice (Rect.unit (s := S4x3) k0_off13 S1x1.size k0_off13_inb)
  let v116 : DmaSems sig S_ := v115.squeeze S_ squeezes_S1x1_S_
  let v117 : Memref sig .tc .vmem S1x768x1024 .i8 := (Memref.whole cc0_scratch0).slice (Rect.unit (s := S4x768x1024) k0_off14 S1x768x1024.size k0_off14_inb) (fun _ => rfl)
  let v118 : Memref sig .tc .vmem S768x1024 .i8 := v117.squeeze S768x1024 squeezes_S1x768x1024_S768x1024
  let v119 : Memref sig .tc .hbm S1x768x1024 .i8 := (Memref.whole main_v1).slice (Rect.unit (s := S20x768x8192) (k0_off15 v108 v110) S1x768x1024.size (k0_off15_inb v1 v108 v110 k0_hw5 k0_h2)) (fun _ => rfl)
  let v120 : Memref sig .tc .hbm S768x1024 .i8 := v119.squeeze S768x1024 squeezes_S1x768x1024_S768x1024
  Prog.lift (.enqueueDma v120 (.here v118) (.dma v116.sem) (((Memref.isWhole_whole main_v1).wordExact_slice rfl _ (k0_off15_wordsi8 v1 v108 v110 k0_hw5 k0_h2)).reshape _ _) (((Memref.isWhole_whole cc0_scratch0).wordExact_slice rfl _ k0_off14_wordsi8).reshape _ _) ⟨Or.inl rfl, trivial⟩)
  let v121 : DmaSems sig S1x1 := cc0_scratch3.slice (Rect.unit (s := S4x3) k0_off16 S1x1.size k0_off16_inb)
  let v122 : DmaSems sig S_ := v121.squeeze S_ squeezes_S1x1_S_
  let v123 : Memref sig .tc .vmem S1x48x64x128 .i8 := (Memref.whole cc0_scratch1).slice (Rect.unit (s := S4x48x64x128) k0_off17 S1x48x64x128.size k0_off17_inb) (fun _ => rfl)
  let v124 : Memref sig .tc .vmem S48x64x128 .i8 := v123.squeeze S48x64x128 squeezes_S1x48x64x128_S48x64x128
  let v125 : Memref sig .tc .hbm S1x48x64x128 .i8 := (Memref.whole main_v5).slice (Rect.unit (s := S20x48x512x128) (k0_off18 v108 v110) S1x48x64x128.size (k0_off18_inb v1 v108 v110 k0_hw5 k0_h2)) (fun _ => rfl)
  let v126 : Memref sig .tc .hbm S48x64x128 .i8 := v125.squeeze S48x64x128 squeezes_S1x48x64x128_S48x64x128
  Prog.lift (.enqueueDma v126 (.here v124) (.dma v122.sem) (((Memref.isWhole_whole main_v5).wordExact_slice rfl _ (k0_off18_wordsi8 v1 v108 v110 k0_hw5 k0_h2)).reshape _ _) (((Memref.isWhole_whole cc0_scratch1).wordExact_slice rfl _ k0_off17_wordsi8).reshape _ _) ⟨Or.inl rfl, trivial⟩)
  let v127 : DmaSems sig S1x1 := cc0_scratch3.slice (Rect.unit (s := S4x3) k0_off19 S1x1.size k0_off19_inb)
  let v128 : DmaSems sig S_ := v127.squeeze S_ squeezes_S1x1_S_
  let v129 : Memref sig .tc .vmem S1x8x1024 .f32 := (Memref.whole cc0_scratch2).slice (Rect.unit (s := S4x8x1024) k0_off20 S1x8x1024.size k0_off20_inb) (fun _ => rfl)
  let v130 : Memref sig .tc .vmem S8x1024 .f32 := v129.squeeze S8x1024 squeezes_S1x8x1024_S8x1024
  let v131 : Memref sig .tc .hbm S1x8x1024 .f32 := (Memref.whole main_v6).slice (Rect.unit (s := S20x8x8192) (k0_off21 v108 v110) S1x8x1024.size (k0_off21_inb v1 v108 v110 k0_hw5 k0_h2)) (fun _ => rfl)
  let v132 : Memref sig .tc .hbm S8x1024 .f32 := v131.squeeze S8x1024 squeezes_S1x8x1024_S8x1024
  Prog.lift (.enqueueDma v132 (.here v130) (.dma v128.sem) ((View.wordExact_bits rfl).reshape _ _) ((View.wordExact_bits rfl).reshape _ _) ⟨Or.inl rfl, trivial⟩)
  pure ⟨⟩

/-- The start of the transfers of place 2 of the work list, into slot 2. -/
def segPre3 (v1 : BitVec 32) (k0_h3 : k0_cond3 v1 = 1#1) :
    Prog (TpuEff nD τ sig (Elt F) Λ₀ .tc) PUnit := do
  let v108 : Elt F .i32 ← smemLoad arg21 (Rect.unit (s := S160) ![2] S1.size inb_S160_S1_2) numel1_S1 rfl
  let v110 : Elt F .i32 ← smemLoad arg22 (Rect.unit (s := S160) ![2] S1.size inb_S160_S1_2) numel1_S1 rfl
  have k0_hw6 : k0_chk6 v1 v108 v110 := (← Prog.lift (TpuEff.assume (k0_chk6 v1 v108 v110) (k0_chk6.dec v1 v108 v110))).down
  let v115 : DmaSems sig S1x1 := cc0_scratch3.slice (Rect.unit (s := S4x3) k0_off22 S1x1.size k0_off22_inb)
  let v116 : DmaSems sig S_ := v115.squeeze S_ squeezes_S1x1_S_
  let v117 : Memref sig .tc .vmem S1x768x1024 .i8 := (Memref.whole cc0_scratch0).slice (Rect.unit (s := S4x768x1024) k0_off23 S1x768x1024.size k0_off23_inb) (fun _ => rfl)
  let v118 : Memref sig .tc .vmem S768x1024 .i8 := v117.squeeze S768x1024 squeezes_S1x768x1024_S768x1024
  let v119 : Memref sig .tc .hbm S1x768x1024 .i8 := (Memref.whole main_v1).slice (Rect.unit (s := S20x768x8192) (k0_off24 v108 v110) S1x768x1024.size (k0_off24_inb v1 v108 v110 k0_hw6 k0_h3)) (fun _ => rfl)
  let v120 : Memref sig .tc .hbm S768x1024 .i8 := v119.squeeze S768x1024 squeezes_S1x768x1024_S768x1024
  Prog.lift (.enqueueDma v120 (.here v118) (.dma v116.sem) (((Memref.isWhole_whole main_v1).wordExact_slice rfl _ (k0_off24_wordsi8 v1 v108 v110 k0_hw6 k0_h3)).reshape _ _) (((Memref.isWhole_whole cc0_scratch0).wordExact_slice rfl _ k0_off23_wordsi8).reshape _ _) ⟨Or.inl rfl, trivial⟩)
  let v121 : DmaSems sig S1x1 := cc0_scratch3.slice (Rect.unit (s := S4x3) k0_off25 S1x1.size k0_off25_inb)
  let v122 : DmaSems sig S_ := v121.squeeze S_ squeezes_S1x1_S_
  let v123 : Memref sig .tc .vmem S1x48x64x128 .i8 := (Memref.whole cc0_scratch1).slice (Rect.unit (s := S4x48x64x128) k0_off26 S1x48x64x128.size k0_off26_inb) (fun _ => rfl)
  let v124 : Memref sig .tc .vmem S48x64x128 .i8 := v123.squeeze S48x64x128 squeezes_S1x48x64x128_S48x64x128
  let v125 : Memref sig .tc .hbm S1x48x64x128 .i8 := (Memref.whole main_v5).slice (Rect.unit (s := S20x48x512x128) (k0_off27 v108 v110) S1x48x64x128.size (k0_off27_inb v1 v108 v110 k0_hw6 k0_h3)) (fun _ => rfl)
  let v126 : Memref sig .tc .hbm S48x64x128 .i8 := v125.squeeze S48x64x128 squeezes_S1x48x64x128_S48x64x128
  Prog.lift (.enqueueDma v126 (.here v124) (.dma v122.sem) (((Memref.isWhole_whole main_v5).wordExact_slice rfl _ (k0_off27_wordsi8 v1 v108 v110 k0_hw6 k0_h3)).reshape _ _) (((Memref.isWhole_whole cc0_scratch1).wordExact_slice rfl _ k0_off26_wordsi8).reshape _ _) ⟨Or.inl rfl, trivial⟩)
  let v127 : DmaSems sig S1x1 := cc0_scratch3.slice (Rect.unit (s := S4x3) k0_off28 S1x1.size k0_off28_inb)
  let v128 : DmaSems sig S_ := v127.squeeze S_ squeezes_S1x1_S_
  let v129 : Memref sig .tc .vmem S1x8x1024 .f32 := (Memref.whole cc0_scratch2).slice (Rect.unit (s := S4x8x1024) k0_off29 S1x8x1024.size k0_off29_inb) (fun _ => rfl)
  let v130 : Memref sig .tc .vmem S8x1024 .f32 := v129.squeeze S8x1024 squeezes_S1x8x1024_S8x1024
  let v131 : Memref sig .tc .hbm S1x8x1024 .f32 := (Memref.whole main_v6).slice (Rect.unit (s := S20x8x8192) (k0_off30 v108 v110) S1x8x1024.size (k0_off30_inb v1 v108 v110 k0_hw6 k0_h3)) (fun _ => rfl)
  let v132 : Memref sig .tc .hbm S8x1024 .f32 := v131.squeeze S8x1024 squeezes_S1x8x1024_S8x1024
  Prog.lift (.enqueueDma v132 (.here v130) (.dma v128.sem) ((View.wordExact_bits rfl).reshape _ _) ((View.wordExact_bits rfl).reshape _ _) ⟨Or.inl rfl, trivial⟩)
  pure ⟨⟩
/-- The loads of the new keys and values, and the codes of the new keys stored. -/
def segQuant (v1 : BitVec 32) (k0_hw7 : k0_chk7 v1) :
    Prog (TpuEff nD τ sig (Elt F) Λ₀ .tc) (Σ' (v1 : BitVec 32) (k0_hw7 : k0_chk7 v1) (v16 : FVec F S20x8x96 .f32), FVec F S20x8x96 .f32) := do
  let v11 : Vec F S20x8x96 .bf16 ← Prog.lift (.load arg2 (Rect.unit (s := S20x8x96) ![0, 0, 0] S20x8x96.size inb_S20x8x96_S20x8x96_0_0_0).toLoadRect (View.loadsAt_vmem h_S20x8x96))
  let v14 : Vec F S20x8x96 .bf16 ← Prog.lift (.load arg3 (Rect.unit (s := S20x8x96) ![0, 0, 0] S20x8x96.size inb_S20x8x96_S20x8x96_0_0_0).toLoadRect (View.loadsAt_vmem h_S20x8x96))
  let v17 : Vec F S20x8x96 .f32 ← Prog.lift (.load arg4 (Rect.unit (s := S20x8x96) ![0, 0, 0] S20x8x96.size inb_S20x8x96_S20x8x96_0_0_0).toLoadRect (View.loadsAt_vmem h_S20x8x96))
  let v25 : Vec F S20x8x96 .i8 ← Prog.lift (.load arg9 (Rect.unit (s := S20x8x96) ![0, 0, 0] S20x8x96.size inb_S20x8x96_S20x8x96_0_0_0).toLoadRect (View.loadsAt_vmem h_S20x8x96))
  Prog.lift (.store arg9 (Rect.unit (s := S20x8x96) ![0, 0, 0] S20x8x96.size inb_S20x8x96_S20x8x96_0_0_0) (k0_pay94 v11 v17) Finset.univ (View.stores_vmem h_S20x8x96 (harg9.storeExact_slice rfl _ packedi8_S20x8x96_S20x8x96_0_0_0) (fun _ => rfl)) (.inl rfl))
  pure ⟨v1, k0_hw7, k0_pay93 v14, k0_pay95 v14⟩

/-- What comes before the main loop, by its segments. -/
def preB :
    Prog (TpuEff nD τ sig (Elt F) Λ₀ .tc) (Σ' (v1 : BitVec 32) (k0_hw7 : k0_chk7 v1) (v16 : FVec F S20x8x96 .f32), FVec F S20x8x96 .f32) := do
  let v1 : BitVec 32 ← Scf.Loop.for k0_t1_loop k0_t1_ok 0#32 (k0_t1_body arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22)
  have k0_hw7 : k0_chk7 v1 := (← Prog.lift (TpuEff.assume (k0_chk7 v1) (k0_chk7.dec v1))).down
  (if k0_h1 : k0_cond1 v1 = 1#1 then segPre1 arg21 arg22 v1 k0_h1 else pure ⟨⟩)
  (if k0_h2 : k0_cond2 v1 = 1#1 then segPre2 arg21 arg22 v1 k0_h2 else pure ⟨⟩)
  (if k0_h3 : k0_cond3 v1 = 1#1 then segPre3 arg21 arg22 v1 k0_h3 else pure ⟨⟩)
  segQuant arg2 arg3 arg4 arg9 harg9 v1 k0_hw7
variable [∀ e, Nonempty (Elt F e)]

theorem pre1_run (c : Dev nD) (I : In F) (n : ℕ) (hn : n ≤ 160) (hlt : 0 < n)
    (b : Fin 20) (j : Fin 8) (wb wc : Vec F S160 .i32)
    (hwb : wb (ix1 ⟨0, by omega⟩) = BitVec.ofNat 32 b.val) (hwc : wc (ix1 ⟨0, by omega⟩) = BitVec.ofNat 32 j.val)
    (Q : PUnit → sProp 𝕄) :
    iprop(wOwn c arg21 arg22 wb wc ∗ slotSt c I 0 none ∗ (wOwn c arg21 arg22 wb wc ∗ slotSt c I 0 (some (b, j)) -∗ Q ⟨⟩))
      ⊢ wp frame (wpE (defs₀ (F := F)) Variants.none (c : Thread nD τ) none) Set.univ
        (if k0_h1 : k0_cond1 (BitVec.ofNat 32 n) = 1#1 then segPre1 (F := F) arg21 arg22 (BitVec.ofNat 32 n) k0_h1 else pure ⟨⟩) Q := by
  have hc : k0_cond1 (BitVec.ofNat 32 n) = 1#1 := (cond1_iff (n := n) (by omega)).2 hlt
  rw [dif_pos hc]
  unfold wOwn slotSt freeP
  iintro ⟨⟨H21, H22⟩, ⟨⟨Ha, ⟨%fa, Sa⟩, Ta⟩, ⟨Hb, ⟨%fb, Sb⟩, Tb⟩, ⟨Hc, ⟨%fc, Sc⟩, Tc⟩⟩, HQ⟩
  unfold segPre1
  rw [wp_bind]
  iapply (smem_run c arg21 wb ![0] _ _ ⟨0, by omega⟩ rfl _ hwb)
  isplitl [H21]; · iexact H21
  iintro H21
  rw [wp_bind]
  iapply (smem_run c arg22 wc ![0] _ _ ⟨0, by omega⟩ rfl _ hwc)
  isplitl [H22]; · iexact H22
  iintro H22
  have h8 := chk4 (BitVec.ofNat 32 n) b j b.isLt j.isLt
  sl_exec (disch := exact h8)
  sl_step
  iapply HQ
  isplitl [H21 H22]
  · isplitl [H21]
    · iexact H21
    · iexact H22
  unfold flightP
  isplitl [Ha Ta]
  · isplitl [Ha]
    · iexists fa; iexact Ha
    · iexact Ta
  isplitl [Hb Tb]
  · isplitl [Hb]
    · iexists fb; iexact Hb
    · iexact Tb
  · isplitl [Hc]
    · iexists fc; iexact Hc
    · iexact Tc

theorem pre2_run (c : Dev nD) (I : In F) (n : ℕ) (hn : n ≤ 160) (hlt : 1 < n)
    (b : Fin 20) (j : Fin 8) (wb wc : Vec F S160 .i32)
    (hwb : wb (ix1 ⟨1, by omega⟩) = BitVec.ofNat 32 b.val) (hwc : wc (ix1 ⟨1, by omega⟩) = BitVec.ofNat 32 j.val)
    (Q : PUnit → sProp 𝕄) :
    iprop(wOwn c arg21 arg22 wb wc ∗ slotSt c I 1 none ∗ (wOwn c arg21 arg22 wb wc ∗ slotSt c I 1 (some (b, j)) -∗ Q ⟨⟩))
      ⊢ wp frame (wpE (defs₀ (F := F)) Variants.none (c : Thread nD τ) none) Set.univ
        (if k0_h2 : k0_cond2 (BitVec.ofNat 32 n) = 1#1 then segPre2 (F := F) arg21 arg22 (BitVec.ofNat 32 n) k0_h2 else pure ⟨⟩) Q := by
  have hc : k0_cond2 (BitVec.ofNat 32 n) = 1#1 := (cond2_iff (n := n) (by omega)).2 hlt
  rw [dif_pos hc]
  unfold wOwn slotSt freeP
  iintro ⟨⟨H21, H22⟩, ⟨⟨Ha, ⟨%fa, Sa⟩, Ta⟩, ⟨Hb, ⟨%fb, Sb⟩, Tb⟩, ⟨Hc, ⟨%fc, Sc⟩, Tc⟩⟩, HQ⟩
  unfold segPre2
  rw [wp_bind]
  iapply (smem_run c arg21 wb ![1] _ _ ⟨1, by omega⟩ rfl _ hwb)
  isplitl [H21]; · iexact H21
  iintro H21
  rw [wp_bind]
  iapply (smem_run c arg22 wc ![1] _ _ ⟨1, by omega⟩ rfl _ hwc)
  isplitl [H22]; · iexact H22
  iintro H22
  have h8 := chk5 (BitVec.ofNat 32 n) b j b.isLt j.isLt
  sl_exec (disch := exact h8)
  sl_step
  iapply HQ
  isplitl [H21 H22]
  · isplitl [H21]
    · iexact H21
    · iexact H22
  unfold flightP
  isplitl [Ha Ta]
  · isplitl [Ha]
    · iexists fa; iexact Ha
    · iexact Ta
  isplitl [Hb Tb]
  · isplitl [Hb]
    · iexists fb; iexact Hb
    · iexact Tb
  · isplitl [Hc]
    · iexists fc; iexact Hc
    · iexact Tc

theorem pre3_run (c : Dev nD) (I : In F) (n : ℕ) (hn : n ≤ 160) (hlt : 2 < n)
    (b : Fin 20) (j : Fin 8) (wb wc : Vec F S160 .i32)
    (hwb : wb (ix1 ⟨2, by omega⟩) = BitVec.ofNat 32 b.val) (hwc : wc (ix1 ⟨2, by omega⟩) = BitVec.ofNat 32 j.val)
    (Q : PUnit → sProp 𝕄) :
    iprop(wOwn c arg21 arg22 wb wc ∗ slotSt c I 2 none ∗ (wOwn c arg21 arg22 wb wc ∗ slotSt c I 2 (some (b, j)) -∗ Q ⟨⟩))
      ⊢ wp frame (wpE (defs₀ (F := F)) Variants.none (c : Thread nD τ) none) Set.univ
        (if k0_h3 : k0_cond3 (BitVec.ofNat 32 n) = 1#1 then segPre3 (F := F) arg21 arg22 (BitVec.ofNat 32 n) k0_h3 else pure ⟨⟩) Q := by
  have hc : k0_cond3 (BitVec.ofNat 32 n) = 1#1 := (cond3_iff (n := n) (by omega)).2 hlt
  rw [dif_pos hc]
  unfold wOwn slotSt freeP
  iintro ⟨⟨H21, H22⟩, ⟨⟨Ha, ⟨%fa, Sa⟩, Ta⟩, ⟨Hb, ⟨%fb, Sb⟩, Tb⟩, ⟨Hc, ⟨%fc, Sc⟩, Tc⟩⟩, HQ⟩
  unfold segPre3
  rw [wp_bind]
  iapply (smem_run c arg21 wb ![2] _ _ ⟨2, by omega⟩ rfl _ hwb)
  isplitl [H21]; · iexact H21
  iintro H21
  rw [wp_bind]
  iapply (smem_run c arg22 wc ![2] _ _ ⟨2, by omega⟩ rfl _ hwc)
  isplitl [H22]; · iexact H22
  iintro H22
  have h8 := chk6 (BitVec.ofNat 32 n) b j b.isLt j.isLt
  sl_exec (disch := exact h8)
  sl_step
  iapply HQ
  isplitl [H21 H22]
  · isplitl [H21]
    · iexact H21
    · iexact H22
  unfold flightP
  isplitl [Ha Ta]
  · isplitl [Ha]
    · iexists fa; iexact Ha
    · iexact Ta
  isplitl [Hb Tb]
  · isplitl [Hb]
    · iexists fb; iexact Hb
    · iexact Tb
  · isplitl [Hc]
    · iexists fc; iexact Hc
    · iexact Tc

end Cert.KernelIdeal.Hand

end
-- ==== Proof.PreEqI.lean ====
/- Hand-written. -/
module

public import proofs.«01_k».proof.Proof.PreI
public import proofs.«01_k».proof.Proof.Seg2I
public import proofs.«01_k».proof.Proof.RestI
public import proofs.«01_k».proof.Proof.BodyEqI
public import proofs.«01_k».proof.Proof.RingI
public import proofs.«01_k».proof.Proof.SlotI
public import proofs.«01_k».proof.Proof.InitI
public import proofs.«01_k».proof.Proof.ModelI
public import proofs.«01_k».proof.Proof.Gen.KernelIdeal.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

set_option maxHeartbeats 2000000 in
theorem part17_eq :
    k0_part17 (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 = preB arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 := by
  rw [k0_part17_eq_skeleton]
  unfold k0_part17_skel preB
  congr 1; funext v1
  congr 1; funext h7
  by_cases h1 : k0_cond1 v1 = 1#1 <;> by_cases h2 : k0_cond2 v1 = 1#1 <;> by_cases h3 : k0_cond3 v1 = 1#1 <;>
    simp only [dif_pos, dif_neg, h1, h2, h3, not_false_eq_true, bind_assoc, pure_bind, segPre1, segPre2, segPre3, segQuant]
  all_goals repeat' (refine congr (congrArg bind (by with_reducible rfl)) (funext fun _ => ?_))
  all_goals rfl

end Cert.KernelIdeal.Hand

end
-- ==== Proof.WorkI.lean ====
/- Hand-written. -/
module

public import proofs.«01_k».proof.Proof.TripI
public import proofs.«01_k».proof.Proof.Seg2I
public import proofs.«01_k».proof.Proof.RestI
public import proofs.«01_k».proof.Proof.BodyEqI
public import proofs.«01_k».proof.Proof.RingI
public import proofs.«01_k».proof.Proof.SlotI
public import proofs.«01_k».proof.Proof.InitI
public import proofs.«01_k».proof.Proof.ModelI
public import proofs.«01_k».proof.Proof.Gen.KernelIdeal.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-! ## The work list: each sequence's chunks, one after the other -/

/-- The place at which sequence `b`'s chunks start, for chunk counts `L`. -/
def startAt (L : ℕ → ℕ) : ℕ → ℕ
  | 0 => 0
  | b + 1 => startAt L b + L b

/-- The last sequence up to `m` starting at or before place `p`. -/
def seqUpto (L : ℕ → ℕ) (p : ℕ) : ℕ → ℕ
  | 0 => 0
  | b + 1 => if startAt L (b + 1) ≤ p then b + 1 else seqUpto L p b

theorem seqUpto_le (L : ℕ → ℕ) (p m : ℕ) : seqUpto L p m ≤ m := by
  induction m with
  | zero => exact Nat.le_refl _
  | succ m ih => unfold seqUpto; split <;> omega

/-- The sequence of place `p`. -/
def placeB (L : ℕ → ℕ) (p : ℕ) : Fin 20 := ⟨seqUpto L p 19, by have := seqUpto_le L p 19; omega⟩
/-- Its chunk. -/
def placeC (L : ℕ → ℕ) (p : ℕ) : Fin 8 := ⟨(p - startAt L (placeB L p)) % 8, Nat.mod_lt _ (by decide)⟩

theorem startAt_mono (L : ℕ → ℕ) (a d : ℕ) : startAt L a ≤ startAt L (a + d) := by
  induction d with
  | zero => exact Nat.le_refl _
  | succ d ih => exact Nat.le_trans ih (Nat.le_add_right _ _)

theorem seqUpto_at (L : ℕ → ℕ) (b c m : ℕ) (hc : c < L b) (hb : b ≤ m) : seqUpto L (startAt L b + c) m = b := by
  induction m with
  | zero => unfold seqUpto; omega
  | succ m ih =>
    unfold seqUpto
    by_cases e : b = m + 1
    · subst e; rw [if_pos (Nat.le_add_right _ _)]
    · have h := startAt_mono L (b + 1) (m - b)
      rw [show b + 1 + (m - b) = m + 1 by omega, show startAt L (b + 1) = startAt L b + L b from rfl] at h
      rw [if_neg (by omega)]
      exact ih (by omega)

theorem placeB_at (L : ℕ → ℕ) (b c : ℕ) (hb : b < 20) (hc : c < L b) : (placeB L (startAt L b + c)).val = b := seqUpto_at L b c 19 hc (by omega)
theorem placeC_at (L : ℕ → ℕ) (b c : ℕ) (hb : b < 20) (hc : c < L b) (h8 : L b ≤ 8) : (placeC L (startAt L b + c)).val = c := by
  show (startAt L b + c - startAt L (placeB L (startAt L b + c)).val) % 8 = c
  rw [placeB_at L b c hb hc]; omega

theorem startAt_le (L : ℕ → ℕ) (hL : ∀ b, L b ≤ 8) (b : ℕ) : startAt L b ≤ 8 * b := by
  induction b with
  | zero => exact Nat.le_refl _
  | succ b ih => have := hL b; show startAt L b + L b ≤ _; omega
theorem le_startAt (L : ℕ → ℕ) (hL : ∀ b, 1 ≤ L b) (b : ℕ) : b ≤ startAt L b := by
  induction b with
  | zero => exact Nat.le_refl _
  | succ b ih => have := hL b; show _ ≤ startAt L b + L b; omega

/-- The chunk counts of the sequences. -/
def counts (I : In F) (b : ℕ) : ℕ := if h : b < 20 then nch (I.lenw ⟨b, h⟩) else 1

/-- Every sequence's length is at most the cache's. -/
def LenOk (I : In F) : Prop := ∀ b, (I.lenw b).toInt ≤ 8192

theorem counts_pos (I : In F) (h : LenOk I) (b : ℕ) : 1 ≤ counts I b := by
  unfold counts; split
  · exact (nch_facts _ (h _)).1
  · exact Nat.le_refl _
theorem counts_le (I : In F) (h : LenOk I) (b : ℕ) : counts I b ≤ 8 := by
  unfold counts; split
  · exact (nch_facts _ (h _)).2.1
  · decide

/-- The first `m` places of the two lists are written. -/
def Listed (L : ℕ → ℕ) (wb wc : Vec F S160 .i32) (m : ℕ) : Prop :=
  ∀ p : Fin 160, p.val < m → wb (ix1 p) = BitVec.ofNat 32 (placeB L p.val).val ∧ wc (ix1 p) = BitVec.ofNat 32 (placeC L p.val).val

/-- A list with one word set. -/
def setw (w : Vec F S160 .i32) (p : ℕ) (v : Elt F .i32) : Vec F S160 .i32 := VecWindow.put w ![p] S1.size (fun _ => v)

theorem setw_at (w : Vec F S160 .i32) (p : ℕ) (v : Elt F .i32) (q : Fin 160) : setw w p v (ix1 q) = if q.val = p then v else w (ix1 q) := by
  unfold setw VecWindow.put
  by_cases h : q.val = p
  · rw [if_pos h, dif_pos]
    intro a
    match a with
    | ⟨0, _⟩ => show p ≤ q.val ∧ q.val < p + 1; omega
  · rw [if_neg h, dif_neg]
    intro hh
    have := hh 0
    change p ≤ q.val ∧ q.val < p + 1 at this
    omega

theorem listed_step (L : ℕ → ℕ) (wb wc : Vec F S160 .i32) (b c : ℕ) (hb : b < 20) (hc : c < L b) (h8 : L b ≤ 8) (h : Listed L wb wc (startAt L b + c)) :
    Listed L (setw wb (startAt L b + c) (BitVec.ofNat 32 b)) (setw wc (startAt L b + c) (BitVec.ofNat 32 c)) (startAt L b + c + 1) := by
  intro p hp
  rw [setw_at, setw_at]
  by_cases e : p.val = startAt L b + c
  · rw [if_pos e, if_pos e, e, placeB_at L b c hb hc, placeC_at L b c hb hc h8]; exact ⟨rfl, rfl⟩
  · rw [if_neg e, if_neg e]; exact h p (by omega)

/-- One chunk of a sequence written to the lists. -/
theorem list_step_run (c : Dev nD) (wb wc : Vec F S160 .i32) (p : ℕ) (hp : p < 160) (x : BitVec 32) (v : Elt F .i32) (h1) (k : Fin (k0_t2_loop v).trips) (Q : BitVec 32 → sProp 𝕄) :
    iprop(wOwn c arg21 arg22 wb wc ∗ (wOwn c arg21 arg22 (setw wb p x) (setw wc p (Scf.iv 0#32 1#32 k)) -∗ Q (Scalar.addi (BitVec.ofNat 32 p) 1#32)))
      ⊢ wp frame (wpE (defs₀ (F := F)) Variants.none (c : Thread nD τ) none) Set.univ
        (k0_t2_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 x v h1 k (BitVec.ofNat 32 p)) Q := by
  have ho : k0_off2 (BitVec.ofNat 32 p) = ![p] := by
    funext a
    match a with
    | ⟨0, _⟩ => exact ofNat_toNat p (by omega)
  have hch := chk2 p hp
  unfold wOwn k0_t2_body
  iintro ⟨⟨Hb, Hc⟩, HQ⟩
  sl_exec (disch := exact hch)
  sl_step
  unfold list_step_run.sl.v140
  iapply HQ
  isplitl [Hb]
  · iapply (pointsTo_rep_of_read (c : Thread nD τ) arg21 _ fullShare (setw wb p x) (View.read_writes_rep_unit _ _ _ _ ho)); iexact Hb
  · iapply (pointsTo_rep_of_read (c : Thread nD τ) arg22 _ fullShare (setw wc p (Scf.iv 0#32 1#32 k)) (View.read_writes_rep_unit _ _ _ _ ho)); iexact Hc

/-- What holds before chunk `i` of sequence `b`. -/
def chunkInv (c : Dev nD) (L : ℕ → ℕ) (b : ℕ) (i : ℕ) (a : BitVec 32) : sProp 𝕄 :=
  iprop(⌜a = BitVec.ofNat 32 (startAt L b + i)⌝ ∗ ∃ wb wc, ⌜Listed (F := F) L wb wc (startAt L b + i)⌝ ∗ wOwn c arg21 arg22 wb wc)

theorem addi_one (p : ℕ) : Scalar.addi (BitVec.ofNat 32 p) 1#32 = BitVec.ofNat 32 (p + 1) := by
  show BitVec.ofNat 32 p + 1#32 = _
  rw [← BitVec.ofNat_add]

theorem chunks_run (c : Dev nD) (L : ℕ → ℕ) (hL : ∀ b, L b ≤ 8) (b : ℕ) (hb : b < 20) (v : Elt F .i32) (hv : nch v = L b) (h1) (a : BitVec 32) (Q : BitVec 32 → sProp 𝕄) :
    iprop(chunkInv (F := F) arg21 arg22 c L b 0 a ∗ (∀ a, chunkInv (F := F) arg21 arg22 c L b (L b) a -∗ Q a))
      ⊢ wp frame (wpE (defs₀ (F := F)) Variants.none (c : Thread nD τ) none) Set.univ
        (Scf.Loop.for (k0_t2_loop v) (k0_t2_ok v h1) a (k0_t2_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 (Scf.iv 0#32 1#32 b) v h1)) Q := by
  have key := Scf.wp_for frame (wpE (defs₀ (F := F)) Variants.none (c : Thread nD τ) none) Set.univ (k0_t2_loop v).lb (k0_t2_loop v).ub (k0_t2_loop v).st
    (k0_t2_ok v h1) a
    (k0_t2_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 (Scf.iv 0#32 1#32 b) v h1)
    (chunkInv (F := F) arg21 arg22 c L b) ?_ (Q := Q)
  · have ht' : Scf.trips (k0_t2_loop v).lb (k0_t2_loop v).ub (k0_t2_loop v).st = L b := hv
    rw [ht'] at key
    exact key
  · intro k a
    have hk : k.val < L b := Nat.lt_of_lt_of_eq k.isLt hv
    have hp : startAt L b + k.val < 160 := by have := startAt_le L hL b; have := hL b; omega
    unfold chunkInv
    iintro ⟨%ha, %wb, %wc, %hw, Hw⟩
    subst ha
    iapply (list_step_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c wb wc (startAt L b + k.val) hp (Scf.iv 0#32 1#32 b) v h1 k)
    isplitl [Hw]; · iexact Hw
    iintro Hw
    isplitr
    · ipureintro; exact addi_one _
    iexists _; iexists _
    isplitr; swap; · iexact Hw
    ipureintro
    have := listed_step L wb wc b k.val hb hk (hL b) hw
    rw [iv_eq, iv_eq]
    exact this

/-- What holds before sequence `b`. -/
def seqInv (c : Dev nD) (I : In F) (b : ℕ) (a : BitVec 32) : sProp 𝕄 :=
  iprop((arg0.view.loc (c : Thread nD τ) ↦[arg0.view.set]{fullShare} arg0.view.rep I.len) ∗ chunkInv (F := F) arg21 arg22 c (counts I) b 0 a)

theorem len_at (I : In F) (b : Fin 20) : I.len (ix1 b) = I.lenw b := by
  unfold In.lenw
  congr 1
  funext a
  match a with
  | ⟨0, _⟩ => rfl

theorem seq_step_run (c : Dev nD) (I : In F) (hI : LenOk I) (k : Fin k0_t1_loop.trips) (a : BitVec 32) (Q : BitVec 32 → sProp 𝕄) :
    iprop(seqInv arg0 arg21 arg22 c I k.val a ∗ (∀ a, seqInv arg0 arg21 arg22 c I (k.val + 1) a -∗ Q a))
      ⊢ wp frame (wpE (defs₀ (F := F)) Variants.none (c : Thread nD τ) none) Set.univ
        (k0_t1_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 k a) Q := by
  have hk : k.val < 20 := Nat.lt_of_lt_of_eq k.isLt (by decide)
  have ho : k0_off1 k 0 = (⟨k.val, hk⟩ : Fin 20).val := iv_toNat k.val (by omega)
  have hch := chk1 (I.lenw ⟨k.val, hk⟩) (hI _)
  have hcnt : nch (I.lenw ⟨k.val, hk⟩) = counts I k.val := by unfold counts; rw [dif_pos hk]
  unfold seqInv k0_t1_body
  iintro ⟨⟨H0, Hw⟩, HQ⟩
  rw [wp_bind]
  iapply (smem_run c arg0 I.len (k0_off1 k) _ _ ⟨k.val, hk⟩ ho _ (len_at I ⟨k.val, hk⟩))
  isplitl [H0]; · iexact H0
  iintro H0
  rw [wp_bind]
  iapply (assume_run c _ _ hch)
  rw [wp_bind]
  iapply (chunks_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c (counts I) (counts_le I hI) k.val hk (I.lenw ⟨k.val, hk⟩) hcnt _ a)
  isplitl [Hw]; · iexact Hw
  iintro %a2 Hw
  sl_exec
  iapply HQ
  isplitl [H0]; · iexact H0
  iexact Hw

/-- The lists written. -/
theorem list_run (c : Dev nD) (I : In F) (hI : LenOk I) (Q : BitVec 32 → sProp 𝕄) :
    iprop(seqInv arg0 arg21 arg22 c I 0 0#32 ∗ (∀ a, seqInv arg0 arg21 arg22 c I 20 a -∗ Q a))
      ⊢ wp frame (wpE (defs₀ (F := F)) Variants.none (c : Thread nD τ) none) Set.univ
        (Scf.Loop.for k0_t1_loop k0_t1_ok 0#32 (k0_t1_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22)) Q := by
  have key := Scf.wp_for frame (wpE (defs₀ (F := F)) Variants.none (c : Thread nD τ) none) Set.univ k0_t1_loop.lb k0_t1_loop.ub k0_t1_loop.st
    k0_t1_ok 0#32
    (k0_t1_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22)
    (seqInv arg0 arg21 arg22 c I) ?_ (Q := Q)
  · have ht' : Scf.trips k0_t1_loop.lb k0_t1_loop.ub k0_t1_loop.st = 20 := by decide
    rw [ht'] at key
    exact key
  · intro k a
    iintro H
    iapply (seq_step_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I hI k a)
    isplitl [H]; · iexact H
    iintro %a2 H
    iexact H

end Cert.KernelIdeal.Hand

end
-- ==== Proof.LoopI.lean ====
/- Hand-written. -/
module

public import proofs.«01_k».proof.Proof.TripI
public import proofs.«01_k».proof.Proof.Seg2I
public import proofs.«01_k».proof.Proof.RestI
public import proofs.«01_k».proof.Proof.BodyEqI
public import proofs.«01_k».proof.Proof.RingI
public import proofs.«01_k».proof.Proof.SlotI
public import proofs.«01_k».proof.Proof.InitI
public import proofs.«01_k».proof.Proof.ModelI
public import proofs.«01_k».proof.Proof.Gen.KernelIdeal.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-! ## The main loop -/

/-- The state before trip `i`. -/
def sSeq (I : In F) (B : ℕ → Fin 20) (C : ℕ → Fin 8) (s0 : St F) : ℕ → St F
  | 0 => s0
  | i + 1 => stNext I B C i (sSeq I B C s0 i)

/-- The first result before trip `i`. -/
def oSeq (I : In F) (B : ℕ → Fin 20) (C : ℕ → Fin 8) (n : ℕ) (s0 : St F) (O0 : Vec F S20x32x96 .bf16) : ℕ → Vec F S20x32x96 .bf16
  | 0 => O0
  | i + 1 => outNext B C n i (sSeq I B C s0 (i + 1)) (oSeq I B C n s0 O0 i)

/-- What holds before trip `i`. -/
def loopInv (c : Dev nD) (I : In F) (B : ℕ → Fin 20) (C : ℕ → Fin 8) (n : ℕ) (wb wc : Vec F S160 .i32) (s0 : St F) (O0 : Vec F S20x32x96 .bf16)
    (i : ℕ) (_ : BitVec 32) : sProp 𝕄 :=
  iprop(wOwn c arg21 arg22 wb wc ∗ inOwn arg1 arg2 arg3 arg4 c I ∗ (arg0.view.loc (c : Thread nD τ) ↦[arg0.view.set]{fullShare} arg0.view.rep I.len)
        ∗ stOwn arg16 arg17 arg18 arg19 arg20 c (sSeq I B C s0 i) ∗ outOwn arg8 c (oSeq I B C n s0 O0 i)
        ∗ ringOwn c I (ringAt B C n i) ∗ (∃ W, owes (c : Thread nD τ) 0 W))

theorem loop_run (c : Dev nD) (I : In F) (B : ℕ → Fin 20) (C : ℕ → Fin 8) (n : ℕ) (hn : n ≤ 160) (h7)
    (wb wc : Vec F S160 .i32)
    (hw : ∀ p : Fin 160, p.val < n → wb (ix1 p) = BitVec.ofNat 32 (B p.val).val ∧ wc (ix1 p) = BitVec.ofNat 32 (C p.val).val)
    (s : St F) (O : Vec F S20x32x96 .bf16) (Q : BitVec 32 → sProp 𝕄) :
    iprop(loopInv arg0 arg1 arg2 arg3 arg4 arg8 arg16 arg17 arg18 arg19 arg20 arg21 arg22 c I B C n wb wc s O 0 0#32
      ∗ (∀ a, loopInv arg0 arg1 arg2 arg3 arg4 arg8 arg16 arg17 arg18 arg19 arg20 arg21 arg22 c I B C n wb wc s O n a -∗ Q a))
      ⊢ wp frame (wpE (defs₀ (F := F)) Variants.none (c : Thread nD τ) none) Set.univ
        (Scf.Loop.for (k0_t4_loop (BitVec.ofNat 32 n)) (k0_t4_ok (BitVec.ofNat 32 n) h7) 0#32
          (k0_t4_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 (BitVec.ofNat 32 n) h7 lanes)) Q := by
  have ht : (k0_t4_loop (BitVec.ofNat 32 n)).trips = n := t4_trips n (by omega)
  have key := Scf.wp_for frame (wpE (defs₀ (F := F)) Variants.none (c : Thread nD τ) none) Set.univ (k0_t4_loop (BitVec.ofNat 32 n)).lb (k0_t4_loop (BitVec.ofNat 32 n)).ub (k0_t4_loop (BitVec.ofNat 32 n)).st
    (k0_t4_ok (BitVec.ofNat 32 n) h7) 0#32
    (k0_t4_body (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 (BitVec.ofNat 32 n) h7 lanes)
    (loopInv arg0 arg1 arg2 arg3 arg4 arg8 arg16 arg17 arg18 arg19 arg20 arg21 arg22 c I B C n wb wc s O) ?_ (Q := Q)
  · have ht' : Scf.trips (k0_t4_loop (BitVec.ofNat 32 n)).lb (k0_t4_loop (BitVec.ofNat 32 n)).ub (k0_t4_loop (BitVec.ofNat 32 n)).st = n := ht
    rw [ht'] at key
    exact key
  · intro k a
    rw [t4_body_eq]
    unfold loopInv
    iintro ⟨Hw, Hi, H0, Hs, Ho, Hr, ⟨%W, HO⟩⟩
    iapply (trip_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I B C n hn k h7 wb wc hw (sSeq I B C s k.val) (oSeq I B C n s O k.val) W)
    isplitl [Hw]; · iexact Hw
    isplitl [Hi]; · iexact Hi
    isplitl [H0]; · iexact H0
    isplitl [Hs]; · iexact Hs
    isplitl [Ho]; · iexact Ho
    isplitl [Hr]; · iexact Hr
    isplitl [HO]; · iexact HO
    iintro H
    iexact H

end Cert.KernelIdeal.Hand

end
-- ==== Proof.OutI.lean ====
/- Hand-written. -/
module

public import proofs.«01_k».proof.Proof.TripI
public import proofs.«01_k».proof.Proof.PreI
public import proofs.«01_k».proof.Proof.WorkI
public import proofs.«01_k».proof.Proof.LoopI
public import proofs.«01_k».proof.Proof.Seg2I
public import proofs.«01_k».proof.Proof.RestI
public import proofs.«01_k».proof.Proof.BodyEqI
public import proofs.«01_k».proof.Proof.RingI
public import proofs.«01_k».proof.Proof.SlotI
public import proofs.«01_k».proof.Proof.InitI
public import proofs.«01_k».proof.Proof.ModelI
public import proofs.«01_k».proof.Proof.Gen.KernelIdeal.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-! ## The first result after the loop: every sequence's slab -/

section
variable (I : In F) (hI : LenOk I) (s0 : St F) (O0 : Vec F S20x32x96 .bf16)

/-- The state and result sequences over the written list. -/
abbrev sAt (i : ℕ) : St F := sSeq I (placeB (counts I)) (placeC (counts I)) s0 i
abbrev oAt (i : ℕ) : Vec F S20x32x96 .bf16 := oSeq I (placeB (counts I)) (placeC (counts I)) (startAt (counts I) 20) s0 O0 i

include hI in
theorem place_at (b c : ℕ) (hb : b < 20) (hc : c < counts I b) :
    placeB (counts I) (startAt (counts I) b + c) = ⟨b, hb⟩ ∧ placeC (counts I) (startAt (counts I) b + c) = ⟨c, Nat.lt_of_lt_of_le hc (counts_le I hI b)⟩ :=
  ⟨Fin.ext (placeB_at _ b c hb hc), Fin.ext (placeC_at _ b c hb hc (counts_le I hI b))⟩

include hI in
theorem sAt_in (b c : ℕ) (hb : b < 20) (hc : c < counts I b) : sAt I s0 (startAt (counts I) b + c + 1) = stAt I ⟨b, hb⟩ (c + 1) := by
  obtain ⟨e1, e2⟩ := place_at I hI b c hb hc
  have h8 := counts_le I hI b
  induction c with
  | zero =>
    show stNext I _ _ _ _ = _
    unfold stNext
    rw [Nat.add_zero] at e1 e2
    rw [Nat.add_zero, e1, e2, if_pos rfl]
    rfl
  | succ c ih =>
    obtain ⟨f1, f2⟩ := place_at I hI b c hb (by omega)
    have := ih (by omega) f1 f2
    have hm : (⟨(c + 1) % 8, Nat.mod_lt _ (by decide)⟩ : Fin 8) = ⟨c + 1, by omega⟩ := Fin.ext (Nat.mod_eq_of_lt (by omega))
    have h2 : stAt I ⟨b, hb⟩ (c + 1 + 1) = stepSt I ⟨b, hb⟩ ⟨(c + 1) % 8, Nat.mod_lt _ (by decide)⟩ (stAt I ⟨b, hb⟩ (c + 1)) := rfl
    have h3 : sAt I s0 (startAt (counts I) b + (c + 1) + 1) = stNext I (placeB (counts I)) (placeC (counts I)) (startAt (counts I) b + (c + 1)) (sAt I s0 (startAt (counts I) b + c + 1)) := rfl
    rw [h3, h2, hm, this]
    unfold stNext
    rw [e1, e2, if_neg (Nat.succ_ne_zero c)]

include hI in
theorem oAt_in (b c : ℕ) (hb : b < 20) (hc : c < counts I b) : oAt I s0 O0 (startAt (counts I) b + c) = oAt I s0 O0 (startAt (counts I) b) := by
  induction c with
  | zero => rfl
  | succ c ih =>
    rw [← ih (by omega)]
    have hlt : startAt (counts I) b + (c + 1) < startAt (counts I) 20 := by
      have h := startAt_mono (counts I) (b + 1) (19 - b)
      rw [show b + 1 + (19 - b) = 20 by omega, show startAt (counts I) (b + 1) = startAt (counts I) b + counts I b from rfl] at h
      omega
    obtain ⟨e1, e2⟩ := place_at I hI b (c + 1) hb hc
    have h3 : oAt I s0 O0 (startAt (counts I) b + (c + 1)) = outNext (placeB (counts I)) (placeC (counts I)) (startAt (counts I) 20) (startAt (counts I) b + c)
      (sAt I s0 (startAt (counts I) b + c + 1)) (oAt I s0 O0 (startAt (counts I) b + c)) := rfl
    rw [h3]
    unfold outNext
    rw [if_neg]
    rintro (h | h)
    · omega
    · rw [show min (startAt (counts I) b + c + 1) (startAt (counts I) 20 - 1) = startAt (counts I) b + (c + 1) by omega, e2] at h
      exact Nat.succ_ne_zero c h

include hI in
theorem oAt_next (b : ℕ) (hb : b < 20) :
    oAt I s0 O0 (startAt (counts I) (b + 1)) = putSlab (oAt I s0 O0 (startAt (counts I) b)) ⟨b, hb⟩ (outSlab (stAt I ⟨b, hb⟩ (counts I b))) := by
  have hp := counts_pos I hI b
  have hc : counts I b - 1 < counts I b := by omega
  obtain ⟨e1, e2⟩ := place_at I hI b (counts I b - 1) hb hc
  have hs := sAt_in I hI s0 b (counts I b - 1) hb hc
  have ho := oAt_in I hI s0 O0 b (counts I b - 1) hb hc
  rw [show startAt (counts I) (b + 1) = startAt (counts I) b + (counts I b - 1) + 1 by show startAt (counts I) b + counts I b = _; omega]
  show outNext _ _ _ (startAt (counts I) b + (counts I b - 1)) (sAt I s0 (startAt (counts I) b + (counts I b - 1) + 1)) (oAt I s0 O0 (startAt (counts I) b + (counts I b - 1))) = _
  rw [hs, ho]
  unfold outNext
  rw [if_pos, e1, show counts I b - 1 + 1 = counts I b by omega]
  have hs1 : startAt (counts I) b + (counts I b - 1) + 1 = startAt (counts I) (b + 1) := by show _ = startAt (counts I) b + counts I b; omega
  rw [hs1]
  by_cases h19 : b = 19
  · subst h19; exact Or.inl rfl
  · right
    have hp' := counts_pos I hI (b + 1)
    obtain ⟨f1, f2⟩ := place_at I hI (b + 1) 0 (by omega) (by omega)
    have h := startAt_mono (counts I) (b + 2) (18 - b)
    rw [show b + 2 + (18 - b) = 20 by omega, show startAt (counts I) (b + 2) = startAt (counts I) (b + 1) + counts I (b + 1) from rfl] at h
    rw [show min (startAt (counts I) (b + 1)) (startAt (counts I) 20 - 1) = startAt (counts I) (b + 1) + 0 by omega, f2]

theorem putSlab_at (O : Vec F S20x32x96 .bf16) (b : Fin 20) (w : Vec F S1x32x96 .bf16) (i : S20x32x96.Idx) :
    putSlab O b w i = if (i 0).val = b.val then w (fun a => match a with
      | ⟨0, _⟩ => (0 : Fin 1)
      | ⟨1, _⟩ => i 1
      | ⟨2, _⟩ => i 2) else O i := by
  unfold putSlab VecWindow.put
  have h1 : (i 1).val < 32 := (i 1).isLt
  have h2 : (i 2).val < 96 := (i 2).isLt
  by_cases h : (i 0).val = b.val
  · rw [if_pos h, dif_pos]
    · congr 1
      funext a
      match a with
      | ⟨0, _⟩ => exact Fin.ext (by show (i 0).val - b.val = 0; omega)
      | ⟨1, _⟩ => exact Fin.ext (by show (i 1).val - 0 = (i 1).val; omega)
      | ⟨2, _⟩ => exact Fin.ext (by show (i 2).val - 0 = (i 2).val; omega)
    · intro a
      match a with
      | ⟨0, _⟩ => show b.val ≤ (i 0).val ∧ (i 0).val < b.val + 1; omega
      | ⟨1, _⟩ => show 0 ≤ (i 1).val ∧ (i 1).val < 0 + 32; omega
      | ⟨2, _⟩ => show 0 ≤ (i 2).val ∧ (i 2).val < 0 + 96; omega
  · rw [if_neg h, dif_neg]
    intro hh
    have := hh 0
    change b.val ≤ (i 0).val ∧ (i 0).val < b.val + 1 at this
    omega

include hI in
theorem oAt_slabs (b : ℕ) (hb : b ≤ 20) (i : S20x32x96.Idx) (hi : (i 0).val < b) : oAt I s0 O0 (startAt (counts I) b) i = outAll I i := by
  induction b with
  | zero => omega
  | succ b ih =>
    rw [oAt_next I hI s0 O0 b (by omega), putSlab_at]
    by_cases h : (i 0).val = b
    · rw [if_pos h]
      subst h
      unfold outAll
      have : counts I (i 0).val = nch (I.lenw (i 0)) := by exact dif_pos (show (i 0).val < 20 from (i 0).isLt)
      rw [this]
      refine congrArg (outSlab (stAt I (i 0) (nch (I.lenw (i 0))))) (funext fun a => ?_)
      match a with
      | ⟨0, _⟩ => rfl
      | ⟨1, _⟩ => rfl
      | ⟨2, _⟩ => rfl
    · rw [if_neg h]
      exact ih (by omega) (by omega)

include hI in
theorem oAt_end : oAt I s0 O0 (startAt (counts I) 20) = outAll I :=
  funext fun i => oAt_slabs I hI s0 O0 20 (Nat.le_refl _) i (i 0).isLt
end

end Cert.KernelIdeal.Hand

end
-- ==== Proof.BodyI.lean ====
/- Hand-written. -/
module

public import proofs.«01_k».proof.Proof.TripI
public import proofs.«01_k».proof.Proof.PreI
public import proofs.«01_k».proof.Proof.PreEqI
public import proofs.«01_k».proof.Proof.OutI
public import proofs.«01_k».proof.Proof.WorkI
public import proofs.«01_k».proof.Proof.LoopI
public import proofs.«01_k».proof.Proof.Seg2I
public import proofs.«01_k».proof.Proof.RestI
public import proofs.«01_k».proof.Proof.BodyEqI
public import proofs.«01_k».proof.Proof.RingI
public import proofs.«01_k».proof.Proof.SlotI
public import proofs.«01_k».proof.Proof.InitI
public import proofs.«01_k».proof.Proof.ModelI
public import proofs.«01_k».proof.Proof.Gen.KernelIdeal.Launch
public import Idealize.ShloMosaic.Lib.Pipeline.FrameBody
public import Idealize.ShloMosaic.Lib.VecWindow
public import Idealize.ShloMosaic.Lib.Ring
public import Idealize.ShloMosaic.Lib.LoopRemainder
public import Idealize.ShloMosaic.Lib.Tactic

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (arg0 : Memref sig .tc .smem S20 .i32)
variable (harg0 : arg0.IsWhole)
variable (arg1 : Memref sig .tc .vmem S20x32x96 .bf16)
variable (harg1 : arg1.IsWhole)
variable (arg2 : Memref sig .tc .vmem S20x8x96 .bf16)
variable (harg2 : arg2.IsWhole)
variable (arg3 : Memref sig .tc .vmem S20x8x96 .bf16)
variable (harg3 : arg3.IsWhole)
variable (arg4 : Memref sig .tc .vmem S20x8x96 .f32)
variable (harg4 : arg4.IsWhole)
variable (arg8 : Memref sig .tc .vmem S20x32x96 .bf16)
variable (harg8 : arg8.IsWhole)
variable (arg9 : Memref sig .tc .vmem S20x8x96 .i8)
variable (harg9 : arg9.IsWhole)
variable (arg10 : Memref sig .tc .vmem S20x8x48 .i32)
variable (harg10 : arg10.IsWhole)
variable (arg11 : Memref sig .tc .vmem S20x8x1 .f32)
variable (harg11 : arg11.IsWhole)
variable (arg16 : Memref sig .tc .vmem S768x128 .bf16)
variable (harg16 : arg16.IsWhole)
variable (arg17 : Memref sig .tc .vmem S32x768 .bf16)
variable (harg17 : arg17.IsWhole)
variable (arg18 : Memref sig .tc .vmem S32x128 .f32)
variable (harg18 : arg18.IsWhole)
variable (arg19 : Memref sig .tc .vmem S32x128 .f32)
variable (harg19 : arg19.IsWhole)
variable (arg20 : Memref sig .tc .vmem S768x32 .f32)
variable (harg20 : arg20.IsWhole)
variable (arg21 : Memref sig .tc .smem S160 .i32)
variable (harg21 : arg21.IsWhole)
variable (arg22 : Memref sig .tc .smem S160 .i32)
variable (harg22 : arg22.IsWhole)

variable [∀ e, Nonempty (Elt F e)]

/-! ## The whole body -/

/-- The new keys' codes. -/
def kCodes (I : In F) : Vec F S20x8x96 .i8 := k0_pay94 I.kn I.ks
/-- The new values' scales. -/
def vScale (I : In F) : Vec F S20x8x1 .f32 := k0_pay96 (k0_pay95 I.vn)
/-- The new values' codes, packed. -/
def vCodes (I : In F) : Vec F S20x8x48 .i32 := k0_pay1 (k0_pay98 (k0_pay93 I.vn) (k0_pay95 I.vn)) (k0_pay99 (k0_pay93 I.vn) (k0_pay95 I.vn)) 4#32

theorem ringAt_zero (B : ℕ → Fin 20) (C : ℕ → Fin 8) (n : ℕ) (hn : 20 ≤ n) :
    ringAt B C n 0 = Function.update (Function.update (Function.update (fun _ => none : Fin 4 → Option (Fin 20 × Fin 8)) 0 (some (B 0, C 0))) 1 (some (B 1, C 1))) 2 (some (B 2, C 2)) := by
  funext k
  unfold ringAt dist
  match k with
  | ⟨0, _⟩ => rw [if_pos (by simp only []; omega)]; simp [Function.update]
  | ⟨1, _⟩ => rw [if_pos (by simp only []; omega)]; simp [Function.update]
  | ⟨2, _⟩ => rw [if_pos (by simp only []; omega)]; simp [Function.update]
  | ⟨3, _⟩ => rw [if_neg (by simp only []; omega)]; simp [Function.update]

theorem ringAt_end (B : ℕ → Fin 20) (C : ℕ → Fin 8) (n : ℕ) : ringAt B C n n = fun _ => none := by
  funext k
  unfold ringAt
  rw [if_neg (by omega)]

/-- A free ring's slot taken out and, filled, put back. -/
theorem ring_take (c : Dev nD) (I : In F) (st : Fin 4 → Option (Fin 20 × Fin 8)) (k : Fin 4) (h : st k = none) (v : Option (Fin 20 × Fin 8)) :
    ringOwn c I st ⊢ iprop(slotSt c I k none ∗ (slotSt c I k v -∗ ringOwn c I (Function.update st k v))) := by
  unfold ringOwn
  rw [Ring.AtW_focus (σ := fun _ : Fin 4 => Option (Fin 20 × Fin 8)) (slotSt c I) st k, h]
  iintro ⟨Hs, Hr⟩
  isplitl [Hs]; · iexact Hs
  iintro Hs
  iapply (Ring.AtW_update (σ := fun _ : Fin 4 => Option (Fin 20 × Fin 8)) (slotSt c I))
  isplitl [Hs]; · iexact Hs
  iexact Hr

theorem part17_run (c : Dev nD) (I : In F) (hI : LenOk I) (wb wc : Vec F S160 .i32) (v9 : Vec F S20x8x96 .i8)
    (Q : (Σ' (v1 : BitVec 32) (k0_hw7 : k0_chk7 v1) (v16 : FVec F S20x8x96 .f32), FVec F S20x8x96 .f32) → sProp 𝕄) :
    iprop((arg0.view.loc (c : Thread nD τ) ↦[arg0.view.set]{fullShare} arg0.view.rep I.len) ∗ inOwn arg1 arg2 arg3 arg4 c I
      ∗ wOwn c arg21 arg22 wb wc ∗ (arg9.view.loc (c : Thread nD τ) ↦[arg9.view.set]{fullShare} arg9.view.rep v9) ∗ ringOwn c I (fun _ => none)
      ∗ (∀ h7, (∃ wb wc, ⌜Listed (F := F) (counts I) wb wc (startAt (counts I) 20)⌝ ∗ wOwn c arg21 arg22 wb wc)
          ∗ (arg0.view.loc (c : Thread nD τ) ↦[arg0.view.set]{fullShare} arg0.view.rep I.len) ∗ inOwn arg1 arg2 arg3 arg4 c I
          ∗ (arg9.view.loc (c : Thread nD τ) ↦[arg9.view.set]{fullShare} arg9.view.rep (kCodes I))
          ∗ ringOwn c I (ringAt (placeB (counts I)) (placeC (counts I)) (startAt (counts I) 20) 0)
          -∗ Q ⟨BitVec.ofNat 32 (startAt (counts I) 20), h7, k0_pay93 I.vn, k0_pay95 I.vn⟩))
      ⊢ wp frame (wpE (defs₀ (F := F)) Variants.none (c : Thread nD τ) none) Set.univ
        (k0_part17 (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22) Q := by
  have h20 : 20 ≤ startAt (counts I) 20 := le_startAt _ (counts_pos I hI) 20
  have h160 : startAt (counts I) 20 ≤ 160 := startAt_le _ (counts_le I hI) 20
  rw [part17_eq]
  unfold preB inOwn
  iintro ⟨H0, ⟨H1, H2, H3, H4⟩, Hw, H9, Hr, HQ⟩
  rw [wp_bind]
  iapply (list_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I hI)
  isplitl [H0 Hw]
  · unfold seqInv chunkInv
    isplitl [H0]; · iexact H0
    isplitr
    · ipureintro; rfl
    iexists wb; iexists wc
    isplitr; swap; · iexact Hw
    ipureintro
    exact fun p hp => absurd hp (Nat.not_lt_zero _)
  iintro %a Ha
  unfold seqInv chunkInv
  icases Ha with ⟨H0, ⟨%ha, %wb1, %wc1, %hw, Hw⟩⟩
  subst ha
  rw [Nat.add_zero] at hw ⊢
  generalize hn : startAt (counts I) 20 = n at h20 h160 hw ⊢
  rw [ringAt_zero _ _ n h20]
  rw [wp_bind]
  iapply (assume_run c _ _ (chk7 n h160))
  rw [wp_bind]
  ihave Hr := (ring_take c I (fun _ => none) 0 rfl (some (placeB (counts I) 0, placeC (counts I) 0))) $$ Hr
  icases Hr with ⟨Hs, Hr⟩
  iapply (pre1_run arg21 arg22 c I n h160 (by omega) (placeB (counts I) 0) (placeC (counts I) 0) wb1 wc1 (hw ⟨0, by decide⟩ (by simp only []; omega)).1 (hw ⟨0, by decide⟩ (by simp only []; omega)).2)
  isplitl [Hw]; · iexact Hw
  isplitl [Hs]; · iexact Hs
  iintro ⟨Hw, Hs⟩
  ihave Hr := Hr $$ Hs
  rw [wp_bind]
  ihave Hr := (ring_take c I _ 1 rfl (some (placeB (counts I) 1, placeC (counts I) 1))) $$ Hr
  icases Hr with ⟨Hs, Hr⟩
  iapply (pre2_run arg21 arg22 c I n h160 (by omega) (placeB (counts I) 1) (placeC (counts I) 1) wb1 wc1 (hw ⟨1, by decide⟩ (by simp only []; omega)).1 (hw ⟨1, by decide⟩ (by simp only []; omega)).2)
  isplitl [Hw]; · iexact Hw
  isplitl [Hs]; · iexact Hs
  iintro ⟨Hw, Hs⟩
  ihave Hr := Hr $$ Hs
  rw [wp_bind]
  ihave Hr := (ring_take c I _ 2 rfl (some (placeB (counts I) 2, placeC (counts I) 2))) $$ Hr
  icases Hr with ⟨Hs, Hr⟩
  iapply (pre3_run arg21 arg22 c I n h160 (by omega) (placeB (counts I) 2) (placeC (counts I) 2) wb1 wc1 (hw ⟨2, by decide⟩ (by simp only []; omega)).1 (hw ⟨2, by decide⟩ (by simp only []; omega)).2)
  isplitl [Hw]; · iexact Hw
  isplitl [Hs]; · iexact Hs
  iintro ⟨Hw, Hs⟩
  ihave Hr := Hr $$ Hs
  unfold segQuant
  sl_exec
  sl_step
  rw [View.readAt_rep_full arg3.view I.vn inb_S20x8x96_S20x8x96_0_0_0, View.readAt_rep_full arg2.view I.kn inb_S20x8x96_S20x8x96_0_0_0,
    View.readAt_rep_full arg4.view I.ks inb_S20x8x96_S20x8x96_0_0_0]
  iapply HQ
  isplitl [Hw]
  · iexists wb1; iexists wc1
    isplitr; swap; · iexact Hw
    ipureintro; exact hw
  isplitl [H0]; · iexact H0
  isplitl [H1 H2 H3 H4]
  · isplitl [H1]; · iexact H1
    isplitl [H2]; · iexact H2
    isplitl [H3]; · iexact H3
    iexact H4
  isplitl [H9]
  · iapply (pointsTo_rep_of_read (c : Thread nD τ) arg9 _ fullShare (kCodes I) (View.read_writes_full _ _ _ _ _)); iexact H9
  iexact Hr

theorem part18_run (c : Dev nD) (v11 : Vec F S20x8x1 .f32) (v16 v26 : FVec F S20x8x96 .f32)
    (Q : (Σ' (v66 : IVec S160x48 32) (v68 : IVec S160x48 32), BitVec 32) → sProp 𝕄) :
    iprop((arg11.view.loc (c : Thread nD τ) ↦[arg11.view.set]{fullShare} arg11.view.rep v11)
      ∗ ((arg11.view.loc (c : Thread nD τ) ↦[arg11.view.set]{fullShare} arg11.view.rep (k0_pay96 v26)) -∗ Q ⟨k0_pay98 v16 v26, k0_pay99 v16 v26, 4#32⟩))
      ⊢ wp frame (wpE (defs₀ (F := F)) Variants.none (c : Thread nD τ) none) Set.univ
        (k0_part18 (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22 v16 v26) Q := by
  rw [k0_part18_eq_skeleton]
  unfold k0_part18_skel
  iintro ⟨H11, HQ⟩
  sl_exec
  sl_step
  iapply HQ
  iapply (pointsTo_rep_of_read (c : Thread nD τ) arg11 _ fullShare (k0_pay96 v26) (View.read_writes_full _ _ _ _ _)); iexact H11

theorem body_run (c : Dev nD) (I : In F) (hI : LenOk I) (wb wc : Vec F S160 .i32) (s : St F) (O : Vec F S20x32x96 .bf16) (v9 : Vec F S20x8x96 .i8)
    (v10 : Vec F S20x8x48 .i32) (v11 : Vec F S20x8x1 .f32) (W : Waits sig Unit) (Q : PUnit → sProp 𝕄) :
    iprop((arg0.view.loc (c : Thread nD τ) ↦[arg0.view.set]{fullShare} arg0.view.rep I.len) ∗ inOwn arg1 arg2 arg3 arg4 c I
      ∗ outOwn arg8 c O
      ∗ (arg9.view.loc (c : Thread nD τ) ↦[arg9.view.set]{fullShare} arg9.view.rep v9)
      ∗ (arg10.view.loc (c : Thread nD τ) ↦[arg10.view.set]{fullShare} arg10.view.rep v10)
      ∗ (arg11.view.loc (c : Thread nD τ) ↦[arg11.view.set]{fullShare} arg11.view.rep v11)
      ∗ stOwn arg16 arg17 arg18 arg19 arg20 c s ∗ wOwn c arg21 arg22 wb wc ∗ ringOwn c I (fun _ => none) ∗ owes (c : Thread nD τ) 0 W
      ∗ ((arg0.view.loc (c : Thread nD τ) ↦[arg0.view.set]{fullShare} arg0.view.rep I.len) ∗ inOwn arg1 arg2 arg3 arg4 c I
          ∗ outOwn arg8 c (outAll I)
          ∗ (arg9.view.loc (c : Thread nD τ) ↦[arg9.view.set]{fullShare} arg9.view.rep (kCodes I))
          ∗ (arg10.view.loc (c : Thread nD τ) ↦[arg10.view.set]{fullShare} arg10.view.rep (vCodes I))
          ∗ (arg11.view.loc (c : Thread nD τ) ↦[arg11.view.set]{fullShare} arg11.view.rep (vScale I))
          ∗ (∃ s, stOwn arg16 arg17 arg18 arg19 arg20 c s) ∗ (∃ wb wc, wOwn c arg21 arg22 wb wc) ∗ ringOwn c I (fun _ => none)
          ∗ (∃ W, owes (c : Thread nD τ) 0 W) -∗ Q ⟨⟩))
      ⊢ wp frame (wpE (defs₀ (F := F)) Variants.none (c : Thread nD τ) none) Set.univ
        (cc0_int8k_int4v_decode (F := F) arg0 harg0 arg1 harg1 arg2 harg2 arg3 harg3 arg4 harg4 (Memref.whole main_v1) (Memref.isWhole_whole main_v1) (Memref.whole main_v5) (Memref.isWhole_whole main_v5) (Memref.whole main_v6) (Memref.isWhole_whole main_v6) arg8 harg8 arg9 harg9 arg10 harg10 arg11 harg11 (Memref.whole cc0_scratch0) (Memref.isWhole_whole cc0_scratch0) (Memref.whole cc0_scratch1) (Memref.isWhole_whole cc0_scratch1) (Memref.whole cc0_scratch2) (Memref.isWhole_whole cc0_scratch2) cc0_scratch3 arg16 harg16 arg17 harg17 arg18 harg18 arg19 harg19 arg20 harg20 arg21 harg21 arg22 harg22) Q := by
  have h160 : startAt (counts I) 20 ≤ 160 := startAt_le _ (counts_le I hI) 20
  have hend := oAt_end I hI s O
  unfold oAt at hend
  rw [cc0_int8k_int4v_decode_eq_skeleton]
  unfold cc0_int8k_int4v_decode_skel
  iintro ⟨H0, Hi, H8, H9, H10, H11, Hs, Hw, Hr, HO, HQ⟩
  rw [wp_bind]
  iapply (part17_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I hI wb wc v9)
  isplitl [H0]; · iexact H0
  isplitl [Hi]; · iexact Hi
  isplitl [Hw]; · iexact Hw
  isplitl [H9]; · iexact H9
  isplitl [Hr]; · iexact Hr
  iintro %h7 ⟨⟨%wb1, %wc1, %hw, Hw⟩, H0, Hi, H9, Hr⟩
  dsimp only []
  rw [wp_bind]
  iapply (part18_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c v11)
  isplitl [H11]; · iexact H11
  iintro H11
  dsimp only []
  sl_exec
  rw [wp_bind]
  iapply (loop_run arg0 harg0 arg1 harg1 arg2 harg2 arg3 harg3 arg4 harg4 arg8 harg8 arg9 harg9 arg10 harg10 arg11 harg11 arg16 harg16 arg17 harg17 arg18 harg18 arg19 harg19 arg20 harg20 arg21 harg21 arg22 harg22 c I (placeB (counts I)) (placeC (counts I)) (startAt (counts I) 20) h160 h7 wb1 wc1 hw s O)
  isplitl [Hw H0 Hi Hs H8 Hr HO]
  · unfold loopInv
    isplitl [Hw]; · iexact Hw
    isplitl [Hi]; · iexact Hi
    isplitl [H0]; · iexact H0
    isplitl [Hs]; · iexact Hs
    isplitl [H8]; · iexact H8
    isplitl [Hr]; · iexact Hr
    iexists W; iexact HO
  iintro %a HI
  unfold loopInv
  rw [hend, ringAt_end]
  icases HI with ⟨Hw, Hi, H0, Hs, H8, Hr, HO⟩
  sl_exec
  sl_step
  iapply HQ
  isplitl [H0]; · iexact H0
  isplitl [Hi]; · iexact Hi
  isplitl [H8]; · iexact H8
  isplitl [H9]; · iexact H9
  isplitl [H10]
  · iapply (pointsTo_rep_of_read (c : Thread nD τ) arg10 _ fullShare (vCodes I) (View.read_writes_full _ _ _ _ _)); iexact H10
  isplitl [H11]; · iexact H11
  isplitl [Hs]; · iexists _; iexact Hs
  isplitl [Hw]; · iexists wb1; iexists wc1; iexact Hw
  isplitl [Hr]; · iexact Hr
  iexact HO

end Cert.KernelIdeal.Hand

end
-- ==== Proof.EntryI.lean ====
/- Hand-written. -/
module

public import proofs.«01_k».proof.Proof.BodyI
public import Idealize.ShloMosaic.Lib.Ring.AtN

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable [∀ e, Nonempty (Elt F e)]

/-! ## The ring at entry and at exit: the three buffers by their slots, the three arrays by a read share per slot -/

abbrev ktSet (k : Fin 4) : Finset S4x768x1024.Idx := (Rect.unit (s := S4x768x1024) ![k.val, 0, 0] S1x768x1024.size (inbK k k.isLt)).set
abbrev vtSet (k : Fin 4) : Finset S4x48x64x128.Idx := (Rect.unit (s := S4x48x64x128) ![k.val, 0, 0, 0] S1x48x64x128.size (inbV k k.isLt)).set
abbrev vsSet (k : Fin 4) : Finset S4x8x1024.Idx := (Rect.unit (s := S4x8x1024) ![k.val, 0, 0] S1x8x1024.size (inbVS k k.isLt)).set

theorem kt_set (k : Fin 4) : (ktSlot k).view.set = ktSet k := (View.set_reshape _ _).trans (View.set_slice_whole _ _)
theorem vt_set (k : Fin 4) : (vtSlot k).view.set = vtSet k := (View.set_reshape _ _).trans (View.set_slice_whole _ _)
theorem vs_set (k : Fin 4) : (vsSlot k).view.set = vsSet k := (View.set_reshape _ _).trans (View.set_slice_whole _ _)

theorem kt_disjoint (j j' : Fin 4) (hj : j ≠ j') : Disjoint (ktSet j) (ktSet j') :=
  Ring.lead_disjoint (s := S4x768x1024) (0 : Fin 3) 1 (fun j : Fin 4 => (![j.val, 0, 0] : Fin 3 → Nat)) S1x768x1024.size (fun k => inbK k k.isLt) (fun j => by simp) rfl j j' hj
theorem kt_cover : Finset.univ.biUnion ktSet = Finset.univ :=
  Ring.lead_cover (s := S4x768x1024) (0 : Fin 3) 1 (fun j : Fin 4 => (![j.val, 0, 0] : Fin 3 → Nat)) S1x768x1024.size (fun k => inbK k k.isLt) (fun j => by simp)
    (fun j a ha => by fin_cases a <;> first | exact absurd rfl ha | rfl) rfl (fun a ha => by fin_cases a <;> first | exact absurd rfl ha | rfl) rfl
theorem vt_disjoint (j j' : Fin 4) (hj : j ≠ j') : Disjoint (vtSet j) (vtSet j') :=
  Ring.lead_disjoint (s := S4x48x64x128) (0 : Fin 4) 1 (fun j : Fin 4 => (![j.val, 0, 0, 0] : Fin 4 → Nat)) S1x48x64x128.size (fun k => inbV k k.isLt) (fun j => by simp) rfl j j' hj
theorem vt_cover : Finset.univ.biUnion vtSet = Finset.univ :=
  Ring.lead_cover (s := S4x48x64x128) (0 : Fin 4) 1 (fun j : Fin 4 => (![j.val, 0, 0, 0] : Fin 4 → Nat)) S1x48x64x128.size (fun k => inbV k k.isLt) (fun j => by simp)
    (fun j a ha => by fin_cases a <;> first | exact absurd rfl ha | rfl) rfl (fun a ha => by fin_cases a <;> first | exact absurd rfl ha | rfl) rfl
theorem vs_disjoint (j j' : Fin 4) (hj : j ≠ j') : Disjoint (vsSet j) (vsSet j') :=
  Ring.lead_disjoint (s := S4x8x1024) (0 : Fin 3) 1 (fun j : Fin 4 => (![j.val, 0, 0] : Fin 3 → Nat)) S1x8x1024.size (fun k => inbVS k k.isLt) (fun j => by simp) rfl j j' hj
theorem vs_cover : Finset.univ.biUnion vsSet = Finset.univ :=
  Ring.lead_cover (s := S4x8x1024) (0 : Fin 3) 1 (fun j : Fin 4 => (![j.val, 0, 0] : Fin 3 → Nat)) S1x8x1024.size (fun k => inbVS k k.isLt) (fun j => by simp)
    (fun j a ha => by fin_cases a <;> first | exact absurd rfl ha | rfl) rfl (fun a ha => by fin_cases a <;> first | exact absurd rfl ha | rfl) rfl

/-- A slot at contents `f`. -/
abbrev slotP {s : Shape} {e : EltTy} (c : Dev nD) (M : Memref sig .tc .vmem s e) (f : Buf (Elt F) (M.view.loc (c : Thread nD τ))) : sProp 𝕄 :=
  M.view.loc (c : Thread nD τ) ↦[M.view.set]{fullShare} f

theorem ktP_eq (c : Dev nD) (k : Fin 4) (f) : slotP (F := F) c (ktSlot k) f = (((c : Thread nD τ).loc cc0_scratch0) ↦[ktSet k]{fullShare} f : sProp 𝕄) :=
  congrArg (fun S => (_ ↦[S]{fullShare} f : sProp 𝕄)) (kt_set k)
theorem vtP_eq (c : Dev nD) (k : Fin 4) (f) : slotP (F := F) c (vtSlot k) f = (((c : Thread nD τ).loc cc0_scratch1) ↦[vtSet k]{fullShare} f : sProp 𝕄) :=
  congrArg (fun S => (_ ↦[S]{fullShare} f : sProp 𝕄)) (vt_set k)
theorem vsP_eq (c : Dev nD) (k : Fin 4) (f) : slotP (F := F) c (vsSlot k) f = (((c : Thread nD τ).loc cc0_scratch2) ↦[vsSet k]{fullShare} f : sProp 𝕄) :=
  congrArg (fun S => (_ ↦[S]{fullShare} f : sProp 𝕄)) (vs_set k)

theorem kt_split (c : Dev nD) : iprop(∃ f : Buf (Elt F) ((c : Thread nD τ).loc cc0_scratch0), ((c : Thread nD τ).loc cc0_scratch0) ↦{fullShare} f)
    ⊢ (iprop((∃ f, slotP c (ktSlot 0) f) ∗ (∃ f, slotP c (ktSlot 1) f) ∗ (∃ f, slotP c (ktSlot 2) f) ∗ ∃ f, slotP c (ktSlot 3) f) : sProp 𝕄) :=
  Ring.slots4_split (ℓ := (c : Thread nD τ).loc cc0_scratch0) ktSet kt_disjoint kt_cover _ _ _ _ (ktP_eq c 0) (ktP_eq c 1) (ktP_eq c 2) (ktP_eq c 3)
theorem kt_join (c : Dev nD) : (iprop((∃ f, slotP c (ktSlot 0) f) ∗ (∃ f, slotP c (ktSlot 1) f) ∗ (∃ f, slotP c (ktSlot 2) f) ∗ ∃ f, slotP c (ktSlot 3) f) : sProp 𝕄)
    ⊢ iprop(∃ f : Buf (Elt F) ((c : Thread nD τ).loc cc0_scratch0), ((c : Thread nD τ).loc cc0_scratch0) ↦{fullShare} f) :=
  Ring.slots4_join (ℓ := (c : Thread nD τ).loc cc0_scratch0) ktSet kt_disjoint kt_cover _ _ _ _ (ktP_eq c 0) (ktP_eq c 1) (ktP_eq c 2) (ktP_eq c 3)
theorem vt_split (c : Dev nD) : iprop(∃ f : Buf (Elt F) ((c : Thread nD τ).loc cc0_scratch1), ((c : Thread nD τ).loc cc0_scratch1) ↦{fullShare} f)
    ⊢ (iprop((∃ f, slotP c (vtSlot 0) f) ∗ (∃ f, slotP c (vtSlot 1) f) ∗ (∃ f, slotP c (vtSlot 2) f) ∗ ∃ f, slotP c (vtSlot 3) f) : sProp 𝕄) :=
  Ring.slots4_split (ℓ := (c : Thread nD τ).loc cc0_scratch1) vtSet vt_disjoint vt_cover _ _ _ _ (vtP_eq c 0) (vtP_eq c 1) (vtP_eq c 2) (vtP_eq c 3)
theorem vt_join (c : Dev nD) : (iprop((∃ f, slotP c (vtSlot 0) f) ∗ (∃ f, slotP c (vtSlot 1) f) ∗ (∃ f, slotP c (vtSlot 2) f) ∗ ∃ f, slotP c (vtSlot 3) f) : sProp 𝕄)
    ⊢ iprop(∃ f : Buf (Elt F) ((c : Thread nD τ).loc cc0_scratch1), ((c : Thread nD τ).loc cc0_scratch1) ↦{fullShare} f) :=
  Ring.slots4_join (ℓ := (c : Thread nD τ).loc cc0_scratch1) vtSet vt_disjoint vt_cover _ _ _ _ (vtP_eq c 0) (vtP_eq c 1) (vtP_eq c 2) (vtP_eq c 3)
theorem vs_split (c : Dev nD) : iprop(∃ f : Buf (Elt F) ((c : Thread nD τ).loc cc0_scratch2), ((c : Thread nD τ).loc cc0_scratch2) ↦{fullShare} f)
    ⊢ (iprop((∃ f, slotP c (vsSlot 0) f) ∗ (∃ f, slotP c (vsSlot 1) f) ∗ (∃ f, slotP c (vsSlot 2) f) ∗ ∃ f, slotP c (vsSlot 3) f) : sProp 𝕄) :=
  Ring.slots4_split (ℓ := (c : Thread nD τ).loc cc0_scratch2) vsSet vs_disjoint vs_cover _ _ _ _ (vsP_eq c 0) (vsP_eq c 1) (vsP_eq c 2) (vsP_eq c 3)
theorem vs_join (c : Dev nD) : (iprop((∃ f, slotP c (vsSlot 0) f) ∗ (∃ f, slotP c (vsSlot 1) f) ∗ (∃ f, slotP c (vsSlot 2) f) ∗ ∃ f, slotP c (vsSlot 3) f) : sProp 𝕄)
    ⊢ iprop(∃ f : Buf (Elt F) ((c : Thread nD τ).loc cc0_scratch2), ((c : Thread nD τ).loc cc0_scratch2) ↦{fullShare} f) :=
  Ring.slots4_join (ℓ := (c : Thread nD τ).loc cc0_scratch2) vsSet vs_disjoint vs_cover _ _ _ _ (vsP_eq c 0) (vsP_eq c 1) (vsP_eq c 2) (vsP_eq c 3)

/-- An array whole is a read share per slot and what remains. -/
abbrev tokP {s : Shape} {e : EltTy} (c : Dev nD) (A : Memref sig .tc .hbm s e) (k : Fin 4) (f : Buf (Elt F) (A.view.loc (c : Thread nD τ))) : sProp 𝕄 :=
  A.view.loc (c : Thread nD τ) ↦[Finset.univ]{Transfers.shareTok fullShare 4 k} f
abbrev dropP {s : Shape} {e : EltTy} (c : Dev nD) (A : Memref sig .tc .hbm s e) (f : Buf (Elt F) (A.view.loc (c : Thread nD τ))) : sProp 𝕄 :=
  A.view.loc (c : Thread nD τ) ↦[Finset.univ]{Transfers.shareDrop fullShare 4} f
theorem toks4 {s : Shape} {e : EltTy} (c : Dev nD) (A : Memref sig .tc .hbm s e) (f : Buf (Elt F) (A.view.loc (c : Thread nD τ))) :
    (A.view.loc (c : Thread nD τ) ↦[Finset.univ]{fullShare} f : sProp 𝕄)
      ⊣⊢ iprop(dropP c A f ∗ tokP c A 0 f ∗ tokP c A 1 f ∗ tokP c A 2 f ∗ tokP c A 3 f) := by
  have h := Transfers.pointsTo_toks (nD := nD) (τ := τ) (sig := sig) (Ix := Unit) (Val := Elt F) (Name := ℕ) (U := Pipeline.UD sig nD τ) (Lvl := ℕ)
    (ℓ := A.view.loc (c : Thread nD τ)) (S := Finset.univ) (f := f) fullShare 4
  rw [Ring.bigSep_fin4] at h
  exact h

abbrev cellP (c : Dev nD) (cell : SemLoc sig) : sProp 𝕄 := semVal ((c : Thread nD τ), cell) 0

/-- What is kept of the three arrays outside the slots. -/
def dropOwn (c : Dev nD) (I : In F) : sProp 𝕄 :=
  iprop(dropP c (Memref.whole main_v1) ((Memref.whole main_v1).view.rep I.kt) ∗ dropP c (Memref.whole main_v5) ((Memref.whole main_v5).view.rep I.vt)
    ∗ dropP c (Memref.whole main_v6) ((Memref.whole main_v6).view.rep I.vs))

/-- The pieces of the ring as the launch holds them. -/
def wholeOwn (c : Dev nD) (I : In F) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ ((Memref.whole main_v1).view.loc (c : Thread nD τ) ↦[Finset.univ]{fullShare} (Memref.whole main_v1).view.rep I.kt)
    ∗ ((Memref.whole main_v5).view.loc (c : Thread nD τ) ↦[Finset.univ]{fullShare} (Memref.whole main_v5).view.rep I.vt)
    ∗ ((Memref.whole main_v6).view.loc (c : Thread nD τ) ↦[Finset.univ]{fullShare} (Memref.whole main_v6).view.rep I.vs)
    ∗ (cellP (F := F) c (semK 0 0) ∗ cellP (F := F) c (semK 0 1) ∗ cellP (F := F) c (semK 0 2)
      ∗ cellP (F := F) c (semK 1 0) ∗ cellP (F := F) c (semK 1 1) ∗ cellP (F := F) c (semK 1 2)
      ∗ cellP (F := F) c (semK 2 0) ∗ cellP (F := F) c (semK 2 1) ∗ cellP (F := F) c (semK 2 2)
      ∗ cellP (F := F) c (semK 3 0) ∗ cellP (F := F) c (semK 3 1) ∗ cellP (F := F) c (semK 3 2)))

theorem ring_none (c : Dev nD) (I : In F) : ringOwn c I (fun _ => none) = iprop(slotSt c I 0 none ∗ slotSt c I 1 none ∗ slotSt c I 2 none ∗ slotSt c I 3 none) := by
  unfold ringOwn Ring.AtW
  exact Ring.bigSep_fin4 _

theorem ring_in (c : Dev nD) (I : In F) : wholeOwn c I ⊢ iprop(ringOwn c I (fun _ => none) ∗ dropOwn c I) := by
  rw [ring_none]
  unfold wholeOwn slotSt dropOwn
  iintro ⟨S0, S1, S2, A0, A1, A2, c00, c01, c02, c10, c11, c12, c20, c21, c22, c30, c31, c32⟩
  ihave S0' := (kt_split (F := F) c) $$ S0
  ihave S1' := (vt_split (F := F) c) $$ S1
  ihave S2' := (vs_split (F := F) c) $$ S2
  ihave A0' := (toks4 (F := F) c (Memref.whole main_v1) _).1 $$ A0
  ihave A1' := (toks4 (F := F) c (Memref.whole main_v5) _).1 $$ A1
  ihave A2' := (toks4 (F := F) c (Memref.whole main_v6) _).1 $$ A2
  icases S0' with ⟨k0, k1, k2, k3⟩
  icases S1' with ⟨v0, v1, v2, v3⟩
  icases S2' with ⟨w0, w1, w2, w3⟩
  icases A0' with ⟨D0, a0, a1, a2, a3⟩
  icases A1' with ⟨D1, b0, b1, b2, b3⟩
  icases A2' with ⟨D2, d0, d1, d2, d3⟩
  isplitl [c00 c01 c02 c10 c11 c12 c20 c21 c22 c30 c31 c32 k0 k1 k2 k3 v0 v1 v2 v3 w0 w1 w2 w3 a0 a1 a2 a3 b0 b1 b2 b3 d0 d1 d2 d3]
  · isplitl [c00 c01 c02 k0 v0 w0 a0 b0 d0]
    · isplitl [c00 k0 a0]; · (isplitl [c00]; · iexact c00); isplitl [k0]; · iexact k0
                             iexact a0
      isplitl [c01 v0 b0]; · (isplitl [c01]; · iexact c01); isplitl [v0]; · iexact v0
                             iexact b0
      isplitl [c02]; · iexact c02
      isplitl [w0]; · iexact w0
      iexact d0
    isplitl [c10 c11 c12 k1 v1 w1 a1 b1 d1]
    · isplitl [c10 k1 a1]; · (isplitl [c10]; · iexact c10); isplitl [k1]; · iexact k1
                             iexact a1
      isplitl [c11 v1 b1]; · (isplitl [c11]; · iexact c11); isplitl [v1]; · iexact v1
                             iexact b1
      isplitl [c12]; · iexact c12
      isplitl [w1]; · iexact w1
      iexact d1
    isplitl [c20 c21 c22 k2 v2 w2 a2 b2 d2]
    · isplitl [c20 k2 a2]; · (isplitl [c20]; · iexact c20); isplitl [k2]; · iexact k2
                             iexact a2
      isplitl [c21 v2 b2]; · (isplitl [c21]; · iexact c21); isplitl [v2]; · iexact v2
                             iexact b2
      isplitl [c22]; · iexact c22
      isplitl [w2]; · iexact w2
      iexact d2
    isplitl [c30 k3 a3]; · (isplitl [c30]; · iexact c30); isplitl [k3]; · iexact k3
                           iexact a3
    isplitl [c31 v3 b3]; · (isplitl [c31]; · iexact c31); isplitl [v3]; · iexact v3
                           iexact b3
    isplitl [c32]; · iexact c32
    isplitl [w3]; · iexact w3
    iexact d3
  isplitl [D0]; · iexact D0
  isplitl [D1]; · iexact D1
  iexact D2

theorem ring_out (c : Dev nD) (I : In F) : iprop(ringOwn c I (fun _ => none) ∗ dropOwn c I) ⊢ wholeOwn c I := by
  rw [ring_none]
  unfold wholeOwn slotSt dropOwn
  iintro ⟨⟨⟨⟨c00, k0, a0⟩, ⟨c01, v0, b0⟩, ⟨c02, w0, d0⟩⟩, ⟨⟨c10, k1, a1⟩, ⟨c11, v1, b1⟩, ⟨c12, w1, d1⟩⟩, ⟨⟨c20, k2, a2⟩, ⟨c21, v2, b2⟩, ⟨c22, w2, d2⟩⟩,
    ⟨⟨c30, k3, a3⟩, ⟨c31, v3, b3⟩, ⟨c32, w3, d3⟩⟩⟩, D0, D1, D2⟩
  isplitl [k0 k1 k2 k3]
  · iapply (kt_join (F := F) c)
    isplitl [k0]; · iexact k0
    isplitl [k1]; · iexact k1
    isplitl [k2]; · iexact k2
    iexact k3
  isplitl [v0 v1 v2 v3]
  · iapply (vt_join (F := F) c)
    isplitl [v0]; · iexact v0
    isplitl [v1]; · iexact v1
    isplitl [v2]; · iexact v2
    iexact v3
  isplitl [w0 w1 w2 w3]
  · iapply (vs_join (F := F) c)
    isplitl [w0]; · iexact w0
    isplitl [w1]; · iexact w1
    isplitl [w2]; · iexact w2
    iexact w3
  isplitl [D0 a0 a1 a2 a3]
  · iapply (toks4 (F := F) c (Memref.whole main_v1) _).2
    isplitl [D0]; · iexact D0
    isplitl [a0]; · iexact a0
    isplitl [a1]; · iexact a1
    isplitl [a2]; · iexact a2
    iexact a3
  isplitl [D1 b0 b1 b2 b3]
  · iapply (toks4 (F := F) c (Memref.whole main_v5) _).2
    isplitl [D1]; · iexact D1
    isplitl [b0]; · iexact b0
    isplitl [b1]; · iexact b1
    isplitl [b2]; · iexact b2
    iexact b3
  isplitl [D2 d0 d1 d2 d3]
  · iapply (toks4 (F := F) c (Memref.whole main_v6) _).2
    isplitl [D2]; · iexact D2
    isplitl [d0]; · iexact d0
    isplitl [d1]; · iexact d1
    isplitl [d2]; · iexact d2
    iexact d3
  isplitl [c00]; · iexact c00
  isplitl [c01]; · iexact c01
  isplitl [c02]; · iexact c02
  isplitl [c10]; · iexact c10
  isplitl [c11]; · iexact c11
  isplitl [c12]; · iexact c12
  isplitl [c20]; · iexact c20
  isplitl [c21]; · iexact c21
  isplitl [c22]; · iexact c22
  isplitl [c30]; · iexact c30
  isplitl [c31]; · iexact c31
  iexact c32

end Cert.KernelIdeal.Hand

end
-- ==== Proof.FrameI.lean ====
/- Hand-written. -/
module

public import proofs.«01_k».proof.Proof.EntryI
public import proofs.«01_k».proof.Proof.Gen.KernelIdeal.Frame

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable [∀ e, Nonempty (Elt F e)]

variable (m : (ℓ : Loc nD τ sig) → Buf (Elt F) ℓ) (ρ : Dev nD → PrngReg)

open Idealize.ShloMosaic.Rounds
open Idealize.ShloMosaic.Pipeline (Dat Cfg Window BodyObligation cellOf)

/-! ## @main around the region, at this algebra -/

set_option maxHeartbeats 800000 in
/-- @main around the region: the host lines before it, the region, the host lines after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes `main_arg0`: it ends as launched. -/
theorem W_main_arg0_D (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1_D (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2_D (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3_D (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5_D (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6_D (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_ofD {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_ofD {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_ofD {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_ofD {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_ofD {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The semaphores, the arrays left in HBM, the body's values -/

abbrev osem0 : Fin 12 → SemLoc sig := fun j => (![semK 0 0, semK 0 1, semK 0 2, semK 1 0, semK 1 1, semK 1 2, semK 2 0, semK 2 1, semK 2 2,
  semK 3 0, semK 3 1, semK 3 2] : Fin 12 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP (F := F) c (semK 0 0) ∗ cellP (F := F) c (semK 0 1) ∗ cellP (F := F) c (semK 0 2)
          ∗ cellP (F := F) c (semK 1 0) ∗ cellP (F := F) c (semK 1 1) ∗ cellP (F := F) c (semK 1 2)
          ∗ cellP (F := F) c (semK 2 0) ∗ cellP (F := F) c (semK 2 1) ∗ cellP (F := F) c (semK 2 2)
          ∗ cellP (F := F) c (semK 3 0) ∗ cellP (F := F) c (semK 3 1) ∗ cellP (F := F) c (semK 3 2)) := by
  rw [Pipeline.ownSems0_eq_of_list c osem0 [0, 1, 2, 3, 4, 5, 6, 7, 8, 9, 10, 11] (by decide) (by decide)]; rfl

/-- The arrays the body's transfers read. -/
def H0 : Finset (Ref sig .tc) := {main_v1, main_v5, main_v6}
theorem H0_sub : H0 ⊆ Pipeline.restRefs sig spec0 := by decide

/-- What the body computes from, on core `c`. -/
def inAt (c : Dev nD) : In F where
  len := iblk m c 0 t0_0
  x := iblk m c 1 t0_0
  kn := iblk m c 2 t0_0
  vn := iblk m c 3 t0_0
  ks := iblk m c 4 t0_0
  kt := V m c main_v1
  vt := V m c main_v5
  vs := V m c main_v6

theorem rep_whole_eq (b : Ref sig .tc) (X : b.ty.Contents (Elt F)) : (Memref.whole b).view.rep X = X := by
  have h := View.read_rep (Memref.whole b).view X
  rwa [Memref.view_whole, View.read_whole] at h

theorem hbmPts0_eq (c : Dev nD) :
    (bigSep H0 (fun b => ((c : Thread nD τ).loc b) ↦{fullShare} V m c b) : sProp 𝕄)
      = iprop(((Memref.whole main_v1).view.loc (c : Thread nD τ) ↦[Finset.univ]{fullShare} (Memref.whole main_v1).view.rep (inAt m c).kt)
        ∗ ((Memref.whole main_v5).view.loc (c : Thread nD τ) ↦[Finset.univ]{fullShare} (Memref.whole main_v5).view.rep (inAt m c).vt)
        ∗ ((Memref.whole main_v6).view.loc (c : Thread nD τ) ↦[Finset.univ]{fullShare} (Memref.whole main_v6).view.rep (inAt m c).vs)) := by
  rw [BI.bigSep_eq_bigSepL_of_eq [main_v1, main_v5, main_v6] (by decide) (by decide), rep_whole_eq main_v1, rep_whole_eq main_v5, rep_whole_eq main_v6]; rfl

/-- A memref held at values is held at their representative, and back. -/
theorem owns_rep (c : Dev nD) {sp : Space} {s : Shape} {e : EltTy} (M : Memref sig .tc sp s e) (X : s.Idx → Elt F e) :
    (owns (c : Thread nD τ) M fullShare X : sProp 𝕄) ⊢ (M.view.loc (c : Thread nD τ) ↦[M.view.set]{fullShare} M.view.rep X) := by
  unfold owns
  iintro ⟨%f, %hf, H⟩
  iapply (pointsTo_rep_of_read (c : Thread nD τ) M f fullShare X hf)
  iexact H
theorem rep_owns (c : Dev nD) {sp : Space} {s : Shape} {e : EltTy} (M : Memref sig .tc sp s e) (X : s.Idx → Elt F e) :
    (M.view.loc (c : Thread nD τ) ↦[M.view.set]{fullShare} M.view.rep X : sProp 𝕄) ⊢ owns (c : Thread nD τ) M fullShare X := by
  unfold owns
  iintro H
  iexists _
  isplitr
  swap; · iexact H
  ipureintro; exact View.read_rep _ X
/-- A buffer whole, as a memref's. -/
theorem whole_rep (c : Dev nD) (b : Ref sig .tc) (f : b.ty.Contents (Elt F)) :
    (((c : Thread nD τ).loc b) ↦{fullShare} f : sProp 𝕄)
      ⊢ ((Memref.whole b).view.loc (c : Thread nD τ) ↦[(Memref.whole b).view.set]{fullShare} (Memref.whole b).view.rep f) :=
  (Entails.of_eq (owns_whole (c : Thread nD τ) b fullShare f).symm).trans (owns_rep c (Memref.whole b) f)
theorem rep_whole (c : Dev nD) (b : Ref sig .tc) (f : b.ty.Contents (Elt F)) :
    ((Memref.whole b).view.loc (c : Thread nD τ) ↦[(Memref.whole b).view.set]{fullShare} (Memref.whole b).view.rep f : sProp 𝕄)
      ⊢ (((c : Thread nD τ).loc b) ↦{fullShare} f) :=
  (rep_owns c (Memref.whole b) f).trans (Entails.of_eq (owns_whole (c : Thread nD τ) b fullShare f))

theorem PhiD0_eq (c : Dev nD) :
    (Pipeline.ΦD osem0 spec0 H0 (V m) c : sProp 𝕄)
      = iprop(Pipeline.scopedRest (Ix := Unit) (Name := ℕ) (U := Pipeline.UD sig nD τ) (Lvl := ℕ) (Val := Elt F) spec0 c
          ∗ (∃ r, prngReg c r)
          ∗ iprop(cellP (F := F) c (semK 0 0) ∗ cellP (F := F) c (semK 0 1) ∗ cellP (F := F) c (semK 0 2)
          ∗ cellP (F := F) c (semK 1 0) ∗ cellP (F := F) c (semK 1 1) ∗ cellP (F := F) c (semK 1 2)
          ∗ cellP (F := F) c (semK 2 0) ∗ cellP (F := F) c (semK 2 1) ∗ cellP (F := F) c (semK 2 2)
          ∗ cellP (F := F) c (semK 3 0) ∗ cellP (F := F) c (semK 3 1) ∗ cellP (F := F) c (semK 3 2))
          ∗ iprop(((Memref.whole main_v1).view.loc (c : Thread nD τ) ↦[Finset.univ]{fullShare} (Memref.whole main_v1).view.rep (inAt m c).kt)
        ∗ ((Memref.whole main_v5).view.loc (c : Thread nD τ) ↦[Finset.univ]{fullShare} (Memref.whole main_v5).view.rep (inAt m c).vt)
        ∗ ((Memref.whole main_v6).view.loc (c : Thread nD τ) ↦[Finset.univ]{fullShare} (Memref.whole main_v6).view.rep (inAt m c).vs))) := by
  rw [Pipeline.ΦD_eq, ownSems00_eq, hbmPts0_eq]

/-- The proof data of the one pipeline on core `c`: the arrays as the region finds them, each input's buffer left as it was, each
    result's buffer at what the body computes, the own-transfer invariant, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAll (inAt m c)
    | ⟨6, _⟩ => kCodes (inAt m c)
    | ⟨7, _⟩ => vCodes (inAt m c)
    | ⟨8, _⟩ => vScale (inAt m c)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAll (inAt m c) := by dsimp only [dats]
theorem after0_6 (c : Dev nD) (t : Fin cfg0.N) : (dats m 0 c).after 6 t = kCodes (inAt m c) := by dsimp only [dats]
theorem after0_7 (c : Dev nD) (t : Fin cfg0.N) : (dats m 0 c).after 7 t = vCodes (inAt m c) := by dsimp only [dats]
theorem after0_8 (c : Dev nD) (t : Fin cfg0.N) : (dats m 0 c).after 8 t = vScale (inAt m c) := by dsimp only [dats]
theorem before0_0 (c : Dev nD) (t : Fin cfg0.N) (d) : (dats m 0 c).before 0 t d = iblk m c 0 t := before0_0_ofD m (dats m 0 c) (A_eq m c 0) (after0_0 m c) t d
theorem before0_1 (c : Dev nD) (t : Fin cfg0.N) (d) : (dats m 0 c).before 1 t d = iblk m c 1 t := before0_1_ofD m (dats m 0 c) (A_eq m c 1) (after0_1 m c) t d
theorem before0_2 (c : Dev nD) (t : Fin cfg0.N) (d) : (dats m 0 c).before 2 t d = iblk m c 2 t := before0_2_ofD m (dats m 0 c) (A_eq m c 2) (after0_2 m c) t d
theorem before0_3 (c : Dev nD) (t : Fin cfg0.N) (d) : (dats m 0 c).before 3 t d = iblk m c 3 t := before0_3_ofD m (dats m 0 c) (A_eq m c 3) (after0_3 m c) t d
theorem before0_4 (c : Dev nD) (t : Fin cfg0.N) (d) : (dats m 0 c).before 4 t d = iblk m c 4 t := before0_4_ofD m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

theorem sound_body (hL : ∀ c, LenOk (inAt m c)) (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  rw [show (dats m 0 c).Φ t0_0.succ = (dats m 0 c).Φ t0_0.castSucc from rfl]
  rw [after0_0, after0_1, after0_2, after0_3, after0_4, after0_5, after0_6, after0_7, after0_8]
  simp only [before0_0, before0_1, before0_2, before0_3, before0_4]
  rw [show (dats m 0 c).Φ t0_0.castSucc = Pipeline.ΦD osem0 spec0 H0 (V m) c from rfl, PhiD0_eq, scopedRest0_eq]
  unfold Dat.owesAt Pipeline.owesWithin
  rw [show (dats m 0 c).owed t0_0.castSucc = 0 from rfl, show (dats m 0 c).owed t0_0.succ = 0 from rfl]
  iintro ⟨⟨⟨S0, S1, S2, ⟨%f4, S4⟩, ⟨%f5, S5⟩, ⟨%f6, S6⟩, ⟨%f7, S7⟩, ⟨%f8, S8⟩, ⟨%f9, S9⟩, ⟨%f10, S10⟩⟩, Hg, Hq, ⟨A1, A5, A6⟩⟩, ⟨%W, -, HW⟩,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HR := (ring_in (F := F) c (inAt m c)) $$ [S0 S1 S2 A1 A5 A6 Hq]
  · unfold wholeOwn
    isplitl [S0]; · iexact S0
    isplitl [S1]; · iexact S1
    isplitl [S2]; · iexact S2
    isplitl [A1]; · iexact A1
    isplitl [A5]; · iexact A5
    isplitl [A6]; · iexact A6
    iexact Hq
  icases HR with ⟨HR, HD⟩
  iapply (body_run _ _ _ _ _ _ _ _ _ _ _ _ _ _ _ _ _ _ _ _ _ _ _ _ _ _ _ _ _ _ _ _ c (inAt m c) (hL c) f9 f10 ⟨f6, f7, f8, f5, f4⟩ _ _ _ _ W)
  isplitl [H0]; · iapply (owns_rep (F := F) c _ _); iexact H0
  isplitl [H1 H2 H3 H4]
  · unfold inOwn
    isplitl [H1]; · iapply (owns_rep (F := F) c _ _); iexact H1
    isplitl [H2]; · iapply (owns_rep (F := F) c _ _); iexact H2
    isplitl [H3]; · iapply (owns_rep (F := F) c _ _); iexact H3
    iapply (owns_rep (F := F) c _ _); iexact H4
  isplitl [H5]; · unfold outOwn; iapply (owns_rep (F := F) c _ _); iexact H5
  isplitl [H6]; · iapply (owns_rep (F := F) c _ _); iexact H6
  isplitl [H7]; · iapply (owns_rep (F := F) c _ _); iexact H7
  isplitl [H8]; · iapply (owns_rep (F := F) c _ _); iexact H8
  isplitl [S4 S5 S6 S7 S8]
  · unfold stOwn
    isplitl [S4]; · iapply (whole_rep (F := F) c cc0_scratch4 f4); iexact S4
    isplitl [S5]; · iapply (whole_rep (F := F) c cc0_scratch5 f5); iexact S5
    isplitl [S6]; · iapply (whole_rep (F := F) c cc0_scratch6 f6); iexact S6
    isplitl [S7]; · iapply (whole_rep (F := F) c cc0_scratch7 f7); iexact S7
    iapply (whole_rep (F := F) c cc0_scratch8 f8); iexact S8
  isplitl [S9 S10]
  · unfold wOwn
    isplitl [S9]; · iapply (whole_rep (F := F) c cc0_scratch9 f9); iexact S9
    iapply (whole_rep (F := F) c cc0_scratch10 f10); iexact S10
  isplitl [HR]; · iexact HR
  isplitl [HW]; · iexact HW
  unfold inOwn outOwn stOwn wOwn
  iintro ⟨H0, ⟨H1, H2, H3, H4⟩, H5, H6, H7, H8, ⟨%s, S4, S5, S6, S7, S8⟩, ⟨%wb, %wc, S9, S10⟩, HR, ⟨%W', HW⟩⟩
  ihave HH := (ring_out (F := F) c (inAt m c)) $$ [HR HD]
  · isplitl [HR]; · iexact HR
    iexact HD
  unfold wholeOwn
  icases HH with ⟨S0, S1, S2, A1, A5, A6, Hq⟩
  isplitl [S0 S1 S2 S4 S5 S6 S7 S8 S9 S10 Hg Hq A1 A5 A6]
  · isplitl [S0 S1 S2 S4 S5 S6 S7 S8 S9 S10]
    · isplitl [S0]; · iexact S0
      isplitl [S1]; · iexact S1
      isplitl [S2]; · iexact S2
      isplitl [S4]; · iexists _; iapply (rep_whole (F := F) c cc0_scratch4 _); iexact S4
      isplitl [S5]; · iexists _; iapply (rep_whole (F := F) c cc0_scratch5 _); iexact S5
      isplitl [S6]; · iexists _; iapply (rep_whole (F := F) c cc0_scratch6 _); iexact S6
      isplitl [S7]; · iexists _; iapply (rep_whole (F := F) c cc0_scratch7 _); iexact S7
      isplitl [S8]; · iexists _; iapply (rep_whole (F := F) c cc0_scratch8 _); iexact S8
      isplitl [S9]; · iexists _; iapply (rep_whole (F := F) c cc0_scratch9 _); iexact S9
      iexists _; iapply (rep_whole (F := F) c cc0_scratch10 _); iexact S10
    isplitl [Hg]; · iexact Hg
    isplitl [Hq]; · iexact Hq
    isplitl [A1]; · iexact A1
    isplitl [A5]; · iexact A5
    iexact A6
  isplitl [HW]
  · iexists W'; isplitr; · ipureintro; exact fun _ _ => Or.inl trivial
    iexact HW
  isplitl [H0]; · iapply (rep_owns (F := F) c _ _); iexact H0
  isplitl [H1]; · iapply (rep_owns (F := F) c _ _); iexact H1
  isplitl [H2]; · iapply (rep_owns (F := F) c _ _); iexact H2
  isplitl [H3]; · iapply (rep_owns (F := F) c _ _); iexact H3
  isplitl [H4]; · iapply (rep_owns (F := F) c _ _); iexact H4
  isplitl [H5]; · iapply (rep_owns (F := F) c _ _); iexact H5
  isplitl [H6]; · iapply (rep_owns (F := F) c _ _); iexact H6
  isplitl [H7]; · iapply (rep_owns (F := F) c _ _); iexact H7
  iapply (rep_owns (F := F) c _ _); iexact H8

theorem defs₀_row (t : Fin cfg0.N) :
    defs₀ (F := F) .tc cfg0.body (cfg0.bodyArgs t (cfg0.slots t)) = bodyAt0 t := by
  unfold defs₀; rw [Defs.onTc_tc]

theorem body_obligation (hL : ∀ c, LenOk (inAt m c)) (c : Dev nD) : BodyObligation (dats (F := F) m 0 c) (defs₀ (F := F)) Variants.none () Set.univ := fun t => by
  rw [bigSep_W0, bigSep_W0, defs₀_row]
  exact triple_restated (sound_body m hL c t) rfl .rfl fun _ => .rfl

/-! ## The run and the frame -/

theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl | rfl | rfl | rfl | rfl
  all_goals
    simp only [StableHlo.reshape_bufs, StableHlo.unary_bufs, H0, Finset.mem_insert, Finset.mem_singleton, forall_eq_or_imp, forall_eq, not_or]
    refine ⟨⟨?_, ?_⟩, ⟨?_, ?_⟩, ?_, ?_⟩ <;> exact StableHlo.devRef_ne_of_ne (by decide)

set_option backward.isDefEq.respectTransparency.types false in
theorem run_main (hL : ∀ c, LenOk (inAt m c)) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m hL c).loose) (hshare := fun c => (dats m 0 c).share_full fun _ => rfl)
    (howed := fun _ _ => rfl) (V0 m) [hostOps1] sfx_subD sfx_fresh sfx_keeps (hmain := hmainD m Variants.none) (hA := A_eq m)
    (hin := fun _ => .rfl) (hout := fun _ => .rfl)

/-- THE FRAME: the kernel ends with its arguments as they were and every semaphore at zero. -/
theorem frame_all (hL : ∀ c, LenOk (inAt m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (W_main_arg0_D m (dats m) c),
      ((h.1 c).2 main_arg1 (Pipeline.mem_restRefs_of main_arg1 (by decide) (by decide))).trans (W_main_arg1_D m (dats m) c),
      ((h.1 c).2 main_arg2 (Pipeline.mem_restRefs_of main_arg2 (by decide) (by decide))).trans (W_main_arg2_D m (dats m) c),
      ((h.1 c).2 main_arg3 (Pipeline.mem_restRefs_of main_arg3 (by decide) (by decide))).trans (W_main_arg3_D m (dats m) c),
      ((h.1 c).1 4).trans (((dats m 0 c).arrAt_in 4 rfl _).trans ((A_eq m c 4).trans (V_main_arg4 m c))),
      ((h.1 c).2 main_arg5 (Pipeline.mem_restRefs_of main_arg5 (by decide) (by decide))).trans (W_main_arg5_D m (dats m) c),
      ((h.1 c).2 main_arg6 (Pipeline.mem_restRefs_of main_arg6 (by decide) (by decide))).trans (W_main_arg6_D m (dats m) c),
      ((h.1 c).1 0).trans (((dats m 0 c).arrAt_in 0 rfl _).trans ((A_eq m c 0).trans (V_main_arg7 m c)))⟩, h.2⟩) (run_main m ρ hL)

end Cert.KernelIdeal.Hand

end
-- ==== Proof.HoldI.lean ====
/- Hand-written. -/
module

public import proofs.«01_k».proof.Proof.FrameI
public import proofs.«01_k».proof.Pre_lengths_fit

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable [∀ e, Nonempty (Elt F e)]

variable (m : (ℓ : Loc nD τ sig) → Buf (Elt F) ℓ) (ρ : Dev nD → PrngReg)

/-! ## The precondition, read at the lengths the body loads -/

theorem lenOk_of_pre [Cert.Pre_lengths_fit.Facts] (c : Dev nD)
    (h : Cert.Pre_lengths_fit.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) : LenOk (inAt m c) := by
  have ofBool_eq_one (p : Bool) : (BitVec.ofBool p = 1#1) ↔ p = true := by cases p <;> decide
  have bound : ∀ y : S20.Idx, (m ((c : Thread nD τ).loc main_arg7) y : BitVec 32).toInt ≤ 8192 := by
    intro y
    have e := congrFun h y
    simp only [Cert.Pre_lengths_fit.fn, cmpi, broadcastInDim, constantI, IntOp.cmpi, ofBool_eq_one] at e
    simp only [BitVec.sle, decide_eq_true_eq] at e
    exact e
  have rd : ∀ i, (iblk m c 0 t0_0 i : BitVec 32).toInt ≤ 8192 := fun i => by
    unfold iblk; rw [View.read_apply, cast_eq, show V m c (Pipeline.arrRef spec0 0) = _ from V_main_arg7 m c]; exact bound _
  intro b
  exact rd _

/-- The frame from the precondition. -/
theorem frame_pre [Cert.Pre_lengths_fit.Facts] (h : ∀ c : Dev nD, Cert.Pre_lengths_fit.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = fun _ => 1#1) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  frame_all m ρ fun c => lenOk_of_pre m c (h c)

end Cert.KernelIdeal.Hand

end
-- ==== Proof.EndI.lean ====
/- Hand-written. -/
module

public import proofs.«01_k».proof.Proof.FrameI
public import proofs.«01_k».proof.Pre_lengths_fit
public import Idealize.ShloMosaic.Lib.Pipeline.ValueKit

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable [∀ e, Nonempty (Elt F e)]

variable (m : (ℓ : Loc nD τ sig) → Buf (Elt F) ℓ) (ρ : Dev nD → PrngReg)

/-! ## What the kernel leaves in its results -/

theorem arr5 (c : Dev nD) : (dats m 0 c).arrAt 5 (cfgs 0).N = outAll (inAt m c) := by
  refine (dats m 0 c).arrAt_eq_of_after_last 5 t0_0 (by decide +kernel) _ fun j => ?_
  blk_simp
  all_goals try rw [after0_5]
  all_goals rfl
theorem arr6 (c : Dev nD) : (dats m 0 c).arrAt 6 (cfgs 0).N = kCodes (inAt m c) := by
  refine (dats m 0 c).arrAt_eq_of_after_last 6 t0_0 (by decide +kernel) _ fun j => ?_
  blk_simp
  all_goals try rw [after0_6]
  all_goals rfl
theorem arr7 (c : Dev nD) : (dats m 0 c).arrAt 7 (cfgs 0).N = vCodes (inAt m c) := by
  refine (dats m 0 c).arrAt_eq_of_after_last 7 t0_0 (by decide +kernel) _ fun j => ?_
  blk_simp
  all_goals try rw [after0_7]
  all_goals rfl
theorem arr8 (c : Dev nD) : (dats m 0 c).arrAt 8 (cfgs 0).N = vScale (inAt m c) := by
  refine (dats m 0 c).arrAt_eq_of_after_last 8 t0_0 (by decide +kernel) _ fun j => ?_
  blk_simp
  all_goals try rw [after0_8]
  all_goals rfl

theorem end_v11 (c : Dev nD) : Pipeline.afterTail₀ cfgs (dats m) 0 (V0 m) [hostOps1] c main_v11
    = shapeCast S20x1x32x96 (outAll (inAt m c)) shapeCasts_S20x32x96_S20x1x32x96 := by
  unfold Pipeline.afterTail₀
  simp only [hostOps1, List.flatten_cons, List.flatten_nil, List.append_nil]
  after_results_simp
  rw [← arr5 m c]
  exact congrArg (fun X => shapeCast S20x1x32x96 X shapeCasts_S20x32x96_S20x1x32x96) (Pipeline.withArrays_arr spec0 (by decide) c (V0 m c) _ 5)
theorem end_v12 (c : Dev nD) : Pipeline.afterTail₀ cfgs (dats m) 0 (V0 m) [hostOps1] c main_v12
    = shapeCast S20x1x8x96 (kCodes (inAt m c)) shapeCasts_S20x8x96_S20x1x8x96 := by
  unfold Pipeline.afterTail₀
  simp only [hostOps1, List.flatten_cons, List.flatten_nil, List.append_nil]
  after_results_simp
  rw [← arr6 m c]
  exact congrArg (fun X => shapeCast S20x1x8x96 X shapeCasts_S20x8x96_S20x1x8x96) (Pipeline.withArrays_arr spec0 (by decide) c (V0 m c) _ 6)
theorem end_v14 (c : Dev nD) : Pipeline.afterTail₀ cfgs (dats m) 0 (V0 m) [hostOps1] c main_v14
    = shapeCast S20x1x8x48 (trunci 8 (vCodes (inAt m c)) natLt_8_32) shapeCasts_S20x8x48_S20x1x8x48 := by
  unfold Pipeline.afterTail₀
  simp only [hostOps1, List.flatten_cons, List.flatten_nil, List.append_nil]
  after_results_simp
  rw [← arr7 m c]
  exact congrArg (fun X => shapeCast S20x1x8x48 (trunci 8 X natLt_8_32) shapeCasts_S20x8x48_S20x1x8x48) (Pipeline.withArrays_arr spec0 (by decide) c (V0 m c) _ 7)
theorem end_v15 (c : Dev nD) : Pipeline.afterTail₀ cfgs (dats m) 0 (V0 m) [hostOps1] c main_v15
    = shapeCast S20x1x8 (vScale (inAt m c)) shapeCasts_S20x8x1_S20x1x8 := by
  unfold Pipeline.afterTail₀
  simp only [hostOps1, List.flatten_cons, List.flatten_nil, List.append_nil]
  after_results_simp
  rw [← arr8 m c]
  exact congrArg (fun X => shapeCast S20x1x8 X shapeCasts_S20x8x1_S20x1x8) (Pipeline.withArrays_arr spec0 (by decide) c (V0 m c) _ 8)

theorem in_x (c : Dev nD) : (inAt m c).x = shapeCast S20x32x96 (m ((c : Thread nD τ).loc main_arg0)) shapeCasts_S20x1x32x96_S20x32x96 := by
  funext j
  show iblk m c 1 t0_0 j = _
  unfold iblk
  rw [View.read_apply, cast_eq]
  have e : V m c (Pipeline.arrRef spec0 1) = shapeCast S20x32x96 (m ((c : Thread nD τ).loc main_arg0)) shapeCasts_S20x1x32x96_S20x32x96 := by
    show V m c main_v7 = _
    show StableHlo.after [hostOps0].flatten (fun b => m (c, b)) _ = _
    simp only [hostOps0, List.flatten_cons, List.flatten_nil, List.append_nil]
    after_results_simp
    rfl
  rw [e]
  refine congrArg _ (funext fun a => Fin.ext ?_)
  fin_cases a <;> (blk_simp; first | rfl | (rw [show win0_1.index t0_0 0 = 0 from by decide]; omega) | (rw [show win0_1.index t0_0 1 = 0 from by decide]; omega) | (rw [show win0_1.index t0_0 2 = 0 from by decide]; omega))

theorem in_kn (c : Dev nD) : (inAt m c).kn = shapeCast S20x8x96 (m ((c : Thread nD τ).loc main_arg1)) shapeCasts_S20x1x8x96_S20x8x96 := by
  funext j
  show iblk m c 2 t0_0 j = _
  unfold iblk
  rw [View.read_apply, cast_eq]
  have e : V m c (Pipeline.arrRef spec0 2) = shapeCast S20x8x96 (m ((c : Thread nD τ).loc main_arg1)) shapeCasts_S20x1x8x96_S20x8x96 := by
    show V m c main_v8 = _
    show StableHlo.after [hostOps0].flatten (fun b => m (c, b)) _ = _
    simp only [hostOps0, List.flatten_cons, List.flatten_nil, List.append_nil]
    after_results_simp
    rfl
  rw [e]
  refine congrArg _ (funext fun a => Fin.ext ?_)
  fin_cases a <;> (blk_simp; first | rfl | (rw [show win0_2.index t0_0 0 = 0 from by decide]; omega) | (rw [show win0_2.index t0_0 1 = 0 from by decide]; omega) | (rw [show win0_2.index t0_0 2 = 0 from by decide]; omega))

theorem in_vn (c : Dev nD) : (inAt m c).vn = shapeCast S20x8x96 (m ((c : Thread nD τ).loc main_arg2)) shapeCasts_S20x1x8x96_S20x8x96 := by
  funext j
  show iblk m c 3 t0_0 j = _
  unfold iblk
  rw [View.read_apply, cast_eq]
  have e : V m c (Pipeline.arrRef spec0 3) = shapeCast S20x8x96 (m ((c : Thread nD τ).loc main_arg2)) shapeCasts_S20x1x8x96_S20x8x96 := by
    show V m c main_v9 = _
    show StableHlo.after [hostOps0].flatten (fun b => m (c, b)) _ = _
    simp only [hostOps0, List.flatten_cons, List.flatten_nil, List.append_nil]
    after_results_simp
    rfl
  rw [e]
  refine congrArg _ (funext fun a => Fin.ext ?_)
  fin_cases a <;> (blk_simp; first | rfl | (rw [show win0_3.index t0_0 0 = 0 from by decide]; omega) | (rw [show win0_3.index t0_0 1 = 0 from by decide]; omega) | (rw [show win0_3.index t0_0 2 = 0 from by decide]; omega))

theorem in_ks (c : Dev nD) : (inAt m c).ks = m ((c : Thread nD τ).loc main_arg4) := by
  funext j
  show iblk m c 4 t0_0 j = _
  unfold iblk
  rw [View.read_apply, cast_eq, show V m c (Pipeline.arrRef spec0 4) = _ from V_main_arg4 m c]
  refine congrArg _ (funext fun a => Fin.ext ?_)
  fin_cases a <;> (blk_simp; first | rfl | (rw [show win0_4.index t0_0 0 = 0 from by decide]; omega) | (rw [show win0_4.index t0_0 1 = 0 from by decide]; omega) | (rw [show win0_4.index t0_0 2 = 0 from by decide]; omega))

/-- The run with its results named. -/
theorem run_values (hL : ∀ c, LenOk (inAt m c)) : θ_run defs (onTc (τ := τ) (main (F := F))) ⟨m, fun _ => 0, ρ⟩ (fun r => ∀ c : Dev nD,
      r.2.mem ((c.tc : Thread nD τ).loc main_v11) = shapeCast S20x1x32x96 (outAll (inAt m c)) shapeCasts_S20x32x96_S20x1x32x96
      ∧ r.2.mem ((c.tc : Thread nD τ).loc main_v12) = shapeCast S20x1x8x96 (kCodes (inAt m c)) shapeCasts_S20x8x96_S20x1x8x96
      ∧ r.2.mem ((c.tc : Thread nD τ).loc main_v14) = shapeCast S20x1x8x48 (trunci 8 (vCodes (inAt m c)) natLt_8_32) shapeCasts_S20x8x48_S20x1x8x48
      ∧ r.2.mem ((c.tc : Thread nD τ).loc main_v15) = shapeCast S20x1x8 (vScale (inAt m c)) shapeCasts_S20x8x1_S20x1x8) :=
  (θ_run defs _ _).mono (fun _ h c => ⟨
      ((h.1 c).2 main_v11 (Pipeline.mem_restRefs_of main_v11 (by decide) (by decide))).trans (end_v11 m c),
      ((h.1 c).2 main_v12 (Pipeline.mem_restRefs_of main_v12 (by decide) (by decide))).trans (end_v12 m c),
      ((h.1 c).2 main_v14 (Pipeline.mem_restRefs_of main_v14 (by decide) (by decide))).trans (end_v14 m c),
      ((h.1 c).2 main_v15 (Pipeline.mem_restRefs_of main_v15 (by decide) (by decide))).trans (end_v15 m c)⟩) (run_main m ρ hL)

end Cert.KernelIdeal.Hand

end
-- ==== Proof.RefQ.lean ====
/- Hand-written. The reference's quantisers, named: the terms that its run leaves in its second, third and fourth results. -/
module

public import proofs.«01_k».proof.Proof.Gen.ReferenceIdeal.Run
public import Idealize.ShloMosaic.PureOps.Ideal

@[expose] public section

set_option maxRecDepth 65536

noncomputable section

namespace Cert.ReferenceIdeal.Hand

open Cert.ReferenceIdeal Cert.ReferenceIdeal.Gen Idealize.ShloMosaic

/-! ## The reference's quantisers, named -/

/-- The reference's key codes. -/
def kRef (kn : FVec Ideal S20x1x8x96 .bf16) (ks : FVec Ideal S20x8x96 .f32) : IVec S20x1x8x96 8 :=
  trunci 8 (fptosi 32 (minimumf (broadcastInDim S20x1x8x96 ![] bcast_S_S20x1x8x96 (id (constant S_ .f32 0x42FE0000#32))) (maximumf (broadcastInDim S20x1x8x96 ![] bcast_S_S20x1x8x96 (id (constant S_ .f32 0xC2FE0000#32))) (Host.roundeven (Host.divf (extf .f32 kn bitsLt_bf16_f32) (broadcastInDim S20x1x8x96 ![0, 2, 3] bcast_S20x8x96_S20x1x8x96_0_2_3 ks)))))) natLt_8_32
/-- The reference's packed value codes. -/
def vRef (vn : FVec Ideal S20x1x8x96 .bf16) : IVec S20x1x8x48 8 :=
  trunci 8 (ori (andi (Host.slice S20x1x8x48 ![0, 0, 0, 0] ![1, 1, 1, 2] (fptosi 32 (minimumf (broadcastInDim S20x1x8x96 ![] bcast_S_S20x1x8x96 (id (constant S_ .f32 0x40E00000#32))) (maximumf (broadcastInDim S20x1x8x96 ![] bcast_S_S20x1x8x96 (id (constant S_ .f32 0xC0E00000#32))) (Host.roundeven (Host.divf (extf .f32 vn bitsLt_bf16_f32) (broadcastInDim S20x1x8x96 ![0, 1, 2, 3] bcast_S20x1x8x1_S20x1x8x96_0_1_2_3 (broadcastInDim S20x1x8x1 ![0, 1, 2] bcast_S20x1x8_S20x1x8x1_0_1_2 (select (cmpf .oeq (Host.reduce FloatOps.maximumf (Host.absf (extf .f32 vn bitsLt_bf16_f32)) (constant S_ .f32 0xFF800000#32) reducesTo_S20x1x8x96_S20x1x8_d3 h_S_) (broadcastInDim S20x1x8 ![] bcast_S_S20x1x8 (constant S_ .f32 0x00000000#32))) (broadcastInDim S20x1x8 ![] bcast_S_S20x1x8 (id (constant S_ .f32 0x3F800000#32))) (Host.divf (Host.reduce FloatOps.maximumf (Host.absf (extf .f32 vn bitsLt_bf16_f32)) (constant S_ .f32 0xFF800000#32) reducesTo_S20x1x8x96_S20x1x8_d3 h_S_) (broadcastInDim S20x1x8 ![] bcast_S_S20x1x8 (constant S_ .f32 0x40E00000#32))))))))))) slicesBy_S20x1x8x96_S20x1x8x48_0s1_0s1_0s1_0s2) (broadcastInDim S20x1x8x48 ![] bcast_S_S20x1x8x48 (constantI S_ 32 15#32))) (Host.shli (andi (Host.slice S20x1x8x48 ![0, 0, 0, 1] ![1, 1, 1, 2] (fptosi 32 (minimumf (broadcastInDim S20x1x8x96 ![] bcast_S_S20x1x8x96 (id (constant S_ .f32 0x40E00000#32))) (maximumf (broadcastInDim S20x1x8x96 ![] bcast_S_S20x1x8x96 (id (constant S_ .f32 0xC0E00000#32))) (Host.roundeven (Host.divf (extf .f32 vn bitsLt_bf16_f32) (broadcastInDim S20x1x8x96 ![0, 1, 2, 3] bcast_S20x1x8x1_S20x1x8x96_0_1_2_3 (broadcastInDim S20x1x8x1 ![0, 1, 2] bcast_S20x1x8_S20x1x8x1_0_1_2 (select (cmpf .oeq (Host.reduce FloatOps.maximumf (Host.absf (extf .f32 vn bitsLt_bf16_f32)) (constant S_ .f32 0xFF800000#32) reducesTo_S20x1x8x96_S20x1x8_d3 h_S_) (broadcastInDim S20x1x8 ![] bcast_S_S20x1x8 (constant S_ .f32 0x00000000#32))) (broadcastInDim S20x1x8 ![] bcast_S_S20x1x8 (id (constant S_ .f32 0x3F800000#32))) (Host.divf (Host.reduce FloatOps.maximumf (Host.absf (extf .f32 vn bitsLt_bf16_f32)) (constant S_ .f32 0xFF800000#32) reducesTo_S20x1x8x96_S20x1x8_d3 h_S_) (broadcastInDim S20x1x8 ![] bcast_S_S20x1x8 (constant S_ .f32 0x40E00000#32))))))))))) slicesBy_S20x1x8x96_S20x1x8x48_0s1_0s1_0s1_1s2) (broadcastInDim S20x1x8x48 ![] bcast_S_S20x1x8x48 (constantI S_ 32 15#32))) (broadcastInDim S20x1x8x48 ![] bcast_S_S20x1x8x48 (constantI S_ 32 4#32)))) natLt_8_32
/-- The reference's value scales. -/
def sRef (vn : FVec Ideal S20x1x8x96 .bf16) : FVec Ideal S20x1x8 .f32 :=
  select (cmpf .oeq (Host.reduce FloatOps.maximumf (Host.absf (extf .f32 vn bitsLt_bf16_f32)) (constant S_ .f32 0xFF800000#32) reducesTo_S20x1x8x96_S20x1x8_d3 h_S_) (broadcastInDim S20x1x8 ![] bcast_S_S20x1x8 (constant S_ .f32 0x00000000#32))) (broadcastInDim S20x1x8 ![] bcast_S_S20x1x8 (id (constant S_ .f32 0x3F800000#32))) (Host.divf (Host.reduce FloatOps.maximumf (Host.absf (extf .f32 vn bitsLt_bf16_f32)) (constant S_ .f32 0xFF800000#32) reducesTo_S20x1x8x96_S20x1x8_d3 h_S_) (broadcastInDim S20x1x8 ![] bcast_S_S20x1x8 (constant S_ .f32 0x40E00000#32)))

end Cert.ReferenceIdeal.Hand

end
-- ==== Proof.QuantI.lean ====
/- Hand-written. -/
module

public import proofs.«01_k».proof.Proof.EndI
public import proofs.«01_k».proof.Proof.RefQ

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A number clipped to ±127 has the same low byte whether it is converted to a byte or to a word. -/
theorem toInt8_clip (x : EReal) : FloatOps.fptosi (F := Ideal) 8 (φ := .f32) (min (Ideal.ofBits FTy.f32 1123942400#32) (max (Ideal.ofBits FTy.f32 3271426048#32) x))
    = BitVec.setWidth 8 (FloatOps.fptosi (F := Ideal) 32 (φ := .f32) (min (Ideal.ofBits FTy.f32 1123942400#32) (max (Ideal.ofBits FTy.f32 3271426048#32) x))) := by
  have e1 : Ideal.ofBits FTy.f32 1123942400#32 = ((127 : ℝ) : EReal) := by
    simp [Ideal.ofBits, Ideal.ieee, -EReal.coe_mul, -EReal.coe_neg]; norm_num
  have e2 : Ideal.ofBits FTy.f32 3271426048#32 = ((-127 : ℝ) : EReal) := by
    simp [Ideal.ofBits, Ideal.ieee, -EReal.coe_mul, -EReal.coe_neg]; norm_num
  rw [e1, e2]
  obtain ⟨r, hr, hlo, hhi⟩ : ∃ r : ℝ, min ((127 : ℝ) : EReal) (max ((-127 : ℝ) : EReal) x) = (r : EReal) ∧ -127 ≤ r ∧ r ≤ 127 := by
    induction x using EReal.rec with
    | bot => exact ⟨-127, by rw [max_eq_left bot_le, min_eq_right (EReal.coe_le_coe_iff.mpr (by norm_num))], by norm_num, by norm_num⟩
    | top => exact ⟨127, by rw [max_eq_right le_top, min_eq_left le_top], by norm_num, le_refl _⟩
    | coe y => exact ⟨min 127 (max (-127) y), by norm_cast, le_min (by norm_num) (le_max_left _ _), min_le_left _ _⟩
  rw [hr]
  show BitVec.ofInt 8 (Ideal.toIntClamped _ _ _) = BitVec.setWidth 8 (BitVec.ofInt 32 (Ideal.toIntClamped _ _ _))
  rw [Ideal.toIntClamped_coe, Ideal.toIntClamped_coe]
  obtain ⟨n, hn, h1, h2⟩ : ∃ n : ℤ, (if 0 ≤ r then ⌊r⌋ else ⌈r⌉) = n ∧ -127 ≤ n ∧ n ≤ 127 := by
    split
    · rename_i h0
      refine ⟨_, rfl, ?_, ?_⟩
      · have := Int.floor_nonneg.mpr h0; omega
      · exact Int.floor_le_iff.mpr (by push_cast; linarith)
    · rename_i h0
      refine ⟨_, rfl, ?_, ?_⟩
      · exact Int.le_ceil_iff.mpr (by push_cast; linarith)
      · exact Int.ceil_le.mpr (by push_cast; linarith)
  rw [hn]
  have c1 : max (-((2 ^ (8 - 1) : ℕ) : ℤ)) (min (((2 ^ (8 - 1) : ℕ) : ℤ) - 1) n) = n := by norm_num; omega
  have c2 : max (-((2 ^ (32 - 1) : ℕ) : ℤ)) (min (((2 ^ (32 - 1) : ℕ) : ℤ) - 1) n) = n := by norm_num; omega
  rw [c1, c2]
  apply BitVec.eq_of_toNat_eq
  simp only [BitVec.toNat_setWidth, BitVec.toNat_ofInt]
  omega

/-- The selecting columns of the packing product: a sum over a row against the indicator of one place is the row at that place. -/
theorem sel_sum (f : Fin 96 → EReal) (p : Fin 96) (w : BitVec 32) (hw : w = BitVec.ofNat 32 p.val) :
    (∑ x, f x * FloatOps.sitofp (F := Ideal) FTy.f32 (BitVec.setWidth 32 (IntOp.cmpi CmpIPredicate.eq (BitVec.ofNat 32 x.val) w))) = f p := by
  subst hw
  have e0 : FloatOps.sitofp (F := Ideal) FTy.f32 (BitVec.setWidth 32 (0#1)) = (0 : EReal) := by
    show (((BitVec.setWidth 32 (0#1)).toInt : ℝ) : EReal) = 0
    simp
  have e1 : FloatOps.sitofp (F := Ideal) FTy.f32 (BitVec.setWidth 32 (1#1)) = (1 : EReal) := by
    show (((BitVec.setWidth 32 (1#1)).toInt : ℝ) : EReal) = 1
    rw [show (BitVec.setWidth 32 (1#1)).toInt = 1 from by decide]; simp
  rw [Finset.sum_eq_single p]
  · rw [show IntOp.cmpi CmpIPredicate.eq (BitVec.ofNat 32 p.val) (BitVec.ofNat 32 p.val) = 1#1 from by simp [IntOp.cmpi], e1, mul_one]
  · intro x _ hx
    have hne : BitVec.ofNat 32 x.val ≠ BitVec.ofNat 32 p.val := by
      intro h
      have h' := congrArg BitVec.toNat h
      simp only [BitVec.toNat_ofNat] at h'
      exact hx (Fin.ext (by omega))
    rw [show IntOp.cmpi CmpIPredicate.eq (BitVec.ofNat 32 x.val) (BitVec.ofNat 32 p.val) = 0#1 from by show BitVec.ofBool (_ == _) = 0#1; rw [beq_eq_false_iff_ne.mpr hne]; rfl, e0, mul_zero]
  · intro h; exact absurd (Finset.mem_univ p) h

theorem k_eq (kn : FVec Ideal S20x1x8x96 .bf16) (ks : FVec Ideal S20x8x96 .f32) :
    shapeCast S20x1x8x96 (k0_pay94 (F := Ideal) (shapeCast S20x8x96 kn shapeCasts_S20x1x8x96_S20x8x96) ks) shapeCasts_S20x8x96_S20x1x8x96
      = Cert.ReferenceIdeal.Hand.kRef kn ks := by
  funext j
  unfold Cert.ReferenceIdeal.Hand.kRef k0_pay94
  pointwise
  exact toInt8_clip _

theorem s_eq (vn : FVec Ideal S20x1x8x96 .bf16) :
    shapeCast S20x1x8 (k0_pay96 (F := Ideal) (k0_pay95 (shapeCast S20x8x96 vn shapeCasts_S20x1x8x96_S20x8x96))) shapeCasts_S20x8x1_S20x1x8
      = Cert.ReferenceIdeal.Hand.sRef vn := by
  funext j
  unfold Cert.ReferenceIdeal.Hand.sRef k0_pay96 k0_pay95 k0_pay93
  pointwise
  simp only [id, ValueIdx.constant_apply]
  pointwise
  try rfl

theorem v_eq (vn : FVec Ideal S20x1x8x96 .bf16) (w : FVec Ideal S20x8x96 .bf16) (hw : w = shapeCast S20x8x96 vn shapeCasts_S20x1x8x96_S20x8x96) :
    shapeCast S20x1x8x48 (trunci 8 (k0_pay1 (k0_pay98 (F := Ideal) (k0_pay93 (F := Ideal) w) (k0_pay95 (F := Ideal) w)) (k0_pay99 (F := Ideal) (k0_pay93 (F := Ideal) w) (k0_pay95 (F := Ideal) w)) 4#32) natLt_8_32) shapeCasts_S20x8x48_S20x1x8x48
      = Cert.ReferenceIdeal.Hand.vRef vn := by
  subst hw
  funext j
  unfold Cert.ReferenceIdeal.Hand.vRef k0_pay1 k0_pay98 k0_pay99 k0_pay97 k0_pay96 k0_pay95 k0_pay93
  pointwise
  have hj : (j 3).val < 48 := (j 3).isLt
  rw [sel_sum _ ⟨2 * (j 3).val, by omega⟩ _ (by apply BitVec.eq_of_toNat_eq; simp [IntOp.muli]; try omega),
    sel_sum _ ⟨1 + 2 * (j 3).val, by omega⟩ _ (by apply BitVec.eq_of_toNat_eq; simp [IntOp.muli, IntOp.addi]; try omega)]
  simp only [id, ValueIdx.constant_apply]
  pointwise
  try rfl

end Cert.KernelIdeal.Hand

end
-- ==== Proof.OperI.lean ====
/- Hand-written. The kernel's two widened operands, the queries laid out by key group and the key scales repeated, at an index. -/
module

public import proofs.«01_k».proof.Proof.EndI
public import proofs.«01_k».proof.Proof.RefQ

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The words -/

/-- The group word of a head: the head divided by four. -/
abbrev grpW (v : BitVec 32) : BitVec 32 :=
  Scalar.select (IntOp.andi (IntOp.cmpi .ne (IntOp.subi (BitVec.setWidth 32 (IntOp.cmpi .sgt v 0#32)) (BitVec.setWidth 32 (IntOp.cmpi .slt v 0#32)))
    (Scalar.subi (Scalar.extui (Scalar.cmpi .sgt 4#32 0#32)) (Scalar.extui (Scalar.cmpi .slt 4#32 0#32)))) (IntOp.cmpi .ne (IntOp.remsi .vector v 4#32) 0#32))
    (IntOp.subi (IntOp.divsi .vector v 4#32) 1#32) (IntOp.divsi .vector v 4#32)

theorem grp_eq : ∀ h : Fin 32, ∀ k : Fin 8, IntOp.cmpi .eq (grpW (BitVec.ofNat 32 h.val)) (BitVec.ofNat 32 k.val) = if h.val / 4 = k.val then 1#1 else 0#1 := by
  decide

theorem grp_sel {α : Type} (h : Fin 32) (k : Fin 8) (a b : α) :
    Scalar.select (IntOp.cmpi .eq (grpW (BitVec.ofNat 32 h.val)) (BitVec.ofNat 32 k.val)) a b = if h.val / 4 = k.val then a else b := by
  rw [grp_eq]; split <;> rfl

/-! ## The block-diagonal queries and the key scales -/

/-- The block-diagonal queries. -/
def qG (xw : Vec Ideal S1x32x96 .bf16) : Vec Ideal S32x768 .bf16 := fun y =>
  if (y 0).val / 4 = (y 1).val / 96 then xw (ix3 0 (y 0) ⟨(y 1).val % 96, Nat.mod_lt _ (by decide)⟩) else 0

/-- The key scales, a row per key channel. -/
def kG (ksw : Vec Ideal S1x8x96 .f32) : Vec Ideal S768x128 .bf16 := fun y =>
  ksw (ix3 0 ⟨(y 0).val / 96, by have h : (y 0).val < 768 := (y 0).isLt; omega⟩ ⟨(y 0).val % 96, Nat.mod_lt _ (by decide)⟩)

theorem qG_emb (xw : Vec Ideal S1x32x96 .bf16) (k : Fin 8) (off : Fin 2 → ℕ) (hoff : off = ![0, k.val * 96]) (inb) (x : S32x96.Idx) :
    (if (x 0).val / 4 = k.val then xw (ix3 0 (x 0) (x 1)) else (0 : EReal)) = qG xw ((Rect.unit (s := S32x768) off S32x96.size inb).emb x) := by
  subst hoff
  have h0 : ((Rect.unit (s := S32x768) ![0, k.val * 96] S32x96.size inb).emb x 0 : ℕ) = (x 0).val := by
    rw [ValueKit.rect_emb_unit_val]; exact Nat.zero_add _
  have h1 : ((Rect.unit (s := S32x768) ![0, k.val * 96] S32x96.size inb).emb x 1 : ℕ) = k.val * 96 + (x 1).val := by
    rw [ValueKit.rect_emb_unit_val]; rfl
  have hx : (x 1).val < 96 := (x 1).isLt
  unfold qG
  rw [show ((Rect.unit (s := S32x768) ![0, k.val * 96] S32x96.size inb).emb x 1 : ℕ) / 96 = k.val by rw [h1]; omega]
  rw [h0]
  refine if_congr Iff.rfl (congrArg xw ?_) rfl
  refine congrArg₂ (ix3 0) (Fin.ext h0.symm) (Fin.ext ?_)
  show (x 1).val = _ % 96
  rw [h1]; omega

theorem kG_emb (ksw : Vec Ideal S1x8x96 .f32) (k : Fin 8) (off : Fin 2 → ℕ) (hoff : off = ![k.val * 96, 0]) (inb) (x : S96x128.Idx) :
    ksw (ix3 0 k (x 0)) = kG ksw ((Rect.unit (s := S768x128) off S96x128.size inb).emb x) := by
  subst hoff
  have h1 : ((Rect.unit (s := S768x128) ![k.val * 96, 0] S96x128.size inb).emb x 0 : ℕ) = k.val * 96 + (x 0).val := by
    rw [ValueKit.rect_emb_unit_val]; rfl
  have hx : (x 0).val < 96 := (x 0).isLt
  unfold kG
  refine congrArg ksw ?_
  refine congrArg₂ (ix3 0) (Fin.ext ?_) (Fin.ext ?_)
  · show k.val = _ / 96
    rw [h1]; omega
  · show (x 0).val = _ % 96
    rw [h1]; omega

theorem qbd_at (xw : Vec Ideal S1x32x96 .bf16) (y : S32x768.Idx) : View.canon (qbdPieces xw) y = qG xw y := by
  have p : ∀ x : S32x96.Idx, k0_pay15 k0_pay2 (k0_pay7 xw) x = (if (x 0).val / 4 = (0 : Fin 8).val then xw (ix3 0 (x 0) (x 1)) else (0 : EReal)) := fun x => by
    unfold k0_pay15 k0_pay7 k0_pay2; pointwise; exact grp_sel (x 0) 0 _ _
  have p1 : ∀ x : S32x96.Idx, k0_pay17 (k0_pay16 k0_pay2 (k0_pay7 xw)) x = (if (x 0).val / 4 = (1 : Fin 8).val then xw (ix3 0 (x 0) (x 1)) else (0 : EReal)) := fun x => by
    unfold k0_pay17 k0_pay16 k0_pay7 k0_pay2; pointwise; exact grp_sel (x 0) 1 _ _
  have p2 : ∀ x : S32x96.Idx, k0_pay18 k0_pay2 (k0_pay7 xw) x = (if (x 0).val / 4 = (2 : Fin 8).val then xw (ix3 0 (x 0) (x 1)) else (0 : EReal)) := fun x => by
    unfold k0_pay18 k0_pay7 k0_pay2; pointwise; exact grp_sel (x 0) 2 _ _
  have p3 : ∀ x : S32x96.Idx, k0_pay19 k0_pay2 (k0_pay7 xw) x = (if (x 0).val / 4 = (3 : Fin 8).val then xw (ix3 0 (x 0) (x 1)) else (0 : EReal)) := fun x => by
    unfold k0_pay19 k0_pay7 k0_pay2; pointwise; exact grp_sel (x 0) 3 _ _
  have p4 : ∀ x : S32x96.Idx, k0_pay20 k0_pay2 (k0_pay7 xw) x = (if (x 0).val / 4 = (4 : Fin 8).val then xw (ix3 0 (x 0) (x 1)) else (0 : EReal)) := fun x => by
    unfold k0_pay20 k0_pay7 k0_pay2; pointwise; exact grp_sel (x 0) 4 _ _
  have p5 : ∀ x : S32x96.Idx, k0_pay21 k0_pay2 (k0_pay7 xw) x = (if (x 0).val / 4 = (5 : Fin 8).val then xw (ix3 0 (x 0) (x 1)) else (0 : EReal)) := fun x => by
    unfold k0_pay21 k0_pay7 k0_pay2; pointwise; exact grp_sel (x 0) 5 _ _
  have p6 : ∀ x : S32x96.Idx, k0_pay22 k0_pay2 (k0_pay7 xw) x = (if (x 0).val / 4 = (6 : Fin 8).val then xw (ix3 0 (x 0) (x 1)) else (0 : EReal)) := fun x => by
    unfold k0_pay22 k0_pay7 k0_pay2; pointwise; exact grp_sel (x 0) 6 _ _
  have p7 : ∀ x : S32x96.Idx, k0_pay23 k0_pay2 (k0_pay7 xw) x = (if (x 0).val / 4 = (7 : Fin 8).val then xw (ix3 0 (x 0) (x 1)) else (0 : EReal)) := fun x => by
    unfold k0_pay23 k0_pay7 k0_pay2; pointwise; exact grp_sel (x 0) 7 _ _
  refine View.canon_apply_of_pieces (qG xw) (qbdPieces xw) ?_ y ?_
  · unfold qbdPieces
    intro q hq
    simp only [List.mem_cons, List.not_mem_nil, _root_.or_false] at hq
    rcases hq with rfl | rfl | rfl | rfl | rfl | rfl | rfl | rfl
    · exact fun x => (p7 x).trans (qG_emb xw 7 ![0, 672] rfl inb_S32x768_S32x96_0_672 x)
    · exact fun x => (p6 x).trans (qG_emb xw 6 ![0, 576] rfl inb_S32x768_S32x96_0_576 x)
    · exact fun x => (p5 x).trans (qG_emb xw 5 ![0, 480] rfl inb_S32x768_S32x96_0_480 x)
    · exact fun x => (p4 x).trans (qG_emb xw 4 ![0, 384] rfl inb_S32x768_S32x96_0_384 x)
    · exact fun x => (p3 x).trans (qG_emb xw 3 ![0, 288] rfl inb_S32x768_S32x96_0_288 x)
    · exact fun x => (p2 x).trans (qG_emb xw 2 ![0, 192] rfl inb_S32x768_S32x96_0_192 x)
    · exact fun x => (p1 x).trans (qG_emb xw 1 ![0, 96] rfl inb_S32x768_S32x96_0_96 x)
    · exact fun x => (p x).trans (qG_emb xw 0 ![0, 0] rfl inb_S32x768_S32x96_0_0 x)
  · have hy : (y 1).val < 768 := (y 1).isLt
    have hy0 : (y 0).val < 32 := (y 0).isLt
    have m : ∀ (o : ℕ) (inb), o ≤ (y 1).val → (y 1).val < o + 96 → y ∈ (Rect.unit (s := S32x768) ![0, o] S32x96.size inb).set := fun o inb h1 h2 =>
      Rect.mem_set_unit.mpr (Fin.forall_fin_two.mpr ⟨⟨Nat.zero_le _, by show (y 0).val < 0 + 32; omega⟩, ⟨h1, h2⟩⟩)
    unfold qbdPieces
    simp only [List.exists_mem_cons_iff, List.not_mem_nil, _root_.false_and, exists_false, _root_.or_false]
    rcases (by omega : (672 ≤ (y 1).val ∧ (y 1).val < 672 + 96) ∨ (576 ≤ (y 1).val ∧ (y 1).val < 576 + 96) ∨ (480 ≤ (y 1).val ∧ (y 1).val < 480 + 96)
      ∨ (384 ≤ (y 1).val ∧ (y 1).val < 384 + 96) ∨ (288 ≤ (y 1).val ∧ (y 1).val < 288 + 96) ∨ (192 ≤ (y 1).val ∧ (y 1).val < 192 + 96)
      ∨ (96 ≤ (y 1).val ∧ (y 1).val < 96 + 96) ∨ (0 ≤ (y 1).val ∧ (y 1).val < 0 + 96)) with h | h | h | h | h | h | h | h
    · exact Or.inl (m _ _ h.1 h.2)
    · exact Or.inr (Or.inl (m _ _ h.1 h.2))
    · exact Or.inr (Or.inr (Or.inl (m _ _ h.1 h.2)))
    · exact Or.inr (Or.inr (Or.inr (Or.inl (m _ _ h.1 h.2))))
    · exact Or.inr (Or.inr (Or.inr (Or.inr (Or.inl (m _ _ h.1 h.2)))))
    · exact Or.inr (Or.inr (Or.inr (Or.inr (Or.inr (Or.inl (m _ _ h.1 h.2))))))
    · exact Or.inr (Or.inr (Or.inr (Or.inr (Or.inr (Or.inr (Or.inl (m _ _ h.1 h.2)))))))
    · exact Or.inr (Or.inr (Or.inr (Or.inr (Or.inr (Or.inr (Or.inr (m _ _ h.1 h.2)))))))

theorem pay24_at (w : Vec Ideal S1x8x96 .f32) (k : Fin 8) (d : Fin 96) : k0_pay24 w (ix2 d k) = w (ix3 0 k d) := by
  unfold k0_pay24; pointwise

theorem ksb_at (w : Vec Ideal S1x8x96 .f32) (y : S768x128.Idx) : View.canon (ksbPieces w) y = kG w y := by
  have p : ∀ x : S96x128.Idx, k0_pay25 w x = w (ix3 0 0 (x 0)) := fun x => by
    unfold k0_pay25 k0_pay24; pointwise
  have p1 : ∀ x : S96x128.Idx, k0_pay26 w x = w (ix3 0 1 (x 0)) := fun x => by
    unfold k0_pay26 k0_pay24; pointwise
  have p2 : ∀ x : S96x128.Idx, k0_pay28 (k0_pay27 w) x = w (ix3 0 2 (x 0)) := fun x => by
    unfold k0_pay28 k0_pay27 k0_pay24; pointwise
  have p3 : ∀ x : S96x128.Idx, k0_pay29 (k0_pay24 w) x = w (ix3 0 3 (x 0)) := fun x => by
    unfold k0_pay29 k0_pay24; pointwise
  have p4 : ∀ x : S96x128.Idx, k0_pay30 (k0_pay24 w) x = w (ix3 0 4 (x 0)) := fun x => by
    unfold k0_pay30 k0_pay24; pointwise
  have p5 : ∀ x : S96x128.Idx, k0_pay31 (k0_pay24 w) x = w (ix3 0 5 (x 0)) := fun x => by
    unfold k0_pay31 k0_pay24; pointwise
  have p6 : ∀ x : S96x128.Idx, k0_pay32 (k0_pay24 w) x = w (ix3 0 6 (x 0)) := fun x => by
    unfold k0_pay32 k0_pay24; pointwise
  have p7 : ∀ x : S96x128.Idx, k0_pay33 (k0_pay24 w) x = w (ix3 0 7 (x 0)) := fun x => by
    unfold k0_pay33 k0_pay24; pointwise
  refine View.canon_apply_of_pieces (kG w) (ksbPieces w) ?_ y ?_
  · unfold ksbPieces
    intro q hq
    simp only [List.mem_cons, List.not_mem_nil, _root_.or_false] at hq
    rcases hq with rfl | rfl | rfl | rfl | rfl | rfl | rfl | rfl
    · exact fun x => (p7 x).trans (kG_emb w 7 ![672, 0] rfl inb_S768x128_S96x128_672_0 x)
    · exact fun x => (p6 x).trans (kG_emb w 6 ![576, 0] rfl inb_S768x128_S96x128_576_0 x)
    · exact fun x => (p5 x).trans (kG_emb w 5 ![480, 0] rfl inb_S768x128_S96x128_480_0 x)
    · exact fun x => (p4 x).trans (kG_emb w 4 ![384, 0] rfl inb_S768x128_S96x128_384_0 x)
    · exact fun x => (p3 x).trans (kG_emb w 3 ![288, 0] rfl inb_S768x128_S96x128_288_0 x)
    · exact fun x => (p2 x).trans (kG_emb w 2 ![192, 0] rfl inb_S768x128_S96x128_192_0 x)
    · exact fun x => (p1 x).trans (kG_emb w 1 ![96, 0] rfl inb_S768x128_S96x128_96_0 x)
    · exact fun x => (p x).trans (kG_emb w 0 ![0, 0] rfl inb_S768x128_S96x128_0_0 x)
  · have hy : (y 0).val < 768 := (y 0).isLt
    have hy0 : (y 1).val < 128 := (y 1).isLt
    have m : ∀ (o : ℕ) (inb), o ≤ (y 0).val → (y 0).val < o + 96 → y ∈ (Rect.unit (s := S768x128) ![o, 0] S96x128.size inb).set := fun o inb h1 h2 =>
      Rect.mem_set_unit.mpr (Fin.forall_fin_two.mpr ⟨⟨h1, h2⟩, ⟨Nat.zero_le _, by show (y 1).val < 0 + 128; omega⟩⟩)
    unfold ksbPieces
    simp only [List.exists_mem_cons_iff, List.not_mem_nil, _root_.false_and, exists_false, _root_.or_false]
    rcases (by omega : (672 ≤ (y 0).val ∧ (y 0).val < 672 + 96) ∨ (576 ≤ (y 0).val ∧ (y 0).val < 576 + 96) ∨ (480 ≤ (y 0).val ∧ (y 0).val < 480 + 96)
      ∨ (384 ≤ (y 0).val ∧ (y 0).val < 384 + 96) ∨ (288 ≤ (y 0).val ∧ (y 0).val < 288 + 96) ∨ (192 ≤ (y 0).val ∧ (y 0).val < 192 + 96)
      ∨ (96 ≤ (y 0).val ∧ (y 0).val < 96 + 96) ∨ (0 ≤ (y 0).val ∧ (y 0).val < 0 + 96)) with h | h | h | h | h | h | h | h
    · exact Or.inl (m _ _ h.1 h.2)
    · exact Or.inr (Or.inl (m _ _ h.1 h.2))
    · exact Or.inr (Or.inr (Or.inl (m _ _ h.1 h.2)))
    · exact Or.inr (Or.inr (Or.inr (Or.inl (m _ _ h.1 h.2))))
    · exact Or.inr (Or.inr (Or.inr (Or.inr (Or.inl (m _ _ h.1 h.2)))))
    · exact Or.inr (Or.inr (Or.inr (Or.inr (Or.inr (Or.inl (m _ _ h.1 h.2))))))
    · exact Or.inr (Or.inr (Or.inr (Or.inr (Or.inr (Or.inr (Or.inl (m _ _ h.1 h.2)))))))
    · exact Or.inr (Or.inr (Or.inr (Or.inr (Or.inr (Or.inr (Or.inr (m _ _ h.1 h.2)))))))

end Cert.KernelIdeal.Hand

end
-- ==== Proof.StepQI.lean ====
/- Hand-written. What each value of one pass of the loop is at an index. -/
module

public import proofs.«01_k».proof.Proof.OperI

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## One chunk's operations at an index -/

section ops

variable (ln : IVec S32x1024 32) (cw len : BitVec 32) (ksb : Vec Ideal S768x128 .bf16) (kt : Vec Ideal S1x768x1024 .i8) (qbd : Vec Ideal S32x768 .bf16)
  (mcol lcol : Vec Ideal S32x1 .f32) (h : Fin 32) (x : Fin 1024) (l : Fin 128) (r : Fin 768)

theorem e36 : k0_pay36 ln cw ksb kt qbd len mcol (ix2 h 0)
    = max (mcol (ix2 h 0)) (Finset.fold max (Ideal.ofBits .f32 4286578688#32) (fun x => k0_pay35 ln cw ksb kt qbd len (ix2 h x)) Finset.univ) := by
  unfold k0_pay36
  pointwise

theorem e37 : k0_pay37 ln cw ksb kt qbd len mcol (ix2 h 0) = Ideal.exp (mcol (ix2 h 0) - k0_pay36 ln cw ksb kt qbd len mcol (ix2 h 0)) := by
  unfold k0_pay37
  pointwise

theorem e38 : k0_pay38 ln cw ksb kt qbd len mcol (ix2 h x)
    = Ideal.exp (k0_pay35 ln cw ksb kt qbd len (ix2 h x) - k0_pay36 ln cw ksb kt qbd len mcol (ix2 h 0)) := by
  unfold k0_pay38
  pointwise

theorem e41 : k0_pay41 (k0_pay39 ln cw ksb kt qbd len mcol lcol) (k0_pay40 ln cw ksb kt qbd len mcol) (ix2 h l)
    = lcol (ix2 h 0) * k0_pay37 ln cw ksb kt qbd len mcol (ix2 h 0) + ∑ x, k0_pay38 ln cw ksb kt qbd len mcol (ix2 h x) := by
  unfold k0_pay41 k0_pay40 k0_pay39
  pointwise

theorem e42 (v : Vec Ideal S32x1 .f32) : k0_pay42 (F := Ideal) v (ix2 h l) = v (ix2 h 0) := by
  unfold k0_pay42
  pointwise

theorem e43 (v162 : IVec S32x1024 1) (v173 : Vec Ideal S32x1024 .f32) (vs : Vec Ideal S1x8x1024 .f32) :
    k0_pay43 v162 v173 vs (ix2 h x) = Scalar.select (v162 (ix2 h x)) (v173 (ix2 h x) * vs (ix3 0 ⟨h.val / 4, by omega⟩ x)) 0 := by
  unfold k0_pay43
  pointwise

theorem e3 (o acc : Vec Ideal S768x32 .f32) (v : Vec Ideal S32x1 .f32) : k0_pay3 o (k0_pay49 v acc) (ix2 r h) = acc (ix2 r h) * v (ix2 h 0) + o (ix2 r h) := by
  unfold k0_pay3 k0_pay49
  pointwise

theorem e34 : k0_pay34 (F := Ideal) lanes cw len (ix2 h x) = IntOp.cmpi .slt (BitVec.ofNat 32 x.val) (Scalar.subi len (Scalar.muli cw 1024#32)) := by
  unfold k0_pay34 lanes
  pointwise

theorem e35 (kR : Fin 768 → EReal) (hk : ∀ r l, ksb (ix2 r l) = kR r) : k0_pay35 lanes cw ksb kt qbd len (ix2 h x)
    = Scalar.select (IntOp.cmpi .slt (BitVec.ofNat 32 x.val) (Scalar.subi len (Scalar.muli cw 1024#32)))
      ((∑ r : Fin 768, qbd (ix2 h r) * ((FloatOps.sitofp (F := Ideal) .bf16 (kt (ix3 0 r x)) : EReal) * kR r)) * Ideal.ofBits .f32 1037108716#32)
      (Ideal.ofBits .f32 4286578688#32) := by
  unfold k0_pay35 k0_pay34 lanes
  pointwise
  simp only [hk, dite_eq_ite, ite_self]

theorem eOut (s : St Ideal) (d : Fin 96) (hr : h.val / 4 * 96 + d.val < 768) : outSlab s (ix3 0 h d)
    = Ideal.div (s.acc (ix2 ⟨h.val / 4 * 96 + d.val, hr⟩ h)) (s.l (ix2 h 0)) := by
  unfold outSlab k0_pay4
  pointwise
  refine congrArg₂ Ideal.div ?_ (congrArg s.l ?_)
  · refine (Finset.sum_eq_single (⟨h.val / 4, by omega⟩ : Fin 8) ?_ ?_).trans ?_
    · intro k _ hk
      refine (grp_sel h k _ _).trans (if_neg fun e => hk (Fin.ext e.symm))
    · exact fun hn => absurd (Finset.mem_univ _) hn
    · exact (grp_sel h _ _ _).trans (if_pos rfl)
  · funext a; fin_cases a <;> exact Fin.ext (by rw [ValueKit.rect_emb_unit_val]; simp)

end ops

/-! ## The start -/

theorem init_m (I : In Ideal) (b : Fin 20) (h : Fin 32) (l : Fin 128) : (initSt I b).m (ix2 h l)
    = (∑ x, I.xw b (ix3 0 h x) * I.knw b (ix3 0 ⟨h.val / 4, by omega⟩ x)) * Ideal.ofBits FTy.f32 1037108716#32 := by
  unfold initSt k0_pay8 k0_pay7
  pointwise

theorem init_l (I : In Ideal) (b : Fin 20) (h : Fin 32) (l : Fin 128) : (initSt I b).l (ix2 h l) = 1 := by
  unfold initSt k0_pay9
  pointwise

theorem init_acc (I : In Ideal) (b : Fin 20) (r : Fin 768) (h : Fin 32) (hr : r.val / 96 = h.val / 4) : (initSt I b).acc (ix2 r h)
    = I.vnw b (ix3 0 ⟨h.val / 4, by omega⟩ ⟨r.val % 96, Nat.mod_lt _ (by decide)⟩) := by
  unfold initSt k0_pay14 k0_pay13 k0_pay12 k0_pay11 k0_pay10
  pointwise
  exact (grp_sel h ⟨r.val / 96, by omega⟩ _ _).trans (if_pos hr.symm)

/-! ## The windows -/

theorem xw_at (I : In Ideal) (b : Fin 20) (h : Fin 32) (d : Fin 96) : I.xw b (ix3 0 h d) = I.x (ix3 b h d) := by
  unfold In.xw VecWindow.window
  refine congrArg I.x ?_
  funext a; fin_cases a <;> exact Fin.ext (by rw [ValueKit.rect_emb_unit_val]; simp)

theorem knw_at (I : In Ideal) (b : Fin 20) (h : Fin 8) (d : Fin 96) : I.knw b (ix3 0 h d) = I.kn (ix3 b h d) := by
  unfold In.knw VecWindow.window
  refine congrArg I.kn ?_
  funext a; fin_cases a <;> exact Fin.ext (by rw [ValueKit.rect_emb_unit_val]; simp)

theorem vnw_at (I : In Ideal) (b : Fin 20) (h : Fin 8) (d : Fin 96) : I.vnw b (ix3 0 h d) = I.vn (ix3 b h d) := by
  unfold In.vnw VecWindow.window
  refine congrArg I.vn ?_
  funext a; fin_cases a <;> exact Fin.ext (by rw [ValueKit.rect_emb_unit_val]; simp)

theorem ksw_at (I : In Ideal) (b : Fin 20) (h : Fin 8) (d : Fin 96) : I.ksw b (ix3 0 h d) = I.ks (ix3 b h d) := by
  unfold In.ksw VecWindow.window
  refine congrArg I.ks ?_
  funext a; fin_cases a <;> exact Fin.ext (by rw [ValueKit.rect_emb_unit_val]; simp)

theorem ktw_at (I : In Ideal) (b : Fin 20) (c : Fin 8) (r : Fin 768) (x : Fin 1024) : I.ktw b c (ix3 0 r x) = I.kt (ix3 b r ⟨c.val * 1024 + x.val, by omega⟩) := by
  unfold In.ktw VecWindow.window
  refine congrArg I.kt ?_
  funext a; fin_cases a <;> exact Fin.ext (by rw [ValueKit.rect_emb_unit_val]; simp)

theorem vsw_at (I : In Ideal) (b : Fin 20) (c : Fin 8) (r : Fin 8) (x : Fin 1024) : I.vsw b c (ix3 0 r x) = I.vs (ix3 b r ⟨c.val * 1024 + x.val, by omega⟩) := by
  unfold In.vsw VecWindow.window
  refine congrArg I.vs ?_
  funext a; fin_cases a <;> exact Fin.ext (by rw [ValueKit.rect_emb_unit_val]; simp)

theorem vtw_at (I : In Ideal) (b : Fin 20) (c : Fin 8) (a : Fin 48) (r : Fin 64) (l : Fin 128) :
    I.vtw b c (ix4 0 a r l) = I.vt (ix4 b a ⟨c.val * 64 + r.val, by omega⟩ l) := by
  unfold In.vtw VecWindow.window
  refine congrArg I.vt ?_
  funext a; fin_cases a <;> exact Fin.ext (by rw [ValueKit.rect_emb_unit_val]; simp)

end Cert.KernelIdeal.Hand

end
-- ==== Proof.MaskI.lean ====
/- Hand-written. The length mask: which tokens of which chunks it lets through. -/
module

public import proofs.«01_k».proof.Proof.EndI
public import proofs.«01_k».proof.Proof.RefQ

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The mask -/

theorem nch_pos (v : BitVec 32) (h : v.toInt ≤ 8192) : nch v = 1 ∨ 0 < v.toInt := by
  rcases lt_or_ge 0 v.toInt with hp | hp
  · exact Or.inr hp
  left
  obtain ⟨hlb, hst, r, h1, h2, h3, hub⟩ := nch_ub v h
  have hn : nch v = r := by
    unfold nch Scf.Loop.trips; rw [hlb, hst, hub]; exact trips_of_ub r (by omega)
  have hu : (Scalar.subi (Scalar.addi v 1024#32) 1#32).toInt = v.toInt + 1023 := by
    simp only [Scalar.subi, Scalar.addi, IntOp.subi, IntOp.addi, BitVec.toInt_sub, BitVec.toInt_add]
    have h1 := BitVec.le_toInt v
    rw [show (1024#32 : BitVec 32).toInt = 1024 by decide, show (1#32 : BitVec 32).toInt = 1 by decide]
    simp only [Int.bmod_def] at *
    omega
  generalize hU : Scalar.subi (Scalar.addi v 1024#32) 1#32 = u at hu
  have hd := divsi1024_toInt u
  generalize hD : Scalar.divsi u 1024#32 = d at hd
  have hub' : (k0_t2_loop v).ub = Scalar.maxsi (Scalar.select (Scalar.andi (Scalar.cmpi .ne
        (Scalar.subi (Scalar.extui (Scalar.cmpi .sgt u 0#32)) (Scalar.extui (Scalar.cmpi .slt u 0#32))) 1#32)
        (Scalar.cmpi .ne (Scalar.remsi u 1024#32) 0#32)) (Scalar.subi d 1#32) d) 1#32 := by
    unfold k0_t2_loop
    simp only [Scalar.muli_divsi_one, hU, hD]
    simp only [Scalar.subi, Scalar.addi, IntOp.subi, IntOp.addi, BitVec.sub_zero, BitVec.zero_add]
    rfl
  have hle := BitVec.le_toInt v
  have hd0 : d.toInt ≤ 0 ∧ -2147483647 < d.toInt := by
    rw [hd]
    by_cases hz : 0 ≤ u.toInt
    · rw [Int.tdiv_eq_ediv_of_nonneg hz]; omega
    · have hh : u.toInt = -(-u.toInt) := by omega
      rw [hh, Int.neg_tdiv, Int.tdiv_eq_ediv_of_nonneg (by omega)]
      omega
  have hs : ∀ c : BitVec 1, (Scalar.select c (Scalar.subi d 1#32) d).toInt ≤ 0 := fun c => by
    unfold Scalar.select
    split
    · simp only [Scalar.subi, IntOp.subi, BitVec.toInt_sub]
      rw [show (1#32 : BitVec 32).toInt = 1 by decide]
      simp only [Int.bmod_def]; omega
    · omega
  have hmax : ∀ x : BitVec 32, x.toInt ≤ 0 → Scalar.maxsi x 1#32 = 1#32 := fun x hx => by
    unfold Scalar.maxsi IntOp.maxsi
    rw [if_neg (by rw [BitVec.slt]; simp; omega)]
  rw [hmax _ (hs _)] at hub'
  rw [hub'] at hub
  rw [hn]
  have e := congrArg BitVec.toNat hub
  simp only [BitVec.toNat_ofNat] at e
  omega

/-- In a chunk the loop visits, the word compare of a lane is the compare of its position with the length. -/
theorem mask_eq (v : BitVec 32) (hv : v.toInt ≤ 8192) (c : ℕ) (hc : c < nch v) (x : ℕ) (hx : x < 1024) :
    IntOp.cmpi .slt (BitVec.ofNat 32 x) (Scalar.subi v (Scalar.muli (BitVec.ofNat 32 c) 1024#32))
      = IntOp.cmpi .slt (BitVec.ofNat 32 (c * 1024 + x)) v := by
  obtain ⟨f1, f2, f3⟩ := nch_facts v hv
  have hp := nch_pos v hv
  have hle := BitVec.le_toInt v
  have em : Scalar.muli (BitVec.ofNat 32 c) 1024#32 = BitVec.ofNat 32 (c * 1024) := by
    apply BitVec.eq_of_toNat_eq
    simp only [Scalar.muli, IntOp.muli, BitVec.toNat_mul, BitVec.toNat_ofNat]
    omega
  have et : ∀ n : ℕ, n < 100000 → (BitVec.ofNat 32 n).toInt = n := fun n hn => by
    rw [toInt_of_small _ (by rw [BitVec.toNat_ofNat]; omega), BitVec.toNat_ofNat]; omega
  rw [em, WordCmp.cmpi_slt_eq, WordCmp.cmpi_slt_eq, et _ (by omega), et _ (by omega)]
  have es : (Scalar.subi v (BitVec.ofNat 32 (c * 1024))).toInt = v.toInt - (c * 1024 : ℕ) := by
    simp only [Scalar.subi, IntOp.subi, BitVec.toInt_sub]
    rw [et _ (by omega)]
    simp only [Int.bmod_def]
    omega
  rw [es]
  congr 1
  rw [decide_eq_decide]
  push_cast
  omega

/-- Past the last chunk the loop visits, no position is inside the length. -/
theorem mask_past (v : BitVec 32) (hv : v.toInt ≤ 8192) (c : ℕ) (hc : nch v ≤ c) (hc8 : c < 8) (x : ℕ) (hx : x < 1024) :
    IntOp.cmpi .slt (BitVec.ofNat 32 (c * 1024 + x)) v = 0#1 := by
  obtain ⟨f1, f2, f3⟩ := nch_facts v hv
  have et : ∀ n : ℕ, n < 100000 → (BitVec.ofNat 32 n).toInt = n := fun n hn => by
    rw [toInt_of_small _ (by rw [BitVec.toNat_ofNat]; omega), BitVec.toNat_ofNat]; omega
  rw [WordCmp.cmpi_slt_eq, et _ (by omega), decide_eq_false (by push_cast; omega)]
  rfl

theorem sum768 (f : Fin 768 → EReal) (k : Fin 8) (hf : ∀ r : Fin 768, k.val ≠ r.val / 96 → f r = 0) :
    ∑ r, f r = ∑ d : Fin 96, f ⟨k.val * 96 + d.val, by omega⟩ := by
  have e := Equiv.sum_comp (finProdFinEquiv (m := 8) (n := 96)) (fun r : Fin (8 * 96) => f r)
  rw [Fintype.sum_prod_type] at e
  refine (Eq.trans ?_ e.symm).trans ?_
  · rfl
  rw [Finset.sum_eq_single k]
  · refine Finset.sum_congr rfl fun d _ => congrArg f (Fin.ext ?_)
    show d.val + 96 * k.val = k.val * 96 + d.val
    omega
  · intro q _ hq
    refine Finset.sum_eq_zero fun d _ => hf _ ?_
    show k.val ≠ (d.val + 96 * q.val) / 96
    intro h
    exact hq (Fin.ext (by omega))
  · exact fun h => absurd (Finset.mem_univ _) h

end Cert.KernelIdeal.Hand

end
-- ==== Proof.SoftI.lean ====
/- Hand-written. The running softmax over the extended reals: what the maximum, the sum and the accumulator are after any number
   of chunks, and that their quotient is the softmax taken over the whole cache at once. Nothing here mentions a program. -/
module

public import Idealize.ShloMosaic.PureOps.Ideal
public import Mathlib.Data.EReal.Operations
public import Mathlib.Logic.Equiv.Fin.Basic

@[expose] public section

noncomputable section

namespace Cert.Soft

open Idealize.ShloMosaic

/-- A real factor at least zero goes into a finite sum. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A finite sum of reals at least zero is a real at least zero. -/
theorem sum_real {ι : Type} (s : Finset ι) (f : ι → EReal) (h : ∀ i, ∃ r : ℝ, 0 ≤ r ∧ f i = r) :
    ∃ r : ℝ, 0 ≤ r ∧ ∑ i ∈ s, f i = r := by
  classical
  induction s using Finset.induction_on with
  | empty => exact ⟨0, le_refl _, by simp⟩
  | insert a s ha ih =>
    obtain ⟨r, hr, e⟩ := ih
    obtain ⟨q, hq, e'⟩ := h a
    exact ⟨q + r, add_nonneg hq hr, by rw [Finset.sum_insert ha, e, e', EReal.coe_add]⟩

/-- A finite sum of reals is a real. -/
theorem sum_fin {ι : Type} (s : Finset ι) (f : ι → EReal) (h : ∀ i, ∃ r : ℝ, f i = r) : ∃ r : ℝ, ∑ i ∈ s, f i = r := by
  classical
  induction s using Finset.induction_on with
  | empty => exact ⟨0, by simp⟩
  | insert a s ha ih =>
    obtain ⟨r, e⟩ := ih
    obtain ⟨q, e'⟩ := h a
    exact ⟨q + r, by rw [Finset.sum_insert ha, e, e', EReal.coe_add]⟩

theorem exp_real (x : EReal) (hx : x ≠ ⊤) (M : ℝ) : ∃ r : ℝ, 0 ≤ r ∧ Ideal.exp (x - (M : EReal)) = r := by
  induction x using EReal.rec with
  | bot => exact ⟨0, le_refl _, by rw [EReal.bot_sub]; rfl⟩
  | top => exact absurd rfl hx
  | coe y => exact ⟨Real.exp (y - M), (Real.exp_pos _).le, by rw [← EReal.coe_sub, Ideal.exp_coe]⟩

/-- Moving the point that is subtracted multiplies by one exponential. -/
theorem exp_shift (x : EReal) (hx : x ≠ ⊤) (M M' : ℝ) :
    Ideal.exp (x - (M : EReal)) * Ideal.exp ((M : EReal) - (M' : EReal)) = Ideal.exp (x - (M' : EReal)) := by
  induction x using EReal.rec with
  | bot => rw [EReal.bot_sub, EReal.bot_sub, Ideal.exp_bot, zero_mul]
  | top => exact absurd rfl hx
  | coe y =>
    rw [← EReal.coe_sub, ← EReal.coe_sub, ← EReal.coe_sub, Ideal.exp_coe, Ideal.exp_coe, Ideal.exp_coe, ← EReal.coe_mul,
      ← Real.exp_add]
    congr 2; ring

variable (s : ℕ → Fin 1024 → EReal) (sn : ℝ) (w v : ℕ → Fin 1024 → EReal) (vn : EReal)

/-- The running maximum, the new token's score first. -/
def mx : ℕ → EReal
  | 0 => (sn : EReal)
  | n + 1 => max (mx n) (Finset.fold max ⊥ (s n) Finset.univ)

/-- The running sum. -/
def lx : ℕ → EReal
  | 0 => 1
  | n + 1 => lx n * Ideal.exp (mx s sn n - mx s sn (n + 1)) + ∑ j, Ideal.exp (s n j - mx s sn (n + 1))

/-- The running accumulator. -/
def ax : ℕ → EReal
  | 0 => vn
  | n + 1 => ax n * Ideal.exp (mx s sn n - mx s sn (n + 1)) + ∑ j, v n j * (Ideal.exp (s n j - mx s sn (n + 1)) * w n j)

theorem le_mx (n : ℕ) : (sn : EReal) ≤ mx s sn n := by
  induction n with
  | zero => exact le_refl _
  | succ n ih => exact ih.trans (le_max_left _ _)

theorem mx_mono {i n : ℕ} (h : i ≤ n) : mx s sn i ≤ mx s sn n := by
  induction n, h using Nat.le_induction with
  | base => exact le_refl _
  | succ n _ ih => exact ih.trans (le_max_left _ _)

theorem score_le {i n : ℕ} (h : i < n) (j : Fin 1024) : s i j ≤ mx s sn n :=
  ((Finset.le_fold_max _).mpr (Or.inr ⟨j, Finset.mem_univ _, le_refl _⟩)).trans ((le_max_right _ _).trans (mx_mono s sn (Nat.succ_le_of_lt h)))

theorem mx_le {M : EReal} (h0 : (sn : EReal) ≤ M) (h : ∀ i j, s i j ≤ M) (n : ℕ) : mx s sn n ≤ M := by
  induction n with
  | zero => exact h0
  | succ n ih => exact max_le ih ((Finset.fold_max_le _).mpr ⟨bot_le, fun j _ => h n j⟩)

variable (hs : ∀ i j, s i j ≠ ⊤)

include hs

theorem mx_real (n : ℕ) : ∃ M : ℝ, mx s sn n = M := by
  have hb : mx s sn n ≠ ⊥ := fun h => by have := le_mx s sn n; rw [h] at this; exact absurd (le_bot_iff.mp this) (EReal.coe_ne_bot sn)
  have ht : mx s sn n < ⊤ := by
    induction n with
    | zero => exact EReal.coe_lt_top sn
    | succ n ih =>
      refine max_lt (ih fun h => ?_) ((Finset.fold_max_lt _).mpr ⟨bot_lt_top, fun j _ => lt_top_iff_ne_top.mpr (hs n j)⟩)
      have := le_mx s sn n; rw [h] at this; exact absurd (le_bot_iff.mp this) (EReal.coe_ne_bot sn)
  exact ⟨(mx s sn n).toReal, (EReal.coe_toReal ht.ne hb).symm⟩

theorem lx_pos (n : ℕ) : ∃ L : ℝ, 0 < L ∧ lx s sn n = L := by
  induction n with
  | zero => exact ⟨1, one_pos, rfl⟩
  | succ n ih =>
    obtain ⟨L, hL, e⟩ := ih
    obtain ⟨M, hM⟩ := mx_real s sn hs n
    obtain ⟨M', hM'⟩ := mx_real s sn hs (n + 1)
    obtain ⟨r, hr, e'⟩ := sum_real Finset.univ (fun j => Ideal.exp (s n j - (M' : EReal))) (fun j => exp_real _ (hs n j) M')
    refine ⟨L * Real.exp (M - M') + r, add_pos_of_pos_of_nonneg (mul_pos hL (Real.exp_pos _)) hr, ?_⟩
    rw [lx, hM, hM', e, e', ← EReal.coe_sub, Ideal.exp_coe, ← EReal.coe_mul, ← EReal.coe_add]

theorem lx_eq (n : ℕ) : lx s sn n = Ideal.exp ((sn : EReal) - mx s sn n) + ∑ i ∈ Finset.range n, ∑ j, Ideal.exp (s i j - mx s sn n) := by
  induction n with
  | zero =>
    rw [lx, mx, Finset.range_zero, Finset.sum_empty, add_zero, ← EReal.coe_sub, sub_self, Ideal.exp_coe, Real.exp_zero]; rfl
  | succ n ih =>
    obtain ⟨M, hM⟩ := mx_real s sn hs n
    obtain ⟨M', hM'⟩ := mx_real s sn hs (n + 1)
    rw [lx, ih, hM, hM', Finset.sum_range_succ, ← add_assoc]
    congr 1
    have hc : Ideal.exp ((M : EReal) - (M' : EReal)) = ((Real.exp (M - M') : ℝ) : EReal) := by rw [← EReal.coe_sub, Ideal.exp_coe]
    have h1 := exp_shift (sn : EReal) (EReal.coe_ne_top sn) M M'
    rw [hc, EReal.right_distrib_of_nonneg_of_ne_top (EReal.coe_nonneg.mpr (Real.exp_pos _).le) (EReal.coe_ne_top _), ← hc, h1]
    congr 1
    rw [hc, sum_mul_coe _ _ _ (Real.exp_pos _).le]
    refine Finset.sum_congr rfl fun i _ => ?_
    rw [sum_mul_coe _ _ _ (Real.exp_pos _).le]
    refine Finset.sum_congr rfl fun j _ => ?_
    rw [← hc]; exact exp_shift _ (hs i j) M M'

theorem ax_eq (n : ℕ) : ax s sn w v vn n = Ideal.exp ((sn : EReal) - mx s sn n) * vn
    + ∑ i ∈ Finset.range n, ∑ j, v i j * (Ideal.exp (s i j - mx s sn n) * w i j) := by
  induction n with
  | zero =>
    rw [ax, mx, Finset.range_zero, Finset.sum_empty, add_zero, ← EReal.coe_sub, sub_self, Ideal.exp_coe, Real.exp_zero, EReal.coe_one, one_mul]
  | succ n ih =>
    obtain ⟨M, hM⟩ := mx_real s sn hs n
    obtain ⟨M', hM'⟩ := mx_real s sn hs (n + 1)
    rw [ax, ih, hM, hM', Finset.sum_range_succ, ← add_assoc]
    congr 1
    have hc : Ideal.exp ((M : EReal) - (M' : EReal)) = ((Real.exp (M - M') : ℝ) : EReal) := by rw [← EReal.coe_sub, Ideal.exp_coe]
    have h1 := exp_shift (sn : EReal) (EReal.coe_ne_top sn) M M'
    rw [hc, EReal.right_distrib_of_nonneg_of_ne_top (EReal.coe_nonneg.mpr (Real.exp_pos _).le) (EReal.coe_ne_top _), ← hc,
      mul_right_comm, h1]
    congr 1
    rw [hc, sum_mul_coe _ _ _ (Real.exp_pos _).le]
    refine Finset.sum_congr rfl fun i _ => ?_
    rw [sum_mul_coe _ _ _ (Real.exp_pos _).le]
    refine Finset.sum_congr rfl fun j _ => ?_
    rw [← hc, ← exp_shift _ (hs i j) M M']
    simp only [mul_assoc, mul_comm, mul_left_comm]

omit hs

/-- Position `j` of chunk `i` in the cache. -/
def flat (i : ℕ) (j : Fin 1024) : Fin 8192 := ⟨i % 8 * 1024 + j.val, by have := Nat.mod_lt i (by decide : 8 > 0); omega⟩

theorem sum_flat (f : Fin 8192 → EReal) : ∑ t, f t = ∑ i ∈ Finset.range 8, ∑ j, f (flat i j) := by
  rw [Finset.sum_range (fun i => ∑ j, f (flat i j)), ← Fintype.sum_prod_type' (fun (i : Fin 8) j => f (flat i.val j))]
  refine (Equiv.sum_comp (finProdFinEquiv (m := 8) (n := 1024)) f).symm.trans (Finset.sum_congr rfl fun x _ => congrArg f ?_)
  refine Fin.ext ?_
  show x.2.val + 1024 * x.1.val = x.1.val % 8 * 1024 + x.2.val
  rw [Nat.mod_eq_of_lt x.1.isLt]; omega

theorem exists_flat (t : Fin 8192) : ∃ i j, i < 8 ∧ t = flat i j :=
  ⟨t.val / 1024, ⟨t.val % 1024, Nat.mod_lt _ (by decide)⟩, by have := t.isLt; omega, by
    refine Fin.ext ?_; show t.val = t.val / 1024 % 8 * 1024 + t.val % 1024; have := t.isLt; omega⟩

/-- Softmax over the whole cache and the new token at once: the quotient that the running form ends with. -/
theorem soft_eq (S W V : Fin 8192 → EReal) (N : ℕ) (hN : N ≤ 8) (hS : ∀ t, S t ≠ ⊤) (hbot : ∀ i j, N ≤ i → i < 8 → S (flat i j) = ⊥)
    (M : EReal) (hM : M = max (Finset.fold max ⊥ S Finset.univ) (sn : EReal)) :
    (∑ t, (Ideal.div (Ideal.exp (S t - M)) (∑ t, Ideal.exp (S t - M) + Ideal.exp ((sn : EReal) - M)) * W t) * V t)
        + Ideal.div (Ideal.exp ((sn : EReal) - M)) (∑ t, Ideal.exp (S t - M) + Ideal.exp ((sn : EReal) - M)) * vn
      = Ideal.div (ax (fun i j => S (flat i j)) sn (fun i j => W (flat i j)) (fun i j => V (flat i j)) vn N) (lx (fun i j => S (flat i j)) sn N) := by
  have hs : ∀ i j, (fun i j => S (flat i j)) i j ≠ ⊤ := fun i j => hS _
  have eM : M = mx (fun i j => S (flat i j)) sn N := by
    rw [hM]
    refine le_antisymm (max_le ((Finset.fold_max_le _).mpr ⟨bot_le, fun t _ => ?_⟩) (le_mx _ _ _))
      (mx_le _ _ (le_max_right _ _) (fun i j => ((Finset.le_fold_max _).mpr (Or.inr ⟨flat i j, Finset.mem_univ _, le_refl _⟩)).trans (le_max_left _ _)) N)
    obtain ⟨i, j, hi, rfl⟩ := exists_flat t
    by_cases h : i < N
    · exact score_le (fun i j => S (flat i j)) sn h j
    · rw [hbot i j (not_lt.mp h) hi]; exact bot_le
  have hcut : ∀ f : ℕ → EReal, (∀ i, N ≤ i → i < 8 → f i = 0) → ∑ i ∈ Finset.range 8, f i = ∑ i ∈ Finset.range N, f i := fun f hf =>
    (Finset.sum_subset (Finset.range_subset_range.mpr hN) fun i hi hi' => hf i (not_lt.mp fun h => hi' (Finset.mem_range.mpr h)) (Finset.mem_range.mp hi)).symm
  have eL : ∑ t, Ideal.exp (S t - M) + Ideal.exp ((sn : EReal) - M) = lx (fun i j => S (flat i j)) sn N := by
    rw [lx_eq _ _ hs, eM, add_comm, sum_flat]
    congr 1
    refine hcut _ fun i h1 h2 => Finset.sum_eq_zero fun j _ => ?_
    rw [hbot i j h1 h2, EReal.bot_sub, Ideal.exp_bot]
  rw [eL, ax_eq _ _ _ _ _ hs, ← eM]
  obtain ⟨L, hL, e⟩ := lx_pos (fun i j => S (flat i j)) sn hs N
  have hp : (0 : ℝ) ≤ 1 / L := (one_div_pos.mpr hL).le
  rw [e]
  simp only [Ideal.div_coe hL.ne']
  rw [EReal.right_distrib_of_nonneg_of_ne_top (EReal.coe_nonneg.mpr hp) (EReal.coe_ne_top _), add_comm]
  refine congrArg₂ (fun a b : EReal => a + b) ?_ ?_
  · exact mul_right_comm _ _ _
  · rw [sum_flat, hcut, sum_mul_coe _ _ _ hp]
    · refine Finset.sum_congr rfl fun i _ => ?_
      rw [sum_mul_coe _ _ _ hp]
      refine Finset.sum_congr rfl fun j _ => ?_
      simp only [mul_assoc, mul_comm, mul_left_comm]
    · intro i h1 h2
      refine Finset.sum_eq_zero fun j _ => ?_
      rw [hbot i j h1 h2, EReal.bot_sub, Ideal.exp_bot, zero_mul, zero_mul, zero_mul]

end Cert.Soft

end
-- ==== Proof.ValQI.lean ====
/- Hand-written. The unpacked value codes at an index: the low nibble at an even row, the high one at an odd row. -/
module

public import proofs.«01_k».proof.Proof.EndI
public import proofs.«01_k».proof.Proof.RefQ

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The value of a nibble of a byte, low for an even row and high for an odd one. -/
def lo4 (w : BitVec 8) : EReal := FloatOps.sitofp (F := Ideal) FTy.bf16 (BitVec.setWidth 4 (IntOp.shrsi ArithUnit.vector (IntOp.shli ArithUnit.vector (BitVec.setWidth 32 w) 28#32) 28#32))
def hi4 (w : BitVec 8) : EReal := FloatOps.sitofp (F := Ideal) FTy.bf16 (BitVec.setWidth 4 (IntOp.shrsi ArithUnit.vector (IntOp.shli ArithUnit.vector (BitVec.setWidth 32 w) 24#32) 28#32))

theorem nib_eq {q : Prop} [Decidable q] (w w' : BitVec 8) (n : ℕ) (hq : q ↔ n % 2 = 0) (hw : w = w') :
    (FloatOps.sitofp (F := Ideal) FTy.bf16 (BitVec.setWidth 4 (if h : q then
      IntOp.shrsi ArithUnit.vector (IntOp.shli ArithUnit.vector (BitVec.setWidth 32 w) 28#32) 28#32
      else IntOp.shrsi ArithUnit.vector (IntOp.shli ArithUnit.vector (BitVec.setWidth 32 w) 24#32) 28#32)) : EReal)
      = if n % 2 = 0 then lo4 w' else hi4 w' := by
  subst hw
  by_cases h : q
  · rw [dif_pos h, if_pos (hq.mp h)]; rfl
  · rw [dif_neg h, if_neg fun e => h (hq.mpr e)]; rfl

theorem dite_to {q : Prop} [Decidable q] (a b r : EReal) (h1 : q → a = r) (h2 : ¬ q → b = r) : (if h : q then a else b) = r := by
  by_cases h : q
  · rw [dif_pos h]; exact h1 h
  · rw [dif_neg h]; exact h2 h

theorem V3 (V : ℕ → ℕ → ℕ → BitVec 8) {a b c a' b' c' : ℕ} (h1 : a = a') (h2 : b = b') (h3 : c = c') : V a b c = V a' b' c' := by
  subst h1 h2 h3; rfl

set_option maxHeartbeats 8000000 in
/-- The product of a chunk's values with its weights. -/
theorem o_eq (V : ℕ → ℕ → ℕ → BitVec 8) (p : FVec Ideal S32x1024 .bf16) (v201 v204 : Vec Ideal S1x48x32x128 .i8)
    (h1 : ∀ (a : Fin 48) (b : Fin 32) (c : Fin 128), v201 (ix4 0 a b c) = V a.val b.val c.val)
    (h2 : ∀ (a : Fin 48) (b : Fin 32) (c : Fin 128), v204 (ix4 0 a b c) = V a.val (32 + b.val) c.val) (j : S768x32.Idx) :
    k0_pay48 (F := Ideal) p (k0_pay44 v204) (k0_pay46 v201) (k0_pay47 v201) j
      = ∑ x : Fin 1024, (if (j 0).val % 2 = 0 then lo4 (V ((j 0).val / 16) (x.val / 128 * 8 + (j 0).val % 16 / 2) (x.val % 128))
          else hi4 (V ((j 0).val / 16) (x.val / 128 * 8 + (j 0).val % 16 / 2) (x.val % 128))) * p (ix2 (j 1) x) := by
  unfold k0_pay48 k0_pay44 k0_pay46 k0_pay47 k0_pay45
  pointwise
  refine Finset.sum_congr rfl fun x _ => ?_
  refine congrArg₂ (fun u v : EReal => u * v) ?_ rfl
  have hx := x.isLt
  have hj : (j 0).val < 768 := (j 0).isLt
  simp only [h1, h2]
  generalize (j 0).val = r at hj ⊢
  generalize x.val = t at hx ⊢
  refine dite_to _ _ _ (fun h => nib_eq _ _ r (by omega) (V3 V (by omega) (by omega) (by omega))) fun n1 => ?_
  refine dite_to _ _ _ (fun h => nib_eq _ _ r (by omega) (V3 V (by omega) (by omega) (by omega))) fun n2 => ?_
  refine dite_to _ _ _ (fun h => nib_eq _ _ r (by omega) (V3 V (by omega) (by omega) (by omega))) fun n3 => ?_
  refine dite_to _ _ _ (fun h => nib_eq _ _ r (by omega) (V3 V (by omega) (by omega) (by omega))) fun n4 => ?_
  refine dite_to _ _ _ (fun h => nib_eq _ _ r (by omega) (V3 V (by omega) (by omega) (by omega))) fun n5 => ?_
  refine dite_to _ _ _ (fun h => nib_eq _ _ r (by omega) (V3 V (by omega) (by omega) (by omega))) fun n6 => ?_
  refine dite_to _ _ _ (fun h => nib_eq _ _ r (by omega) (V3 V (by omega) (by omega) (by omega))) fun n7 => ?_
  exact nib_eq _ _ r (by omega) (V3 V (by omega) (by omega) (by omega))

end Cert.KernelIdeal.Hand

end
-- ==== Proof.ArgsI.lean ====
/- Hand-written. The kernel's blocks as entries of the program's arguments, and the nibbles of a byte read two ways. -/
module

public import proofs.«01_k».proof.Proof.StepQI
public import proofs.«01_k».proof.Proof.MaskI
public import proofs.«01_k».proof.Proof.SoftI
public import proofs.«01_k».proof.Proof.ValQI

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem sc_x (X : FVec Ideal S20x1x32x96 .bf16) (b : Fin 20) (h : Fin 32) (d : Fin 96) :
    shapeCast S20x32x96 X shapeCasts_S20x1x32x96_S20x32x96 (ix3 b h d) = X (ix4 b 0 h d) := by
  pointwise

theorem sc_kn (X : FVec Ideal S20x1x8x96 .bf16) (b : Fin 20) (h : Fin 8) (d : Fin 96) :
    shapeCast S20x8x96 X shapeCasts_S20x1x8x96_S20x8x96 (ix3 b h d) = X (ix4 b 0 h d) := by
  pointwise

theorem sc_kt (X : IVec S20x8192x8x96 8) (b : Fin 20) (r : Fin 768) (t : Fin 8192) :
    shapeCast S20x768x8192 (transpose S20x8x96x8192 [0, 2, 3, 1] X transposes_S20x8192x8x96_S20x8x96x8192_0_2_3_1) shapeCasts_S20x8x96x8192_S20x768x8192 (ix3 b r t)
      = X (ix4 b t ⟨r.val / 96, by omega⟩ ⟨r.val % 96, Nat.mod_lt _ (by decide)⟩) := by
  pointwise

theorem sc_vs (X : FVec Ideal S20x8192x8 .f32) (b : Fin 20) (k : Fin 8) (t : Fin 8192) :
    transpose S20x8x8192 [0, 2, 1] X transposes_S20x8192x8_S20x8x8192_0_2_1 (ix3 b k t) = X (ix3 b t k) := by
  pointwise

theorem sc_vt (X : IVec S20x8192x8x48 8) (b : Fin 20) (r : Fin 768) (t : Fin 8192) (h1 h2 h3) (h4 : r.val / 96 < 8) (h5 : r.val % 96 / 2 < 48) :
    shapeCast S20x48x512x128 (transpose S20x48x64x8x128 [0, 1, 3, 2, 4] (shapeCast S20x48x8x64x128 (transpose S20x8x48x8192 [0, 2, 3, 1] X
      transposes_S20x8192x8x48_S20x8x48x8192_0_2_3_1) shapeCasts_S20x8x48x8192_S20x48x8x64x128) transposes_S20x48x8x64x128_S20x48x64x8x128_0_1_3_2_4)
      shapeCasts_S20x48x64x8x128_S20x48x512x128 (ix4 b ⟨r.val / 16, h1⟩ ⟨t.val / 128 * 8 + r.val % 16 / 2, h2⟩ ⟨t.val % 128, h3⟩)
      = X (ix4 b t ⟨r.val / 96, h4⟩ ⟨r.val % 96 / 2, h5⟩) := by
  pointwise
  have := r.isLt; have := t.isLt
  refine congrArg X (congrArg₂ (ix4 b t) (Fin.ext ?_) (Fin.ext ?_))
  · show r.val / 16 / 6 = r.val / 96
    omega
  · show r.val / 16 % 6 * 8 + (t.val / 128 * 8 + r.val % 16 / 2) % 8 = r.val % 96 / 2
    omega

section args

variable (m : (ℓ : Loc nD τ sig) → Buf (Elt Ideal) ℓ) (c : Dev nD)

theorem in_len_at (b : Fin 20) : (inAt m c).lenw b = m ((c : Thread nD τ).loc main_arg7) (ix1 b) := by
  show iblk m c 0 t0_0 _ = _
  unfold iblk
  rw [View.read_apply, cast_eq, show V m c (Pipeline.arrRef spec0 0) = _ from V_main_arg7 m c]
  refine congrArg _ (funext fun a => Fin.ext ?_)
  fin_cases a
  show _ = b.val
  blk_simp
  first | rfl | (rw [show win0_0.index t0_0 0 = 0 from by decide]; omega)

theorem in_x_at (b : Fin 20) (h : Fin 32) (d : Fin 96) : (inAt m c).x (ix3 b h d) = m ((c : Thread nD τ).loc main_arg0) (ix4 b 0 h d) :=
  (congrFun (in_x m c) _).trans (sc_x _ b h d)

theorem in_kn_at (b : Fin 20) (h : Fin 8) (d : Fin 96) : (inAt m c).kn (ix3 b h d) = m ((c : Thread nD τ).loc main_arg1) (ix4 b 0 h d) :=
  (congrFun (in_kn m c) _).trans (sc_kn _ b h d)

theorem in_vn_at (b : Fin 20) (h : Fin 8) (d : Fin 96) : (inAt m c).vn (ix3 b h d) = m ((c : Thread nD τ).loc main_arg2) (ix4 b 0 h d) :=
  (congrFun (in_vn m c) _).trans (sc_kn _ b h d)

theorem in_kt_at (b : Fin 20) (r : Fin 768) (t : Fin 8192) : (inAt m c).kt (ix3 b r t)
    = m ((c : Thread nD τ).loc main_arg3) (ix4 b t ⟨r.val / 96, by omega⟩ ⟨r.val % 96, Nat.mod_lt _ (by decide)⟩) := by
  have e : (inAt m c).kt = shapeCast S20x768x8192 (transpose S20x8x96x8192 [0, 2, 3, 1] (m ((c : Thread nD τ).loc main_arg3)) transposes_S20x8192x8x96_S20x8x96x8192_0_2_3_1) shapeCasts_S20x8x96x8192_S20x768x8192 := by
    show StableHlo.after [hostOps0].flatten (fun b => m (c, b)) _ = _
    simp only [hostOps0, List.flatten_cons, List.flatten_nil, List.append_nil]
    after_results_simp
    rfl
  exact (congrFun e _).trans (sc_kt _ b r t)

theorem in_vs_at (b : Fin 20) (k : Fin 8) (t : Fin 8192) : (inAt m c).vs (ix3 b k t) = m ((c : Thread nD τ).loc main_arg6) (ix3 b t k) := by
  have e : (inAt m c).vs = transpose S20x8x8192 [0, 2, 1] (m ((c : Thread nD τ).loc main_arg6)) transposes_S20x8192x8_S20x8x8192_0_2_1 := by
    show V m c main_v6 = _
    show StableHlo.after [hostOps0].flatten (fun b => m (c, b)) _ = _
    simp only [hostOps0, List.flatten_cons, List.flatten_nil, List.append_nil]
    after_results_simp
  exact (congrFun e _).trans (sc_vs _ b k t)

theorem in_vt_at (b : Fin 20) (r : Fin 768) (t : Fin 8192) (h1 h2 h3) (h4 : r.val / 96 < 8) (h5 : r.val % 96 / 2 < 48) :
    (inAt m c).vt (ix4 b ⟨r.val / 16, h1⟩ ⟨t.val / 128 * 8 + r.val % 16 / 2, h2⟩ ⟨t.val % 128, h3⟩)
      = m ((c : Thread nD τ).loc main_arg5) (ix4 b t ⟨r.val / 96, h4⟩ ⟨r.val % 96 / 2, h5⟩) := by
  have e : (inAt m c).vt = shapeCast S20x48x512x128 (transpose S20x48x64x8x128 [0, 1, 3, 2, 4] (shapeCast S20x48x8x64x128 (transpose S20x8x48x8192 [0, 2, 3, 1] (m ((c : Thread nD τ).loc main_arg5))
      transposes_S20x8192x8x48_S20x8x48x8192_0_2_3_1) shapeCasts_S20x8x48x8192_S20x48x8x64x128) transposes_S20x48x8x64x128_S20x48x64x8x128_0_1_3_2_4)
      shapeCasts_S20x48x64x8x128_S20x48x512x128 := by
    show StableHlo.after [hostOps0].flatten (fun b => m (c, b)) _ = _
    simp only [hostOps0, List.flatten_cons, List.flatten_nil, List.append_nil]
    after_results_simp
    rfl
  exact (congrFun e _).trans (sc_vt _ b r t h1 h2 h3 h4 h5)

end args

/-! ## The nibbles -/

set_option maxRecDepth 100000 in
theorem lo_word : ∀ w : BitVec 8, (BitVec.setWidth 4 (IntOp.shrsi ArithUnit.vector (IntOp.shli ArithUnit.vector (BitVec.setWidth 32 w) 28#32) 28#32)).toInt
    = (Scalar.select (IntOp.cmpi CmpIPredicate.sge (IntOp.andi (BitVec.setWidth 32 w) 15#32) 8#32)
      (IntOp.subi (IntOp.andi (BitVec.setWidth 32 w) 15#32) 16#32) (IntOp.andi (BitVec.setWidth 32 w) 15#32)).toInt := by
  decide

set_option maxRecDepth 100000 in
theorem hi_word : ∀ w : BitVec 8, (BitVec.setWidth 4 (IntOp.shrsi ArithUnit.vector (IntOp.shli ArithUnit.vector (BitVec.setWidth 32 w) 24#32) 28#32)).toInt
    = (Scalar.select (IntOp.cmpi CmpIPredicate.sge (IntOp.shrsi ArithUnit.host (BitVec.setWidth 32 w) 4#32) 8#32)
      (IntOp.subi (IntOp.shrsi ArithUnit.host (BitVec.setWidth 32 w) 4#32) 16#32) (IntOp.shrsi ArithUnit.host (BitVec.setWidth 32 w) 4#32)).toInt := by
  decide

end Cert.KernelIdeal.Hand

end
-- ==== Proof.RefO.lean ====
/- Hand-written. The reference's attention output, cut into its named steps, and what each step is at an index. -/
module

public import proofs.«01_k».proof.Proof.Gen.ReferenceIdeal.Run
public import Idealize.ShloMosaic.PureOps.Ideal
public import Idealize.ShloMosaic.Lib.Pointwise

@[expose] public section

set_option maxRecDepth 65536

noncomputable section

namespace Cert.ReferenceIdeal.Hand

open Cert.ReferenceIdeal Cert.ReferenceIdeal.Gen Idealize.ShloMosaic

/-- The scores of the cache, masked by the length. -/
def rSC (a0 : FVec Ideal S20x1x32x96 .bf16) (a3 : IVec S20x8192x8x96 8) (a4 : FVec Ideal S20x8x96 .f32) (a7 : IVec S20 32) : FVec Ideal S20x8x4x1x8192 .f32 :=
  select (broadcastInDim S20x8x4x1x8192 ![0, 1, 2, 3, 4] bcast_S20x1x1x1x8192_S20x8x4x1x8192_0_1_2_3_4 (broadcastInDim S20x1x1x1x8192 ![0, 4] bcast_S20x8192_S20x1x1x1x8192_0_4 (cmpi .slt (broadcastInDim S20x8192 ![0, 1] bcast_S1x8192_S20x8192_0_1 (broadcastInDim S1x8192 ![1] bcast_S8192_S1x8192_1 (iotaInDim S8192 32 0))) (broadcastInDim S20x8192 ![0, 1] bcast_S20x1_S20x8192_0_1 (broadcastInDim S20x1 ![0] bcast_S20_S20x1_0 a7))))) (mulf (transpose S20x8x4x1x8192 [0, 1, 4, 3, 2] (Host.dotGeneral dot_S20x8192x8x96_S20x1x8x4x96_S20x8x8192x1x4_3_4_1_13_02_02 none (mulf (truncf .bf16 (sitofp .f32 (extsi 32 a3 natLt_8_32)) bitsLt_bf16_f32) (broadcastInDim S20x8192x8x96 ![0, 1, 2, 3] bcast_S20x1x8x96_S20x8192x8x96_0_1_2_3 (broadcastInDim S20x1x8x96 ![0, 2, 3] bcast_S20x8x96_S20x1x8x96_0_2_3 (truncf .bf16 a4 bitsLt_bf16_f32)))) (shapeCast _ a0 shapeCasts_S20x1x32x96_S20x1x8x4x96)) transposes_S20x8x8192x1x4_S20x8x4x1x8192_0_1_4_3_2) (broadcastInDim S20x8x4x1x8192 ![] bcast_S_S20x8x4x1x8192 (constant S_ .f32 0x3DD105EC#32))) (broadcastInDim S20x8x4x1x8192 ![] bcast_S_S20x8x4x1x8192 (id (constant S_ .f32 0xFF800000#32)))

/-- The score of the new token. -/
def rSN (a0 : FVec Ideal S20x1x32x96 .bf16) (a1 : FVec Ideal S20x1x8x96 .bf16) : FVec Ideal S20x8x4x1x1 .f32 :=
  mulf (transpose S20x8x4x1x1 [0, 1, 4, 3, 2] (Host.dotGeneral dot_S20x1x8x96_S20x1x8x4x96_S20x8x1x1x4_3_4_1_13_02_02 none a1 (shapeCast _ a0 shapeCasts_S20x1x32x96_S20x1x8x4x96)) transposes_S20x8x1x1x4_S20x8x4x1x1_0_1_4_3_2) (broadcastInDim S20x8x4x1x1 ![] bcast_S_S20x8x4x1x1 (constant S_ .f32 0x3DD105EC#32))

/-- The maximum of the cache's scores. -/
def rMC (SC : FVec Ideal S20x8x4x1x8192 .f32) : FVec Ideal S20x8x4x1 .f32 :=
  Host.reduce FloatOps.maximumf SC (constant S_ .f32 0xFF800000#32) reducesTo_S20x8x4x1x8192_S20x8x4x1_d4 h_S_

/-- The maximum of the new token's one score. -/
def rMN (SN : FVec Ideal S20x8x4x1x1 .f32) : FVec Ideal S20x8x4x1 .f32 :=
  Host.reduce FloatOps.maximumf SN (constant S_ .f32 0xFF800000#32) reducesTo_S20x8x4x1x1_S20x8x4x1_d4 h_S_

/-- The greater of two maxima, with the key axis put back. -/
def rMB (A B : FVec Ideal S20x8x4x1 .f32) : FVec Ideal S20x8x4x1x1 .f32 :=
  broadcastInDim S20x8x4x1x1 ![0, 1, 2, 3] bcast_S20x8x4x1_S20x8x4x1x1_0_1_2_3 (maximumf A B)

/-- The maximum of the scores. -/
def rMM (SC : FVec Ideal S20x8x4x1x8192 .f32) (SN : FVec Ideal S20x8x4x1x1 .f32) : FVec Ideal S20x8x4x1x1 .f32 := rMB (rMC SC) (rMN SN)

/-- The cache's exponentials. -/
def rEC (SC : FVec Ideal S20x8x4x1x8192 .f32) (MM : FVec Ideal S20x8x4x1x1 .f32) : FVec Ideal S20x8x4x1x8192 .f32 :=
  Host.exp (subf SC (broadcastInDim S20x8x4x1x8192 ![0, 1, 2, 3, 4] bcast_S20x8x4x1x1_S20x8x4x1x8192_0_1_2_3_4 MM))

/-- The new token's exponential. -/
def rEN (SN : FVec Ideal S20x8x4x1x1 .f32) (MM : FVec Ideal S20x8x4x1x1 .f32) : FVec Ideal S20x8x4x1x1 .f32 :=
  Host.exp (subf SN MM)

/-- The sum of the exponentials. -/
def rDEN (EC : FVec Ideal S20x8x4x1x8192 .f32) (EN : FVec Ideal S20x8x4x1x1 .f32) : FVec Ideal S20x8x4x1x1 .f32 :=
  addf (broadcastInDim S20x8x4x1x1 ![0, 1, 2, 3] bcast_S20x8x4x1_S20x8x4x1x1_0_1_2_3 (Host.reduceAdd EC (constant S_ .f32 0x00000000#32) reducesTo_S20x8x4x1x8192_S20x8x4x1_d4 h_S_)) (broadcastInDim S20x8x4x1x1 ![0, 1, 2, 3] bcast_S20x8x4x1_S20x8x4x1x1_0_1_2_3 (Host.reduceAdd EN (constant S_ .f32 0x00000000#32) reducesTo_S20x8x4x1x1_S20x8x4x1_d4 h_S_))

/-- The cache's weights times the value scales. -/
def rPV (EC : FVec Ideal S20x8x4x1x8192 .f32) (DEN : FVec Ideal S20x8x4x1x1 .f32) (a6 : FVec Ideal S20x8192x8 .f32) : FVec Ideal S20x8x4x1x8192 .bf16 :=
  truncf .bf16 (mulf (Host.divf EC (broadcastInDim S20x8x4x1x8192 ![0, 1, 2, 3, 4] bcast_S20x8x4x1x1_S20x8x4x1x8192_0_1_2_3_4 DEN)) (broadcastInDim S20x8x4x1x8192 ![0, 1, 2, 3, 4] bcast_S20x8x1x1x8192_S20x8x4x1x8192_0_1_2_3_4 (broadcastInDim S20x8x1x1x8192 ![0, 1, 4] bcast_S20x8x8192_S20x8x1x1x8192_0_1_4 (transpose S20x8x8192 [0, 2, 1] a6 transposes_S20x8192x8_S20x8x8192_0_2_1)))) bitsLt_bf16_f32

/-- The attention output. -/
def rOUT (PV : FVec Ideal S20x8x4x1x8192 .bf16) (EN : FVec Ideal S20x8x4x1x1 .f32) (DEN : FVec Ideal S20x8x4x1x1 .f32) (a5 : IVec S20x8192x8x48 8) (a2 : FVec Ideal S20x1x8x96 .bf16) : FVec Ideal S20x1x32x96 .bf16 :=
  shapeCast _ (truncf .bf16 (addf (shapeCast _ (concatenate S20x1x8x4x48x2 5 [⟨S20x1x8x4x48x1, (broadcastInDim S20x1x8x4x48x1 ![0, 1, 2, 3, 4] bcast_S20x1x8x4x48_S20x1x8x4x48x1_0_1_2_3_4 (transpose S20x1x8x4x48 [0, 4, 1, 3, 2] (Host.dotGeneral dot_S20x8192x8x48_S20x8x4x1x8192_S20x8x48x4x1_1_4_3_23_02_01 none (truncf .bf16 (sitofp .f32 (select (cmpi .sge (andi (extui 32 a5 natLt_8_32) (broadcastInDim S20x8192x8x48 ![] bcast_S_S20x8192x8x48 (constantI S_ 32 15#32))) (broadcastInDim S20x8192x8x48 ![] bcast_S_S20x8192x8x48 (constantI S_ 32 8#32))) (subi (andi (extui 32 a5 natLt_8_32) (broadcastInDim S20x8192x8x48 ![] bcast_S_S20x8192x8x48 (constantI S_ 32 15#32))) (broadcastInDim S20x8192x8x48 ![] bcast_S_S20x8192x8x48 (constantI S_ 32 16#32))) (andi (extui 32 a5 natLt_8_32) (broadcastInDim S20x8192x8x48 ![] bcast_S_S20x8192x8x48 (constantI S_ 32 15#32))))) bitsLt_bf16_f32) PV) transposes_S20x8x48x4x1_S20x1x8x4x48_0_4_1_3_2))⟩, ⟨S20x1x8x4x48x1, (broadcastInDim S20x1x8x4x48x1 ![0, 1, 2, 3, 4] bcast_S20x1x8x4x48_S20x1x8x4x48x1_0_1_2_3_4 (transpose S20x1x8x4x48 [0, 4, 1, 3, 2] (Host.dotGeneral dot_S20x8192x8x48_S20x8x4x1x8192_S20x8x48x4x1_1_4_3_23_02_01 none (truncf .bf16 (sitofp .f32 (select (cmpi .sge (Host.shrsi (extui 32 a5 natLt_8_32) (broadcastInDim S20x8192x8x48 ![] bcast_S_S20x8192x8x48 (constantI S_ 32 4#32))) (broadcastInDim S20x8192x8x48 ![] bcast_S_S20x8192x8x48 (constantI S_ 32 8#32))) (subi (Host.shrsi (extui 32 a5 natLt_8_32) (broadcastInDim S20x8192x8x48 ![] bcast_S_S20x8192x8x48 (constantI S_ 32 4#32))) (broadcastInDim S20x8192x8x48 ![] bcast_S_S20x8192x8x48 (constantI S_ 32 16#32))) (Host.shrsi (extui 32 a5 natLt_8_32) (broadcastInDim S20x8192x8x48 ![] bcast_S_S20x8192x8x48 (constantI S_ 32 4#32))))) bitsLt_bf16_f32) PV) transposes_S20x8x48x4x1_S20x1x8x4x48_0_4_1_3_2))⟩] concatenates_S20x1x8x4x48x1_S20x1x8x4x48x1_S20x1x8x4x48x2_d5) shapeCasts_S20x1x8x4x48x2_S20x1x8x4x96) (transpose S20x1x8x4x96 [0, 4, 1, 3, 2] (Host.dotGeneral dot_S20x1x8x96_S20x8x4x1x1_S20x8x96x4x1_1_4_3_23_02_01 none a2 (truncf .bf16 (Host.divf EN DEN) bitsLt_bf16_f32)) transposes_S20x8x96x4x1_S20x1x8x4x96_0_4_1_3_2)) bitsLt_bf16_f32) shapeCasts_S20x1x8x4x96_S20x1x32x96

/-- The steps composed. -/
def rAll (a0 : FVec Ideal S20x1x32x96 .bf16) (a1 a2 : FVec Ideal S20x1x8x96 .bf16) (a3 : IVec S20x8192x8x96 8) (a4 : FVec Ideal S20x8x96 .f32)
    (a5 : IVec S20x8192x8x48 8) (a6 : FVec Ideal S20x8192x8 .f32) (a7 : IVec S20 32) : FVec Ideal S20x1x32x96 .bf16 :=
  rOUT (rPV (rEC (rSC a0 a3 a4 a7) (rMM (rSC a0 a3 a4 a7) (rSN a0 a1))) (rDEN (rEC (rSC a0 a3 a4 a7) (rMM (rSC a0 a3 a4 a7) (rSN a0 a1))) (rEN (rSN a0 a1) (rMM (rSC a0 a3 a4 a7) (rSN a0 a1)))) a6)
    (rEN (rSN a0 a1) (rMM (rSC a0 a3 a4 a7) (rSN a0 a1))) (rDEN (rEC (rSC a0 a3 a4 a7) (rMM (rSC a0 a3 a4 a7) (rSN a0 a1))) (rEN (rSN a0 a1) (rMM (rSC a0 a3 a4 a7) (rSN a0 a1)))) a5 a2

theorem res_eq (m : (ℓ : Loc nD τ sig) → Buf (Elt Ideal) ℓ) (c : Dev nD) : Cert.ReferenceIdeal.Value.res_main_v110 m c
    = rAll (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := rfl

/-! ## The steps at an index -/

variable (a0 : FVec Ideal S20x1x32x96 .bf16) (a1 a2 : FVec Ideal S20x1x8x96 .bf16) (a3 : IVec S20x8192x8x96 8) (a4 : FVec Ideal S20x8x96 .f32)
  (a5 : IVec S20x8192x8x48 8) (a6 : FVec Ideal S20x8192x8 .f32) (a7 : IVec S20 32)
  (SC EC : FVec Ideal S20x8x4x1x8192 .f32) (PV : FVec Ideal S20x8x4x1x8192 .bf16) (SN MM EN DEN : FVec Ideal S20x8x4x1x1 .f32)
  (b : Fin 20) (k : Fin 8) (g : Fin 4) (t : Fin 8192)

/-- The head of group `k` and place `g`. -/
def hd (k : Fin 8) (g : Fin 4) : Fin 32 := ⟨k.val * 4 + g.val, by omega⟩

/-- The masked score of a cached token. -/
def scS (t : Fin 8192) : EReal := Scalar.select (IntOp.cmpi CmpIPredicate.slt (BitVec.ofNat 32 t.val) (a7 (ix1 b)))
  ((∑ x : Fin 96, (FloatOps.sitofp (F := Ideal) FTy.f32 (BitVec.signExtend 32 (a3 (ix4 b t k x))) : EReal) * a4 (ix3 b k x) * a0 (ix4 b 0 (hd k g) x)) *
    Ideal.ofBits FTy.f32 1037108716#32) (Ideal.ofBits FTy.f32 4286578688#32)

/-- The score of the new token. -/
def snS : EReal := (∑ x : Fin 96, a1 (ix4 b 0 k x) * a0 (ix4 b 0 (hd k g) x)) * Ideal.ofBits FTy.f32 1037108716#32

/-- The low nibble of a byte as the reference unpacks it. -/
def rLo (w : BitVec 8) : EReal :=
  FloatOps.sitofp (F := Ideal) FTy.f32 (Scalar.select (IntOp.cmpi CmpIPredicate.sge (IntOp.andi (BitVec.setWidth 32 w) 15#32) 8#32)
      (IntOp.subi (IntOp.andi (BitVec.setWidth 32 w) 15#32) 16#32) (IntOp.andi (BitVec.setWidth 32 w) 15#32))

/-- The high nibble of a byte as the reference unpacks it. -/
def rHi (w : BitVec 8) : EReal :=
  FloatOps.sitofp (F := Ideal) FTy.f32 (Scalar.select (IntOp.cmpi CmpIPredicate.sge (IntOp.shrsi ArithUnit.host (BitVec.setWidth 32 w) 4#32) 8#32)
      (IntOp.subi (IntOp.shrsi ArithUnit.host (BitVec.setWidth 32 w) 4#32) 16#32) (IntOp.shrsi ArithUnit.host (BitVec.setWidth 32 w) 4#32))

/-- The value at place `p`: the low nibble of an even place, the high one of an odd place. -/
def rNib (p : ℕ) (w : BitVec 8) : EReal := if p % 2 < 1 then rLo w else rHi w

theorem q_SC : rSC a0 a3 a4 a7 (ix5 b k g 0 t) = scS a0 a3 a4 a7 b k g t := by
  unfold rSC
  pointwise
  rfl

theorem q_SN : rSN a0 a1 (ix5 b k g 0 0) = snS a0 a1 b k g := by
  unfold rSN
  pointwise
  rfl

theorem q_MC : rMC SC (ix4 b k g 0) = Finset.fold max (Ideal.ofBits FTy.f32 4286578688#32) (fun x => SC (ix5 b k g 0 x)) Finset.univ := by
  unfold rMC
  pointwise

theorem q_MN : rMN SN (ix4 b k g 0) = Finset.fold max (Ideal.ofBits FTy.f32 4286578688#32) (fun x => SN (ix5 b k g 0 x)) Finset.univ := by
  unfold rMN
  pointwise

theorem q_MB (A B : FVec Ideal S20x8x4x1 .f32) : rMB A B (ix5 b k g 0 0) = max (A (ix4 b k g 0)) (B (ix4 b k g 0)) := by
  unfold rMB
  pointwise

theorem q_EC : rEC SC MM (ix5 b k g 0 t) = Ideal.exp (SC (ix5 b k g 0 t) - MM (ix5 b k g 0 0)) := by
  unfold rEC
  pointwise

theorem q_EN : rEN SN MM (ix5 b k g 0 0) = Ideal.exp (SN (ix5 b k g 0 0) - MM (ix5 b k g 0 0)) := by
  unfold rEN
  pointwise

theorem q_DEN : rDEN EC EN (ix5 b k g 0 0) = ∑ x, EC (ix5 b k g 0 x) + EN (ix5 b k g 0 0) := by
  unfold rDEN
  pointwise
  try simp only [Fin.sum_univ_one, Fin.isValue]
  try rfl

theorem q_PV : rPV EC DEN a6 (ix5 b k g 0 t) = Ideal.div (EC (ix5 b k g 0 t)) (DEN (ix5 b k g 0 0)) * a6 (ix3 b t k) := by
  unfold rPV
  pointwise

theorem q_OUT0 (h : Fin 32) (d : Fin 96) : rOUT PV EN DEN a5 a2 (ix4 b 0 h d)
    = (if h' : d.val % 2 < 1 then ∑ t, rLo (a5 (ix4 b t ⟨h.val / 4, by omega⟩ ⟨d.val / 2, by omega⟩)) * PV (ix5 b ⟨h.val / 4, by omega⟩ ⟨h.val % 4, by omega⟩ 0 t)
      else ∑ t, rHi (a5 (ix4 b t ⟨h.val / 4, by omega⟩ ⟨d.val / 2, by omega⟩)) * PV (ix5 b ⟨h.val / 4, by omega⟩ ⟨h.val % 4, by omega⟩ 0 t))
      + ∑ x : Fin 1, a2 (ix4 b x ⟨h.val / 4, by omega⟩ d)
        * Ideal.div (EN (ix5 b ⟨h.val / 4, by omega⟩ ⟨h.val % 4, by omega⟩ 0 x)) (DEN (ix5 b ⟨h.val / 4, by omega⟩ ⟨h.val % 4, by omega⟩ 0 x)) := by
  unfold rOUT rLo rHi
  pointwise

/-- The reference's attention output at an index, from its weights. -/
theorem q_OUT (h : Fin 32) (d : Fin 96) : rOUT PV EN DEN a5 a2 (ix4 b 0 h d)
    = ∑ t, PV (ix5 b ⟨h.val / 4, by omega⟩ ⟨h.val % 4, by omega⟩ 0 t) * rNib d.val (a5 (ix4 b t ⟨h.val / 4, by omega⟩ ⟨d.val / 2, by omega⟩))
      + Ideal.div (EN (ix5 b ⟨h.val / 4, by omega⟩ ⟨h.val % 4, by omega⟩ 0 0)) (DEN (ix5 b ⟨h.val / 4, by omega⟩ ⟨h.val % 4, by omega⟩ 0 0))
        * a2 (ix4 b 0 ⟨h.val / 4, by omega⟩ d) := by
  rw [q_OUT0, Fin.sum_univ_one]
  unfold rNib
  refine congrArg₂ (fun a b : EReal => a + b) ?_ (mul_comm _ _)
  by_cases hp : d.val % 2 < 1
  · simp only [dif_pos hp, if_pos hp]
    exact Finset.sum_congr rfl fun t _ => mul_comm _ _
  · simp only [dif_neg hp, if_neg hp]
    exact Finset.sum_congr rfl fun t _ => mul_comm _ _

theorem fold_one (s : EReal) (f : Fin 1 → EReal) : Finset.fold max s f Finset.univ = max (f 0) s := by
  rw [show (Finset.univ : Finset (Fin 1)) = {0} from rfl]; exact Finset.fold_singleton

theorem negInf : Ideal.ofBits FTy.f32 4286578688#32 = ⊥ := by
  simp [Ideal.ofBits, Ideal.ieee, -EReal.coe_mul, -EReal.coe_neg]

/-- The largest score. -/
def mxS : EReal := max (Finset.fold max ⊥ (scS a0 a3 a4 a7 b k g) Finset.univ) (snS a0 a1 b k g)

theorem q_M : rMM (rSC a0 a3 a4 a7) (rSN a0 a1) (ix5 b k g 0 0) = mxS a0 a1 a3 a4 a7 b k g := by
  unfold rMM mxS
  rw [q_MB, q_MC, q_MN, fold_one, q_SN, negInf, max_bot_right]
  simp only [q_SC]

theorem q_E : rEC (rSC a0 a3 a4 a7) (rMM (rSC a0 a3 a4 a7) (rSN a0 a1)) (ix5 b k g 0 t)
    = Ideal.exp (scS a0 a3 a4 a7 b k g t - mxS a0 a1 a3 a4 a7 b k g) := by
  rw [q_EC, q_SC, q_M]

theorem q_N : rEN (rSN a0 a1) (rMM (rSC a0 a3 a4 a7) (rSN a0 a1)) (ix5 b k g 0 0)
    = Ideal.exp (snS a0 a1 b k g - mxS a0 a1 a3 a4 a7 b k g) := by
  rw [q_EN, q_SN, q_M]

/-- The sum of the exponentials. -/
def denS : EReal := ∑ t, Ideal.exp (scS a0 a3 a4 a7 b k g t - mxS a0 a1 a3 a4 a7 b k g) + Ideal.exp (snS a0 a1 b k g - mxS a0 a1 a3 a4 a7 b k g)

theorem q_D : rDEN (rEC (rSC a0 a3 a4 a7) (rMM (rSC a0 a3 a4 a7) (rSN a0 a1))) (rEN (rSN a0 a1) (rMM (rSC a0 a3 a4 a7) (rSN a0 a1))) (ix5 b k g 0 0)
    = denS a0 a1 a3 a4 a7 b k g := by
  rw [q_DEN, q_N]
  simp only [q_E]
  rfl

/-- The reference's attention output at an index. -/
theorem rAll_at (h : Fin 32) (d : Fin 96) (k : Fin 8) (g : Fin 4) (hk : k.val = h.val / 4) (hg : g.val = h.val % 4) (e : Fin 48) (he : e.val = d.val / 2) :
    rAll a0 a1 a2 a3 a4 a5 a6 a7 (ix4 b 0 h d)
    = ∑ t, (Ideal.div (Ideal.exp (scS a0 a3 a4 a7 b k g t - mxS a0 a1 a3 a4 a7 b k g)) (denS a0 a1 a3 a4 a7 b k g) * a6 (ix3 b t k)) * rNib d.val (a5 (ix4 b t k e))
      + Ideal.div (Ideal.exp (snS a0 a1 b k g - mxS a0 a1 a3 a4 a7 b k g)) (denS a0 a1 a3 a4 a7 b k g) * a2 (ix4 b 0 k d) := by
  have p1 : h.val / 4 < 8 := by omega
  have p2 : h.val % 4 < 4 := by omega
  have p3 : d.val / 2 < 48 := by omega
  obtain rfl : k = ⟨h.val / 4, p1⟩ := Fin.ext hk
  obtain rfl : g = ⟨h.val % 4, p2⟩ := Fin.ext hg
  obtain rfl : e = ⟨d.val / 2, p3⟩ := Fin.ext he
  unfold rAll
  rw [q_OUT, q_N, q_D]
  simp only [q_PV, q_E, q_D]

end Cert.ReferenceIdeal.Hand

end
-- ==== Proof.RecurI.lean ====
/- Hand-written. The loop's state is the running softmax's state, so the kernel's attention output is a softmax over the whole cache. -/
module

public import proofs.«01_k».proof.Proof.StepQI
public import proofs.«01_k».proof.Proof.MaskI
public import proofs.«01_k».proof.Proof.SoftI
public import proofs.«01_k».proof.Proof.ValQI

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The recurrences -/

theorem negInfK : Ideal.ofBits FTy.f32 4286578688#32 = ⊥ := by
  simp [Ideal.ofBits, Ideal.ieee, -EReal.coe_mul, -EReal.coe_neg]

variable (I : In Ideal) (b : Fin 20)

/-- The key-value group of a head. -/
def kvOf (h : Fin 32) : Fin 8 := ⟨h.val / 4, by omega⟩

/-- The masked score of a cached token. -/
def kS (h : Fin 32) (t : Fin 8192) : EReal := Scalar.select (IntOp.cmpi .slt (BitVec.ofNat 32 t.val) (I.lenw b))
  ((∑ d : Fin 96, I.x (ix3 b h d) * ((FloatOps.sitofp (F := Ideal) .bf16 (I.kt (ix3 b ⟨h.val / 4 * 96 + d.val, by omega⟩ t)) : EReal) * I.ks (ix3 b (kvOf h) d)))
    * Ideal.ofBits .f32 1037108716#32) (Ideal.ofBits .f32 4286578688#32)

/-- The score of the new token. -/
def kSn (h : Fin 32) : EReal := (∑ d : Fin 96, I.x (ix3 b h d) * I.kn (ix3 b (kvOf h) d)) * Ideal.ofBits .f32 1037108716#32

/-- A value's nibble as the kernel unpacks it. -/
def kNib (p : ℕ) (w : BitVec 8) : EReal := if p % 2 = 0 then lo4 w else hi4 w

/-- A cached value. -/
def kVal (r : Fin 768) (t : Fin 8192) : EReal :=
  kNib r.val (I.vt (ix4 b ⟨r.val / 16, by omega⟩ ⟨t.val / 128 * 8 + r.val % 16 / 2, by omega⟩ ⟨t.val % 128, by omega⟩))

theorem score_at (hv : (I.lenw b).toInt ≤ 8192) (n : ℕ) (hn : n < nch (I.lenw b)) (h : Fin 32) (x : Fin 1024) (qbd : Vec Ideal S32x768 .bf16)
    (ksb : Vec Ideal S768x128 .bf16) (hq : ∀ y, qbd y = qG (I.xw b) y) (hk : ∀ y, ksb y = kG (I.ksw b) y) :
    k0_pay35 lanes (BitVec.ofNat 32 (n % 8)) ksb (I.ktw b ⟨n % 8, Nat.mod_lt _ (by decide)⟩) qbd (I.lenw b) (ix2 h x) = kS I b h (Cert.Soft.flat n x) := by
  have hn8 : n % 8 = n := Nat.mod_eq_of_lt (lt_of_lt_of_le hn (nch_facts _ hv).2.1)
  rw [e35 _ _ _ _ _ h x (fun r => I.ks (ix3 b ⟨r.val / 96, by omega⟩ ⟨r.val % 96, Nat.mod_lt _ (by decide)⟩)) (fun r l => by
    rw [hk]; exact ksw_at I b _ _)]
  rw [mask_eq _ hv (n % 8) (by omega) x.val x.isLt]
  unfold kS
  refine congrArg (fun z : EReal => Scalar.select _ (z * _) _) ?_
  rw [sum768 _ (kvOf h) (fun r hr => by
    rw [hq, show qG (I.xw b) (ix2 h r) = 0 from if_neg hr, zero_mul])]
  refine Finset.sum_congr rfl fun d _ => ?_
  have hd : (h.val / 4 * 96 + d.val) / 96 = h.val / 4 := by omega
  have hm : (h.val / 4 * 96 + d.val) % 96 = d.val := by omega
  rw [hq, show qG (I.xw b) (ix2 h ⟨(kvOf h).val * 96 + d.val, _⟩) = I.xw b (ix3 0 h ⟨(h.val / 4 * 96 + d.val) % 96, Nat.mod_lt _ (by decide)⟩) from if_pos hd.symm, xw_at, ktw_at]
  refine congrArg₂ (fun u v : EReal => u * v) (congrArg I.x (congrArg (ix3 b h) (Fin.ext hm))) ?_
  refine congrArg₂ (fun u v : EReal => u * v) rfl (congrArg I.ks (congrArg₂ (ix3 b) (Fin.ext hd) (Fin.ext hm)))

theorem past_at (hv : (I.lenw b).toInt ≤ 8192) (i : ℕ) (j : Fin 1024) (hi : nch (I.lenw b) ≤ i) (hi8 : i < 8) (h : Fin 32) : kS I b h (Cert.Soft.flat i j) = ⊥ := by
  unfold kS
  rw [show (Cert.Soft.flat i j).val = i * 1024 + j.val by show i % 8 * 1024 + j.val = _; rw [Nat.mod_eq_of_lt hi8],
    mask_past _ hv i hi hi8 j.val j.isLt, negInfK]
  rfl

theorem win0 (v : Vec Ideal S32x128 .f32) (h : Fin 32) : VecWindow.window v ![0, 0] S32x1.size inb_S32x128_S32x1_0_0 (ix2 h 0) = v (ix2 h 0) := by
  refine congrArg v ?_
  funext a; fin_cases a <;> exact Fin.ext (by rw [ValueKit.rect_emb_unit_val]; simp)

/-- The state after `n` chunks is the running softmax's after `n` chunks. -/
structure Inv (h : Fin 32) (sn : ℝ) (n : ℕ) (s : St Ideal) : Prop where
  qbd : ∀ y, s.qbd y = qG (I.xw b) y
  ksb : ∀ y, s.ksb y = kG (I.ksw b) y
  m : ∀ l, s.m (ix2 h l) = Cert.Soft.mx (fun i j => kS I b h (Cert.Soft.flat i j)) sn n
  l : ∀ l, s.l (ix2 h l) = Cert.Soft.lx (fun i j => kS I b h (Cert.Soft.flat i j)) sn n
  acc : ∀ (r : Fin 768), r.val / 96 = h.val / 4 → s.acc (ix2 r h)
    = Cert.Soft.ax (fun i j => kS I b h (Cert.Soft.flat i j)) sn (fun i j => I.vs (ix3 b (kvOf h) (Cert.Soft.flat i j))) (fun i j => kVal I b r (Cert.Soft.flat i j))
      (I.vn (ix3 b (kvOf h) ⟨r.val % 96, Nat.mod_lt _ (by decide)⟩)) n

theorem inv_zero (h : Fin 32) (sn : ℝ) (hsn : kSn I b h = sn) : Inv I b h sn 0 (stAt I b 0) where
  qbd y := qbd_at _ y
  ksb y := ksb_at _ y
  m l := by
    refine Eq.trans (init_m I b h l) (Eq.trans ?_ hsn)
    simp only [xw_at, knw_at]
    rfl
  l l := init_l I b h l
  acc r hr := (init_acc I b r h hr).trans (vnw_at I b _ _)

theorem sel_eq (c : BitVec 1) (a w M : EReal) : Scalar.select c (Ideal.exp (Scalar.select c a (⊥ : EReal) - M) * w) 0 = Ideal.exp (Scalar.select c a (⊥ : EReal) - M) * w := by
  unfold Scalar.select
  split
  · rfl
  · rw [EReal.bot_sub, Ideal.exp_bot, zero_mul]

theorem inv_step (hv : (I.lenw b).toInt ≤ 8192) (h : Fin 32) (sn : ℝ) (n : ℕ) (hn : n < nch (I.lenw b)) (s : St Ideal) (hs : Inv I b h sn n s) :
    Inv I b h sn (n + 1) (stepSt I b ⟨n % 8, Nat.mod_lt _ (by decide)⟩ s) := by
  have hn8 : n % 8 = n := Nat.mod_eq_of_lt (lt_of_lt_of_le hn (nch_facts _ hv).2.1)
  have sc := fun x => score_at I b hv n hn h x s.qbd s.ksb hs.qbd hs.ksb
  have h36 : k0_pay36 lanes (BitVec.ofNat 32 (n % 8)) s.ksb (I.ktw b ⟨n % 8, Nat.mod_lt _ (by decide)⟩) s.qbd (I.lenw b)
      (VecWindow.window s.m ![0, 0] S32x1.size inb_S32x128_S32x1_0_0) (ix2 h 0) = Cert.Soft.mx (fun i j => kS I b h (Cert.Soft.flat i j)) sn (n + 1) := by
    rw [e36, win0, hs.m, negInfK]
    simp only [sc]
    rfl
  have h37 : k0_pay37 lanes (BitVec.ofNat 32 (n % 8)) s.ksb (I.ktw b ⟨n % 8, Nat.mod_lt _ (by decide)⟩) s.qbd (I.lenw b)
      (VecWindow.window s.m ![0, 0] S32x1.size inb_S32x128_S32x1_0_0) (ix2 h 0)
      = Ideal.exp (Cert.Soft.mx (fun i j => kS I b h (Cert.Soft.flat i j)) sn n - Cert.Soft.mx (fun i j => kS I b h (Cert.Soft.flat i j)) sn (n + 1)) := by
    rw [e37, h36, win0, hs.m]
  have h38 : ∀ x, k0_pay38 lanes (BitVec.ofNat 32 (n % 8)) s.ksb (I.ktw b ⟨n % 8, Nat.mod_lt _ (by decide)⟩) s.qbd (I.lenw b)
      (VecWindow.window s.m ![0, 0] S32x1.size inb_S32x128_S32x1_0_0) (ix2 h x)
      = Ideal.exp (kS I b h (Cert.Soft.flat n x) - Cert.Soft.mx (fun i j => kS I b h (Cert.Soft.flat i j)) sn (n + 1)) := fun x => by
    rw [e38, h36, sc]
  refine ⟨hs.qbd, hs.ksb, fun l => ?_, fun l => ?_, fun r hr => ?_⟩
  · exact (e42 h l _).trans h36
  · refine (e41 _ _ _ _ _ _ _ _ h l).trans ?_
    rw [h37, win0, hs.l]
    simp only [h38]
    rfl
  · refine (e3 h r _ _ _).trans ?_
    rw [h37, hs.acc r hr]
    refine congrArg₂ (fun u v : EReal => u + v) rfl ?_
    refine (o_eq (fun a r l => I.vt (ix4 b ⟨a % 48, Nat.mod_lt _ (by decide)⟩ ⟨(n % 8 * 64 + r) % 512, Nat.mod_lt _ (by decide)⟩ ⟨l % 128, Nat.mod_lt _ (by decide)⟩))
      _ _ _ (fun a r l => ?_) (fun a r l => ?_) _).trans ?_
    · refine Eq.trans ?_ ((vtw_at I b ⟨n % 8, Nat.mod_lt _ (by decide)⟩ a ⟨r.val, by omega⟩ l).trans ?_)
      · refine congrArg (I.vtw b _) ?_
        funext q; fin_cases q <;> exact Fin.ext (by rw [ValueKit.rect_emb_unit_val]; simp)
      · refine congrArg I.vt ?_
        have := a.isLt; have := r.isLt; have := l.isLt
        funext q; fin_cases q
        · rfl
        · exact Fin.ext (show a.val = a.val % 48 by omega)
        · exact Fin.ext (show n % 8 * 64 + r.val = (n % 8 * 64 + r.val) % 512 by omega)
        · exact Fin.ext (show l.val = l.val % 128 by omega)
    · refine Eq.trans ?_ ((vtw_at I b ⟨n % 8, Nat.mod_lt _ (by decide)⟩ a ⟨32 + r.val, by omega⟩ l).trans ?_)
      · refine congrArg (I.vtw b _) ?_
        funext q; fin_cases q <;> exact Fin.ext (by rw [ValueKit.rect_emb_unit_val]; simp)
      · refine congrArg I.vt ?_
        have := a.isLt; have := r.isLt; have := l.isLt
        funext q; fin_cases q
        · rfl
        · exact Fin.ext (show a.val = a.val % 48 by omega)
        · exact Fin.ext (show n % 8 * 64 + (32 + r.val) = (n % 8 * 64 + (32 + r.val)) % 512 by omega)
        · exact Fin.ext (show l.val = l.val % 128 by omega)
    · refine Finset.sum_congr rfl fun x _ => ?_
      have hx := x.isLt
      have hr' := r.isLt
      refine congrArg₂ (fun u v : EReal => u * v) ?_ ?_
      · have e : ∀ w w' : BitVec 8, w = w' → (if r.val % 2 = 0 then lo4 w else hi4 w) = kNib r.val w' := fun w w' e => by rw [e]; rfl
        refine e _ _ (congrArg I.vt ?_)
        funext q; fin_cases q
        · rfl
        · exact Fin.ext (show r.val / 16 % 48 = r.val / 16 by omega)
        · exact Fin.ext (show (n % 8 * 64 + (x.val / 128 * 8 + r.val % 16 / 2)) % 512 = (n % 8 * 1024 + x.val) / 128 * 8 + r.val % 16 / 2 by omega)
        · exact Fin.ext (show x.val % 128 % 128 = (n % 8 * 1024 + x.val) % 128 by omega)
      · rw [show (ix2 (n0 := 32) (n1 := 1024) ((ix2 (n0 := 768) (n1 := 32) r h) 1) x) = ix2 h x from rfl, e43, h38, e34, vsw_at,
          mask_eq _ hv (n % 8) (by omega) x.val x.isLt]
        unfold kS
        rw [negInfK]
        exact sel_eq _ _ _ _

theorem inv_all (hv : (I.lenw b).toInt ≤ 8192) (h : Fin 32) (sn : ℝ) (hsn : kSn I b h = sn) (n : ℕ) (hn : n ≤ nch (I.lenw b)) :
    Inv I b h sn n (stAt I b n) := by
  induction n with
  | zero => exact inv_zero I b h sn hsn
  | succ n ih => exact inv_step I b hv h sn n (by omega) _ (ih (by omega))

/-- The kernel's attention output: the softmax over the whole cache and the new token. -/
theorem outAll_at (hv : (I.lenw b).toInt ≤ 8192) (h : Fin 32) (d : Fin 96) (snh : ∃ r : ℝ, kSn I b h = r) (hS : ∀ t, kS I b h t ≠ ⊤)
    (M : EReal) (hM : M = max (Finset.fold max ⊥ (kS I b h) Finset.univ) (kSn I b h)) (r : Fin 768) (hr : r.val = h.val / 4 * 96 + d.val) :
    outAll I (ix3 b h d) = (∑ t, (Ideal.div (Ideal.exp (kS I b h t - M)) (∑ t, Ideal.exp (kS I b h t - M) + Ideal.exp (kSn I b h - M)) * I.vs (ix3 b (kvOf h) t)) * kVal I b r t)
      + Ideal.div (Ideal.exp (kSn I b h - M)) (∑ t, Ideal.exp (kS I b h t - M) + Ideal.exp (kSn I b h - M)) * I.vn (ix3 b (kvOf h) d) := by
  obtain ⟨sn, hsn⟩ := snh
  have hi := inv_all I b hv h sn hsn _ le_rfl
  have hrr : r.val / 96 = h.val / 4 := by omega
  have e := Cert.Soft.soft_eq sn (I.vn (ix3 b (kvOf h) d)) (kS I b h) (fun t => I.vs (ix3 b (kvOf h) t)) (kVal I b r) (nch (I.lenw b)) (nch_facts _ hv).2.1 hS
    (fun i j h1 h2 => past_at I b hv i j h1 h2 h) M (by rw [hM, hsn])
  rw [← hsn] at e
  refine Eq.trans ?_ e.symm
  have ho : outAll I (ix3 b h d) = outSlab (stAt I b (nch (I.lenw b))) (ix3 0 h d) := by
    unfold outAll
    refine congrArg (outSlab _) ?_
    funext a; fin_cases a <;> rfl
  rw [ho, eOut h _ d (by omega), hi.l]
  refine congrArg₂ Ideal.div ?_ rfl
  rw [show (⟨h.val / 4 * 96 + d.val, by omega⟩ : Fin 768) = r from Fin.ext hr.symm, hi.acc r hrr]
  rw [show (⟨r.val % 96, Nat.mod_lt _ (by decide)⟩ : Fin 96) = d from Fin.ext (by show r.val % 96 = d.val; omega)]

end Cert.KernelIdeal.Hand

end
-- ==== Proof.OutEqI.lean ====
/- Hand-written. The kernel's attention output is the reference's. -/
module

public import proofs.«01_k».proof.Proof.ArgsI
public import proofs.«01_k».proof.Proof.RefO
public import proofs.«01_k».proof.Proof.RecurI

@[expose] public section

set_option synthInstance.maxSize 4096
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.ReferenceIdeal.Hand (rAll rAll_at scS snS mxS denS rNib rLo rHi hd)

/-- The kernel's nibbles are the reference's. -/
theorem nib (p q : ℕ) (hpq : p % 2 = q % 2) (w : BitVec 8) : kNib p w = rNib q w := by
  have e1 : lo4 w = rLo w := congrArg (fun z : ℤ => ((z : ℝ) : EReal)) (lo_word w)
  have e2 : hi4 w = rHi w := congrArg (fun z : ℤ => ((z : ℝ) : EReal)) (hi_word w)
  unfold kNib rNib
  rw [e1, e2]
  by_cases h : p % 2 = 0
  · rw [if_pos h, if_pos (by omega)]
  · rw [if_neg h, if_neg (by omega)]

/-- A key code reads the same at either width. -/
theorem code (w : BitVec 8) : (FloatOps.sitofp (F := Ideal) FTy.bf16 w : EReal) = FloatOps.sitofp (F := Ideal) FTy.f32 (BitVec.signExtend 32 w) :=
  congrArg (fun z : ℤ => ((z : ℝ) : EReal)) (BitVec.toInt_signExtend_of_le (by decide)).symm

theorem code_real (w : BitVec 8) : ∃ r : ℝ, (FloatOps.sitofp (F := Ideal) FTy.bf16 w : EReal) = r := ⟨_, rfl⟩

theorem scale_real : ∃ r : ℝ, Ideal.ofBits FTy.f32 1037108716#32 = r := by
  refine ⟨13698540 / 2 ^ 27, ?_⟩
  simp [Ideal.ofBits, Ideal.ieee, -EReal.coe_mul, -EReal.coe_neg]
  norm_num

theorem mul_real {x y : EReal} (hx : ∃ r : ℝ, x = r) (hy : ∃ r : ℝ, y = r) : ∃ r : ℝ, x * y = r := by
  obtain ⟨r, rfl⟩ := hx
  obtain ⟨q, rfl⟩ := hy
  exact ⟨r * q, by push_cast; rfl⟩

theorem hd_eq (h : Fin 32) (g : Fin 4) (hg : g.val = h.val % 4) : hd (kvOf h) g = h := Fin.ext (by show h.val / 4 * 4 + g.val = h.val; omega)

section

variable (m : (ℓ : Loc nD τ sig) → Buf (Elt Ideal) ℓ) (c : Dev nD)

theorem kS_eq (b : Fin 20) (h : Fin 32) (g : Fin 4) (hg : g.val = h.val % 4) (t : Fin 8192) :
    kS (inAt m c) b h t = scS (m ((c : Thread nD τ).loc main_arg0)) (m ((c : Thread nD τ).loc main_arg3)) (m ((c : Thread nD τ).loc main_arg4)) (m ((c : Thread nD τ).loc main_arg7)) b (kvOf h) g t := by
  unfold kS scS
  rw [in_len_at, hd_eq h g hg]
  refine congrArg (fun z : EReal => Scalar.select _ (z * _) _) (Finset.sum_congr rfl fun d _ => ?_)
  rw [in_x_at, in_kt_at, in_ks, code, mul_comm]
  have p1 : (⟨(h.val / 4 * 96 + d.val) / 96, by omega⟩ : Fin 8) = kvOf h := Fin.ext (by show (h.val / 4 * 96 + d.val) / 96 = h.val / 4; omega)
  have p2 : (⟨(h.val / 4 * 96 + d.val) % 96, Nat.mod_lt _ (by decide)⟩ : Fin 96) = d := Fin.ext (by show (h.val / 4 * 96 + d.val) % 96 = d.val; omega)
  rw [p1, p2]

theorem kSn_eq (b : Fin 20) (h : Fin 32) (g : Fin 4) (hg : g.val = h.val % 4) :
    kSn (inAt m c) b h = snS (m ((c : Thread nD τ).loc main_arg0)) (m ((c : Thread nD τ).loc main_arg1)) b (kvOf h) g := by
  unfold kSn snS
  rw [hd_eq h g hg]
  refine congrArg (fun z : EReal => z * _) (Finset.sum_congr rfl fun d _ => ?_)
  rw [in_x_at, in_kn_at, mul_comm]

/-- Where a head's query, new key and key scales are real, the kernel's attention output is the reference's. -/
theorem out_eq (b : Fin 20) (hv : ((inAt m c).lenw b).toInt ≤ 8192) (h : Fin 32) (d : Fin 96)
    (hf : ∀ x : Fin 96, (∃ r : ℝ, @Eq EReal (m ((c : Thread nD τ).loc main_arg0) (ix4 b 0 h x)) r) ∧ (∃ r : ℝ, @Eq EReal (m ((c : Thread nD τ).loc main_arg1) (ix4 b 0 (kvOf h) x)) r)
      ∧ ∃ r : ℝ, @Eq EReal (m ((c : Thread nD τ).loc main_arg4) (ix3 b (kvOf h) x)) r) :
    outAll (inAt m c) (ix3 b h d) = rAll (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (ix4 b 0 h d) := by
  have p2 : h.val % 4 < 4 := by omega
  have p3 : d.val / 2 < 48 := by omega
  have p4 : h.val / 4 * 96 + d.val < 768 := by omega
  have hsn : ∃ r : ℝ, kSn (inAt m c) b h = r := by
    unfold kSn
    refine mul_real (Cert.Soft.sum_fin _ _ fun x => ?_) scale_real
    rw [in_x_at, in_kn_at]
    exact mul_real (hf x).1 (hf x).2.1
  have hS : ∀ t, kS (inAt m c) b h t ≠ ⊤ := by
    intro t
    unfold kS
    have q : ∃ r : ℝ, (∑ d : Fin 96, (inAt m c).x (ix3 b h d) * ((FloatOps.sitofp (F := Ideal) .bf16 ((inAt m c).kt (ix3 b ⟨h.val / 4 * 96 + d.val, by omega⟩ t)) : EReal) * (inAt m c).ks (ix3 b (kvOf h) d)))
        * Ideal.ofBits .f32 1037108716#32 = r := by
      refine mul_real (Cert.Soft.sum_fin _ _ fun x => ?_) scale_real
      rw [in_x_at, in_ks]
      exact mul_real (hf x).1 (mul_real (code_real _) (hf x).2.2)
    obtain ⟨r, q⟩ := q
    rw [q, negInfK]
    unfold Scalar.select
    split_ifs
    · exact EReal.coe_ne_top r
    · exact bot_ne_top
  have hM : mxS (m ((c : Thread nD τ).loc main_arg0)) (m ((c : Thread nD τ).loc main_arg1)) (m ((c : Thread nD τ).loc main_arg3)) (m ((c : Thread nD τ).loc main_arg4))
      (m ((c : Thread nD τ).loc main_arg7)) b (kvOf h) ⟨h.val % 4, p2⟩ = max (Finset.fold max ⊥ (kS (inAt m c) b h) Finset.univ) (kSn (inAt m c) b h) := by
    unfold mxS
    rw [kSn_eq m c b h ⟨h.val % 4, p2⟩ rfl, funext fun t => kS_eq m c b h ⟨h.val % 4, p2⟩ rfl t]
  rw [outAll_at (inAt m c) b hv h d hsn hS _ hM ⟨h.val / 4 * 96 + d.val, p4⟩ rfl,
    rAll_at _ _ _ _ _ _ _ _ b h d (kvOf h) ⟨h.val % 4, p2⟩ rfl rfl ⟨d.val / 2, p3⟩ rfl]
  unfold denS
  rw [in_vn_at]
  simp only [kS_eq m c b h ⟨h.val % 4, p2⟩ rfl, kSn_eq m c b h ⟨h.val % 4, p2⟩ rfl, in_vs_at]
  refine congrArg (fun z : EReal => z + _) (Finset.sum_congr rfl fun t _ => ?_)
  suffices ev : kVal (inAt m c) b ⟨h.val / 4 * 96 + d.val, p4⟩ t = rNib d.val (m ((c : Thread nD τ).loc main_arg5) (ix4 b t (kvOf h) ⟨d.val / 2, p3⟩)) by
    rw [ev]
  unfold kVal
  rw [in_vt_at m c b ⟨h.val / 4 * 96 + d.val, p4⟩ t _ _ _ (by show (h.val / 4 * 96 + d.val) / 96 < 8; omega) (by show (h.val / 4 * 96 + d.val) % 96 / 2 < 48; omega)]
  have p5 : (⟨(h.val / 4 * 96 + d.val) / 96, by omega⟩ : Fin 8) = kvOf h := Fin.ext (by show (h.val / 4 * 96 + d.val) / 96 = h.val / 4; omega)
  have p6 : (⟨(h.val / 4 * 96 + d.val) % 96 / 2, by omega⟩ : Fin 48) = ⟨d.val / 2, p3⟩ := Fin.ext (by show (h.val / 4 * 96 + d.val) % 96 / 2 = d.val / 2; omega)
  rw [nib _ d.val (by show (h.val / 4 * 96 + d.val) % 2 = d.val % 2; omega)]
  show rNib d.val (m ((c : Thread nD τ).loc main_arg5) (ix4 b t ⟨(h.val / 4 * 96 + d.val) / 96, _⟩ ⟨(h.val / 4 * 96 + d.val) % 96 / 2, _⟩)) = _
  rw [p5, p6]

end

/-- The output's shape cast reads the head's row. -/
theorem sc_out (X : FVec Ideal S20x32x96 .bf16) (b : Fin 20) (h : Fin 32) (d : Fin 96) :
    shapeCast S20x1x32x96 X shapeCasts_S20x32x96_S20x1x32x96 (ix4 b 0 h d) = X (ix3 b h d) := by
  pointwise

end Cert.KernelIdeal.Hand

end
-- ==== Proof.OnO.lean ====
/- Hand-written. Where the attention outputs are compared, the head's query, new key and key scales are real numbers. -/
module

public import proofs.«01_k».proof.On_compared
public import Idealize.ShloMosaic.PureOps.Ideal
public import Idealize.ShloMosaic.Lib.Pointwise
public import Idealize.ShloMosaic.Lib.ReduceAll

@[expose] public section

set_option maxRecDepth 65536

noncomputable section

namespace Cert.On_compared

open Idealize.ShloMosaic

/-- A value whose magnitude is below infinity is real. -/
theorem real_of_lt (x : EReal) (h : max x (-x) < ⊤) : ∃ r : ℝ, x = r := by
  induction x with
  | bot => simp at h
  | coe r => exact ⟨r, rfl⟩
  | top => simp at h

theorem inf16 : Ideal.ofBits FTy.bf16 0x7F80#16 = ⊤ := by
  simp [Ideal.ofBits, Ideal.ieee, -EReal.coe_mul, -EReal.coe_neg]

theorem inf32 : Ideal.ofBits FTy.f32 0x7F800000#32 = ⊤ := by
  simp [Ideal.ofBits, Ideal.ieee, -EReal.coe_mul, -EReal.coe_neg]

theorem real_of_cmp {φ : FTy} (x y : Ideal φ) (hy : (y : EReal) = ⊤) (h : FloatOps.cmpf (F := Ideal) (φ := φ) .olt (FloatOps.absf x) y = 1#1) : ∃ r : ℝ, (x : EReal) = r := by
  refine real_of_lt x ?_
  have h' : Ideal.cmp .olt (max (x : EReal) (-x)) y = 1#1 := h
  rw [hy] at h'
  by_contra hc
  simp [Ideal.cmp, hc] at h'

variable [Facts]
open Facts

variable (a0 : FVec Ideal S20x1x32x96 .bf16) (a1 a2 : FVec Ideal S20x1x8x96 .bf16) (a3 : IVec S20x8192x8x96 8) (a4 : FVec Ideal S20x8x96 .f32)
  (a5 : IVec S20x8192x8x48 8) (a6 : FVec Ideal S20x8192x8 .f32) (a7 : IVec S20 32)

/-- The test at each place of a head. -/
def fin1 : IVec S20x8x4x96 1 :=
  andi (andi (cmpf .olt (Host.absf (F := Ideal) (shapeCast S20x8x4x96 a0 shapeCasts_S20x1x32x96_S20x8x4x96)) (broadcastInDim S20x8x4x96 ![] bcast_S_S20x8x4x96 (constant S_ .bf16 0x7F80#16)))
    (broadcastInDim S20x8x4x96 ![0, 1, 2, 3] bcast_S20x8x1x96_S20x8x4x96_0_1_2_3 (cmpf .olt (Host.absf (F := Ideal) (shapeCast S20x8x1x96 a1 shapeCasts_S20x1x8x96_S20x8x1x96)) (broadcastInDim S20x8x1x96 ![] bcast_S_S20x8x1x96 (constant S_ .bf16 0x7F80#16)))))
    (broadcastInDim S20x8x4x96 ![0, 1, 2, 3] bcast_S20x8x1x96_S20x8x4x96_0_1_2_3 (cmpf .olt (Host.absf (F := Ideal) (shapeCast S20x8x1x96 a4 shapeCasts_S20x8x96_S20x8x1x96)) (broadcastInDim S20x8x1x96 ![] bcast_S_S20x8x1x96 (constant S_ .f32 0x7F800000#32))))

theorem fin1_at (b : Fin 20) (k : Fin 8) (g : Fin 4) (d : Fin 96) (hh : k.val * 4 + g.val < 32) : fin1 a0 a1 a4 (ix4 b k g d)
    = IntOp.andi (IntOp.andi (FloatOps.cmpf (F := Ideal) (φ := .bf16) .olt (FloatOps.absf (F := Ideal) (φ := .bf16) (a0 (ix4 b 0 ⟨k.val * 4 + g.val, hh⟩ d))) (Ideal.ofBits FTy.bf16 0x7F80#16))
      (FloatOps.cmpf (F := Ideal) (φ := .bf16) .olt (FloatOps.absf (F := Ideal) (φ := .bf16) (a1 (ix4 b 0 k d))) (Ideal.ofBits FTy.bf16 0x7F80#16)))
      (FloatOps.cmpf (F := Ideal) (φ := .f32) .olt (FloatOps.absf (F := Ideal) (φ := .f32) (a4 (ix3 b k d))) (Ideal.ofBits FTy.f32 0x7F800000#32)) := by
  unfold fin1
  pointwise

theorem spread_at (A : IVec S20x8x4 1) (b : Fin 20) (h : Fin 32) (d : Fin 96) (k : Fin 8) (g : Fin 4) (hk : k.val = h.val / 4) (hg : g.val = h.val % 4) :
    broadcastInDim S20x1x32x96 ![0, 1, 2, 3] bcast_S20x1x32x1_S20x1x32x96_0_1_2_3 (shapeCast S20x1x32x1 A shapeCasts_S20x8x4_S20x1x32x1) (ix4 b 0 h d) = A (ix3 b k g) := by
  have p1 : h.val / 4 < 8 := by omega
  have p2 : h.val % 4 < 4 := by omega
  obtain rfl : k = ⟨h.val / 4, p1⟩ := Fin.ext hk
  obtain rfl : g = ⟨h.val % 4, p2⟩ := Fin.ext hg
  pointwise

/-- Where the mask holds, the whole head is real. -/
theorem real_of_on (b : Fin 20) (h : Fin 32) (d : Fin 96) (k : Fin 8) (hk : k.val = h.val / 4)
    (e : (fn (F := Ideal) a0 a1 a2 a3 a4 a5 a6 a7).1 (ix4 b 0 h d) = 1#1) (x : Fin 96) :
    (∃ r : ℝ, (a0 (ix4 b 0 h x) : EReal) = r) ∧ (∃ r : ℝ, (a1 (ix4 b 0 k x) : EReal) = r) ∧ ∃ r : ℝ, (a4 (ix3 b k x) : EReal) = r := by
  have p2 : h.val % 4 < 4 := by omega
  have e1 : Host.reduce IntOp.andi (fin1 a0 a1 a4) (constantI S_ 1 1#1) reducesTo_S20x8x4x96_S20x8x4_d3 h_S_ (ix3 b k ⟨h.val % 4, p2⟩) = 1#1 :=
    (spread_at _ b h d k _ hk rfl).symm.trans e
  have e2 := Host.reduce_andi_eq_one _ _ _ _ _ e1 (ix4 b k ⟨h.val % 4, p2⟩ x) (by
    funext a
    fin_cases a
    · exact Fin.ext (Shape.ReducesTo.drop_apply_val_of_eq reducesTo_S20x8x4x96_S20x8x4_d3 _ 0 0)
    · exact Fin.ext (Shape.ReducesTo.drop_apply_val_of_eq reducesTo_S20x8x4x96_S20x8x4_d3 _ 1 1)
    · exact Fin.ext (Shape.ReducesTo.drop_apply_val_of_eq reducesTo_S20x8x4x96_S20x8x4_d3 _ 2 2))
  have hh : k.val * 4 + h.val % 4 < 32 := by omega
  rw [fin1_at _ _ _ b k ⟨h.val % 4, p2⟩ x hh, IntOp.andi_eq_one, IntOp.andi_eq_one] at e2
  have eh : (⟨k.val * 4 + h.val % 4, hh⟩ : Fin 32) = h := Fin.ext (by show k.val * 4 + h.val % 4 = h.val; omega)
  refine ⟨?_, real_of_cmp _ _ inf16 e2.1.2, real_of_cmp _ _ inf32 e2.2⟩
  have := real_of_cmp _ _ inf16 e2.1.1
  rwa [eh] at this

end Cert.On_compared

end
-- ==== Proof.lean ====
module

public import proofs.«01_k».proof.Defs
public import proofs.«01_k».proof.Proof.Gen.Kernel
public import proofs.«01_k».proof.Proof.Gen.KernelIdeal
public import proofs.«01_k».proof.Proof.HoldK
public import proofs.«01_k».proof.Proof.HoldI
public import proofs.«01_k».proof.Proof.EndI
public import proofs.«01_k».proof.Proof.QuantI
public import proofs.«01_k».proof.Proof.OutEqI
public import proofs.«01_k».proof.Proof.OnO
public import proofs.«01_k».proof.Proof.RefO
public import proofs.«01_k».proof.Proof.Gen.ReferenceIdeal.Run
public import Idealize.ShloMosaic.Adequacy
public import Idealize.ShloMosaic.Init
public import Idealize.ShloMosaic.Lib.Claim
public import Idealize.ShloMosaic.Lib.Quiescent

@[expose] public section

set_option maxRecDepth 65536

noncomputable section

namespace Cert.Proof

open Idealize.ShloMosaic Idealize.SL.Sem

theorem preFacts : Cert.Pre_lengths_fit.Facts := ⟨by decide⟩

theorem onFacts : Cert.On_compared.Facts := ⟨by decide, by decide, by decide, by decide, by decide, by decide, by decide, by decide, by decide, by decide, by decide, by decide, by decide⟩

/-- The reference terminates, leaves its arguments as they were, and has no semaphore to leave raised. -/
theorem ref_frame : Cert.quiescent_ReferenceIdeal (hReferenceIdeal := Cert.ReferenceIdeal.Gen.facts) := by
  intro m g _
  exact θ_run_mono (Cert.ReferenceIdeal.Value.run m g) fun r hr =>
    ⟨fun c => (hr c).2.2.2.2, sem_eq_zero_of_no_sems (by decide) r.2⟩

section

open Cert.KernelIdeal.Hand

variable (m : (ℓ : Loc Cert.KernelIdeal.nD Cert.KernelIdeal.τ Cert.KernelIdeal.sig) → Buf (Elt Ideal) ℓ) (c : Dev Cert.KernelIdeal.nD)

/-- Where the mask holds, the kernel's attention output is the reference's, of the kernel's own arguments. -/
theorem o_val [Cert.On_compared.Facts] (hL : LenOk (inAt m c)) (i : Cert.KernelIdeal.S20x1x32x96.Idx)
    (hi : (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1) :
    Cert.ReferenceIdeal.Hand.rAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) i
      = shapeCast Cert.KernelIdeal.S20x1x32x96 (outAll (inAt m c)) Cert.KernelIdeal.Gen.shapeCasts_S20x32x96_S20x1x32x96 i := by
  obtain ⟨b, h, d, rfl⟩ : ∃ (b : Fin 20) (h : Fin 32) (d : Fin 96), i = ix4 b 0 h d := by
    refine ⟨i 0, i 2, i 3, ?_⟩
    funext a
    fin_cases a
    · rfl
    · exact Subsingleton.elim (α := Fin 1) _ _
    · rfl
    · rfl
  refine Eq.trans ?_ (sc_out _ b h d).symm
  exact (out_eq m c b (hL b) h d fun x => Cert.On_compared.real_of_on _ _ _ _ _ _ _ _ b h d (kvOf h) rfl hi x).symm

/-- The kernel's key codes are the reference's, of the kernel's own arguments. -/
theorem k_val : shapeCast Cert.KernelIdeal.S20x1x8x96 (kCodes (inAt m c)) Cert.KernelIdeal.Gen.shapeCasts_S20x8x96_S20x1x8x96
    = Cert.ReferenceIdeal.Hand.kRef (m ((c.tc : Thread Cert.KernelIdeal.nD Cert.KernelIdeal.τ).loc Cert.KernelIdeal.main_arg1)) (m ((c.tc : Thread Cert.KernelIdeal.nD Cert.KernelIdeal.τ).loc Cert.KernelIdeal.main_arg4)) := by
  refine Eq.trans ?_ (k_eq _ _)
  unfold kCodes
  rw [in_kn, in_ks]

/-- The kernel's packed value codes are the reference's. -/
theorem v_val : shapeCast Cert.KernelIdeal.S20x1x8x48 (trunci 8 (vCodes (inAt m c)) Cert.KernelIdeal.Gen.natLt_8_32) Cert.KernelIdeal.Gen.shapeCasts_S20x8x48_S20x1x8x48
    = Cert.ReferenceIdeal.Hand.vRef (m ((c.tc : Thread Cert.KernelIdeal.nD Cert.KernelIdeal.τ).loc Cert.KernelIdeal.main_arg2)) := by
  refine Eq.trans ?_ (v_eq _ _ (in_vn m c))
  rfl

/-- The kernel's value scales are the reference's. -/
theorem s_val : shapeCast Cert.KernelIdeal.S20x1x8 (vScale (inAt m c)) Cert.KernelIdeal.Gen.shapeCasts_S20x8x1_S20x1x8
    = Cert.ReferenceIdeal.Hand.sRef (m ((c.tc : Thread Cert.KernelIdeal.nD Cert.KernelIdeal.τ).loc Cert.KernelIdeal.main_arg2)) := by
  refine Eq.trans ?_ (s_eq _)
  unfold vScale
  rw [in_vn]

end

/-- The reference's run, its results by their names. -/
theorem ref_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v110) = Cert.ReferenceIdeal.Hand.rAll (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_v6) = Cert.ReferenceIdeal.Hand.kRef (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v30) = Cert.ReferenceIdeal.Hand.vRef (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v14) = Cert.ReferenceIdeal.Hand.sRef (m ((c.tc : Thread Cert.ReferenceIdeal.nD Cert.ReferenceIdeal.τ).loc Cert.ReferenceIdeal.main_arg2))) :=
  θ_run_mono (Cert.ReferenceIdeal.Value.run m g) fun _ hr c => ⟨(hr c).1.trans (Cert.ReferenceIdeal.Hand.res_eq m c), (hr c).2.1, (hr c).2.2.1, (hr c).2.2.2.1⟩

/-- Kernel and reference compute the same attention outputs (of the heads that are compared), key codes, packed value codes and
    value scales. -/
theorem values : Cert.algebraic_KernelIdeal_ReferenceIdeal_on_compared (hKernelIdeal := Cert.KernelIdeal.Gen.facts)
    (hReferenceIdeal := Cert.ReferenceIdeal.Gen.facts) (hPre_lengths_fit := preFacts) (hOn_compared := onFacts) := by
  intro m g m' g' hpre hag
  have hp := preFacts
  have hL : ∀ c, Cert.KernelIdeal.Hand.LenOk (Cert.KernelIdeal.Hand.inAt m c) := fun c => Cert.KernelIdeal.Hand.lenOk_of_pre m c (hpre c)
  refine ⟨fun c => shapeCast _ (Cert.KernelIdeal.Hand.outAll (Cert.KernelIdeal.Hand.inAt m c)) Cert.KernelIdeal.Gen.shapeCasts_S20x32x96_S20x1x32x96,
    fun c => shapeCast _ (Cert.KernelIdeal.Hand.kCodes (Cert.KernelIdeal.Hand.inAt m c)) Cert.KernelIdeal.Gen.shapeCasts_S20x8x96_S20x1x8x96,
    fun c => shapeCast _ (trunci 8 (Cert.KernelIdeal.Hand.vCodes (Cert.KernelIdeal.Hand.inAt m c)) Cert.KernelIdeal.Gen.natLt_8_32) Cert.KernelIdeal.Gen.shapeCasts_S20x8x48_S20x1x8x48,
    fun c => shapeCast _ (Cert.KernelIdeal.Hand.vScale (Cert.KernelIdeal.Hand.inAt m c)) Cert.KernelIdeal.Gen.shapeCasts_S20x8x1_S20x1x8, ?_, ?_⟩
  · refine θ_run_mono (θ_run_and (Cert.KernelIdeal.Hand.run_values m g hL) (Cert.KernelIdeal.Hand.frame_pre m g hpre)) fun r hr c => ?_
    obtain ⟨h0, h1, h2, h3⟩ := hr.1 c
    exact ⟨fun i _ => congrFun h0 i, fun i _ => congrFun h1 i, fun i _ => congrFun h2 i, fun i _ => congrFun h3 i, hr.2.1 c⟩
  · refine θ_run_mono (θ_run_and (ref_run m' g') (ref_frame m' g' trivial)) fun r hr c => ?_
    obtain ⟨h0, h1, h2, h3⟩ := hr.1 c
    obtain ⟨a0, a1, a2, a3, a4, a5, a6, a7⟩ := hag c
    refine ⟨fun i hi => ?_, fun i _ => ?_, fun i _ => ?_, fun i _ => ?_, hr.2.1 c⟩
    · rw [h0, a0, a1, a2, a3, a4, a5, a6, a7]
      exact @o_val m c onFacts (hL c) i hi
    · exact congrFun ((h1.trans (congrArg₂ Cert.ReferenceIdeal.Hand.kRef a1 a4)).trans (k_val m c).symm) i
    · exact congrFun ((h2.trans (congrArg Cert.ReferenceIdeal.Hand.vRef a2)).trans (v_val m c).symm) i
    · exact congrFun ((h3.trans (congrArg Cert.ReferenceIdeal.Hand.sRef a2)).trans (s_val m c).symm) i

theorem claim : Cert.Claim := by
  have hp := preFacts
  refine ⟨Cert.Kernel.Gen.facts, Cert.KernelIdeal.Gen.facts, Cert.ReferenceIdeal.Gen.facts, preFacts, onFacts, ?_, ?_, ref_frame, ?_, trivial, values⟩
  · intro m g h
    exact Cert.Kernel.Hand.frame_pre m g h
  · intro m g h
    exact Cert.KernelIdeal.Hand.frame_pre m g h
  · intro m g _
    exact ref_frame m g trivial

end Cert.Proof

end
